-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1278) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_moderate (hKernelIdeal := hKernelIdeal) (hReferenceIdeal := hReferenceIdeal) (hPre_moderate := hPre_moderate)
    ∧ preserves_Kernel2_Kernel2Ideal
    ∧ algebraic_Kernel2Ideal_Reference2Ideal (hKernel2Ideal := hKernel2Ideal) (hReference2Ideal := hReference2Ideal)
-- ==== Pre_moderate.lean ====
abbrev S2x4096x3 : Shape := ⟨3, ![2, 4096, 3]⟩
abbrev S_ : Shape := ⟨0, ![]⟩
abbrev S3 : Shape := ⟨1, ![3]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel

variable [Facts]

def fn {F : FTy → Type} [FloatOps F] (main_arg0 : FVec F S2x4096x3 .f32) (main_arg1 : FVec F S_ .f32) (main_arg2 : FVec F S_ .f32) (main_arg3 : FVec F S_ .f32) (main_arg4 : FVec F S3 .f32) : IVec S_ 1 :=
  let main_v0 : FVec F S2x4096x3 .f32 := Host.absf main_arg0
  let main_cst : FVec F S_ .f32 := constant S_ .f32 0x56B5E621#32
  let main_v1 : FVec F S2x4096x3 .f32 := broadcastInDim S2x4096x3 ![] bcast_S_S2x4096x3 main_cst
  let main_v2 : IVec S2x4096x3 1 := cmpf .ole main_v0 main_v1
  let main_c : IVec S_ 1 := constantI S_ 1 1#1
  let main_v3 : IVec S_ 1 := (fun x v => Host.reduce IntOp.andi x v reducesTo_S2x4096x3_S_d0_1_2 h_S_) main_v2 main_c
  main_v3
-- ==== Kernel.lean ====
abbrev S2x4096x3 : Shape := ⟨3, ![2, 4096, 3]⟩
abbrev S_ : Shape := ⟨0, ![]⟩
abbrev S3 : Shape := ⟨1, ![3]⟩
abbrev S2x3x4096 : Shape := ⟨3, ![2, 3, 4096]⟩
abbrev S5 : Shape := ⟨1, ![5]⟩
abbrev S8 : Shape := ⟨1, ![8]⟩
abbrev S1x8 : Shape := ⟨2, ![1, 8]⟩
abbrev S2x4096x1 : Shape := ⟨3, ![2, 4096, 1]⟩
abbrev S1x256x3 : Shape := ⟨3, ![1, 256, 3]⟩
abbrev S1x3x4096 : Shape := ⟨3, ![1, 3, 4096]⟩
abbrev S1x256x1 : Shape := ⟨3, ![1, 256, 1]⟩
abbrev S256x3 : Shape := ⟨2, ![256, 3]⟩
abbrev S3x4096 : Shape := ⟨2, ![3, 4096]⟩
abbrev S1x4096 : Shape := ⟨2, ![1, 4096]⟩
abbrev S256x1 : Shape := ⟨2, ![256, 1]⟩
abbrev S256x4096 : Shape := ⟨2, ![256, 4096]⟩
abbrev S256x16 : Shape := ⟨2, ![256, 16]⟩
abbrev S256 : Shape := ⟨1, ![256]⟩
abbrev S1x1 : Shape := ⟨2, ![1, 1]⟩
abbrev S2x4096 : Shape := ⟨2, ![2, 4096]⟩
abbrev S1 : Shape := ⟨1, ![1]⟩
abbrev S2 : Shape := ⟨1, ![2]⟩
abbrev S2x1x4096 : Shape := ⟨3, ![2, 1, 4096]⟩
abbrev S2x1x1024 : Shape := ⟨3, ![2, 1, 1024]⟩
abbrev S2x3x1024 : Shape := ⟨3, ![2, 3, 1024]⟩
abbrev S1x1x4096 : Shape := ⟨3, ![1, 1, 4096]⟩
abbrev S1x1x1024 : Shape := ⟨3, ![1, 1, 1024]⟩
abbrev S1x3x1024 : Shape := ⟨3, ![1, 3, 1024]⟩
abbrev S1x4095 : Shape := ⟨2, ![1, 4095]⟩
abbrev S1x4094 : Shape := ⟨2, ![1, 4094]⟩
abbrev S1x2 : Shape := ⟨2, ![1, 2]⟩
abbrev S1x4092 : Shape := ⟨2, ![1, 4092]⟩
abbrev S1x4 : Shape := ⟨2, ![1, 4]⟩
abbrev S1x4088 : Shape := ⟨2, ![1, 4088]⟩
abbrev S1x4080 : Shape := ⟨2, ![1, 4080]⟩
abbrev S1x16 : Shape := ⟨2, ![1, 16]⟩
abbrev S1x4064 : Shape := ⟨2, ![1, 4064]⟩
abbrev S1x32 : Shape := ⟨2, ![1, 32]⟩
abbrev S1x4032 : Shape := ⟨2, ![1, 4032]⟩
abbrev S1x64 : Shape := ⟨2, ![1, 64]⟩
abbrev S1x3968 : Shape := ⟨2, ![1, 3968]⟩
abbrev S1x128 : Shape := ⟨2, ![1, 128]⟩
abbrev S1x3840 : Shape := ⟨2, ![1, 3840]⟩
abbrev S1x256 : Shape := ⟨2, ![1, 256]⟩
abbrev S1x3584 : Shape := ⟨2, ![1, 3584]⟩
abbrev S1x512 : Shape := ⟨2, ![1, 512]⟩
abbrev S1x3072 : Shape := ⟨2, ![1, 3072]⟩
abbrev S1x1024 : Shape := ⟨2, ![1, 1024]⟩
abbrev S1x2048 : Shape := ⟨2, ![1, 2048]⟩
abbrev S4096x1024 : Shape := ⟨2, ![4096, 1024]⟩
abbrev S3x1024 : Shape := ⟨2, ![3, 1024]⟩
abbrev S2x1024 : Shape := ⟨2, ![2, 1024]⟩
abbrev S2x1024x3 : Shape := ⟨3, ![2, 1024, 3]⟩

abbrev nBuf : Space → Nat
  | .hbm => 569
  | .vmem => 16
  | .smem => 1
  | _ => 0

abbrev hbmTy0_0 (i : Nat) : BufTy := match i % 128 with
  | 0 => ⟨S2x4096x3, .f32⟩
  | 1 => ⟨S_, .f32⟩
  | 2 => ⟨S_, .f32⟩
  | 3 => ⟨S_, .f32⟩
  | 4 => ⟨S3, .f32⟩
  | 5 => ⟨S2x3x4096, .f32⟩
  | 6 => ⟨S_, .f32⟩
  | 7 => ⟨S5, .f32⟩
  | 8 => ⟨S8, .f32⟩
  | 9 => ⟨S1x8, .f32⟩
  | 10 => ⟨S2x4096x1, .f32⟩
  | 11 => ⟨S2x4096x1, .f32⟩
  | 12 => ⟨S2x4096, .f32⟩
  | 13 => ⟨S2x4096, .f32⟩
  | 14 => ⟨S2x4096, .f32⟩
  | 15 => ⟨S2x4096, .f32⟩
  | 16 => ⟨S_, .f32⟩
  | 17 => ⟨S2x4096, .f32⟩
  | 18 => ⟨S2x4096, .f32⟩
  | 19 => ⟨S_, .f32⟩
  | 20 => ⟨S2x4096, .f32⟩
  | 21 => ⟨S2x4096, .f32⟩
  | 22 => ⟨S_, .f32⟩
  | 23 => ⟨S2x4096, .f32⟩
  | 24 => ⟨S2x4096, .f32⟩
  | 25 => ⟨S_, .f32⟩
  | 26 => ⟨S2x4096, .f32⟩
  | 27 => ⟨S2x4096, .f32⟩
  | 28 => ⟨S2x4096, .f32⟩
  | 29 => ⟨S2x4096, .f32⟩
  | 30 => ⟨S2x4096, .f32⟩
  | 31 => ⟨S2x4096, .f32⟩
  | 32 => ⟨S2x4096, .f32⟩
  | 33 => ⟨S2x4096, .f32⟩
  | 34 => ⟨S2x4096, .f32⟩
  | 35 => ⟨S2x4096, .f32⟩
  | 36 => ⟨S2x4096, .f32⟩
  | 37 => ⟨S2x4096, .f32⟩
  | 38 => ⟨S2x4096, .f32⟩
  | 39 => ⟨S_, .f32⟩
  | 40 => ⟨S2x4096, .f32⟩
  | 41 => ⟨S2x4096, .f32⟩
  | 42 => ⟨S_, .f32⟩
  | 43 => ⟨S2x4096, .f32⟩
  | 44 => ⟨S2x4096, .f32⟩
  | 45 => ⟨S_, .i32⟩
  | 46 => ⟨S_, .i32⟩
  | 47 => ⟨S_, .i32⟩
  | 48 => ⟨S_, .i32⟩
  | 49 => ⟨S1, .i32⟩
  | 50 => ⟨S_, .i32⟩
  | 51 => ⟨S_, .i32⟩
  | 52 => ⟨S_, .i32⟩
  | 53 => ⟨S1, .i32⟩
  | 54 => ⟨S2, .i32⟩
  | 55 => ⟨S_, .i32⟩
  | 56 => ⟨S_, .i32⟩
  | 57 => ⟨S_, .i32⟩
  | 58 => ⟨S1, .i32⟩
  | 59 => ⟨S_, .i32⟩
  | 60 => ⟨S_, .i32⟩
  | 61 => ⟨S1, .i32⟩
  | 62 => ⟨S2, .i32⟩
  | 63 => ⟨S1, .i32⟩
  | 64 => ⟨S_, .i32⟩
  | 65 => ⟨S1, .i32⟩
  | 66 => ⟨S_, .i32⟩
  | 67 => ⟨S1, .i32⟩
  | 68 => ⟨S1, .i32⟩
  | 69 => ⟨S_, .i32⟩
  | 70 => ⟨S_, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S2x4096x3, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S2x4096x3, .f32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S2, .i32⟩
  | 36 => ⟨S_, .f32⟩
  | 37 => ⟨S_, .f32⟩
  | 38 => ⟨S_, .f32⟩
  | 39 => ⟨S1x1, .f32⟩
  | 40 => ⟨S1x1, .f32⟩
  | 41 => ⟨S1, .i32⟩
  | 42 => ⟨S_, .i32⟩
  | 43 => ⟨S1, .i32⟩
  | 44 => ⟨S_, .i32⟩
  | 45 => ⟨S2x4096, .i64⟩
  | 46 => ⟨S2x4096, .i64⟩
  | 47 => ⟨S_, .i64⟩
  | 48 => ⟨S2x4096, .i64⟩
  | 49 => ⟨S2x4096, .i64⟩
  | 50 => ⟨S_, .i64⟩
  | 51 => ⟨S2x4096, .i64⟩
  | 52 => ⟨S2x4096, .i64⟩
  | 53 => ⟨S2x4096, .i64⟩
  | 54 => ⟨S_, .i64⟩
  | 55 => ⟨S2x4096, .i64⟩
  | 56 => ⟨S2x4096, .i64⟩
  | 57 => ⟨S2x4096, .i32⟩
  | 58 => ⟨S2x4096, .i32⟩
  | 59 => ⟨S_, .i32⟩
  | 60 => ⟨S_, .i32⟩
  | 61 => ⟨S_, .i32⟩
  | 62 => ⟨S2x4096, .i32⟩
  | 63 => ⟨S2x4096, .i32⟩
  | 64 => ⟨S2x4096, .i32⟩
  | 65 => ⟨S2x4096, .i32⟩
  | 66 => ⟨S2x4096, .i32⟩
  | 67 => ⟨S_, .i32⟩
  | 68 => ⟨S2x4096, .i32⟩
  | 69 => ⟨S2x4096, .i32⟩
  | 70 => ⟨S_, .i32⟩
  | 71 => ⟨S2x4096, .i32⟩
  | 72 => ⟨S2x4096, .i32⟩
  | 73 => ⟨S2x4096, .i32⟩
  | 74 => ⟨S2x4096, .i32⟩
  | 75 => ⟨S2x4096, .i32⟩
  | 76 => ⟨S_, .i32⟩
  | 77 => ⟨S2x4096, .i32⟩
  | 78 => ⟨S2x4096, .i32⟩
  | 79 => ⟨S_, .i32⟩
  | 80 => ⟨S2x4096, .i32⟩
  | 81 => ⟨S2x4096, .i32⟩
  | 82 => ⟨S2x4096, .i32⟩
  | 83 => ⟨S2x4096, .i32⟩
  | 84 => ⟨S2x4096, .i32⟩
  | 85 => ⟨S_, .i32⟩
  | 86 => ⟨S2x4096, .i32⟩
  | 87 => ⟨S2x4096, .i32⟩
  | 88 => ⟨S_, .i32⟩
  | 89 => ⟨S2x4096, .i32⟩
  | 90 => ⟨S2x4096, .i32⟩
  | 91 => ⟨S2x4096, .i32⟩
  | 92 => ⟨S2x4096, .i32⟩
  | 93 => ⟨S2x4096, .i32⟩
  | 94 => ⟨S_, .i32⟩
  | 95 => ⟨S2x4096, .i32⟩
  | 96 => ⟨S2x4096, .i32⟩
  | 97 => ⟨S_, .i32⟩
  | 98 => ⟨S2x4096, .i32⟩
  | 99 => ⟨S2x4096, .i32⟩
  | 100 => ⟨S2x4096, .i32⟩
  | 101 => ⟨S2x4096, .i32⟩
  | 102 => ⟨S2x4096, .i32⟩
  | 103 => ⟨S2x4096, .i32⟩
  | 104 => ⟨S2x4096, .i32⟩
  | 105 => ⟨S2x4096, .i32⟩
  | 106 => ⟨S_, .i32⟩
  | 107 => ⟨S2x4096, .i32⟩
  | 108 => ⟨S2x4096, .i32⟩
  | 109 => ⟨S2x4096, .i32⟩
  | 110 => ⟨S_, .i32⟩
  | 111 => ⟨S2x4096, .i32⟩
  | 112 => ⟨S2x4096, .i32⟩
  | 113 => ⟨S_, .i32⟩
  | 114 => ⟨S2x4096, .i32⟩
  | 115 => ⟨S2x4096, .i32⟩
  | 116 => ⟨S2x4096, .i32⟩
  | 117 => ⟨S2x4096, .i32⟩
  | 118 => ⟨S2x4096, .i32⟩
  | 119 => ⟨S_, .i32⟩
  | 120 => ⟨S2x4096, .i32⟩
  | 121 => ⟨S2x4096, .i32⟩
  | 122 => ⟨S_, .i32⟩
  | 123 => ⟨S2x4096, .i32⟩
  | 124 => ⟨S2x4096, .i32⟩
  | 125 => ⟨S2x4096, .i32⟩
  | 126 => ⟨S2x4096, .i32⟩
  | 127 => ⟨S2x4096, .i32⟩
  | _ => ⟨S2x4096x3, .f32⟩

abbrev hbmTy0_3 (i : Nat) : BufTy := match i % 128 with
  | 0 => ⟨S_, .i32⟩
  | 1 => ⟨S2x4096, .i32⟩
  | 2 => ⟨S2x4096, .i32⟩
  | 3 => ⟨S_, .i32⟩
  | 4 => ⟨S2x4096, .i32⟩
  | 5 => ⟨S2x4096, .i32⟩
  | 6 => ⟨S2x4096, .i32⟩
  | 7 => ⟨S2x4096, .i32⟩
  | 8 => ⟨S2x4096, .i32⟩
  | 9 => ⟨S_, .i32⟩
  | 10 => ⟨S2x4096, .i32⟩
  | 11 => ⟨S2x4096, .i32⟩
  | 12 => ⟨S_, .i32⟩
  | 13 => ⟨S2x4096, .i32⟩
  | 14 => ⟨S2x4096, .i32⟩
  | 15 => ⟨S2x4096, .i32⟩
  | 16 => ⟨S2x4096, .i32⟩
  | 17 => ⟨S2x4096, .i32⟩
  | 18 => ⟨S2x4096, .i32⟩
  | 19 => ⟨S2x4096, .i32⟩
  | 20 => ⟨S2x4096, .i32⟩
  | 21 => ⟨S_, .i32⟩
  | 22 => ⟨S2x4096, .i32⟩
  | 23 => ⟨S2x4096, .i32⟩
  | 24 => ⟨S2x4096, .i32⟩
  | 25 => ⟨S_, .i32⟩
  | 26 => ⟨S2x4096, .i32⟩
  | 27 => ⟨S2x4096, .i32⟩
  | 28 => ⟨S_, .i32⟩
  | 29 => ⟨S2x4096, .i32⟩
  | 30 => ⟨S2x4096, .i32⟩
  | 31 => ⟨S2x4096, .i32⟩
  | 32 => ⟨S2x4096, .i32⟩
  | 33 => ⟨S2x4096, .i32⟩
  | 34 => ⟨S_, .i32⟩
  | 35 => ⟨S2x4096, .i32⟩
  | 36 => ⟨S2x4096, .i32⟩
  | 37 => ⟨S_, .i32⟩
  | 38 => ⟨S2x4096, .i32⟩
  | 39 => ⟨S2x4096, .i32⟩
  | 40 => ⟨S2x4096, .i32⟩
  | 41 => ⟨S2x4096, .i32⟩
  | 42 => ⟨S2x4096, .i32⟩
  | 43 => ⟨S_, .i32⟩
  | 44 => ⟨S2x4096, .i32⟩
  | 45 => ⟨S2x4096, .i32⟩
  | 46 => ⟨S_, .i32⟩
  | 47 => ⟨S2x4096, .i32⟩
  | 48 => ⟨S2x4096, .i32⟩
  | 49 => ⟨S2x4096, .i32⟩
  | 50 => ⟨S2x4096, .i32⟩
  | 51 => ⟨S2x4096, .i32⟩
  | 52 => ⟨S_, .i32⟩
  | 53 => ⟨S2x4096, .i32⟩
  | 54 => ⟨S2x4096, .i32⟩
  | 55 => ⟨S_, .i32⟩
  | 56 => ⟨S2x4096, .i32⟩
  | 57 => ⟨S2x4096, .i32⟩
  | 58 => ⟨S2x4096, .i32⟩
  | 59 => ⟨S2x4096, .i32⟩
  | 60 => ⟨S2x4096, .i32⟩
  | 61 => ⟨S2x4096, .i32⟩
  | 62 => ⟨S2x4096, .i32⟩
  | 63 => ⟨S2x4096, .i32⟩
  | 64 => ⟨S_, .i32⟩
  | 65 => ⟨S2x4096, .i32⟩
  | 66 => ⟨S2x4096, .i32⟩
  | 67 => ⟨S2x4096, .i32⟩
  | 68 => ⟨S_, .i32⟩
  | 69 => ⟨S2x4096, .i32⟩
  | 70 => ⟨S2x4096, .i32⟩
  | 71 => ⟨S_, .i32⟩
  | 72 => ⟨S2x4096, .i32⟩
  | 73 => ⟨S2x4096, .i32⟩
  | 74 => ⟨S2x4096, .i32⟩
  | 75 => ⟨S2x4096, .i32⟩
  | 76 => ⟨S2x4096, .i32⟩
  | 77 => ⟨S_, .i32⟩
  | 78 => ⟨S2x4096, .i32⟩
  | 79 => ⟨S2x4096, .i32⟩
  | 80 => ⟨S_, .i32⟩
  | 81 => ⟨S2x4096, .i32⟩
  | 82 => ⟨S2x4096, .i32⟩
  | 83 => ⟨S2x4096, .i32⟩
  | 84 => ⟨S2x4096, .i32⟩
  | 85 => ⟨S2x4096, .i32⟩
  | 86 => ⟨S_, .i32⟩
  | 87 => ⟨S2x4096, .i32⟩
  | 88 => ⟨S2x4096, .i32⟩
  | 89 => ⟨S_, .i32⟩
  | 90 => ⟨S2x4096, .i32⟩
  | 91 => ⟨S2x4096, .i32⟩
  | 92 => ⟨S2x4096, .i32⟩
  | 93 => ⟨S2x4096, .i32⟩
  | 94 => ⟨S2x4096, .i32⟩
  | 95 => ⟨S_, .i32⟩
  | 96 => ⟨S2x4096, .i32⟩
  | 97 => ⟨S2x4096, .i32⟩
  | 98 => ⟨S_, .i32⟩
  | 99 => ⟨S2x4096, .i32⟩
  | 100 => ⟨S2x4096, .i32⟩
  | 101 => ⟨S2x4096, .i32⟩
  | 102 => ⟨S2x4096, .i32⟩
  | 103 => ⟨S2x4096, .i32⟩
  | 104 => ⟨S2x4096, .i32⟩
  | 105 => ⟨S2x4096, .i32⟩
  | 106 => ⟨S2x4096, .i32⟩
  | 107 => ⟨S_, .i32⟩
  | 108 => ⟨S2x4096, .i32⟩
  | 109 => ⟨S2x4096, .i32⟩
  | 110 => ⟨S2x4096, .i32⟩
  | 111 => ⟨S_, .i32⟩
  | 112 => ⟨S2x4096, .i32⟩
  | 113 => ⟨S2x4096, .i32⟩
  | 114 => ⟨S_, .i32⟩
  | 115 => ⟨S2x4096, .i32⟩
  | 116 => ⟨S2x4096, .i32⟩
  | 117 => ⟨S2x4096, .i32⟩
  | 118 => ⟨S2x4096, .i32⟩
  | 119 => ⟨S2x4096, .i32⟩
  | 120 => ⟨S_, .i32⟩
  | 121 => ⟨S2x4096, .i32⟩
  | 122 => ⟨S2x4096, .i32⟩
  | 123 => ⟨S_, .i32⟩
  | 124 => ⟨S2x4096, .i32⟩
  | 125 => ⟨S2x4096, .i32⟩
  | 126 => ⟨S2x4096, .i32⟩
  | 127 => ⟨S2x4096, .i32⟩
  | _ => ⟨S2x4096x3, .f32⟩

abbrev hbmTy0_4 (i : Nat) : BufTy := match i % 128 with
  | 0 => ⟨S2x4096, .i32⟩
  | 1 => ⟨S_, .i32⟩
  | 2 => ⟨S2x4096, .i32⟩
  | 3 => ⟨S2x4096, .i32⟩
  | 4 => ⟨S_, .i32⟩
  | 5 => ⟨S2x4096, .i32⟩
  | 6 => ⟨S2x4096, .i32⟩
  | 7 => ⟨S2x4096, .i32⟩
  | 8 => ⟨S2x4096, .i32⟩
  | 9 => ⟨S2x4096, .i32⟩
  | 10 => ⟨S_, .i32⟩
  | 11 => ⟨S2x4096, .i32⟩
  | 12 => ⟨S2x4096, .i32⟩
  | 13 => ⟨S_, .i32⟩
  | 14 => ⟨S2x4096, .i32⟩
  | 15 => ⟨S2x4096, .i32⟩
  | 16 => ⟨S2x4096, .i32⟩
  | 17 => ⟨S2x4096, .i32⟩
  | 18 => ⟨S2x4096, .i32⟩
  | 19 => ⟨S2x4096, .i32⟩
  | 20 => ⟨S2x4096, .i32⟩
  | 21 => ⟨S2x4096, .i32⟩
  | 22 => ⟨S_, .i32⟩
  | 23 => ⟨S2x4096, .i32⟩
  | 24 => ⟨S2x4096, .i32⟩
  | 25 => ⟨S2x4096, .i32⟩
  | 26 => ⟨S_, .i32⟩
  | 27 => ⟨S2x4096, .i32⟩
  | 28 => ⟨S2x4096, .i32⟩
  | 29 => ⟨S_, .i32⟩
  | 30 => ⟨S2x4096, .i32⟩
  | 31 => ⟨S2x4096, .i32⟩
  | 32 => ⟨S2x4096, .f32⟩
  | 33 => ⟨S_, .f32⟩
  | 34 => ⟨S2x4096, .f32⟩
  | 35 => ⟨S2x4096, .f32⟩
  | 36 => ⟨S1x1, .f32⟩
  | 37 => ⟨S2x4096, .f32⟩
  | 38 => ⟨S2x4096, .f32⟩
  | 39 => ⟨S2x4096, .f32⟩
  | 40 => ⟨S2x4096, .f32⟩
  | 41 => ⟨S2x4096, .f32⟩
  | 42 => ⟨S2x4096, .f32⟩
  | 43 => ⟨S2x4096, .f32⟩
  | 44 => ⟨S2x4096, .f32⟩
  | 45 => ⟨S2x4096, .f32⟩
  | 46 => ⟨S2x4096, .f32⟩
  | 47 => ⟨S_, .f32⟩
  | 48 => ⟨S2x4096, .f32⟩
  | 49 => ⟨S2x4096, .f32⟩
  | 50 => ⟨S2x4096, .f32⟩
  | 51 => ⟨S2x4096, .f32⟩
  | 52 => ⟨S2x1x4096, .f32⟩
  | 53 => ⟨S2x1x1024, .i32⟩
  | 54 => ⟨S2x3x1024, .f32⟩
  | 55 => ⟨S2x1024, .i32⟩
  | 56 => ⟨S2x1024x3, .f32⟩
  | _ => ⟨S2x4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x4096x3, .f32⟩

abbrev bufTy : (tb : Table) → Fin (tcTables nBuf tb) → BufTy
  | .hbm, ⟨i, _⟩ => hbmTy i
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x1x4096, .f32⟩
  | .local _ .vmem, ⟨9, _⟩ => ⟨S1x1x4096, .f32⟩
  | .local _ .vmem, ⟨10, _⟩ => ⟨S1x3x4096, .f32⟩
  | .local _ .vmem, ⟨11, _⟩ => ⟨S1x3x4096, .f32⟩
  | .local _ .vmem, ⟨12, _⟩ => ⟨S1x1x1024, .i32⟩
  | .local _ .vmem, ⟨13, _⟩ => ⟨S1x1x1024, .i32⟩
  | .local _ .vmem, ⟨14, _⟩ => ⟨S1x3x1024, .f32⟩
  | .local _ .vmem, ⟨15, _⟩ => ⟨S1x3x1024, .f32⟩
  | .local _ .smem, ⟨0, _⟩ => ⟨S1x8, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_call0_v0 : Ref sig .tc := ⟨.hbm, 69, rfl⟩
abbrev main_call0_call0_c : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_v6 : Ref sig .tc := ⟨.hbm, 76, rfl⟩
abbrev main_call0_call0_c_0 : Ref sig .tc := ⟨.hbm, 77, rfl⟩
abbrev main_call0_call0_v7 : Ref sig .tc := ⟨.hbm, 78, rfl⟩
abbrev main_call0_call0_v8 : Ref sig .tc := ⟨.hbm, 79, rfl⟩
abbrev main_call0_call0_c_1 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_call0_v12 : Ref sig .tc := ⟨.hbm, 84, rfl⟩
abbrev main_call0_call0_v13 : Ref sig .tc := ⟨.hbm, 85, rfl⟩
abbrev main_call0_call0_c_2 : Ref sig .tc := ⟨.hbm, 86, rfl⟩
abbrev main_call0_call0_v14 : Ref sig .tc := ⟨.hbm, 87, rfl⟩
abbrev main_call0_call0_v15 : Ref sig .tc := ⟨.hbm, 88, rfl⟩
abbrev main_call0_call0_c_3 : Ref sig .tc := ⟨.hbm, 89, rfl⟩
abbrev main_call0_call0_v16 : Ref sig .tc := ⟨.hbm, 90, rfl⟩
abbrev main_call0_call0_v17 : Ref sig .tc := ⟨.hbm, 91, rfl⟩
abbrev main_call0_call0_v18 : Ref sig .tc := ⟨.hbm, 92, rfl⟩
abbrev main_call0_call0_v19 : Ref sig .tc := ⟨.hbm, 93, rfl⟩
abbrev main_call0_call0_v20 : Ref sig .tc := ⟨.hbm, 94, rfl⟩
abbrev main_call0_call0_c_4 : Ref sig .tc := ⟨.hbm, 95, rfl⟩
abbrev main_call0_call0_v21 : Ref sig .tc := ⟨.hbm, 96, rfl⟩
abbrev main_call0_call0_v22 : Ref sig .tc := ⟨.hbm, 97, rfl⟩
abbrev main_call0_call0_c_5 : Ref sig .tc := ⟨.hbm, 98, rfl⟩
abbrev main_call0_call0_v23 : Ref sig .tc := ⟨.hbm, 99, rfl⟩
abbrev main_call0_call0_v24 : Ref sig .tc := ⟨.hbm, 100, rfl⟩
abbrev main_call0_call0_v25 : Ref sig .tc := ⟨.hbm, 101, rfl⟩
abbrev main_call0_call0_v26 : Ref sig .tc := ⟨.hbm, 102, rfl⟩
abbrev main_call0_call0_v27 : Ref sig .tc := ⟨.hbm, 103, rfl⟩
abbrev main_call0_call0_c_6 : Ref sig .tc := ⟨.hbm, 104, rfl⟩
abbrev main_call0_call0_v28 : Ref sig .tc := ⟨.hbm, 105, rfl⟩
abbrev main_call0_call0_v29 : Ref sig .tc := ⟨.hbm, 106, rfl⟩
abbrev main_call0_call0_c_7 : Ref sig .tc := ⟨.hbm, 107, rfl⟩
abbrev main_call0_call0_v30 : Ref sig .tc := ⟨.hbm, 108, rfl⟩
abbrev main_call0_call0_v31 : Ref sig .tc := ⟨.hbm, 109, rfl⟩
abbrev main_call0_call0_v32 : Ref sig .tc := ⟨.hbm, 110, rfl⟩
abbrev main_call0_call0_v33 : Ref sig .tc := ⟨.hbm, 111, rfl⟩
abbrev main_call0_call0_v34 : Ref sig .tc := ⟨.hbm, 112, rfl⟩
abbrev main_call0_call0_v35 : Ref sig .tc := ⟨.hbm, 113, rfl⟩
abbrev main_call0_call0_v36 : Ref sig .tc := ⟨.hbm, 114, rfl⟩
abbrev main_call0_call0_v37 : Ref sig .tc := ⟨.hbm, 115, rfl⟩
abbrev main_call0_call0_c_8 : Ref sig .tc := ⟨.hbm, 116, rfl⟩
abbrev main_call0_call0_v38 : Ref sig .tc := ⟨.hbm, 117, rfl⟩
abbrev main_call0_call0_v39 : Ref sig .tc := ⟨.hbm, 118, rfl⟩
abbrev main_call0_call0_v40 : Ref sig .tc := ⟨.hbm, 119, rfl⟩
abbrev main_call0_call0_c_9 : Ref sig .tc := ⟨.hbm, 120, rfl⟩
abbrev main_call0_call0_v41 : Ref sig .tc := ⟨.hbm, 121, rfl⟩
abbrev main_call0_call0_v42 : Ref sig .tc := ⟨.hbm, 122, rfl⟩
abbrev main_call0_call0_c_10 : Ref sig .tc := ⟨.hbm, 123, rfl⟩
abbrev main_call0_call0_v43 : Ref sig .tc := ⟨.hbm, 124, rfl⟩
abbrev main_call0_call0_v44 : Ref sig .tc := ⟨.hbm, 125, rfl⟩
abbrev main_call0_call0_v45 : Ref sig .tc := ⟨.hbm, 126, rfl⟩
abbrev main_call0_call0_v46 : Ref sig .tc := ⟨.hbm, 127, rfl⟩
abbrev main_call0_call0_v47 : Ref sig .tc := ⟨.hbm, 128, rfl⟩
abbrev main_call0_call0_c_11 : Ref sig .tc := ⟨.hbm, 129, rfl⟩
abbrev main_call0_call0_v48 : Ref sig .tc := ⟨.hbm, 130, rfl⟩
abbrev main_call0_call0_v49 : Ref sig .tc := ⟨.hbm, 131, rfl⟩
abbrev main_call0_call0_c_12 : Ref sig .tc := ⟨.hbm, 132, rfl⟩
abbrev main_call0_call0_v50 : Ref sig .tc := ⟨.hbm, 133, rfl⟩
abbrev main_call0_call0_v51 : Ref sig .tc := ⟨.hbm, 134, rfl⟩
abbrev main_call0_call0_v52 : Ref sig .tc := ⟨.hbm, 135, rfl⟩
abbrev main_call0_call0_v53 : Ref sig .tc := ⟨.hbm, 136, rfl⟩
abbrev main_call0_call0_v54 : Ref sig .tc := ⟨.hbm, 137, rfl⟩
abbrev main_call0_call0_c_13 : Ref sig .tc := ⟨.hbm, 138, rfl⟩
abbrev main_call0_call0_v55 : Ref sig .tc := ⟨.hbm, 139, rfl⟩
abbrev main_call0_call0_v56 : Ref sig .tc := ⟨.hbm, 140, rfl⟩
abbrev main_call0_call0_c_14 : Ref sig .tc := ⟨.hbm, 141, rfl⟩
abbrev main_call0_call0_v57 : Ref sig .tc := ⟨.hbm, 142, rfl⟩
abbrev main_call0_call0_v58 : Ref sig .tc := ⟨.hbm, 143, rfl⟩
abbrev main_call0_call0_v59 : Ref sig .tc := ⟨.hbm, 144, rfl⟩
abbrev main_call0_call0_v60 : Ref sig .tc := ⟨.hbm, 145, rfl⟩
abbrev main_call0_call0_v61 : Ref sig .tc := ⟨.hbm, 146, rfl⟩
abbrev main_call0_call0_c_15 : Ref sig .tc := ⟨.hbm, 147, rfl⟩
abbrev main_call0_call0_v62 : Ref sig .tc := ⟨.hbm, 148, rfl⟩
abbrev main_call0_call0_v63 : Ref sig .tc := ⟨.hbm, 149, rfl⟩
abbrev main_call0_call0_c_16 : Ref sig .tc := ⟨.hbm, 150, rfl⟩
abbrev main_call0_call0_v64 : Ref sig .tc := ⟨.hbm, 151, rfl⟩
abbrev main_call0_call0_v65 : Ref sig .tc := ⟨.hbm, 152, rfl⟩
abbrev main_call0_call0_v66 : Ref sig .tc := ⟨.hbm, 153, rfl⟩
abbrev main_call0_call0_v67 : Ref sig .tc := ⟨.hbm, 154, rfl⟩
abbrev main_call0_call0_v68 : Ref sig .tc := ⟨.hbm, 155, rfl⟩
abbrev main_call0_call0_v69 : Ref sig .tc := ⟨.hbm, 156, rfl⟩
abbrev main_call0_call0_v70 : Ref sig .tc := ⟨.hbm, 157, rfl⟩
abbrev main_call0_call0_v71 : Ref sig .tc := ⟨.hbm, 158, rfl⟩
abbrev main_call0_call0_c_17 : Ref sig .tc := ⟨.hbm, 159, rfl⟩
abbrev main_call0_call0_v72 : Ref sig .tc := ⟨.hbm, 160, rfl⟩
abbrev main_call0_call0_v73 : Ref sig .tc := ⟨.hbm, 161, rfl⟩
abbrev main_call0_call0_v74 : Ref sig .tc := ⟨.hbm, 162, rfl⟩
abbrev main_call0_call0_c_18 : Ref sig .tc := ⟨.hbm, 163, rfl⟩
abbrev main_call0_call0_v75 : Ref sig .tc := ⟨.hbm, 164, rfl⟩
abbrev main_call0_call0_v76 : Ref sig .tc := ⟨.hbm, 165, rfl⟩
abbrev main_call0_call0_c_19 : Ref sig .tc := ⟨.hbm, 166, rfl⟩
abbrev main_call0_call0_v77 : Ref sig .tc := ⟨.hbm, 167, rfl⟩
abbrev main_call0_call0_v78 : Ref sig .tc := ⟨.hbm, 168, rfl⟩
abbrev main_call0_call0_v79 : Ref sig .tc := ⟨.hbm, 169, rfl⟩
abbrev main_call0_call0_v80 : Ref sig .tc := ⟨.hbm, 170, rfl⟩
abbrev main_call0_call0_v81 : Ref sig .tc := ⟨.hbm, 171, rfl⟩
abbrev main_call0_call0_c_20 : Ref sig .tc := ⟨.hbm, 172, rfl⟩
abbrev main_call0_call0_v82 : Ref sig .tc := ⟨.hbm, 173, rfl⟩
abbrev main_call0_call0_v83 : Ref sig .tc := ⟨.hbm, 174, rfl⟩
abbrev main_call0_call0_c_21 : Ref sig .tc := ⟨.hbm, 175, rfl⟩
abbrev main_call0_call0_v84 : Ref sig .tc := ⟨.hbm, 176, rfl⟩
abbrev main_call0_call0_v85 : Ref sig .tc := ⟨.hbm, 177, rfl⟩
abbrev main_call0_call0_v86 : Ref sig .tc := ⟨.hbm, 178, rfl⟩
abbrev main_call0_call0_v87 : Ref sig .tc := ⟨.hbm, 179, rfl⟩
abbrev main_call0_call0_v88 : Ref sig .tc := ⟨.hbm, 180, rfl⟩
abbrev main_call0_call0_c_22 : Ref sig .tc := ⟨.hbm, 181, rfl⟩
abbrev main_call0_call0_v89 : Ref sig .tc := ⟨.hbm, 182, rfl⟩
abbrev main_call0_call0_v90 : Ref sig .tc := ⟨.hbm, 183, rfl⟩
abbrev main_call0_call0_c_23 : Ref sig .tc := ⟨.hbm, 184, rfl⟩
abbrev main_call0_call0_v91 : Ref sig .tc := ⟨.hbm, 185, rfl⟩
abbrev main_call0_call0_v92 : Ref sig .tc := ⟨.hbm, 186, rfl⟩
abbrev main_call0_call0_v93 : Ref sig .tc := ⟨.hbm, 187, rfl⟩
abbrev main_call0_call0_v94 : Ref sig .tc := ⟨.hbm, 188, rfl⟩
abbrev main_call0_call0_v95 : Ref sig .tc := ⟨.hbm, 189, rfl⟩
abbrev main_call0_call0_c_24 : Ref sig .tc := ⟨.hbm, 190, rfl⟩
abbrev main_call0_call0_v96 : Ref sig .tc := ⟨.hbm, 191, rfl⟩
abbrev main_call0_call0_v97 : Ref sig .tc := ⟨.hbm, 192, rfl⟩
abbrev main_call0_call0_c_25 : Ref sig .tc := ⟨.hbm, 193, rfl⟩
abbrev main_call0_call0_v98 : Ref sig .tc := ⟨.hbm, 194, rfl⟩
abbrev main_call0_call0_v99 : Ref sig .tc := ⟨.hbm, 195, rfl⟩
abbrev main_call0_call0_v100 : Ref sig .tc := ⟨.hbm, 196, rfl⟩
abbrev main_call0_call0_v101 : Ref sig .tc := ⟨.hbm, 197, rfl⟩
abbrev main_call0_call0_v102 : Ref sig .tc := ⟨.hbm, 198, rfl⟩
abbrev main_call0_call0_v103 : Ref sig .tc := ⟨.hbm, 199, rfl⟩
abbrev main_call0_call0_v104 : Ref sig .tc := ⟨.hbm, 200, rfl⟩
abbrev main_call0_call0_v105 : Ref sig .tc := ⟨.hbm, 201, rfl⟩
abbrev main_call0_call0_c_26 : Ref sig .tc := ⟨.hbm, 202, rfl⟩
abbrev main_call0_call0_v106 : Ref sig .tc := ⟨.hbm, 203, rfl⟩
abbrev main_call0_call0_v107 : Ref sig .tc := ⟨.hbm, 204, rfl⟩
abbrev main_call0_call0_v108 : Ref sig .tc := ⟨.hbm, 205, rfl⟩
abbrev main_call0_call0_c_27 : Ref sig .tc := ⟨.hbm, 206, rfl⟩
abbrev main_call0_call0_v109 : Ref sig .tc := ⟨.hbm, 207, rfl⟩
abbrev main_call0_call0_v110 : Ref sig .tc := ⟨.hbm, 208, rfl⟩
abbrev main_call0_call0_c_28 : Ref sig .tc := ⟨.hbm, 209, rfl⟩
abbrev main_call0_call0_v111 : Ref sig .tc := ⟨.hbm, 210, rfl⟩
abbrev main_call0_call0_v112 : Ref sig .tc := ⟨.hbm, 211, rfl⟩
abbrev main_call0_call0_v113 : Ref sig .tc := ⟨.hbm, 212, rfl⟩
abbrev main_call0_call0_v114 : Ref sig .tc := ⟨.hbm, 213, rfl⟩
abbrev main_call0_call0_v115 : Ref sig .tc := ⟨.hbm, 214, rfl⟩
abbrev main_call0_call0_c_29 : Ref sig .tc := ⟨.hbm, 215, rfl⟩
abbrev main_call0_call0_v116 : Ref sig .tc := ⟨.hbm, 216, rfl⟩
abbrev main_call0_call0_v117 : Ref sig .tc := ⟨.hbm, 217, rfl⟩
abbrev main_call0_call0_c_30 : Ref sig .tc := ⟨.hbm, 218, rfl⟩
abbrev main_call0_call0_v118 : Ref sig .tc := ⟨.hbm, 219, rfl⟩
abbrev main_call0_call0_v119 : Ref sig .tc := ⟨.hbm, 220, rfl⟩
abbrev main_call0_call0_v120 : Ref sig .tc := ⟨.hbm, 221, rfl⟩
abbrev main_call0_call0_v121 : Ref sig .tc := ⟨.hbm, 222, rfl⟩
abbrev main_call0_call0_v122 : Ref sig .tc := ⟨.hbm, 223, rfl⟩
abbrev main_call0_call0_c_31 : Ref sig .tc := ⟨.hbm, 224, rfl⟩
abbrev main_call0_call0_v123 : Ref sig .tc := ⟨.hbm, 225, rfl⟩
abbrev main_call0_call0_v124 : Ref sig .tc := ⟨.hbm, 226, rfl⟩
abbrev main_call0_call0_c_32 : Ref sig .tc := ⟨.hbm, 227, rfl⟩
abbrev main_call0_call0_v125 : Ref sig .tc := ⟨.hbm, 228, rfl⟩
abbrev main_call0_call0_v126 : Ref sig .tc := ⟨.hbm, 229, rfl⟩
abbrev main_call0_call0_v127 : Ref sig .tc := ⟨.hbm, 230, rfl⟩
abbrev main_call0_call0_v128 : Ref sig .tc := ⟨.hbm, 231, rfl⟩
abbrev main_call0_call0_v129 : Ref sig .tc := ⟨.hbm, 232, rfl⟩
abbrev main_call0_call0_c_33 : Ref sig .tc := ⟨.hbm, 233, rfl⟩
abbrev main_call0_call0_v130 : Ref sig .tc := ⟨.hbm, 234, rfl⟩
abbrev main_call0_call0_v131 : Ref sig .tc := ⟨.hbm, 235, rfl⟩
abbrev main_call0_call0_c_34 : Ref sig .tc := ⟨.hbm, 236, rfl⟩
abbrev main_call0_call0_v132 : Ref sig .tc := ⟨.hbm, 237, rfl⟩
abbrev main_call0_call0_v133 : Ref sig .tc := ⟨.hbm, 238, rfl⟩
abbrev main_call0_call0_v134 : Ref sig .tc := ⟨.hbm, 239, rfl⟩
abbrev main_call0_call0_v135 : Ref sig .tc := ⟨.hbm, 240, rfl⟩
abbrev main_call0_call0_v136 : Ref sig .tc := ⟨.hbm, 241, rfl⟩
abbrev main_call0_call0_v137 : Ref sig .tc := ⟨.hbm, 242, rfl⟩
abbrev main_call0_call0_v138 : Ref sig .tc := ⟨.hbm, 243, rfl⟩
abbrev main_call0_call0_v139 : Ref sig .tc := ⟨.hbm, 244, rfl⟩
abbrev main_call0_call0_c_35 : Ref sig .tc := ⟨.hbm, 245, rfl⟩
abbrev main_call0_call0_v140 : Ref sig .tc := ⟨.hbm, 246, rfl⟩
abbrev main_call0_call0_v141 : Ref sig .tc := ⟨.hbm, 247, rfl⟩
abbrev main_call0_call0_v142 : Ref sig .tc := ⟨.hbm, 248, rfl⟩
abbrev main_call0_call0_c_36 : Ref sig .tc := ⟨.hbm, 249, rfl⟩
abbrev main_call0_call0_v143 : Ref sig .tc := ⟨.hbm, 250, rfl⟩
abbrev main_call0_call0_v144 : Ref sig .tc := ⟨.hbm, 251, rfl⟩
abbrev main_call0_call0_c_37 : Ref sig .tc := ⟨.hbm, 252, rfl⟩
abbrev main_call0_call0_v145 : Ref sig .tc := ⟨.hbm, 253, rfl⟩
abbrev main_call0_call0_v146 : Ref sig .tc := ⟨.hbm, 254, rfl⟩
abbrev main_call0_call0_v147 : Ref sig .tc := ⟨.hbm, 255, rfl⟩
abbrev main_call0_call0_v148 : Ref sig .tc := ⟨.hbm, 256, rfl⟩
abbrev main_call0_call0_v149 : Ref sig .tc := ⟨.hbm, 257, rfl⟩
abbrev main_call0_call0_c_38 : Ref sig .tc := ⟨.hbm, 258, rfl⟩
abbrev main_call0_call0_v150 : Ref sig .tc := ⟨.hbm, 259, rfl⟩
abbrev main_call0_call0_v151 : Ref sig .tc := ⟨.hbm, 260, rfl⟩
abbrev main_call0_call0_c_39 : Ref sig .tc := ⟨.hbm, 261, rfl⟩
abbrev main_call0_call0_v152 : Ref sig .tc := ⟨.hbm, 262, rfl⟩
abbrev main_call0_call0_v153 : Ref sig .tc := ⟨.hbm, 263, rfl⟩
abbrev main_call0_call0_v154 : Ref sig .tc := ⟨.hbm, 264, rfl⟩
abbrev main_call0_call0_v155 : Ref sig .tc := ⟨.hbm, 265, rfl⟩
abbrev main_call0_call0_v156 : Ref sig .tc := ⟨.hbm, 266, rfl⟩
abbrev main_call0_call0_c_40 : Ref sig .tc := ⟨.hbm, 267, rfl⟩
abbrev main_call0_call0_v157 : Ref sig .tc := ⟨.hbm, 268, rfl⟩
abbrev main_call0_call0_v158 : Ref sig .tc := ⟨.hbm, 269, rfl⟩
abbrev main_call0_call0_c_41 : Ref sig .tc := ⟨.hbm, 270, rfl⟩
abbrev main_call0_call0_v159 : Ref sig .tc := ⟨.hbm, 271, rfl⟩
abbrev main_call0_call0_v160 : Ref sig .tc := ⟨.hbm, 272, rfl⟩
abbrev main_call0_call0_v161 : Ref sig .tc := ⟨.hbm, 273, rfl⟩
abbrev main_call0_call0_v162 : Ref sig .tc := ⟨.hbm, 274, rfl⟩
abbrev main_call0_call0_v163 : Ref sig .tc := ⟨.hbm, 275, rfl⟩
abbrev main_call0_call0_c_42 : Ref sig .tc := ⟨.hbm, 276, rfl⟩
abbrev main_call0_call0_v164 : Ref sig .tc := ⟨.hbm, 277, rfl⟩
abbrev main_call0_call0_v165 : Ref sig .tc := ⟨.hbm, 278, rfl⟩
abbrev main_call0_call0_c_43 : Ref sig .tc := ⟨.hbm, 279, rfl⟩
abbrev main_call0_call0_v166 : Ref sig .tc := ⟨.hbm, 280, rfl⟩
abbrev main_call0_call0_v167 : Ref sig .tc := ⟨.hbm, 281, rfl⟩
abbrev main_call0_call0_v168 : Ref sig .tc := ⟨.hbm, 282, rfl⟩
abbrev main_call0_call0_v169 : Ref sig .tc := ⟨.hbm, 283, rfl⟩
abbrev main_call0_call0_v170 : Ref sig .tc := ⟨.hbm, 284, rfl⟩
abbrev main_call0_v11_0 : Ref sig .tc := ⟨.hbm, 285, rfl⟩
abbrev main_call0_call0_v172 : Ref sig .tc := ⟨.hbm, 286, rfl⟩
abbrev main_call0_call0_v173 : Ref sig .tc := ⟨.hbm, 287, rfl⟩
abbrev main_call0_call0_c_44 : Ref sig .tc := ⟨.hbm, 288, rfl⟩
abbrev main_call0_call0_v174 : Ref sig .tc := ⟨.hbm, 289, rfl⟩
abbrev main_call0_v11_1 : Ref sig .tc := ⟨.hbm, 290, rfl⟩
abbrev main_v39 : Ref sig .tc := ⟨.hbm, 291, rfl⟩
abbrev main_call1_cst : Ref sig .tc := ⟨.hbm, 292, rfl⟩
abbrev main_call1_cst_0 : Ref sig .tc := ⟨.hbm, 293, rfl⟩
abbrev main_call1_call0_v0 : Ref sig .tc := ⟨.hbm, 294, rfl⟩
abbrev main_call1_call0_v1 : Ref sig .tc := ⟨.hbm, 295, rfl⟩
abbrev main_call1_call0_v2 : Ref sig .tc := ⟨.hbm, 296, rfl⟩
abbrev main_call1_call0_v3 : Ref sig .tc := ⟨.hbm, 297, rfl⟩
abbrev main_call1_call0_v4 : Ref sig .tc := ⟨.hbm, 298, rfl⟩
abbrev main_call1_call0_v5 : Ref sig .tc := ⟨.hbm, 299, rfl⟩
abbrev main_call1_call0_v6 : Ref sig .tc := ⟨.hbm, 300, rfl⟩
abbrev main_call1_call0_v7 : Ref sig .tc := ⟨.hbm, 301, rfl⟩
abbrev main_call1_call0_v8 : Ref sig .tc := ⟨.hbm, 302, rfl⟩
abbrev main_call1_call0_c : Ref sig .tc := ⟨.hbm, 303, rfl⟩
abbrev main_call1_call0_v9 : Ref sig .tc := ⟨.hbm, 304, rfl⟩
abbrev main_call1_call0_v10 : Ref sig .tc := ⟨.hbm, 305, rfl⟩
abbrev main_call1_call0_c_0 : Ref sig .tc := ⟨.hbm, 306, rfl⟩
abbrev main_call1_call0_v11 : Ref sig .tc := ⟨.hbm, 307, rfl⟩
abbrev main_call1_call0_v12 : Ref sig .tc := ⟨.hbm, 308, rfl⟩
abbrev main_call1_call0_v13 : Ref sig .tc := ⟨.hbm, 309, rfl⟩
abbrev main_call1_call0_c_1 : Ref sig .tc := ⟨.hbm, 310, rfl⟩
abbrev main_call1_call0_v14 : Ref sig .tc := ⟨.hbm, 311, rfl⟩
abbrev main_call1_call0_v15 : Ref sig .tc := ⟨.hbm, 312, rfl⟩
abbrev main_call1_call0_v16 : Ref sig .tc := ⟨.hbm, 313, rfl⟩
abbrev main_call1_call0_v17 : Ref sig .tc := ⟨.hbm, 314, rfl⟩
abbrev main_call1_call0_call0_v0 : Ref sig .tc := ⟨.hbm, 315, rfl⟩
abbrev main_call1_call0_call0_c : Ref sig .tc := ⟨.hbm, 316, rfl⟩
abbrev main_call1_call0_call0_v1 : Ref sig .tc := ⟨.hbm, 317, rfl⟩
abbrev main_call1_call0_call0_v2 : Ref sig .tc := ⟨.hbm, 318, rfl⟩
abbrev main_call1_call0_call0_v3 : Ref sig .tc := ⟨.hbm, 319, rfl⟩
abbrev main_call1_call0_call0_v4 : Ref sig .tc := ⟨.hbm, 320, rfl⟩
abbrev main_call1_call0_call0_v5 : Ref sig .tc := ⟨.hbm, 321, rfl⟩
abbrev main_call1_call0_call0_v6 : Ref sig .tc := ⟨.hbm, 322, rfl⟩
abbrev main_call1_call0_call0_c_0 : Ref sig .tc := ⟨.hbm, 323, rfl⟩
abbrev main_call1_call0_call0_v7 : Ref sig .tc := ⟨.hbm, 324, rfl⟩
abbrev main_call1_call0_call0_v8 : Ref sig .tc := ⟨.hbm, 325, rfl⟩
abbrev main_call1_call0_call0_c_1 : Ref sig .tc := ⟨.hbm, 326, rfl⟩
abbrev main_call1_call0_call0_v9 : Ref sig .tc := ⟨.hbm, 327, rfl⟩
abbrev main_call1_call0_call0_v10 : Ref sig .tc := ⟨.hbm, 328, rfl⟩
abbrev main_call1_call0_call0_v11 : Ref sig .tc := ⟨.hbm, 329, rfl⟩
abbrev main_call1_call0_call0_v12 : Ref sig .tc := ⟨.hbm, 330, rfl⟩
abbrev main_call1_call0_call0_v13 : Ref sig .tc := ⟨.hbm, 331, rfl⟩
abbrev main_call1_call0_call0_c_2 : Ref sig .tc := ⟨.hbm, 332, rfl⟩
abbrev main_call1_call0_call0_v14 : Ref sig .tc := ⟨.hbm, 333, rfl⟩
abbrev main_call1_call0_call0_v15 : Ref sig .tc := ⟨.hbm, 334, rfl⟩
abbrev main_call1_call0_call0_c_3 : Ref sig .tc := ⟨.hbm, 335, rfl⟩
abbrev main_call1_call0_call0_v16 : Ref sig .tc := ⟨.hbm, 336, rfl⟩
abbrev main_call1_call0_call0_v17 : Ref sig .tc := ⟨.hbm, 337, rfl⟩
abbrev main_call1_call0_call0_v18 : Ref sig .tc := ⟨.hbm, 338, rfl⟩
abbrev main_call1_call0_call0_v19 : Ref sig .tc := ⟨.hbm, 339, rfl⟩
abbrev main_call1_call0_call0_v20 : Ref sig .tc := ⟨.hbm, 340, rfl⟩
abbrev main_call1_call0_call0_c_4 : Ref sig .tc := ⟨.hbm, 341, rfl⟩
abbrev main_call1_call0_call0_v21 : Ref sig .tc := ⟨.hbm, 342, rfl⟩
abbrev main_call1_call0_call0_v22 : Ref sig .tc := ⟨.hbm, 343, rfl⟩
abbrev main_call1_call0_call0_c_5 : Ref sig .tc := ⟨.hbm, 344, rfl⟩
abbrev main_call1_call0_call0_v23 : Ref sig .tc := ⟨.hbm, 345, rfl⟩
abbrev main_call1_call0_call0_v24 : Ref sig .tc := ⟨.hbm, 346, rfl⟩
abbrev main_call1_call0_call0_v25 : Ref sig .tc := ⟨.hbm, 347, rfl⟩
abbrev main_call1_call0_call0_v26 : Ref sig .tc := ⟨.hbm, 348, rfl⟩
abbrev main_call1_call0_call0_v27 : Ref sig .tc := ⟨.hbm, 349, rfl⟩
abbrev main_call1_call0_call0_c_6 : Ref sig .tc := ⟨.hbm, 350, rfl⟩
abbrev main_call1_call0_call0_v28 : Ref sig .tc := ⟨.hbm, 351, rfl⟩
abbrev main_call1_call0_call0_v29 : Ref sig .tc := ⟨.hbm, 352, rfl⟩
abbrev main_call1_call0_call0_c_7 : Ref sig .tc := ⟨.hbm, 353, rfl⟩
abbrev main_call1_call0_call0_v30 : Ref sig .tc := ⟨.hbm, 354, rfl⟩
abbrev main_call1_call0_call0_v31 : Ref sig .tc := ⟨.hbm, 355, rfl⟩
abbrev main_call1_call0_call0_v32 : Ref sig .tc := ⟨.hbm, 356, rfl⟩
abbrev main_call1_call0_call0_v33 : Ref sig .tc := ⟨.hbm, 357, rfl⟩
abbrev main_call1_call0_call0_v34 : Ref sig .tc := ⟨.hbm, 358, rfl⟩
abbrev main_call1_call0_call0_v35 : Ref sig .tc := ⟨.hbm, 359, rfl⟩
abbrev main_call1_call0_call0_v36 : Ref sig .tc := ⟨.hbm, 360, rfl⟩
abbrev main_call1_call0_call0_v37 : Ref sig .tc := ⟨.hbm, 361, rfl⟩
abbrev main_call1_call0_call0_c_8 : Ref sig .tc := ⟨.hbm, 362, rfl⟩
abbrev main_call1_call0_call0_v38 : Ref sig .tc := ⟨.hbm, 363, rfl⟩
abbrev main_call1_call0_call0_v39 : Ref sig .tc := ⟨.hbm, 364, rfl⟩
abbrev main_call1_call0_call0_v40 : Ref sig .tc := ⟨.hbm, 365, rfl⟩
abbrev main_call1_call0_call0_c_9 : Ref sig .tc := ⟨.hbm, 366, rfl⟩
abbrev main_call1_call0_call0_v41 : Ref sig .tc := ⟨.hbm, 367, rfl⟩
abbrev main_call1_call0_call0_v42 : Ref sig .tc := ⟨.hbm, 368, rfl⟩
abbrev main_call1_call0_call0_c_10 : Ref sig .tc := ⟨.hbm, 369, rfl⟩
abbrev main_call1_call0_call0_v43 : Ref sig .tc := ⟨.hbm, 370, rfl⟩
abbrev main_call1_call0_call0_v44 : Ref sig .tc := ⟨.hbm, 371, rfl⟩
abbrev main_call1_call0_call0_v45 : Ref sig .tc := ⟨.hbm, 372, rfl⟩
abbrev main_call1_call0_call0_v46 : Ref sig .tc := ⟨.hbm, 373, rfl⟩
abbrev main_call1_call0_call0_v47 : Ref sig .tc := ⟨.hbm, 374, rfl⟩
abbrev main_call1_call0_call0_c_11 : Ref sig .tc := ⟨.hbm, 375, rfl⟩
abbrev main_call1_call0_call0_v48 : Ref sig .tc := ⟨.hbm, 376, rfl⟩
abbrev main_call1_call0_call0_v49 : Ref sig .tc := ⟨.hbm, 377, rfl⟩
abbrev main_call1_call0_call0_c_12 : Ref sig .tc := ⟨.hbm, 378, rfl⟩
abbrev main_call1_call0_call0_v50 : Ref sig .tc := ⟨.hbm, 379, rfl⟩
abbrev main_call1_call0_call0_v51 : Ref sig .tc := ⟨.hbm, 380, rfl⟩
abbrev main_call1_call0_call0_v52 : Ref sig .tc := ⟨.hbm, 381, rfl⟩
abbrev main_call1_call0_call0_v53 : Ref sig .tc := ⟨.hbm, 382, rfl⟩
abbrev main_call1_call0_call0_v54 : Ref sig .tc := ⟨.hbm, 383, rfl⟩
abbrev main_call1_call0_call0_c_13 : Ref sig .tc := ⟨.hbm, 384, rfl⟩
abbrev main_call1_call0_call0_v55 : Ref sig .tc := ⟨.hbm, 385, rfl⟩
abbrev main_call1_call0_call0_v56 : Ref sig .tc := ⟨.hbm, 386, rfl⟩
abbrev main_call1_call0_call0_c_14 : Ref sig .tc := ⟨.hbm, 387, rfl⟩
abbrev main_call1_call0_call0_v57 : Ref sig .tc := ⟨.hbm, 388, rfl⟩
abbrev main_call1_call0_call0_v58 : Ref sig .tc := ⟨.hbm, 389, rfl⟩
abbrev main_call1_call0_call0_v59 : Ref sig .tc := ⟨.hbm, 390, rfl⟩
abbrev main_call1_call0_call0_v60 : Ref sig .tc := ⟨.hbm, 391, rfl⟩
abbrev main_call1_call0_call0_v61 : Ref sig .tc := ⟨.hbm, 392, rfl⟩
abbrev main_call1_call0_call0_c_15 : Ref sig .tc := ⟨.hbm, 393, rfl⟩
abbrev main_call1_call0_call0_v62 : Ref sig .tc := ⟨.hbm, 394, rfl⟩
abbrev main_call1_call0_call0_v63 : Ref sig .tc := ⟨.hbm, 395, rfl⟩
abbrev main_call1_call0_call0_c_16 : Ref sig .tc := ⟨.hbm, 396, rfl⟩
abbrev main_call1_call0_call0_v64 : Ref sig .tc := ⟨.hbm, 397, rfl⟩
abbrev main_call1_call0_call0_v65 : Ref sig .tc := ⟨.hbm, 398, rfl⟩
abbrev main_call1_call0_call0_v66 : Ref sig .tc := ⟨.hbm, 399, rfl⟩
abbrev main_call1_call0_call0_v67 : Ref sig .tc := ⟨.hbm, 400, rfl⟩
abbrev main_call1_call0_call0_v68 : Ref sig .tc := ⟨.hbm, 401, rfl⟩
abbrev main_call1_call0_call0_v69 : Ref sig .tc := ⟨.hbm, 402, rfl⟩
abbrev main_call1_call0_call0_v70 : Ref sig .tc := ⟨.hbm, 403, rfl⟩
abbrev main_call1_call0_call0_v71 : Ref sig .tc := ⟨.hbm, 404, rfl⟩
abbrev main_call1_call0_call0_c_17 : Ref sig .tc := ⟨.hbm, 405, rfl⟩
abbrev main_call1_call0_call0_v72 : Ref sig .tc := ⟨.hbm, 406, rfl⟩
abbrev main_call1_call0_call0_v73 : Ref sig .tc := ⟨.hbm, 407, rfl⟩
abbrev main_call1_call0_call0_v74 : Ref sig .tc := ⟨.hbm, 408, rfl⟩
abbrev main_call1_call0_call0_c_18 : Ref sig .tc := ⟨.hbm, 409, rfl⟩
abbrev main_call1_call0_call0_v75 : Ref sig .tc := ⟨.hbm, 410, rfl⟩
abbrev main_call1_call0_call0_v76 : Ref sig .tc := ⟨.hbm, 411, rfl⟩
abbrev main_call1_call0_call0_c_19 : Ref sig .tc := ⟨.hbm, 412, rfl⟩
abbrev main_call1_call0_call0_v77 : Ref sig .tc := ⟨.hbm, 413, rfl⟩
abbrev main_call1_call0_call0_v78 : Ref sig .tc := ⟨.hbm, 414, rfl⟩
abbrev main_call1_call0_call0_v79 : Ref sig .tc := ⟨.hbm, 415, rfl⟩
abbrev main_call1_call0_call0_v80 : Ref sig .tc := ⟨.hbm, 416, rfl⟩
abbrev main_call1_call0_call0_v81 : Ref sig .tc := ⟨.hbm, 417, rfl⟩
abbrev main_call1_call0_call0_c_20 : Ref sig .tc := ⟨.hbm, 418, rfl⟩
abbrev main_call1_call0_call0_v82 : Ref sig .tc := ⟨.hbm, 419, rfl⟩
abbrev main_call1_call0_call0_v83 : Ref sig .tc := ⟨.hbm, 420, rfl⟩
abbrev main_call1_call0_call0_c_21 : Ref sig .tc := ⟨.hbm, 421, rfl⟩
abbrev main_call1_call0_call0_v84 : Ref sig .tc := ⟨.hbm, 422, rfl⟩
abbrev main_call1_call0_call0_v85 : Ref sig .tc := ⟨.hbm, 423, rfl⟩
abbrev main_call1_call0_call0_v86 : Ref sig .tc := ⟨.hbm, 424, rfl⟩
abbrev main_call1_call0_call0_v87 : Ref sig .tc := ⟨.hbm, 425, rfl⟩
abbrev main_call1_call0_call0_v88 : Ref sig .tc := ⟨.hbm, 426, rfl⟩
abbrev main_call1_call0_call0_c_22 : Ref sig .tc := ⟨.hbm, 427, rfl⟩
abbrev main_call1_call0_call0_v89 : Ref sig .tc := ⟨.hbm, 428, rfl⟩
abbrev main_call1_call0_call0_v90 : Ref sig .tc := ⟨.hbm, 429, rfl⟩
abbrev main_call1_call0_call0_c_23 : Ref sig .tc := ⟨.hbm, 430, rfl⟩
abbrev main_call1_call0_call0_v91 : Ref sig .tc := ⟨.hbm, 431, rfl⟩
abbrev main_call1_call0_call0_v92 : Ref sig .tc := ⟨.hbm, 432, rfl⟩
abbrev main_call1_call0_call0_v93 : Ref sig .tc := ⟨.hbm, 433, rfl⟩
abbrev main_call1_call0_call0_v94 : Ref sig .tc := ⟨.hbm, 434, rfl⟩
abbrev main_call1_call0_call0_v95 : Ref sig .tc := ⟨.hbm, 435, rfl⟩
abbrev main_call1_call0_call0_c_24 : Ref sig .tc := ⟨.hbm, 436, rfl⟩
abbrev main_call1_call0_call0_v96 : Ref sig .tc := ⟨.hbm, 437, rfl⟩
abbrev main_call1_call0_call0_v97 : Ref sig .tc := ⟨.hbm, 438, rfl⟩
abbrev main_call1_call0_call0_c_25 : Ref sig .tc := ⟨.hbm, 439, rfl⟩
abbrev main_call1_call0_call0_v98 : Ref sig .tc := ⟨.hbm, 440, rfl⟩
abbrev main_call1_call0_call0_v99 : Ref sig .tc := ⟨.hbm, 441, rfl⟩
abbrev main_call1_call0_call0_v100 : Ref sig .tc := ⟨.hbm, 442, rfl⟩
abbrev main_call1_call0_call0_v101 : Ref sig .tc := ⟨.hbm, 443, rfl⟩
abbrev main_call1_call0_call0_v102 : Ref sig .tc := ⟨.hbm, 444, rfl⟩
abbrev main_call1_call0_call0_v103 : Ref sig .tc := ⟨.hbm, 445, rfl⟩
abbrev main_call1_call0_call0_v104 : Ref sig .tc := ⟨.hbm, 446, rfl⟩
abbrev main_call1_call0_call0_v105 : Ref sig .tc := ⟨.hbm, 447, rfl⟩
abbrev main_call1_call0_call0_c_26 : Ref sig .tc := ⟨.hbm, 448, rfl⟩
abbrev main_call1_call0_call0_v106 : Ref sig .tc := ⟨.hbm, 449, rfl⟩
abbrev main_call1_call0_call0_v107 : Ref sig .tc := ⟨.hbm, 450, rfl⟩
abbrev main_call1_call0_call0_v108 : Ref sig .tc := ⟨.hbm, 451, rfl⟩
abbrev main_call1_call0_call0_c_27 : Ref sig .tc := ⟨.hbm, 452, rfl⟩
abbrev main_call1_call0_call0_v109 : Ref sig .tc := ⟨.hbm, 453, rfl⟩
abbrev main_call1_call0_call0_v110 : Ref sig .tc := ⟨.hbm, 454, rfl⟩
abbrev main_call1_call0_call0_c_28 : Ref sig .tc := ⟨.hbm, 455, rfl⟩
abbrev main_call1_call0_call0_v111 : Ref sig .tc := ⟨.hbm, 456, rfl⟩
abbrev main_call1_call0_call0_v112 : Ref sig .tc := ⟨.hbm, 457, rfl⟩
abbrev main_call1_call0_call0_v113 : Ref sig .tc := ⟨.hbm, 458, rfl⟩
abbrev main_call1_call0_call0_v114 : Ref sig .tc := ⟨.hbm, 459, rfl⟩
abbrev main_call1_call0_call0_v115 : Ref sig .tc := ⟨.hbm, 460, rfl⟩
abbrev main_call1_call0_call0_c_29 : Ref sig .tc := ⟨.hbm, 461, rfl⟩
abbrev main_call1_call0_call0_v116 : Ref sig .tc := ⟨.hbm, 462, rfl⟩
abbrev main_call1_call0_call0_v117 : Ref sig .tc := ⟨.hbm, 463, rfl⟩
abbrev main_call1_call0_call0_c_30 : Ref sig .tc := ⟨.hbm, 464, rfl⟩
abbrev main_call1_call0_call0_v118 : Ref sig .tc := ⟨.hbm, 465, rfl⟩
abbrev main_call1_call0_call0_v119 : Ref sig .tc := ⟨.hbm, 466, rfl⟩
abbrev main_call1_call0_call0_v120 : Ref sig .tc := ⟨.hbm, 467, rfl⟩
abbrev main_call1_call0_call0_v121 : Ref sig .tc := ⟨.hbm, 468, rfl⟩
abbrev main_call1_call0_call0_v122 : Ref sig .tc := ⟨.hbm, 469, rfl⟩
abbrev main_call1_call0_call0_c_31 : Ref sig .tc := ⟨.hbm, 470, rfl⟩
abbrev main_call1_call0_call0_v123 : Ref sig .tc := ⟨.hbm, 471, rfl⟩
abbrev main_call1_call0_call0_v124 : Ref sig .tc := ⟨.hbm, 472, rfl⟩
abbrev main_call1_call0_call0_c_32 : Ref sig .tc := ⟨.hbm, 473, rfl⟩
abbrev main_call1_call0_call0_v125 : Ref sig .tc := ⟨.hbm, 474, rfl⟩
abbrev main_call1_call0_call0_v126 : Ref sig .tc := ⟨.hbm, 475, rfl⟩
abbrev main_call1_call0_call0_v127 : Ref sig .tc := ⟨.hbm, 476, rfl⟩
abbrev main_call1_call0_call0_v128 : Ref sig .tc := ⟨.hbm, 477, rfl⟩
abbrev main_call1_call0_call0_v129 : Ref sig .tc := ⟨.hbm, 478, rfl⟩
abbrev main_call1_call0_call0_c_33 : Ref sig .tc := ⟨.hbm, 479, rfl⟩
abbrev main_call1_call0_call0_v130 : Ref sig .tc := ⟨.hbm, 480, rfl⟩
abbrev main_call1_call0_call0_v131 : Ref sig .tc := ⟨.hbm, 481, rfl⟩
abbrev main_call1_call0_call0_c_34 : Ref sig .tc := ⟨.hbm, 482, rfl⟩
abbrev main_call1_call0_call0_v132 : Ref sig .tc := ⟨.hbm, 483, rfl⟩
abbrev main_call1_call0_call0_v133 : Ref sig .tc := ⟨.hbm, 484, rfl⟩
abbrev main_call1_call0_call0_v134 : Ref sig .tc := ⟨.hbm, 485, rfl⟩
abbrev main_call1_call0_call0_v135 : Ref sig .tc := ⟨.hbm, 486, rfl⟩
abbrev main_call1_call0_call0_v136 : Ref sig .tc := ⟨.hbm, 487, rfl⟩
abbrev main_call1_call0_call0_v137 : Ref sig .tc := ⟨.hbm, 488, rfl⟩
abbrev main_call1_call0_call0_v138 : Ref sig .tc := ⟨.hbm, 489, rfl⟩
abbrev main_call1_call0_call0_v139 : Ref sig .tc := ⟨.hbm, 490, rfl⟩
abbrev main_call1_call0_call0_c_35 : Ref sig .tc := ⟨.hbm, 491, rfl⟩
abbrev main_call1_call0_call0_v140 : Ref sig .tc := ⟨.hbm, 492, rfl⟩
abbrev main_call1_call0_call0_v141 : Ref sig .tc := ⟨.hbm, 493, rfl⟩
abbrev main_call1_call0_call0_v142 : Ref sig .tc := ⟨.hbm, 494, rfl⟩
abbrev main_call1_call0_call0_c_36 : Ref sig .tc := ⟨.hbm, 495, rfl⟩
abbrev main_call1_call0_call0_v143 : Ref sig .tc := ⟨.hbm, 496, rfl⟩
abbrev main_call1_call0_call0_v144 : Ref sig .tc := ⟨.hbm, 497, rfl⟩
abbrev main_call1_call0_call0_c_37 : Ref sig .tc := ⟨.hbm, 498, rfl⟩
abbrev main_call1_call0_call0_v145 : Ref sig .tc := ⟨.hbm, 499, rfl⟩
abbrev main_call1_call0_call0_v146 : Ref sig .tc := ⟨.hbm, 500, rfl⟩
abbrev main_call1_call0_call0_v147 : Ref sig .tc := ⟨.hbm, 501, rfl⟩
abbrev main_call1_call0_call0_v148 : Ref sig .tc := ⟨.hbm, 502, rfl⟩
abbrev main_call1_call0_call0_v149 : Ref sig .tc := ⟨.hbm, 503, rfl⟩
abbrev main_call1_call0_call0_c_38 : Ref sig .tc := ⟨.hbm, 504, rfl⟩
abbrev main_call1_call0_call0_v150 : Ref sig .tc := ⟨.hbm, 505, rfl⟩
abbrev main_call1_call0_call0_v151 : Ref sig .tc := ⟨.hbm, 506, rfl⟩
abbrev main_call1_call0_call0_c_39 : Ref sig .tc := ⟨.hbm, 507, rfl⟩
abbrev main_call1_call0_call0_v152 : Ref sig .tc := ⟨.hbm, 508, rfl⟩
abbrev main_call1_call0_call0_v153 : Ref sig .tc := ⟨.hbm, 509, rfl⟩
abbrev main_call1_call0_call0_v154 : Ref sig .tc := ⟨.hbm, 510, rfl⟩
abbrev main_call1_call0_call0_v155 : Ref sig .tc := ⟨.hbm, 511, rfl⟩
abbrev main_call1_call0_call0_v156 : Ref sig .tc := ⟨.hbm, 512, rfl⟩
abbrev main_call1_call0_call0_c_40 : Ref sig .tc := ⟨.hbm, 513, rfl⟩
abbrev main_call1_call0_call0_v157 : Ref sig .tc := ⟨.hbm, 514, rfl⟩
abbrev main_call1_call0_call0_v158 : Ref sig .tc := ⟨.hbm, 515, rfl⟩
abbrev main_call1_call0_call0_c_41 : Ref sig .tc := ⟨.hbm, 516, rfl⟩
abbrev main_call1_call0_call0_v159 : Ref sig .tc := ⟨.hbm, 517, rfl⟩
abbrev main_call1_call0_call0_v160 : Ref sig .tc := ⟨.hbm, 518, rfl⟩
abbrev main_call1_call0_call0_v161 : Ref sig .tc := ⟨.hbm, 519, rfl⟩
abbrev main_call1_call0_call0_v162 : Ref sig .tc := ⟨.hbm, 520, rfl⟩
abbrev main_call1_call0_call0_v163 : Ref sig .tc := ⟨.hbm, 521, rfl⟩
abbrev main_call1_call0_call0_c_42 : Ref sig .tc := ⟨.hbm, 522, rfl⟩
abbrev main_call1_call0_call0_v164 : Ref sig .tc := ⟨.hbm, 523, rfl⟩
abbrev main_call1_call0_call0_v165 : Ref sig .tc := ⟨.hbm, 524, rfl⟩
abbrev main_call1_call0_call0_c_43 : Ref sig .tc := ⟨.hbm, 525, rfl⟩
abbrev main_call1_call0_call0_v166 : Ref sig .tc := ⟨.hbm, 526, rfl⟩
abbrev main_call1_call0_call0_v167 : Ref sig .tc := ⟨.hbm, 527, rfl⟩
abbrev main_call1_call0_call0_v168 : Ref sig .tc := ⟨.hbm, 528, rfl⟩
abbrev main_call1_call0_call0_v169 : Ref sig .tc := ⟨.hbm, 529, rfl⟩
abbrev main_call1_call0_call0_v170 : Ref sig .tc := ⟨.hbm, 530, rfl⟩
abbrev main_call1_call0_v18_0 : Ref sig .tc := ⟨.hbm, 531, rfl⟩
abbrev main_call1_call0_call0_v172 : Ref sig .tc := ⟨.hbm, 532, rfl⟩
abbrev main_call1_call0_call0_v173 : Ref sig .tc := ⟨.hbm, 533, rfl⟩
abbrev main_call1_call0_call0_c_44 : Ref sig .tc := ⟨.hbm, 534, rfl⟩
abbrev main_call1_call0_call0_v174 : Ref sig .tc := ⟨.hbm, 535, rfl⟩
abbrev main_call1_call0_v18_1 : Ref sig .tc := ⟨.hbm, 536, rfl⟩
abbrev main_call1_call0_v19 : Ref sig .tc := ⟨.hbm, 537, rfl⟩
abbrev main_call1_call0_c_2 : Ref sig .tc := ⟨.hbm, 538, rfl⟩
abbrev main_call1_call0_v20 : Ref sig .tc := ⟨.hbm, 539, rfl⟩
abbrev main_call1_call0_v21 : Ref sig .tc := ⟨.hbm, 540, rfl⟩
abbrev main_call1_call0_c_3 : Ref sig .tc := ⟨.hbm, 541, rfl⟩
abbrev main_call1_call0_v22 : Ref sig .tc := ⟨.hbm, 542, rfl⟩
abbrev main_call1_call0_v23 : Ref sig .tc := ⟨.hbm, 543, rfl⟩
abbrev main_call1_call0_v24 : Ref sig .tc := ⟨.hbm, 544, rfl⟩
abbrev main_call1_call0_cst : Ref sig .tc := ⟨.hbm, 545, rfl⟩
abbrev main_call1_call0_v25 : Ref sig .tc := ⟨.hbm, 546, rfl⟩
abbrev main_call1_call0_v26 : Ref sig .tc := ⟨.hbm, 547, rfl⟩
abbrev main_call1_call0_v27 : Ref sig .tc := ⟨.hbm, 548, rfl⟩
abbrev main_call1_call0_v28 : Ref sig .tc := ⟨.hbm, 549, rfl⟩
abbrev main_call1_call0_v29 : Ref sig .tc := ⟨.hbm, 550, rfl⟩
abbrev main_call1_call0_v30 : Ref sig .tc := ⟨.hbm, 551, rfl⟩
abbrev main_call1_call0_v31 : Ref sig .tc := ⟨.hbm, 552, rfl⟩
abbrev main_call1_call0_v32 : Ref sig .tc := ⟨.hbm, 553, rfl⟩
abbrev main_call1_v0 : Ref sig .tc := ⟨.hbm, 554, rfl⟩
abbrev main_call1_v1 : Ref sig .tc := ⟨.hbm, 555, rfl⟩
abbrev main_call1_v2 : Ref sig .tc := ⟨.hbm, 556, rfl⟩
abbrev main_call1_v3 : Ref sig .tc := ⟨.hbm, 557, rfl⟩
abbrev main_v40 : Ref sig .tc := ⟨.hbm, 558, rfl⟩
abbrev main_cst_9 : Ref sig .tc := ⟨.hbm, 559, rfl⟩
abbrev main_v41 : Ref sig .tc := ⟨.hbm, 560, rfl⟩
abbrev main_v42 : Ref sig .tc := ⟨.hbm, 561, rfl⟩
abbrev main_v43 : Ref sig .tc := ⟨.hbm, 562, rfl⟩
abbrev main_v44 : Ref sig .tc := ⟨.hbm, 563, rfl⟩
abbrev main_v45 : Ref sig .tc := ⟨.hbm, 564, rfl⟩
abbrev main_v46_0 : Ref sig .tc := ⟨.hbm, 565, rfl⟩
abbrev main_v46_1 : Ref sig .tc := ⟨.hbm, 566, rfl⟩
abbrev main_v47 : Ref sig .tc := ⟨.hbm, 567, rfl⟩
abbrev main_v48 : Ref sig .tc := ⟨.hbm, 568, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2x4096x3 : Shape := ⟨3, ![2, 4096, 3]⟩
abbrev S_ : Shape := ⟨0, ![]⟩
abbrev S3 : Shape := ⟨1, ![3]⟩
abbrev S2x4096 : Shape := ⟨2, ![2, 4096]⟩
abbrev S2x4096x4096 : Shape := ⟨3, ![2, 4096, 4096]⟩
abbrev S2x4096x1 : Shape := ⟨3, ![2, 4096, 1]⟩
abbrev S2x1x4096 : Shape := ⟨3, ![2, 1, 4096]⟩
abbrev S2x4096x16 : Shape := ⟨3, ![2, 4096, 16]⟩
abbrev S2x4096x16x1 : Shape := ⟨4, ![2, 4096, 16, 1]⟩
abbrev S2x4096x16x3 : Shape := ⟨4, ![2, 4096, 16, 3]⟩
abbrev S1 : Shape := ⟨1, ![1]⟩
abbrev S2x1024 : Shape := ⟨2, ![2, 1024]⟩
abbrev S2x1024x1 : Shape := ⟨3, ![2, 1024, 1]⟩
abbrev S2x1024x3 : Shape := ⟨3, ![2, 1024, 3]⟩

abbrev nBuf : Space → Nat
  | .hbm => 1627
  | .vmem => 0
  | .smem => 0
  | _ => 0

abbrev hbmTy0_0 (i : Nat) : BufTy := match i % 128 with
  | 0 => ⟨S2x4096x3, .f32⟩
  | 1 => ⟨S_, .f32⟩
  | 2 => ⟨S_, .f32⟩
  | 3 => ⟨S_, .f32⟩
  | 4 => ⟨S3, .f32⟩
  | 5 => ⟨S2x4096x3, .f32⟩
  | 6 => ⟨S_, .f32⟩
  | 7 => ⟨S2x4096, .f32⟩
  | 8 => ⟨S2x4096x4096, .f32⟩
  | 9 => ⟨S2x4096x1, .f32⟩
  | 10 => ⟨S2x1x4096, .f32⟩
  | 11 => ⟨S2x4096x4096, .f32⟩
  | 12 => ⟨S2x4096x4096, .f32⟩
  | 13 => ⟨S2x4096x4096, .f32⟩
  | 14 => ⟨S_, .f32⟩
  | 15 => ⟨S2x4096x4096, .f32⟩
  | 16 => ⟨S2x4096x4096, .f32⟩
  | 17 => ⟨S2x4096x4096, .f32⟩
  | 18 => ⟨S_, .f32⟩
  | 19 => ⟨S2x4096x4096, .f32⟩
  | 20 => ⟨S2x4096x4096, .f32⟩
  | 21 => ⟨S2x4096x4096, .f32⟩
  | 22 => ⟨S2x4096x4096, .i32⟩
  | 23 => ⟨S2x4096x4096, .f32⟩
  | 24 => ⟨S2x4096x4096, .i32⟩
  | 25 => ⟨S2x4096x16, .i32⟩
  | 26 => ⟨S_, .i32⟩
  | 27 => ⟨S2x4096x16, .i32⟩
  | 28 => ⟨S2x4096x16, .i1⟩
  | 29 => ⟨S_, .i32⟩
  | 30 => ⟨S2x4096x16, .i32⟩
  | 31 => ⟨S2x4096x16, .i32⟩
  | 32 => ⟨S2x4096x16, .i32⟩
  | 33 => ⟨S2x4096x16x1, .i32⟩
  | 34 => ⟨S2x4096x16x3, .f32⟩
  | 35 => ⟨S2x4096x16x1, .f32⟩
  | 36 => ⟨S2x4096x16, .f32⟩
  | 37 => ⟨S2x4096x16x1, .f32⟩
  | 38 => ⟨S2x4096x16, .f32⟩
  | 39 => ⟨S_, .f32⟩
  | 40 => ⟨S2x4096, .f32⟩
  | 41 => ⟨S2x4096x1, .f32⟩
  | 42 => ⟨S_, .f32⟩
  | 43 => ⟨S2x4096x1, .f32⟩
  | 44 => ⟨S2x4096x1, .f32⟩
  | 45 => ⟨S2x4096x16, .f32⟩
  | 46 => ⟨S2x4096x16, .f32⟩
  | 47 => ⟨S2x4096x16x1, .f32⟩
  | 48 => ⟨S2x4096x16, .f32⟩
  | 49 => ⟨S2x4096x16x1, .f32⟩
  | 50 => ⟨S2x4096x16, .f32⟩
  | 51 => ⟨S_, .f32⟩
  | 52 => ⟨S2x4096, .f32⟩
  | 53 => ⟨S2x4096x1, .f32⟩
  | 54 => ⟨S_, .f32⟩
  | 55 => ⟨S2x4096x1, .f32⟩
  | 56 => ⟨S2x4096x1, .f32⟩
  | 57 => ⟨S2x4096x16, .f32⟩
  | 58 => ⟨S2x4096x16, .f32⟩
  | 59 => ⟨S2x4096x16x1, .f32⟩
  | 60 => ⟨S2x4096x16, .f32⟩
  | 61 => ⟨S2x4096x16x1, .f32⟩
  | 62 => ⟨S2x4096x16, .f32⟩
  | 63 => ⟨S_, .f32⟩
  | 64 => ⟨S2x4096, .f32⟩
  | 65 => ⟨S2x4096x1, .f32⟩
  | 66 => ⟨S_, .f32⟩
  | 67 => ⟨S2x4096x1, .f32⟩
  | 68 => ⟨S2x4096x1, .f32⟩
  | 69 => ⟨S2x4096x16, .f32⟩
  | 70 => ⟨S2x4096x16, .f32⟩
  | 71 => ⟨S2x4096x16, .f32⟩
  | 72 => ⟨S_, .f32⟩
  | 73 => ⟨S2x4096, .f32⟩
  | 74 => ⟨S_, .f32⟩
  | 75 => ⟨S2x4096, .f32⟩
  | 76 => ⟨S2x4096, .f32⟩
  | 77 => ⟨S2x4096x16, .f32⟩
  | 78 => ⟨S_, .f32⟩
  | 79 => ⟨S2x4096, .f32⟩
  | 80 => ⟨S_, .f32⟩
  | 81 => ⟨S2x4096, .f32⟩
  | 82 => ⟨S2x4096, .f32⟩
  | 83 => ⟨S2x4096x16, .f32⟩
  | 84 => ⟨S_, .f32⟩
  | 85 => ⟨S2x4096, .f32⟩
  | 86 => ⟨S_, .f32⟩
  | 87 => ⟨S2x4096, .f32⟩
  | 88 => ⟨S2x4096, .f32⟩
  | 89 => ⟨S2x4096x16, .f32⟩
  | 90 => ⟨S_, .f32⟩
  | 91 => ⟨S2x4096, .f32⟩
  | 92 => ⟨S_, .f32⟩
  | 93 => ⟨S2x4096, .f32⟩
  | 94 => ⟨S2x4096, .f32⟩
  | 95 => ⟨S2x4096x16, .f32⟩
  | 96 => ⟨S_, .f32⟩
  | 97 => ⟨S2x4096, .f32⟩
  | 98 => ⟨S_, .f32⟩
  | 99 => ⟨S2x4096, .f32⟩
  | 100 => ⟨S2x4096, .f32⟩
  | 101 => ⟨S2x4096x16, .f32⟩
  | 102 => ⟨S_, .f32⟩
  | 103 => ⟨S2x4096, .f32⟩
  | 104 => ⟨S_, .f32⟩
  | 105 => ⟨S2x4096, .f32⟩
  | 106 => ⟨S2x4096, .f32⟩
  | 107 => ⟨S2x4096, .f32⟩
  | 108 => ⟨S_, .f32⟩
  | 109 => ⟨S2x4096, .f32⟩
  | 110 => ⟨S2x4096, .f32⟩
  | 111 => ⟨S2x4096, .f32⟩
  | 112 => ⟨S2x4096, .f32⟩
  | 113 => ⟨S_, .f32⟩
  | 114 => ⟨S2x4096, .f32⟩
  | 115 => ⟨S2x4096, .f32⟩
  | 116 => ⟨S2x4096, .f32⟩
  | 117 => ⟨S_, .f32⟩
  | 118 => ⟨S2x4096, .f32⟩
  | 119 => ⟨S2x4096, .i1⟩
  | 120 => ⟨S2x4096, .f32⟩
  | 121 => ⟨S_, .f32⟩
  | 122 => ⟨S2x4096, .f32⟩
  | 123 => ⟨S2x4096, .f32⟩
  | 124 => ⟨S2x4096, .f32⟩
  | 125 => ⟨S_, .f32⟩
  | 126 => ⟨S2x4096, .f32⟩
  | 127 => ⟨S2x4096, .f32⟩
  | _ => ⟨S2x4096x3, .f32⟩

abbrev hbmTy0_1 (i : Nat) : BufTy := match i % 128 with
  | 0 => ⟨S2x4096, .f32⟩
  | 1 => ⟨S2x4096, .f32⟩
  | 2 => ⟨S_, .f32⟩
  | 3 => ⟨S2x4096, .f32⟩
  | 4 => ⟨S2x4096, .f32⟩
  | 5 => ⟨S2x4096, .f32⟩
  | 6 => ⟨S_, .f32⟩
  | 7 => ⟨S2x4096, .f32⟩
  | 8 => ⟨S2x4096, .f32⟩
  | 9 => ⟨S_, .f32⟩
  | 10 => ⟨S2x4096, .f32⟩
  | 11 => ⟨S2x4096, .i1⟩
  | 12 => ⟨S_, .f32⟩
  | 13 => ⟨S_, .f32⟩
  | 14 => ⟨S2x4096, .f32⟩
  | 15 => ⟨S2x4096, .f32⟩
  | 16 => ⟨S2x4096, .f32⟩
  | 17 => ⟨S_, .f32⟩
  | 18 => ⟨S_, .f32⟩
  | 19 => ⟨S2x4096, .f32⟩
  | 20 => ⟨S2x4096, .f32⟩
  | 21 => ⟨S2x4096, .f32⟩
  | 22 => ⟨S2x4096, .f32⟩
  | 23 => ⟨S2x4096, .f32⟩
  | 24 => ⟨S2x4096, .f32⟩
  | 25 => ⟨S_, .f32⟩
  | 26 => ⟨S2x4096, .f32⟩
  | 27 => ⟨S2x4096, .f32⟩
  | 28 => ⟨S2x4096, .f32⟩
  | 29 => ⟨S2x4096, .f32⟩
  | 30 => ⟨S2x4096, .f32⟩
  | 31 => ⟨S2x4096, .f32⟩
  | 32 => ⟨S2x4096, .f32⟩
  | 33 => ⟨S2x4096, .f32⟩
  | 34 => ⟨S2x4096, .f32⟩
  | 35 => ⟨S2x4096, .f32⟩
  | 36 => ⟨S_, .f32⟩
  | 37 => ⟨S2x4096, .f32⟩
  | 38 => ⟨S2x4096, .f32⟩
  | 39 => ⟨S2x4096, .f32⟩
  | 40 => ⟨S2x4096, .f32⟩
  | 41 => ⟨S2x4096, .f32⟩
  | 42 => ⟨S2x4096, .f32⟩
  | 43 => ⟨S2x4096, .f32⟩
  | 44 => ⟨S2x4096, .f32⟩
  | 45 => ⟨S2x4096, .f32⟩
  | 46 => ⟨S2x4096, .f32⟩
  | 47 => ⟨S2x4096, .f32⟩
  | 48 => ⟨S2x4096, .f32⟩
  | 49 => ⟨S2x4096, .f32⟩
  | 50 => ⟨S2x4096, .f32⟩
  | 51 => ⟨S2x4096, .f32⟩
  | 52 => ⟨S2x4096, .f32⟩
  | 53 => ⟨S2x4096, .f32⟩
  | 54 => ⟨S2x4096, .f32⟩
  | 55 => ⟨S2x4096, .f32⟩
  | 56 => ⟨S2x4096, .f32⟩
  | 57 => ⟨S2x4096, .f32⟩
  | 58 => ⟨S_, .f32⟩
  | 59 => ⟨S2x4096, .f32⟩
  | 60 => ⟨S2x4096, .f32⟩
  | 61 => ⟨S2x4096, .f32⟩
  | 62 => ⟨S2x4096, .f32⟩
  | 63 => ⟨S_, .f32⟩
  | 64 => ⟨S2x4096, .f32⟩
  | 65 => ⟨S2x4096, .f32⟩
  | 66 => ⟨S2x4096, .f32⟩
  | 67 => ⟨S_, .f32⟩
  | 68 => ⟨S2x4096, .f32⟩
  | 69 => ⟨S2x4096, .i1⟩
  | 70 => ⟨S2x4096, .f32⟩
  | 71 => ⟨S_, .f32⟩
  | 72 => ⟨S2x4096, .f32⟩
  | 73 => ⟨S2x4096, .f32⟩
  | 74 => ⟨S2x4096, .f32⟩
  | 75 => ⟨S_, .f32⟩
  | 76 => ⟨S2x4096, .f32⟩
  | 77 => ⟨S2x4096, .f32⟩
  | 78 => ⟨S2x4096, .f32⟩
  | 79 => ⟨S2x4096, .f32⟩
  | 80 => ⟨S_, .f32⟩
  | 81 => ⟨S2x4096, .f32⟩
  | 82 => ⟨S2x4096, .f32⟩
  | 83 => ⟨S2x4096, .f32⟩
  | 84 => ⟨S_, .f32⟩
  | 85 => ⟨S2x4096, .f32⟩
  | 86 => ⟨S2x4096, .f32⟩
  | 87 => ⟨S_, .f32⟩
  | 88 => ⟨S2x4096, .f32⟩
  | 89 => ⟨S2x4096, .i1⟩
  | 90 => ⟨S_, .f32⟩
  | 91 => ⟨S_, .f32⟩
  | 92 => ⟨S2x4096, .f32⟩
  | 93 => ⟨S2x4096, .f32⟩
  | 94 => ⟨S2x4096, .f32⟩
  | 95 => ⟨S_, .f32⟩
  | 96 => ⟨S_, .f32⟩
  | 97 => ⟨S2x4096, .f32⟩
  | 98 => ⟨S2x4096, .f32⟩
  | 99 => ⟨S2x4096, .f32⟩
  | 100 => ⟨S2x4096, .f32⟩
  | 101 => ⟨S2x4096, .f32⟩
  | 102 => ⟨S2x4096, .f32⟩
  | 103 => ⟨S_, .f32⟩
  | 104 => ⟨S2x4096, .f32⟩
  | 105 => ⟨S2x4096, .f32⟩
  | 106 => ⟨S2x4096, .f32⟩
  | 107 => ⟨S2x4096, .f32⟩
  | 108 => ⟨S2x4096, .f32⟩
  | 109 => ⟨S2x4096, .f32⟩
  | 110 => ⟨S2x4096, .f32⟩
  | 111 => ⟨S2x4096, .f32⟩
  | 112 => ⟨S2x4096, .f32⟩
  | 113 => ⟨S2x4096, .f32⟩
  | 114 => ⟨S_, .f32⟩
  | 115 => ⟨S2x4096, .f32⟩
  | 116 => ⟨S2x4096, .f32⟩
  | 117 => ⟨S2x4096, .f32⟩
  | 118 => ⟨S2x4096, .f32⟩
  | 119 => ⟨S2x4096, .f32⟩
  | 120 => ⟨S2x4096, .f32⟩
  | 121 => ⟨S2x4096, .f32⟩
  | 122 => ⟨S2x4096, .f32⟩
  | 123 => ⟨S2x4096, .f32⟩
  | 124 => ⟨S2x4096, .f32⟩
  | 125 => ⟨S2x4096, .f32⟩
  | 126 => ⟨S2x4096, .f32⟩
  | 127 => ⟨S2x4096, .f32⟩
  | _ => ⟨S2x4096x3, .f32⟩

abbrev hbmTy0_2 (i : Nat) : BufTy := match i % 128 with
  | 0 => ⟨S2x4096, .f32⟩
  | 1 => ⟨S2x4096, .f32⟩
  | 2 => ⟨S2x4096, .f32⟩
  | 3 => ⟨S2x4096, .f32⟩
  | 4 => ⟨S2x4096, .f32⟩
  | 5 => ⟨S2x4096, .f32⟩
  | 6 => ⟨S2x4096, .f32⟩
  | 7 => ⟨S2x4096, .f32⟩
  | 8 => ⟨S_, .f32⟩
  | 9 => ⟨S2x4096, .f32⟩
  | 10 => ⟨S2x4096, .f32⟩
  | 11 => ⟨S2x4096, .f32⟩
  | 12 => ⟨S2x4096, .f32⟩
  | 13 => ⟨S_, .f32⟩
  | 14 => ⟨S2x4096, .f32⟩
  | 15 => ⟨S2x4096, .f32⟩
  | 16 => ⟨S2x4096, .f32⟩
  | 17 => ⟨S_, .f32⟩
  | 18 => ⟨S2x4096, .f32⟩
  | 19 => ⟨S2x4096, .i1⟩
  | 20 => ⟨S2x4096, .f32⟩
  | 21 => ⟨S_, .f32⟩
  | 22 => ⟨S2x4096, .f32⟩
  | 23 => ⟨S2x4096, .f32⟩
  | 24 => ⟨S2x4096, .f32⟩
  | 25 => ⟨S_, .f32⟩
  | 26 => ⟨S2x4096, .f32⟩
  | 27 => ⟨S2x4096, .f32⟩
  | 28 => ⟨S2x4096, .f32⟩
  | 29 => ⟨S2x4096, .f32⟩
  | 30 => ⟨S_, .f32⟩
  | 31 => ⟨S2x4096, .f32⟩
  | 32 => ⟨S2x4096, .f32⟩
  | 33 => ⟨S2x4096, .f32⟩
  | 34 => ⟨S_, .f32⟩
  | 35 => ⟨S2x4096, .f32⟩
  | 36 => ⟨S2x4096, .f32⟩
  | 37 => ⟨S_, .f32⟩
  | 38 => ⟨S2x4096, .f32⟩
  | 39 => ⟨S2x4096, .i1⟩
  | 40 => ⟨S_, .f32⟩
  | 41 => ⟨S_, .f32⟩
  | 42 => ⟨S2x4096, .f32⟩
  | 43 => ⟨S2x4096, .f32⟩
  | 44 => ⟨S2x4096, .f32⟩
  | 45 => ⟨S_, .f32⟩
  | 46 => ⟨S_, .f32⟩
  | 47 => ⟨S2x4096, .f32⟩
  | 48 => ⟨S2x4096, .f32⟩
  | 49 => ⟨S2x4096, .f32⟩
  | 50 => ⟨S2x4096, .f32⟩
  | 51 => ⟨S2x4096, .f32⟩
  | 52 => ⟨S2x4096, .f32⟩
  | 53 => ⟨S_, .f32⟩
  | 54 => ⟨S2x4096, .f32⟩
  | 55 => ⟨S2x4096, .f32⟩
  | 56 => ⟨S2x4096, .f32⟩
  | 57 => ⟨S2x4096, .f32⟩
  | 58 => ⟨S2x4096, .f32⟩
  | 59 => ⟨S2x4096, .f32⟩
  | 60 => ⟨S2x4096, .f32⟩
  | 61 => ⟨S2x4096, .f32⟩
  | 62 => ⟨S2x4096, .f32⟩
  | 63 => ⟨S2x4096, .f32⟩
  | 64 => ⟨S_, .f32⟩
  | 65 => ⟨S2x4096, .f32⟩
  | 66 => ⟨S2x4096, .f32⟩
  | 67 => ⟨S2x4096, .f32⟩
  | 68 => ⟨S2x4096, .f32⟩
  | 69 => ⟨S2x4096, .f32⟩
  | 70 => ⟨S2x4096, .f32⟩
  | 71 => ⟨S2x4096, .f32⟩
  | 72 => ⟨S2x4096, .f32⟩
  | 73 => ⟨S2x4096, .f32⟩
  | 74 => ⟨S2x4096, .f32⟩
  | 75 => ⟨S2x4096, .f32⟩
  | 76 => ⟨S2x4096, .f32⟩
  | 77 => ⟨S2x4096, .f32⟩
  | 78 => ⟨S2x4096, .f32⟩
  | 79 => ⟨S2x4096, .f32⟩
  | 80 => ⟨S2x4096, .f32⟩
  | 81 => ⟨S2x4096, .f32⟩
  | 82 => ⟨S2x4096, .f32⟩
  | 83 => ⟨S2x4096, .f32⟩
  | 84 => ⟨S2x4096, .f32⟩
  | 85 => ⟨S2x4096, .f32⟩
  | 86 => ⟨S_, .f32⟩
  | 87 => ⟨S2x4096, .f32⟩
  | 88 => ⟨S2x4096, .f32⟩
  | 89 => ⟨S2x4096, .f32⟩
  | 90 => ⟨S2x4096, .f32⟩
  | 91 => ⟨S_, .f32⟩
  | 92 => ⟨S2x4096, .f32⟩
  | 93 => ⟨S2x4096, .f32⟩
  | 94 => ⟨S2x4096, .f32⟩
  | 95 => ⟨S_, .f32⟩
  | 96 => ⟨S2x4096, .f32⟩
  | 97 => ⟨S2x4096, .i1⟩
  | 98 => ⟨S2x4096, .f32⟩
  | 99 => ⟨S_, .f32⟩
  | 100 => ⟨S2x4096, .f32⟩
  | 101 => ⟨S2x4096, .f32⟩
  | 102 => ⟨S2x4096, .f32⟩
  | 103 => ⟨S_, .f32⟩
  | 104 => ⟨S2x4096, .f32⟩
  | 105 => ⟨S2x4096, .f32⟩
  | 106 => ⟨S2x4096, .f32⟩
  | 107 => ⟨S2x4096, .f32⟩
  | 108 => ⟨S_, .f32⟩
  | 109 => ⟨S2x4096, .f32⟩
  | 110 => ⟨S2x4096, .f32⟩
  | 111 => ⟨S2x4096, .f32⟩
  | 112 => ⟨S_, .f32⟩
  | 113 => ⟨S2x4096, .f32⟩
  | 114 => ⟨S2x4096, .f32⟩
  | 115 => ⟨S_, .f32⟩
  | 116 => ⟨S2x4096, .f32⟩
  | 117 => ⟨S2x4096, .i1⟩
  | 118 => ⟨S_, .f32⟩
  | 119 => ⟨S_, .f32⟩
  | 120 => ⟨S2x4096, .f32⟩
  | 121 => ⟨S2x4096, .f32⟩
  | 122 => ⟨S2x4096, .f32⟩
  | 123 => ⟨S_, .f32⟩
  | 124 => ⟨S_, .f32⟩
  | 125 => ⟨S2x4096, .f32⟩
  | 126 => ⟨S2x4096, .f32⟩
  | 127 => ⟨S2x4096, .f32⟩
  | _ => ⟨S2x4096x3, .f32⟩

abbrev hbmTy0_3 (i : Nat) : BufTy := match i % 128 with
  | 0 => ⟨S2x4096, .f32⟩
  | 1 => ⟨S2x4096, .f32⟩
  | 2 => ⟨S2x4096, .f32⟩
  | 3 => ⟨S_, .f32⟩
  | 4 => ⟨S2x4096, .f32⟩
  | 5 => ⟨S2x4096, .f32⟩
  | 6 => ⟨S2x4096, .f32⟩
  | 7 => ⟨S2x4096, .f32⟩
  | 8 => ⟨S2x4096, .f32⟩
  | 9 => ⟨S2x4096, .f32⟩
  | 10 => ⟨S2x4096, .f32⟩
  | 11 => ⟨S2x4096, .f32⟩
  | 12 => ⟨S2x4096, .f32⟩
  | 13 => ⟨S2x4096, .f32⟩
  | 14 => ⟨S_, .f32⟩
  | 15 => ⟨S2x4096, .f32⟩
  | 16 => ⟨S2x4096, .f32⟩
  | 17 => ⟨S2x4096, .f32⟩
  | 18 => ⟨S2x4096, .f32⟩
  | 19 => ⟨S2x4096, .f32⟩
  | 20 => ⟨S2x4096, .f32⟩
  | 21 => ⟨S2x4096, .f32⟩
  | 22 => ⟨S2x4096, .f32⟩
  | 23 => ⟨S2x4096, .f32⟩
  | 24 => ⟨S2x4096, .f32⟩
  | 25 => ⟨S2x4096, .f32⟩
  | 26 => ⟨S2x4096, .f32⟩
  | 27 => ⟨S2x4096, .f32⟩
  | 28 => ⟨S2x4096, .f32⟩
  | 29 => ⟨S2x4096, .f32⟩
  | 30 => ⟨S2x4096, .f32⟩
  | 31 => ⟨S2x4096, .f32⟩
  | 32 => ⟨S2x4096, .f32⟩
  | 33 => ⟨S2x4096, .f32⟩
  | 34 => ⟨S2x4096, .f32⟩
  | 35 => ⟨S2x4096, .f32⟩
  | 36 => ⟨S_, .f32⟩
  | 37 => ⟨S2x4096, .f32⟩
  | 38 => ⟨S2x4096, .f32⟩
  | 39 => ⟨S2x4096, .f32⟩
  | 40 => ⟨S2x4096, .f32⟩
  | 41 => ⟨S_, .f32⟩
  | 42 => ⟨S2x4096, .f32⟩
  | 43 => ⟨S2x4096, .f32⟩
  | 44 => ⟨S2x4096, .f32⟩
  | 45 => ⟨S_, .f32⟩
  | 46 => ⟨S2x4096, .f32⟩
  | 47 => ⟨S2x4096, .i1⟩
  | 48 => ⟨S2x4096, .f32⟩
  | 49 => ⟨S_, .f32⟩
  | 50 => ⟨S2x4096, .f32⟩
  | 51 => ⟨S2x4096, .f32⟩
  | 52 => ⟨S2x4096, .f32⟩
  | 53 => ⟨S_, .f32⟩
  | 54 => ⟨S2x4096, .f32⟩
  | 55 => ⟨S2x4096, .f32⟩
  | 56 => ⟨S2x4096, .f32⟩
  | 57 => ⟨S2x4096, .f32⟩
  | 58 => ⟨S_, .f32⟩
  | 59 => ⟨S2x4096, .f32⟩
  | 60 => ⟨S2x4096, .f32⟩
  | 61 => ⟨S2x4096, .f32⟩
  | 62 => ⟨S_, .f32⟩
  | 63 => ⟨S2x4096, .f32⟩
  | 64 => ⟨S2x4096, .f32⟩
  | 65 => ⟨S_, .f32⟩
  | 66 => ⟨S2x4096, .f32⟩
  | 67 => ⟨S2x4096, .i1⟩
  | 68 => ⟨S_, .f32⟩
  | 69 => ⟨S_, .f32⟩
  | 70 => ⟨S2x4096, .f32⟩
  | 71 => ⟨S2x4096, .f32⟩
  | 72 => ⟨S2x4096, .f32⟩
  | 73 => ⟨S_, .f32⟩
  | 74 => ⟨S_, .f32⟩
  | 75 => ⟨S2x4096, .f32⟩
  | 76 => ⟨S2x4096, .f32⟩
  | 77 => ⟨S2x4096, .f32⟩
  | 78 => ⟨S2x4096, .f32⟩
  | 79 => ⟨S2x4096, .f32⟩
  | 80 => ⟨S2x4096, .f32⟩
  | 81 => ⟨S_, .f32⟩
  | 82 => ⟨S2x4096, .f32⟩
  | 83 => ⟨S2x4096, .f32⟩
  | 84 => ⟨S2x4096, .f32⟩
  | 85 => ⟨S2x4096, .f32⟩
  | 86 => ⟨S2x4096, .f32⟩
  | 87 => ⟨S2x4096, .f32⟩
  | 88 => ⟨S2x4096, .f32⟩
  | 89 => ⟨S2x4096, .f32⟩
  | 90 => ⟨S2x4096, .f32⟩
  | 91 => ⟨S2x4096, .f32⟩
  | 92 => ⟨S_, .f32⟩
  | 93 => ⟨S2x4096, .f32⟩
  | 94 => ⟨S2x4096, .f32⟩
  | 95 => ⟨S2x4096, .f32⟩
  | 96 => ⟨S2x4096, .f32⟩
  | 97 => ⟨S2x4096, .f32⟩
  | 98 => ⟨S2x4096, .f32⟩
  | 99 => ⟨S2x4096, .f32⟩
  | 100 => ⟨S2x4096, .f32⟩
  | 101 => ⟨S2x4096, .f32⟩
  | 102 => ⟨S2x4096, .f32⟩
  | 103 => ⟨S2x4096, .f32⟩
  | 104 => ⟨S2x4096, .f32⟩
  | 105 => ⟨S2x4096, .f32⟩
  | 106 => ⟨S2x4096, .f32⟩
  | 107 => ⟨S2x4096, .f32⟩
  | 108 => ⟨S2x4096, .f32⟩
  | 109 => ⟨S2x4096, .f32⟩
  | 110 => ⟨S2x4096, .f32⟩
  | 111 => ⟨S2x4096, .f32⟩
  | 112 => ⟨S2x4096, .f32⟩
  | 113 => ⟨S2x4096, .f32⟩
  | 114 => ⟨S_, .f32⟩
  | 115 => ⟨S2x4096, .f32⟩
  | 116 => ⟨S2x4096, .f32⟩
  | 117 => ⟨S2x4096, .f32⟩
  | 118 => ⟨S2x4096, .f32⟩
  | 119 => ⟨S_, .f32⟩
  | 120 => ⟨S2x4096, .f32⟩
  | 121 => ⟨S2x4096, .f32⟩
  | 122 => ⟨S2x4096, .f32⟩
  | 123 => ⟨S_, .f32⟩
  | 124 => ⟨S2x4096, .f32⟩
  | 125 => ⟨S2x4096, .i1⟩
  | 126 => ⟨S2x4096, .f32⟩
  | 127 => ⟨S_, .f32⟩
  | _ => ⟨S2x4096x3, .f32⟩

abbrev hbmTy0_4 (i : Nat) : BufTy := match i % 128 with
  | 0 => ⟨S2x4096, .f32⟩
  | 1 => ⟨S2x4096, .f32⟩
  | 2 => ⟨S2x4096, .f32⟩
  | 3 => ⟨S_, .f32⟩
  | 4 => ⟨S2x4096, .f32⟩
  | 5 => ⟨S2x4096, .f32⟩
  | 6 => ⟨S2x4096, .f32⟩
  | 7 => ⟨S2x4096, .f32⟩
  | 8 => ⟨S_, .f32⟩
  | 9 => ⟨S2x4096, .f32⟩
  | 10 => ⟨S2x4096, .f32⟩
  | 11 => ⟨S2x4096, .f32⟩
  | 12 => ⟨S_, .f32⟩
  | 13 => ⟨S2x4096, .f32⟩
  | 14 => ⟨S2x4096, .f32⟩
  | 15 => ⟨S_, .f32⟩
  | 16 => ⟨S2x4096, .f32⟩
  | 17 => ⟨S2x4096, .i1⟩
  | 18 => ⟨S_, .f32⟩
  | 19 => ⟨S_, .f32⟩
  | 20 => ⟨S2x4096, .f32⟩
  | 21 => ⟨S2x4096, .f32⟩
  | 22 => ⟨S2x4096, .f32⟩
  | 23 => ⟨S_, .f32⟩
  | 24 => ⟨S_, .f32⟩
  | 25 => ⟨S2x4096, .f32⟩
  | 26 => ⟨S2x4096, .f32⟩
  | 27 => ⟨S2x4096, .f32⟩
  | 28 => ⟨S2x4096, .f32⟩
  | 29 => ⟨S2x4096, .f32⟩
  | 30 => ⟨S2x4096, .f32⟩
  | 31 => ⟨S_, .f32⟩
  | 32 => ⟨S2x4096, .f32⟩
  | 33 => ⟨S2x4096, .f32⟩
  | 34 => ⟨S2x4096, .f32⟩
  | 35 => ⟨S2x4096, .f32⟩
  | 36 => ⟨S2x4096, .f32⟩
  | 37 => ⟨S2x4096, .f32⟩
  | 38 => ⟨S2x4096, .f32⟩
  | 39 => ⟨S2x4096, .f32⟩
  | 40 => ⟨S2x4096, .f32⟩
  | 41 => ⟨S2x4096, .f32⟩
  | 42 => ⟨S_, .f32⟩
  | 43 => ⟨S2x4096, .f32⟩
  | 44 => ⟨S2x4096, .f32⟩
  | 45 => ⟨S2x4096, .f32⟩
  | 46 => ⟨S2x4096, .f32⟩
  | 47 => ⟨S2x4096, .f32⟩
  | 48 => ⟨S2x4096, .f32⟩
  | 49 => ⟨S2x4096, .f32⟩
  | 50 => ⟨S2x4096, .f32⟩
  | 51 => ⟨S2x4096, .f32⟩
  | 52 => ⟨S2x4096, .f32⟩
  | 53 => ⟨S2x4096, .f32⟩
  | 54 => ⟨S2x4096, .f32⟩
  | 55 => ⟨S2x4096, .f32⟩
  | 56 => ⟨S2x4096, .f32⟩
  | 57 => ⟨S2x4096, .f32⟩
  | 58 => ⟨S2x4096, .f32⟩
  | 59 => ⟨S2x4096, .f32⟩
  | 60 => ⟨S2x4096, .f32⟩
  | 61 => ⟨S2x4096, .f32⟩
  | 62 => ⟨S2x4096, .f32⟩
  | 63 => ⟨S2x4096, .f32⟩
  | 64 => ⟨S_, .f32⟩
  | 65 => ⟨S2x4096, .f32⟩
  | 66 => ⟨S2x4096, .f32⟩
  | 67 => ⟨S2x4096, .f32⟩
  | 68 => ⟨S2x4096, .f32⟩
  | 69 => ⟨S_, .f32⟩
  | 70 => ⟨S2x4096, .f32⟩
  | 71 => ⟨S2x4096, .f32⟩
  | 72 => ⟨S2x4096, .f32⟩
  | 73 => ⟨S_, .f32⟩
  | 74 => ⟨S2x4096, .f32⟩
  | 75 => ⟨S2x4096, .i1⟩
  | 76 => ⟨S2x4096, .f32⟩
  | 77 => ⟨S_, .f32⟩
  | 78 => ⟨S2x4096, .f32⟩
  | 79 => ⟨S2x4096, .f32⟩
  | 80 => ⟨S2x4096, .f32⟩
  | 81 => ⟨S_, .f32⟩
  | 82 => ⟨S2x4096, .f32⟩
  | 83 => ⟨S2x4096, .f32⟩
  | 84 => ⟨S2x4096, .f32⟩
  | 85 => ⟨S2x4096, .f32⟩
  | 86 => ⟨S_, .f32⟩
  | 87 => ⟨S2x4096, .f32⟩
  | 88 => ⟨S2x4096, .f32⟩
  | 89 => ⟨S2x4096, .f32⟩
  | 90 => ⟨S_, .f32⟩
  | 91 => ⟨S2x4096, .f32⟩
  | 92 => ⟨S2x4096, .f32⟩
  | 93 => ⟨S_, .f32⟩
  | 94 => ⟨S2x4096, .f32⟩
  | 95 => ⟨S2x4096, .i1⟩
  | 96 => ⟨S_, .f32⟩
  | 97 => ⟨S_, .f32⟩
  | 98 => ⟨S2x4096, .f32⟩
  | 99 => ⟨S2x4096, .f32⟩
  | 100 => ⟨S2x4096, .f32⟩
  | 101 => ⟨S_, .f32⟩
  | 102 => ⟨S_, .f32⟩
  | 103 => ⟨S2x4096, .f32⟩
  | 104 => ⟨S2x4096, .f32⟩
  | 105 => ⟨S2x4096, .f32⟩
  | 106 => ⟨S2x4096, .f32⟩
  | 107 => ⟨S2x4096, .f32⟩
  | 108 => ⟨S2x4096, .f32⟩
  | 109 => ⟨S_, .f32⟩
  | 110 => ⟨S2x4096, .f32⟩
  | 111 => ⟨S2x4096, .f32⟩
  | 112 => ⟨S2x4096, .f32⟩
  | 113 => ⟨S2x4096, .f32⟩
  | 114 => ⟨S2x4096, .f32⟩
  | 115 => ⟨S2x4096, .f32⟩
  | 116 => ⟨S2x4096, .f32⟩
  | 117 => ⟨S2x4096, .f32⟩
  | 118 => ⟨S2x4096, .f32⟩
  | 119 => ⟨S2x4096, .f32⟩
  | 120 => ⟨S_, .f32⟩
  | 121 => ⟨S2x4096, .f32⟩
  | 122 => ⟨S2x4096, .f32⟩
  | 123 => ⟨S2x4096, .f32⟩
  | 124 => ⟨S2x4096, .f32⟩
  | 125 => ⟨S2x4096, .f32⟩
  | 126 => ⟨S2x4096, .f32⟩
  | 127 => ⟨S2x4096, .f32⟩
  | _ => ⟨S2x4096x3, .f32⟩

abbrev hbmTy0_5 (i : Nat) : BufTy := match i % 128 with
  | 0 => ⟨S2x4096, .f32⟩
  | 1 => ⟨S2x4096, .f32⟩
  | 2 => ⟨S2x4096, .f32⟩
  | 3 => ⟨S2x4096, .f32⟩
  | 4 => ⟨S2x4096, .f32⟩
  | 5 => ⟨S2x4096, .f32⟩
  | 6 => ⟨S2x4096, .f32⟩
  | 7 => ⟨S2x4096, .f32⟩
  | 8 => ⟨S2x4096, .f32⟩
  | 9 => ⟨S2x4096, .f32⟩
  | 10 => ⟨S2x4096, .f32⟩
  | 11 => ⟨S2x4096, .f32⟩
  | 12 => ⟨S2x4096, .f32⟩
  | 13 => ⟨S2x4096, .f32⟩
  | 14 => ⟨S_, .f32⟩
  | 15 => ⟨S2x4096, .f32⟩
  | 16 => ⟨S2x4096, .f32⟩
  | 17 => ⟨S2x4096, .f32⟩
  | 18 => ⟨S2x4096, .f32⟩
  | 19 => ⟨S_, .f32⟩
  | 20 => ⟨S2x4096, .f32⟩
  | 21 => ⟨S2x4096, .f32⟩
  | 22 => ⟨S2x4096, .f32⟩
  | 23 => ⟨S_, .f32⟩
  | 24 => ⟨S2x4096, .f32⟩
  | 25 => ⟨S2x4096, .i1⟩
  | 26 => ⟨S2x4096, .f32⟩
  | 27 => ⟨S_, .f32⟩
  | 28 => ⟨S2x4096, .f32⟩
  | 29 => ⟨S2x4096, .f32⟩
  | 30 => ⟨S2x4096, .f32⟩
  | 31 => ⟨S_, .f32⟩
  | 32 => ⟨S2x4096, .f32⟩
  | 33 => ⟨S2x4096, .f32⟩
  | 34 => ⟨S2x4096, .f32⟩
  | 35 => ⟨S2x4096, .f32⟩
  | 36 => ⟨S_, .f32⟩
  | 37 => ⟨S2x4096, .f32⟩
  | 38 => ⟨S2x4096, .f32⟩
  | 39 => ⟨S2x4096, .f32⟩
  | 40 => ⟨S_, .f32⟩
  | 41 => ⟨S2x4096, .f32⟩
  | 42 => ⟨S2x4096, .f32⟩
  | 43 => ⟨S_, .f32⟩
  | 44 => ⟨S2x4096, .f32⟩
  | 45 => ⟨S2x4096, .i1⟩
  | 46 => ⟨S_, .f32⟩
  | 47 => ⟨S_, .f32⟩
  | 48 => ⟨S2x4096, .f32⟩
  | 49 => ⟨S2x4096, .f32⟩
  | 50 => ⟨S2x4096, .f32⟩
  | 51 => ⟨S_, .f32⟩
  | 52 => ⟨S_, .f32⟩
  | 53 => ⟨S2x4096, .f32⟩
  | 54 => ⟨S2x4096, .f32⟩
  | 55 => ⟨S2x4096, .f32⟩
  | 56 => ⟨S2x4096, .f32⟩
  | 57 => ⟨S2x4096, .f32⟩
  | 58 => ⟨S2x4096, .f32⟩
  | 59 => ⟨S_, .f32⟩
  | 60 => ⟨S2x4096, .f32⟩
  | 61 => ⟨S2x4096, .f32⟩
  | 62 => ⟨S2x4096, .f32⟩
  | 63 => ⟨S2x4096, .f32⟩
  | 64 => ⟨S2x4096, .f32⟩
  | 65 => ⟨S2x4096, .f32⟩
  | 66 => ⟨S2x4096, .f32⟩
  | 67 => ⟨S2x4096, .f32⟩
  | 68 => ⟨S2x4096, .f32⟩
  | 69 => ⟨S2x4096, .f32⟩
  | 70 => ⟨S_, .f32⟩
  | 71 => ⟨S2x4096, .f32⟩
  | 72 => ⟨S2x4096, .f32⟩
  | 73 => ⟨S2x4096, .f32⟩
  | 74 => ⟨S2x4096, .f32⟩
  | 75 => ⟨S2x4096, .f32⟩
  | 76 => ⟨S2x4096, .f32⟩
  | 77 => ⟨S2x4096, .f32⟩
  | 78 => ⟨S2x4096, .f32⟩
  | 79 => ⟨S2x4096, .f32⟩
  | 80 => ⟨S2x4096, .f32⟩
  | 81 => ⟨S2x4096, .f32⟩
  | 82 => ⟨S2x4096, .f32⟩
  | 83 => ⟨S2x4096, .f32⟩
  | 84 => ⟨S2x4096, .f32⟩
  | 85 => ⟨S2x4096, .f32⟩
  | 86 => ⟨S2x4096, .f32⟩
  | 87 => ⟨S2x4096, .f32⟩
  | 88 => ⟨S2x4096, .f32⟩
  | 89 => ⟨S2x4096, .f32⟩
  | 90 => ⟨S2x4096, .f32⟩
  | 91 => ⟨S2x4096, .f32⟩
  | 92 => ⟨S_, .f32⟩
  | 93 => ⟨S2x4096, .f32⟩
  | 94 => ⟨S2x4096, .f32⟩
  | 95 => ⟨S2x4096, .f32⟩
  | 96 => ⟨S2x4096, .f32⟩
  | 97 => ⟨S_, .f32⟩
  | 98 => ⟨S2x4096, .f32⟩
  | 99 => ⟨S2x4096, .f32⟩
  | 100 => ⟨S2x4096, .f32⟩
  | 101 => ⟨S_, .f32⟩
  | 102 => ⟨S2x4096, .f32⟩
  | 103 => ⟨S2x4096, .i1⟩
  | 104 => ⟨S2x4096, .f32⟩
  | 105 => ⟨S_, .f32⟩
  | 106 => ⟨S2x4096, .f32⟩
  | 107 => ⟨S2x4096, .f32⟩
  | 108 => ⟨S2x4096, .f32⟩
  | 109 => ⟨S_, .f32⟩
  | 110 => ⟨S2x4096, .f32⟩
  | 111 => ⟨S2x4096, .f32⟩
  | 112 => ⟨S2x4096, .f32⟩
  | 113 => ⟨S2x4096, .f32⟩
  | 114 => ⟨S_, .f32⟩
  | 115 => ⟨S2x4096, .f32⟩
  | 116 => ⟨S2x4096, .f32⟩
  | 117 => ⟨S2x4096, .f32⟩
  | 118 => ⟨S_, .f32⟩
  | 119 => ⟨S2x4096, .f32⟩
  | 120 => ⟨S2x4096, .f32⟩
  | 121 => ⟨S_, .f32⟩
  | 122 => ⟨S2x4096, .f32⟩
  | 123 => ⟨S2x4096, .i1⟩
  | 124 => ⟨S_, .f32⟩
  | 125 => ⟨S_, .f32⟩
  | 126 => ⟨S2x4096, .f32⟩
  | 127 => ⟨S2x4096, .f32⟩
  | _ => ⟨S2x4096x3, .f32⟩

abbrev hbmTy0_6 (i : Nat) : BufTy := match i % 128 with
  | 0 => ⟨S2x4096, .f32⟩
  | 1 => ⟨S_, .f32⟩
  | 2 => ⟨S_, .f32⟩
  | 3 => ⟨S2x4096, .f32⟩
  | 4 => ⟨S2x4096, .f32⟩
  | 5 => ⟨S2x4096, .f32⟩
  | 6 => ⟨S2x4096, .f32⟩
  | 7 => ⟨S2x4096, .f32⟩
  | 8 => ⟨S2x4096, .f32⟩
  | 9 => ⟨S_, .f32⟩
  | 10 => ⟨S2x4096, .f32⟩
  | 11 => ⟨S2x4096, .f32⟩
  | 12 => ⟨S2x4096, .f32⟩
  | 13 => ⟨S2x4096, .f32⟩
  | 14 => ⟨S2x4096, .f32⟩
  | 15 => ⟨S2x4096, .f32⟩
  | 16 => ⟨S2x4096, .f32⟩
  | 17 => ⟨S2x4096, .f32⟩
  | 18 => ⟨S2x4096, .f32⟩
  | 19 => ⟨S2x4096, .f32⟩
  | 20 => ⟨S_, .f32⟩
  | 21 => ⟨S2x4096, .f32⟩
  | 22 => ⟨S2x4096, .f32⟩
  | 23 => ⟨S2x4096, .f32⟩
  | 24 => ⟨S2x4096, .f32⟩
  | 25 => ⟨S2x4096, .f32⟩
  | 26 => ⟨S2x4096, .f32⟩
  | 27 => ⟨S2x4096, .f32⟩
  | 28 => ⟨S2x4096, .f32⟩
  | 29 => ⟨S2x4096, .f32⟩
  | 30 => ⟨S2x4096, .f32⟩
  | 31 => ⟨S2x4096, .f32⟩
  | 32 => ⟨S2x4096, .f32⟩
  | 33 => ⟨S2x4096, .f32⟩
  | 34 => ⟨S2x4096, .f32⟩
  | 35 => ⟨S2x4096, .f32⟩
  | 36 => ⟨S2x4096, .f32⟩
  | 37 => ⟨S2x4096, .f32⟩
  | 38 => ⟨S2x4096, .f32⟩
  | 39 => ⟨S2x4096, .f32⟩
  | 40 => ⟨S2x4096, .f32⟩
  | 41 => ⟨S2x4096, .f32⟩
  | 42 => ⟨S_, .f32⟩
  | 43 => ⟨S2x4096, .f32⟩
  | 44 => ⟨S2x4096, .f32⟩
  | 45 => ⟨S2x4096, .f32⟩
  | 46 => ⟨S2x4096, .f32⟩
  | 47 => ⟨S_, .f32⟩
  | 48 => ⟨S2x4096, .f32⟩
  | 49 => ⟨S2x4096, .f32⟩
  | 50 => ⟨S2x4096, .f32⟩
  | 51 => ⟨S_, .f32⟩
  | 52 => ⟨S2x4096, .f32⟩
  | 53 => ⟨S2x4096, .i1⟩
  | 54 => ⟨S2x4096, .f32⟩
  | 55 => ⟨S_, .f32⟩
  | 56 => ⟨S2x4096, .f32⟩
  | 57 => ⟨S2x4096, .f32⟩
  | 58 => ⟨S2x4096, .f32⟩
  | 59 => ⟨S_, .f32⟩
  | 60 => ⟨S2x4096, .f32⟩
  | 61 => ⟨S2x4096, .f32⟩
  | 62 => ⟨S2x4096, .f32⟩
  | 63 => ⟨S2x4096, .f32⟩
  | 64 => ⟨S_, .f32⟩
  | 65 => ⟨S2x4096, .f32⟩
  | 66 => ⟨S2x4096, .f32⟩
  | 67 => ⟨S2x4096, .f32⟩
  | 68 => ⟨S_, .f32⟩
  | 69 => ⟨S2x4096, .f32⟩
  | 70 => ⟨S2x4096, .f32⟩
  | 71 => ⟨S_, .f32⟩
  | 72 => ⟨S2x4096, .f32⟩
  | 73 => ⟨S2x4096, .i1⟩
  | 74 => ⟨S_, .f32⟩
  | 75 => ⟨S_, .f32⟩
  | 76 => ⟨S2x4096, .f32⟩
  | 77 => ⟨S2x4096, .f32⟩
  | 78 => ⟨S2x4096, .f32⟩
  | 79 => ⟨S_, .f32⟩
  | 80 => ⟨S_, .f32⟩
  | 81 => ⟨S2x4096, .f32⟩
  | 82 => ⟨S2x4096, .f32⟩
  | 83 => ⟨S2x4096, .f32⟩
  | 84 => ⟨S2x4096, .f32⟩
  | 85 => ⟨S2x4096, .f32⟩
  | 86 => ⟨S2x4096, .f32⟩
  | 87 => ⟨S_, .f32⟩
  | 88 => ⟨S2x4096, .f32⟩
  | 89 => ⟨S2x4096, .f32⟩
  | 90 => ⟨S2x4096, .f32⟩
  | 91 => ⟨S2x4096, .f32⟩
  | 92 => ⟨S2x4096, .f32⟩
  | 93 => ⟨S2x4096, .f32⟩
  | 94 => ⟨S2x4096, .f32⟩
  | 95 => ⟨S2x4096, .f32⟩
  | 96 => ⟨S2x4096, .f32⟩
  | 97 => ⟨S2x4096, .f32⟩
  | 98 => ⟨S_, .f32⟩
  | 99 => ⟨S2x4096, .f32⟩
  | 100 => ⟨S2x4096, .f32⟩
  | 101 => ⟨S2x4096, .f32⟩
  | 102 => ⟨S2x4096, .f32⟩
  | 103 => ⟨S2x4096, .f32⟩
  | 104 => ⟨S2x4096, .f32⟩
  | 105 => ⟨S2x4096, .f32⟩
  | 106 => ⟨S2x4096, .f32⟩
  | 107 => ⟨S2x4096, .f32⟩
  | 108 => ⟨S2x4096, .f32⟩
  | 109 => ⟨S2x4096, .f32⟩
  | 110 => ⟨S2x4096, .f32⟩
  | 111 => ⟨S2x4096, .f32⟩
  | 112 => ⟨S2x4096, .f32⟩
  | 113 => ⟨S2x4096, .f32⟩
  | 114 => ⟨S2x4096, .f32⟩
  | 115 => ⟨S2x4096, .f32⟩
  | 116 => ⟨S2x4096, .f32⟩
  | 117 => ⟨S2x4096, .f32⟩
  | 118 => ⟨S2x4096, .f32⟩
  | 119 => ⟨S2x4096, .f32⟩
  | 120 => ⟨S_, .f32⟩
  | 121 => ⟨S2x4096, .f32⟩
  | 122 => ⟨S2x4096, .f32⟩
  | 123 => ⟨S2x4096, .f32⟩
  | 124 => ⟨S2x4096, .f32⟩
  | 125 => ⟨S_, .f32⟩
  | 126 => ⟨S2x4096, .f32⟩
  | 127 => ⟨S2x4096, .f32⟩
  | _ => ⟨S2x4096x3, .f32⟩

abbrev hbmTy0_7 (i : Nat) : BufTy := match i % 128 with
  | 0 => ⟨S2x4096, .f32⟩
  | 1 => ⟨S_, .f32⟩
  | 2 => ⟨S2x4096, .f32⟩
  | 3 => ⟨S2x4096, .i1⟩
  | 4 => ⟨S2x4096, .f32⟩
  | 5 => ⟨S_, .f32⟩
  | 6 => ⟨S2x4096, .f32⟩
  | 7 => ⟨S2x4096, .f32⟩
  | 8 => ⟨S2x4096, .f32⟩
  | 9 => ⟨S_, .f32⟩
  | 10 => ⟨S2x4096, .f32⟩
  | 11 => ⟨S2x4096, .f32⟩
  | 12 => ⟨S2x4096, .f32⟩
  | 13 => ⟨S2x4096, .f32⟩
  | 14 => ⟨S_, .f32⟩
  | 15 => ⟨S2x4096, .f32⟩
  | 16 => ⟨S2x4096, .f32⟩
  | 17 => ⟨S2x4096, .f32⟩
  | 18 => ⟨S_, .f32⟩
  | 19 => ⟨S2x4096, .f32⟩
  | 20 => ⟨S2x4096, .f32⟩
  | 21 => ⟨S_, .f32⟩
  | 22 => ⟨S2x4096, .f32⟩
  | 23 => ⟨S2x4096, .i1⟩
  | 24 => ⟨S_, .f32⟩
  | 25 => ⟨S_, .f32⟩
  | 26 => ⟨S2x4096, .f32⟩
  | 27 => ⟨S2x4096, .f32⟩
  | 28 => ⟨S2x4096, .f32⟩
  | 29 => ⟨S_, .f32⟩
  | 30 => ⟨S_, .f32⟩
  | 31 => ⟨S2x4096, .f32⟩
  | 32 => ⟨S2x4096, .f32⟩
  | 33 => ⟨S2x4096, .f32⟩
  | 34 => ⟨S2x4096, .f32⟩
  | 35 => ⟨S2x4096, .f32⟩
  | 36 => ⟨S2x4096, .f32⟩
  | 37 => ⟨S_, .f32⟩
  | 38 => ⟨S2x4096, .f32⟩
  | 39 => ⟨S2x4096, .f32⟩
  | 40 => ⟨S2x4096, .f32⟩
  | 41 => ⟨S2x4096, .f32⟩
  | 42 => ⟨S2x4096, .f32⟩
  | 43 => ⟨S2x4096, .f32⟩
  | 44 => ⟨S2x4096, .f32⟩
  | 45 => ⟨S2x4096, .f32⟩
  | 46 => ⟨S2x4096, .f32⟩
  | 47 => ⟨S2x4096, .f32⟩
  | 48 => ⟨S_, .f32⟩
  | 49 => ⟨S2x4096, .f32⟩
  | 50 => ⟨S2x4096, .f32⟩
  | 51 => ⟨S2x4096, .f32⟩
  | 52 => ⟨S2x4096, .f32⟩
  | 53 => ⟨S2x4096, .f32⟩
  | 54 => ⟨S2x4096, .f32⟩
  | 55 => ⟨S2x4096, .f32⟩
  | 56 => ⟨S2x4096, .f32⟩
  | 57 => ⟨S2x4096, .f32⟩
  | 58 => ⟨S2x4096, .f32⟩
  | 59 => ⟨S2x4096, .f32⟩
  | 60 => ⟨S2x4096, .f32⟩
  | 61 => ⟨S2x4096, .f32⟩
  | 62 => ⟨S2x4096, .f32⟩
  | 63 => ⟨S2x4096, .f32⟩
  | 64 => ⟨S2x4096, .f32⟩
  | 65 => ⟨S2x4096, .f32⟩
  | 66 => ⟨S2x4096, .f32⟩
  | 67 => ⟨S2x4096, .f32⟩
  | 68 => ⟨S2x4096, .f32⟩
  | 69 => ⟨S2x4096, .f32⟩
  | 70 => ⟨S_, .f32⟩
  | 71 => ⟨S2x4096, .f32⟩
  | 72 => ⟨S2x4096, .f32⟩
  | 73 => ⟨S2x4096, .f32⟩
  | 74 => ⟨S2x4096, .f32⟩
  | 75 => ⟨S_, .f32⟩
  | 76 => ⟨S2x4096, .f32⟩
  | 77 => ⟨S2x4096, .f32⟩
  | 78 => ⟨S2x4096, .f32⟩
  | 79 => ⟨S_, .f32⟩
  | 80 => ⟨S2x4096, .f32⟩
  | 81 => ⟨S2x4096, .i1⟩
  | 82 => ⟨S2x4096, .f32⟩
  | 83 => ⟨S_, .f32⟩
  | 84 => ⟨S2x4096, .f32⟩
  | 85 => ⟨S2x4096, .f32⟩
  | 86 => ⟨S2x4096, .f32⟩
  | 87 => ⟨S_, .f32⟩
  | 88 => ⟨S2x4096, .f32⟩
  | 89 => ⟨S2x4096, .f32⟩
  | 90 => ⟨S2x4096, .f32⟩
  | 91 => ⟨S2x4096, .f32⟩
  | 92 => ⟨S_, .f32⟩
  | 93 => ⟨S2x4096, .f32⟩
  | 94 => ⟨S2x4096, .f32⟩
  | 95 => ⟨S2x4096, .f32⟩
  | 96 => ⟨S_, .f32⟩
  | 97 => ⟨S2x4096, .f32⟩
  | 98 => ⟨S2x4096, .f32⟩
  | 99 => ⟨S_, .f32⟩
  | 100 => ⟨S2x4096, .f32⟩
  | 101 => ⟨S2x4096, .i1⟩
  | 102 => ⟨S_, .f32⟩
  | 103 => ⟨S_, .f32⟩
  | 104 => ⟨S2x4096, .f32⟩
  | 105 => ⟨S2x4096, .f32⟩
  | 106 => ⟨S2x4096, .f32⟩
  | 107 => ⟨S_, .f32⟩
  | 108 => ⟨S_, .f32⟩
  | 109 => ⟨S2x4096, .f32⟩
  | 110 => ⟨S2x4096, .f32⟩
  | 111 => ⟨S2x4096, .f32⟩
  | 112 => ⟨S2x4096, .f32⟩
  | 113 => ⟨S2x4096, .f32⟩
  | 114 => ⟨S2x4096, .f32⟩
  | 115 => ⟨S_, .f32⟩
  | 116 => ⟨S2x4096, .f32⟩
  | 117 => ⟨S2x4096, .f32⟩
  | 118 => ⟨S2x4096, .f32⟩
  | 119 => ⟨S2x4096, .f32⟩
  | 120 => ⟨S2x4096, .f32⟩
  | 121 => ⟨S2x4096, .f32⟩
  | 122 => ⟨S2x4096, .f32⟩
  | 123 => ⟨S2x4096, .f32⟩
  | 124 => ⟨S2x4096, .f32⟩
  | 125 => ⟨S2x4096, .f32⟩
  | 126 => ⟨S_, .f32⟩
  | 127 => ⟨S2x4096, .f32⟩
  | _ => ⟨S2x4096x3, .f32⟩

abbrev hbmTy0_8 (i : Nat) : BufTy := match i % 128 with
  | 0 => ⟨S2x4096, .f32⟩
  | 1 => ⟨S2x4096, .f32⟩
  | 2 => ⟨S2x4096, .f32⟩
  | 3 => ⟨S2x4096, .f32⟩
  | 4 => ⟨S2x4096, .f32⟩
  | 5 => ⟨S2x4096, .f32⟩
  | 6 => ⟨S2x4096, .f32⟩
  | 7 => ⟨S2x4096, .f32⟩
  | 8 => ⟨S2x4096, .f32⟩
  | 9 => ⟨S2x4096, .f32⟩
  | 10 => ⟨S2x4096, .f32⟩
  | 11 => ⟨S2x4096, .f32⟩
  | 12 => ⟨S2x4096, .f32⟩
  | 13 => ⟨S2x4096, .f32⟩
  | 14 => ⟨S2x4096, .f32⟩
  | 15 => ⟨S2x4096, .f32⟩
  | 16 => ⟨S2x4096, .f32⟩
  | 17 => ⟨S2x4096, .f32⟩
  | 18 => ⟨S2x4096, .f32⟩
  | 19 => ⟨S2x4096, .f32⟩
  | 20 => ⟨S_, .f32⟩
  | 21 => ⟨S2x4096, .f32⟩
  | 22 => ⟨S2x4096, .f32⟩
  | 23 => ⟨S2x4096, .f32⟩
  | 24 => ⟨S2x4096, .f32⟩
  | 25 => ⟨S_, .f32⟩
  | 26 => ⟨S2x4096, .f32⟩
  | 27 => ⟨S2x4096, .f32⟩
  | 28 => ⟨S2x4096, .f32⟩
  | 29 => ⟨S_, .f32⟩
  | 30 => ⟨S2x4096, .f32⟩
  | 31 => ⟨S2x4096, .i1⟩
  | 32 => ⟨S2x4096, .f32⟩
  | 33 => ⟨S_, .f32⟩
  | 34 => ⟨S2x4096, .f32⟩
  | 35 => ⟨S2x4096, .f32⟩
  | 36 => ⟨S2x4096, .f32⟩
  | 37 => ⟨S_, .f32⟩
  | 38 => ⟨S2x4096, .f32⟩
  | 39 => ⟨S2x4096, .f32⟩
  | 40 => ⟨S2x4096, .f32⟩
  | 41 => ⟨S2x4096, .f32⟩
  | 42 => ⟨S_, .f32⟩
  | 43 => ⟨S2x4096, .f32⟩
  | 44 => ⟨S2x4096, .f32⟩
  | 45 => ⟨S2x4096, .f32⟩
  | 46 => ⟨S_, .f32⟩
  | 47 => ⟨S2x4096, .f32⟩
  | 48 => ⟨S2x4096, .f32⟩
  | 49 => ⟨S_, .f32⟩
  | 50 => ⟨S2x4096, .f32⟩
  | 51 => ⟨S2x4096, .i1⟩
  | 52 => ⟨S_, .f32⟩
  | 53 => ⟨S_, .f32⟩
  | 54 => ⟨S2x4096, .f32⟩
  | 55 => ⟨S2x4096, .f32⟩
  | 56 => ⟨S2x4096, .f32⟩
  | 57 => ⟨S_, .f32⟩
  | 58 => ⟨S_, .f32⟩
  | 59 => ⟨S2x4096, .f32⟩
  | 60 => ⟨S2x4096, .f32⟩
  | 61 => ⟨S2x4096, .f32⟩
  | 62 => ⟨S2x4096, .f32⟩
  | 63 => ⟨S2x4096, .f32⟩
  | 64 => ⟨S2x4096, .f32⟩
  | 65 => ⟨S_, .f32⟩
  | 66 => ⟨S2x4096, .f32⟩
  | 67 => ⟨S2x4096, .f32⟩
  | 68 => ⟨S2x4096, .f32⟩
  | 69 => ⟨S2x4096, .f32⟩
  | 70 => ⟨S2x4096, .f32⟩
  | 71 => ⟨S2x4096, .f32⟩
  | 72 => ⟨S2x4096, .f32⟩
  | 73 => ⟨S2x4096, .f32⟩
  | 74 => ⟨S2x4096, .f32⟩
  | 75 => ⟨S2x4096, .f32⟩
  | 76 => ⟨S_, .f32⟩
  | 77 => ⟨S2x4096, .f32⟩
  | 78 => ⟨S2x4096, .f32⟩
  | 79 => ⟨S2x4096, .f32⟩
  | 80 => ⟨S2x4096, .f32⟩
  | 81 => ⟨S2x4096, .f32⟩
  | 82 => ⟨S2x4096, .f32⟩
  | 83 => ⟨S2x4096, .f32⟩
  | 84 => ⟨S2x4096, .f32⟩
  | 85 => ⟨S2x4096, .f32⟩
  | 86 => ⟨S2x4096, .f32⟩
  | 87 => ⟨S2x4096, .f32⟩
  | 88 => ⟨S2x4096, .f32⟩
  | 89 => ⟨S2x4096, .f32⟩
  | 90 => ⟨S2x4096, .f32⟩
  | 91 => ⟨S2x4096, .f32⟩
  | 92 => ⟨S2x4096, .f32⟩
  | 93 => ⟨S2x4096, .f32⟩
  | 94 => ⟨S2x4096, .f32⟩
  | 95 => ⟨S2x4096, .f32⟩
  | 96 => ⟨S2x4096, .f32⟩
  | 97 => ⟨S2x4096, .f32⟩
  | 98 => ⟨S_, .f32⟩
  | 99 => ⟨S2x4096, .f32⟩
  | 100 => ⟨S2x4096, .f32⟩
  | 101 => ⟨S2x4096, .f32⟩
  | 102 => ⟨S2x4096, .f32⟩
  | 103 => ⟨S_, .f32⟩
  | 104 => ⟨S2x4096, .f32⟩
  | 105 => ⟨S2x4096, .f32⟩
  | 106 => ⟨S2x4096, .f32⟩
  | 107 => ⟨S_, .f32⟩
  | 108 => ⟨S2x4096, .f32⟩
  | 109 => ⟨S2x4096, .i1⟩
  | 110 => ⟨S2x4096, .f32⟩
  | 111 => ⟨S_, .f32⟩
  | 112 => ⟨S2x4096, .f32⟩
  | 113 => ⟨S2x4096, .f32⟩
  | 114 => ⟨S2x4096, .f32⟩
  | 115 => ⟨S_, .f32⟩
  | 116 => ⟨S2x4096, .f32⟩
  | 117 => ⟨S2x4096, .f32⟩
  | 118 => ⟨S2x4096, .f32⟩
  | 119 => ⟨S2x4096, .f32⟩
  | 120 => ⟨S_, .f32⟩
  | 121 => ⟨S2x4096, .f32⟩
  | 122 => ⟨S2x4096, .f32⟩
  | 123 => ⟨S2x4096, .f32⟩
  | 124 => ⟨S_, .f32⟩
  | 125 => ⟨S2x4096, .f32⟩
  | 126 => ⟨S2x4096, .f32⟩
  | 127 => ⟨S_, .f32⟩
  | _ => ⟨S2x4096x3, .f32⟩

abbrev hbmTy0_9 (i : Nat) : BufTy := match i % 128 with
  | 0 => ⟨S2x4096, .f32⟩
  | 1 => ⟨S2x4096, .i1⟩
  | 2 => ⟨S_, .f32⟩
  | 3 => ⟨S_, .f32⟩
  | 4 => ⟨S2x4096, .f32⟩
  | 5 => ⟨S2x4096, .f32⟩
  | 6 => ⟨S2x4096, .f32⟩
  | 7 => ⟨S_, .f32⟩
  | 8 => ⟨S_, .f32⟩
  | 9 => ⟨S2x4096, .f32⟩
  | 10 => ⟨S2x4096, .f32⟩
  | 11 => ⟨S2x4096, .f32⟩
  | 12 => ⟨S2x4096, .f32⟩
  | 13 => ⟨S2x4096, .f32⟩
  | 14 => ⟨S2x4096, .f32⟩
  | 15 => ⟨S_, .f32⟩
  | 16 => ⟨S2x4096, .f32⟩
  | 17 => ⟨S2x4096, .f32⟩
  | 18 => ⟨S2x4096, .f32⟩
  | 19 => ⟨S2x4096, .f32⟩
  | 20 => ⟨S2x4096, .f32⟩
  | 21 => ⟨S2x4096, .f32⟩
  | 22 => ⟨S2x4096, .f32⟩
  | 23 => ⟨S2x4096, .f32⟩
  | 24 => ⟨S2x4096, .f32⟩
  | 25 => ⟨S2x4096, .f32⟩
  | 26 => ⟨S_, .f32⟩
  | 27 => ⟨S2x4096, .f32⟩
  | 28 => ⟨S2x4096, .f32⟩
  | 29 => ⟨S2x4096, .f32⟩
  | 30 => ⟨S2x4096, .f32⟩
  | 31 => ⟨S2x4096, .f32⟩
  | 32 => ⟨S2x4096, .f32⟩
  | 33 => ⟨S2x4096, .f32⟩
  | 34 => ⟨S2x4096, .f32⟩
  | 35 => ⟨S2x4096, .f32⟩
  | 36 => ⟨S2x4096, .f32⟩
  | 37 => ⟨S2x4096, .f32⟩
  | 38 => ⟨S2x4096, .f32⟩
  | 39 => ⟨S2x4096, .f32⟩
  | 40 => ⟨S2x4096, .f32⟩
  | 41 => ⟨S2x4096, .f32⟩
  | 42 => ⟨S2x4096, .f32⟩
  | 43 => ⟨S2x4096, .f32⟩
  | 44 => ⟨S2x4096, .f32⟩
  | 45 => ⟨S2x4096, .f32⟩
  | 46 => ⟨S2x4096, .f32⟩
  | 47 => ⟨S2x4096, .f32⟩
  | 48 => ⟨S_, .f32⟩
  | 49 => ⟨S2x4096, .f32⟩
  | 50 => ⟨S2x4096, .f32⟩
  | 51 => ⟨S2x4096, .f32⟩
  | 52 => ⟨S2x4096, .f32⟩
  | 53 => ⟨S_, .f32⟩
  | 54 => ⟨S2x4096, .f32⟩
  | 55 => ⟨S2x4096, .f32⟩
  | 56 => ⟨S2x4096, .f32⟩
  | 57 => ⟨S_, .f32⟩
  | 58 => ⟨S2x4096, .f32⟩
  | 59 => ⟨S2x4096, .i1⟩
  | 60 => ⟨S2x4096, .f32⟩
  | 61 => ⟨S_, .f32⟩
  | 62 => ⟨S2x4096, .f32⟩
  | 63 => ⟨S2x4096, .f32⟩
  | 64 => ⟨S2x4096, .f32⟩
  | 65 => ⟨S_, .f32⟩
  | 66 => ⟨S2x4096, .f32⟩
  | 67 => ⟨S2x4096, .f32⟩
  | 68 => ⟨S2x4096, .f32⟩
  | 69 => ⟨S2x4096, .f32⟩
  | 70 => ⟨S_, .f32⟩
  | 71 => ⟨S2x4096, .f32⟩
  | 72 => ⟨S2x4096, .f32⟩
  | 73 => ⟨S2x4096, .f32⟩
  | 74 => ⟨S_, .f32⟩
  | 75 => ⟨S2x4096, .f32⟩
  | 76 => ⟨S2x4096, .f32⟩
  | 77 => ⟨S_, .f32⟩
  | 78 => ⟨S2x4096, .f32⟩
  | 79 => ⟨S2x4096, .i1⟩
  | 80 => ⟨S_, .f32⟩
  | 81 => ⟨S_, .f32⟩
  | 82 => ⟨S2x4096, .f32⟩
  | 83 => ⟨S2x4096, .f32⟩
  | 84 => ⟨S2x4096, .f32⟩
  | 85 => ⟨S_, .f32⟩
  | 86 => ⟨S_, .f32⟩
  | 87 => ⟨S2x4096, .f32⟩
  | 88 => ⟨S2x4096, .f32⟩
  | 89 => ⟨S2x4096, .f32⟩
  | 90 => ⟨S2x4096, .f32⟩
  | 91 => ⟨S2x4096, .f32⟩
  | 92 => ⟨S2x4096, .f32⟩
  | 93 => ⟨S_, .f32⟩
  | 94 => ⟨S2x4096, .f32⟩
  | 95 => ⟨S2x4096, .f32⟩
  | 96 => ⟨S2x4096, .f32⟩
  | 97 => ⟨S2x4096, .f32⟩
  | 98 => ⟨S2x4096, .f32⟩
  | 99 => ⟨S2x4096, .f32⟩
  | 100 => ⟨S2x4096, .f32⟩
  | 101 => ⟨S2x4096, .f32⟩
  | 102 => ⟨S2x4096, .f32⟩
  | 103 => ⟨S2x4096, .f32⟩
  | 104 => ⟨S_, .f32⟩
  | 105 => ⟨S2x4096, .f32⟩
  | 106 => ⟨S2x4096, .f32⟩
  | 107 => ⟨S2x4096, .f32⟩
  | 108 => ⟨S2x4096, .f32⟩
  | 109 => ⟨S2x4096, .f32⟩
  | 110 => ⟨S2x4096, .f32⟩
  | 111 => ⟨S2x4096, .f32⟩
  | 112 => ⟨S2x4096, .f32⟩
  | 113 => ⟨S2x4096, .f32⟩
  | 114 => ⟨S2x4096, .f32⟩
  | 115 => ⟨S2x4096, .f32⟩
  | 116 => ⟨S2x4096, .f32⟩
  | 117 => ⟨S2x4096, .f32⟩
  | 118 => ⟨S2x4096, .f32⟩
  | 119 => ⟨S2x4096, .f32⟩
  | 120 => ⟨S2x4096, .f32⟩
  | 121 => ⟨S2x4096, .f32⟩
  | 122 => ⟨S2x4096, .f32⟩
  | 123 => ⟨S2x4096, .f32⟩
  | 124 => ⟨S2x4096, .f32⟩
  | 125 => ⟨S2x4096, .f32⟩
  | 126 => ⟨S2x4096, .f32⟩
  | 127 => ⟨S2x4096, .f32⟩
  | _ => ⟨S2x4096x3, .f32⟩

abbrev hbmTy0_10 (i : Nat) : BufTy := match i % 128 with
  | 0 => ⟨S2x4096x1, .f32⟩
  | 1 => ⟨S2x4096x1, .f32⟩
  | 2 => ⟨S2x4096x1, .f32⟩
  | 3 => ⟨S2x4096x3, .f32⟩
  | 4 => ⟨S2x4096x3, .f32⟩
  | 5 => ⟨S_, .f32⟩
  | 6 => ⟨S2x4096x3, .f32⟩
  | 7 => ⟨S2x4096x3, .f32⟩
  | 8 => ⟨S2x4096x1, .f32⟩
  | 9 => ⟨S2x4096, .f32⟩
  | 10 => ⟨S2x4096x1, .f32⟩
  | 11 => ⟨S2x4096, .f32⟩
  | 12 => ⟨S2x4096x1, .f32⟩
  | 13 => ⟨S2x4096, .f32⟩
  | 14 => ⟨S1, .f32⟩
  | 15 => ⟨S_, .f32⟩
  | 16 => ⟨S2x4096, .f32⟩
  | 17 => ⟨S2x4096, .f32⟩
  | 18 => ⟨S2x4096, .f32⟩
  | 19 => ⟨S2x4096, .f32⟩
  | 20 => ⟨S1, .f32⟩
  | 21 => ⟨S_, .f32⟩
  | 22 => ⟨S2x4096, .f32⟩
  | 23 => ⟨S2x4096, .f32⟩
  | 24 => ⟨S2x4096, .f32⟩
  | 25 => ⟨S2x4096, .f32⟩
  | 26 => ⟨S2x4096, .f32⟩
  | 27 => ⟨S1, .f32⟩
  | 28 => ⟨S_, .f32⟩
  | 29 => ⟨S2x4096, .f32⟩
  | 30 => ⟨S2x4096, .f32⟩
  | 31 => ⟨S2x4096, .f32⟩
  | 32 => ⟨S2x4096, .f32⟩
  | 33 => ⟨S2x4096x4096, .f32⟩
  | 34 => ⟨S2x4096x1, .f32⟩
  | 35 => ⟨S2x4096, .f32⟩
  | 36 => ⟨S2x4096, .f32⟩
  | 37 => ⟨S2x4096, .f32⟩
  | 38 => ⟨S_, .f32⟩
  | 39 => ⟨S2x4096, .f32⟩
  | 40 => ⟨S2x4096, .f32⟩
  | 41 => ⟨S_, .f32⟩
  | 42 => ⟨S2x4096, .f32⟩
  | 43 => ⟨S2x4096, .f32⟩
  | 44 => ⟨S_, .f32⟩
  | 45 => ⟨S2x4096, .f32⟩
  | 46 => ⟨S2x4096, .f32⟩
  | 47 => ⟨S_, .f32⟩
  | 48 => ⟨S2x4096, .f32⟩
  | 49 => ⟨S2x4096, .f32⟩
  | 50 => ⟨S2x4096, .f32⟩
  | 51 => ⟨S2x4096, .f32⟩
  | 52 => ⟨S2x4096, .f32⟩
  | 53 => ⟨S2x4096, .f32⟩
  | 54 => ⟨S2x4096, .f32⟩
  | 55 => ⟨S2x4096, .f32⟩
  | 56 => ⟨S2x4096, .f32⟩
  | 57 => ⟨S2x4096, .f32⟩
  | 58 => ⟨S2x4096, .f32⟩
  | 59 => ⟨S2x4096, .f32⟩
  | 60 => ⟨S_, .f32⟩
  | 61 => ⟨S2x4096, .f32⟩
  | 62 => ⟨S2x4096, .f32⟩
  | 63 => ⟨S_, .f32⟩
  | 64 => ⟨S2x4096, .f32⟩
  | 65 => ⟨S2x4096, .f32⟩
  | 66 => ⟨S2x4096, .i32⟩
  | 67 => ⟨S_, .i32⟩
  | 68 => ⟨S2x4096, .i32⟩
  | 69 => ⟨S2x4096, .i32⟩
  | 70 => ⟨S2x4096, .i32⟩
  | 71 => ⟨S2x4096, .i32⟩
  | 72 => ⟨S_, .i32⟩
  | 73 => ⟨S2x4096, .i32⟩
  | 74 => ⟨S_, .i32⟩
  | 75 => ⟨S2x4096, .i32⟩
  | 76 => ⟨S2x4096, .i32⟩
  | 77 => ⟨S_, .i32⟩
  | 78 => ⟨S2x4096, .i32⟩
  | 79 => ⟨S2x4096, .i32⟩
  | 80 => ⟨S2x4096, .i32⟩
  | 81 => ⟨S_, .i32⟩
  | 82 => ⟨S2x4096, .i32⟩
  | 83 => ⟨S2x4096, .i32⟩
  | 84 => ⟨S_, .i32⟩
  | 85 => ⟨S2x4096, .i32⟩
  | 86 => ⟨S2x4096, .i32⟩
  | 87 => ⟨S2x4096, .i32⟩
  | 88 => ⟨S2x4096, .i32⟩
  | 89 => ⟨S2x4096, .i32⟩
  | 90 => ⟨S_, .i32⟩
  | 91 => ⟨S2x4096, .i32⟩
  | 92 => ⟨S2x4096, .i32⟩
  | 93 => ⟨S_, .i32⟩
  | 94 => ⟨S2x4096, .i32⟩
  | 95 => ⟨S2x4096, .i32⟩
  | 96 => ⟨S2x4096, .i32⟩
  | 97 => ⟨S2x4096, .i32⟩
  | 98 => ⟨S2x4096, .i32⟩
  | 99 => ⟨S_, .i32⟩
  | 100 => ⟨S2x4096, .i32⟩
  | 101 => ⟨S2x4096, .i32⟩
  | 102 => ⟨S_, .i32⟩
  | 103 => ⟨S2x4096, .i32⟩
  | 104 => ⟨S2x4096, .i32⟩
  | 105 => ⟨S2x4096, .i32⟩
  | 106 => ⟨S2x4096, .i32⟩
  | 107 => ⟨S2x4096, .i32⟩
  | 108 => ⟨S_, .i32⟩
  | 109 => ⟨S2x4096, .i32⟩
  | 110 => ⟨S2x4096, .i32⟩
  | 111 => ⟨S_, .i32⟩
  | 112 => ⟨S2x4096, .i32⟩
  | 113 => ⟨S2x4096, .i32⟩
  | 114 => ⟨S2x4096, .i32⟩
  | 115 => ⟨S2x4096, .i32⟩
  | 116 => ⟨S_, .i32⟩
  | 117 => ⟨S2x4096, .i32⟩
  | 118 => ⟨S2x4096, .i32⟩
  | 119 => ⟨S_, .i32⟩
  | 120 => ⟨S2x4096, .i32⟩
  | 121 => ⟨S2x4096, .i32⟩
  | 122 => ⟨S_, .i32⟩
  | 123 => ⟨S2x4096, .i32⟩
  | 124 => ⟨S2x4096, .i32⟩
  | 125 => ⟨S2x4096, .i32⟩
  | 126 => ⟨S_, .i32⟩
  | 127 => ⟨S2x4096, .i32⟩
  | _ => ⟨S2x4096x3, .f32⟩

abbrev hbmTy0_11 (i : Nat) : BufTy := match i % 128 with
  | 0 => ⟨S2x4096, .i32⟩
  | 1 => ⟨S_, .i32⟩
  | 2 => ⟨S2x4096, .i32⟩
  | 3 => ⟨S2x4096, .i32⟩
  | 4 => ⟨S2x4096, .i32⟩
  | 5 => ⟨S2x4096, .i32⟩
  | 6 => ⟨S2x4096, .i32⟩
  | 7 => ⟨S_, .i32⟩
  | 8 => ⟨S2x4096, .i32⟩
  | 9 => ⟨S2x4096, .i32⟩
  | 10 => ⟨S_, .i32⟩
  | 11 => ⟨S2x4096, .i32⟩
  | 12 => ⟨S2x4096, .i32⟩
  | 13 => ⟨S2x4096, .i32⟩
  | 14 => ⟨S2x4096, .i32⟩
  | 15 => ⟨S2x4096, .i32⟩
  | 16 => ⟨S_, .i32⟩
  | 17 => ⟨S2x4096, .i32⟩
  | 18 => ⟨S2x4096, .i32⟩
  | 19 => ⟨S_, .i32⟩
  | 20 => ⟨S2x4096, .i32⟩
  | 21 => ⟨S2x4096, .i32⟩
  | 22 => ⟨S2x4096, .i32⟩
  | 23 => ⟨S2x4096, .i32⟩
  | 24 => ⟨S2x4096, .i32⟩
  | 25 => ⟨S_, .i32⟩
  | 26 => ⟨S2x4096, .i32⟩
  | 27 => ⟨S2x4096, .i32⟩
  | 28 => ⟨S_, .i32⟩
  | 29 => ⟨S2x4096, .i32⟩
  | 30 => ⟨S2x4096, .i32⟩
  | 31 => ⟨S2x4096, .i32⟩
  | 32 => ⟨S2x4096, .i32⟩
  | 33 => ⟨S_, .i32⟩
  | 34 => ⟨S2x4096, .i32⟩
  | 35 => ⟨S2x4096, .i32⟩
  | 36 => ⟨S_, .i32⟩
  | 37 => ⟨S2x4096, .i32⟩
  | 38 => ⟨S2x4096, .i32⟩
  | 39 => ⟨S_, .i32⟩
  | 40 => ⟨S2x4096, .i32⟩
  | 41 => ⟨S2x4096, .i32⟩
  | 42 => ⟨S2x4096, .i32⟩
  | 43 => ⟨S_, .i32⟩
  | 44 => ⟨S2x4096, .i32⟩
  | 45 => ⟨S2x4096, .i32⟩
  | 46 => ⟨S_, .i32⟩
  | 47 => ⟨S2x4096, .i32⟩
  | 48 => ⟨S2x4096, .i32⟩
  | 49 => ⟨S2x4096, .i32⟩
  | 50 => ⟨S2x4096, .i32⟩
  | 51 => ⟨S2x4096, .i32⟩
  | 52 => ⟨S_, .i32⟩
  | 53 => ⟨S2x4096, .i32⟩
  | 54 => ⟨S2x4096, .i32⟩
  | 55 => ⟨S_, .i32⟩
  | 56 => ⟨S2x4096, .i32⟩
  | 57 => ⟨S2x4096, .i32⟩
  | 58 => ⟨S2x4096, .i32⟩
  | 59 => ⟨S2x4096, .i32⟩
  | 60 => ⟨S2x4096, .i32⟩
  | 61 => ⟨S_, .i32⟩
  | 62 => ⟨S2x4096, .i32⟩
  | 63 => ⟨S2x4096, .i32⟩
  | 64 => ⟨S_, .i32⟩
  | 65 => ⟨S2x4096, .i32⟩
  | 66 => ⟨S2x4096, .i32⟩
  | 67 => ⟨S2x4096, .i32⟩
  | 68 => ⟨S2x4096, .i32⟩
  | 69 => ⟨S2x4096, .i32⟩
  | 70 => ⟨S_, .i32⟩
  | 71 => ⟨S2x4096, .i32⟩
  | 72 => ⟨S2x4096, .i32⟩
  | 73 => ⟨S_, .i32⟩
  | 74 => ⟨S2x4096, .i32⟩
  | 75 => ⟨S2x4096, .i32⟩
  | 76 => ⟨S2x4096, .i32⟩
  | 77 => ⟨S2x4096, .i32⟩
  | 78 => ⟨S_, .i32⟩
  | 79 => ⟨S2x4096, .i32⟩
  | 80 => ⟨S2x4096, .i32⟩
  | 81 => ⟨S_, .i32⟩
  | 82 => ⟨S2x4096, .i32⟩
  | 83 => ⟨S2x4096, .i32⟩
  | 84 => ⟨S_, .i32⟩
  | 85 => ⟨S2x4096, .i32⟩
  | 86 => ⟨S2x4096, .i32⟩
  | 87 => ⟨S2x4096, .i32⟩
  | 88 => ⟨S_, .i32⟩
  | 89 => ⟨S2x4096, .i32⟩
  | 90 => ⟨S2x4096, .i32⟩
  | 91 => ⟨S_, .i32⟩
  | 92 => ⟨S2x4096, .i32⟩
  | 93 => ⟨S2x4096, .i32⟩
  | 94 => ⟨S2x4096, .i32⟩
  | 95 => ⟨S2x4096, .i32⟩
  | 96 => ⟨S2x4096, .i32⟩
  | 97 => ⟨S_, .i32⟩
  | 98 => ⟨S2x4096, .i32⟩
  | 99 => ⟨S2x4096, .i32⟩
  | 100 => ⟨S_, .i32⟩
  | 101 => ⟨S2x4096, .i32⟩
  | 102 => ⟨S2x4096, .i32⟩
  | 103 => ⟨S2x4096, .i32⟩
  | 104 => ⟨S2x4096, .i32⟩
  | 105 => ⟨S2x4096, .i32⟩
  | 106 => ⟨S_, .i32⟩
  | 107 => ⟨S2x4096, .i32⟩
  | 108 => ⟨S2x4096, .i32⟩
  | 109 => ⟨S_, .i32⟩
  | 110 => ⟨S2x4096, .i32⟩
  | 111 => ⟨S2x4096, .i32⟩
  | 112 => ⟨S2x4096, .i32⟩
  | 113 => ⟨S2x4096, .i32⟩
  | 114 => ⟨S2x4096, .i32⟩
  | 115 => ⟨S_, .i32⟩
  | 116 => ⟨S2x4096, .i32⟩
  | 117 => ⟨S2x4096, .i32⟩
  | 118 => ⟨S_, .i32⟩
  | 119 => ⟨S2x4096, .i32⟩
  | 120 => ⟨S2x4096, .i32⟩
  | 121 => ⟨S2x4096, .i32⟩
  | 122 => ⟨S2x4096, .i32⟩
  | 123 => ⟨S_, .i32⟩
  | 124 => ⟨S2x4096, .i32⟩
  | 125 => ⟨S2x4096, .i32⟩
  | 126 => ⟨S_, .i32⟩
  | 127 => ⟨S2x4096, .i32⟩
  | _ => ⟨S2x4096x3, .f32⟩

abbrev hbmTy0_12 (i : Nat) : BufTy := match i % 128 with
  | 0 => ⟨S2x4096, .i32⟩
  | 1 => ⟨S_, .i32⟩
  | 2 => ⟨S2x4096, .i32⟩
  | 3 => ⟨S2x4096, .i32⟩
  | 4 => ⟨S2x4096, .i32⟩
  | 5 => ⟨S_, .i32⟩
  | 6 => ⟨S2x4096, .i32⟩
  | 7 => ⟨S2x4096, .i32⟩
  | 8 => ⟨S_, .i32⟩
  | 9 => ⟨S2x4096, .i32⟩
  | 10 => ⟨S2x4096, .i32⟩
  | 11 => ⟨S2x4096, .i32⟩
  | 12 => ⟨S2x4096, .i32⟩
  | 13 => ⟨S2x4096, .i32⟩
  | 14 => ⟨S_, .i32⟩
  | 15 => ⟨S2x4096, .i32⟩
  | 16 => ⟨S2x4096, .i32⟩
  | 17 => ⟨S_, .i32⟩
  | 18 => ⟨S2x4096, .i32⟩
  | 19 => ⟨S2x4096, .i32⟩
  | 20 => ⟨S2x4096, .i32⟩
  | 21 => ⟨S2x4096, .i32⟩
  | 22 => ⟨S2x4096, .i32⟩
  | 23 => ⟨S_, .i32⟩
  | 24 => ⟨S2x4096, .i32⟩
  | 25 => ⟨S2x4096, .i32⟩
  | 26 => ⟨S_, .i32⟩
  | 27 => ⟨S2x4096, .i32⟩
  | 28 => ⟨S2x4096, .i32⟩
  | 29 => ⟨S2x4096, .i32⟩
  | 30 => ⟨S2x4096, .i32⟩
  | 31 => ⟨S2x4096, .i32⟩
  | 32 => ⟨S_, .i32⟩
  | 33 => ⟨S2x4096, .i32⟩
  | 34 => ⟨S2x4096, .i32⟩
  | 35 => ⟨S_, .i32⟩
  | 36 => ⟨S2x4096, .i32⟩
  | 37 => ⟨S2x4096, .i32⟩
  | 38 => ⟨S2x4096, .i32⟩
  | 39 => ⟨S2x4096, .i32⟩
  | 40 => ⟨S_, .i32⟩
  | 41 => ⟨S2x4096, .i32⟩
  | 42 => ⟨S2x4096, .i32⟩
  | 43 => ⟨S_, .i32⟩
  | 44 => ⟨S2x4096, .i32⟩
  | 45 => ⟨S2x4096, .i32⟩
  | 46 => ⟨S_, .i32⟩
  | 47 => ⟨S2x4096, .i32⟩
  | 48 => ⟨S2x4096, .i32⟩
  | 49 => ⟨S2x4096, .i32⟩
  | 50 => ⟨S_, .i32⟩
  | 51 => ⟨S2x4096, .i32⟩
  | 52 => ⟨S2x4096, .i32⟩
  | 53 => ⟨S_, .i32⟩
  | 54 => ⟨S2x4096, .i32⟩
  | 55 => ⟨S2x4096, .i32⟩
  | 56 => ⟨S2x4096, .f32⟩
  | 57 => ⟨S_, .f32⟩
  | 58 => ⟨S2x4096, .f32⟩
  | 59 => ⟨S2x4096, .f32⟩
  | 60 => ⟨S_, .f32⟩
  | 61 => ⟨S_, .f32⟩
  | 62 => ⟨S_, .f32⟩
  | 63 => ⟨S2x4096, .f32⟩
  | 64 => ⟨S2x4096, .f32⟩
  | 65 => ⟨S_, .f32⟩
  | 66 => ⟨S2x4096, .f32⟩
  | 67 => ⟨S2x4096, .f32⟩
  | 68 => ⟨S_, .f32⟩
  | 69 => ⟨S2x4096, .f32⟩
  | 70 => ⟨S2x4096, .f32⟩
  | 71 => ⟨S2x4096, .f32⟩
  | 72 => ⟨S2x4096, .f32⟩
  | 73 => ⟨S2x4096, .f32⟩
  | 74 => ⟨S2x4096, .f32⟩
  | 75 => ⟨S_, .f32⟩
  | 76 => ⟨S2x4096, .f32⟩
  | 77 => ⟨S2x4096, .f32⟩
  | 78 => ⟨S2x4096, .f32⟩
  | 79 => ⟨S2x4096, .f32⟩
  | 80 => ⟨S2x1024, .f32⟩
  | 81 => ⟨S2x1024, .i32⟩
  | 82 => ⟨S_, .i32⟩
  | 83 => ⟨S2x1024, .i32⟩
  | 84 => ⟨S2x1024, .i1⟩
  | 85 => ⟨S_, .i32⟩
  | 86 => ⟨S2x1024, .i32⟩
  | 87 => ⟨S2x1024, .i32⟩
  | 88 => ⟨S2x1024, .i32⟩
  | 89 => ⟨S2x1024x1, .i32⟩
  | 90 => ⟨S2x1024x3, .f32⟩
  | _ => ⟨S2x4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S2x4096x3, .f32⟩

abbrev bufTy : (tb : Table) → Fin (tcTables nBuf tb) → BufTy
  | .hbm, ⟨i, _⟩ => hbmTy i
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1_0 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_21 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_22 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_23 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_24 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_25 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_26 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_27 : Ref sig .tc := ⟨.hbm, 134, rfl⟩
abbrev main_v98 : Ref sig .tc := ⟨.hbm, 135, rfl⟩
abbrev main_v99 : Ref sig .tc := ⟨.hbm, 136, rfl⟩
abbrev main_cst_28 : Ref sig .tc := ⟨.hbm, 137, rfl⟩
abbrev main_v100 : Ref sig .tc := ⟨.hbm, 138, rfl⟩
abbrev main_v101 : Ref sig .tc := ⟨.hbm, 139, rfl⟩
abbrev main_cst_29 : Ref sig .tc := ⟨.hbm, 140, rfl⟩
abbrev main_call2_v0 : Ref sig .tc := ⟨.hbm, 141, rfl⟩
abbrev main_call2_v1 : Ref sig .tc := ⟨.hbm, 142, rfl⟩
abbrev main_v102 : Ref sig .tc := ⟨.hbm, 143, rfl⟩
abbrev main_v103 : Ref sig .tc := ⟨.hbm, 144, rfl⟩
abbrev main_cst_30 : Ref sig .tc := ⟨.hbm, 145, rfl⟩
abbrev main_call3_v0 : Ref sig .tc := ⟨.hbm, 146, rfl⟩
abbrev main_call3_v1 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_31 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_32 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_33 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_34 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_35 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_36 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_37 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_38 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_39 : Ref sig .tc := ⟨.hbm, 212, rfl⟩
abbrev main_v160 : Ref sig .tc := ⟨.hbm, 213, rfl⟩
abbrev main_v161 : Ref sig .tc := ⟨.hbm, 214, rfl⟩
abbrev main_cst_40 : Ref sig .tc := ⟨.hbm, 215, rfl⟩
abbrev main_v162 : Ref sig .tc := ⟨.hbm, 216, rfl⟩
abbrev main_v163 : Ref sig .tc := ⟨.hbm, 217, rfl⟩
abbrev main_cst_41 : Ref sig .tc := ⟨.hbm, 218, rfl⟩
abbrev main_call5_v0 : Ref sig .tc := ⟨.hbm, 219, rfl⟩
abbrev main_call5_v1 : Ref sig .tc := ⟨.hbm, 220, rfl⟩
abbrev main_v164 : Ref sig .tc := ⟨.hbm, 221, rfl⟩
abbrev main_v165 : Ref sig .tc := ⟨.hbm, 222, rfl⟩
abbrev main_cst_42 : Ref sig .tc := ⟨.hbm, 223, rfl⟩
abbrev main_call6_v0 : Ref sig .tc := ⟨.hbm, 224, rfl⟩
abbrev main_call6_v1 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_43 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_cst_44 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_45 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_cst_46 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_47 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_cst_48 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_cst_49 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_cst_50 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_cst_51 : Ref sig .tc := ⟨.hbm, 290, rfl⟩
abbrev main_v222 : Ref sig .tc := ⟨.hbm, 291, rfl⟩
abbrev main_v223 : Ref sig .tc := ⟨.hbm, 292, rfl⟩
abbrev main_cst_52 : Ref sig .tc := ⟨.hbm, 293, rfl⟩
abbrev main_v224 : Ref sig .tc := ⟨.hbm, 294, rfl⟩
abbrev main_v225 : Ref sig .tc := ⟨.hbm, 295, rfl⟩
abbrev main_cst_53 : Ref sig .tc := ⟨.hbm, 296, rfl⟩
abbrev main_call8_v0 : Ref sig .tc := ⟨.hbm, 297, rfl⟩
abbrev main_call8_v1 : Ref sig .tc := ⟨.hbm, 298, rfl⟩
abbrev main_v226 : Ref sig .tc := ⟨.hbm, 299, rfl⟩
abbrev main_v227 : Ref sig .tc := ⟨.hbm, 300, rfl⟩
abbrev main_cst_54 : Ref sig .tc := ⟨.hbm, 301, rfl⟩
abbrev main_call9_v0 : Ref sig .tc := ⟨.hbm, 302, rfl⟩
abbrev main_call9_v1 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_cst_55 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_56 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_cst_57 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_cst_58 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_cst_59 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_cst_60 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_cst_61 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_cst_62 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_cst_63 : Ref sig .tc := ⟨.hbm, 368, rfl⟩
abbrev main_v284 : Ref sig .tc := ⟨.hbm, 369, rfl⟩
abbrev main_v285 : Ref sig .tc := ⟨.hbm, 370, rfl⟩
abbrev main_cst_64 : Ref sig .tc := ⟨.hbm, 371, rfl⟩
abbrev main_v286 : Ref sig .tc := ⟨.hbm, 372, rfl⟩
abbrev main_v287 : Ref sig .tc := ⟨.hbm, 373, rfl⟩
abbrev main_cst_65 : Ref sig .tc := ⟨.hbm, 374, rfl⟩
abbrev main_call11_v0 : Ref sig .tc := ⟨.hbm, 375, rfl⟩
abbrev main_call11_v1 : Ref sig .tc := ⟨.hbm, 376, rfl⟩
abbrev main_v288 : Ref sig .tc := ⟨.hbm, 377, rfl⟩
abbrev main_v289 : Ref sig .tc := ⟨.hbm, 378, rfl⟩
abbrev main_cst_66 : Ref sig .tc := ⟨.hbm, 379, rfl⟩
abbrev main_call12_v0 : Ref sig .tc := ⟨.hbm, 380, rfl⟩
abbrev main_call12_v1 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_cst_67 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_cst_68 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_v324 : Ref sig .tc := ⟨.hbm, 418, rfl⟩
abbrev main_v325 : Ref sig .tc := ⟨.hbm, 419, rfl⟩
abbrev main_cst_69 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_cst_70 : Ref sig .tc := ⟨.hbm, 425, rfl⟩
abbrev main_v330 : Ref sig .tc := ⟨.hbm, 426, rfl⟩
abbrev main_v331 : Ref sig .tc := ⟨.hbm, 427, rfl⟩
abbrev main_v332 : Ref sig .tc := ⟨.hbm, 428, rfl⟩
abbrev main_cst_71 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_cst_72 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_cst_73 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_v342 : Ref sig .tc := ⟨.hbm, 441, rfl⟩
abbrev main_cst_74 : Ref sig .tc := ⟨.hbm, 442, rfl⟩
abbrev main_v343 : Ref sig .tc := ⟨.hbm, 443, rfl⟩
abbrev main_v344 : Ref sig .tc := ⟨.hbm, 444, rfl⟩
abbrev main_v345 : Ref sig .tc := ⟨.hbm, 445, rfl⟩
abbrev main_cst_75 : Ref sig .tc := ⟨.hbm, 446, rfl⟩
abbrev main_v346 : Ref sig .tc := ⟨.hbm, 447, rfl⟩
abbrev main_v347 : Ref sig .tc := ⟨.hbm, 448, rfl⟩
abbrev main_cst_76 : Ref sig .tc := ⟨.hbm, 449, rfl⟩
abbrev main_v348 : Ref sig .tc := ⟨.hbm, 450, rfl⟩
abbrev main_v349 : Ref sig .tc := ⟨.hbm, 451, rfl⟩
abbrev main_cst_77 : Ref sig .tc := ⟨.hbm, 452, rfl⟩
abbrev main_call14_v0 : Ref sig .tc := ⟨.hbm, 453, rfl⟩
abbrev main_call14_v1 : Ref sig .tc := ⟨.hbm, 454, rfl⟩
abbrev main_v350 : Ref sig .tc := ⟨.hbm, 455, rfl⟩
abbrev main_v351 : Ref sig .tc := ⟨.hbm, 456, rfl⟩
abbrev main_cst_78 : Ref sig .tc := ⟨.hbm, 457, rfl⟩
abbrev main_call15_v0 : Ref sig .tc := ⟨.hbm, 458, rfl⟩
abbrev main_call15_v1 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_v355 : Ref sig .tc := ⟨.hbm, 463, rfl⟩
abbrev main_v356 : Ref sig .tc := ⟨.hbm, 464, rfl⟩
abbrev main_cst_79 : Ref sig .tc := ⟨.hbm, 465, rfl⟩
abbrev main_v357 : Ref sig .tc := ⟨.hbm, 466, rfl⟩
abbrev main_v358 : Ref sig .tc := ⟨.hbm, 467, rfl⟩
abbrev main_v359 : Ref sig .tc := ⟨.hbm, 468, rfl⟩
abbrev main_v360 : Ref sig .tc := ⟨.hbm, 469, rfl⟩
abbrev main_v361 : Ref sig .tc := ⟨.hbm, 470, rfl⟩
abbrev main_v362 : Ref sig .tc := ⟨.hbm, 471, rfl⟩
abbrev main_v363 : Ref sig .tc := ⟨.hbm, 472, rfl⟩
abbrev main_v364 : Ref sig .tc := ⟨.hbm, 473, rfl⟩
abbrev main_v365 : Ref sig .tc := ⟨.hbm, 474, rfl⟩
abbrev main_v366 : Ref sig .tc := ⟨.hbm, 475, rfl⟩
abbrev main_cst_80 : Ref sig .tc := ⟨.hbm, 476, rfl⟩
abbrev main_v367 : Ref sig .tc := ⟨.hbm, 477, rfl⟩
abbrev main_v368 : Ref sig .tc := ⟨.hbm, 478, rfl⟩
abbrev main_v369 : Ref sig .tc := ⟨.hbm, 479, rfl⟩
abbrev main_v370 : Ref sig .tc := ⟨.hbm, 480, rfl⟩
abbrev main_v371 : Ref sig .tc := ⟨.hbm, 481, rfl⟩
abbrev main_v372 : Ref sig .tc := ⟨.hbm, 482, rfl⟩
abbrev main_v373 : Ref sig .tc := ⟨.hbm, 483, rfl⟩
abbrev main_v374 : Ref sig .tc := ⟨.hbm, 484, rfl⟩
abbrev main_v375 : Ref sig .tc := ⟨.hbm, 485, rfl⟩
abbrev main_v376 : Ref sig .tc := ⟨.hbm, 486, rfl⟩
abbrev main_v377 : Ref sig .tc := ⟨.hbm, 487, rfl⟩
abbrev main_v378 : Ref sig .tc := ⟨.hbm, 488, rfl⟩
abbrev main_v379 : Ref sig .tc := ⟨.hbm, 489, rfl⟩
abbrev main_v380 : Ref sig .tc := ⟨.hbm, 490, rfl⟩
abbrev main_v381 : Ref sig .tc := ⟨.hbm, 491, rfl⟩
abbrev main_v382 : Ref sig .tc := ⟨.hbm, 492, rfl⟩
abbrev main_v383 : Ref sig .tc := ⟨.hbm, 493, rfl⟩
abbrev main_v384 : Ref sig .tc := ⟨.hbm, 494, rfl⟩
abbrev main_v385 : Ref sig .tc := ⟨.hbm, 495, rfl⟩
abbrev main_v386 : Ref sig .tc := ⟨.hbm, 496, rfl⟩
abbrev main_v387 : Ref sig .tc := ⟨.hbm, 497, rfl⟩
abbrev main_cst_81 : Ref sig .tc := ⟨.hbm, 498, rfl⟩
abbrev main_v388 : Ref sig .tc := ⟨.hbm, 499, rfl⟩
abbrev main_v389 : Ref sig .tc := ⟨.hbm, 500, rfl⟩
abbrev main_v390 : Ref sig .tc := ⟨.hbm, 501, rfl⟩
abbrev main_v391 : Ref sig .tc := ⟨.hbm, 502, rfl⟩
abbrev main_cst_82 : Ref sig .tc := ⟨.hbm, 503, rfl⟩
abbrev main_v392 : Ref sig .tc := ⟨.hbm, 504, rfl⟩
abbrev main_v393 : Ref sig .tc := ⟨.hbm, 505, rfl⟩
abbrev main_v394 : Ref sig .tc := ⟨.hbm, 506, rfl⟩
abbrev main_cst_83 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_cst_84 : Ref sig .tc := ⟨.hbm, 511, rfl⟩
abbrev main_v398 : Ref sig .tc := ⟨.hbm, 512, rfl⟩
abbrev main_v399 : Ref sig .tc := ⟨.hbm, 513, rfl⟩
abbrev main_v400 : Ref sig .tc := ⟨.hbm, 514, rfl⟩
abbrev main_cst_85 : Ref sig .tc := ⟨.hbm, 515, rfl⟩
abbrev main_v401 : Ref sig .tc := ⟨.hbm, 516, rfl⟩
abbrev main_v402 : Ref sig .tc := ⟨.hbm, 517, rfl⟩
abbrev main_v403 : Ref sig .tc := ⟨.hbm, 518, rfl⟩
abbrev main_v404 : Ref sig .tc := ⟨.hbm, 519, rfl⟩
abbrev main_cst_86 : Ref sig .tc := ⟨.hbm, 520, rfl⟩
abbrev main_v405 : Ref sig .tc := ⟨.hbm, 521, rfl⟩
abbrev main_v406 : Ref sig .tc := ⟨.hbm, 522, rfl⟩
abbrev main_v407 : Ref sig .tc := ⟨.hbm, 523, rfl⟩
abbrev main_cst_87 : Ref sig .tc := ⟨.hbm, 524, rfl⟩
abbrev main_v408 : Ref sig .tc := ⟨.hbm, 525, rfl⟩
abbrev main_v409 : Ref sig .tc := ⟨.hbm, 526, rfl⟩
abbrev main_cst_88 : Ref sig .tc := ⟨.hbm, 527, rfl⟩
abbrev main_v410 : Ref sig .tc := ⟨.hbm, 528, rfl⟩
abbrev main_v411 : Ref sig .tc := ⟨.hbm, 529, rfl⟩
abbrev main_cst_89 : Ref sig .tc := ⟨.hbm, 530, rfl⟩
abbrev main_call17_v0 : Ref sig .tc := ⟨.hbm, 531, rfl⟩
abbrev main_call17_v1 : Ref sig .tc := ⟨.hbm, 532, rfl⟩
abbrev main_v412 : Ref sig .tc := ⟨.hbm, 533, rfl⟩
abbrev main_v413 : Ref sig .tc := ⟨.hbm, 534, rfl⟩
abbrev main_cst_90 : Ref sig .tc := ⟨.hbm, 535, rfl⟩
abbrev main_call18_v0 : Ref sig .tc := ⟨.hbm, 536, rfl⟩
abbrev main_call18_v1 : Ref sig .tc := ⟨.hbm, 537, rfl⟩
abbrev main_v414 : Ref sig .tc := ⟨.hbm, 538, rfl⟩
abbrev main_v415 : Ref sig .tc := ⟨.hbm, 539, rfl⟩
abbrev main_v416 : Ref sig .tc := ⟨.hbm, 540, rfl⟩
abbrev main_v417 : Ref sig .tc := ⟨.hbm, 541, rfl⟩
abbrev main_v418 : Ref sig .tc := ⟨.hbm, 542, rfl⟩
abbrev main_cst_91 : Ref sig .tc := ⟨.hbm, 543, rfl⟩
abbrev main_v419 : Ref sig .tc := ⟨.hbm, 544, rfl⟩
abbrev main_v420 : Ref sig .tc := ⟨.hbm, 545, rfl⟩
abbrev main_v421 : Ref sig .tc := ⟨.hbm, 546, rfl⟩
abbrev main_v422 : Ref sig .tc := ⟨.hbm, 547, rfl⟩
abbrev main_v423 : Ref sig .tc := ⟨.hbm, 548, rfl⟩
abbrev main_v424 : Ref sig .tc := ⟨.hbm, 549, rfl⟩
abbrev main_v425 : Ref sig .tc := ⟨.hbm, 550, rfl⟩
abbrev main_v426 : Ref sig .tc := ⟨.hbm, 551, rfl⟩
abbrev main_v427 : Ref sig .tc := ⟨.hbm, 552, rfl⟩
abbrev main_v428 : Ref sig .tc := ⟨.hbm, 553, rfl⟩
abbrev main_cst_92 : Ref sig .tc := ⟨.hbm, 554, rfl⟩
abbrev main_v429 : Ref sig .tc := ⟨.hbm, 555, rfl⟩
abbrev main_v430 : Ref sig .tc := ⟨.hbm, 556, rfl⟩
abbrev main_v431 : Ref sig .tc := ⟨.hbm, 557, rfl⟩
abbrev main_v432 : Ref sig .tc := ⟨.hbm, 558, rfl⟩
abbrev main_v433 : Ref sig .tc := ⟨.hbm, 559, rfl⟩
abbrev main_v434 : Ref sig .tc := ⟨.hbm, 560, rfl⟩
abbrev main_v435 : Ref sig .tc := ⟨.hbm, 561, rfl⟩
abbrev main_v436 : Ref sig .tc := ⟨.hbm, 562, rfl⟩
abbrev main_v437 : Ref sig .tc := ⟨.hbm, 563, rfl⟩
abbrev main_v438 : Ref sig .tc := ⟨.hbm, 564, rfl⟩
abbrev main_v439 : Ref sig .tc := ⟨.hbm, 565, rfl⟩
abbrev main_v440 : Ref sig .tc := ⟨.hbm, 566, rfl⟩
abbrev main_v441 : Ref sig .tc := ⟨.hbm, 567, rfl⟩
abbrev main_v442 : Ref sig .tc := ⟨.hbm, 568, rfl⟩
abbrev main_v443 : Ref sig .tc := ⟨.hbm, 569, rfl⟩
abbrev main_v444 : Ref sig .tc := ⟨.hbm, 570, rfl⟩
abbrev main_v445 : Ref sig .tc := ⟨.hbm, 571, rfl⟩
abbrev main_v446 : Ref sig .tc := ⟨.hbm, 572, rfl⟩
abbrev main_v447 : Ref sig .tc := ⟨.hbm, 573, rfl⟩
abbrev main_v448 : Ref sig .tc := ⟨.hbm, 574, rfl⟩
abbrev main_v449 : Ref sig .tc := ⟨.hbm, 575, rfl⟩
abbrev main_cst_93 : Ref sig .tc := ⟨.hbm, 576, rfl⟩
abbrev main_v450 : Ref sig .tc := ⟨.hbm, 577, rfl⟩
abbrev main_v451 : Ref sig .tc := ⟨.hbm, 578, rfl⟩
abbrev main_v452 : Ref sig .tc := ⟨.hbm, 579, rfl⟩
abbrev main_v453 : Ref sig .tc := ⟨.hbm, 580, rfl⟩
abbrev main_cst_94 : Ref sig .tc := ⟨.hbm, 581, rfl⟩
abbrev main_v454 : Ref sig .tc := ⟨.hbm, 582, rfl⟩
abbrev main_v455 : Ref sig .tc := ⟨.hbm, 583, rfl⟩
abbrev main_v456 : Ref sig .tc := ⟨.hbm, 584, rfl⟩
abbrev main_cst_95 : Ref sig .tc := ⟨.hbm, 585, rfl⟩
abbrev main_v457 : Ref sig .tc := ⟨.hbm, 586, rfl⟩
abbrev main_v458 : Ref sig .tc := ⟨.hbm, 587, rfl⟩
abbrev main_v459 : Ref sig .tc := ⟨.hbm, 588, rfl⟩
abbrev main_cst_96 : Ref sig .tc := ⟨.hbm, 589, rfl⟩
abbrev main_v460 : Ref sig .tc := ⟨.hbm, 590, rfl⟩
abbrev main_v461 : Ref sig .tc := ⟨.hbm, 591, rfl⟩
abbrev main_v462 : Ref sig .tc := ⟨.hbm, 592, rfl⟩
abbrev main_cst_97 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_cst_98 : Ref sig .tc := ⟨.hbm, 598, rfl⟩
abbrev main_v467 : Ref sig .tc := ⟨.hbm, 599, rfl⟩
abbrev main_v468 : Ref sig .tc := ⟨.hbm, 600, rfl⟩
abbrev main_v469 : Ref sig .tc := ⟨.hbm, 601, rfl⟩
abbrev main_cst_99 : Ref sig .tc := ⟨.hbm, 602, rfl⟩
abbrev main_v470 : Ref sig .tc := ⟨.hbm, 603, rfl⟩
abbrev main_v471 : Ref sig .tc := ⟨.hbm, 604, rfl⟩
abbrev main_cst_100 : Ref sig .tc := ⟨.hbm, 605, rfl⟩
abbrev main_v472 : Ref sig .tc := ⟨.hbm, 606, rfl⟩
abbrev main_v473 : Ref sig .tc := ⟨.hbm, 607, rfl⟩
abbrev main_cst_101 : Ref sig .tc := ⟨.hbm, 608, rfl⟩
abbrev main_call20_v0 : Ref sig .tc := ⟨.hbm, 609, rfl⟩
abbrev main_call20_v1 : Ref sig .tc := ⟨.hbm, 610, rfl⟩
abbrev main_v474 : Ref sig .tc := ⟨.hbm, 611, rfl⟩
abbrev main_v475 : Ref sig .tc := ⟨.hbm, 612, rfl⟩
abbrev main_cst_102 : Ref sig .tc := ⟨.hbm, 613, rfl⟩
abbrev main_call21_v0 : Ref sig .tc := ⟨.hbm, 614, rfl⟩
abbrev main_call21_v1 : Ref sig .tc := ⟨.hbm, 615, rfl⟩
abbrev main_v476 : Ref sig .tc := ⟨.hbm, 616, rfl⟩
abbrev main_v477 : Ref sig .tc := ⟨.hbm, 617, rfl⟩
abbrev main_v478 : Ref sig .tc := ⟨.hbm, 618, rfl⟩
abbrev main_v479 : Ref sig .tc := ⟨.hbm, 619, rfl⟩
abbrev main_v480 : Ref sig .tc := ⟨.hbm, 620, rfl⟩
abbrev main_cst_103 : Ref sig .tc := ⟨.hbm, 621, rfl⟩
abbrev main_v481 : Ref sig .tc := ⟨.hbm, 622, rfl⟩
abbrev main_v482 : Ref sig .tc := ⟨.hbm, 623, rfl⟩
abbrev main_v483 : Ref sig .tc := ⟨.hbm, 624, rfl⟩
abbrev main_v484 : Ref sig .tc := ⟨.hbm, 625, rfl⟩
abbrev main_v485 : Ref sig .tc := ⟨.hbm, 626, rfl⟩
abbrev main_v486 : Ref sig .tc := ⟨.hbm, 627, rfl⟩
abbrev main_v487 : Ref sig .tc := ⟨.hbm, 628, rfl⟩
abbrev main_v488 : Ref sig .tc := ⟨.hbm, 629, rfl⟩
abbrev main_v489 : Ref sig .tc := ⟨.hbm, 630, rfl⟩
abbrev main_v490 : Ref sig .tc := ⟨.hbm, 631, rfl⟩
abbrev main_cst_104 : Ref sig .tc := ⟨.hbm, 632, rfl⟩
abbrev main_v491 : Ref sig .tc := ⟨.hbm, 633, rfl⟩
abbrev main_v492 : Ref sig .tc := ⟨.hbm, 634, rfl⟩
abbrev main_v493 : Ref sig .tc := ⟨.hbm, 635, rfl⟩
abbrev main_v494 : Ref sig .tc := ⟨.hbm, 636, rfl⟩
abbrev main_v495 : Ref sig .tc := ⟨.hbm, 637, rfl⟩
abbrev main_v496 : Ref sig .tc := ⟨.hbm, 638, rfl⟩
abbrev main_v497 : Ref sig .tc := ⟨.hbm, 639, rfl⟩
abbrev main_v498 : Ref sig .tc := ⟨.hbm, 640, rfl⟩
abbrev main_v499 : Ref sig .tc := ⟨.hbm, 641, rfl⟩
abbrev main_v500 : Ref sig .tc := ⟨.hbm, 642, rfl⟩
abbrev main_v501 : Ref sig .tc := ⟨.hbm, 643, rfl⟩
abbrev main_v502 : Ref sig .tc := ⟨.hbm, 644, rfl⟩
abbrev main_v503 : Ref sig .tc := ⟨.hbm, 645, rfl⟩
abbrev main_v504 : Ref sig .tc := ⟨.hbm, 646, rfl⟩
abbrev main_v505 : Ref sig .tc := ⟨.hbm, 647, rfl⟩
abbrev main_v506 : Ref sig .tc := ⟨.hbm, 648, rfl⟩
abbrev main_v507 : Ref sig .tc := ⟨.hbm, 649, rfl⟩
abbrev main_v508 : Ref sig .tc := ⟨.hbm, 650, rfl⟩
abbrev main_v509 : Ref sig .tc := ⟨.hbm, 651, rfl⟩
abbrev main_v510 : Ref sig .tc := ⟨.hbm, 652, rfl⟩
abbrev main_v511 : Ref sig .tc := ⟨.hbm, 653, rfl⟩
abbrev main_cst_105 : Ref sig .tc := ⟨.hbm, 654, rfl⟩
abbrev main_v512 : Ref sig .tc := ⟨.hbm, 655, rfl⟩
abbrev main_v513 : Ref sig .tc := ⟨.hbm, 656, rfl⟩
abbrev main_v514 : Ref sig .tc := ⟨.hbm, 657, rfl⟩
abbrev main_v515 : Ref sig .tc := ⟨.hbm, 658, rfl⟩
abbrev main_cst_106 : Ref sig .tc := ⟨.hbm, 659, rfl⟩
abbrev main_v516 : Ref sig .tc := ⟨.hbm, 660, rfl⟩
abbrev main_v517 : Ref sig .tc := ⟨.hbm, 661, rfl⟩
abbrev main_v518 : Ref sig .tc := ⟨.hbm, 662, rfl⟩
abbrev main_cst_107 : Ref sig .tc := ⟨.hbm, 663, rfl⟩
abbrev main_v519 : Ref sig .tc := ⟨.hbm, 664, rfl⟩
abbrev main_v520 : Ref sig .tc := ⟨.hbm, 665, rfl⟩
abbrev main_v521 : Ref sig .tc := ⟨.hbm, 666, rfl⟩
abbrev main_cst_108 : Ref sig .tc := ⟨.hbm, 667, rfl⟩
abbrev main_v522 : Ref sig .tc := ⟨.hbm, 668, rfl⟩
abbrev main_v523 : Ref sig .tc := ⟨.hbm, 669, rfl⟩
abbrev main_v524 : Ref sig .tc := ⟨.hbm, 670, rfl⟩
abbrev main_cst_109 : Ref sig .tc := ⟨.hbm, 671, rfl⟩
abbrev main_v525 : Ref sig .tc := ⟨.hbm, 672, rfl⟩
abbrev main_v526 : Ref sig .tc := ⟨.hbm, 673, rfl⟩
abbrev main_v527 : Ref sig .tc := ⟨.hbm, 674, rfl⟩
abbrev main_v528 : Ref sig .tc := ⟨.hbm, 675, rfl⟩
abbrev main_cst_110 : Ref sig .tc := ⟨.hbm, 676, rfl⟩
abbrev main_v529 : Ref sig .tc := ⟨.hbm, 677, rfl⟩
abbrev main_v530 : Ref sig .tc := ⟨.hbm, 678, rfl⟩
abbrev main_v531 : Ref sig .tc := ⟨.hbm, 679, rfl⟩
abbrev main_cst_111 : Ref sig .tc := ⟨.hbm, 680, rfl⟩
abbrev main_v532 : Ref sig .tc := ⟨.hbm, 681, rfl⟩
abbrev main_v533 : Ref sig .tc := ⟨.hbm, 682, rfl⟩
abbrev main_cst_112 : Ref sig .tc := ⟨.hbm, 683, rfl⟩
abbrev main_v534 : Ref sig .tc := ⟨.hbm, 684, rfl⟩
abbrev main_v535 : Ref sig .tc := ⟨.hbm, 685, rfl⟩
abbrev main_cst_113 : Ref sig .tc := ⟨.hbm, 686, rfl⟩
abbrev main_call23_v0 : Ref sig .tc := ⟨.hbm, 687, rfl⟩
abbrev main_call23_v1 : Ref sig .tc := ⟨.hbm, 688, rfl⟩
abbrev main_v536 : Ref sig .tc := ⟨.hbm, 689, rfl⟩
abbrev main_v537 : Ref sig .tc := ⟨.hbm, 690, rfl⟩
abbrev main_cst_114 : Ref sig .tc := ⟨.hbm, 691, rfl⟩
abbrev main_call24_v0 : Ref sig .tc := ⟨.hbm, 692, rfl⟩
abbrev main_call24_v1 : Ref sig .tc := ⟨.hbm, 693, rfl⟩
abbrev main_v538 : Ref sig .tc := ⟨.hbm, 694, rfl⟩
abbrev main_v539 : Ref sig .tc := ⟨.hbm, 695, rfl⟩
abbrev main_v540 : Ref sig .tc := ⟨.hbm, 696, rfl⟩
abbrev main_v541 : Ref sig .tc := ⟨.hbm, 697, rfl⟩
abbrev main_v542 : Ref sig .tc := ⟨.hbm, 698, rfl⟩
abbrev main_cst_115 : Ref sig .tc := ⟨.hbm, 699, rfl⟩
abbrev main_v543 : Ref sig .tc := ⟨.hbm, 700, rfl⟩
abbrev main_v544 : Ref sig .tc := ⟨.hbm, 701, rfl⟩
abbrev main_v545 : Ref sig .tc := ⟨.hbm, 702, rfl⟩
abbrev main_v546 : Ref sig .tc := ⟨.hbm, 703, rfl⟩
abbrev main_v547 : Ref sig .tc := ⟨.hbm, 704, rfl⟩
abbrev main_v548 : Ref sig .tc := ⟨.hbm, 705, rfl⟩
abbrev main_v549 : Ref sig .tc := ⟨.hbm, 706, rfl⟩
abbrev main_v550 : Ref sig .tc := ⟨.hbm, 707, rfl⟩
abbrev main_v551 : Ref sig .tc := ⟨.hbm, 708, rfl⟩
abbrev main_v552 : Ref sig .tc := ⟨.hbm, 709, rfl⟩
abbrev main_cst_116 : Ref sig .tc := ⟨.hbm, 710, rfl⟩
abbrev main_v553 : Ref sig .tc := ⟨.hbm, 711, rfl⟩
abbrev main_v554 : Ref sig .tc := ⟨.hbm, 712, rfl⟩
abbrev main_v555 : Ref sig .tc := ⟨.hbm, 713, rfl⟩
abbrev main_v556 : Ref sig .tc := ⟨.hbm, 714, rfl⟩
abbrev main_v557 : Ref sig .tc := ⟨.hbm, 715, rfl⟩
abbrev main_v558 : Ref sig .tc := ⟨.hbm, 716, rfl⟩
abbrev main_v559 : Ref sig .tc := ⟨.hbm, 717, rfl⟩
abbrev main_v560 : Ref sig .tc := ⟨.hbm, 718, rfl⟩
abbrev main_v561 : Ref sig .tc := ⟨.hbm, 719, rfl⟩
abbrev main_v562 : Ref sig .tc := ⟨.hbm, 720, rfl⟩
abbrev main_v563 : Ref sig .tc := ⟨.hbm, 721, rfl⟩
abbrev main_v564 : Ref sig .tc := ⟨.hbm, 722, rfl⟩
abbrev main_v565 : Ref sig .tc := ⟨.hbm, 723, rfl⟩
abbrev main_v566 : Ref sig .tc := ⟨.hbm, 724, rfl⟩
abbrev main_v567 : Ref sig .tc := ⟨.hbm, 725, rfl⟩
abbrev main_v568 : Ref sig .tc := ⟨.hbm, 726, rfl⟩
abbrev main_v569 : Ref sig .tc := ⟨.hbm, 727, rfl⟩
abbrev main_v570 : Ref sig .tc := ⟨.hbm, 728, rfl⟩
abbrev main_v571 : Ref sig .tc := ⟨.hbm, 729, rfl⟩
abbrev main_v572 : Ref sig .tc := ⟨.hbm, 730, rfl⟩
abbrev main_v573 : Ref sig .tc := ⟨.hbm, 731, rfl⟩
abbrev main_cst_117 : Ref sig .tc := ⟨.hbm, 732, rfl⟩
abbrev main_v574 : Ref sig .tc := ⟨.hbm, 733, rfl⟩
abbrev main_v575 : Ref sig .tc := ⟨.hbm, 734, rfl⟩
abbrev main_v576 : Ref sig .tc := ⟨.hbm, 735, rfl⟩
abbrev main_v577 : Ref sig .tc := ⟨.hbm, 736, rfl⟩
abbrev main_cst_118 : Ref sig .tc := ⟨.hbm, 737, rfl⟩
abbrev main_v578 : Ref sig .tc := ⟨.hbm, 738, rfl⟩
abbrev main_v579 : Ref sig .tc := ⟨.hbm, 739, rfl⟩
abbrev main_v580 : Ref sig .tc := ⟨.hbm, 740, rfl⟩
abbrev main_cst_119 : Ref sig .tc := ⟨.hbm, 741, rfl⟩
abbrev main_v581 : Ref sig .tc := ⟨.hbm, 742, rfl⟩
abbrev main_v582 : Ref sig .tc := ⟨.hbm, 743, rfl⟩
abbrev main_v583 : Ref sig .tc := ⟨.hbm, 744, rfl⟩
abbrev main_cst_120 : Ref sig .tc := ⟨.hbm, 745, rfl⟩
abbrev main_v584 : Ref sig .tc := ⟨.hbm, 746, rfl⟩
abbrev main_v585 : Ref sig .tc := ⟨.hbm, 747, rfl⟩
abbrev main_v586 : Ref sig .tc := ⟨.hbm, 748, rfl⟩
abbrev main_cst_121 : Ref sig .tc := ⟨.hbm, 749, rfl⟩
abbrev main_v587 : Ref sig .tc := ⟨.hbm, 750, rfl⟩
abbrev main_v588 : Ref sig .tc := ⟨.hbm, 751, rfl⟩
abbrev main_v589 : Ref sig .tc := ⟨.hbm, 752, rfl⟩
abbrev main_v590 : Ref sig .tc := ⟨.hbm, 753, rfl⟩
abbrev main_cst_122 : Ref sig .tc := ⟨.hbm, 754, rfl⟩
abbrev main_v591 : Ref sig .tc := ⟨.hbm, 755, rfl⟩
abbrev main_v592 : Ref sig .tc := ⟨.hbm, 756, rfl⟩
abbrev main_v593 : Ref sig .tc := ⟨.hbm, 757, rfl⟩
abbrev main_cst_123 : Ref sig .tc := ⟨.hbm, 758, rfl⟩
abbrev main_v594 : Ref sig .tc := ⟨.hbm, 759, rfl⟩
abbrev main_v595 : Ref sig .tc := ⟨.hbm, 760, rfl⟩
abbrev main_cst_124 : Ref sig .tc := ⟨.hbm, 761, rfl⟩
abbrev main_v596 : Ref sig .tc := ⟨.hbm, 762, rfl⟩
abbrev main_v597 : Ref sig .tc := ⟨.hbm, 763, rfl⟩
abbrev main_cst_125 : Ref sig .tc := ⟨.hbm, 764, rfl⟩
abbrev main_call26_v0 : Ref sig .tc := ⟨.hbm, 765, rfl⟩
abbrev main_call26_v1 : Ref sig .tc := ⟨.hbm, 766, rfl⟩
abbrev main_v598 : Ref sig .tc := ⟨.hbm, 767, rfl⟩
abbrev main_v599 : Ref sig .tc := ⟨.hbm, 768, rfl⟩
abbrev main_cst_126 : Ref sig .tc := ⟨.hbm, 769, rfl⟩
abbrev main_call27_v0 : Ref sig .tc := ⟨.hbm, 770, rfl⟩
abbrev main_call27_v1 : Ref sig .tc := ⟨.hbm, 771, rfl⟩
abbrev main_v600 : Ref sig .tc := ⟨.hbm, 772, rfl⟩
abbrev main_v601 : Ref sig .tc := ⟨.hbm, 773, rfl⟩
abbrev main_v602 : Ref sig .tc := ⟨.hbm, 774, rfl⟩
abbrev main_v603 : Ref sig .tc := ⟨.hbm, 775, rfl⟩
abbrev main_v604 : Ref sig .tc := ⟨.hbm, 776, rfl⟩
abbrev main_cst_127 : Ref sig .tc := ⟨.hbm, 777, rfl⟩
abbrev main_v605 : Ref sig .tc := ⟨.hbm, 778, rfl⟩
abbrev main_v606 : Ref sig .tc := ⟨.hbm, 779, rfl⟩
abbrev main_v607 : Ref sig .tc := ⟨.hbm, 780, rfl⟩
abbrev main_v608 : Ref sig .tc := ⟨.hbm, 781, rfl⟩
abbrev main_v609 : Ref sig .tc := ⟨.hbm, 782, rfl⟩
abbrev main_v610 : Ref sig .tc := ⟨.hbm, 783, rfl⟩
abbrev main_v611 : Ref sig .tc := ⟨.hbm, 784, rfl⟩
abbrev main_v612 : Ref sig .tc := ⟨.hbm, 785, rfl⟩
abbrev main_v613 : Ref sig .tc := ⟨.hbm, 786, rfl⟩
abbrev main_v614 : Ref sig .tc := ⟨.hbm, 787, rfl⟩
abbrev main_cst_128 : Ref sig .tc := ⟨.hbm, 788, rfl⟩
abbrev main_v615 : Ref sig .tc := ⟨.hbm, 789, rfl⟩
abbrev main_v616 : Ref sig .tc := ⟨.hbm, 790, rfl⟩
abbrev main_v617 : Ref sig .tc := ⟨.hbm, 791, rfl⟩
abbrev main_v618 : Ref sig .tc := ⟨.hbm, 792, rfl⟩
abbrev main_v619 : Ref sig .tc := ⟨.hbm, 793, rfl⟩
abbrev main_v620 : Ref sig .tc := ⟨.hbm, 794, rfl⟩
abbrev main_v621 : Ref sig .tc := ⟨.hbm, 795, rfl⟩
abbrev main_v622 : Ref sig .tc := ⟨.hbm, 796, rfl⟩
abbrev main_v623 : Ref sig .tc := ⟨.hbm, 797, rfl⟩
abbrev main_v624 : Ref sig .tc := ⟨.hbm, 798, rfl⟩
abbrev main_v625 : Ref sig .tc := ⟨.hbm, 799, rfl⟩
abbrev main_v626 : Ref sig .tc := ⟨.hbm, 800, rfl⟩
abbrev main_v627 : Ref sig .tc := ⟨.hbm, 801, rfl⟩
abbrev main_v628 : Ref sig .tc := ⟨.hbm, 802, rfl⟩
abbrev main_v629 : Ref sig .tc := ⟨.hbm, 803, rfl⟩
abbrev main_v630 : Ref sig .tc := ⟨.hbm, 804, rfl⟩
abbrev main_v631 : Ref sig .tc := ⟨.hbm, 805, rfl⟩
abbrev main_v632 : Ref sig .tc := ⟨.hbm, 806, rfl⟩
abbrev main_v633 : Ref sig .tc := ⟨.hbm, 807, rfl⟩
abbrev main_v634 : Ref sig .tc := ⟨.hbm, 808, rfl⟩
abbrev main_v635 : Ref sig .tc := ⟨.hbm, 809, rfl⟩
abbrev main_cst_129 : Ref sig .tc := ⟨.hbm, 810, rfl⟩
abbrev main_v636 : Ref sig .tc := ⟨.hbm, 811, rfl⟩
abbrev main_v637 : Ref sig .tc := ⟨.hbm, 812, rfl⟩
abbrev main_v638 : Ref sig .tc := ⟨.hbm, 813, rfl⟩
abbrev main_v639 : Ref sig .tc := ⟨.hbm, 814, rfl⟩
abbrev main_cst_130 : Ref sig .tc := ⟨.hbm, 815, rfl⟩
abbrev main_v640 : Ref sig .tc := ⟨.hbm, 816, rfl⟩
abbrev main_v641 : Ref sig .tc := ⟨.hbm, 817, rfl⟩
abbrev main_v642 : Ref sig .tc := ⟨.hbm, 818, rfl⟩
abbrev main_cst_131 : Ref sig .tc := ⟨.hbm, 819, rfl⟩
abbrev main_v643 : Ref sig .tc := ⟨.hbm, 820, rfl⟩
abbrev main_v644 : Ref sig .tc := ⟨.hbm, 821, rfl⟩
abbrev main_v645 : Ref sig .tc := ⟨.hbm, 822, rfl⟩
abbrev main_cst_132 : Ref sig .tc := ⟨.hbm, 823, rfl⟩
abbrev main_v646 : Ref sig .tc := ⟨.hbm, 824, rfl⟩
abbrev main_v647 : Ref sig .tc := ⟨.hbm, 825, rfl⟩
abbrev main_v648 : Ref sig .tc := ⟨.hbm, 826, rfl⟩
abbrev main_cst_133 : Ref sig .tc := ⟨.hbm, 827, rfl⟩
abbrev main_v649 : Ref sig .tc := ⟨.hbm, 828, rfl⟩
abbrev main_v650 : Ref sig .tc := ⟨.hbm, 829, rfl⟩
abbrev main_v651 : Ref sig .tc := ⟨.hbm, 830, rfl⟩
abbrev main_v652 : Ref sig .tc := ⟨.hbm, 831, rfl⟩
abbrev main_cst_134 : Ref sig .tc := ⟨.hbm, 832, rfl⟩
abbrev main_v653 : Ref sig .tc := ⟨.hbm, 833, rfl⟩
abbrev main_v654 : Ref sig .tc := ⟨.hbm, 834, rfl⟩
abbrev main_v655 : Ref sig .tc := ⟨.hbm, 835, rfl⟩
abbrev main_cst_135 : Ref sig .tc := ⟨.hbm, 836, rfl⟩
abbrev main_v656 : Ref sig .tc := ⟨.hbm, 837, rfl⟩
abbrev main_v657 : Ref sig .tc := ⟨.hbm, 838, rfl⟩
abbrev main_cst_136 : Ref sig .tc := ⟨.hbm, 839, rfl⟩
abbrev main_v658 : Ref sig .tc := ⟨.hbm, 840, rfl⟩
abbrev main_v659 : Ref sig .tc := ⟨.hbm, 841, rfl⟩
abbrev main_cst_137 : Ref sig .tc := ⟨.hbm, 842, rfl⟩
abbrev main_call29_v0 : Ref sig .tc := ⟨.hbm, 843, rfl⟩
abbrev main_call29_v1 : Ref sig .tc := ⟨.hbm, 844, rfl⟩
abbrev main_v660 : Ref sig .tc := ⟨.hbm, 845, rfl⟩
abbrev main_v661 : Ref sig .tc := ⟨.hbm, 846, rfl⟩
abbrev main_cst_138 : Ref sig .tc := ⟨.hbm, 847, rfl⟩
abbrev main_call30_v0 : Ref sig .tc := ⟨.hbm, 848, rfl⟩
abbrev main_call30_v1 : Ref sig .tc := ⟨.hbm, 849, rfl⟩
abbrev main_v662 : Ref sig .tc := ⟨.hbm, 850, rfl⟩
abbrev main_v663 : Ref sig .tc := ⟨.hbm, 851, rfl⟩
abbrev main_v664 : Ref sig .tc := ⟨.hbm, 852, rfl⟩
abbrev main_v665 : Ref sig .tc := ⟨.hbm, 853, rfl⟩
abbrev main_v666 : Ref sig .tc := ⟨.hbm, 854, rfl⟩
abbrev main_cst_139 : Ref sig .tc := ⟨.hbm, 855, rfl⟩
abbrev main_v667 : Ref sig .tc := ⟨.hbm, 856, rfl⟩
abbrev main_v668 : Ref sig .tc := ⟨.hbm, 857, rfl⟩
abbrev main_v669 : Ref sig .tc := ⟨.hbm, 858, rfl⟩
abbrev main_v670 : Ref sig .tc := ⟨.hbm, 859, rfl⟩
abbrev main_v671 : Ref sig .tc := ⟨.hbm, 860, rfl⟩
abbrev main_v672 : Ref sig .tc := ⟨.hbm, 861, rfl⟩
abbrev main_v673 : Ref sig .tc := ⟨.hbm, 862, rfl⟩
abbrev main_v674 : Ref sig .tc := ⟨.hbm, 863, rfl⟩
abbrev main_v675 : Ref sig .tc := ⟨.hbm, 864, rfl⟩
abbrev main_v676 : Ref sig .tc := ⟨.hbm, 865, rfl⟩
abbrev main_cst_140 : Ref sig .tc := ⟨.hbm, 866, rfl⟩
abbrev main_v677 : Ref sig .tc := ⟨.hbm, 867, rfl⟩
abbrev main_v678 : Ref sig .tc := ⟨.hbm, 868, rfl⟩
abbrev main_v679 : Ref sig .tc := ⟨.hbm, 869, rfl⟩
abbrev main_v680 : Ref sig .tc := ⟨.hbm, 870, rfl⟩
abbrev main_v681 : Ref sig .tc := ⟨.hbm, 871, rfl⟩
abbrev main_v682 : Ref sig .tc := ⟨.hbm, 872, rfl⟩
abbrev main_v683 : Ref sig .tc := ⟨.hbm, 873, rfl⟩
abbrev main_v684 : Ref sig .tc := ⟨.hbm, 874, rfl⟩
abbrev main_v685 : Ref sig .tc := ⟨.hbm, 875, rfl⟩
abbrev main_v686 : Ref sig .tc := ⟨.hbm, 876, rfl⟩
abbrev main_v687 : Ref sig .tc := ⟨.hbm, 877, rfl⟩
abbrev main_v688 : Ref sig .tc := ⟨.hbm, 878, rfl⟩
abbrev main_v689 : Ref sig .tc := ⟨.hbm, 879, rfl⟩
abbrev main_v690 : Ref sig .tc := ⟨.hbm, 880, rfl⟩
abbrev main_v691 : Ref sig .tc := ⟨.hbm, 881, rfl⟩
abbrev main_v692 : Ref sig .tc := ⟨.hbm, 882, rfl⟩
abbrev main_v693 : Ref sig .tc := ⟨.hbm, 883, rfl⟩
abbrev main_v694 : Ref sig .tc := ⟨.hbm, 884, rfl⟩
abbrev main_v695 : Ref sig .tc := ⟨.hbm, 885, rfl⟩
abbrev main_v696 : Ref sig .tc := ⟨.hbm, 886, rfl⟩
abbrev main_v697 : Ref sig .tc := ⟨.hbm, 887, rfl⟩
abbrev main_cst_141 : Ref sig .tc := ⟨.hbm, 888, rfl⟩
abbrev main_v698 : Ref sig .tc := ⟨.hbm, 889, rfl⟩
abbrev main_v699 : Ref sig .tc := ⟨.hbm, 890, rfl⟩
abbrev main_v700 : Ref sig .tc := ⟨.hbm, 891, rfl⟩
abbrev main_v701 : Ref sig .tc := ⟨.hbm, 892, rfl⟩
abbrev main_cst_142 : Ref sig .tc := ⟨.hbm, 893, rfl⟩
abbrev main_v702 : Ref sig .tc := ⟨.hbm, 894, rfl⟩
abbrev main_v703 : Ref sig .tc := ⟨.hbm, 895, rfl⟩
abbrev main_v704 : Ref sig .tc := ⟨.hbm, 896, rfl⟩
abbrev main_cst_143 : Ref sig .tc := ⟨.hbm, 897, rfl⟩
abbrev main_v705 : Ref sig .tc := ⟨.hbm, 898, rfl⟩
abbrev main_v706 : Ref sig .tc := ⟨.hbm, 899, rfl⟩
abbrev main_v707 : Ref sig .tc := ⟨.hbm, 900, rfl⟩
abbrev main_cst_144 : Ref sig .tc := ⟨.hbm, 901, rfl⟩
abbrev main_v708 : Ref sig .tc := ⟨.hbm, 902, rfl⟩
abbrev main_v709 : Ref sig .tc := ⟨.hbm, 903, rfl⟩
abbrev main_v710 : Ref sig .tc := ⟨.hbm, 904, rfl⟩
abbrev main_cst_145 : Ref sig .tc := ⟨.hbm, 905, rfl⟩
abbrev main_v711 : Ref sig .tc := ⟨.hbm, 906, rfl⟩
abbrev main_v712 : Ref sig .tc := ⟨.hbm, 907, rfl⟩
abbrev main_v713 : Ref sig .tc := ⟨.hbm, 908, rfl⟩
abbrev main_v714 : Ref sig .tc := ⟨.hbm, 909, rfl⟩
abbrev main_cst_146 : Ref sig .tc := ⟨.hbm, 910, rfl⟩
abbrev main_v715 : Ref sig .tc := ⟨.hbm, 911, rfl⟩
abbrev main_v716 : Ref sig .tc := ⟨.hbm, 912, rfl⟩
abbrev main_v717 : Ref sig .tc := ⟨.hbm, 913, rfl⟩
abbrev main_cst_147 : Ref sig .tc := ⟨.hbm, 914, rfl⟩
abbrev main_v718 : Ref sig .tc := ⟨.hbm, 915, rfl⟩
abbrev main_v719 : Ref sig .tc := ⟨.hbm, 916, rfl⟩
abbrev main_cst_148 : Ref sig .tc := ⟨.hbm, 917, rfl⟩
abbrev main_v720 : Ref sig .tc := ⟨.hbm, 918, rfl⟩
abbrev main_v721 : Ref sig .tc := ⟨.hbm, 919, rfl⟩
abbrev main_cst_149 : Ref sig .tc := ⟨.hbm, 920, rfl⟩
abbrev main_call32_v0 : Ref sig .tc := ⟨.hbm, 921, rfl⟩
abbrev main_call32_v1 : Ref sig .tc := ⟨.hbm, 922, rfl⟩
abbrev main_v722 : Ref sig .tc := ⟨.hbm, 923, rfl⟩
abbrev main_v723 : Ref sig .tc := ⟨.hbm, 924, rfl⟩
abbrev main_cst_150 : Ref sig .tc := ⟨.hbm, 925, rfl⟩
abbrev main_call33_v0 : Ref sig .tc := ⟨.hbm, 926, rfl⟩
abbrev main_call33_v1 : Ref sig .tc := ⟨.hbm, 927, rfl⟩
abbrev main_v724 : Ref sig .tc := ⟨.hbm, 928, rfl⟩
abbrev main_v725 : Ref sig .tc := ⟨.hbm, 929, rfl⟩
abbrev main_v726 : Ref sig .tc := ⟨.hbm, 930, rfl⟩
abbrev main_v727 : Ref sig .tc := ⟨.hbm, 931, rfl⟩
abbrev main_v728 : Ref sig .tc := ⟨.hbm, 932, rfl⟩
abbrev main_cst_151 : Ref sig .tc := ⟨.hbm, 933, rfl⟩
abbrev main_v729 : Ref sig .tc := ⟨.hbm, 934, rfl⟩
abbrev main_v730 : Ref sig .tc := ⟨.hbm, 935, rfl⟩
abbrev main_v731 : Ref sig .tc := ⟨.hbm, 936, rfl⟩
abbrev main_v732 : Ref sig .tc := ⟨.hbm, 937, rfl⟩
abbrev main_v733 : Ref sig .tc := ⟨.hbm, 938, rfl⟩
abbrev main_v734 : Ref sig .tc := ⟨.hbm, 939, rfl⟩
abbrev main_v735 : Ref sig .tc := ⟨.hbm, 940, rfl⟩
abbrev main_v736 : Ref sig .tc := ⟨.hbm, 941, rfl⟩
abbrev main_v737 : Ref sig .tc := ⟨.hbm, 942, rfl⟩
abbrev main_v738 : Ref sig .tc := ⟨.hbm, 943, rfl⟩
abbrev main_cst_152 : Ref sig .tc := ⟨.hbm, 944, rfl⟩
abbrev main_v739 : Ref sig .tc := ⟨.hbm, 945, rfl⟩
abbrev main_v740 : Ref sig .tc := ⟨.hbm, 946, rfl⟩
abbrev main_v741 : Ref sig .tc := ⟨.hbm, 947, rfl⟩
abbrev main_v742 : Ref sig .tc := ⟨.hbm, 948, rfl⟩
abbrev main_v743 : Ref sig .tc := ⟨.hbm, 949, rfl⟩
abbrev main_v744 : Ref sig .tc := ⟨.hbm, 950, rfl⟩
abbrev main_v745 : Ref sig .tc := ⟨.hbm, 951, rfl⟩
abbrev main_v746 : Ref sig .tc := ⟨.hbm, 952, rfl⟩
abbrev main_v747 : Ref sig .tc := ⟨.hbm, 953, rfl⟩
abbrev main_v748 : Ref sig .tc := ⟨.hbm, 954, rfl⟩
abbrev main_v749 : Ref sig .tc := ⟨.hbm, 955, rfl⟩
abbrev main_v750 : Ref sig .tc := ⟨.hbm, 956, rfl⟩
abbrev main_v751 : Ref sig .tc := ⟨.hbm, 957, rfl⟩
abbrev main_v752 : Ref sig .tc := ⟨.hbm, 958, rfl⟩
abbrev main_v753 : Ref sig .tc := ⟨.hbm, 959, rfl⟩
abbrev main_v754 : Ref sig .tc := ⟨.hbm, 960, rfl⟩
abbrev main_v755 : Ref sig .tc := ⟨.hbm, 961, rfl⟩
abbrev main_v756 : Ref sig .tc := ⟨.hbm, 962, rfl⟩
abbrev main_v757 : Ref sig .tc := ⟨.hbm, 963, rfl⟩
abbrev main_v758 : Ref sig .tc := ⟨.hbm, 964, rfl⟩
abbrev main_v759 : Ref sig .tc := ⟨.hbm, 965, rfl⟩
abbrev main_cst_153 : Ref sig .tc := ⟨.hbm, 966, rfl⟩
abbrev main_v760 : Ref sig .tc := ⟨.hbm, 967, rfl⟩
abbrev main_v761 : Ref sig .tc := ⟨.hbm, 968, rfl⟩
abbrev main_v762 : Ref sig .tc := ⟨.hbm, 969, rfl⟩
abbrev main_v763 : Ref sig .tc := ⟨.hbm, 970, rfl⟩
abbrev main_cst_154 : Ref sig .tc := ⟨.hbm, 971, rfl⟩
abbrev main_v764 : Ref sig .tc := ⟨.hbm, 972, rfl⟩
abbrev main_v765 : Ref sig .tc := ⟨.hbm, 973, rfl⟩
abbrev main_v766 : Ref sig .tc := ⟨.hbm, 974, rfl⟩
abbrev main_cst_155 : Ref sig .tc := ⟨.hbm, 975, rfl⟩
abbrev main_v767 : Ref sig .tc := ⟨.hbm, 976, rfl⟩
abbrev main_v768 : Ref sig .tc := ⟨.hbm, 977, rfl⟩
abbrev main_v769 : Ref sig .tc := ⟨.hbm, 978, rfl⟩
abbrev main_cst_156 : Ref sig .tc := ⟨.hbm, 979, rfl⟩
abbrev main_v770 : Ref sig .tc := ⟨.hbm, 980, rfl⟩
abbrev main_v771 : Ref sig .tc := ⟨.hbm, 981, rfl⟩
abbrev main_v772 : Ref sig .tc := ⟨.hbm, 982, rfl⟩
abbrev main_cst_157 : Ref sig .tc := ⟨.hbm, 983, rfl⟩
abbrev main_v773 : Ref sig .tc := ⟨.hbm, 984, rfl⟩
abbrev main_v774 : Ref sig .tc := ⟨.hbm, 985, rfl⟩
abbrev main_v775 : Ref sig .tc := ⟨.hbm, 986, rfl⟩
abbrev main_v776 : Ref sig .tc := ⟨.hbm, 987, rfl⟩
abbrev main_cst_158 : Ref sig .tc := ⟨.hbm, 988, rfl⟩
abbrev main_v777 : Ref sig .tc := ⟨.hbm, 989, rfl⟩
abbrev main_v778 : Ref sig .tc := ⟨.hbm, 990, rfl⟩
abbrev main_v779 : Ref sig .tc := ⟨.hbm, 991, rfl⟩
abbrev main_cst_159 : Ref sig .tc := ⟨.hbm, 992, rfl⟩
abbrev main_v780 : Ref sig .tc := ⟨.hbm, 993, rfl⟩
abbrev main_v781 : Ref sig .tc := ⟨.hbm, 994, rfl⟩
abbrev main_cst_160 : Ref sig .tc := ⟨.hbm, 995, rfl⟩
abbrev main_v782 : Ref sig .tc := ⟨.hbm, 996, rfl⟩
abbrev main_v783 : Ref sig .tc := ⟨.hbm, 997, rfl⟩
abbrev main_cst_161 : Ref sig .tc := ⟨.hbm, 998, rfl⟩
abbrev main_call35_v0 : Ref sig .tc := ⟨.hbm, 999, rfl⟩
abbrev main_call35_v1 : Ref sig .tc := ⟨.hbm, 1000, rfl⟩
abbrev main_v784 : Ref sig .tc := ⟨.hbm, 1001, rfl⟩
abbrev main_v785 : Ref sig .tc := ⟨.hbm, 1002, rfl⟩
abbrev main_cst_162 : Ref sig .tc := ⟨.hbm, 1003, rfl⟩
abbrev main_call36_v0 : Ref sig .tc := ⟨.hbm, 1004, rfl⟩
abbrev main_call36_v1 : Ref sig .tc := ⟨.hbm, 1005, rfl⟩
abbrev main_v786 : Ref sig .tc := ⟨.hbm, 1006, rfl⟩
abbrev main_v787 : Ref sig .tc := ⟨.hbm, 1007, rfl⟩
abbrev main_v788 : Ref sig .tc := ⟨.hbm, 1008, rfl⟩
abbrev main_v789 : Ref sig .tc := ⟨.hbm, 1009, rfl⟩
abbrev main_v790 : Ref sig .tc := ⟨.hbm, 1010, rfl⟩
abbrev main_cst_163 : Ref sig .tc := ⟨.hbm, 1011, rfl⟩
abbrev main_v791 : Ref sig .tc := ⟨.hbm, 1012, rfl⟩
abbrev main_v792 : Ref sig .tc := ⟨.hbm, 1013, rfl⟩
abbrev main_v793 : Ref sig .tc := ⟨.hbm, 1014, rfl⟩
abbrev main_v794 : Ref sig .tc := ⟨.hbm, 1015, rfl⟩
abbrev main_v795 : Ref sig .tc := ⟨.hbm, 1016, rfl⟩
abbrev main_v796 : Ref sig .tc := ⟨.hbm, 1017, rfl⟩
abbrev main_v797 : Ref sig .tc := ⟨.hbm, 1018, rfl⟩
abbrev main_v798 : Ref sig .tc := ⟨.hbm, 1019, rfl⟩
abbrev main_v799 : Ref sig .tc := ⟨.hbm, 1020, rfl⟩
abbrev main_v800 : Ref sig .tc := ⟨.hbm, 1021, rfl⟩
abbrev main_cst_164 : Ref sig .tc := ⟨.hbm, 1022, rfl⟩
abbrev main_v801 : Ref sig .tc := ⟨.hbm, 1023, rfl⟩
abbrev main_v802 : Ref sig .tc := ⟨.hbm, 1024, rfl⟩
abbrev main_v803 : Ref sig .tc := ⟨.hbm, 1025, rfl⟩
abbrev main_v804 : Ref sig .tc := ⟨.hbm, 1026, rfl⟩
abbrev main_v805 : Ref sig .tc := ⟨.hbm, 1027, rfl⟩
abbrev main_v806 : Ref sig .tc := ⟨.hbm, 1028, rfl⟩
abbrev main_v807 : Ref sig .tc := ⟨.hbm, 1029, rfl⟩
abbrev main_v808 : Ref sig .tc := ⟨.hbm, 1030, rfl⟩
abbrev main_v809 : Ref sig .tc := ⟨.hbm, 1031, rfl⟩
abbrev main_v810 : Ref sig .tc := ⟨.hbm, 1032, rfl⟩
abbrev main_v811 : Ref sig .tc := ⟨.hbm, 1033, rfl⟩
abbrev main_v812 : Ref sig .tc := ⟨.hbm, 1034, rfl⟩
abbrev main_v813 : Ref sig .tc := ⟨.hbm, 1035, rfl⟩
abbrev main_v814 : Ref sig .tc := ⟨.hbm, 1036, rfl⟩
abbrev main_v815 : Ref sig .tc := ⟨.hbm, 1037, rfl⟩
abbrev main_v816 : Ref sig .tc := ⟨.hbm, 1038, rfl⟩
abbrev main_v817 : Ref sig .tc := ⟨.hbm, 1039, rfl⟩
abbrev main_v818 : Ref sig .tc := ⟨.hbm, 1040, rfl⟩
abbrev main_v819 : Ref sig .tc := ⟨.hbm, 1041, rfl⟩
abbrev main_v820 : Ref sig .tc := ⟨.hbm, 1042, rfl⟩
abbrev main_v821 : Ref sig .tc := ⟨.hbm, 1043, rfl⟩
abbrev main_cst_165 : Ref sig .tc := ⟨.hbm, 1044, rfl⟩
abbrev main_v822 : Ref sig .tc := ⟨.hbm, 1045, rfl⟩
abbrev main_v823 : Ref sig .tc := ⟨.hbm, 1046, rfl⟩
abbrev main_v824 : Ref sig .tc := ⟨.hbm, 1047, rfl⟩
abbrev main_v825 : Ref sig .tc := ⟨.hbm, 1048, rfl⟩
abbrev main_cst_166 : Ref sig .tc := ⟨.hbm, 1049, rfl⟩
abbrev main_v826 : Ref sig .tc := ⟨.hbm, 1050, rfl⟩
abbrev main_v827 : Ref sig .tc := ⟨.hbm, 1051, rfl⟩
abbrev main_v828 : Ref sig .tc := ⟨.hbm, 1052, rfl⟩
abbrev main_cst_167 : Ref sig .tc := ⟨.hbm, 1053, rfl⟩
abbrev main_v829 : Ref sig .tc := ⟨.hbm, 1054, rfl⟩
abbrev main_v830 : Ref sig .tc := ⟨.hbm, 1055, rfl⟩
abbrev main_v831 : Ref sig .tc := ⟨.hbm, 1056, rfl⟩
abbrev main_cst_168 : Ref sig .tc := ⟨.hbm, 1057, rfl⟩
abbrev main_v832 : Ref sig .tc := ⟨.hbm, 1058, rfl⟩
abbrev main_v833 : Ref sig .tc := ⟨.hbm, 1059, rfl⟩
abbrev main_v834 : Ref sig .tc := ⟨.hbm, 1060, rfl⟩
abbrev main_cst_169 : Ref sig .tc := ⟨.hbm, 1061, rfl⟩
abbrev main_v835 : Ref sig .tc := ⟨.hbm, 1062, rfl⟩
abbrev main_v836 : Ref sig .tc := ⟨.hbm, 1063, rfl⟩
abbrev main_v837 : Ref sig .tc := ⟨.hbm, 1064, rfl⟩
abbrev main_v838 : Ref sig .tc := ⟨.hbm, 1065, rfl⟩
abbrev main_cst_170 : Ref sig .tc := ⟨.hbm, 1066, rfl⟩
abbrev main_v839 : Ref sig .tc := ⟨.hbm, 1067, rfl⟩
abbrev main_v840 : Ref sig .tc := ⟨.hbm, 1068, rfl⟩
abbrev main_v841 : Ref sig .tc := ⟨.hbm, 1069, rfl⟩
abbrev main_cst_171 : Ref sig .tc := ⟨.hbm, 1070, rfl⟩
abbrev main_v842 : Ref sig .tc := ⟨.hbm, 1071, rfl⟩
abbrev main_v843 : Ref sig .tc := ⟨.hbm, 1072, rfl⟩
abbrev main_cst_172 : Ref sig .tc := ⟨.hbm, 1073, rfl⟩
abbrev main_v844 : Ref sig .tc := ⟨.hbm, 1074, rfl⟩
abbrev main_v845 : Ref sig .tc := ⟨.hbm, 1075, rfl⟩
abbrev main_cst_173 : Ref sig .tc := ⟨.hbm, 1076, rfl⟩
abbrev main_call38_v0 : Ref sig .tc := ⟨.hbm, 1077, rfl⟩
abbrev main_call38_v1 : Ref sig .tc := ⟨.hbm, 1078, rfl⟩
abbrev main_v846 : Ref sig .tc := ⟨.hbm, 1079, rfl⟩
abbrev main_v847 : Ref sig .tc := ⟨.hbm, 1080, rfl⟩
abbrev main_cst_174 : Ref sig .tc := ⟨.hbm, 1081, rfl⟩
abbrev main_call39_v0 : Ref sig .tc := ⟨.hbm, 1082, rfl⟩
abbrev main_call39_v1 : Ref sig .tc := ⟨.hbm, 1083, rfl⟩
abbrev main_v848 : Ref sig .tc := ⟨.hbm, 1084, rfl⟩
abbrev main_v849 : Ref sig .tc := ⟨.hbm, 1085, rfl⟩
abbrev main_v850 : Ref sig .tc := ⟨.hbm, 1086, rfl⟩
abbrev main_v851 : Ref sig .tc := ⟨.hbm, 1087, rfl⟩
abbrev main_v852 : Ref sig .tc := ⟨.hbm, 1088, rfl⟩
abbrev main_cst_175 : Ref sig .tc := ⟨.hbm, 1089, rfl⟩
abbrev main_v853 : Ref sig .tc := ⟨.hbm, 1090, rfl⟩
abbrev main_v854 : Ref sig .tc := ⟨.hbm, 1091, rfl⟩
abbrev main_v855 : Ref sig .tc := ⟨.hbm, 1092, rfl⟩
abbrev main_v856 : Ref sig .tc := ⟨.hbm, 1093, rfl⟩
abbrev main_v857 : Ref sig .tc := ⟨.hbm, 1094, rfl⟩
abbrev main_v858 : Ref sig .tc := ⟨.hbm, 1095, rfl⟩
abbrev main_v859 : Ref sig .tc := ⟨.hbm, 1096, rfl⟩
abbrev main_v860 : Ref sig .tc := ⟨.hbm, 1097, rfl⟩
abbrev main_v861 : Ref sig .tc := ⟨.hbm, 1098, rfl⟩
abbrev main_v862 : Ref sig .tc := ⟨.hbm, 1099, rfl⟩
abbrev main_cst_176 : Ref sig .tc := ⟨.hbm, 1100, rfl⟩
abbrev main_v863 : Ref sig .tc := ⟨.hbm, 1101, rfl⟩
abbrev main_v864 : Ref sig .tc := ⟨.hbm, 1102, rfl⟩
abbrev main_v865 : Ref sig .tc := ⟨.hbm, 1103, rfl⟩
abbrev main_v866 : Ref sig .tc := ⟨.hbm, 1104, rfl⟩
abbrev main_v867 : Ref sig .tc := ⟨.hbm, 1105, rfl⟩
abbrev main_v868 : Ref sig .tc := ⟨.hbm, 1106, rfl⟩
abbrev main_v869 : Ref sig .tc := ⟨.hbm, 1107, rfl⟩
abbrev main_v870 : Ref sig .tc := ⟨.hbm, 1108, rfl⟩
abbrev main_v871 : Ref sig .tc := ⟨.hbm, 1109, rfl⟩
abbrev main_v872 : Ref sig .tc := ⟨.hbm, 1110, rfl⟩
abbrev main_v873 : Ref sig .tc := ⟨.hbm, 1111, rfl⟩
abbrev main_v874 : Ref sig .tc := ⟨.hbm, 1112, rfl⟩
abbrev main_v875 : Ref sig .tc := ⟨.hbm, 1113, rfl⟩
abbrev main_v876 : Ref sig .tc := ⟨.hbm, 1114, rfl⟩
abbrev main_v877 : Ref sig .tc := ⟨.hbm, 1115, rfl⟩
abbrev main_v878 : Ref sig .tc := ⟨.hbm, 1116, rfl⟩
abbrev main_v879 : Ref sig .tc := ⟨.hbm, 1117, rfl⟩
abbrev main_v880 : Ref sig .tc := ⟨.hbm, 1118, rfl⟩
abbrev main_v881 : Ref sig .tc := ⟨.hbm, 1119, rfl⟩
abbrev main_v882 : Ref sig .tc := ⟨.hbm, 1120, rfl⟩
abbrev main_v883 : Ref sig .tc := ⟨.hbm, 1121, rfl⟩
abbrev main_cst_177 : Ref sig .tc := ⟨.hbm, 1122, rfl⟩
abbrev main_v884 : Ref sig .tc := ⟨.hbm, 1123, rfl⟩
abbrev main_v885 : Ref sig .tc := ⟨.hbm, 1124, rfl⟩
abbrev main_v886 : Ref sig .tc := ⟨.hbm, 1125, rfl⟩
abbrev main_v887 : Ref sig .tc := ⟨.hbm, 1126, rfl⟩
abbrev main_cst_178 : Ref sig .tc := ⟨.hbm, 1127, rfl⟩
abbrev main_v888 : Ref sig .tc := ⟨.hbm, 1128, rfl⟩
abbrev main_v889 : Ref sig .tc := ⟨.hbm, 1129, rfl⟩
abbrev main_v890 : Ref sig .tc := ⟨.hbm, 1130, rfl⟩
abbrev main_cst_179 : Ref sig .tc := ⟨.hbm, 1131, rfl⟩
abbrev main_v891 : Ref sig .tc := ⟨.hbm, 1132, rfl⟩
abbrev main_v892 : Ref sig .tc := ⟨.hbm, 1133, rfl⟩
abbrev main_v893 : Ref sig .tc := ⟨.hbm, 1134, rfl⟩
abbrev main_cst_180 : Ref sig .tc := ⟨.hbm, 1135, rfl⟩
abbrev main_v894 : Ref sig .tc := ⟨.hbm, 1136, rfl⟩
abbrev main_v895 : Ref sig .tc := ⟨.hbm, 1137, rfl⟩
abbrev main_v896 : Ref sig .tc := ⟨.hbm, 1138, rfl⟩
abbrev main_cst_181 : Ref sig .tc := ⟨.hbm, 1139, rfl⟩
abbrev main_v897 : Ref sig .tc := ⟨.hbm, 1140, rfl⟩
abbrev main_v898 : Ref sig .tc := ⟨.hbm, 1141, rfl⟩
abbrev main_v899 : Ref sig .tc := ⟨.hbm, 1142, rfl⟩
abbrev main_v900 : Ref sig .tc := ⟨.hbm, 1143, rfl⟩
abbrev main_cst_182 : Ref sig .tc := ⟨.hbm, 1144, rfl⟩
abbrev main_v901 : Ref sig .tc := ⟨.hbm, 1145, rfl⟩
abbrev main_v902 : Ref sig .tc := ⟨.hbm, 1146, rfl⟩
abbrev main_v903 : Ref sig .tc := ⟨.hbm, 1147, rfl⟩
abbrev main_cst_183 : Ref sig .tc := ⟨.hbm, 1148, rfl⟩
abbrev main_v904 : Ref sig .tc := ⟨.hbm, 1149, rfl⟩
abbrev main_v905 : Ref sig .tc := ⟨.hbm, 1150, rfl⟩
abbrev main_cst_184 : Ref sig .tc := ⟨.hbm, 1151, rfl⟩
abbrev main_v906 : Ref sig .tc := ⟨.hbm, 1152, rfl⟩
abbrev main_v907 : Ref sig .tc := ⟨.hbm, 1153, rfl⟩
abbrev main_cst_185 : Ref sig .tc := ⟨.hbm, 1154, rfl⟩
abbrev main_call41_v0 : Ref sig .tc := ⟨.hbm, 1155, rfl⟩
abbrev main_call41_v1 : Ref sig .tc := ⟨.hbm, 1156, rfl⟩
abbrev main_v908 : Ref sig .tc := ⟨.hbm, 1157, rfl⟩
abbrev main_v909 : Ref sig .tc := ⟨.hbm, 1158, rfl⟩
abbrev main_cst_186 : Ref sig .tc := ⟨.hbm, 1159, rfl⟩
abbrev main_call42_v0 : Ref sig .tc := ⟨.hbm, 1160, rfl⟩
abbrev main_call42_v1 : Ref sig .tc := ⟨.hbm, 1161, rfl⟩
abbrev main_v910 : Ref sig .tc := ⟨.hbm, 1162, rfl⟩
abbrev main_v911 : Ref sig .tc := ⟨.hbm, 1163, rfl⟩
abbrev main_v912 : Ref sig .tc := ⟨.hbm, 1164, rfl⟩
abbrev main_v913 : Ref sig .tc := ⟨.hbm, 1165, rfl⟩
abbrev main_v914 : Ref sig .tc := ⟨.hbm, 1166, rfl⟩
abbrev main_cst_187 : Ref sig .tc := ⟨.hbm, 1167, rfl⟩
abbrev main_v915 : Ref sig .tc := ⟨.hbm, 1168, rfl⟩
abbrev main_v916 : Ref sig .tc := ⟨.hbm, 1169, rfl⟩
abbrev main_v917 : Ref sig .tc := ⟨.hbm, 1170, rfl⟩
abbrev main_v918 : Ref sig .tc := ⟨.hbm, 1171, rfl⟩
abbrev main_v919 : Ref sig .tc := ⟨.hbm, 1172, rfl⟩
abbrev main_v920 : Ref sig .tc := ⟨.hbm, 1173, rfl⟩
abbrev main_v921 : Ref sig .tc := ⟨.hbm, 1174, rfl⟩
abbrev main_v922 : Ref sig .tc := ⟨.hbm, 1175, rfl⟩
abbrev main_v923 : Ref sig .tc := ⟨.hbm, 1176, rfl⟩
abbrev main_v924 : Ref sig .tc := ⟨.hbm, 1177, rfl⟩
abbrev main_cst_188 : Ref sig .tc := ⟨.hbm, 1178, rfl⟩
abbrev main_v925 : Ref sig .tc := ⟨.hbm, 1179, rfl⟩
abbrev main_v926 : Ref sig .tc := ⟨.hbm, 1180, rfl⟩
abbrev main_v927 : Ref sig .tc := ⟨.hbm, 1181, rfl⟩
abbrev main_v928 : Ref sig .tc := ⟨.hbm, 1182, rfl⟩
abbrev main_v929 : Ref sig .tc := ⟨.hbm, 1183, rfl⟩
abbrev main_v930 : Ref sig .tc := ⟨.hbm, 1184, rfl⟩
abbrev main_v931 : Ref sig .tc := ⟨.hbm, 1185, rfl⟩
abbrev main_v932 : Ref sig .tc := ⟨.hbm, 1186, rfl⟩
abbrev main_v933 : Ref sig .tc := ⟨.hbm, 1187, rfl⟩
abbrev main_v934 : Ref sig .tc := ⟨.hbm, 1188, rfl⟩
abbrev main_v935 : Ref sig .tc := ⟨.hbm, 1189, rfl⟩
abbrev main_v936 : Ref sig .tc := ⟨.hbm, 1190, rfl⟩
abbrev main_v937 : Ref sig .tc := ⟨.hbm, 1191, rfl⟩
abbrev main_v938 : Ref sig .tc := ⟨.hbm, 1192, rfl⟩
abbrev main_v939 : Ref sig .tc := ⟨.hbm, 1193, rfl⟩
abbrev main_v940 : Ref sig .tc := ⟨.hbm, 1194, rfl⟩
abbrev main_v941 : Ref sig .tc := ⟨.hbm, 1195, rfl⟩
abbrev main_v942 : Ref sig .tc := ⟨.hbm, 1196, rfl⟩
abbrev main_v943 : Ref sig .tc := ⟨.hbm, 1197, rfl⟩
abbrev main_v944 : Ref sig .tc := ⟨.hbm, 1198, rfl⟩
abbrev main_v945 : Ref sig .tc := ⟨.hbm, 1199, rfl⟩
abbrev main_cst_189 : Ref sig .tc := ⟨.hbm, 1200, rfl⟩
abbrev main_v946 : Ref sig .tc := ⟨.hbm, 1201, rfl⟩
abbrev main_v947 : Ref sig .tc := ⟨.hbm, 1202, rfl⟩
abbrev main_v948 : Ref sig .tc := ⟨.hbm, 1203, rfl⟩
abbrev main_v949 : Ref sig .tc := ⟨.hbm, 1204, rfl⟩
abbrev main_cst_190 : Ref sig .tc := ⟨.hbm, 1205, rfl⟩
abbrev main_v950 : Ref sig .tc := ⟨.hbm, 1206, rfl⟩
abbrev main_v951 : Ref sig .tc := ⟨.hbm, 1207, rfl⟩
abbrev main_v952 : Ref sig .tc := ⟨.hbm, 1208, rfl⟩
abbrev main_cst_191 : Ref sig .tc := ⟨.hbm, 1209, rfl⟩
abbrev main_v953 : Ref sig .tc := ⟨.hbm, 1210, rfl⟩
abbrev main_v954 : Ref sig .tc := ⟨.hbm, 1211, rfl⟩
abbrev main_v955 : Ref sig .tc := ⟨.hbm, 1212, rfl⟩
abbrev main_cst_192 : Ref sig .tc := ⟨.hbm, 1213, rfl⟩
abbrev main_v956 : Ref sig .tc := ⟨.hbm, 1214, rfl⟩
abbrev main_v957 : Ref sig .tc := ⟨.hbm, 1215, rfl⟩
abbrev main_v958 : Ref sig .tc := ⟨.hbm, 1216, rfl⟩
abbrev main_cst_193 : Ref sig .tc := ⟨.hbm, 1217, rfl⟩
abbrev main_v959 : Ref sig .tc := ⟨.hbm, 1218, rfl⟩
abbrev main_v960 : Ref sig .tc := ⟨.hbm, 1219, rfl⟩
abbrev main_v961 : Ref sig .tc := ⟨.hbm, 1220, rfl⟩
abbrev main_v962 : Ref sig .tc := ⟨.hbm, 1221, rfl⟩
abbrev main_cst_194 : Ref sig .tc := ⟨.hbm, 1222, rfl⟩
abbrev main_v963 : Ref sig .tc := ⟨.hbm, 1223, rfl⟩
abbrev main_v964 : Ref sig .tc := ⟨.hbm, 1224, rfl⟩
abbrev main_v965 : Ref sig .tc := ⟨.hbm, 1225, rfl⟩
abbrev main_cst_195 : Ref sig .tc := ⟨.hbm, 1226, rfl⟩
abbrev main_v966 : Ref sig .tc := ⟨.hbm, 1227, rfl⟩
abbrev main_v967 : Ref sig .tc := ⟨.hbm, 1228, rfl⟩
abbrev main_cst_196 : Ref sig .tc := ⟨.hbm, 1229, rfl⟩
abbrev main_v968 : Ref sig .tc := ⟨.hbm, 1230, rfl⟩
abbrev main_v969 : Ref sig .tc := ⟨.hbm, 1231, rfl⟩
abbrev main_cst_197 : Ref sig .tc := ⟨.hbm, 1232, rfl⟩
abbrev main_call44_v0 : Ref sig .tc := ⟨.hbm, 1233, rfl⟩
abbrev main_call44_v1 : Ref sig .tc := ⟨.hbm, 1234, rfl⟩
abbrev main_v970 : Ref sig .tc := ⟨.hbm, 1235, rfl⟩
abbrev main_v971 : Ref sig .tc := ⟨.hbm, 1236, rfl⟩
abbrev main_cst_198 : Ref sig .tc := ⟨.hbm, 1237, rfl⟩
abbrev main_call45_v0 : Ref sig .tc := ⟨.hbm, 1238, rfl⟩
abbrev main_call45_v1 : Ref sig .tc := ⟨.hbm, 1239, rfl⟩
abbrev main_v972 : Ref sig .tc := ⟨.hbm, 1240, rfl⟩
abbrev main_v973 : Ref sig .tc := ⟨.hbm, 1241, rfl⟩
abbrev main_v974 : Ref sig .tc := ⟨.hbm, 1242, rfl⟩
abbrev main_v975 : Ref sig .tc := ⟨.hbm, 1243, rfl⟩
abbrev main_v976 : Ref sig .tc := ⟨.hbm, 1244, rfl⟩
abbrev main_cst_199 : Ref sig .tc := ⟨.hbm, 1245, rfl⟩
abbrev main_v977 : Ref sig .tc := ⟨.hbm, 1246, rfl⟩
abbrev main_v978 : Ref sig .tc := ⟨.hbm, 1247, rfl⟩
abbrev main_v979 : Ref sig .tc := ⟨.hbm, 1248, rfl⟩
abbrev main_v980 : Ref sig .tc := ⟨.hbm, 1249, rfl⟩
abbrev main_v981 : Ref sig .tc := ⟨.hbm, 1250, rfl⟩
abbrev main_v982 : Ref sig .tc := ⟨.hbm, 1251, rfl⟩
abbrev main_v983 : Ref sig .tc := ⟨.hbm, 1252, rfl⟩
abbrev main_v984 : Ref sig .tc := ⟨.hbm, 1253, rfl⟩
abbrev main_v985 : Ref sig .tc := ⟨.hbm, 1254, rfl⟩
abbrev main_v986 : Ref sig .tc := ⟨.hbm, 1255, rfl⟩
abbrev main_cst_200 : Ref sig .tc := ⟨.hbm, 1256, rfl⟩
abbrev main_v987 : Ref sig .tc := ⟨.hbm, 1257, rfl⟩
abbrev main_v988 : Ref sig .tc := ⟨.hbm, 1258, rfl⟩
abbrev main_v989 : Ref sig .tc := ⟨.hbm, 1259, rfl⟩
abbrev main_v990 : Ref sig .tc := ⟨.hbm, 1260, rfl⟩
abbrev main_v991 : Ref sig .tc := ⟨.hbm, 1261, rfl⟩
abbrev main_v992 : Ref sig .tc := ⟨.hbm, 1262, rfl⟩
abbrev main_v993 : Ref sig .tc := ⟨.hbm, 1263, rfl⟩
abbrev main_v994 : Ref sig .tc := ⟨.hbm, 1264, rfl⟩
abbrev main_v995 : Ref sig .tc := ⟨.hbm, 1265, rfl⟩
abbrev main_v996 : Ref sig .tc := ⟨.hbm, 1266, rfl⟩
abbrev main_v997 : Ref sig .tc := ⟨.hbm, 1267, rfl⟩
abbrev main_v998 : Ref sig .tc := ⟨.hbm, 1268, rfl⟩
abbrev main_v999 : Ref sig .tc := ⟨.hbm, 1269, rfl⟩
abbrev main_v1000 : Ref sig .tc := ⟨.hbm, 1270, rfl⟩
abbrev main_v1001 : Ref sig .tc := ⟨.hbm, 1271, rfl⟩
abbrev main_v1002 : Ref sig .tc := ⟨.hbm, 1272, rfl⟩
abbrev main_v1003 : Ref sig .tc := ⟨.hbm, 1273, rfl⟩
abbrev main_v1004 : Ref sig .tc := ⟨.hbm, 1274, rfl⟩
abbrev main_v1005 : Ref sig .tc := ⟨.hbm, 1275, rfl⟩
abbrev main_v1006 : Ref sig .tc := ⟨.hbm, 1276, rfl⟩
abbrev main_v1007 : Ref sig .tc := ⟨.hbm, 1277, rfl⟩
abbrev main_v1008 : Ref sig .tc := ⟨.hbm, 1278, rfl⟩
abbrev main_v1009 : Ref sig .tc := ⟨.hbm, 1279, rfl⟩
abbrev main_v1010 : Ref sig .tc := ⟨.hbm, 1280, rfl⟩
abbrev main_v1011 : Ref sig .tc := ⟨.hbm, 1281, rfl⟩
abbrev main_v1012 : Ref sig .tc := ⟨.hbm, 1282, rfl⟩
abbrev main_v1013 : Ref sig .tc := ⟨.hbm, 1283, rfl⟩
abbrev main_v1014 : Ref sig .tc := ⟨.hbm, 1284, rfl⟩
abbrev main_cst_201 : Ref sig .tc := ⟨.hbm, 1285, rfl⟩
abbrev main_v1015 : Ref sig .tc := ⟨.hbm, 1286, rfl⟩
abbrev main_v1016 : Ref sig .tc := ⟨.hbm, 1287, rfl⟩
abbrev main_v1017 : Ref sig .tc := ⟨.hbm, 1288, rfl⟩
abbrev main_v1018 : Ref sig .tc := ⟨.hbm, 1289, rfl⟩
abbrev main_v1019 : Ref sig .tc := ⟨.hbm, 1290, rfl⟩
abbrev main_v1020 : Ref sig .tc := ⟨.hbm, 1291, rfl⟩
abbrev main_v1021 : Ref sig .tc := ⟨.hbm, 1292, rfl⟩
abbrev main_v1022 : Ref sig .tc := ⟨.hbm, 1293, rfl⟩
abbrev main_v1023 : Ref sig .tc := ⟨.hbm, 1294, rfl⟩
abbrev main_v1024 : Ref sig .tc := ⟨.hbm, 1295, rfl⟩
abbrev main_v1025 : Ref sig .tc := ⟨.hbm, 1296, rfl⟩
abbrev main_v1026 : Ref sig .tc := ⟨.hbm, 1297, rfl⟩
abbrev main_v1027 : Ref sig .tc := ⟨.hbm, 1298, rfl⟩
abbrev main_v1028 : Ref sig .tc := ⟨.hbm, 1299, rfl⟩
abbrev main_v1029 : Ref sig .tc := ⟨.hbm, 1300, rfl⟩
abbrev main_v1030 : Ref sig .tc := ⟨.hbm, 1301, rfl⟩
abbrev main_v1031 : Ref sig .tc := ⟨.hbm, 1302, rfl⟩
abbrev main_v1032 : Ref sig .tc := ⟨.hbm, 1303, rfl⟩
abbrev main_v1033 : Ref sig .tc := ⟨.hbm, 1304, rfl⟩
abbrev main_v1034 : Ref sig .tc := ⟨.hbm, 1305, rfl⟩
abbrev main_v1035 : Ref sig .tc := ⟨.hbm, 1306, rfl⟩
abbrev main_v1036 : Ref sig .tc := ⟨.hbm, 1307, rfl⟩
abbrev main_v1037 : Ref sig .tc := ⟨.hbm, 1308, rfl⟩
abbrev main_v1038 : Ref sig .tc := ⟨.hbm, 1309, rfl⟩
abbrev main_v1039 : Ref sig .tc := ⟨.hbm, 1310, rfl⟩
abbrev main_v1040 : Ref sig .tc := ⟨.hbm, 1311, rfl⟩
abbrev main_v1041 : Ref sig .tc := ⟨.hbm, 1312, rfl⟩
abbrev main_v1042 : Ref sig .tc := ⟨.hbm, 1313, rfl⟩
abbrev main_v1043 : Ref sig .tc := ⟨.hbm, 1314, rfl⟩
abbrev main_v1044 : Ref sig .tc := ⟨.hbm, 1315, rfl⟩
abbrev main_v1045 : Ref sig .tc := ⟨.hbm, 1316, rfl⟩
abbrev main_v1046 : Ref sig .tc := ⟨.hbm, 1317, rfl⟩
abbrev main_cst_202 : Ref sig .tc := ⟨.hbm, 1318, rfl⟩
abbrev main_v1047 : Ref sig .tc := ⟨.hbm, 1319, rfl⟩
abbrev main_v1048 : Ref sig .tc := ⟨.hbm, 1320, rfl⟩
abbrev main_cst_203 : Ref sig .tc := ⟨.hbm, 1321, rfl⟩
abbrev main_v1049 : Ref sig .tc := ⟨.hbm, 1322, rfl⟩
abbrev main_v1050 : Ref sig .tc := ⟨.hbm, 1323, rfl⟩
abbrev main_cst_204 : Ref sig .tc := ⟨.hbm, 1324, rfl⟩
abbrev main_v1051 : Ref sig .tc := ⟨.hbm, 1325, rfl⟩
abbrev main_v1052 : Ref sig .tc := ⟨.hbm, 1326, rfl⟩
abbrev main_cst_205 : Ref sig .tc := ⟨.hbm, 1327, rfl⟩
abbrev main_v1053 : Ref sig .tc := ⟨.hbm, 1328, rfl⟩
abbrev main_v1054 : Ref sig .tc := ⟨.hbm, 1329, rfl⟩
abbrev main_v1055 : Ref sig .tc := ⟨.hbm, 1330, rfl⟩
abbrev main_v1056 : Ref sig .tc := ⟨.hbm, 1331, rfl⟩
abbrev main_v1057 : Ref sig .tc := ⟨.hbm, 1332, rfl⟩
abbrev main_v1058 : Ref sig .tc := ⟨.hbm, 1333, rfl⟩
abbrev main_v1059 : Ref sig .tc := ⟨.hbm, 1334, rfl⟩
abbrev main_v1060 : Ref sig .tc := ⟨.hbm, 1335, rfl⟩
abbrev main_v1061 : Ref sig .tc := ⟨.hbm, 1336, rfl⟩
abbrev main_v1062 : Ref sig .tc := ⟨.hbm, 1337, rfl⟩
abbrev main_v1063 : Ref sig .tc := ⟨.hbm, 1338, rfl⟩
abbrev main_v1064 : Ref sig .tc := ⟨.hbm, 1339, rfl⟩
abbrev main_cst_206 : Ref sig .tc := ⟨.hbm, 1340, rfl⟩
abbrev main_v1065 : Ref sig .tc := ⟨.hbm, 1341, rfl⟩
abbrev main_v1066 : Ref sig .tc := ⟨.hbm, 1342, rfl⟩
abbrev main_cst_207 : Ref sig .tc := ⟨.hbm, 1343, rfl⟩
abbrev main_v1067 : Ref sig .tc := ⟨.hbm, 1344, rfl⟩
abbrev main_v1068 : Ref sig .tc := ⟨.hbm, 1345, rfl⟩
abbrev main_v1069 : Ref sig .tc := ⟨.hbm, 1346, rfl⟩
abbrev main_c_208 : Ref sig .tc := ⟨.hbm, 1347, rfl⟩
abbrev main_v1070 : Ref sig .tc := ⟨.hbm, 1348, rfl⟩
abbrev main_v1071 : Ref sig .tc := ⟨.hbm, 1349, rfl⟩
abbrev main_v1072 : Ref sig .tc := ⟨.hbm, 1350, rfl⟩
abbrev main_v1073 : Ref sig .tc := ⟨.hbm, 1351, rfl⟩
abbrev main_c_209 : Ref sig .tc := ⟨.hbm, 1352, rfl⟩
abbrev main_v1074 : Ref sig .tc := ⟨.hbm, 1353, rfl⟩
abbrev main_c_210 : Ref sig .tc := ⟨.hbm, 1354, rfl⟩
abbrev main_v1075 : Ref sig .tc := ⟨.hbm, 1355, rfl⟩
abbrev main_v1076 : Ref sig .tc := ⟨.hbm, 1356, rfl⟩
abbrev main_c_211 : Ref sig .tc := ⟨.hbm, 1357, rfl⟩
abbrev main_v1077 : Ref sig .tc := ⟨.hbm, 1358, rfl⟩
abbrev main_v1078 : Ref sig .tc := ⟨.hbm, 1359, rfl⟩
abbrev main_v1079 : Ref sig .tc := ⟨.hbm, 1360, rfl⟩
abbrev main_c_212 : Ref sig .tc := ⟨.hbm, 1361, rfl⟩
abbrev main_v1080 : Ref sig .tc := ⟨.hbm, 1362, rfl⟩
abbrev main_v1081 : Ref sig .tc := ⟨.hbm, 1363, rfl⟩
abbrev main_c_213 : Ref sig .tc := ⟨.hbm, 1364, rfl⟩
abbrev main_v1082 : Ref sig .tc := ⟨.hbm, 1365, rfl⟩
abbrev main_v1083 : Ref sig .tc := ⟨.hbm, 1366, rfl⟩
abbrev main_v1084 : Ref sig .tc := ⟨.hbm, 1367, rfl⟩
abbrev main_v1085 : Ref sig .tc := ⟨.hbm, 1368, rfl⟩
abbrev main_v1086 : Ref sig .tc := ⟨.hbm, 1369, rfl⟩
abbrev main_c_214 : Ref sig .tc := ⟨.hbm, 1370, rfl⟩
abbrev main_v1087 : Ref sig .tc := ⟨.hbm, 1371, rfl⟩
abbrev main_v1088 : Ref sig .tc := ⟨.hbm, 1372, rfl⟩
abbrev main_c_215 : Ref sig .tc := ⟨.hbm, 1373, rfl⟩
abbrev main_v1089 : Ref sig .tc := ⟨.hbm, 1374, rfl⟩
abbrev main_v1090 : Ref sig .tc := ⟨.hbm, 1375, rfl⟩
abbrev main_v1091 : Ref sig .tc := ⟨.hbm, 1376, rfl⟩
abbrev main_v1092 : Ref sig .tc := ⟨.hbm, 1377, rfl⟩
abbrev main_v1093 : Ref sig .tc := ⟨.hbm, 1378, rfl⟩
abbrev main_c_216 : Ref sig .tc := ⟨.hbm, 1379, rfl⟩
abbrev main_v1094 : Ref sig .tc := ⟨.hbm, 1380, rfl⟩
abbrev main_v1095 : Ref sig .tc := ⟨.hbm, 1381, rfl⟩
abbrev main_c_217 : Ref sig .tc := ⟨.hbm, 1382, rfl⟩
abbrev main_v1096 : Ref sig .tc := ⟨.hbm, 1383, rfl⟩
abbrev main_v1097 : Ref sig .tc := ⟨.hbm, 1384, rfl⟩
abbrev main_v1098 : Ref sig .tc := ⟨.hbm, 1385, rfl⟩
abbrev main_v1099 : Ref sig .tc := ⟨.hbm, 1386, rfl⟩
abbrev main_v1100 : Ref sig .tc := ⟨.hbm, 1387, rfl⟩
abbrev main_c_218 : Ref sig .tc := ⟨.hbm, 1388, rfl⟩
abbrev main_v1101 : Ref sig .tc := ⟨.hbm, 1389, rfl⟩
abbrev main_v1102 : Ref sig .tc := ⟨.hbm, 1390, rfl⟩
abbrev main_c_219 : Ref sig .tc := ⟨.hbm, 1391, rfl⟩
abbrev main_v1103 : Ref sig .tc := ⟨.hbm, 1392, rfl⟩
abbrev main_v1104 : Ref sig .tc := ⟨.hbm, 1393, rfl⟩
abbrev main_v1105 : Ref sig .tc := ⟨.hbm, 1394, rfl⟩
abbrev main_v1106 : Ref sig .tc := ⟨.hbm, 1395, rfl⟩
abbrev main_c_220 : Ref sig .tc := ⟨.hbm, 1396, rfl⟩
abbrev main_v1107 : Ref sig .tc := ⟨.hbm, 1397, rfl⟩
abbrev main_v1108 : Ref sig .tc := ⟨.hbm, 1398, rfl⟩
abbrev main_c_221 : Ref sig .tc := ⟨.hbm, 1399, rfl⟩
abbrev main_v1109 : Ref sig .tc := ⟨.hbm, 1400, rfl⟩
abbrev main_v1110 : Ref sig .tc := ⟨.hbm, 1401, rfl⟩
abbrev main_c_222 : Ref sig .tc := ⟨.hbm, 1402, rfl⟩
abbrev main_v1111 : Ref sig .tc := ⟨.hbm, 1403, rfl⟩
abbrev main_v1112 : Ref sig .tc := ⟨.hbm, 1404, rfl⟩
abbrev main_v1113 : Ref sig .tc := ⟨.hbm, 1405, rfl⟩
abbrev main_c_223 : Ref sig .tc := ⟨.hbm, 1406, rfl⟩
abbrev main_v1114 : Ref sig .tc := ⟨.hbm, 1407, rfl⟩
abbrev main_v1115 : Ref sig .tc := ⟨.hbm, 1408, rfl⟩
abbrev main_c_224 : Ref sig .tc := ⟨.hbm, 1409, rfl⟩
abbrev main_v1116 : Ref sig .tc := ⟨.hbm, 1410, rfl⟩
abbrev main_v1117 : Ref sig .tc := ⟨.hbm, 1411, rfl⟩
abbrev main_v1118 : Ref sig .tc := ⟨.hbm, 1412, rfl⟩
abbrev main_v1119 : Ref sig .tc := ⟨.hbm, 1413, rfl⟩
abbrev main_v1120 : Ref sig .tc := ⟨.hbm, 1414, rfl⟩
abbrev main_c_225 : Ref sig .tc := ⟨.hbm, 1415, rfl⟩
abbrev main_v1121 : Ref sig .tc := ⟨.hbm, 1416, rfl⟩
abbrev main_v1122 : Ref sig .tc := ⟨.hbm, 1417, rfl⟩
abbrev main_c_226 : Ref sig .tc := ⟨.hbm, 1418, rfl⟩
abbrev main_v1123 : Ref sig .tc := ⟨.hbm, 1419, rfl⟩
abbrev main_v1124 : Ref sig .tc := ⟨.hbm, 1420, rfl⟩
abbrev main_v1125 : Ref sig .tc := ⟨.hbm, 1421, rfl⟩
abbrev main_v1126 : Ref sig .tc := ⟨.hbm, 1422, rfl⟩
abbrev main_v1127 : Ref sig .tc := ⟨.hbm, 1423, rfl⟩
abbrev main_c_227 : Ref sig .tc := ⟨.hbm, 1424, rfl⟩
abbrev main_v1128 : Ref sig .tc := ⟨.hbm, 1425, rfl⟩
abbrev main_v1129 : Ref sig .tc := ⟨.hbm, 1426, rfl⟩
abbrev main_c_228 : Ref sig .tc := ⟨.hbm, 1427, rfl⟩
abbrev main_v1130 : Ref sig .tc := ⟨.hbm, 1428, rfl⟩
abbrev main_v1131 : Ref sig .tc := ⟨.hbm, 1429, rfl⟩
abbrev main_v1132 : Ref sig .tc := ⟨.hbm, 1430, rfl⟩
abbrev main_v1133 : Ref sig .tc := ⟨.hbm, 1431, rfl⟩
abbrev main_v1134 : Ref sig .tc := ⟨.hbm, 1432, rfl⟩
abbrev main_c_229 : Ref sig .tc := ⟨.hbm, 1433, rfl⟩
abbrev main_v1135 : Ref sig .tc := ⟨.hbm, 1434, rfl⟩
abbrev main_v1136 : Ref sig .tc := ⟨.hbm, 1435, rfl⟩
abbrev main_c_230 : Ref sig .tc := ⟨.hbm, 1436, rfl⟩
abbrev main_v1137 : Ref sig .tc := ⟨.hbm, 1437, rfl⟩
abbrev main_v1138 : Ref sig .tc := ⟨.hbm, 1438, rfl⟩
abbrev main_v1139 : Ref sig .tc := ⟨.hbm, 1439, rfl⟩
abbrev main_v1140 : Ref sig .tc := ⟨.hbm, 1440, rfl⟩
abbrev main_c_231 : Ref sig .tc := ⟨.hbm, 1441, rfl⟩
abbrev main_v1141 : Ref sig .tc := ⟨.hbm, 1442, rfl⟩
abbrev main_v1142 : Ref sig .tc := ⟨.hbm, 1443, rfl⟩
abbrev main_c_232 : Ref sig .tc := ⟨.hbm, 1444, rfl⟩
abbrev main_v1143 : Ref sig .tc := ⟨.hbm, 1445, rfl⟩
abbrev main_v1144 : Ref sig .tc := ⟨.hbm, 1446, rfl⟩
abbrev main_c_233 : Ref sig .tc := ⟨.hbm, 1447, rfl⟩
abbrev main_v1145 : Ref sig .tc := ⟨.hbm, 1448, rfl⟩
abbrev main_v1146 : Ref sig .tc := ⟨.hbm, 1449, rfl⟩
abbrev main_v1147 : Ref sig .tc := ⟨.hbm, 1450, rfl⟩
abbrev main_c_234 : Ref sig .tc := ⟨.hbm, 1451, rfl⟩
abbrev main_v1148 : Ref sig .tc := ⟨.hbm, 1452, rfl⟩
abbrev main_v1149 : Ref sig .tc := ⟨.hbm, 1453, rfl⟩
abbrev main_c_235 : Ref sig .tc := ⟨.hbm, 1454, rfl⟩
abbrev main_v1150 : Ref sig .tc := ⟨.hbm, 1455, rfl⟩
abbrev main_v1151 : Ref sig .tc := ⟨.hbm, 1456, rfl⟩
abbrev main_v1152 : Ref sig .tc := ⟨.hbm, 1457, rfl⟩
abbrev main_v1153 : Ref sig .tc := ⟨.hbm, 1458, rfl⟩
abbrev main_v1154 : Ref sig .tc := ⟨.hbm, 1459, rfl⟩
abbrev main_c_236 : Ref sig .tc := ⟨.hbm, 1460, rfl⟩
abbrev main_v1155 : Ref sig .tc := ⟨.hbm, 1461, rfl⟩
abbrev main_v1156 : Ref sig .tc := ⟨.hbm, 1462, rfl⟩
abbrev main_c_237 : Ref sig .tc := ⟨.hbm, 1463, rfl⟩
abbrev main_v1157 : Ref sig .tc := ⟨.hbm, 1464, rfl⟩
abbrev main_v1158 : Ref sig .tc := ⟨.hbm, 1465, rfl⟩
abbrev main_v1159 : Ref sig .tc := ⟨.hbm, 1466, rfl⟩
abbrev main_v1160 : Ref sig .tc := ⟨.hbm, 1467, rfl⟩
abbrev main_v1161 : Ref sig .tc := ⟨.hbm, 1468, rfl⟩
abbrev main_c_238 : Ref sig .tc := ⟨.hbm, 1469, rfl⟩
abbrev main_v1162 : Ref sig .tc := ⟨.hbm, 1470, rfl⟩
abbrev main_v1163 : Ref sig .tc := ⟨.hbm, 1471, rfl⟩
abbrev main_c_239 : Ref sig .tc := ⟨.hbm, 1472, rfl⟩
abbrev main_v1164 : Ref sig .tc := ⟨.hbm, 1473, rfl⟩
abbrev main_v1165 : Ref sig .tc := ⟨.hbm, 1474, rfl⟩
abbrev main_v1166 : Ref sig .tc := ⟨.hbm, 1475, rfl⟩
abbrev main_v1167 : Ref sig .tc := ⟨.hbm, 1476, rfl⟩
abbrev main_v1168 : Ref sig .tc := ⟨.hbm, 1477, rfl⟩
abbrev main_c_240 : Ref sig .tc := ⟨.hbm, 1478, rfl⟩
abbrev main_v1169 : Ref sig .tc := ⟨.hbm, 1479, rfl⟩
abbrev main_v1170 : Ref sig .tc := ⟨.hbm, 1480, rfl⟩
abbrev main_c_241 : Ref sig .tc := ⟨.hbm, 1481, rfl⟩
abbrev main_v1171 : Ref sig .tc := ⟨.hbm, 1482, rfl⟩
abbrev main_v1172 : Ref sig .tc := ⟨.hbm, 1483, rfl⟩
abbrev main_v1173 : Ref sig .tc := ⟨.hbm, 1484, rfl⟩
abbrev main_v1174 : Ref sig .tc := ⟨.hbm, 1485, rfl⟩
abbrev main_c_242 : Ref sig .tc := ⟨.hbm, 1486, rfl⟩
abbrev main_v1175 : Ref sig .tc := ⟨.hbm, 1487, rfl⟩
abbrev main_v1176 : Ref sig .tc := ⟨.hbm, 1488, rfl⟩
abbrev main_c_243 : Ref sig .tc := ⟨.hbm, 1489, rfl⟩
abbrev main_v1177 : Ref sig .tc := ⟨.hbm, 1490, rfl⟩
abbrev main_v1178 : Ref sig .tc := ⟨.hbm, 1491, rfl⟩
abbrev main_c_244 : Ref sig .tc := ⟨.hbm, 1492, rfl⟩
abbrev main_v1179 : Ref sig .tc := ⟨.hbm, 1493, rfl⟩
abbrev main_v1180 : Ref sig .tc := ⟨.hbm, 1494, rfl⟩
abbrev main_v1181 : Ref sig .tc := ⟨.hbm, 1495, rfl⟩
abbrev main_c_245 : Ref sig .tc := ⟨.hbm, 1496, rfl⟩
abbrev main_v1182 : Ref sig .tc := ⟨.hbm, 1497, rfl⟩
abbrev main_v1183 : Ref sig .tc := ⟨.hbm, 1498, rfl⟩
abbrev main_c_246 : Ref sig .tc := ⟨.hbm, 1499, rfl⟩
abbrev main_v1184 : Ref sig .tc := ⟨.hbm, 1500, rfl⟩
abbrev main_v1185 : Ref sig .tc := ⟨.hbm, 1501, rfl⟩
abbrev main_v1186 : Ref sig .tc := ⟨.hbm, 1502, rfl⟩
abbrev main_v1187 : Ref sig .tc := ⟨.hbm, 1503, rfl⟩
abbrev main_v1188 : Ref sig .tc := ⟨.hbm, 1504, rfl⟩
abbrev main_c_247 : Ref sig .tc := ⟨.hbm, 1505, rfl⟩
abbrev main_v1189 : Ref sig .tc := ⟨.hbm, 1506, rfl⟩
abbrev main_v1190 : Ref sig .tc := ⟨.hbm, 1507, rfl⟩
abbrev main_c_248 : Ref sig .tc := ⟨.hbm, 1508, rfl⟩
abbrev main_v1191 : Ref sig .tc := ⟨.hbm, 1509, rfl⟩
abbrev main_v1192 : Ref sig .tc := ⟨.hbm, 1510, rfl⟩
abbrev main_v1193 : Ref sig .tc := ⟨.hbm, 1511, rfl⟩
abbrev main_v1194 : Ref sig .tc := ⟨.hbm, 1512, rfl⟩
abbrev main_v1195 : Ref sig .tc := ⟨.hbm, 1513, rfl⟩
abbrev main_c_249 : Ref sig .tc := ⟨.hbm, 1514, rfl⟩
abbrev main_v1196 : Ref sig .tc := ⟨.hbm, 1515, rfl⟩
abbrev main_v1197 : Ref sig .tc := ⟨.hbm, 1516, rfl⟩
abbrev main_c_250 : Ref sig .tc := ⟨.hbm, 1517, rfl⟩
abbrev main_v1198 : Ref sig .tc := ⟨.hbm, 1518, rfl⟩
abbrev main_v1199 : Ref sig .tc := ⟨.hbm, 1519, rfl⟩
abbrev main_v1200 : Ref sig .tc := ⟨.hbm, 1520, rfl⟩
abbrev main_v1201 : Ref sig .tc := ⟨.hbm, 1521, rfl⟩
abbrev main_v1202 : Ref sig .tc := ⟨.hbm, 1522, rfl⟩
abbrev main_c_251 : Ref sig .tc := ⟨.hbm, 1523, rfl⟩
abbrev main_v1203 : Ref sig .tc := ⟨.hbm, 1524, rfl⟩
abbrev main_v1204 : Ref sig .tc := ⟨.hbm, 1525, rfl⟩
abbrev main_c_252 : Ref sig .tc := ⟨.hbm, 1526, rfl⟩
abbrev main_v1205 : Ref sig .tc := ⟨.hbm, 1527, rfl⟩
abbrev main_v1206 : Ref sig .tc := ⟨.hbm, 1528, rfl⟩
abbrev main_v1207 : Ref sig .tc := ⟨.hbm, 1529, rfl⟩
abbrev main_v1208 : Ref sig .tc := ⟨.hbm, 1530, rfl⟩
abbrev main_c_253 : Ref sig .tc := ⟨.hbm, 1531, rfl⟩
abbrev main_v1209 : Ref sig .tc := ⟨.hbm, 1532, rfl⟩
abbrev main_v1210 : Ref sig .tc := ⟨.hbm, 1533, rfl⟩
abbrev main_c_254 : Ref sig .tc := ⟨.hbm, 1534, rfl⟩
abbrev main_v1211 : Ref sig .tc := ⟨.hbm, 1535, rfl⟩
abbrev main_v1212 : Ref sig .tc := ⟨.hbm, 1536, rfl⟩
abbrev main_c_255 : Ref sig .tc := ⟨.hbm, 1537, rfl⟩
abbrev main_v1213 : Ref sig .tc := ⟨.hbm, 1538, rfl⟩
abbrev main_v1214 : Ref sig .tc := ⟨.hbm, 1539, rfl⟩
abbrev main_v1215 : Ref sig .tc := ⟨.hbm, 1540, rfl⟩
abbrev main_c_256 : Ref sig .tc := ⟨.hbm, 1541, rfl⟩
abbrev main_v1216 : Ref sig .tc := ⟨.hbm, 1542, rfl⟩
abbrev main_v1217 : Ref sig .tc := ⟨.hbm, 1543, rfl⟩
abbrev main_c_257 : Ref sig .tc := ⟨.hbm, 1544, rfl⟩
abbrev main_v1218 : Ref sig .tc := ⟨.hbm, 1545, rfl⟩
abbrev main_v1219 : Ref sig .tc := ⟨.hbm, 1546, rfl⟩
abbrev main_v1220 : Ref sig .tc := ⟨.hbm, 1547, rfl⟩
abbrev main_v1221 : Ref sig .tc := ⟨.hbm, 1548, rfl⟩
abbrev main_v1222 : Ref sig .tc := ⟨.hbm, 1549, rfl⟩
abbrev main_c_258 : Ref sig .tc := ⟨.hbm, 1550, rfl⟩
abbrev main_v1223 : Ref sig .tc := ⟨.hbm, 1551, rfl⟩
abbrev main_v1224 : Ref sig .tc := ⟨.hbm, 1552, rfl⟩
abbrev main_c_259 : Ref sig .tc := ⟨.hbm, 1553, rfl⟩
abbrev main_v1225 : Ref sig .tc := ⟨.hbm, 1554, rfl⟩
abbrev main_v1226 : Ref sig .tc := ⟨.hbm, 1555, rfl⟩
abbrev main_v1227 : Ref sig .tc := ⟨.hbm, 1556, rfl⟩
abbrev main_v1228 : Ref sig .tc := ⟨.hbm, 1557, rfl⟩
abbrev main_v1229 : Ref sig .tc := ⟨.hbm, 1558, rfl⟩
abbrev main_c_260 : Ref sig .tc := ⟨.hbm, 1559, rfl⟩
abbrev main_v1230 : Ref sig .tc := ⟨.hbm, 1560, rfl⟩
abbrev main_v1231 : Ref sig .tc := ⟨.hbm, 1561, rfl⟩
abbrev main_c_261 : Ref sig .tc := ⟨.hbm, 1562, rfl⟩
abbrev main_v1232 : Ref sig .tc := ⟨.hbm, 1563, rfl⟩
abbrev main_v1233 : Ref sig .tc := ⟨.hbm, 1564, rfl⟩
abbrev main_v1234 : Ref sig .tc := ⟨.hbm, 1565, rfl⟩
abbrev main_v1235 : Ref sig .tc := ⟨.hbm, 1566, rfl⟩
abbrev main_v1236 : Ref sig .tc := ⟨.hbm, 1567, rfl⟩
abbrev main_c_262 : Ref sig .tc := ⟨.hbm, 1568, rfl⟩
abbrev main_v1237 : Ref sig .tc := ⟨.hbm, 1569, rfl⟩
abbrev main_v1238 : Ref sig .tc := ⟨.hbm, 1570, rfl⟩
abbrev main_c_263 : Ref sig .tc := ⟨.hbm, 1571, rfl⟩
abbrev main_v1239 : Ref sig .tc := ⟨.hbm, 1572, rfl⟩
abbrev main_v1240 : Ref sig .tc := ⟨.hbm, 1573, rfl⟩
abbrev main_v1241 : Ref sig .tc := ⟨.hbm, 1574, rfl⟩
abbrev main_v1242 : Ref sig .tc := ⟨.hbm, 1575, rfl⟩
abbrev main_c_264 : Ref sig .tc := ⟨.hbm, 1576, rfl⟩
abbrev main_v1243 : Ref sig .tc := ⟨.hbm, 1577, rfl⟩
abbrev main_v1244 : Ref sig .tc := ⟨.hbm, 1578, rfl⟩
abbrev main_c_265 : Ref sig .tc := ⟨.hbm, 1579, rfl⟩
abbrev main_v1245 : Ref sig .tc := ⟨.hbm, 1580, rfl⟩
abbrev main_v1246 : Ref sig .tc := ⟨.hbm, 1581, rfl⟩
abbrev main_c_266 : Ref sig .tc := ⟨.hbm, 1582, rfl⟩
abbrev main_v1247 : Ref sig .tc := ⟨.hbm, 1583, rfl⟩
abbrev main_v1248 : Ref sig .tc := ⟨.hbm, 1584, rfl⟩
abbrev main_v1249 : Ref sig .tc := ⟨.hbm, 1585, rfl⟩
abbrev main_c_267 : Ref sig .tc := ⟨.hbm, 1586, rfl⟩
abbrev main_v1250 : Ref sig .tc := ⟨.hbm, 1587, rfl⟩
abbrev main_v1251 : Ref sig .tc := ⟨.hbm, 1588, rfl⟩
abbrev main_c_268 : Ref sig .tc := ⟨.hbm, 1589, rfl⟩
abbrev main_v1252 : Ref sig .tc := ⟨.hbm, 1590, rfl⟩
abbrev main_v1253 : Ref sig .tc := ⟨.hbm, 1591, rfl⟩
abbrev main_v1254 : Ref sig .tc := ⟨.hbm, 1592, rfl⟩
abbrev main_cst_269 : Ref sig .tc := ⟨.hbm, 1593, rfl⟩
abbrev main_v1255 : Ref sig .tc := ⟨.hbm, 1594, rfl⟩
abbrev main_v1256 : Ref sig .tc := ⟨.hbm, 1595, rfl⟩
abbrev main_cst_270 : Ref sig .tc := ⟨.hbm, 1596, rfl⟩
abbrev main_cst_271 : Ref sig .tc := ⟨.hbm, 1597, rfl⟩
abbrev main_v1257 : Ref sig .tc := ⟨.hbm, 1598, rfl⟩
abbrev main_v1258 : Ref sig .tc := ⟨.hbm, 1599, rfl⟩
abbrev main_v1259 : Ref sig .tc := ⟨.hbm, 1600, rfl⟩
abbrev main_cst_272 : Ref sig .tc := ⟨.hbm, 1601, rfl⟩
abbrev main_v1260 : Ref sig .tc := ⟨.hbm, 1602, rfl⟩
abbrev main_v1261 : Ref sig .tc := ⟨.hbm, 1603, rfl⟩
abbrev main_cst_273 : Ref sig .tc := ⟨.hbm, 1604, rfl⟩
abbrev main_v1262 : Ref sig .tc := ⟨.hbm, 1605, rfl⟩
abbrev main_v1263 : Ref sig .tc := ⟨.hbm, 1606, rfl⟩
abbrev main_v1264 : Ref sig .tc := ⟨.hbm, 1607, rfl⟩
abbrev main_v1265 : Ref sig .tc := ⟨.hbm, 1608, rfl⟩
abbrev main_v1266 : Ref sig .tc := ⟨.hbm, 1609, rfl⟩
abbrev main_v1267 : Ref sig .tc := ⟨.hbm, 1610, rfl⟩
abbrev main_cst_274 : Ref sig .tc := ⟨.hbm, 1611, rfl⟩
abbrev main_v1268 : Ref sig .tc := ⟨.hbm, 1612, rfl⟩
abbrev main_v1269 : Ref sig .tc := ⟨.hbm, 1613, rfl⟩
abbrev main_v1270 : Ref sig .tc := ⟨.hbm, 1614, rfl⟩
abbrev main_v1271 : Ref sig .tc := ⟨.hbm, 1615, rfl⟩
abbrev main_values : Ref sig .tc := ⟨.hbm, 1616, rfl⟩
abbrev main_indices : Ref sig .tc := ⟨.hbm, 1617, rfl⟩
abbrev main_c_275 : Ref sig .tc := ⟨.hbm, 1618, rfl⟩
abbrev main_v1272 : Ref sig .tc := ⟨.hbm, 1619, rfl⟩
abbrev main_v1273 : Ref sig .tc := ⟨.hbm, 1620, rfl⟩
abbrev main_c_276 : Ref sig .tc := ⟨.hbm, 1621, rfl⟩
abbrev main_v1274 : Ref sig .tc := ⟨.hbm, 1622, rfl⟩
abbrev main_v1275 : Ref sig .tc := ⟨.hbm, 1623, rfl⟩
abbrev main_v1276 : Ref sig .tc := ⟨.hbm, 1624, rfl⟩
abbrev main_v1277 : Ref sig .tc := ⟨.hbm, 1625, rfl⟩
abbrev main_v1278 : Ref sig .tc := ⟨.hbm, 1626, rfl⟩

abbrev nD : Nat := 1
abbrev τ : Topo := Topo.v7x

variable {F : FTy → Type} [FloatOps F]
-- ==== Kernel2.lean ====
abbrev S2x4096 : Shape := ⟨2, ![2, 4096]⟩
abbrev S2x4096x3 : Shape := ⟨3, ![2, 4096, 3]⟩
abbrev S2x3x4096 : Shape := ⟨3, ![2, 3, 4096]⟩
abbrev S2x1x4096 : Shape := ⟨3, ![2, 1, 4096]⟩
abbrev S2x1x1024 : Shape := ⟨3, ![2, 1, 1024]⟩
abbrev S2x3x1024 : Shape := ⟨3, ![2, 3, 1024]⟩
abbrev S1x1x4096 : Shape := ⟨3, ![1, 1, 4096]⟩
abbrev S1x3x4096 : Shape := ⟨3, ![1, 3, 4096]⟩
abbrev S1x1x1024 : Shape := ⟨3, ![1, 1, 1024]⟩
abbrev S1x3x1024 : Shape := ⟨3, ![1, 3, 1024]⟩
abbrev S1x4096 : Shape := ⟨2, ![1, 4096]⟩
abbrev S1x4095 : Shape := ⟨2, ![1, 4095]⟩
abbrev S1x1 : Shape := ⟨2, ![1, 1]⟩
abbrev S1x4094 : Shape := ⟨2, ![1, 4094]⟩
abbrev S1x2 : Shape := ⟨2, ![1, 2]⟩
abbrev S1x4092 : Shape := ⟨2, ![1, 4092]⟩
abbrev S1x4 : Shape := ⟨2, ![1, 4]⟩
abbrev S1x4088 : Shape := ⟨2, ![1, 4088]⟩
abbrev S1x8 : Shape := ⟨2, ![1, 8]⟩
abbrev S1x4080 : Shape := ⟨2, ![1, 4080]⟩
abbrev S1x16 : Shape := ⟨2, ![1, 16]⟩
abbrev S1x4064 : Shape := ⟨2, ![1, 4064]⟩
abbrev S1x32 : Shape := ⟨2, ![1, 32]⟩
abbrev S1x4032 : Shape := ⟨2, ![1, 4032]⟩
abbrev S1x64 : Shape := ⟨2, ![1, 64]⟩
abbrev S1x3968 : Shape := ⟨2, ![1, 3968]⟩
abbrev S1x128 : Shape := ⟨2, ![1, 128]⟩
abbrev S1x3840 : Shape := ⟨2, ![1, 3840]⟩
abbrev S1x256 : Shape := ⟨2, ![1, 256]⟩
abbrev S1x3584 : Shape := ⟨2, ![1, 3584]⟩
abbrev S1x512 : Shape := ⟨2, ![1, 512]⟩
abbrev S1x3072 : Shape := ⟨2, ![1, 3072]⟩
abbrev S1x1024 : Shape := ⟨2, ![1, 1024]⟩
abbrev S1x2048 : Shape := ⟨2, ![1, 2048]⟩
abbrev S4096x1024 : Shape := ⟨2, ![4096, 1024]⟩
abbrev S3x4096 : Shape := ⟨2, ![3, 4096]⟩
abbrev S3x1024 : Shape := ⟨2, ![3, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2x4096, .f32⟩
  | .hbm, ⟨1, _⟩ => ⟨S2x4096x3, .f32⟩
  | .hbm, ⟨2, _⟩ => ⟨S2x3x4096, .f32⟩
  | .hbm, ⟨3, _⟩ => ⟨S2x1x4096, .f32⟩
  | .hbm, ⟨4, _⟩ => ⟨S2x1x1024, .i32⟩
  | .hbm, ⟨5, _⟩ => ⟨S2x3x1024, .f32⟩
  | .local _ .vmem, ⟨0, _⟩ => ⟨S1x1x4096, .f32⟩
  | .local _ .vmem, ⟨1, _⟩ => ⟨S1x1x4096, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .i32⟩
  | .local _ .vmem, ⟨5, _⟩ => ⟨S1x1x1024, .i32⟩
  | .local _ .vmem, ⟨6, _⟩ => ⟨S1x3x1024, .f32⟩
  | .local _ .vmem, ⟨7, _⟩ => ⟨S1x3x1024, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x4096 : Shape := ⟨2, ![2, 4096]⟩
abbrev S2x4096x3 : Shape := ⟨3, ![2, 4096, 3]⟩
abbrev S2x1024 : Shape := ⟨2, ![2, 1024]⟩
abbrev S_ : Shape := ⟨0, ![]⟩
abbrev S2x1024x1 : Shape := ⟨3, ![2, 1024, 1]⟩
abbrev S2x1024x3 : Shape := ⟨3, ![2, 1024, 3]⟩
abbrev S2x1x1024 : Shape := ⟨3, ![2, 1, 1024]⟩
abbrev S2x3x1024 : Shape := ⟨3, ![2, 3, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x3, .f32⟩
  | .hbm, ⟨2, _⟩ => ⟨S2x1024, .f32⟩
  | .hbm, ⟨3, _⟩ => ⟨S2x1024, .i32⟩
  | .hbm, ⟨4, _⟩ => ⟨S_, .i32⟩
  | .hbm, ⟨5, _⟩ => ⟨S2x1024, .i32⟩
  | .hbm, ⟨6, _⟩ => ⟨S2x1024, .i1⟩
  | .hbm, ⟨7, _⟩ => ⟨S_, .i32⟩
  | .hbm, ⟨8, _⟩ => ⟨S2x1024, .i32⟩
  | .hbm, ⟨9, _⟩ => ⟨S2x1024, .i32⟩
  | .hbm, ⟨10, _⟩ => ⟨S2x1024, .i32⟩
  | .hbm, ⟨11, _⟩ => ⟨S2x1024x1, .i32⟩
  | .hbm, ⟨12, _⟩ => ⟨S2x1024x3, .f32⟩
  | .hbm, ⟨13, _⟩ => ⟨S2x1x1024, .i32⟩
  | .hbm, ⟨14, _⟩ => ⟨S2x3x1024, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.ScoreChain.lean ====
/-
  The scoring kernel's text, value by value. It repeats sixteen selections of the nearest remaining point (`Sel`, `step`), forms
  the covariance of what it gathered (`cent`, `cov`), and turns that through fifteen plane rotations (`Jac`, `rotA`, `rotB`,
  `rotC`). Every theorem below says that one value the text names is a part of these.
-/
module

public import proofs.«01_k».proof.Proof.Gen.KernelIdeal.Skeleton

@[expose] public section

set_option maxRecDepth 4096

noncomputable section

namespace Cert.KernelIdeal.Score

open Idealize.ShloMosaic Idealize.ShloMosaic.TcCoe Cert.KernelIdeal Cert.KernelIdeal.Gen

variable {F : FTy → Type} [FloatOps F]

/-- What the selection carries: the distances not yet taken, and the gathered coordinates. -/
structure Sel (F : FTy → Type) where
  mat : FVec F S256x4096 .f32
  x : FVec F S256x16 .f32
  y : FVec F S256x16 .f32
  z : FVec F S256x16 .f32

/-- Where a row's minimum is, the first of equals: one lane of every row. -/
def firstMin (M : FVec F S256x4096 .f32) : IVec S256x4096 1 :=
  cmpi .eq (iota .tc S256x4096 32 [1] iota_S256x4096_d1_w32)
    (broadcastTo S256x4096 (shapeCast S256x1 (multiReductionI .minsi [1] S256
      (select (cmpf .oeq M (broadcastTo S256x4096 (shapeCast S256x1 (multiReduction .minimumf [1] S256 M 0x7F800000#32 reduces_S256x4096_S256 (.inl rfl) rfl)
        shapeCasts_S256_S256x1) broadcasts_S256x1_S256x4096)) (iota .tc S256x4096 32 [1] iota_S256x4096_d1_w32) (broadcast S256x4096 4096#32))
      2147483647#32 reduces_S256x4096_S256 rfl) shapeCasts_S256_S256x1) broadcasts_S256x1_S256x4096)

/-- A coordinate at the marked lane of every row. -/
def pick (v : FVec F S1x4096 .f32) (oh : IVec S256x4096 1) : FVec F S256x1 .f32 :=
  shapeCast S256x1 (multiReduction .add [1] S256 (select oh (broadcastTo S256x4096 (shapeCast S1x4096 v shapeCasts_S1x4096_S1x4096) broadcasts_S1x4096_S256x4096)
    (broadcast S256x4096 (Scalar.ofBits .f32 0x00000000#32 : F .f32))) 0x00000000#32 reduces_S256x4096_S256 (.inl rfl) rfl) shapeCasts_S256_S256x1

/-- A column put at lane `t`. -/
def put (t : Nat) (w : FVec F S256x1 .f32) (old : FVec F S256x16 .f32) : FVec F S256x16 .f32 :=
  select (cmpi .eq (iota .tc S256x16 32 [1] iota_S256x16_d1_w32) (broadcast S256x16 (BitVec.ofNat 32 t)))
    (broadcastTo S256x16 (shapeCast S256x1 w shapeCasts_S256x1_S256x1) broadcasts_S256x1_S256x16) old

/-- The marked lanes made great. -/
def mark (oh : IVec S256x4096 1) (M : FVec F S256x4096 .f32) : FVec F S256x4096 .f32 :=
  select oh (broadcast S256x4096 (Scalar.ofBits .f32 0x7149F2CA#32 : F .f32)) M

/-- One selection. -/
def step (t : Nat) (x y z : FVec F S1x4096 .f32) (p : Sel F) : Sel F :=
  ⟨mark (firstMin p.mat) p.mat, put t (pick x (firstMin p.mat)) p.x, put t (pick y (firstMin p.mat)) p.y, put t (pick z (firstMin p.mat)) p.z⟩

/-- Before the first selection. -/
def start (d : FVec F S256x4096 .f32) : Sel F :=
  ⟨maximumf d (broadcast S256x4096 (Scalar.ofBits .f32 0x00000000#32 : F .f32)), broadcast S256x16 (Scalar.ofBits .f32 0x00000000#32 : F .f32),
    broadcast S256x16 (Scalar.ofBits .f32 0x00000000#32 : F .f32), broadcast S256x16 (Scalar.ofBits .f32 0x00000000#32 : F .f32)⟩

/-- The least of every row. -/
def least (M : FVec F S256x4096 .f32) : FVec F S256x1 .f32 :=
  shapeCast S256x1 (multiReduction .minimumf [1] S256 M 0x7F800000#32 reduces_S256x4096_S256 (.inl rfl) rfl) shapeCasts_S256_S256x1

/-- A sixteenth of every row's sum. -/
def mean (v : FVec F S256x16 .f32) : FVec F S256x1 .f32 :=
  mulf (shapeCast S256x1 (multiReduction .add [1] S256 v 0x00000000#32 reduces_S256x16_S256 (.inl rfl) rfl) shapeCasts_S256_S256x1)
    (broadcast S256x1 (Scalar.ofBits .f32 0x3D800000#32 : F .f32))

/-- A row less its mean. -/
def cent (v : FVec F S256x16 .f32) : FVec F S256x16 .f32 := subf v (broadcastTo S256x16 (mean v) broadcasts_S256x1_S256x16)

/-- A covariance. -/
def cov (v w : FVec F S256x16 .f32) : FVec F S256x1 .f32 := mean (mulf (cent v) (cent w))

/-- A symmetric matrix of every row. -/
structure Jac (F : FTy → Type) where
  xx : FVec F S256x1 .f32
  yy : FVec F S256x1 .f32
  zz : FVec F S256x1 .f32
  xy : FVec F S256x1 .f32
  xz : FVec F S256x1 .f32
  yz : FVec F S256x1 .f32

def jac0 (a b c : FVec F S256x16 .f32) : Jac F := ⟨cov a a, cov b b, cov c c, cov a b, cov a c, cov b c⟩

/-- The tangent of a rotation's angle. -/
def tn (p q r : FVec F S256x1 .f32) : FVec F S256x1 .f32 :=
  have nz := cmpf .ogt (absf r) (broadcast S256x1 (Scalar.ofBits .f32 0x00000000#32 : F .f32))
  have th := divf (subf q p) (select nz (mulf (broadcast S256x1 (Scalar.ofBits .f32 0x40000000#32 : F .f32)) r) (broadcast S256x1 (Scalar.ofBits .f32 0x3F800000#32 : F .f32)))
  select nz (divf (select (cmpf .oge th (broadcast S256x1 (Scalar.ofBits .f32 0x00000000#32 : F .f32))) (broadcast S256x1 (Scalar.ofBits .f32 0x3F800000#32 : F .f32))
    (broadcast S256x1 (Scalar.ofBits .f32 0xBF800000#32 : F .f32))) (addf (absf th) (sqrt (addf (mulf th th) (broadcast S256x1 (Scalar.ofBits .f32 0x3F800000#32 : F .f32))))))
    (broadcast S256x1 (Scalar.ofBits .f32 0x00000000#32 : F .f32))

/-- Its cosine. -/
def cs (p q r : FVec F S256x1 .f32) : FVec F S256x1 .f32 :=
  divf (broadcast S256x1 (Scalar.ofBits .f32 0x3F800000#32 : F .f32)) (sqrt (addf (mulf (tn p q r) (tn p q r)) (broadcast S256x1 (Scalar.ofBits .f32 0x3F800000#32 : F .f32))))

/-- Its sine. -/
def sn (p q r : FVec F S256x1 .f32) : FVec F S256x1 .f32 := mulf (tn p q r) (cs p q r)

/-- A diagonal entry less the tangent's multiple of the entry made zero, and the other one more it. -/
def lo (p q r : FVec F S256x1 .f32) : FVec F S256x1 .f32 := subf p (mulf (tn p q r) r)
def hi (p q r : FVec F S256x1 .f32) : FVec F S256x1 .f32 := addf q (mulf (tn p q r) r)

/-- The other two entries, turned. -/
def ta (p q r u v : FVec F S256x1 .f32) : FVec F S256x1 .f32 := subf (mulf (cs p q r) u) (mulf (sn p q r) v)
def tb (p q r u v : FVec F S256x1 .f32) : FVec F S256x1 .f32 := addf (mulf (sn p q r) u) (mulf (cs p q r) v)

def nil : FVec F S256x1 .f32 := broadcast S256x1 (Scalar.ofBits .f32 0x00000000#32 : F .f32)

/-- The rotation in the plane of the first two axes, of the first and the last, of the last two. -/
def rotA (q : Jac F) : Jac F := ⟨lo q.xx q.yy q.xy, hi q.xx q.yy q.xy, q.zz, nil, ta q.xx q.yy q.xy q.xz q.yz, tb q.xx q.yy q.xy q.xz q.yz⟩
def rotB (q : Jac F) : Jac F := ⟨lo q.xx q.zz q.xz, q.yy, hi q.xx q.zz q.xz, ta q.xx q.zz q.xz q.xy q.yz, nil, tb q.xx q.zz q.xz q.xy q.yz⟩
def rotC (q : Jac F) : Jac F := ⟨q.xx, lo q.yy q.zz q.yz, hi q.yy q.zz q.yz, ta q.yy q.zz q.yz q.xy q.xz, tb q.yy q.zz q.yz q.xy q.xz, nil⟩

section
variable (t : Nat) (x y z : FVec F S1x4096 .f32) (p : Sel F) (d : FVec F S256x4096 .f32) (a b c : FVec F S256x16 .f32) (q : Jac F)
theorem mk_mat (m : FVec F S256x4096 .f32) : Sel.mat (F := F) ⟨m, a, b, c⟩ = m := rfl
theorem step_mat : (step t x y z p).mat = mark (firstMin p.mat) p.mat := by simp only [step]
theorem step_x : (step t x y z p).x = put t (pick x (firstMin p.mat)) p.x := by simp only [step]
theorem step_y : (step t x y z p).y = put t (pick y (firstMin p.mat)) p.y := by simp only [step]
theorem step_z : (step t x y z p).z = put t (pick z (firstMin p.mat)) p.z := by simp only [step]
theorem start_mat : (start d).mat = maximumf d (broadcast S256x4096 (Scalar.ofBits .f32 0x00000000#32 : F .f32)) := by simp only [start]
theorem start_x : (start d).x = broadcast S256x16 (Scalar.ofBits .f32 0x00000000#32 : F .f32) := by simp only [start]
theorem start_y : (start d).y = broadcast S256x16 (Scalar.ofBits .f32 0x00000000#32 : F .f32) := by simp only [start]
theorem start_z : (start d).z = broadcast S256x16 (Scalar.ofBits .f32 0x00000000#32 : F .f32) := by simp only [start]
theorem jac0_xx : (jac0 a b c).xx = cov a a := by simp only [jac0]
theorem jac0_yy : (jac0 a b c).yy = cov b b := by simp only [jac0]
theorem jac0_zz : (jac0 a b c).zz = cov c c := by simp only [jac0]
theorem jac0_xy : (jac0 a b c).xy = cov a b := by simp only [jac0]
theorem jac0_xz : (jac0 a b c).xz = cov a c := by simp only [jac0]
theorem jac0_yz : (jac0 a b c).yz = cov b c := by simp only [jac0]
theorem rotA_xx : (rotA q).xx = lo q.xx q.yy q.xy := by simp only [rotA]
theorem rotA_yy : (rotA q).yy = hi q.xx q.yy q.xy := by simp only [rotA]
theorem rotA_zz : (rotA q).zz = q.zz := by simp only [rotA]
theorem rotA_xy : (rotA q).xy = nil := by simp only [rotA]
theorem rotA_xz : (rotA q).xz = ta q.xx q.yy q.xy q.xz q.yz := by simp only [rotA]
theorem rotA_yz : (rotA q).yz = tb q.xx q.yy q.xy q.xz q.yz := by simp only [rotA]
theorem rotB_xx : (rotB q).xx = lo q.xx q.zz q.xz := by simp only [rotB]
theorem rotB_yy : (rotB q).yy = q.yy := by simp only [rotB]
theorem rotB_zz : (rotB q).zz = hi q.xx q.zz q.xz := by simp only [rotB]
theorem rotB_xy : (rotB q).xy = ta q.xx q.zz q.xz q.xy q.yz := by simp only [rotB]
theorem rotB_xz : (rotB q).xz = nil := by simp only [rotB]
theorem rotB_yz : (rotB q).yz = tb q.xx q.zz q.xz q.xy q.yz := by simp only [rotB]
theorem rotC_xx : (rotC q).xx = q.xx := by simp only [rotC]
theorem rotC_yy : (rotC q).yy = lo q.yy q.zz q.yz := by simp only [rotC]
theorem rotC_zz : (rotC q).zz = hi q.yy q.zz q.yz := by simp only [rotC]
theorem rotC_xy : (rotC q).xy = ta q.yy q.zz q.yz q.xy q.xz := by simp only [rotC]
theorem rotC_xz : (rotC q).xz = tb q.yy q.zz q.yz q.xy q.xz := by simp only [rotC]
theorem rotC_yz : (rotC q).yz = nil := by simp only [rotC]
end

theorem pay9 (d : FVec F S256x4096 .f32) :
    k0_pay9 d (broadcast S256x4096 (Scalar.ofBits .f32 0x00000000#32 : F .f32)) =
      (start d).mat := by
  simp only [start_mat, start_x, start_y, start_z] <;> rfl

theorem pay10 (d : FVec F S256x4096 .f32) :
    k0_pay10 d (broadcast S256x4096 (Scalar.ofBits .f32 0x00000000#32 : F .f32)) =
      (firstMin (start d).mat) := by
  simp only [start_mat, start_x, start_y, start_z] <;> rfl

theorem pay12 (x : FVec F S1x4096 .f32) (y : FVec F S1x4096 .f32) (z : FVec F S1x4096 .f32) (d : FVec F S256x4096 .f32) :
    k0_pay12 x d (broadcast S256x4096 (Scalar.ofBits .f32 0x00000000#32 : F .f32)) =
      (step 0 x y z (start d)).x := by
  simp only [step_mat, step_x, step_y, step_z, start_mat, start_x, start_y, start_z] <;> rfl

theorem pay13 (x : FVec F S1x4096 .f32) (y : FVec F S1x4096 .f32) (z : FVec F S1x4096 .f32) (d : FVec F S256x4096 .f32) :
    k0_pay13 y d (broadcast S256x4096 (Scalar.ofBits .f32 0x00000000#32 : F .f32)) =
      (step 0 x y z (start d)).y := by
  simp only [step_mat, step_x, step_y, step_z, start_mat, start_x, start_y, start_z] <;> rfl

theorem pay14 (x : FVec F S1x4096 .f32) (y : FVec F S1x4096 .f32) (z : FVec F S1x4096 .f32) (d : FVec F S256x4096 .f32) :
    k0_pay14 z d (broadcast S256x4096 (Scalar.ofBits .f32 0x00000000#32 : F .f32)) =
      (step 0 x y z (start d)).z := by
  simp only [step_mat, step_x, step_y, step_z, start_mat, start_x, start_y, start_z] <;> rfl

theorem pay19 (x : FVec F S1x4096 .f32) (y : FVec F S1x4096 .f32) (z : FVec F S1x4096 .f32) (p : Sel F) :
    k0_pay19 x p.mat (iota .tc S256x4096 32 [1] iota_S256x4096_d1_w32) (iota .tc S256x16 32 [1] iota_S256x16_d1_w32) (firstMin p.mat) (step 0 x y z p).x (broadcast S256x4096 (Scalar.ofBits .f32 0x7149F2CA#32 : F .f32)) =
      (step 1 x y z (step 0 x y z p)).x := by
  simp only [step_mat, step_x, step_y, step_z] <;> rfl

theorem pay20 (x : FVec F S1x4096 .f32) (y : FVec F S1x4096 .f32) (z : FVec F S1x4096 .f32) (p : Sel F) :
    k0_pay20 y p.mat (iota .tc S256x4096 32 [1] iota_S256x4096_d1_w32) (iota .tc S256x16 32 [1] iota_S256x16_d1_w32) (firstMin p.mat) (step 0 x y z p).y (broadcast S256x4096 (Scalar.ofBits .f32 0x7149F2CA#32 : F .f32)) =
      (step 1 x y z (step 0 x y z p)).y := by
  simp only [step_mat, step_x, step_y, step_z] <;> rfl

theorem pay21 (x : FVec F S1x4096 .f32) (y : FVec F S1x4096 .f32) (z : FVec F S1x4096 .f32) (p : Sel F) :
    k0_pay21 z p.mat (iota .tc S256x4096 32 [1] iota_S256x4096_d1_w32) (iota .tc S256x16 32 [1] iota_S256x16_d1_w32) (firstMin p.mat) (step 0 x y z p).z (broadcast S256x4096 (Scalar.ofBits .f32 0x7149F2CA#32 : F .f32)) =
      (step 1 x y z (step 0 x y z p)).z := by
  simp only [step_mat, step_x, step_y, step_z] <;> rfl

theorem pay22 (x : FVec F S1x4096 .f32) (y : FVec F S1x4096 .f32) (z : FVec F S1x4096 .f32) (p : Sel F) :
    k0_pay22 p.mat (iota .tc S256x4096 32 [1] iota_S256x4096_d1_w32) (firstMin p.mat) (broadcast S256x4096 (Scalar.ofBits .f32 0x7149F2CA#32 : F .f32)) =
      (step 1 x y z (step 0 x y z p)).mat := by
  simp only [step_mat, step_x, step_y, step_z] <;> rfl

theorem pay23 (x : FVec F S1x4096 .f32) (y : FVec F S1x4096 .f32) (z : FVec F S1x4096 .f32) (p : Sel F) :
    k0_pay23 p.mat (iota .tc S256x4096 32 [1] iota_S256x4096_d1_w32) (firstMin p.mat) (broadcast S256x4096 (Scalar.ofBits .f32 0x7149F2CA#32 : F .f32)) =
      (cmpf .oeq (step 1 x y z (step 0 x y z p)).mat (broadcastTo S256x4096 (shapeCast S256x1 (multiReduction .minimumf [1] S256 (step 1 x y z (step 0 x y z p)).mat 0x7F800000#32 reduces_S256x4096_S256 (.inl rfl) rfl) shapeCasts_S256_S256x1) broadcasts_S256x1_S256x4096)) := by
  simp only [step_mat, step_x, step_y, step_z] <;> rfl

theorem pay27 (x : FVec F S1x4096 .f32) (y : FVec F S1x4096 .f32) (z : FVec F S1x4096 .f32) (p : Sel F) :
    k0_pay27 x (iota .tc S256x4096 32 [1] iota_S256x4096_d1_w32) (iota .tc S256x16 32 [1] iota_S256x16_d1_w32) p.x (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (broadcast S256x4096 4096#32) =
      (step 2 x y z p).x := by
  simp only [step_mat, step_x, step_y, step_z] <;> rfl

theorem pay28 (x : FVec F S1x4096 .f32) (y : FVec F S1x4096 .f32) (z : FVec F S1x4096 .f32) (p : Sel F) :
    k0_pay28 y (iota .tc S256x4096 32 [1] iota_S256x4096_d1_w32) (iota .tc S256x16 32 [1] iota_S256x16_d1_w32) p.y (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (broadcast S256x4096 4096#32) =
      (step 2 x y z p).y := by
  simp only [step_mat, step_x, step_y, step_z] <;> rfl

theorem pay29 (x : FVec F S1x4096 .f32) (y : FVec F S1x4096 .f32) (z : FVec F S1x4096 .f32) (p : Sel F) :
    k0_pay29 z (iota .tc S256x4096 32 [1] iota_S256x4096_d1_w32) (iota .tc S256x16 32 [1] iota_S256x16_d1_w32) p.z (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (broadcast S256x4096 4096#32) =
      (step 2 x y z p).z := by
  simp only [step_mat, step_x, step_y, step_z] <;> rfl

theorem pay30 (x : FVec F S1x4096 .f32) (y : FVec F S1x4096 .f32) (z : FVec F S1x4096 .f32) (p : Sel F) :
    k0_pay30 (iota .tc S256x4096 32 [1] iota_S256x4096_d1_w32) p.mat (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (broadcast S256x4096 4096#32) =
      (step 2 x y z p).mat := by
  simp only [step_mat, step_x, step_y, step_z] <;> rfl

theorem pay31 (x : FVec F S1x4096 .f32) (y : FVec F S1x4096 .f32) (z : FVec F S1x4096 .f32) (p : Sel F) :
    k0_pay31 (iota .tc S256x4096 32 [1] iota_S256x4096_d1_w32) p.mat (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (broadcast S256x4096 4096#32) =
      (firstMin (step 2 x y z p).mat) := by
  simp only [step_mat, step_x, step_y, step_z] <;> rfl

theorem pay32 (x : FVec F S1x4096 .f32) :
    k0_pay32 x =
      (shapeCast S1x4096 x shapeCasts_S1x4096_S1x4096) := rfl

theorem pay34 (x : FVec F S1x4096 .f32) (y : FVec F S1x4096 .f32) (z : FVec F S1x4096 .f32) (p : Sel F) :
    k0_pay34 (iota .tc S256x16 32 [1] iota_S256x16_d1_w32) p.x (firstMin p.mat) (Scalar.ofBits .f32 0x00000000#32 : F .f32) (shapeCast S1x4096 x shapeCasts_S1x4096_S1x4096) =
      (step 3 x y z p).x := by
  simp only [step_mat, step_x, step_y, step_z] <;> rfl

theorem pay35 (x : FVec F S1x4096 .f32) (y : FVec F S1x4096 .f32) (z : FVec F S1x4096 .f32) (p : Sel F) :
    k0_pay35 y (iota .tc S256x16 32 [1] iota_S256x16_d1_w32) p.y (firstMin p.mat) =
      (step 3 x y z p).y := by
  simp only [step_mat, step_x, step_y, step_z] <;> rfl

theorem pay36 (x : FVec F S1x4096 .f32) (y : FVec F S1x4096 .f32) (z : FVec F S1x4096 .f32) (p : Sel F) :
    k0_pay36 z (iota .tc S256x16 32 [1] iota_S256x16_d1_w32) p.z (firstMin p.mat) =
      (step 3 x y z p).z := by
  simp only [step_mat, step_x, step_y, step_z] <;> rfl

theorem pay37 (x : FVec F S1x4096 .f32) (y : FVec F S1x4096 .f32) (z : FVec F S1x4096 .f32) (p : Sel F) :
    k0_pay37 p.mat (firstMin p.mat) =
      (step 3 x y z p).mat := by
  simp only [step_mat, step_x, step_y, step_z] <;> rfl

theorem pay38 (x : FVec F S1x4096 .f32) (y : FVec F S1x4096 .f32) (z : FVec F S1x4096 .f32) (p : Sel F) :
    k0_pay38 (iota .tc S256x4096 32 [1] iota_S256x4096_d1_w32) p.mat (firstMin p.mat) =
      (firstMin (step 3 x y z p).mat) := by
  simp only [step_mat, step_x, step_y, step_z] <;> rfl

theorem pay39 (x : FVec F S1x4096 .f32) (y : FVec F S1x4096 .f32) (z : FVec F S1x4096 .f32) (p : Sel F) :
    k0_pay39 x (iota .tc S256x4096 32 [1] iota_S256x4096_d1_w32) p.mat (firstMin p.mat) =
      (shapeCast S256x1 (multiReduction .add [1] S256 (select (firstMin (step 3 x y z p).mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay40 (y : FVec F S1x4096 .f32) :
    k0_pay40 y =
      (shapeCast S1x4096 y shapeCasts_S1x4096_S1x4096) := rfl

theorem pay42 (x : FVec F S1x4096 .f32) (y : FVec F S1x4096 .f32) (z : FVec F S1x4096 .f32) (p : Sel F) :
    k0_pay42 (iota .tc S256x16 32 [1] iota_S256x16_d1_w32) p.x (shapeCast S256x1 (multiReduction .add [1] S256 (select (firstMin p.mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) =
      (step 4 x y z p).x := by
  simp only [step_mat, step_x, step_y, step_z] <;> rfl

theorem pay43 (x : FVec F S1x4096 .f32) (y : FVec F S1x4096 .f32) (z : FVec F S1x4096 .f32) (p : Sel F) :
    k0_pay43 (iota .tc S256x16 32 [1] iota_S256x16_d1_w32) p.y (firstMin p.mat) (Scalar.ofBits .f32 0x00000000#32 : F .f32) (shapeCast S1x4096 y shapeCasts_S1x4096_S1x4096) =
      (step 4 x y z p).y := by
  simp only [step_mat, step_x, step_y, step_z] <;> rfl

theorem pay44 (x : FVec F S1x4096 .f32) (y : FVec F S1x4096 .f32) (z : FVec F S1x4096 .f32) (p : Sel F) :
    k0_pay44 z (iota .tc S256x16 32 [1] iota_S256x16_d1_w32) p.z (firstMin p.mat) =
      (step 4 x y z p).z := by
  simp only [step_mat, step_x, step_y, step_z] <;> rfl

theorem pay45 (x : FVec F S1x4096 .f32) (y : FVec F S1x4096 .f32) (z : FVec F S1x4096 .f32) (p : Sel F) :
    k0_pay45 p.mat (firstMin p.mat) =
      (step 4 x y z p).mat := by
  simp only [step_mat, step_x, step_y, step_z] <;> rfl

theorem pay46 (x : FVec F S1x4096 .f32) (y : FVec F S1x4096 .f32) (z : FVec F S1x4096 .f32) (p : Sel F) :
    k0_pay46 (iota .tc S256x4096 32 [1] iota_S256x4096_d1_w32) p.mat (firstMin p.mat) =
      (firstMin (step 4 x y z p).mat) := by
  simp only [step_mat, step_x, step_y, step_z] <;> rfl

theorem pay47 (x : FVec F S1x4096 .f32) (y : FVec F S1x4096 .f32) (z : FVec F S1x4096 .f32) (p : Sel F) :
    k0_pay47 x (iota .tc S256x4096 32 [1] iota_S256x4096_d1_w32) p.mat (firstMin p.mat) =
      (shapeCast S256x1 (multiReduction .add [1] S256 (select (firstMin (step 4 x y z p).mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay48 (x : FVec F S1x4096 .f32) (y : FVec F S1x4096 .f32) (z : FVec F S1x4096 .f32) (p : Sel F) :
    k0_pay48 y (iota .tc S256x4096 32 [1] iota_S256x4096_d1_w32) p.mat (firstMin p.mat) =
      (shapeCast S256x1 (multiReduction .add [1] S256 (select (firstMin (step 4 x y z p).mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay49 (z : FVec F S1x4096 .f32) :
    k0_pay49 z =
      (shapeCast S1x4096 z shapeCasts_S1x4096_S1x4096) := rfl

theorem pay51 (x : FVec F S1x4096 .f32) (y : FVec F S1x4096 .f32) (z : FVec F S1x4096 .f32) (p : Sel F) :
    k0_pay51 (iota .tc S256x16 32 [1] iota_S256x16_d1_w32) p.x (shapeCast S256x1 (multiReduction .add [1] S256 (select (firstMin p.mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) =
      (step 5 x y z p).x := by
  simp only [step_mat, step_x, step_y, step_z] <;> rfl

theorem pay52 (x : FVec F S1x4096 .f32) (y : FVec F S1x4096 .f32) (z : FVec F S1x4096 .f32) (p : Sel F) :
    k0_pay52 (iota .tc S256x16 32 [1] iota_S256x16_d1_w32) p.y (shapeCast S256x1 (multiReduction .add [1] S256 (select (firstMin p.mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) =
      (step 5 x y z p).y := by
  simp only [step_mat, step_x, step_y, step_z] <;> rfl

theorem pay53 (x : FVec F S1x4096 .f32) (y : FVec F S1x4096 .f32) (z : FVec F S1x4096 .f32) (p : Sel F) :
    k0_pay53 (iota .tc S256x16 32 [1] iota_S256x16_d1_w32) p.z (firstMin p.mat) (Scalar.ofBits .f32 0x00000000#32 : F .f32) (shapeCast S1x4096 z shapeCasts_S1x4096_S1x4096) =
      (step 5 x y z p).z := by
  simp only [step_mat, step_x, step_y, step_z] <;> rfl

theorem pay54 (x : FVec F S1x4096 .f32) (y : FVec F S1x4096 .f32) (z : FVec F S1x4096 .f32) (p : Sel F) :
    k0_pay54 p.mat (firstMin p.mat) =
      (step 5 x y z p).mat := by
  simp only [step_mat, step_x, step_y, step_z] <;> rfl

theorem pay55 (x : FVec F S1x4096 .f32) (y : FVec F S1x4096 .f32) (z : FVec F S1x4096 .f32) (p : Sel F) :
    k0_pay55 (iota .tc S256x4096 32 [1] iota_S256x4096_d1_w32) p.mat (firstMin p.mat) =
      (firstMin (step 5 x y z p).mat) := by
  simp only [step_mat, step_x, step_y, step_z] <;> rfl

theorem pay56 (x : FVec F S1x4096 .f32) (y : FVec F S1x4096 .f32) (z : FVec F S1x4096 .f32) (p : Sel F) :
    k0_pay56 x (iota .tc S256x4096 32 [1] iota_S256x4096_d1_w32) p.mat (firstMin p.mat) =
      (shapeCast S256x1 (multiReduction .add [1] S256 (select (firstMin (step 5 x y z p).mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay57 (x : FVec F S1x4096 .f32) (y : FVec F S1x4096 .f32) (z : FVec F S1x4096 .f32) (p : Sel F) :
    k0_pay57 y (iota .tc S256x4096 32 [1] iota_S256x4096_d1_w32) p.mat (firstMin p.mat) =
      (shapeCast S256x1 (multiReduction .add [1] S256 (select (firstMin (step 5 x y z p).mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay58 (x : FVec F S1x4096 .f32) (y : FVec F S1x4096 .f32) (z : FVec F S1x4096 .f32) (p : Sel F) :
    k0_pay58 z (iota .tc S256x4096 32 [1] iota_S256x4096_d1_w32) p.mat (firstMin p.mat) =
      (shapeCast S256x1 (multiReduction .add [1] S256 (select (firstMin (step 5 x y z p).mat) (broadcastTo S256x4096 (shapeCast S1x4096 z shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay61 (x : FVec F S1x4096 .f32) (y : FVec F S1x4096 .f32) (z : FVec F S1x4096 .f32) (p : Sel F) :
    k0_pay61 (iota .tc S256x16 32 [1] iota_S256x16_d1_w32) p.z (shapeCast S256x1 (multiReduction .add [1] S256 (select (firstMin p.mat) (broadcastTo S256x4096 (shapeCast S1x4096 z shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) (broadcast S256x16 6#32) =
      (step 6 x y z p).z := by
  simp only [step_mat, step_x, step_y, step_z] <;> rfl

theorem pay62 (x : FVec F S1x4096 .f32) (y : FVec F S1x4096 .f32) (z : FVec F S1x4096 .f32) (p : Sel F) :
    k0_pay62 p.mat (firstMin p.mat) =
      (step 6 x y z p).mat := by
  simp only [step_mat, step_x, step_y, step_z] <;> rfl

theorem pay63 (x : FVec F S1x4096 .f32) (y : FVec F S1x4096 .f32) (z : FVec F S1x4096 .f32) (p : Sel F) :
    k0_pay63 (iota .tc S256x4096 32 [1] iota_S256x4096_d1_w32) p.mat (firstMin p.mat) =
      (firstMin (step 6 x y z p).mat) := by
  simp only [step_mat, step_x, step_y, step_z] <;> rfl

theorem pay65 (x : FVec F S1x4096 .f32) (y : FVec F S1x4096 .f32) (z : FVec F S1x4096 .f32) (p : Sel F) :
    k0_pay65 x (iota .tc S256x4096 32 [1] iota_S256x4096_d1_w32) (iota .tc S256x16 32 [1] iota_S256x16_d1_w32) p.x p.mat (firstMin p.mat) (shapeCast S256x1 (multiReduction .add [1] S256 (select (firstMin p.mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) (broadcast S256x16 6#32) =
      (step 7 x y z (step 6 x y z p)).x := by
  simp only [step_mat, step_x, step_y, step_z] <;> rfl

theorem pay66 (x : FVec F S1x4096 .f32) (y : FVec F S1x4096 .f32) (z : FVec F S1x4096 .f32) (p : Sel F) :
    k0_pay66 y (iota .tc S256x4096 32 [1] iota_S256x4096_d1_w32) (iota .tc S256x16 32 [1] iota_S256x16_d1_w32) p.y p.mat (firstMin p.mat) (shapeCast S256x1 (multiReduction .add [1] S256 (select (firstMin p.mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) (broadcast S256x16 6#32) =
      (step 7 x y z (step 6 x y z p)).y := by
  simp only [step_mat, step_x, step_y, step_z] <;> rfl

theorem pay67 (x : FVec F S1x4096 .f32) (y : FVec F S1x4096 .f32) (z : FVec F S1x4096 .f32) (p : Sel F) :
    k0_pay67 z (iota .tc S256x4096 32 [1] iota_S256x4096_d1_w32) p.mat (firstMin p.mat) =
      (shapeCast S256x1 (shapeCast S256x1 (multiReduction .add [1] S256 (select (firstMin (step 6 x y z p).mat) (broadcastTo S256x4096 (shapeCast S1x4096 z shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) shapeCasts_S256x1_S256x1) := by
  simp only [step_mat, step_x, step_y, step_z] <;> rfl

theorem pay71 (x : FVec F S1x4096 .f32) (y : FVec F S1x4096 .f32) (z : FVec F S1x4096 .f32) (p : Sel F) :
    k0_pay71 x (iota .tc S256x4096 32 [1] iota_S256x4096_d1_w32) (iota .tc S256x16 32 [1] iota_S256x16_d1_w32) p.mat (firstMin p.mat) (step 7 x y z p).x =
      (step 8 x y z (step 7 x y z p)).x := by
  simp only [step_mat, step_x, step_y, step_z] <;> rfl

theorem pay72 (x : FVec F S1x4096 .f32) (y : FVec F S1x4096 .f32) (z : FVec F S1x4096 .f32) (p : Sel F) :
    k0_pay72 y (iota .tc S256x4096 32 [1] iota_S256x4096_d1_w32) (iota .tc S256x16 32 [1] iota_S256x16_d1_w32) p.mat (firstMin p.mat) (step 7 x y z p).y =
      (step 8 x y z (step 7 x y z p)).y := by
  simp only [step_mat, step_x, step_y, step_z] <;> rfl

theorem pay73 (x : FVec F S1x4096 .f32) (y : FVec F S1x4096 .f32) (z : FVec F S1x4096 .f32) (p : Sel F) :
    k0_pay73 z (iota .tc S256x4096 32 [1] iota_S256x4096_d1_w32) (iota .tc S256x16 32 [1] iota_S256x16_d1_w32) p.z p.mat (firstMin p.mat) (cmpi .eq (iota .tc S256x16 32 [1] iota_S256x16_d1_w32) (broadcast S256x16 7#32)) (shapeCast S256x1 (shapeCast S256x1 (multiReduction .add [1] S256 (select (firstMin p.mat) (broadcastTo S256x4096 (shapeCast S1x4096 z shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) shapeCasts_S256x1_S256x1) =
      (step 8 x y z (step 7 x y z p)).z := by
  simp only [step_mat, step_x, step_y, step_z] <;> rfl

theorem pay74 (x : FVec F S1x4096 .f32) (y : FVec F S1x4096 .f32) (z : FVec F S1x4096 .f32) (p : Sel F) :
    k0_pay74 (iota .tc S256x4096 32 [1] iota_S256x4096_d1_w32) p.mat (firstMin p.mat) =
      (step 8 x y z (step 7 x y z p)).mat := by
  simp only [step_mat, step_x, step_y, step_z] <;> rfl

theorem pay75 (x : FVec F S1x4096 .f32) (y : FVec F S1x4096 .f32) (z : FVec F S1x4096 .f32) (p : Sel F) :
    k0_pay75 (iota .tc S256x4096 32 [1] iota_S256x4096_d1_w32) p.mat (firstMin p.mat) =
      (shapeCast S256x1 (multiReduction .minimumf [1] S256 (step 8 x y z (step 7 x y z p)).mat 0x7F800000#32 reduces_S256x4096_S256 (.inl rfl) rfl) shapeCasts_S256_S256x1) := by
  simp only [step_mat, step_x, step_y, step_z] <;> rfl

theorem pay78 (x : FVec F S1x4096 .f32) (y : FVec F S1x4096 .f32) (z : FVec F S1x4096 .f32) (p : Sel F) :
    k0_pay78 x (iota .tc S256x4096 32 [1] iota_S256x4096_d1_w32) (iota .tc S256x16 32 [1] iota_S256x16_d1_w32) p.x p.mat (shapeCast S256x1 (multiReduction .minimumf [1] S256 p.mat 0x7F800000#32 reduces_S256x4096_S256 (.inl rfl) rfl) shapeCasts_S256_S256x1) =
      (step 9 x y z p).x := by
  simp only [step_mat, step_x, step_y, step_z] <;> rfl

theorem pay79 (x : FVec F S1x4096 .f32) (y : FVec F S1x4096 .f32) (z : FVec F S1x4096 .f32) (p : Sel F) :
    k0_pay79 y (iota .tc S256x4096 32 [1] iota_S256x4096_d1_w32) (iota .tc S256x16 32 [1] iota_S256x16_d1_w32) p.y p.mat (shapeCast S256x1 (multiReduction .minimumf [1] S256 p.mat 0x7F800000#32 reduces_S256x4096_S256 (.inl rfl) rfl) shapeCasts_S256_S256x1) =
      (step 9 x y z p).y := by
  simp only [step_mat, step_x, step_y, step_z] <;> rfl

theorem pay80 (x : FVec F S1x4096 .f32) (y : FVec F S1x4096 .f32) (z : FVec F S1x4096 .f32) (p : Sel F) :
    k0_pay80 z (iota .tc S256x4096 32 [1] iota_S256x4096_d1_w32) (iota .tc S256x16 32 [1] iota_S256x16_d1_w32) p.z p.mat (shapeCast S256x1 (multiReduction .minimumf [1] S256 p.mat 0x7F800000#32 reduces_S256x4096_S256 (.inl rfl) rfl) shapeCasts_S256_S256x1) =
      (step 9 x y z p).z := by
  simp only [step_mat, step_x, step_y, step_z] <;> rfl

theorem pay81 (x : FVec F S1x4096 .f32) (y : FVec F S1x4096 .f32) (z : FVec F S1x4096 .f32) (p : Sel F) :
    k0_pay81 (iota .tc S256x4096 32 [1] iota_S256x4096_d1_w32) p.mat (shapeCast S256x1 (multiReduction .minimumf [1] S256 p.mat 0x7F800000#32 reduces_S256x4096_S256 (.inl rfl) rfl) shapeCasts_S256_S256x1) =
      (step 9 x y z p).mat := by
  simp only [step_mat, step_x, step_y, step_z] <;> rfl

theorem pay82 (x : FVec F S1x4096 .f32) (y : FVec F S1x4096 .f32) (z : FVec F S1x4096 .f32) (p : Sel F) :
    k0_pay82 (iota .tc S256x4096 32 [1] iota_S256x4096_d1_w32) p.mat (shapeCast S256x1 (multiReduction .minimumf [1] S256 p.mat 0x7F800000#32 reduces_S256x4096_S256 (.inl rfl) rfl) shapeCasts_S256_S256x1) =
      (shapeCast S256x1 (multiReductionI .minsi [1] S256 (select (cmpf .oeq (step 9 x y z p).mat (broadcastTo S256x4096 (shapeCast S256x1 (multiReduction .minimumf [1] S256 (step 9 x y z p).mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) := by
  simp only [step_mat, step_x, step_y, step_z] <;> rfl

theorem pay85 (x : FVec F S1x4096 .f32) (y : FVec F S1x4096 .f32) (z : FVec F S1x4096 .f32) (p : Sel F) :
    k0_pay85 x (iota .tc S256x4096 32 [1] iota_S256x4096_d1_w32) (iota .tc S256x16 32 [1] iota_S256x16_d1_w32) p.x (shapeCast S256x1 (multiReductionI .minsi [1] S256 (select (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) =
      (step 10 x y z p).x := by
  simp only [step_mat, step_x, step_y, step_z] <;> rfl

theorem pay86 (x : FVec F S1x4096 .f32) (y : FVec F S1x4096 .f32) (z : FVec F S1x4096 .f32) (p : Sel F) :
    k0_pay86 y (iota .tc S256x4096 32 [1] iota_S256x4096_d1_w32) (iota .tc S256x16 32 [1] iota_S256x16_d1_w32) p.y (shapeCast S256x1 (multiReductionI .minsi [1] S256 (select (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) =
      (step 10 x y z p).y := by
  simp only [step_mat, step_x, step_y, step_z] <;> rfl

theorem pay87 (x : FVec F S1x4096 .f32) (y : FVec F S1x4096 .f32) (z : FVec F S1x4096 .f32) (p : Sel F) :
    k0_pay87 z (iota .tc S256x4096 32 [1] iota_S256x4096_d1_w32) (iota .tc S256x16 32 [1] iota_S256x16_d1_w32) p.z (shapeCast S256x1 (multiReductionI .minsi [1] S256 (select (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) =
      (step 10 x y z p).z := by
  simp only [step_mat, step_x, step_y, step_z] <;> rfl

theorem pay88 (x : FVec F S1x4096 .f32) (y : FVec F S1x4096 .f32) (z : FVec F S1x4096 .f32) (p : Sel F) :
    k0_pay88 (iota .tc S256x4096 32 [1] iota_S256x4096_d1_w32) p.mat (shapeCast S256x1 (multiReductionI .minsi [1] S256 (select (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) =
      (step 10 x y z p).mat := by
  simp only [step_mat, step_x, step_y, step_z] <;> rfl

theorem pay89 (x : FVec F S1x4096 .f32) (y : FVec F S1x4096 .f32) (z : FVec F S1x4096 .f32) (p : Sel F) :
    k0_pay89 (iota .tc S256x4096 32 [1] iota_S256x4096_d1_w32) p.mat (shapeCast S256x1 (multiReductionI .minsi [1] S256 (select (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) =
      (firstMin (step 10 x y z p).mat) := by
  simp only [step_mat, step_x, step_y, step_z] <;> rfl

theorem pay90 (x : FVec F S1x4096 .f32) (y : FVec F S1x4096 .f32) (z : FVec F S1x4096 .f32) (p : Sel F) :
    k0_pay90 x (iota .tc S256x4096 32 [1] iota_S256x4096_d1_w32) p.mat (shapeCast S256x1 (multiReductionI .minsi [1] S256 (select (cmpf .oeq p.mat (broadcastTo S256x4096 (shapeCast S256x1 (multiReduction .minimumf [1] S256 p.mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) =
      (select (firstMin (step 10 x y z p).mat) (broadcastTo S256x4096 (shapeCast S1x4096 x shapeCasts_S1x4096_S1x4096) broadcasts_S1x4096_S256x4096) (broadcast S256x4096 (Scalar.ofBits .f32 0x00000000#32 : F .f32))) := by
  simp only [step_mat, step_x, step_y, step_z] <;> rfl

theorem pay92 (x : FVec F S1x4096 .f32) (y : FVec F S1x4096 .f32) (z : FVec F S1x4096 .f32) (p : Sel F) :
    k0_pay92 (iota .tc S256x16 32 [1] iota_S256x16_d1_w32) p.x (select (firstMin p.mat) (broadcastTo S256x4096 (shapeCast S1x4096 x shapeCasts_S1x4096_S1x4096) broadcasts_S1x4096_S256x4096) (broadcast S256x4096 (Scalar.ofBits .f32 0x00000000#32 : F .f32))) =
      (step 11 x y z p).x := by
  simp only [step_mat, step_x, step_y, step_z] <;> rfl

theorem pay93 (x : FVec F S1x4096 .f32) (y : FVec F S1x4096 .f32) (z : FVec F S1x4096 .f32) (p : Sel F) :
    k0_pay93 y (iota .tc S256x16 32 [1] iota_S256x16_d1_w32) p.y (firstMin p.mat) =
      (step 11 x y z p).y := by
  simp only [step_mat, step_x, step_y, step_z] <;> rfl

theorem pay94 (x : FVec F S1x4096 .f32) (y : FVec F S1x4096 .f32) (z : FVec F S1x4096 .f32) (p : Sel F) :
    k0_pay94 z (iota .tc S256x16 32 [1] iota_S256x16_d1_w32) p.z (firstMin p.mat) =
      (step 11 x y z p).z := by
  simp only [step_mat, step_x, step_y, step_z] <;> rfl

theorem pay95 (x : FVec F S1x4096 .f32) (y : FVec F S1x4096 .f32) (z : FVec F S1x4096 .f32) (p : Sel F) :
    k0_pay95 p.mat (firstMin p.mat) =
      (step 11 x y z p).mat := by
  simp only [step_mat, step_x, step_y, step_z] <;> rfl

theorem pay96 (x : FVec F S1x4096 .f32) (y : FVec F S1x4096 .f32) (z : FVec F S1x4096 .f32) (p : Sel F) :
    k0_pay96 (iota .tc S256x4096 32 [1] iota_S256x4096_d1_w32) p.mat (firstMin p.mat) =
      (firstMin (step 11 x y z p).mat) := by
  simp only [step_mat, step_x, step_y, step_z] <;> rfl

theorem pay97 (x : FVec F S1x4096 .f32) (y : FVec F S1x4096 .f32) (z : FVec F S1x4096 .f32) (p : Sel F) :
    k0_pay97 x (iota .tc S256x4096 32 [1] iota_S256x4096_d1_w32) p.mat (firstMin p.mat) =
      (shapeCast S256x1 (multiReduction .add [1] S256 (select (firstMin (step 11 x y z p).mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay98 (x : FVec F S1x4096 .f32) (y : FVec F S1x4096 .f32) (z : FVec F S1x4096 .f32) (p : Sel F) :
    k0_pay98 y (iota .tc S256x4096 32 [1] iota_S256x4096_d1_w32) p.mat (firstMin p.mat) =
      (select (firstMin (step 11 x y z p).mat) (broadcastTo S256x4096 (shapeCast S1x4096 y shapeCasts_S1x4096_S1x4096) broadcasts_S1x4096_S256x4096) (broadcast S256x4096 (Scalar.ofBits .f32 0x00000000#32 : F .f32))) := by
  simp only [step_mat, step_x, step_y, step_z] <;> rfl

theorem pay100 (x : FVec F S1x4096 .f32) (y : FVec F S1x4096 .f32) (z : FVec F S1x4096 .f32) (p : Sel F) :
    k0_pay100 (iota .tc S256x16 32 [1] iota_S256x16_d1_w32) p.x (shapeCast S256x1 (multiReduction .add [1] S256 (select (firstMin p.mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) =
      (step 12 x y z p).x := by
  simp only [step_mat, step_x, step_y, step_z] <;> rfl

theorem pay101 (x : FVec F S1x4096 .f32) (y : FVec F S1x4096 .f32) (z : FVec F S1x4096 .f32) (p : Sel F) :
    k0_pay101 (iota .tc S256x16 32 [1] iota_S256x16_d1_w32) p.y (select (firstMin p.mat) (broadcastTo S256x4096 (shapeCast S1x4096 y shapeCasts_S1x4096_S1x4096) broadcasts_S1x4096_S256x4096) (broadcast S256x4096 (Scalar.ofBits .f32 0x00000000#32 : F .f32))) =
      (step 12 x y z p).y := by
  simp only [step_mat, step_x, step_y, step_z] <;> rfl

theorem pay102 (x : FVec F S1x4096 .f32) (y : FVec F S1x4096 .f32) (z : FVec F S1x4096 .f32) (p : Sel F) :
    k0_pay102 z (iota .tc S256x16 32 [1] iota_S256x16_d1_w32) p.z (firstMin p.mat) =
      (step 12 x y z p).z := by
  simp only [step_mat, step_x, step_y, step_z] <;> rfl

theorem pay103 (x : FVec F S1x4096 .f32) (y : FVec F S1x4096 .f32) (z : FVec F S1x4096 .f32) (p : Sel F) :
    k0_pay103 p.mat (firstMin p.mat) =
      (step 12 x y z p).mat := by
  simp only [step_mat, step_x, step_y, step_z] <;> rfl

theorem pay104 (x : FVec F S1x4096 .f32) (y : FVec F S1x4096 .f32) (z : FVec F S1x4096 .f32) (p : Sel F) :
    k0_pay104 (iota .tc S256x4096 32 [1] iota_S256x4096_d1_w32) p.mat (firstMin p.mat) =
      (firstMin (step 12 x y z p).mat) := by
  simp only [step_mat, step_x, step_y, step_z] <;> rfl

theorem pay105 (x : FVec F S1x4096 .f32) (y : FVec F S1x4096 .f32) (z : FVec F S1x4096 .f32) (p : Sel F) :
    k0_pay105 x (iota .tc S256x4096 32 [1] iota_S256x4096_d1_w32) p.mat (firstMin p.mat) =
      (shapeCast S256x1 (multiReduction .add [1] S256 (select (firstMin (step 12 x y z p).mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay106 (x : FVec F S1x4096 .f32) (y : FVec F S1x4096 .f32) (z : FVec F S1x4096 .f32) (p : Sel F) :
    k0_pay106 y (iota .tc S256x4096 32 [1] iota_S256x4096_d1_w32) p.mat (firstMin p.mat) =
      (shapeCast S256x1 (multiReduction .add [1] S256 (select (firstMin (step 12 x y z p).mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay107 (x : FVec F S1x4096 .f32) (y : FVec F S1x4096 .f32) (z : FVec F S1x4096 .f32) (p : Sel F) :
    k0_pay107 z (iota .tc S256x4096 32 [1] iota_S256x4096_d1_w32) p.mat (firstMin p.mat) =
      (select (firstMin (step 12 x y z p).mat) (broadcastTo S256x4096 (shapeCast S1x4096 z shapeCasts_S1x4096_S1x4096) broadcasts_S1x4096_S256x4096) (broadcast S256x4096 (Scalar.ofBits .f32 0x00000000#32 : F .f32))) := by
  simp only [step_mat, step_x, step_y, step_z] <;> rfl

theorem pay109 (x : FVec F S1x4096 .f32) (y : FVec F S1x4096 .f32) (z : FVec F S1x4096 .f32) (p : Sel F) :
    k0_pay109 (iota .tc S256x16 32 [1] iota_S256x16_d1_w32) p.y (shapeCast S256x1 (multiReduction .add [1] S256 (select (firstMin p.mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) =
      (step 13 x y z p).y := by
  simp only [step_mat, step_x, step_y, step_z] <;> rfl

theorem pay110 (x : FVec F S1x4096 .f32) (y : FVec F S1x4096 .f32) (z : FVec F S1x4096 .f32) (p : Sel F) :
    k0_pay110 (iota .tc S256x16 32 [1] iota_S256x16_d1_w32) p.z (select (firstMin p.mat) (broadcastTo S256x4096 (shapeCast S1x4096 z shapeCasts_S1x4096_S1x4096) broadcasts_S1x4096_S256x4096) (broadcast S256x4096 (Scalar.ofBits .f32 0x00000000#32 : F .f32))) =
      (step 13 x y z p).z := by
  simp only [step_mat, step_x, step_y, step_z] <;> rfl

theorem pay111 (x : FVec F S1x4096 .f32) (y : FVec F S1x4096 .f32) (z : FVec F S1x4096 .f32) (p : Sel F) :
    k0_pay111 p.mat (firstMin p.mat) =
      (step 13 x y z p).mat := by
  simp only [step_mat, step_x, step_y, step_z] <;> rfl

theorem pay112 (x : FVec F S1x4096 .f32) (y : FVec F S1x4096 .f32) (z : FVec F S1x4096 .f32) (p : Sel F) :
    k0_pay112 (iota .tc S256x4096 32 [1] iota_S256x4096_d1_w32) p.mat (firstMin p.mat) =
      (firstMin (step 13 x y z p).mat) := by
  simp only [step_mat, step_x, step_y, step_z] <;> rfl

theorem pay113 (x : FVec F S1x4096 .f32) (y : FVec F S1x4096 .f32) (z : FVec F S1x4096 .f32) (p : Sel F) :
    k0_pay113 y (iota .tc S256x4096 32 [1] iota_S256x4096_d1_w32) p.mat (firstMin p.mat) =
      (shapeCast S256x1 (multiReduction .add [1] S256 (select (firstMin (step 13 x y z p).mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay114 (x : FVec F S1x4096 .f32) (y : FVec F S1x4096 .f32) (z : FVec F S1x4096 .f32) (p : Sel F) :
    k0_pay114 z (iota .tc S256x4096 32 [1] iota_S256x4096_d1_w32) p.mat (firstMin p.mat) =
      (shapeCast S256x1 (multiReduction .add [1] S256 (select (firstMin (step 13 x y z p).mat) (broadcastTo S256x4096 (shapeCast S1x4096 z shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  simp only [step_mat, step_x, step_y, step_z] <;> rfl

theorem pay116 (x : FVec F S1x4096 .f32) (y : FVec F S1x4096 .f32) (z : FVec F S1x4096 .f32) (p : Sel F) :
    k0_pay116 x (iota .tc S256x4096 32 [1] iota_S256x4096_d1_w32) (iota .tc S256x16 32 [1] iota_S256x16_d1_w32) p.x p.mat (firstMin p.mat) (shapeCast S256x1 (multiReduction .add [1] S256 (select (firstMin p.mat) (broadcastTo S256x4096 (shapeCast S1x4096 x shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) =
      (step 14 x y z (step 13 x y z p)).x := by
  simp only [step_mat, step_x, step_y, step_z] <;> rfl

theorem pay117 (x : FVec F S1x4096 .f32) (y : FVec F S1x4096 .f32) (z : FVec F S1x4096 .f32) (p : Sel F) :
    k0_pay117 p.mat (firstMin p.mat) =
      (step 14 x y z p).mat := by
  simp only [step_mat, step_x, step_y, step_z] <;> rfl

theorem pay118 (x : FVec F S1x4096 .f32) (y : FVec F S1x4096 .f32) (z : FVec F S1x4096 .f32) (p : Sel F) :
    k0_pay118 (iota .tc S256x4096 32 [1] iota_S256x4096_d1_w32) p.mat (firstMin p.mat) =
      (firstMin (step 14 x y z p).mat) := by
  simp only [step_mat, step_x, step_y, step_z] <;> rfl

theorem pay120 (x : FVec F S1x4096 .f32) (y : FVec F S1x4096 .f32) (z : FVec F S1x4096 .f32) (p : Sel F) :
    k0_pay120 x (iota .tc S256x4096 32 [1] iota_S256x4096_d1_w32) (iota .tc S256x16 32 [1] iota_S256x16_d1_w32) p.mat (firstMin p.mat) (step 14 x y z p).x =
      (step 15 x y z (step 14 x y z p)).x := by
  simp only [step_mat, step_x, step_y, step_z] <;> rfl

theorem pay121 (x : FVec F S1x4096 .f32) (y : FVec F S1x4096 .f32) (z : FVec F S1x4096 .f32) (p : Sel F) :
    k0_pay121 y (iota .tc S256x4096 32 [1] iota_S256x4096_d1_w32) (iota .tc S256x16 32 [1] iota_S256x16_d1_w32) p.y p.mat (firstMin p.mat) (shapeCast S256x1 (multiReduction .add [1] S256 (select (firstMin p.mat) (broadcastTo S256x4096 (shapeCast S1x4096 y shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) (cmpi .eq (iota .tc S256x16 32 [1] iota_S256x16_d1_w32) (broadcast S256x16 14#32)) =
      (step 15 x y z (step 14 x y z p)).y := by
  simp only [step_mat, step_x, step_y, step_z] <;> rfl

theorem pay122 (x : FVec F S1x4096 .f32) (y : FVec F S1x4096 .f32) (z : FVec F S1x4096 .f32) (p : Sel F) :
    k0_pay122 z (iota .tc S256x4096 32 [1] iota_S256x4096_d1_w32) (iota .tc S256x16 32 [1] iota_S256x16_d1_w32) p.z p.mat (firstMin p.mat) (shapeCast S256x1 (multiReduction .add [1] S256 (select (firstMin p.mat) (broadcastTo S256x4096 (shapeCast S1x4096 z shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) (cmpi .eq (iota .tc S256x16 32 [1] iota_S256x16_d1_w32) (broadcast S256x16 14#32)) =
      (step 15 x y z (step 14 x y z p)).z := by
  simp only [step_mat, step_x, step_y, step_z] <;> rfl

theorem pay124 (x : FVec F S1x4096 .f32) (y : FVec F S1x4096 .f32) (z : FVec F S1x4096 .f32) (p : Sel F) :
    k0_pay124 p.mat (firstMin p.mat) (broadcast S256x4096 (Scalar.ofBits .f32 0x7149F2CA#32 : F .f32)) =
      (shapeCast S256x1 (multiReduction .minimumf [1] S256 (step 15 x y z p).mat 0x7F800000#32 reduces_S256x4096_S256 (.inl rfl) rfl) shapeCasts_S256_S256x1) := by
  simp only [step_mat, step_x, step_y, step_z] <;> rfl

theorem pay126 (b : FVec F S256x16 .f32) :
    k0_pay126 b =
      (cent b) := rfl

theorem pay127 (c : FVec F S256x16 .f32) :
    k0_pay127 c =
      (cent c) := rfl

theorem pay128 (a : FVec F S256x16 .f32) :
    k0_pay128 a =
      (cov a a) := rfl

theorem pay129 (b : FVec F S256x16 .f32) :
    k0_pay129 b =
      (cov b b) := rfl

theorem pay130 (c : FVec F S256x16 .f32) :
    k0_pay130 c =
      (cov c c) := rfl

theorem pay131 (a : FVec F S256x16 .f32) (b : FVec F S256x16 .f32) :
    k0_pay131 a b =
      (cov a b) := rfl

theorem pay132 (a : FVec F S256x16 .f32) (c : FVec F S256x16 .f32) :
    k0_pay132 a c =
      (shapeCast S256x1 (multiReduction .add [1] S256 (mulf (cent a) (cent c)) 0x00000000#32 reduces_S256x16_S256 (.inl rfl) rfl) shapeCasts_S256_S256x1) := rfl

theorem pay138 (q : Jac F) :
    k0_pay138 q.xx q.yy q.xy =
      (rotA q).xx := by
  simp only [rotA_xx, rotA_yy, rotA_zz, rotA_xy, rotA_xz, rotA_yz] <;> rfl

theorem pay139 (q : Jac F) :
    k0_pay139 q.xx q.yy q.xy =
      (rotA q).yy := by
  simp only [rotA_xx, rotA_yy, rotA_zz, rotA_xy, rotA_xz, rotA_yz] <;> rfl

theorem pay140 (a : FVec F S256x16 .f32) (b : FVec F S256x16 .f32) (c : FVec F S256x16 .f32) :
    k0_pay140 (cent b) (cent c) (jac0 a b c).xx (jac0 a b c).yy (jac0 a b c).xy (shapeCast S256x1 (multiReduction .add [1] S256 (mulf (cent a) (cent c)) 0x00000000#32 reduces_S256x16_S256 (.inl rfl) rfl) shapeCasts_S256_S256x1) =
      (rotA (jac0 a b c)).xz := by
  simp only [jac0_xx, jac0_yy, jac0_zz, jac0_xy, jac0_xz, jac0_yz, rotA_xx, rotA_yy, rotA_zz, rotA_xy, rotA_xz, rotA_yz] <;> rfl

theorem pay141 (a : FVec F S256x16 .f32) (b : FVec F S256x16 .f32) (c : FVec F S256x16 .f32) :
    k0_pay141 (cent b) (cent c) (jac0 a b c).xx (jac0 a b c).yy (jac0 a b c).xy (shapeCast S256x1 (multiReduction .add [1] S256 (mulf (cent a) (cent c)) 0x00000000#32 reduces_S256x16_S256 (.inl rfl) rfl) shapeCasts_S256_S256x1) =
      (rotA (jac0 a b c)).yz := by
  simp only [jac0_xx, jac0_yy, jac0_zz, jac0_xy, jac0_xz, jac0_yz, rotA_xx, rotA_yy, rotA_zz, rotA_xy, rotA_xz, rotA_yz] <;> rfl

theorem pay146 (q : Jac F) :
    k0_pay146 q.zz (rotA q).xx (rotA q).xz =
      (rotB (rotA q)).xx := by
  simp only [rotA_xx, rotA_yy, rotA_zz, rotA_xy, rotA_xz, rotA_yz, rotB_xx, rotB_yy, rotB_zz, rotB_xy, rotB_xz, rotB_yz] <;> rfl

theorem pay147 (q : Jac F) :
    k0_pay147 q.zz (rotA q).xx (rotA q).xz =
      (rotB (rotA q)).zz := by
  simp only [rotA_xx, rotA_yy, rotA_zz, rotA_xy, rotA_xz, rotA_yz, rotB_xx, rotB_yy, rotB_zz, rotB_xy, rotB_xz, rotB_yz] <;> rfl

theorem pay148 (q : Jac F) :
    k0_pay148 q.zz (rotA q).xx (rotA q).xz (rotA q).yz =
      (rotB (rotA q)).xy := by
  simp only [rotA_xx, rotA_yy, rotA_zz, rotA_xy, rotA_xz, rotA_yz, rotB_xx, rotB_yy, rotB_zz, rotB_xy, rotB_xz, rotB_yz] <;> rfl

theorem pay149 (q : Jac F) :
    k0_pay149 q.zz (rotA q).xx (rotA q).xz (rotA q).yz =
      (rotB (rotA q)).yz := by
  simp only [rotA_xx, rotA_yy, rotA_zz, rotA_xy, rotA_xz, rotA_yz, rotB_xx, rotB_yy, rotB_zz, rotB_xy, rotB_xz, rotB_yz] <;> rfl

theorem pay151 (q : Jac F) :
    k0_pay151 q.zz (rotA q).xx (rotA q).xz (rotA q).yz =
      (cmpf .ogt (absf (rotB (rotA q)).yz) (broadcast S256x1 (Scalar.ofBits .f32 0x00000000#32 : F .f32))) := by
  simp only [rotA_xx, rotA_yy, rotA_zz, rotA_xy, rotA_xz, rotA_yz, rotB_xx, rotB_yy, rotB_zz, rotB_xy, rotB_xz, rotB_yz] <;> rfl

theorem pay152 (q : Jac F) :
    k0_pay152 q.zz (rotA q).xx (rotA q).yy (rotA q).xz =
      (subf (rotB (rotA q)).zz (rotA q).yy) := by
  simp only [rotA_xx, rotA_yy, rotA_zz, rotA_xy, rotA_xz, rotA_yz, rotB_xx, rotB_yy, rotB_zz, rotB_xy, rotB_xz, rotB_yz] <;> rfl

theorem pay156 (q : Jac F) :
    k0_pay156 q.yy (rotB q).yz (cmpf .ogt (absf (rotB q).yz) (broadcast S256x1 (Scalar.ofBits .f32 0x00000000#32 : F .f32))) (subf (rotB q).zz q.yy) (Scalar.ofBits .f32 0x40000000#32 : F .f32) =
      (rotC (rotB q)).yy := by
  simp only [rotB_xx, rotB_yy, rotB_zz, rotB_xy, rotB_xz, rotB_yz, rotC_xx, rotC_yy, rotC_zz, rotC_xy, rotC_xz, rotC_yz] <;> rfl

theorem pay157 (q : Jac F) :
    k0_pay157 (rotB q).zz (rotB q).yz (cmpf .ogt (absf (rotB q).yz) (broadcast S256x1 (Scalar.ofBits .f32 0x00000000#32 : F .f32))) (subf (rotB q).zz q.yy) (Scalar.ofBits .f32 0x40000000#32 : F .f32) =
      (rotC (rotB q)).zz := by
  simp only [rotB_xx, rotB_yy, rotB_zz, rotB_xy, rotB_xz, rotB_yz, rotC_xx, rotC_yy, rotC_zz, rotC_xy, rotC_xz, rotC_yz] <;> rfl

theorem pay158 (q : Jac F) :
    k0_pay158 (rotB q).xy (rotB q).yz (broadcast S256x1 (Scalar.ofBits .f32 0x00000000#32 : F .f32)) (cmpf .ogt (absf (rotB q).yz) (broadcast S256x1 (Scalar.ofBits .f32 0x00000000#32 : F .f32))) (subf (rotB q).zz q.yy) (Scalar.ofBits .f32 0x40000000#32 : F .f32) =
      (rotC (rotB q)).xy := by
  simp only [rotB_xx, rotB_yy, rotB_zz, rotB_xy, rotB_xz, rotB_yz, rotC_xx, rotC_yy, rotC_zz, rotC_xy, rotC_xz, rotC_yz] <;> rfl

theorem pay159 (q : Jac F) :
    k0_pay159 (rotB q).xy (rotB q).yz (broadcast S256x1 (Scalar.ofBits .f32 0x00000000#32 : F .f32)) (cmpf .ogt (absf (rotB q).yz) (broadcast S256x1 (Scalar.ofBits .f32 0x00000000#32 : F .f32))) (subf (rotB q).zz q.yy) (Scalar.ofBits .f32 0x40000000#32 : F .f32) =
      (rotC (rotB q)).xz := by
  simp only [rotB_xx, rotB_yy, rotB_zz, rotB_xy, rotB_xz, rotB_yz, rotC_xx, rotC_yy, rotC_zz, rotC_xy, rotC_xz, rotC_yz] <;> rfl

theorem pay161 (q : Jac F) :
    k0_pay161 (rotB q).xy (rotB q).yz (broadcast S256x1 (Scalar.ofBits .f32 0x00000000#32 : F .f32)) (cmpf .ogt (absf (rotB q).yz) (broadcast S256x1 (Scalar.ofBits .f32 0x00000000#32 : F .f32))) (subf (rotB q).zz q.yy) (Scalar.ofBits .f32 0x40000000#32 : F .f32) =
      (cmpf .ogt (absf (rotC (rotB q)).xy) (broadcast S256x1 (Scalar.ofBits .f32 0x00000000#32 : F .f32))) := by
  simp only [rotB_xx, rotB_yy, rotB_zz, rotB_xy, rotB_xz, rotB_yz, rotC_xx, rotC_yy, rotC_zz, rotC_xy, rotC_xz, rotC_yz] <;> rfl

theorem pay162 (q : Jac F) :
    k0_pay162 q.yy (rotB q).xx (rotB q).xy (rotB q).yz (broadcast S256x1 (Scalar.ofBits .f32 0x00000000#32 : F .f32)) (cmpf .ogt (absf (rotB q).yz) (broadcast S256x1 (Scalar.ofBits .f32 0x00000000#32 : F .f32))) (subf (rotB q).zz q.yy) (Scalar.ofBits .f32 0x40000000#32 : F .f32) =
      (divf (subf (rotC (rotB q)).yy (rotB q).xx) (select (cmpf .ogt (absf (rotC (rotB q)).xy) (broadcast S256x1 (Scalar.ofBits .f32 0x00000000#32 : F .f32))) (mulf (broadcast S256x1 (Scalar.ofBits .f32 0x40000000#32 : F .f32)) (rotC (rotB q)).xy) (broadcast S256x1 (Scalar.ofBits .f32 0x3F800000#32 : F .f32)))) := by
  simp only [rotB_xx, rotB_yy, rotB_zz, rotB_xy, rotB_xz, rotB_yz, rotC_xx, rotC_yy, rotC_zz, rotC_xy, rotC_xz, rotC_yz] <;> rfl

theorem pay167 (q : Jac F) :
    k0_pay167 q.xx (rotC q).xy (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (rotA (rotC q)).xx := by
  simp only [rotA_xx, rotA_yy, rotA_zz, rotA_xy, rotA_xz, rotA_yz, rotC_xx, rotC_yy, rotC_zz, rotC_xy, rotC_xz, rotC_yz] <;> rfl

theorem pay168 (q : Jac F) :
    k0_pay168 (rotC q).yy (rotC q).xy (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (rotA (rotC q)).yy := by
  simp only [rotA_xx, rotA_yy, rotA_zz, rotA_xy, rotA_xz, rotA_yz, rotC_xx, rotC_yy, rotC_zz, rotC_xy, rotC_xz, rotC_yz] <;> rfl

theorem pay169 (q : Jac F) :
    k0_pay169 (rotC q).xz (broadcast S256x1 (Scalar.ofBits .f32 0x00000000#32 : F .f32)) (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (rotA (rotC q)).xz := by
  simp only [rotA_xx, rotA_yy, rotA_zz, rotA_xy, rotA_xz, rotA_yz, rotC_xx, rotC_yy, rotC_zz, rotC_xy, rotC_xz, rotC_yz] <;> rfl

theorem pay170 (q : Jac F) :
    k0_pay170 (rotC q).xz (broadcast S256x1 (Scalar.ofBits .f32 0x00000000#32 : F .f32)) (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (rotA (rotC q)).yz := by
  simp only [rotA_xx, rotA_yy, rotA_zz, rotA_xy, rotA_xz, rotA_yz, rotC_xx, rotC_yy, rotC_zz, rotC_xy, rotC_xz, rotC_yz] <;> rfl

theorem pay172 (q : Jac F) :
    k0_pay172 (rotC q).xz (broadcast S256x1 (Scalar.ofBits .f32 0x00000000#32 : F .f32)) (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (cmpf .ogt (absf (rotA (rotC q)).xz) (broadcast S256x1 (Scalar.ofBits .f32 0x00000000#32 : F .f32))) := by
  simp only [rotA_xx, rotA_yy, rotA_zz, rotA_xy, rotA_xz, rotA_yz, rotC_xx, rotC_yy, rotC_zz, rotC_xy, rotC_xz, rotC_yz] <;> rfl

theorem pay174 (q : Jac F) :
    k0_pay174 q.xx (rotC q).zz (rotC q).xy (rotC q).xz (broadcast S256x1 (Scalar.ofBits .f32 0x00000000#32 : F .f32)) (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (select (cmpf .oge (divf (subf (rotC q).zz (rotA (rotC q)).xx) (select (cmpf .ogt (absf (rotA (rotC q)).xz) (broadcast S256x1 (Scalar.ofBits .f32 0x00000000#32 : F .f32))) (mulf (broadcast S256x1 (Scalar.ofBits .f32 0x40000000#32 : F .f32)) (rotA (rotC q)).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) := by
  simp only [rotA_xx, rotA_yy, rotA_zz, rotA_xy, rotA_xz, rotA_yz, rotC_xx, rotC_yy, rotC_zz, rotC_xy, rotC_xz, rotC_yz] <;> rfl

theorem pay175 (q : Jac F) :
    k0_pay175 q.xx (rotC q).zz (rotC q).xy (rotC q).xz (broadcast S256x1 (Scalar.ofBits .f32 0x00000000#32 : F .f32)) (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (absf (divf (subf (rotC q).zz (rotA (rotC q)).xx) (select (cmpf .ogt (absf (rotA (rotC q)).xz) (broadcast S256x1 (Scalar.ofBits .f32 0x00000000#32 : F .f32))) (mulf (broadcast S256x1 (Scalar.ofBits .f32 0x40000000#32 : F .f32)) (rotA (rotC q)).xz) (broadcast S256x1 (Scalar.ofBits .f32 0x3F800000#32 : F .f32))))) := by
  simp only [rotA_xx, rotA_yy, rotA_zz, rotA_xy, rotA_xz, rotA_yz, rotC_xx, rotC_yy, rotC_zz, rotC_xy, rotC_xz, rotC_yz] <;> rfl

theorem pay176 (q : Jac F) :
    k0_pay176 q.xx (rotC q).zz (rotC q).xy (rotC q).xz (broadcast S256x1 (Scalar.ofBits .f32 0x00000000#32 : F .f32)) (cmpf .ogt (absf (rotC q).xy) (broadcast S256x1 (Scalar.ofBits .f32 0x00000000#32 : F .f32))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32)) =
      (mulf (divf (subf (rotC q).zz (rotA (rotC q)).xx) (select (cmpf .ogt (absf (rotA (rotC q)).xz) (broadcast S256x1 (Scalar.ofBits .f32 0x00000000#32 : F .f32))) (mulf (broadcast S256x1 (Scalar.ofBits .f32 0x40000000#32 : F .f32)) (rotA (rotC q)).xz) (broadcast S256x1 (Scalar.ofBits .f32 0x3F800000#32 : F .f32)))) (divf (subf (rotC q).zz (rotA (rotC q)).xx) (select (cmpf .ogt (absf (rotA (rotC q)).xz) (broadcast S256x1 (Scalar.ofBits .f32 0x00000000#32 : F .f32))) (mulf (broadcast S256x1 (Scalar.ofBits .f32 0x40000000#32 : F .f32)) (rotA (rotC q)).xz) (broadcast S256x1 (Scalar.ofBits .f32 0x3F800000#32 : F .f32))))) := by
  simp only [rotA_xx, rotA_yy, rotA_zz, rotA_xy, rotA_xz, rotA_yz, rotC_xx, rotC_yy, rotC_zz, rotC_xy, rotC_xz, rotC_yz] <;> rfl

theorem pay180 (q : Jac F) :
    k0_pay180 (rotA q).xx (rotA q).xz (cmpf .ogt (absf (rotA q).xz) (broadcast S256x1 (Scalar.ofBits .f32 0x00000000#32 : F .f32))) (select (cmpf .oge (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) (mulf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) =
      (rotB (rotA q)).xx := by
  simp only [rotA_xx, rotA_yy, rotA_zz, rotA_xy, rotA_xz, rotA_yz, rotB_xx, rotB_yy, rotB_zz, rotB_xy, rotB_xz, rotB_yz] <;> rfl

theorem pay181 (q : Jac F) :
    k0_pay181 q.zz (rotA q).xz (cmpf .ogt (absf (rotA q).xz) (broadcast S256x1 (Scalar.ofBits .f32 0x00000000#32 : F .f32))) (select (cmpf .oge (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) (mulf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) =
      (rotB (rotA q)).zz := by
  simp only [rotA_xx, rotA_yy, rotA_zz, rotA_xy, rotA_xz, rotA_yz, rotB_xx, rotB_yy, rotB_zz, rotB_xy, rotB_xz, rotB_yz] <;> rfl

theorem pay182 (q : Jac F) :
    k0_pay182 (rotA q).yz (broadcast S256x1 (Scalar.ofBits .f32 0x00000000#32 : F .f32)) (cmpf .ogt (absf (rotA q).xz) (broadcast S256x1 (Scalar.ofBits .f32 0x00000000#32 : F .f32))) (select (cmpf .oge (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) (mulf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) =
      (rotB (rotA q)).xy := by
  simp only [rotA_xx, rotA_yy, rotA_zz, rotA_xy, rotA_xz, rotA_yz, rotB_xx, rotB_yy, rotB_zz, rotB_xy, rotB_xz, rotB_yz] <;> rfl

theorem pay183 (q : Jac F) :
    k0_pay183 (rotA q).yz (broadcast S256x1 (Scalar.ofBits .f32 0x00000000#32 : F .f32)) (cmpf .ogt (absf (rotA q).xz) (broadcast S256x1 (Scalar.ofBits .f32 0x00000000#32 : F .f32))) (select (cmpf .oge (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) (mulf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) =
      (rotB (rotA q)).yz := by
  simp only [rotA_xx, rotA_yy, rotA_zz, rotA_xy, rotA_xz, rotA_yz, rotB_xx, rotB_yy, rotB_zz, rotB_xy, rotB_xz, rotB_yz] <;> rfl

theorem pay185 (q : Jac F) :
    k0_pay185 (rotA q).yz (broadcast S256x1 (Scalar.ofBits .f32 0x00000000#32 : F .f32)) (cmpf .ogt (absf (rotA q).xz) (broadcast S256x1 (Scalar.ofBits .f32 0x00000000#32 : F .f32))) (select (cmpf .oge (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) (mulf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) =
      (cmpf .ogt (absf (rotB (rotA q)).yz) (broadcast S256x1 (Scalar.ofBits .f32 0x00000000#32 : F .f32))) := by
  simp only [rotA_xx, rotA_yy, rotA_zz, rotA_xy, rotA_xz, rotA_yz, rotB_xx, rotB_yy, rotB_zz, rotB_xy, rotB_xz, rotB_yz] <;> rfl

theorem pay186 (q : Jac F) :
    k0_pay186 q.zz (rotA q).yy (rotA q).xz (rotA q).yz (broadcast S256x1 (Scalar.ofBits .f32 0x00000000#32 : F .f32)) (cmpf .ogt (absf (rotA q).xz) (broadcast S256x1 (Scalar.ofBits .f32 0x00000000#32 : F .f32))) (select (cmpf .oge (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) (mulf (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32)))) (divf (subf q.zz (rotA q).xx) (select (cmpf .ogt (absf (rotA q).xz) (broadcast S256x1 (Scalar.ofBits .f32 0x00000000#32 : F .f32))) (mulf (broadcast S256x1 (Scalar.ofBits .f32 0x40000000#32 : F .f32)) (rotA q).xz) (broadcast S256x1 (Scalar.ofBits .f32 0x3F800000#32 : F .f32))))) =
      (divf (select (cmpf .oge (divf (subf (rotB (rotA q)).zz (rotA q).yy) (select (cmpf .ogt (absf (rotB (rotA q)).yz) (broadcast S256x1 (Scalar.ofBits .f32 0x00000000#32 : F .f32))) (mulf (broadcast S256x1 (Scalar.ofBits .f32 0x40000000#32 : F .f32)) (rotB (rotA q)).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (rotB (rotA q)).zz (rotA q).yy) (select (cmpf .ogt (absf (rotB (rotA q)).yz) (broadcast S256x1 (Scalar.ofBits .f32 0x00000000#32 : F .f32))) (mulf (broadcast S256x1 (Scalar.ofBits .f32 0x40000000#32 : F .f32)) (rotB (rotA q)).yz) (broadcast S256x1 (Scalar.ofBits .f32 0x3F800000#32 : F .f32))))) (sqrt (addf (mulf (divf (subf (rotB (rotA q)).zz (rotA q).yy) (select (cmpf .ogt (absf (rotB (rotA q)).yz) (broadcast S256x1 (Scalar.ofBits .f32 0x00000000#32 : F .f32))) (mulf (broadcast S256x1 (Scalar.ofBits .f32 0x40000000#32 : F .f32)) (rotB (rotA q)).yz) (broadcast S256x1 (Scalar.ofBits .f32 0x3F800000#32 : F .f32)))) (divf (subf (rotB (rotA q)).zz (rotA q).yy) (select (cmpf .ogt (absf (rotB (rotA q)).yz) (broadcast S256x1 (Scalar.ofBits .f32 0x00000000#32 : F .f32))) (mulf (broadcast S256x1 (Scalar.ofBits .f32 0x40000000#32 : F .f32)) (rotB (rotA q)).yz) (broadcast S256x1 (Scalar.ofBits .f32 0x3F800000#32 : F .f32))))) (broadcast S256x1 (Scalar.ofBits .f32 0x3F800000#32 : F .f32)))))) := by
  simp only [rotA_xx, rotA_yy, rotA_zz, rotA_xy, rotA_xz, rotA_yz, rotB_xx, rotB_yy, rotB_zz, rotB_xy, rotB_xz, rotB_yz] <;> rfl

theorem pay191 (q : Jac F) :
    k0_pay191 q.yy (rotB q).yz (cmpf .ogt (absf (rotB q).yz) (broadcast S256x1 (Scalar.ofBits .f32 0x00000000#32 : F .f32))) (divf (select (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (sqrt (addf (mulf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (broadcast S256x1 (Scalar.ofBits .f32 0x3F800000#32 : F .f32)))))) (broadcast S256x1 (Scalar.ofBits .f32 0x00000000#32 : F .f32)) =
      (rotC (rotB q)).yy := by
  simp only [rotB_xx, rotB_yy, rotB_zz, rotB_xy, rotB_xz, rotB_yz, rotC_xx, rotC_yy, rotC_zz, rotC_xy, rotC_xz, rotC_yz] <;> rfl

theorem pay192 (q : Jac F) :
    k0_pay192 (rotB q).zz (rotB q).yz (cmpf .ogt (absf (rotB q).yz) (broadcast S256x1 (Scalar.ofBits .f32 0x00000000#32 : F .f32))) (divf (select (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (sqrt (addf (mulf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (broadcast S256x1 (Scalar.ofBits .f32 0x3F800000#32 : F .f32)))))) (broadcast S256x1 (Scalar.ofBits .f32 0x00000000#32 : F .f32)) =
      (rotC (rotB q)).zz := by
  simp only [rotB_xx, rotB_yy, rotB_zz, rotB_xy, rotB_xz, rotB_yz, rotC_xx, rotC_yy, rotC_zz, rotC_xy, rotC_xz, rotC_yz] <;> rfl

theorem pay193 (q : Jac F) :
    k0_pay193 (rotB q).xy (broadcast S256x1 (Scalar.ofBits .f32 0x00000000#32 : F .f32)) (cmpf .ogt (absf (rotB q).yz) (broadcast S256x1 (Scalar.ofBits .f32 0x00000000#32 : F .f32))) (divf (select (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (sqrt (addf (mulf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (broadcast S256x1 (Scalar.ofBits .f32 0x3F800000#32 : F .f32)))))) (broadcast S256x1 (Scalar.ofBits .f32 0x00000000#32 : F .f32)) =
      (rotC (rotB q)).xy := by
  simp only [rotB_xx, rotB_yy, rotB_zz, rotB_xy, rotB_xz, rotB_yz, rotC_xx, rotC_yy, rotC_zz, rotC_xy, rotC_xz, rotC_yz] <;> rfl

theorem pay194 (q : Jac F) :
    k0_pay194 (rotB q).xy (broadcast S256x1 (Scalar.ofBits .f32 0x00000000#32 : F .f32)) (cmpf .ogt (absf (rotB q).yz) (broadcast S256x1 (Scalar.ofBits .f32 0x00000000#32 : F .f32))) (divf (select (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (sqrt (addf (mulf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (broadcast S256x1 (Scalar.ofBits .f32 0x3F800000#32 : F .f32)))))) (broadcast S256x1 (Scalar.ofBits .f32 0x00000000#32 : F .f32)) =
      (rotC (rotB q)).xz := by
  simp only [rotB_xx, rotB_yy, rotB_zz, rotB_xy, rotB_xz, rotB_yz, rotC_xx, rotC_yy, rotC_zz, rotC_xy, rotC_xz, rotC_yz] <;> rfl

theorem pay196 (q : Jac F) :
    k0_pay196 q.yy (rotB q).xx (rotB q).xy (rotB q).yz (broadcast S256x1 (Scalar.ofBits .f32 0x00000000#32 : F .f32)) (cmpf .ogt (absf (rotB q).yz) (broadcast S256x1 (Scalar.ofBits .f32 0x00000000#32 : F .f32))) (divf (select (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (sqrt (addf (mulf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (broadcast S256x1 (Scalar.ofBits .f32 0x3F800000#32 : F .f32)))))) (broadcast S256x1 (Scalar.ofBits .f32 0x00000000#32 : F .f32)) =
      (tn (rotC (rotB q)).xx (rotC (rotB q)).yy (rotC (rotB q)).xy) := by
  simp only [rotB_xx, rotB_yy, rotB_zz, rotB_xy, rotB_xz, rotB_yz, rotC_xx, rotC_yy, rotC_zz, rotC_xy, rotC_xz, rotC_yz] <;> rfl

theorem pay197 (q : Jac F) :
    k0_pay197 q.yy (rotB q).xx (rotB q).xy (rotB q).yz (broadcast S256x1 (Scalar.ofBits .f32 0x00000000#32 : F .f32)) (cmpf .ogt (absf (rotB q).yz) (broadcast S256x1 (Scalar.ofBits .f32 0x00000000#32 : F .f32))) (divf (select (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (sqrt (addf (mulf (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32))))) (broadcast S256x1 (Scalar.ofBits .f32 0x3F800000#32 : F .f32)))))) (broadcast S256x1 (Scalar.ofBits .f32 0x00000000#32 : F .f32)) =
      (sqrt (addf (mulf (tn (rotC (rotB q)).xx (rotC (rotB q)).yy (rotC (rotB q)).xy) (tn (rotC (rotB q)).xx (rotC (rotB q)).yy (rotC (rotB q)).xy)) (broadcast S256x1 (Scalar.ofBits .f32 0x3F800000#32 : F .f32)))) := by
  simp only [rotB_xx, rotB_yy, rotB_zz, rotB_xy, rotB_xz, rotB_yz, rotC_xx, rotC_yy, rotC_zz, rotC_xy, rotC_xz, rotC_yz] <;> rfl

theorem pay202 (q : Jac F) :
    k0_pay202 (rotC q).yy (rotC q).xy (tn (rotC q).xx (rotC q).yy (rotC q).xy) =
      (rotA (rotC q)).yy := by
  simp only [rotA_xx, rotA_yy, rotA_zz, rotA_xy, rotA_xz, rotA_yz, rotC_xx, rotC_yy, rotC_zz, rotC_xy, rotC_xz, rotC_yz] <;> rfl

theorem pay204 (q : Jac F) :
    k0_pay204 (rotC q).xz (broadcast S256x1 (Scalar.ofBits .f32 0x00000000#32 : F .f32)) (tn (rotC q).xx (rotC q).yy (rotC q).xy) (sqrt (addf (mulf (tn (rotC q).xx (rotC q).yy (rotC q).xy) (tn (rotC q).xx (rotC q).yy (rotC q).xy)) (broadcast S256x1 (Scalar.ofBits .f32 0x3F800000#32 : F .f32)))) (broadcast S256x1 (Scalar.ofBits .f32 0x3F800000#32 : F .f32)) =
      (rotA (rotC q)).yz := by
  simp only [rotA_xx, rotA_yy, rotA_zz, rotA_xy, rotA_xz, rotA_yz, rotC_xx, rotC_yy, rotC_zz, rotC_xy, rotC_xz, rotC_yz] <;> rfl

theorem pay207 (q : Jac F) :
    k0_pay207 q.xx (rotC q).zz (rotC q).xy (rotC q).xz (broadcast S256x1 (Scalar.ofBits .f32 0x00000000#32 : F .f32)) (tn (rotC q).xx (rotC q).yy (rotC q).xy) (sqrt (addf (mulf (tn (rotC q).xx (rotC q).yy (rotC q).xy) (tn (rotC q).xx (rotC q).yy (rotC q).xy)) (broadcast S256x1 (Scalar.ofBits .f32 0x3F800000#32 : F .f32)))) (broadcast S256x1 (Scalar.ofBits .f32 0x3F800000#32 : F .f32)) =
      (cs (rotA (rotC q)).xx (rotA (rotC q)).zz (rotA (rotC q)).xz) := by
  simp only [rotA_xx, rotA_yy, rotA_zz, rotA_xy, rotA_xz, rotA_yz, rotC_xx, rotC_yy, rotC_zz, rotC_xy, rotC_xz, rotC_yz] <;> rfl

theorem pay208 (q : Jac F) :
    k0_pay208 q.xx (rotC q).zz (rotC q).xy (rotC q).xz (broadcast S256x1 (Scalar.ofBits .f32 0x00000000#32 : F .f32)) (tn (rotC q).xx (rotC q).yy (rotC q).xy) (sqrt (addf (mulf (tn (rotC q).xx (rotC q).yy (rotC q).xy) (tn (rotC q).xx (rotC q).yy (rotC q).xy)) (broadcast S256x1 (Scalar.ofBits .f32 0x3F800000#32 : F .f32)))) (broadcast S256x1 (Scalar.ofBits .f32 0x3F800000#32 : F .f32)) =
      (sn (rotA (rotC q)).xx (rotA (rotC q)).zz (rotA (rotC q)).xz) := by
  simp only [rotA_xx, rotA_yy, rotA_zz, rotA_xy, rotA_xz, rotA_yz, rotC_xx, rotC_yy, rotC_zz, rotC_xy, rotC_xz, rotC_yz] <;> rfl

theorem pay209 (q : Jac F) :
    k0_pay209 q.xx (rotC q).zz (rotC q).xy (rotC q).xz (broadcast S256x1 (Scalar.ofBits .f32 0x00000000#32 : F .f32)) (tn (rotC q).xx (rotC q).yy (rotC q).xy) (sqrt (addf (mulf (tn (rotC q).xx (rotC q).yy (rotC q).xy) (tn (rotC q).xx (rotC q).yy (rotC q).xy)) (broadcast S256x1 (Scalar.ofBits .f32 0x3F800000#32 : F .f32)))) (broadcast S256x1 (Scalar.ofBits .f32 0x3F800000#32 : F .f32)) =
      (rotB (rotA (rotC q))).xx := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay210 (q : Jac F) :
    k0_pay210 q.xx (rotC q).zz (rotC q).xy (rotC q).xz (broadcast S256x1 (Scalar.ofBits .f32 0x00000000#32 : F .f32)) (tn (rotC q).xx (rotC q).yy (rotC q).xy) (sqrt (addf (mulf (tn (rotC q).xx (rotC q).yy (rotC q).xy) (tn (rotC q).xx (rotC q).yy (rotC q).xy)) (broadcast S256x1 (Scalar.ofBits .f32 0x3F800000#32 : F .f32)))) (broadcast S256x1 (Scalar.ofBits .f32 0x3F800000#32 : F .f32)) =
      (rotB (rotA (rotC q))).zz := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay211 (q : Jac F) :
    k0_pay211 q.xx (rotC q).zz (rotC q).xy (rotC q).xz (broadcast S256x1 (Scalar.ofBits .f32 0x00000000#32 : F .f32)) (tn (rotC q).xx (rotC q).yy (rotC q).xy) (sqrt (addf (mulf (tn (rotC q).xx (rotC q).yy (rotC q).xy) (tn (rotC q).xx (rotC q).yy (rotC q).xy)) (broadcast S256x1 (Scalar.ofBits .f32 0x3F800000#32 : F .f32)))) (broadcast S256x1 (Scalar.ofBits .f32 0x3F800000#32 : F .f32)) =
      (mulf (cs (rotA (rotC q)).xx (rotA (rotC q)).zz (rotA (rotC q)).xz) (broadcast S256x1 (Scalar.ofBits .f32 0x00000000#32 : F .f32))) := by
  simp only [rotA_xx, rotA_yy, rotA_zz, rotA_xy, rotA_xz, rotA_yz, rotC_xx, rotC_yy, rotC_zz, rotC_xy, rotC_xz, rotC_yz] <;> rfl

theorem pay212 (q : Jac F) :
    k0_pay212 q.xx (rotC q).zz (rotC q).xy (rotC q).xz (broadcast S256x1 (Scalar.ofBits .f32 0x00000000#32 : F .f32)) (tn (rotC q).xx (rotC q).yy (rotC q).xy) (sqrt (addf (mulf (tn (rotC q).xx (rotC q).yy (rotC q).xy) (tn (rotC q).xx (rotC q).yy (rotC q).xy)) (broadcast S256x1 (Scalar.ofBits .f32 0x3F800000#32 : F .f32)))) (broadcast S256x1 (Scalar.ofBits .f32 0x3F800000#32 : F .f32)) =
      (mulf (sn (rotA (rotC q)).xx (rotA (rotC q)).zz (rotA (rotC q)).xz) (rotA (rotC q)).yz) := by
  simp only [rotA_xx, rotA_yy, rotA_zz, rotA_xy, rotA_xz, rotA_yz, rotC_xx, rotC_yy, rotC_zz, rotC_xy, rotC_xz, rotC_yz] <;> rfl

theorem pay219 (q : Jac F) :
    k0_pay219 (rotA q).yy (rotA q).yz (broadcast S256x1 (Scalar.ofBits .f32 0x00000000#32 : F .f32)) (cs (rotA q).xx (rotA q).zz (rotA q).xz) (sn (rotA q).xx (rotA q).zz (rotA q).xz) (rotB (rotA q)).zz =
      (rotC (rotB (rotA q))).yy := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay220 (q : Jac F) :
    k0_pay220 (rotA q).yy (rotA q).yz (broadcast S256x1 (Scalar.ofBits .f32 0x00000000#32 : F .f32)) (cs (rotA q).xx (rotA q).zz (rotA q).xz) (sn (rotA q).xx (rotA q).zz (rotA q).xz) (rotB (rotA q)).zz =
      (rotC (rotB (rotA q))).zz := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay221 (q : Jac F) :
    k0_pay221 (rotA q).yy (rotA q).yz (broadcast S256x1 (Scalar.ofBits .f32 0x00000000#32 : F .f32)) (cs (rotA q).xx (rotA q).zz (rotA q).xz) (sn (rotA q).xx (rotA q).zz (rotA q).xz) (rotB (rotA q)).zz (mulf (cs (rotA q).xx (rotA q).zz (rotA q).xz) (broadcast S256x1 (Scalar.ofBits .f32 0x00000000#32 : F .f32))) (mulf (sn (rotA q).xx (rotA q).zz (rotA q).xz) (rotA q).yz) =
      (rotC (rotB (rotA q))).xy := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay222 (q : Jac F) :
    k0_pay222 (rotA q).yy (rotA q).yz (broadcast S256x1 (Scalar.ofBits .f32 0x00000000#32 : F .f32)) (cs (rotA q).xx (rotA q).zz (rotA q).xz) (sn (rotA q).xx (rotA q).zz (rotA q).xz) (rotB (rotA q)).zz (mulf (cs (rotA q).xx (rotA q).zz (rotA q).xz) (broadcast S256x1 (Scalar.ofBits .f32 0x00000000#32 : F .f32))) (mulf (sn (rotA q).xx (rotA q).zz (rotA q).xz) (rotA q).yz) =
      (rotC (rotB (rotA q))).xz := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay224 (q : Jac F) :
    k0_pay224 (rotA q).yy (rotA q).yz (broadcast S256x1 (Scalar.ofBits .f32 0x00000000#32 : F .f32)) (cs (rotA q).xx (rotA q).zz (rotA q).xz) (sn (rotA q).xx (rotA q).zz (rotA q).xz) (rotB (rotA q)).zz (mulf (cs (rotA q).xx (rotA q).zz (rotA q).xz) (broadcast S256x1 (Scalar.ofBits .f32 0x00000000#32 : F .f32))) (mulf (sn (rotA q).xx (rotA q).zz (rotA q).xz) (rotA q).yz) =
      (absf (rotC (rotB (rotA q))).xy) := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay228 (q : Jac F) :
    k0_pay228 q.xx (rotC q).yy (rotC q).xy (absf (rotC q).xy) (Scalar.ofBits .f32 0x00000000#32 : F .f32) =
      (rotA (rotC q)).xx := by
  simp only [rotA_xx, rotA_yy, rotA_zz, rotA_xy, rotA_xz, rotA_yz, rotC_xx, rotC_yy, rotC_zz, rotC_xy, rotC_xz, rotC_yz] <;> rfl

theorem pay229 (q : Jac F) :
    k0_pay229 q.xx (rotC q).yy (rotC q).xy (absf (rotC q).xy) (Scalar.ofBits .f32 0x00000000#32 : F .f32) =
      (rotA (rotC q)).yy := by
  simp only [rotA_xx, rotA_yy, rotA_zz, rotA_xy, rotA_xz, rotA_yz, rotC_xx, rotC_yy, rotC_zz, rotC_xy, rotC_xz, rotC_yz] <;> rfl

theorem pay230 (q : Jac F) :
    k0_pay230 q.xx (rotC q).yy (rotC q).xy (rotC q).xz (broadcast S256x1 (Scalar.ofBits .f32 0x00000000#32 : F .f32)) (absf (rotC q).xy) (Scalar.ofBits .f32 0x00000000#32 : F .f32) =
      (rotA (rotC q)).xz := by
  simp only [rotA_xx, rotA_yy, rotA_zz, rotA_xy, rotA_xz, rotA_yz, rotC_xx, rotC_yy, rotC_zz, rotC_xy, rotC_xz, rotC_yz] <;> rfl

theorem pay231 (q : Jac F) :
    k0_pay231 q.xx (rotC q).yy (rotC q).xy (rotC q).xz (broadcast S256x1 (Scalar.ofBits .f32 0x00000000#32 : F .f32)) (absf (rotC q).xy) (Scalar.ofBits .f32 0x00000000#32 : F .f32) =
      (rotA (rotC q)).yz := by
  simp only [rotA_xx, rotA_yy, rotA_zz, rotA_xy, rotA_xz, rotA_yz, rotC_xx, rotC_yy, rotC_zz, rotC_xy, rotC_xz, rotC_yz] <;> rfl

theorem pay233 (q : Jac F) :
    k0_pay233 q.xx (rotC q).yy (rotC q).xy (rotC q).xz (broadcast S256x1 (Scalar.ofBits .f32 0x00000000#32 : F .f32)) (absf (rotC q).xy) (Scalar.ofBits .f32 0x00000000#32 : F .f32) =
      (cmpf .ogt (absf (rotA (rotC q)).xz) (broadcast S256x1 (Scalar.ofBits .f32 0x00000000#32 : F .f32))) := by
  simp only [rotA_xx, rotA_yy, rotA_zz, rotA_xy, rotA_xz, rotA_yz, rotC_xx, rotC_yy, rotC_zz, rotC_xy, rotC_xz, rotC_yz] <;> rfl

theorem pay234 (q : Jac F) :
    k0_pay234 q.xx (rotC q).yy (rotC q).zz (rotC q).xy (absf (rotC q).xy) (Scalar.ofBits .f32 0x00000000#32 : F .f32) =
      (subf (rotC q).zz (rotA (rotC q)).xx) := by
  simp only [rotA_xx, rotA_yy, rotA_zz, rotA_xy, rotA_xz, rotA_yz, rotC_xx, rotC_yy, rotC_zz, rotC_xy, rotC_xz, rotC_yz] <;> rfl

theorem pay235 (q : Jac F) :
    k0_pay235 q.xx (rotC q).yy (rotC q).xy (rotC q).xz (broadcast S256x1 (Scalar.ofBits .f32 0x00000000#32 : F .f32)) (absf (rotC q).xy) (Scalar.ofBits .f32 0x00000000#32 : F .f32) =
      (mulf (broadcast S256x1 (Scalar.ofBits .f32 0x40000000#32 : F .f32)) (rotA (rotC q)).xz) := by
  simp only [rotA_xx, rotA_yy, rotA_zz, rotA_xy, rotA_xz, rotA_yz, rotC_xx, rotC_yy, rotC_zz, rotC_xy, rotC_xz, rotC_yz] <;> rfl

theorem pay240 (q : Jac F) :
    k0_pay240 (rotA q).xx (rotA q).xz (cmpf .ogt (absf (rotA q).xz) (broadcast S256x1 (Scalar.ofBits .f32 0x00000000#32 : F .f32))) (subf q.zz (rotA q).xx) (mulf (broadcast S256x1 (Scalar.ofBits .f32 0x40000000#32 : F .f32)) (rotA q).xz) (broadcast S256x1 (Scalar.ofBits .f32 0x3F800000#32 : F .f32)) =
      (rotB (rotA q)).xx := by
  simp only [rotA_xx, rotA_yy, rotA_zz, rotA_xy, rotA_xz, rotA_yz, rotB_xx, rotB_yy, rotB_zz, rotB_xy, rotB_xz, rotB_yz] <;> rfl

theorem pay241 (q : Jac F) :
    k0_pay241 q.zz (rotA q).xz (cmpf .ogt (absf (rotA q).xz) (broadcast S256x1 (Scalar.ofBits .f32 0x00000000#32 : F .f32))) (subf q.zz (rotA q).xx) (mulf (broadcast S256x1 (Scalar.ofBits .f32 0x40000000#32 : F .f32)) (rotA q).xz) (broadcast S256x1 (Scalar.ofBits .f32 0x3F800000#32 : F .f32)) =
      (rotB (rotA q)).zz := by
  simp only [rotA_xx, rotA_yy, rotA_zz, rotA_xy, rotA_xz, rotA_yz, rotB_xx, rotB_yy, rotB_zz, rotB_xy, rotB_xz, rotB_yz] <;> rfl

theorem pay242 (q : Jac F) :
    k0_pay242 (rotA q).yz (broadcast S256x1 (Scalar.ofBits .f32 0x00000000#32 : F .f32)) (cmpf .ogt (absf (rotA q).xz) (broadcast S256x1 (Scalar.ofBits .f32 0x00000000#32 : F .f32))) (subf q.zz (rotA q).xx) (mulf (broadcast S256x1 (Scalar.ofBits .f32 0x40000000#32 : F .f32)) (rotA q).xz) (broadcast S256x1 (Scalar.ofBits .f32 0x3F800000#32 : F .f32)) =
      (rotB (rotA q)).xy := by
  simp only [rotA_xx, rotA_yy, rotA_zz, rotA_xy, rotA_xz, rotA_yz, rotB_xx, rotB_yy, rotB_zz, rotB_xy, rotB_xz, rotB_yz] <;> rfl

theorem pay243 (q : Jac F) :
    k0_pay243 (rotA q).yz (broadcast S256x1 (Scalar.ofBits .f32 0x00000000#32 : F .f32)) (cmpf .ogt (absf (rotA q).xz) (broadcast S256x1 (Scalar.ofBits .f32 0x00000000#32 : F .f32))) (subf q.zz (rotA q).xx) (mulf (broadcast S256x1 (Scalar.ofBits .f32 0x40000000#32 : F .f32)) (rotA q).xz) (broadcast S256x1 (Scalar.ofBits .f32 0x3F800000#32 : F .f32)) =
      (rotB (rotA q)).yz := by
  simp only [rotA_xx, rotA_yy, rotA_zz, rotA_xy, rotA_xz, rotA_yz, rotB_xx, rotB_yy, rotB_zz, rotB_xy, rotB_xz, rotB_yz] <;> rfl

theorem pay245 (q : Jac F) :
    k0_pay245 (rotA q).yz (broadcast S256x1 (Scalar.ofBits .f32 0x00000000#32 : F .f32)) (cmpf .ogt (absf (rotA q).xz) (broadcast S256x1 (Scalar.ofBits .f32 0x00000000#32 : F .f32))) (subf q.zz (rotA q).xx) (mulf (broadcast S256x1 (Scalar.ofBits .f32 0x40000000#32 : F .f32)) (rotA q).xz) (broadcast S256x1 (Scalar.ofBits .f32 0x3F800000#32 : F .f32)) =
      (cmpf .ogt (absf (rotB (rotA q)).yz) (broadcast S256x1 (Scalar.ofBits .f32 0x00000000#32 : F .f32))) := by
  simp only [rotA_xx, rotA_yy, rotA_zz, rotA_xy, rotA_xz, rotA_yz, rotB_xx, rotB_yy, rotB_zz, rotB_xy, rotB_xz, rotB_yz] <;> rfl

theorem pay246 (q : Jac F) :
    k0_pay246 q.zz (rotA q).yy (rotA q).xz (rotA q).yz (broadcast S256x1 (Scalar.ofBits .f32 0x00000000#32 : F .f32)) (cmpf .ogt (absf (rotA q).xz) (broadcast S256x1 (Scalar.ofBits .f32 0x00000000#32 : F .f32))) (subf q.zz (rotA q).xx) (mulf (broadcast S256x1 (Scalar.ofBits .f32 0x40000000#32 : F .f32)) (rotA q).xz) (broadcast S256x1 (Scalar.ofBits .f32 0x3F800000#32 : F .f32)) =
      (divf (subf (rotB (rotA q)).zz (rotA q).yy) (select (cmpf .ogt (absf (rotB (rotA q)).yz) (broadcast S256x1 (Scalar.ofBits .f32 0x00000000#32 : F .f32))) (mulf (broadcast S256x1 (Scalar.ofBits .f32 0x40000000#32 : F .f32)) (rotB (rotA q)).yz) (broadcast S256x1 (Scalar.ofBits .f32 0x3F800000#32 : F .f32)))) := by
  simp only [rotA_xx, rotA_yy, rotA_zz, rotA_xy, rotA_xz, rotA_yz, rotB_xx, rotB_yy, rotB_zz, rotB_xy, rotB_xz, rotB_yz] <;> rfl

theorem pay247 (q : Jac F) :
    k0_pay247 q.zz (rotA q).yy (rotA q).xz (rotA q).yz (broadcast S256x1 (Scalar.ofBits .f32 0x00000000#32 : F .f32)) (cmpf .ogt (absf (rotA q).xz) (broadcast S256x1 (Scalar.ofBits .f32 0x00000000#32 : F .f32))) (subf q.zz (rotA q).xx) (mulf (broadcast S256x1 (Scalar.ofBits .f32 0x40000000#32 : F .f32)) (rotA q).xz) (broadcast S256x1 (Scalar.ofBits .f32 0x3F800000#32 : F .f32)) =
      (cmpf .oge (divf (subf (rotB (rotA q)).zz (rotA q).yy) (select (cmpf .ogt (absf (rotB (rotA q)).yz) (broadcast S256x1 (Scalar.ofBits .f32 0x00000000#32 : F .f32))) (mulf (broadcast S256x1 (Scalar.ofBits .f32 0x40000000#32 : F .f32)) (rotB (rotA q)).yz) (broadcast S256x1 (Scalar.ofBits .f32 0x3F800000#32 : F .f32)))) (broadcast S256x1 (Scalar.ofBits .f32 0x00000000#32 : F .f32))) := by
  simp only [rotA_xx, rotA_yy, rotA_zz, rotA_xy, rotA_xz, rotA_yz, rotB_xx, rotB_yy, rotB_zz, rotB_xy, rotB_xz, rotB_yz] <;> rfl

theorem pay252 (q : Jac F) :
    k0_pay252 q.yy (rotB q).yz (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (rotC (rotB q)).yy := by
  simp only [rotB_xx, rotB_yy, rotB_zz, rotB_xy, rotB_xz, rotB_yz, rotC_xx, rotC_yy, rotC_zz, rotC_xy, rotC_xz, rotC_yz] <;> rfl

theorem pay253 (q : Jac F) :
    k0_pay253 (rotB q).zz (rotB q).yz (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (rotC (rotB q)).zz := by
  simp only [rotB_xx, rotB_yy, rotB_zz, rotB_xy, rotB_xz, rotB_yz, rotC_xx, rotC_yy, rotC_zz, rotC_xy, rotC_xz, rotC_yz] <;> rfl

theorem pay254 (q : Jac F) :
    k0_pay254 (rotB q).xy (broadcast S256x1 (Scalar.ofBits .f32 0x00000000#32 : F .f32)) (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (rotC (rotB q)).xy := by
  simp only [rotB_xx, rotB_yy, rotB_zz, rotB_xy, rotB_xz, rotB_yz, rotC_xx, rotC_yy, rotC_zz, rotC_xy, rotC_xz, rotC_yz] <;> rfl

theorem pay255 (q : Jac F) :
    k0_pay255 (rotB q).xy (broadcast S256x1 (Scalar.ofBits .f32 0x00000000#32 : F .f32)) (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (rotC (rotB q)).xz := by
  simp only [rotB_xx, rotB_yy, rotB_zz, rotB_xy, rotB_xz, rotB_yz, rotC_xx, rotC_yy, rotC_zz, rotC_xy, rotC_xz, rotC_yz] <;> rfl

theorem pay257 (q : Jac F) :
    k0_pay257 (rotB q).xy (broadcast S256x1 (Scalar.ofBits .f32 0x00000000#32 : F .f32)) (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (cmpf .ogt (absf (rotC (rotB q)).xy) (broadcast S256x1 (Scalar.ofBits .f32 0x00000000#32 : F .f32))) := by
  simp only [rotB_xx, rotB_yy, rotB_zz, rotB_xy, rotB_xz, rotB_yz, rotC_xx, rotC_yy, rotC_zz, rotC_xy, rotC_xz, rotC_yz] <;> rfl

theorem pay259 (q : Jac F) :
    k0_pay259 q.yy (rotB q).xx (rotB q).xy (rotB q).yz (broadcast S256x1 (Scalar.ofBits .f32 0x00000000#32 : F .f32)) (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (select (cmpf .oge (divf (subf (rotC (rotB q)).yy (rotB q).xx) (select (cmpf .ogt (absf (rotC (rotB q)).xy) (broadcast S256x1 (Scalar.ofBits .f32 0x00000000#32 : F .f32))) (mulf (broadcast S256x1 (Scalar.ofBits .f32 0x40000000#32 : F .f32)) (rotC (rotB q)).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) := by
  simp only [rotB_xx, rotB_yy, rotB_zz, rotB_xy, rotB_xz, rotB_yz, rotC_xx, rotC_yy, rotC_zz, rotC_xy, rotC_xz, rotC_yz] <;> rfl

theorem pay260 (q : Jac F) :
    k0_pay260 q.yy (rotB q).xx (rotB q).xy (rotB q).yz (broadcast S256x1 (Scalar.ofBits .f32 0x00000000#32 : F .f32)) (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (absf (divf (subf (rotC (rotB q)).yy (rotB q).xx) (select (cmpf .ogt (absf (rotC (rotB q)).xy) (broadcast S256x1 (Scalar.ofBits .f32 0x00000000#32 : F .f32))) (mulf (broadcast S256x1 (Scalar.ofBits .f32 0x40000000#32 : F .f32)) (rotC (rotB q)).xy) (broadcast S256x1 (Scalar.ofBits .f32 0x3F800000#32 : F .f32))))) := by
  simp only [rotB_xx, rotB_yy, rotB_zz, rotB_xy, rotB_xz, rotB_yz, rotC_xx, rotC_yy, rotC_zz, rotC_xy, rotC_xz, rotC_yz] <;> rfl

theorem pay261 (q : Jac F) :
    k0_pay261 q.yy (rotB q).xx (rotB q).xy (rotB q).yz (broadcast S256x1 (Scalar.ofBits .f32 0x00000000#32 : F .f32)) (cmpf .ogt (absf (rotB q).yz) (broadcast S256x1 (Scalar.ofBits .f32 0x00000000#32 : F .f32))) (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (cmpf .oge (divf (subf (rotB q).zz q.yy) (select (cmpf .ogt (absf (rotB q).yz) (broadcast S256x1 (Scalar.ofBits .f32 0x00000000#32 : F .f32))) (mulf (broadcast S256x1 (Scalar.ofBits .f32 0x40000000#32 : F .f32)) (rotB q).yz) (broadcast S256x1 (Scalar.ofBits .f32 0x3F800000#32 : F .f32)))) (broadcast S256x1 (Scalar.ofBits .f32 0x00000000#32 : F .f32))) (Scalar.ofBits .f32 0xBF800000#32 : F .f32) (broadcast S256x1 (Scalar.ofBits .f32 0x3F800000#32 : F .f32)) =
      (sqrt (addf (mulf (divf (subf (rotC (rotB q)).yy (rotB q).xx) (select (cmpf .ogt (absf (rotC (rotB q)).xy) (broadcast S256x1 (Scalar.ofBits .f32 0x00000000#32 : F .f32))) (mulf (broadcast S256x1 (Scalar.ofBits .f32 0x40000000#32 : F .f32)) (rotC (rotB q)).xy) (broadcast S256x1 (Scalar.ofBits .f32 0x3F800000#32 : F .f32)))) (divf (subf (rotC (rotB q)).yy (rotB q).xx) (select (cmpf .ogt (absf (rotC (rotB q)).xy) (broadcast S256x1 (Scalar.ofBits .f32 0x00000000#32 : F .f32))) (mulf (broadcast S256x1 (Scalar.ofBits .f32 0x40000000#32 : F .f32)) (rotC (rotB q)).xy) (broadcast S256x1 (Scalar.ofBits .f32 0x3F800000#32 : F .f32))))) (broadcast S256x1 (Scalar.ofBits .f32 0x3F800000#32 : F .f32)))) := by
  simp only [rotB_xx, rotB_yy, rotB_zz, rotB_xy, rotB_xz, rotB_yz, rotC_xx, rotC_yy, rotC_zz, rotC_xy, rotC_xz, rotC_yz] <;> rfl

theorem pay265 (q : Jac F) :
    k0_pay265 q.xx (rotC q).xy (cmpf .ogt (absf (rotC q).xy) (broadcast S256x1 (Scalar.ofBits .f32 0x00000000#32 : F .f32))) (select (cmpf .oge (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (sqrt (addf (mulf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (broadcast S256x1 (Scalar.ofBits .f32 0x3F800000#32 : F .f32)))) =
      (rotA (rotC q)).xx := by
  simp only [rotA_xx, rotA_yy, rotA_zz, rotA_xy, rotA_xz, rotA_yz, rotC_xx, rotC_yy, rotC_zz, rotC_xy, rotC_xz, rotC_yz] <;> rfl

theorem pay266 (q : Jac F) :
    k0_pay266 (rotC q).yy (rotC q).xy (cmpf .ogt (absf (rotC q).xy) (broadcast S256x1 (Scalar.ofBits .f32 0x00000000#32 : F .f32))) (select (cmpf .oge (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (sqrt (addf (mulf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (broadcast S256x1 (Scalar.ofBits .f32 0x3F800000#32 : F .f32)))) =
      (rotA (rotC q)).yy := by
  simp only [rotA_xx, rotA_yy, rotA_zz, rotA_xy, rotA_xz, rotA_yz, rotC_xx, rotC_yy, rotC_zz, rotC_xy, rotC_xz, rotC_yz] <;> rfl

theorem pay267 (q : Jac F) :
    k0_pay267 (rotC q).xz (broadcast S256x1 (Scalar.ofBits .f32 0x00000000#32 : F .f32)) (cmpf .ogt (absf (rotC q).xy) (broadcast S256x1 (Scalar.ofBits .f32 0x00000000#32 : F .f32))) (select (cmpf .oge (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (sqrt (addf (mulf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (broadcast S256x1 (Scalar.ofBits .f32 0x3F800000#32 : F .f32)))) =
      (rotA (rotC q)).xz := by
  simp only [rotA_xx, rotA_yy, rotA_zz, rotA_xy, rotA_xz, rotA_yz, rotC_xx, rotC_yy, rotC_zz, rotC_xy, rotC_xz, rotC_yz] <;> rfl

theorem pay268 (q : Jac F) :
    k0_pay268 (rotC q).xz (broadcast S256x1 (Scalar.ofBits .f32 0x00000000#32 : F .f32)) (cmpf .ogt (absf (rotC q).xy) (broadcast S256x1 (Scalar.ofBits .f32 0x00000000#32 : F .f32))) (select (cmpf .oge (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (sqrt (addf (mulf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (broadcast S256x1 (Scalar.ofBits .f32 0x3F800000#32 : F .f32)))) =
      (rotA (rotC q)).yz := by
  simp only [rotA_xx, rotA_yy, rotA_zz, rotA_xy, rotA_xz, rotA_yz, rotC_xx, rotC_yy, rotC_zz, rotC_xy, rotC_xz, rotC_yz] <;> rfl

theorem pay270 (q : Jac F) :
    k0_pay270 q.xx (rotC q).zz (rotC q).xy (rotC q).xz (broadcast S256x1 (Scalar.ofBits .f32 0x00000000#32 : F .f32)) (cmpf .ogt (absf (rotC q).xy) (broadcast S256x1 (Scalar.ofBits .f32 0x00000000#32 : F .f32))) (select (cmpf .oge (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (sqrt (addf (mulf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (broadcast S256x1 (Scalar.ofBits .f32 0x3F800000#32 : F .f32)))) =
      (tn (rotA (rotC q)).xx (rotA (rotC q)).zz (rotA (rotC q)).xz) := by
  simp only [rotA_xx, rotA_yy, rotA_zz, rotA_xy, rotA_xz, rotA_yz, rotC_xx, rotC_yy, rotC_zz, rotC_xy, rotC_xz, rotC_yz] <;> rfl

theorem pay271 (q : Jac F) :
    k0_pay271 q.xx (rotC q).zz (rotC q).xy (rotC q).xz (broadcast S256x1 (Scalar.ofBits .f32 0x00000000#32 : F .f32)) (cmpf .ogt (absf (rotC q).xy) (broadcast S256x1 (Scalar.ofBits .f32 0x00000000#32 : F .f32))) (select (cmpf .oge (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (absf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (sqrt (addf (mulf (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32)))) (divf (subf (rotC q).yy q.xx) (select (cmpf .ogt (absf (rotC q).xy) (broadcast S256x1 (Scalar.ofBits .f32 0x00000000#32 : F .f32))) (mulf (broadcast S256x1 (Scalar.ofBits .f32 0x40000000#32 : F .f32)) (rotC q).xy) (broadcast S256x1 (Scalar.ofBits .f32 0x3F800000#32 : F .f32))))) (broadcast S256x1 (Scalar.ofBits .f32 0x3F800000#32 : F .f32)))) =
      (mulf (tn (rotA (rotC q)).xx (rotA (rotC q)).zz (rotA (rotC q)).xz) (tn (rotA (rotC q)).xx (rotA (rotC q)).zz (rotA (rotC q)).xz)) := by
  simp only [rotA_xx, rotA_yy, rotA_zz, rotA_xy, rotA_xz, rotA_yz, rotC_xx, rotC_yy, rotC_zz, rotC_xy, rotC_xz, rotC_yz] <;> rfl

theorem pay278 (q : Jac F) :
    k0_pay278 q.zz (rotA q).yy (rotA q).xz (rotA q).yz (broadcast S256x1 (Scalar.ofBits .f32 0x00000000#32 : F .f32)) (tn (rotA q).xx (rotA q).zz (rotA q).xz) (mulf (tn (rotA q).xx (rotA q).zz (rotA q).xz) (tn (rotA q).xx (rotA q).zz (rotA q).xz)) (broadcast S256x1 (Scalar.ofBits .f32 0x3F800000#32 : F .f32)) =
      (absf (rotC (rotB (rotA q))).zz) := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay280 (q : Jac F) :
    k0_pay280 q.zz (rotA q).xx (rotA q).yy (rotA q).xz (rotA q).yz (broadcast S256x1 (Scalar.ofBits .f32 0x00000000#32 : F .f32)) (tn (rotA q).xx (rotA q).zz (rotA q).xz) (mulf (tn (rotA q).xx (rotA q).zz (rotA q).xz) (tn (rotA q).xx (rotA q).zz (rotA q).xz)) (broadcast S256x1 (Scalar.ofBits .f32 0x3F800000#32 : F .f32)) =
      (minimumf (absf (rotB (rotA q)).xx) (absf (rotC (rotB (rotA q))).yy)) := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay281 (q : Jac F) :
    k0_pay281 q.zz (rotA q).xx (rotA q).yy (rotA q).xz (rotA q).yz (broadcast S256x1 (Scalar.ofBits .f32 0x00000000#32 : F .f32)) (tn (rotA q).xx (rotA q).zz (rotA q).xz) (mulf (tn (rotA q).xx (rotA q).zz (rotA q).xz) (tn (rotA q).xx (rotA q).zz (rotA q).xz)) (broadcast S256x1 (Scalar.ofBits .f32 0x3F800000#32 : F .f32)) =
      (addf (maximumf (maximumf (absf (rotB (rotA q)).xx) (absf (rotC (rotB (rotA q))).yy)) (absf (rotC (rotB (rotA q))).zz)) (broadcast S256x1 (Scalar.ofBits .f32 0x322BCC77#32 : F .f32))) := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

theorem pay282 (q : Jac F) :
    k0_pay282 q.zz (rotA q).xx (rotA q).yy (rotA q).xz (rotA q).yz (broadcast S256x1 (Scalar.ofBits .f32 0x00000000#32 : F .f32)) (tn (rotA q).xx (rotA q).zz (rotA q).xz) (mulf (tn (rotA q).xx (rotA q).zz (rotA q).xz) (tn (rotA q).xx (rotA q).zz (rotA q).xz)) (broadcast S256x1 (Scalar.ofBits .f32 0x3F800000#32 : F .f32)) =
      (maximumf (minimumf (absf (rotB (rotA q)).xx) (absf (rotC (rotB (rotA q))).yy)) (minimumf (maximumf (absf (rotB (rotA q)).xx) (absf (rotC (rotB (rotA q))).yy)) (absf (rotC (rotB (rotA q))).zz))) := by
  simp only [rotA_xx, rotA_yy, rotA_zz, rotA_xy, rotA_xz, rotA_yz, rotB_xx, rotB_yy, rotB_zz, rotB_xy, rotB_xz, rotB_yz, rotC_xx, rotC_yy, rotC_zz, rotC_xy, rotC_xz, rotC_yz] <;> rfl

end Cert.KernelIdeal.Score

end
-- ==== Proof.Blocks.lean ====
/-
  The two calls' outputs block by block, at any contents `V` a call finds: what a grid point writes back is what its run leaves,
  and its block of the final array is what it wrote, as no two points' blocks meet. And the whole run, with the two results named.
-/
module

public import proofs.«01_k».proof.Proof.Gen.KernelIdeal.Frame
public import Idealize.ShloMosaic.Lib.Pipeline.Value
public import Idealize.ShloMosaic.Lib.Tactic

@[expose] public section

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]

section
variable (V : (c : Dev nD) → (b : Ref sig .tc) → Buf (Elt F) ((c : Thread nD τ).loc b))

/-! ## Call 0, window 3 -/

theorem flushed0_3 (c : Dev nD) (t : Fin cfg0.N) :
    (dat0 V c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t)) := by
  show (cfg0.win 3).cut (grid0.coords t) ((dat0 V c).after 3 t) = _
  rw [after0_3]
  simp only [outsAt0]

theorem inj0_3 : ∀ t t' : Fin cfg0.N, win0_3.index t = win0_3.index t' → t = t' :=
  (by decide +kernel : ∀ t t' : Fin grid0.N, win0_3.index t = win0_3.index t' → t = t')

theorem apart0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (inj0_3 t t' h)

theorem blocks0_3 (c : Dev nD) (t : Fin cfg0.N) :
    ((cfg0.win 3).blk t).view.read (Elt F) ((dat0 V c).arrAt 3 cfg0.N) = (dat0 V c).flushed 3 t :=
  (dat0 V c).read_blk_arrAt_eq_flushed 3 apart0_3 cfg0.N t t.isLt (flush0_3 t)

/-! ## Call 0, window 4 -/

theorem flushed0_4 (c : Dev nD) (t : Fin cfg0.N) :
    (dat0 V c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t)) := by
  show (cfg0.win 4).cut (grid0.coords t) ((dat0 V c).after 4 t) = _
  rw [after0_4]
  simp only [outsAt0]

theorem inj0_4 : ∀ t t' : Fin cfg0.N, win0_4.index t = win0_4.index t' → t = t' :=
  (by decide +kernel : ∀ t t' : Fin grid0.N, win0_4.index t = win0_4.index t' → t = t')

theorem apart0_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (inj0_4 t t' h)

theorem blocks0_4 (c : Dev nD) (t : Fin cfg0.N) :
    ((cfg0.win 4).blk t).view.read (Elt F) ((dat0 V c).arrAt 4 cfg0.N) = (dat0 V c).flushed 4 t :=
  (dat0 V c).read_blk_arrAt_eq_flushed 4 apart0_4 cfg0.N t t.isLt (flush0_4 t)

/-! ## Call 1, window 2 -/

theorem flushed1_2 (c : Dev nD) (t : Fin cfg1.N) :
    (dat1 V c).flushed 2 t = (cfg1.win 2).cut (grid1.coords t) (out1_A_2 c (grid1.coords t) (ms1_0 t) (hs1_0 t) (ms1_1 t) (hs1_1 t) (ms1_2 t) (hs1_2 t) (ms1_3 t) (hs1_3 t) (iblk1 V c 0 t) (iblk1 V c 1 t)) := by
  show (cfg1.win 2).cut (grid1.coords t) ((dat1 V c).after 2 t) = _
  rw [after1_2]
  simp only [outsAt1]

theorem inj1_2 : ∀ t t' : Fin cfg1.N, win1_2.index t = win1_2.index t' → t = t' :=
  (by decide +kernel : ∀ t t' : Fin grid1.N, win1_2.index t = win1_2.index t' → t = t')

theorem apart1_2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne (inj1_2 t t' h)

theorem blocks1_2 (c : Dev nD) (t : Fin cfg1.N) :
    ((cfg1.win 2).blk t).view.read (Elt F) ((dat1 V c).arrAt 2 cfg1.N) = (dat1 V c).flushed 2 t :=
  (dat1 V c).read_blk_arrAt_eq_flushed 2 apart1_2 cfg1.N t t.isLt (flush1_2 t)

/-! ## Call 1, window 3 -/

theorem flushed1_3 (c : Dev nD) (t : Fin cfg1.N) :
    (dat1 V c).flushed 3 t = (cfg1.win 3).cut (grid1.coords t) (out1_A_3 c (grid1.coords t) (ms1_0 t) (hs1_0 t) (ms1_1 t) (hs1_1 t) (ms1_2 t) (hs1_2 t) (ms1_3 t) (hs1_3 t) (iblk1 V c 0 t) (iblk1 V c 1 t)) := by
  show (cfg1.win 3).cut (grid1.coords t) ((dat1 V c).after 3 t) = _
  rw [after1_3]
  simp only [outsAt1]

theorem inj1_3 : ∀ t t' : Fin cfg1.N, win1_3.index t = win1_3.index t' → t = t' :=
  (by decide +kernel : ∀ t t' : Fin grid1.N, win1_3.index t = win1_3.index t' → t = t')

theorem apart1_3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (inj1_3 t t' h)

theorem blocks1_3 (c : Dev nD) (t : Fin cfg1.N) :
    ((cfg1.win 3).blk t).view.read (Elt F) ((dat1 V c).arrAt 3 cfg1.N) = (dat1 V c).flushed 3 t :=
  (dat1 V c).read_blk_arrAt_eq_flushed 3 apart1_3 cfg1.N t t.isLt (flush1_3 t)

end

/-! ## The run -/

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The frame's run, with the contents of the two results after it. -/
theorem run : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v48 (by decide))), (h c _ (mem_uc main_v47 (by decide))),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Blocks

end
-- ==== Proof.ScoreRun.lean ====
/-
  The scoring kernel's run, read: the named values of its run are the parts of `sel x0 x1 n`, the distances and gathered
  coordinates after `n` selections, and of `jac x0 x1 n`, the covariance after `n` rotations.
-/
module

public import proofs.«01_k».proof.Proof.ScoreChain
public import proofs.«01_k».proof.Proof.Blocks
public import Idealize.ShloMosaic.Lib.Tactic

@[expose] public section

set_option maxRecDepth 4096

noncomputable section

namespace Cert.KernelIdeal.Score

open Idealize.ShloMosaic Idealize.ShloMosaic.TcCoe Cert.KernelIdeal Cert.KernelIdeal.Gen

variable {F : FTy → Type} [FloatOps F]

/-- The selection after `n` steps. -/
def sel (x0 : Vec F S1x256x3 .f32) (x1 : Vec F S1x3x4096 .f32) : Nat → Sel F
  | 0 => start (k0_pay7 x0 x1)
  | n + 1 => step n (k0_pay4 x1) (k0_pay5 x1) (k0_pay6 x1) (sel x0 x1 n)

/-- The rotation of number `n`. -/
def rot (n : Nat) (q : Jac F) : Jac F := if n % 3 = 0 then rotA q else if n % 3 = 1 then rotB q else rotC q

/-- The covariance after `n` rotations. -/
def jac (x0 : Vec F S1x256x3 .f32) (x1 : Vec F S1x3x4096 .f32) : Nat → Jac F
  | 0 => jac0 (sel x0 x1 16).x (sel x0 x1 16).y (sel x0 x1 16).z
  | n + 1 => rot n (jac x0 x1 n)

theorem hz3 : (![0, 0, 0] : Fin 3 → Nat) = fun _ => 0 := funext fun a => by fin_cases a <;> rfl

section
variable (x0 : Vec F S1x256x3 .f32) (x1 : Vec F S1x3x4096 .f32)
theorem sel_zero : start (k0_pay7 x0 x1) = sel x0 x1 0 := rfl
theorem jac_zero : jac0 (sel x0 x1 16).x (sel x0 x1 16).y (sel x0 x1 16).z = jac x0 x1 0 := rfl
theorem sel_1 : step 0 (k0_pay4 x1) (k0_pay5 x1) (k0_pay6 x1) (sel x0 x1 0) = sel x0 x1 1 := rfl
theorem sel_2 : step 1 (k0_pay4 x1) (k0_pay5 x1) (k0_pay6 x1) (sel x0 x1 1) = sel x0 x1 2 := rfl
theorem sel_3 : step 2 (k0_pay4 x1) (k0_pay5 x1) (k0_pay6 x1) (sel x0 x1 2) = sel x0 x1 3 := rfl
theorem sel_4 : step 3 (k0_pay4 x1) (k0_pay5 x1) (k0_pay6 x1) (sel x0 x1 3) = sel x0 x1 4 := rfl
theorem sel_5 : step 4 (k0_pay4 x1) (k0_pay5 x1) (k0_pay6 x1) (sel x0 x1 4) = sel x0 x1 5 := rfl
theorem sel_6 : step 5 (k0_pay4 x1) (k0_pay5 x1) (k0_pay6 x1) (sel x0 x1 5) = sel x0 x1 6 := rfl
theorem sel_7 : step 6 (k0_pay4 x1) (k0_pay5 x1) (k0_pay6 x1) (sel x0 x1 6) = sel x0 x1 7 := rfl
theorem sel_8 : step 7 (k0_pay4 x1) (k0_pay5 x1) (k0_pay6 x1) (sel x0 x1 7) = sel x0 x1 8 := rfl
theorem sel_9 : step 8 (k0_pay4 x1) (k0_pay5 x1) (k0_pay6 x1) (sel x0 x1 8) = sel x0 x1 9 := rfl
theorem sel_10 : step 9 (k0_pay4 x1) (k0_pay5 x1) (k0_pay6 x1) (sel x0 x1 9) = sel x0 x1 10 := rfl
theorem sel_11 : step 10 (k0_pay4 x1) (k0_pay5 x1) (k0_pay6 x1) (sel x0 x1 10) = sel x0 x1 11 := rfl
theorem sel_12 : step 11 (k0_pay4 x1) (k0_pay5 x1) (k0_pay6 x1) (sel x0 x1 11) = sel x0 x1 12 := rfl
theorem sel_13 : step 12 (k0_pay4 x1) (k0_pay5 x1) (k0_pay6 x1) (sel x0 x1 12) = sel x0 x1 13 := rfl
theorem sel_14 : step 13 (k0_pay4 x1) (k0_pay5 x1) (k0_pay6 x1) (sel x0 x1 13) = sel x0 x1 14 := rfl
theorem sel_15 : step 14 (k0_pay4 x1) (k0_pay5 x1) (k0_pay6 x1) (sel x0 x1 14) = sel x0 x1 15 := rfl
theorem sel_16 : step 15 (k0_pay4 x1) (k0_pay5 x1) (k0_pay6 x1) (sel x0 x1 15) = sel x0 x1 16 := rfl
theorem jac_1 : rotA (jac x0 x1 0) = jac x0 x1 1 := rfl
theorem jac_2 : rotB (jac x0 x1 1) = jac x0 x1 2 := rfl
theorem jac_3 : rotC (jac x0 x1 2) = jac x0 x1 3 := rfl
theorem jac_4 : rotA (jac x0 x1 3) = jac x0 x1 4 := rfl
theorem jac_5 : rotB (jac x0 x1 4) = jac x0 x1 5 := rfl
theorem jac_6 : rotC (jac x0 x1 5) = jac x0 x1 6 := rfl
theorem jac_7 : rotA (jac x0 x1 6) = jac x0 x1 7 := rfl
theorem jac_8 : rotB (jac x0 x1 7) = jac x0 x1 8 := rfl
theorem jac_9 : rotC (jac x0 x1 8) = jac x0 x1 9 := rfl
theorem jac_10 : rotA (jac x0 x1 9) = jac x0 x1 10 := rfl
theorem jac_11 : rotB (jac x0 x1 10) = jac x0 x1 11 := rfl
theorem jac_12 : rotC (jac x0 x1 11) = jac x0 x1 12 := rfl
theorem jac_13 : rotA (jac x0 x1 12) = jac x0 x1 13 := rfl
theorem jac_14 : rotB (jac x0 x1 13) = jac x0 x1 14 := rfl
theorem jac_15 : rotC (jac x0 x1 14) = jac x0 x1 15 := rfl
theorem keep_1 : (jac x0 x1 1).zz = (jac x0 x1 0).zz := by rw [← jac_1, rotA_zz]
theorem keep_2 : (jac x0 x1 2).yy = (jac x0 x1 1).yy := by rw [← jac_2, rotB_yy]
theorem keep_3 : (jac x0 x1 3).xx = (jac x0 x1 2).xx := by rw [← jac_3, rotC_xx]
theorem keep_4 : (jac x0 x1 4).zz = (jac x0 x1 3).zz := by rw [← jac_4, rotA_zz]
theorem keep_5 : (jac x0 x1 5).yy = (jac x0 x1 4).yy := by rw [← jac_5, rotB_yy]
theorem keep_6 : (jac x0 x1 6).xx = (jac x0 x1 5).xx := by rw [← jac_6, rotC_xx]
theorem keep_7 : (jac x0 x1 7).zz = (jac x0 x1 6).zz := by rw [← jac_7, rotA_zz]
theorem keep_8 : (jac x0 x1 8).yy = (jac x0 x1 7).yy := by rw [← jac_8, rotB_yy]
theorem keep_9 : (jac x0 x1 9).xx = (jac x0 x1 8).xx := by rw [← jac_9, rotC_xx]
theorem keep_10 : (jac x0 x1 10).zz = (jac x0 x1 9).zz := by rw [← jac_10, rotA_zz]
theorem keep_11 : (jac x0 x1 11).yy = (jac x0 x1 10).yy := by rw [← jac_11, rotB_yy]
theorem keep_12 : (jac x0 x1 12).xx = (jac x0 x1 11).xx := by rw [← jac_12, rotC_xx]
theorem keep_13 : (jac x0 x1 13).zz = (jac x0 x1 12).zz := by rw [← jac_13, rotA_zz]
theorem keep_14 : (jac x0 x1 14).yy = (jac x0 x1 13).yy := by rw [← jac_14, rotB_yy]
theorem keep_15 : (jac x0 x1 15).xx = (jac x0 x1 14).xx := by rw [← jac_15, rotC_xx]
end

section
variable (c : Dev nD) (arg2 : Memref sig .tc .vmem S1x256x3 .f32) (harg2 : arg2.IsWhole) (arg3 : Memref sig .tc .vmem S1x3x4096 .f32) (harg3 : arg3.IsWhole) (x0 : Vec F S1x256x3 .f32) (x1 : Vec F S1x3x4096 .f32)

theorem r_0 (c : Dev nD) (arg3 : Memref sig .tc .vmem S1x3x4096 .f32) (harg3 : arg3.IsWhole) (x1 : Vec F S1x3x4096 .f32) :
    kernelRun0_A.sl.r (F := F) c arg3 harg3 x1 = k0_pay4 x1 := by
  unfold kernelRun0_A.sl.r
  simp only [View.readAt_eq_ld, harg3.read_unread, View.ld_unit_zero (S := S1x3x4096) hz3]

theorem r_1 (c : Dev nD) (arg3 : Memref sig .tc .vmem S1x3x4096 .f32) (harg3 : arg3.IsWhole) (x1 : Vec F S1x3x4096 .f32) :
    kernelRun0_A.sl.r_1 (F := F) c arg3 harg3 x1 = k0_pay5 x1 := by
  unfold kernelRun0_A.sl.r_1
  simp only [View.readAt_eq_ld, harg3.read_unread, View.ld_unit_zero (S := S1x3x4096) hz3]

theorem r_2 (c : Dev nD) (arg3 : Memref sig .tc .vmem S1x3x4096 .f32) (harg3 : arg3.IsWhole) (x1 : Vec F S1x3x4096 .f32) :
    kernelRun0_A.sl.r_2 (F := F) c arg3 harg3 x1 = k0_pay6 x1 := by
  unfold kernelRun0_A.sl.r_2
  simp only [View.readAt_eq_ld, harg3.read_unread, View.ld_unit_zero (S := S1x3x4096) hz3]

theorem r_3 :
    kernelRun0_A.sl.r_3 c arg2 harg2 arg3 harg3 x0 x1 = k0_pay7 x0 x1 := by
  unfold kernelRun0_A.sl.r_3
  simp only [View.readAt_eq_ld, harg3.read_unread, harg2.read_unread, View.ld_unit_zero (S := S1x3x4096) hz3, View.ld_unit_zero (S := S1x256x3) hz3]

theorem r_4 :
    kernelRun0_A.sl.r_4 c arg2 harg2 arg3 harg3 x0 x1 = (sel x0 x1 0).mat := by
  unfold kernelRun0_A.sl.r_4
  simp only [r_3, k0_pay8]
  have h := pay9 (k0_pay7 x0 x1)
  simp only [sel_zero] at h
  exact h

theorem r_5 :
    kernelRun0_A.sl.r_5 c arg2 harg2 arg3 harg3 x0 x1 = (firstMin (sel x0 x1 0).mat) := by
  unfold kernelRun0_A.sl.r_5
  simp only [r_3, k0_pay8]
  have h := pay10 (k0_pay7 x0 x1)
  simp only [sel_zero] at h
  exact h

theorem r_6 :
    kernelRun0_A.sl.r_6 c arg2 harg2 arg3 harg3 x0 x1 = (sel x0 x1 1).x := by
  unfold kernelRun0_A.sl.r_6
  simp only [r_0, r_3, k0_pay8]
  have h := pay12 (k0_pay4 x1) (k0_pay5 x1) (k0_pay6 x1) (k0_pay7 x0 x1)
  simp only [sel_zero, sel_1] at h
  exact h

theorem r_7 :
    kernelRun0_A.sl.r_7 c arg2 harg2 arg3 harg3 x0 x1 = (sel x0 x1 1).y := by
  unfold kernelRun0_A.sl.r_7
  simp only [r_1, r_3, k0_pay8]
  have h := pay13 (k0_pay4 x1) (k0_pay5 x1) (k0_pay6 x1) (k0_pay7 x0 x1)
  simp only [sel_zero, sel_1] at h
  exact h

theorem r_8 :
    kernelRun0_A.sl.r_8 c arg2 harg2 arg3 harg3 x0 x1 = (sel x0 x1 1).z := by
  unfold kernelRun0_A.sl.r_8
  simp only [r_2, r_3, k0_pay8, r_1]
  have h := pay14 (k0_pay4 x1) (k0_pay5 x1) (k0_pay6 x1) (k0_pay7 x0 x1)
  simp only [sel_zero, sel_1] at h
  exact h

theorem r_9 :
    kernelRun0_A.sl.r_9 c arg2 harg2 arg3 harg3 x0 x1 = (sel x0 x1 2).x := by
  unfold kernelRun0_A.sl.r_9
  simp only [r_0, r_4, kernelRun0_A.sl.v51, kernelRun0_A.sl.v52, r_5, r_6, k0_pay15]
  have h := pay19 (k0_pay4 x1) (k0_pay5 x1) (k0_pay6 x1) (sel x0 x1 0)
  simp only [sel_1, sel_2] at h
  exact h

theorem r_10 :
    kernelRun0_A.sl.r_10 c arg2 harg2 arg3 harg3 x0 x1 = (sel x0 x1 2).y := by
  unfold kernelRun0_A.sl.r_10
  simp only [r_1, r_4, kernelRun0_A.sl.v51, kernelRun0_A.sl.v52, r_5, r_7, k0_pay15]
  have h := pay20 (k0_pay4 x1) (k0_pay5 x1) (k0_pay6 x1) (sel x0 x1 0)
  simp only [sel_1, sel_2] at h
  exact h

theorem r_11 :
    kernelRun0_A.sl.r_11 c arg2 harg2 arg3 harg3 x0 x1 = (sel x0 x1 2).z := by
  unfold kernelRun0_A.sl.r_11
  simp only [r_2, r_4, kernelRun0_A.sl.v51, kernelRun0_A.sl.v52, r_5, r_8, k0_pay15]
  have h := pay21 (k0_pay4 x1) (k0_pay5 x1) (k0_pay6 x1) (sel x0 x1 0)
  simp only [sel_1, sel_2] at h
  exact h

theorem r_12 :
    kernelRun0_A.sl.r_12 c arg2 harg2 arg3 harg3 x0 x1 = (sel x0 x1 2).mat := by
  unfold kernelRun0_A.sl.r_12
  simp only [r_4, kernelRun0_A.sl.v51, r_5, k0_pay15]
  have h := pay22 (k0_pay4 x1) (k0_pay5 x1) (k0_pay6 x1) (sel x0 x1 0)
  simp only [sel_1, sel_2] at h
  exact h

theorem r_13 :
    kernelRun0_A.sl.r_13 c arg2 harg2 arg3 harg3 x0 x1 = (cmpf .oeq (sel x0 x1 2).mat (broadcastTo S256x4096 (shapeCast S256x1 (multiReduction .minimumf [1] S256 (sel x0 x1 2).mat 0x7F800000#32 reduces_S256x4096_S256 (.inl rfl) rfl) shapeCasts_S256_S256x1) broadcasts_S256x1_S256x4096)) := by
  unfold kernelRun0_A.sl.r_13
  simp only [r_4, kernelRun0_A.sl.v51, r_5, k0_pay15]
  have h := pay23 (k0_pay4 x1) (k0_pay5 x1) (k0_pay6 x1) (sel x0 x1 0)
  simp only [sel_1, sel_2] at h
  exact h

theorem r_14 :
    kernelRun0_A.sl.r_14 c arg2 harg2 arg3 harg3 x0 x1 = (sel x0 x1 3).x := by
  unfold kernelRun0_A.sl.r_14
  simp only [r_0, kernelRun0_A.sl.v51, kernelRun0_A.sl.v52, r_9, r_13, k0_pay24]
  have h := pay27 (k0_pay4 x1) (k0_pay5 x1) (k0_pay6 x1) (sel x0 x1 2)
  simp only [sel_3] at h
  exact h

theorem r_15 :
    kernelRun0_A.sl.r_15 c arg2 harg2 arg3 harg3 x0 x1 = (sel x0 x1 3).y := by
  unfold kernelRun0_A.sl.r_15
  simp only [r_1, kernelRun0_A.sl.v51, kernelRun0_A.sl.v52, r_10, r_13, k0_pay24]
  have h := pay28 (k0_pay4 x1) (k0_pay5 x1) (k0_pay6 x1) (sel x0 x1 2)
  simp only [sel_3] at h
  exact h

theorem r_16 :
    kernelRun0_A.sl.r_16 c arg2 harg2 arg3 harg3 x0 x1 = (sel x0 x1 3).z := by
  unfold kernelRun0_A.sl.r_16
  simp only [r_2, kernelRun0_A.sl.v51, kernelRun0_A.sl.v52, r_11, r_13, k0_pay24, r_9]
  have h := pay29 (k0_pay4 x1) (k0_pay5 x1) (k0_pay6 x1) (sel x0 x1 2)
  simp only [sel_3] at h
  exact h

theorem r_17 :
    kernelRun0_A.sl.r_17 c arg2 harg2 arg3 harg3 x0 x1 = (sel x0 x1 3).mat := by
  unfold kernelRun0_A.sl.r_17
  simp only [kernelRun0_A.sl.v51, r_12, r_13, k0_pay24]
  have h := pay30 (k0_pay4 x1) (k0_pay5 x1) (k0_pay6 x1) (sel x0 x1 2)
  simp only [sel_3] at h
  exact h

theorem r_18 :
    kernelRun0_A.sl.r_18 c arg2 harg2 arg3 harg3 x0 x1 = (firstMin (sel x0 x1 3).mat) := by
  unfold kernelRun0_A.sl.r_18
  simp only [kernelRun0_A.sl.v51, r_12, r_13, k0_pay24]
  have h := pay31 (k0_pay4 x1) (k0_pay5 x1) (k0_pay6 x1) (sel x0 x1 2)
  simp only [sel_3] at h
  exact h

theorem r_19 (c : Dev nD) (arg3 : Memref sig .tc .vmem S1x3x4096 .f32) (harg3 : arg3.IsWhole) (x1 : Vec F S1x3x4096 .f32) :
    kernelRun0_A.sl.r_19 (F := F) c arg3 harg3 x1 = (shapeCast S1x4096 (k0_pay4 x1) shapeCasts_S1x4096_S1x4096) := by
  unfold kernelRun0_A.sl.r_19
  simp only [r_0]
  exact pay32 (k0_pay4 x1)

theorem r_20 :
    kernelRun0_A.sl.r_20 c arg2 harg2 arg3 harg3 x0 x1 = (sel x0 x1 4).x := by
  unfold kernelRun0_A.sl.r_20
  simp only [kernelRun0_A.sl.v52, r_14, r_18, kernelRun0_A.sl.cst_41, r_19]
  have h := pay34 (k0_pay4 x1) (k0_pay5 x1) (k0_pay6 x1) (sel x0 x1 3)
  simp only [sel_4] at h
  exact h

theorem r_21 :
    kernelRun0_A.sl.r_21 c arg2 harg2 arg3 harg3 x0 x1 = (sel x0 x1 4).y := by
  unfold kernelRun0_A.sl.r_21
  simp only [r_1, kernelRun0_A.sl.v52, r_15, r_18]
  have h := pay35 (k0_pay4 x1) (k0_pay5 x1) (k0_pay6 x1) (sel x0 x1 3)
  simp only [sel_4] at h
  exact h

theorem r_22 :
    kernelRun0_A.sl.r_22 c arg2 harg2 arg3 harg3 x0 x1 = (sel x0 x1 4).z := by
  unfold kernelRun0_A.sl.r_22
  simp only [r_2, kernelRun0_A.sl.v52, r_16, r_18]
  have h := pay36 (k0_pay4 x1) (k0_pay5 x1) (k0_pay6 x1) (sel x0 x1 3)
  simp only [sel_4] at h
  exact h

theorem r_23 :
    kernelRun0_A.sl.r_23 c arg2 harg2 arg3 harg3 x0 x1 = (sel x0 x1 4).mat := by
  unfold kernelRun0_A.sl.r_23
  simp only [r_17, r_18]
  have h := pay37 (k0_pay4 x1) (k0_pay5 x1) (k0_pay6 x1) (sel x0 x1 3)
  simp only [sel_4] at h
  exact h

theorem r_24 :
    kernelRun0_A.sl.r_24 c arg2 harg2 arg3 harg3 x0 x1 = (firstMin (sel x0 x1 4).mat) := by
  unfold kernelRun0_A.sl.r_24
  simp only [kernelRun0_A.sl.v51, r_17, r_18]
  have h := pay38 (k0_pay4 x1) (k0_pay5 x1) (k0_pay6 x1) (sel x0 x1 3)
  simp only [sel_4] at h
  exact h

theorem r_25 :
    kernelRun0_A.sl.r_25 c arg2 harg2 arg3 harg3 x0 x1 = (shapeCast S256x1 (multiReduction .add [1] S256 (select (firstMin (sel x0 x1 4).mat) (broadcastTo S256x4096 (shapeCast S1x4096 (k0_pay4 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_25
  simp only [r_0, kernelRun0_A.sl.v51, r_17, r_18]
  have h := pay39 (k0_pay4 x1) (k0_pay5 x1) (k0_pay6 x1) (sel x0 x1 3)
  simp only [sel_4] at h
  exact h

theorem r_26 (c : Dev nD) (arg3 : Memref sig .tc .vmem S1x3x4096 .f32) (harg3 : arg3.IsWhole) (x1 : Vec F S1x3x4096 .f32) :
    kernelRun0_A.sl.r_26 (F := F) c arg3 harg3 x1 = (shapeCast S1x4096 (k0_pay5 x1) shapeCasts_S1x4096_S1x4096) := by
  unfold kernelRun0_A.sl.r_26
  simp only [r_1]
  exact pay40 (k0_pay5 x1)

theorem r_27 :
    kernelRun0_A.sl.r_27 c arg2 harg2 arg3 harg3 x0 x1 = (sel x0 x1 5).x := by
  unfold kernelRun0_A.sl.r_27
  simp only [kernelRun0_A.sl.v52, r_20, r_25]
  have h := pay42 (k0_pay4 x1) (k0_pay5 x1) (k0_pay6 x1) (sel x0 x1 4)
  simp only [sel_5] at h
  exact h

theorem r_28 :
    kernelRun0_A.sl.r_28 c arg2 harg2 arg3 harg3 x0 x1 = (sel x0 x1 5).y := by
  unfold kernelRun0_A.sl.r_28
  simp only [kernelRun0_A.sl.v52, r_21, r_24, kernelRun0_A.sl.cst_41, r_26]
  have h := pay43 (k0_pay4 x1) (k0_pay5 x1) (k0_pay6 x1) (sel x0 x1 4)
  simp only [sel_5] at h
  exact h

theorem r_29 :
    kernelRun0_A.sl.r_29 c arg2 harg2 arg3 harg3 x0 x1 = (sel x0 x1 5).z := by
  unfold kernelRun0_A.sl.r_29
  simp only [r_2, kernelRun0_A.sl.v52, r_22, r_24]
  have h := pay44 (k0_pay4 x1) (k0_pay5 x1) (k0_pay6 x1) (sel x0 x1 4)
  simp only [sel_5] at h
  exact h

theorem r_30 :
    kernelRun0_A.sl.r_30 c arg2 harg2 arg3 harg3 x0 x1 = (sel x0 x1 5).mat := by
  unfold kernelRun0_A.sl.r_30
  simp only [r_23, r_24]
  have h := pay45 (k0_pay4 x1) (k0_pay5 x1) (k0_pay6 x1) (sel x0 x1 4)
  simp only [sel_5] at h
  exact h

theorem r_31 :
    kernelRun0_A.sl.r_31 c arg2 harg2 arg3 harg3 x0 x1 = (firstMin (sel x0 x1 5).mat) := by
  unfold kernelRun0_A.sl.r_31
  simp only [kernelRun0_A.sl.v51, r_23, r_24]
  have h := pay46 (k0_pay4 x1) (k0_pay5 x1) (k0_pay6 x1) (sel x0 x1 4)
  simp only [sel_5] at h
  exact h

theorem r_32 :
    kernelRun0_A.sl.r_32 c arg2 harg2 arg3 harg3 x0 x1 = (shapeCast S256x1 (multiReduction .add [1] S256 (select (firstMin (sel x0 x1 5).mat) (broadcastTo S256x4096 (shapeCast S1x4096 (k0_pay4 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_32
  simp only [r_0, kernelRun0_A.sl.v51, r_23, r_24, r_25]
  have h := pay47 (k0_pay4 x1) (k0_pay5 x1) (k0_pay6 x1) (sel x0 x1 4)
  simp only [sel_5] at h
  exact h

theorem r_33 :
    kernelRun0_A.sl.r_33 c arg2 harg2 arg3 harg3 x0 x1 = (shapeCast S256x1 (multiReduction .add [1] S256 (select (firstMin (sel x0 x1 5).mat) (broadcastTo S256x4096 (shapeCast S1x4096 (k0_pay5 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_33
  simp only [r_1, kernelRun0_A.sl.v51, r_23, r_24]
  have h := pay48 (k0_pay4 x1) (k0_pay5 x1) (k0_pay6 x1) (sel x0 x1 4)
  simp only [sel_5] at h
  exact h

theorem r_34 (c : Dev nD) (arg3 : Memref sig .tc .vmem S1x3x4096 .f32) (harg3 : arg3.IsWhole) (x1 : Vec F S1x3x4096 .f32) :
    kernelRun0_A.sl.r_34 (F := F) c arg3 harg3 x1 = (shapeCast S1x4096 (k0_pay6 x1) shapeCasts_S1x4096_S1x4096) := by
  unfold kernelRun0_A.sl.r_34
  simp only [r_2]
  exact pay49 (k0_pay6 x1)

theorem r_35 :
    kernelRun0_A.sl.r_35 c arg2 harg2 arg3 harg3 x0 x1 = (sel x0 x1 6).x := by
  unfold kernelRun0_A.sl.r_35
  simp only [kernelRun0_A.sl.v52, r_27, r_32]
  have h := pay51 (k0_pay4 x1) (k0_pay5 x1) (k0_pay6 x1) (sel x0 x1 5)
  simp only [sel_6] at h
  exact h

theorem r_36 :
    kernelRun0_A.sl.r_36 c arg2 harg2 arg3 harg3 x0 x1 = (sel x0 x1 6).y := by
  unfold kernelRun0_A.sl.r_36
  simp only [kernelRun0_A.sl.v52, r_28, r_33]
  have h := pay52 (k0_pay4 x1) (k0_pay5 x1) (k0_pay6 x1) (sel x0 x1 5)
  simp only [sel_6] at h
  exact h

theorem r_37 :
    kernelRun0_A.sl.r_37 c arg2 harg2 arg3 harg3 x0 x1 = (sel x0 x1 6).z := by
  unfold kernelRun0_A.sl.r_37
  simp only [kernelRun0_A.sl.v52, r_29, r_31, kernelRun0_A.sl.cst_41, r_34]
  have h := pay53 (k0_pay4 x1) (k0_pay5 x1) (k0_pay6 x1) (sel x0 x1 5)
  simp only [sel_6] at h
  exact h

theorem r_38 :
    kernelRun0_A.sl.r_38 c arg2 harg2 arg3 harg3 x0 x1 = (sel x0 x1 6).mat := by
  unfold kernelRun0_A.sl.r_38
  simp only [r_30, r_31]
  have h := pay54 (k0_pay4 x1) (k0_pay5 x1) (k0_pay6 x1) (sel x0 x1 5)
  simp only [sel_6] at h
  exact h

theorem r_39 :
    kernelRun0_A.sl.r_39 c arg2 harg2 arg3 harg3 x0 x1 = (firstMin (sel x0 x1 6).mat) := by
  unfold kernelRun0_A.sl.r_39
  simp only [kernelRun0_A.sl.v51, r_30, r_31]
  have h := pay55 (k0_pay4 x1) (k0_pay5 x1) (k0_pay6 x1) (sel x0 x1 5)
  simp only [sel_6] at h
  exact h

theorem r_40 :
    kernelRun0_A.sl.r_40 c arg2 harg2 arg3 harg3 x0 x1 = (shapeCast S256x1 (multiReduction .add [1] S256 (select (firstMin (sel x0 x1 6).mat) (broadcastTo S256x4096 (shapeCast S1x4096 (k0_pay4 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_40
  simp only [r_0, kernelRun0_A.sl.v51, r_30, r_31, r_33]
  have h := pay56 (k0_pay4 x1) (k0_pay5 x1) (k0_pay6 x1) (sel x0 x1 5)
  simp only [sel_6] at h
  exact h

theorem r_41 :
    kernelRun0_A.sl.r_41 c arg2 harg2 arg3 harg3 x0 x1 = (shapeCast S256x1 (multiReduction .add [1] S256 (select (firstMin (sel x0 x1 6).mat) (broadcastTo S256x4096 (shapeCast S1x4096 (k0_pay5 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_41
  simp only [r_1, kernelRun0_A.sl.v51, r_30, r_31]
  have h := pay57 (k0_pay4 x1) (k0_pay5 x1) (k0_pay6 x1) (sel x0 x1 5)
  simp only [sel_6] at h
  exact h

theorem r_42 :
    kernelRun0_A.sl.r_42 c arg2 harg2 arg3 harg3 x0 x1 = (shapeCast S256x1 (multiReduction .add [1] S256 (select (firstMin (sel x0 x1 6).mat) (broadcastTo S256x4096 (shapeCast S1x4096 (k0_pay6 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_42
  simp only [r_2, kernelRun0_A.sl.v51, r_30, r_31]
  have h := pay58 (k0_pay4 x1) (k0_pay5 x1) (k0_pay6 x1) (sel x0 x1 5)
  simp only [sel_6] at h
  exact h

theorem r_43 :
    kernelRun0_A.sl.r_43 c arg2 harg2 arg3 harg3 x0 x1 = (sel x0 x1 7).z := by
  unfold kernelRun0_A.sl.r_43
  simp only [kernelRun0_A.sl.v52, r_37, r_42, k0_pay59]
  have h := pay61 (k0_pay4 x1) (k0_pay5 x1) (k0_pay6 x1) (sel x0 x1 6)
  simp only [sel_7] at h
  exact h

theorem r_44 :
    kernelRun0_A.sl.r_44 c arg2 harg2 arg3 harg3 x0 x1 = (sel x0 x1 7).mat := by
  unfold kernelRun0_A.sl.r_44
  simp only [r_38, r_39]
  have h := pay62 (k0_pay4 x1) (k0_pay5 x1) (k0_pay6 x1) (sel x0 x1 6)
  simp only [sel_7] at h
  exact h

theorem r_45 :
    kernelRun0_A.sl.r_45 c arg2 harg2 arg3 harg3 x0 x1 = (firstMin (sel x0 x1 7).mat) := by
  unfold kernelRun0_A.sl.r_45
  simp only [kernelRun0_A.sl.v51, r_38, r_39]
  have h := pay63 (k0_pay4 x1) (k0_pay5 x1) (k0_pay6 x1) (sel x0 x1 6)
  simp only [sel_7] at h
  exact h

theorem r_46 :
    kernelRun0_A.sl.r_46 c arg2 harg2 arg3 harg3 x0 x1 = (sel x0 x1 8).x := by
  unfold kernelRun0_A.sl.r_46
  simp only [r_0, kernelRun0_A.sl.v51, kernelRun0_A.sl.v52, r_35, r_38, r_39, r_40, k0_pay59]
  have h := pay65 (k0_pay4 x1) (k0_pay5 x1) (k0_pay6 x1) (sel x0 x1 6)
  simp only [sel_7, sel_8] at h
  exact h

theorem r_47 :
    kernelRun0_A.sl.r_47 c arg2 harg2 arg3 harg3 x0 x1 = (sel x0 x1 8).y := by
  unfold kernelRun0_A.sl.r_47
  simp only [r_1, kernelRun0_A.sl.v51, kernelRun0_A.sl.v52, r_36, r_38, r_39, r_41, k0_pay59]
  have h := pay66 (k0_pay4 x1) (k0_pay5 x1) (k0_pay6 x1) (sel x0 x1 6)
  simp only [sel_7, sel_8] at h
  exact h

theorem r_48 :
    kernelRun0_A.sl.r_48 c arg2 harg2 arg3 harg3 x0 x1 = (shapeCast S256x1 (shapeCast S256x1 (multiReduction .add [1] S256 (select (firstMin (sel x0 x1 7).mat) (broadcastTo S256x4096 (shapeCast S1x4096 (k0_pay6 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) shapeCasts_S256x1_S256x1) := by
  unfold kernelRun0_A.sl.r_48
  simp only [r_2, kernelRun0_A.sl.v51, r_38, r_39, r_41]
  have h := pay67 (k0_pay4 x1) (k0_pay5 x1) (k0_pay6 x1) (sel x0 x1 6)
  simp only [sel_7] at h
  exact h

theorem r_49 :
    kernelRun0_A.sl.r_49 c arg2 harg2 arg3 harg3 x0 x1 = (sel x0 x1 9).x := by
  unfold kernelRun0_A.sl.r_49
  simp only [r_0, kernelRun0_A.sl.v51, kernelRun0_A.sl.v52, r_44, r_45, r_46]
  have h := pay71 (k0_pay4 x1) (k0_pay5 x1) (k0_pay6 x1) (sel x0 x1 7)
  simp only [sel_8, sel_9] at h
  exact h

theorem r_50 :
    kernelRun0_A.sl.r_50 c arg2 harg2 arg3 harg3 x0 x1 = (sel x0 x1 9).y := by
  unfold kernelRun0_A.sl.r_50
  simp only [r_1, kernelRun0_A.sl.v51, kernelRun0_A.sl.v52, r_44, r_45, r_47]
  have h := pay72 (k0_pay4 x1) (k0_pay5 x1) (k0_pay6 x1) (sel x0 x1 7)
  simp only [sel_8, sel_9] at h
  exact h

theorem r_51 :
    kernelRun0_A.sl.r_51 c arg2 harg2 arg3 harg3 x0 x1 = (sel x0 x1 9).z := by
  unfold kernelRun0_A.sl.r_51
  simp only [r_2, kernelRun0_A.sl.v51, kernelRun0_A.sl.v52, r_43, r_44, r_45, k0_pay64, r_48]
  have h := pay73 (k0_pay4 x1) (k0_pay5 x1) (k0_pay6 x1) (sel x0 x1 7)
  simp only [sel_8, sel_9] at h
  exact h

theorem r_52 :
    kernelRun0_A.sl.r_52 c arg2 harg2 arg3 harg3 x0 x1 = (sel x0 x1 9).mat := by
  unfold kernelRun0_A.sl.r_52
  simp only [kernelRun0_A.sl.v51, r_44, r_45]
  have h := pay74 (k0_pay4 x1) (k0_pay5 x1) (k0_pay6 x1) (sel x0 x1 7)
  simp only [sel_8, sel_9] at h
  exact h

theorem r_53 :
    kernelRun0_A.sl.r_53 c arg2 harg2 arg3 harg3 x0 x1 = (shapeCast S256x1 (multiReduction .minimumf [1] S256 (sel x0 x1 9).mat 0x7F800000#32 reduces_S256x4096_S256 (.inl rfl) rfl) shapeCasts_S256_S256x1) := by
  unfold kernelRun0_A.sl.r_53
  simp only [kernelRun0_A.sl.v51, r_44, r_45]
  have h := pay75 (k0_pay4 x1) (k0_pay5 x1) (k0_pay6 x1) (sel x0 x1 7)
  simp only [sel_8, sel_9] at h
  exact h

theorem r_54 :
    kernelRun0_A.sl.r_54 c arg2 harg2 arg3 harg3 x0 x1 = (sel x0 x1 10).x := by
  unfold kernelRun0_A.sl.r_54
  simp only [r_0, kernelRun0_A.sl.v51, kernelRun0_A.sl.v52, r_49, r_52, r_53]
  have h := pay78 (k0_pay4 x1) (k0_pay5 x1) (k0_pay6 x1) (sel x0 x1 9)
  simp only [sel_10] at h
  exact h

theorem r_55 :
    kernelRun0_A.sl.r_55 c arg2 harg2 arg3 harg3 x0 x1 = (sel x0 x1 10).y := by
  unfold kernelRun0_A.sl.r_55
  simp only [r_1, kernelRun0_A.sl.v51, kernelRun0_A.sl.v52, r_50, r_52, r_53]
  have h := pay79 (k0_pay4 x1) (k0_pay5 x1) (k0_pay6 x1) (sel x0 x1 9)
  simp only [sel_10] at h
  exact h

theorem r_56 :
    kernelRun0_A.sl.r_56 c arg2 harg2 arg3 harg3 x0 x1 = (sel x0 x1 10).z := by
  unfold kernelRun0_A.sl.r_56
  simp only [r_2, kernelRun0_A.sl.v51, kernelRun0_A.sl.v52, r_51, r_52, r_53, r_49]
  have h := pay80 (k0_pay4 x1) (k0_pay5 x1) (k0_pay6 x1) (sel x0 x1 9)
  simp only [sel_10] at h
  exact h

theorem r_57 :
    kernelRun0_A.sl.r_57 c arg2 harg2 arg3 harg3 x0 x1 = (sel x0 x1 10).mat := by
  unfold kernelRun0_A.sl.r_57
  simp only [kernelRun0_A.sl.v51, r_52, r_53]
  have h := pay81 (k0_pay4 x1) (k0_pay5 x1) (k0_pay6 x1) (sel x0 x1 9)
  simp only [sel_10] at h
  exact h

theorem r_58 :
    kernelRun0_A.sl.r_58 c arg2 harg2 arg3 harg3 x0 x1 = (shapeCast S256x1 (multiReductionI .minsi [1] S256 (select (cmpf .oeq (sel x0 x1 10).mat (broadcastTo S256x4096 (shapeCast S256x1 (multiReduction .minimumf [1] S256 (sel x0 x1 10).mat 0x7F800000#32 reduces_S256x4096_S256 (.inl rfl) rfl) shapeCasts_S256_S256x1) broadcasts_S256x1_S256x4096)) (iota .tc S256x4096 32 [1] iota_S256x4096_d1_w32) (broadcast S256x4096 4096#32)) 2147483647#32 reduces_S256x4096_S256 rfl) shapeCasts_S256_S256x1) := by
  unfold kernelRun0_A.sl.r_58
  simp only [kernelRun0_A.sl.v51, r_52, r_53]
  have h := pay82 (k0_pay4 x1) (k0_pay5 x1) (k0_pay6 x1) (sel x0 x1 9)
  simp only [sel_10] at h
  exact h

theorem r_59 :
    kernelRun0_A.sl.r_59 c arg2 harg2 arg3 harg3 x0 x1 = (sel x0 x1 11).x := by
  unfold kernelRun0_A.sl.r_59
  simp only [r_0, kernelRun0_A.sl.v51, kernelRun0_A.sl.v52, r_54, r_58]
  have h := pay85 (k0_pay4 x1) (k0_pay5 x1) (k0_pay6 x1) (sel x0 x1 10)
  simp only [sel_11] at h
  exact h

theorem r_60 :
    kernelRun0_A.sl.r_60 c arg2 harg2 arg3 harg3 x0 x1 = (sel x0 x1 11).y := by
  unfold kernelRun0_A.sl.r_60
  simp only [r_1, kernelRun0_A.sl.v51, kernelRun0_A.sl.v52, r_55, r_58]
  have h := pay86 (k0_pay4 x1) (k0_pay5 x1) (k0_pay6 x1) (sel x0 x1 10)
  simp only [sel_11] at h
  exact h

theorem r_61 :
    kernelRun0_A.sl.r_61 c arg2 harg2 arg3 harg3 x0 x1 = (sel x0 x1 11).z := by
  unfold kernelRun0_A.sl.r_61
  simp only [r_2, kernelRun0_A.sl.v51, kernelRun0_A.sl.v52, r_56, r_58]
  have h := pay87 (k0_pay4 x1) (k0_pay5 x1) (k0_pay6 x1) (sel x0 x1 10)
  simp only [sel_11] at h
  exact h

theorem r_62 :
    kernelRun0_A.sl.r_62 c arg2 harg2 arg3 harg3 x0 x1 = (sel x0 x1 11).mat := by
  unfold kernelRun0_A.sl.r_62
  simp only [kernelRun0_A.sl.v51, r_57, r_58]
  have h := pay88 (k0_pay4 x1) (k0_pay5 x1) (k0_pay6 x1) (sel x0 x1 10)
  simp only [sel_11] at h
  exact h

theorem r_63 :
    kernelRun0_A.sl.r_63 c arg2 harg2 arg3 harg3 x0 x1 = (firstMin (sel x0 x1 11).mat) := by
  unfold kernelRun0_A.sl.r_63
  simp only [kernelRun0_A.sl.v51, r_57, r_58]
  have h := pay89 (k0_pay4 x1) (k0_pay5 x1) (k0_pay6 x1) (sel x0 x1 10)
  simp only [sel_11] at h
  exact h

theorem r_64 :
    kernelRun0_A.sl.r_64 c arg2 harg2 arg3 harg3 x0 x1 = (select (firstMin (sel x0 x1 11).mat) (broadcastTo S256x4096 (shapeCast S1x4096 (k0_pay4 x1) shapeCasts_S1x4096_S1x4096) broadcasts_S1x4096_S256x4096) (broadcast S256x4096 (Scalar.ofBits .f32 0x00000000#32 : F .f32))) := by
  unfold kernelRun0_A.sl.r_64
  simp only [r_0, kernelRun0_A.sl.v51, r_57, r_58]
  have h := pay90 (k0_pay4 x1) (k0_pay5 x1) (k0_pay6 x1) (sel x0 x1 10)
  simp only [sel_11] at h
  exact h

theorem r_65 :
    kernelRun0_A.sl.r_65 c arg2 harg2 arg3 harg3 x0 x1 = (sel x0 x1 12).x := by
  unfold kernelRun0_A.sl.r_65
  simp only [kernelRun0_A.sl.v52, r_59, r_64]
  have h := pay92 (k0_pay4 x1) (k0_pay5 x1) (k0_pay6 x1) (sel x0 x1 11)
  simp only [sel_12] at h
  exact h

theorem r_66 :
    kernelRun0_A.sl.r_66 c arg2 harg2 arg3 harg3 x0 x1 = (sel x0 x1 12).y := by
  unfold kernelRun0_A.sl.r_66
  simp only [r_1, kernelRun0_A.sl.v52, r_60, r_63]
  have h := pay93 (k0_pay4 x1) (k0_pay5 x1) (k0_pay6 x1) (sel x0 x1 11)
  simp only [sel_12] at h
  exact h

theorem r_67 :
    kernelRun0_A.sl.r_67 c arg2 harg2 arg3 harg3 x0 x1 = (sel x0 x1 12).z := by
  unfold kernelRun0_A.sl.r_67
  simp only [r_2, kernelRun0_A.sl.v52, r_61, r_63]
  have h := pay94 (k0_pay4 x1) (k0_pay5 x1) (k0_pay6 x1) (sel x0 x1 11)
  simp only [sel_12] at h
  exact h

theorem r_68 :
    kernelRun0_A.sl.r_68 c arg2 harg2 arg3 harg3 x0 x1 = (sel x0 x1 12).mat := by
  unfold kernelRun0_A.sl.r_68
  simp only [r_62, r_63]
  have h := pay95 (k0_pay4 x1) (k0_pay5 x1) (k0_pay6 x1) (sel x0 x1 11)
  simp only [sel_12] at h
  exact h

theorem r_69 :
    kernelRun0_A.sl.r_69 c arg2 harg2 arg3 harg3 x0 x1 = (firstMin (sel x0 x1 12).mat) := by
  unfold kernelRun0_A.sl.r_69
  simp only [kernelRun0_A.sl.v51, r_62, r_63]
  have h := pay96 (k0_pay4 x1) (k0_pay5 x1) (k0_pay6 x1) (sel x0 x1 11)
  simp only [sel_12] at h
  exact h

theorem r_70 :
    kernelRun0_A.sl.r_70 c arg2 harg2 arg3 harg3 x0 x1 = (shapeCast S256x1 (multiReduction .add [1] S256 (select (firstMin (sel x0 x1 12).mat) (broadcastTo S256x4096 (shapeCast S1x4096 (k0_pay4 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_70
  simp only [r_0, kernelRun0_A.sl.v51, r_62, r_63]
  have h := pay97 (k0_pay4 x1) (k0_pay5 x1) (k0_pay6 x1) (sel x0 x1 11)
  simp only [sel_12] at h
  exact h

theorem r_71 :
    kernelRun0_A.sl.r_71 c arg2 harg2 arg3 harg3 x0 x1 = (select (firstMin (sel x0 x1 12).mat) (broadcastTo S256x4096 (shapeCast S1x4096 (k0_pay5 x1) shapeCasts_S1x4096_S1x4096) broadcasts_S1x4096_S256x4096) (broadcast S256x4096 (Scalar.ofBits .f32 0x00000000#32 : F .f32))) := by
  unfold kernelRun0_A.sl.r_71
  simp only [r_1, kernelRun0_A.sl.v51, r_62, r_63]
  have h := pay98 (k0_pay4 x1) (k0_pay5 x1) (k0_pay6 x1) (sel x0 x1 11)
  simp only [sel_12] at h
  exact h

theorem r_72 :
    kernelRun0_A.sl.r_72 c arg2 harg2 arg3 harg3 x0 x1 = (sel x0 x1 13).x := by
  unfold kernelRun0_A.sl.r_72
  simp only [kernelRun0_A.sl.v52, r_65, r_70]
  have h := pay100 (k0_pay4 x1) (k0_pay5 x1) (k0_pay6 x1) (sel x0 x1 12)
  simp only [sel_13] at h
  exact h

theorem r_73 :
    kernelRun0_A.sl.r_73 c arg2 harg2 arg3 harg3 x0 x1 = (sel x0 x1 13).y := by
  unfold kernelRun0_A.sl.r_73
  simp only [kernelRun0_A.sl.v52, r_66, r_71]
  have h := pay101 (k0_pay4 x1) (k0_pay5 x1) (k0_pay6 x1) (sel x0 x1 12)
  simp only [sel_13] at h
  exact h

theorem r_74 :
    kernelRun0_A.sl.r_74 c arg2 harg2 arg3 harg3 x0 x1 = (sel x0 x1 13).z := by
  unfold kernelRun0_A.sl.r_74
  simp only [r_2, kernelRun0_A.sl.v52, r_67, r_69]
  have h := pay102 (k0_pay4 x1) (k0_pay5 x1) (k0_pay6 x1) (sel x0 x1 12)
  simp only [sel_13] at h
  exact h

theorem r_75 :
    kernelRun0_A.sl.r_75 c arg2 harg2 arg3 harg3 x0 x1 = (sel x0 x1 13).mat := by
  unfold kernelRun0_A.sl.r_75
  simp only [r_68, r_69]
  have h := pay103 (k0_pay4 x1) (k0_pay5 x1) (k0_pay6 x1) (sel x0 x1 12)
  simp only [sel_13] at h
  exact h

theorem r_76 :
    kernelRun0_A.sl.r_76 c arg2 harg2 arg3 harg3 x0 x1 = (firstMin (sel x0 x1 13).mat) := by
  unfold kernelRun0_A.sl.r_76
  simp only [kernelRun0_A.sl.v51, r_68, r_69]
  have h := pay104 (k0_pay4 x1) (k0_pay5 x1) (k0_pay6 x1) (sel x0 x1 12)
  simp only [sel_13] at h
  exact h

theorem r_77 :
    kernelRun0_A.sl.r_77 c arg2 harg2 arg3 harg3 x0 x1 = (shapeCast S256x1 (multiReduction .add [1] S256 (select (firstMin (sel x0 x1 13).mat) (broadcastTo S256x4096 (shapeCast S1x4096 (k0_pay4 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_77
  simp only [r_0, kernelRun0_A.sl.v51, r_68, r_69]
  have h := pay105 (k0_pay4 x1) (k0_pay5 x1) (k0_pay6 x1) (sel x0 x1 12)
  simp only [sel_13] at h
  exact h

theorem r_78 :
    kernelRun0_A.sl.r_78 c arg2 harg2 arg3 harg3 x0 x1 = (shapeCast S256x1 (multiReduction .add [1] S256 (select (firstMin (sel x0 x1 13).mat) (broadcastTo S256x4096 (shapeCast S1x4096 (k0_pay5 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_78
  simp only [r_1, kernelRun0_A.sl.v51, r_68, r_69]
  have h := pay106 (k0_pay4 x1) (k0_pay5 x1) (k0_pay6 x1) (sel x0 x1 12)
  simp only [sel_13] at h
  exact h

theorem r_79 :
    kernelRun0_A.sl.r_79 c arg2 harg2 arg3 harg3 x0 x1 = (select (firstMin (sel x0 x1 13).mat) (broadcastTo S256x4096 (shapeCast S1x4096 (k0_pay6 x1) shapeCasts_S1x4096_S1x4096) broadcasts_S1x4096_S256x4096) (broadcast S256x4096 (Scalar.ofBits .f32 0x00000000#32 : F .f32))) := by
  unfold kernelRun0_A.sl.r_79
  simp only [r_2, kernelRun0_A.sl.v51, r_68, r_69]
  have h := pay107 (k0_pay4 x1) (k0_pay5 x1) (k0_pay6 x1) (sel x0 x1 12)
  simp only [sel_13] at h
  exact h

theorem r_80 :
    kernelRun0_A.sl.r_80 c arg2 harg2 arg3 harg3 x0 x1 = (sel x0 x1 14).y := by
  unfold kernelRun0_A.sl.r_80
  simp only [kernelRun0_A.sl.v52, r_73, r_78]
  have h := pay109 (k0_pay4 x1) (k0_pay5 x1) (k0_pay6 x1) (sel x0 x1 13)
  simp only [sel_14] at h
  exact h

theorem r_81 :
    kernelRun0_A.sl.r_81 c arg2 harg2 arg3 harg3 x0 x1 = (sel x0 x1 14).z := by
  unfold kernelRun0_A.sl.r_81
  simp only [kernelRun0_A.sl.v52, r_74, r_79]
  have h := pay110 (k0_pay4 x1) (k0_pay5 x1) (k0_pay6 x1) (sel x0 x1 13)
  simp only [sel_14] at h
  exact h

theorem r_82 :
    kernelRun0_A.sl.r_82 c arg2 harg2 arg3 harg3 x0 x1 = (sel x0 x1 14).mat := by
  unfold kernelRun0_A.sl.r_82
  simp only [r_75, r_76]
  have h := pay111 (k0_pay4 x1) (k0_pay5 x1) (k0_pay6 x1) (sel x0 x1 13)
  simp only [sel_14] at h
  exact h

theorem r_83 :
    kernelRun0_A.sl.r_83 c arg2 harg2 arg3 harg3 x0 x1 = (firstMin (sel x0 x1 14).mat) := by
  unfold kernelRun0_A.sl.r_83
  simp only [kernelRun0_A.sl.v51, r_75, r_76]
  have h := pay112 (k0_pay4 x1) (k0_pay5 x1) (k0_pay6 x1) (sel x0 x1 13)
  simp only [sel_14] at h
  exact h

theorem r_84 :
    kernelRun0_A.sl.r_84 c arg2 harg2 arg3 harg3 x0 x1 = (shapeCast S256x1 (multiReduction .add [1] S256 (select (firstMin (sel x0 x1 14).mat) (broadcastTo S256x4096 (shapeCast S1x4096 (k0_pay5 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_84
  simp only [r_1, kernelRun0_A.sl.v51, r_75, r_76]
  have h := pay113 (k0_pay4 x1) (k0_pay5 x1) (k0_pay6 x1) (sel x0 x1 13)
  simp only [sel_14] at h
  exact h

theorem r_85 :
    kernelRun0_A.sl.r_85 c arg2 harg2 arg3 harg3 x0 x1 = (shapeCast S256x1 (multiReduction .add [1] S256 (select (firstMin (sel x0 x1 14).mat) (broadcastTo S256x4096 (shapeCast S1x4096 (k0_pay6 x1) shapeCasts_S1x4096_S1x4096) broadcasts_S1x4096_S256x4096) (broadcast S256x4096 (Scalar.ofBits .f32 0x00000000#32 : F .f32))) 0x00000000#32 reduces_S256x4096_S256 (.inl rfl) rfl) shapeCasts_S256_S256x1) := by
  unfold kernelRun0_A.sl.r_85
  simp only [r_2, kernelRun0_A.sl.v51, r_75, r_76]
  have h := pay114 (k0_pay4 x1) (k0_pay5 x1) (k0_pay6 x1) (sel x0 x1 13)
  simp only [sel_14] at h
  exact h

theorem r_86 :
    kernelRun0_A.sl.r_86 c arg2 harg2 arg3 harg3 x0 x1 = (sel x0 x1 15).x := by
  unfold kernelRun0_A.sl.r_86
  simp only [r_0, kernelRun0_A.sl.v51, kernelRun0_A.sl.v52, r_72, r_75, r_76, r_77]
  have h := pay116 (k0_pay4 x1) (k0_pay5 x1) (k0_pay6 x1) (sel x0 x1 13)
  simp only [sel_14, sel_15] at h
  exact h

theorem r_87 :
    kernelRun0_A.sl.r_87 c arg2 harg2 arg3 harg3 x0 x1 = (sel x0 x1 15).mat := by
  unfold kernelRun0_A.sl.r_87
  simp only [r_82, r_83]
  have h := pay117 (k0_pay4 x1) (k0_pay5 x1) (k0_pay6 x1) (sel x0 x1 14)
  simp only [sel_15] at h
  exact h

theorem r_88 :
    kernelRun0_A.sl.r_88 c arg2 harg2 arg3 harg3 x0 x1 = (firstMin (sel x0 x1 15).mat) := by
  unfold kernelRun0_A.sl.r_88
  simp only [kernelRun0_A.sl.v51, r_82, r_83, r_81]
  have h := pay118 (k0_pay4 x1) (k0_pay5 x1) (k0_pay6 x1) (sel x0 x1 14)
  simp only [sel_15] at h
  exact h

theorem r_89 :
    kernelRun0_A.sl.r_89 c arg2 harg2 arg3 harg3 x0 x1 = (sel x0 x1 16).x := by
  unfold kernelRun0_A.sl.r_89
  simp only [r_0, kernelRun0_A.sl.v51, kernelRun0_A.sl.v52, r_82, r_83, r_86]
  have h := pay120 (k0_pay4 x1) (k0_pay5 x1) (k0_pay6 x1) (sel x0 x1 14)
  simp only [sel_15, sel_16] at h
  exact h

theorem r_90 :
    kernelRun0_A.sl.r_90 c arg2 harg2 arg3 harg3 x0 x1 = (sel x0 x1 16).y := by
  unfold kernelRun0_A.sl.r_90
  simp only [r_1, kernelRun0_A.sl.v51, kernelRun0_A.sl.v52, r_80, r_82, r_83, r_84, k0_pay115]
  have h := pay121 (k0_pay4 x1) (k0_pay5 x1) (k0_pay6 x1) (sel x0 x1 14)
  simp only [sel_15, sel_16] at h
  exact h

theorem r_91 :
    kernelRun0_A.sl.r_91 c arg2 harg2 arg3 harg3 x0 x1 = (sel x0 x1 16).z := by
  unfold kernelRun0_A.sl.r_91
  simp only [r_2, kernelRun0_A.sl.v51, kernelRun0_A.sl.v52, r_81, r_82, r_83, r_85, k0_pay115]
  have h := pay122 (k0_pay4 x1) (k0_pay5 x1) (k0_pay6 x1) (sel x0 x1 14)
  simp only [sel_15, sel_16] at h
  exact h

theorem r_92 :
    kernelRun0_A.sl.r_92 c arg2 harg2 arg3 harg3 x0 x1 = (shapeCast S256x1 (multiReduction .minimumf [1] S256 (sel x0 x1 16).mat 0x7F800000#32 reduces_S256x4096_S256 (.inl rfl) rfl) shapeCasts_S256_S256x1) := by
  unfold kernelRun0_A.sl.r_92
  simp only [r_87, r_88, k0_pay123]
  have h := pay124 (k0_pay4 x1) (k0_pay5 x1) (k0_pay6 x1) (sel x0 x1 15)
  simp only [sel_16] at h
  exact h

theorem r_93 :
    kernelRun0_A.sl.r_93 c arg2 harg2 arg3 harg3 x0 x1 = (cent (sel x0 x1 16).y) := by
  unfold kernelRun0_A.sl.r_93
  simp only [r_90]
  exact pay126 (sel x0 x1 16).y

theorem r_94 :
    kernelRun0_A.sl.r_94 c arg2 harg2 arg3 harg3 x0 x1 = (cent (sel x0 x1 16).z) := by
  unfold kernelRun0_A.sl.r_94
  simp only [r_91]
  exact pay127 (sel x0 x1 16).z

theorem r_95 :
    kernelRun0_A.sl.r_95 c arg2 harg2 arg3 harg3 x0 x1 = (cov (sel x0 x1 16).x (sel x0 x1 16).x) := by
  unfold kernelRun0_A.sl.r_95
  simp only [r_89]
  exact pay128 (sel x0 x1 16).x

theorem r_96 :
    kernelRun0_A.sl.r_96 c arg2 harg2 arg3 harg3 x0 x1 = (cov (sel x0 x1 16).y (sel x0 x1 16).y) := by
  unfold kernelRun0_A.sl.r_96
  simp only [r_90, r_89]
  exact pay129 (sel x0 x1 16).y

theorem r_97 :
    kernelRun0_A.sl.r_97 c arg2 harg2 arg3 harg3 x0 x1 = (cov (sel x0 x1 16).z (sel x0 x1 16).z) := by
  unfold kernelRun0_A.sl.r_97
  simp only [r_91]
  exact pay130 (sel x0 x1 16).z

theorem r_98 :
    kernelRun0_A.sl.r_98 c arg2 harg2 arg3 harg3 x0 x1 = (cov (sel x0 x1 16).x (sel x0 x1 16).y) := by
  unfold kernelRun0_A.sl.r_98
  simp only [r_89, r_90]
  exact pay131 (sel x0 x1 16).x (sel x0 x1 16).y

theorem r_99 :
    kernelRun0_A.sl.r_99 c arg2 harg2 arg3 harg3 x0 x1 = (shapeCast S256x1 (multiReduction .add [1] S256 (mulf (cent (sel x0 x1 16).x) (cent (sel x0 x1 16).z)) 0x00000000#32 reduces_S256x16_S256 (.inl rfl) rfl) shapeCasts_S256_S256x1) := by
  unfold kernelRun0_A.sl.r_99
  simp only [r_89, r_91]
  exact pay132 (sel x0 x1 16).x (sel x0 x1 16).z

theorem r_100 :
    kernelRun0_A.sl.r_100 c arg2 harg2 arg3 harg3 x0 x1 = (jac x0 x1 1).xx := by
  unfold kernelRun0_A.sl.r_100
  simp only [r_95, r_96, r_98]
  have h := pay138 (jac x0 x1 0)
  try simp only [jac_1, jac_2, jac_3, keep_1, keep_2, keep_3] at h
  try simp only [keep_1, keep_2, keep_3]
  exact h

theorem r_101 :
    kernelRun0_A.sl.r_101 c arg2 harg2 arg3 harg3 x0 x1 = (jac x0 x1 1).yy := by
  unfold kernelRun0_A.sl.r_101
  simp only [r_95, r_96, r_98]
  have h := pay139 (jac x0 x1 0)
  try simp only [jac_1, jac_2, jac_3, keep_1, keep_2, keep_3] at h
  try simp only [keep_1, keep_2, keep_3]
  exact h

theorem r_102 :
    kernelRun0_A.sl.r_102 c arg2 harg2 arg3 harg3 x0 x1 = (jac x0 x1 1).xz := by
  unfold kernelRun0_A.sl.r_102
  simp only [r_93, r_94, r_95, r_96, r_98, r_99]
  have h := pay140 (sel x0 x1 16).x (sel x0 x1 16).y (sel x0 x1 16).z
  try simp only [jac_zero, jac_1, jac_2, jac_3, keep_1, keep_2, keep_3] at h
  try simp only [keep_1, keep_2, keep_3]
  exact h

theorem r_103 :
    kernelRun0_A.sl.r_103 c arg2 harg2 arg3 harg3 x0 x1 = (jac x0 x1 1).yz := by
  unfold kernelRun0_A.sl.r_103
  simp only [r_93, r_94, r_95, r_96, r_98, r_99]
  have h := pay141 (sel x0 x1 16).x (sel x0 x1 16).y (sel x0 x1 16).z
  try simp only [jac_zero, jac_1, jac_2, jac_3, keep_1, keep_2, keep_3] at h
  try simp only [keep_1, keep_2, keep_3]
  exact h

theorem r_104 :
    kernelRun0_A.sl.r_104 c arg2 harg2 arg3 harg3 x0 x1 = (jac x0 x1 2).xx := by
  unfold kernelRun0_A.sl.r_104
  simp only [r_97, r_100, r_102]
  have h := pay146 (jac x0 x1 0)
  try simp only [jac_1, jac_2, jac_3, keep_1, keep_2, keep_3] at h
  try simp only [keep_1, keep_2, keep_3]
  exact h

theorem r_105 :
    kernelRun0_A.sl.r_105 c arg2 harg2 arg3 harg3 x0 x1 = (jac x0 x1 2).zz := by
  unfold kernelRun0_A.sl.r_105
  simp only [r_97, r_100, r_102]
  have h := pay147 (jac x0 x1 0)
  try simp only [jac_1, jac_2, jac_3, keep_1, keep_2, keep_3] at h
  try simp only [keep_1, keep_2, keep_3]
  exact h

theorem r_106 :
    kernelRun0_A.sl.r_106 c arg2 harg2 arg3 harg3 x0 x1 = (jac x0 x1 2).xy := by
  unfold kernelRun0_A.sl.r_106
  simp only [r_97, r_100, r_102, r_103]
  have h := pay148 (jac x0 x1 0)
  try simp only [jac_1, jac_2, jac_3, keep_1, keep_2, keep_3] at h
  try simp only [keep_1, keep_2, keep_3]
  exact h

theorem r_107 :
    kernelRun0_A.sl.r_107 c arg2 harg2 arg3 harg3 x0 x1 = (jac x0 x1 2).yz := by
  unfold kernelRun0_A.sl.r_107
  simp only [r_97, r_100, r_102, r_103]
  have h := pay149 (jac x0 x1 0)
  try simp only [jac_1, jac_2, jac_3, keep_1, keep_2, keep_3] at h
  try simp only [keep_1, keep_2, keep_3]
  exact h

theorem r_108 :
    kernelRun0_A.sl.r_108 c arg2 harg2 arg3 harg3 x0 x1 = (cmpf .ogt (absf (jac x0 x1 2).yz) (broadcast S256x1 (Scalar.ofBits .f32 0x00000000#32 : F .f32))) := by
  unfold kernelRun0_A.sl.r_108
  simp only [r_97, r_100, r_102, r_103]
  have h := pay151 (jac x0 x1 0)
  try simp only [jac_1, jac_2, jac_3, keep_1, keep_2, keep_3] at h
  try simp only [keep_1, keep_2, keep_3]
  exact h

theorem r_109 :
    kernelRun0_A.sl.r_109 c arg2 harg2 arg3 harg3 x0 x1 = (subf (jac x0 x1 2).zz (jac x0 x1 1).yy) := by
  unfold kernelRun0_A.sl.r_109
  simp only [r_97, r_100, r_101, r_102]
  have h := pay152 (jac x0 x1 0)
  try simp only [jac_1, jac_2, jac_3, keep_1, keep_2, keep_3] at h
  try simp only [keep_1, keep_2, keep_3]
  exact h

theorem r_110 :
    kernelRun0_A.sl.r_110 c arg2 harg2 arg3 harg3 x0 x1 = (jac x0 x1 3).yy := by
  unfold kernelRun0_A.sl.r_110
  simp only [r_101, r_107, r_108, r_109, kernelRun0_A.sl.cst_210]
  have h := pay156 (jac x0 x1 1)
  try simp only [jac_2, jac_3, jac_4, keep_1, keep_2, keep_3, keep_4] at h
  try simp only [keep_1, keep_2, keep_3, keep_4]
  exact h

theorem r_111 :
    kernelRun0_A.sl.r_111 c arg2 harg2 arg3 harg3 x0 x1 = (jac x0 x1 3).zz := by
  unfold kernelRun0_A.sl.r_111
  simp only [r_105, r_107, r_108, r_109, kernelRun0_A.sl.cst_210]
  have h := pay157 (jac x0 x1 1)
  try simp only [jac_2, jac_3, jac_4, keep_1, keep_2, keep_3, keep_4] at h
  try simp only [keep_1, keep_2, keep_3, keep_4]
  exact h

theorem r_112 :
    kernelRun0_A.sl.r_112 c arg2 harg2 arg3 harg3 x0 x1 = (jac x0 x1 3).xy := by
  unfold kernelRun0_A.sl.r_112
  simp only [r_106, r_107, k0_pay150, r_108, r_109, kernelRun0_A.sl.cst_210, r_105]
  have h := pay158 (jac x0 x1 1)
  try simp only [jac_2, jac_3, jac_4, keep_1, keep_2, keep_3, keep_4] at h
  try simp only [keep_1, keep_2, keep_3, keep_4]
  exact h

theorem r_113 :
    kernelRun0_A.sl.r_113 c arg2 harg2 arg3 harg3 x0 x1 = (jac x0 x1 3).xz := by
  unfold kernelRun0_A.sl.r_113
  simp only [r_106, r_107, k0_pay150, r_108, r_109, kernelRun0_A.sl.cst_210]
  have h := pay159 (jac x0 x1 1)
  try simp only [jac_2, jac_3, jac_4, keep_1, keep_2, keep_3, keep_4] at h
  try simp only [keep_1, keep_2, keep_3, keep_4]
  exact h

theorem r_114 :
    kernelRun0_A.sl.r_114 c arg2 harg2 arg3 harg3 x0 x1 = (cmpf .ogt (absf (jac x0 x1 3).xy) (broadcast S256x1 (Scalar.ofBits .f32 0x00000000#32 : F .f32))) := by
  unfold kernelRun0_A.sl.r_114
  simp only [r_106, r_107, k0_pay150, r_108, r_109, kernelRun0_A.sl.cst_210]
  have h := pay161 (jac x0 x1 1)
  try simp only [jac_2, jac_3, jac_4, keep_1, keep_2, keep_3, keep_4] at h
  try simp only [keep_1, keep_2, keep_3, keep_4]
  exact h

theorem r_115 :
    kernelRun0_A.sl.r_115 c arg2 harg2 arg3 harg3 x0 x1 = (divf (subf (jac x0 x1 3).yy (jac x0 x1 2).xx) (select (cmpf .ogt (absf (jac x0 x1 3).xy) (broadcast S256x1 (Scalar.ofBits .f32 0x00000000#32 : F .f32))) (mulf (broadcast S256x1 (Scalar.ofBits .f32 0x40000000#32 : F .f32)) (jac x0 x1 3).xy) (broadcast S256x1 (Scalar.ofBits .f32 0x3F800000#32 : F .f32)))) := by
  unfold kernelRun0_A.sl.r_115
  simp only [r_101, r_104, r_106, r_107, k0_pay150, r_108, r_109, kernelRun0_A.sl.cst_210]
  have h := pay162 (jac x0 x1 1)
  try simp only [jac_2, jac_3, jac_4, keep_1, keep_2, keep_3, keep_4] at h
  try simp only [keep_1, keep_2, keep_3, keep_4]
  exact h

theorem r_116 :
    kernelRun0_A.sl.r_116 c arg2 harg2 arg3 harg3 x0 x1 = (jac x0 x1 4).xx := by
  unfold kernelRun0_A.sl.r_116
  simp only [r_104, r_112, r_114, r_115, k0_pay163]
  have h := pay167 (jac x0 x1 2)
  try simp only [jac_3, jac_4, jac_5, keep_1, keep_2, keep_3, keep_4, keep_5] at h
  try simp only [keep_1, keep_2, keep_3, keep_4, keep_5]
  exact h

theorem r_117 :
    kernelRun0_A.sl.r_117 c arg2 harg2 arg3 harg3 x0 x1 = (jac x0 x1 4).yy := by
  unfold kernelRun0_A.sl.r_117
  simp only [r_110, r_112, r_114, r_115, k0_pay163]
  have h := pay168 (jac x0 x1 2)
  try simp only [jac_3, jac_4, jac_5, keep_1, keep_2, keep_3, keep_4, keep_5] at h
  try simp only [keep_1, keep_2, keep_3, keep_4, keep_5]
  exact h

theorem r_118 :
    kernelRun0_A.sl.r_118 c arg2 harg2 arg3 harg3 x0 x1 = (jac x0 x1 4).xz := by
  unfold kernelRun0_A.sl.r_118
  simp only [r_113, k0_pay160, r_114, r_115, k0_pay163]
  have h := pay169 (jac x0 x1 2)
  try simp only [jac_3, jac_4, jac_5, keep_1, keep_2, keep_3, keep_4, keep_5] at h
  try simp only [keep_1, keep_2, keep_3, keep_4, keep_5]
  exact h

theorem r_119 :
    kernelRun0_A.sl.r_119 c arg2 harg2 arg3 harg3 x0 x1 = (jac x0 x1 4).yz := by
  unfold kernelRun0_A.sl.r_119
  simp only [r_113, k0_pay160, r_114, r_115, k0_pay163]
  have h := pay170 (jac x0 x1 2)
  try simp only [jac_3, jac_4, jac_5, keep_1, keep_2, keep_3, keep_4, keep_5] at h
  try simp only [keep_1, keep_2, keep_3, keep_4, keep_5]
  exact h

theorem r_120 :
    kernelRun0_A.sl.r_120 c arg2 harg2 arg3 harg3 x0 x1 = (cmpf .ogt (absf (jac x0 x1 4).xz) (broadcast S256x1 (Scalar.ofBits .f32 0x00000000#32 : F .f32))) := by
  unfold kernelRun0_A.sl.r_120
  simp only [r_113, k0_pay160, r_114, r_115, k0_pay163]
  have h := pay172 (jac x0 x1 2)
  try simp only [jac_3, jac_4, jac_5, keep_1, keep_2, keep_3, keep_4, keep_5] at h
  try simp only [keep_1, keep_2, keep_3, keep_4, keep_5]
  exact h

theorem r_121 :
    kernelRun0_A.sl.r_121 c arg2 harg2 arg3 harg3 x0 x1 = (select (cmpf .oge (divf (subf (jac x0 x1 3).zz (jac x0 x1 4).xx) (select (cmpf .ogt (absf (jac x0 x1 4).xz) (broadcast S256x1 (Scalar.ofBits .f32 0x00000000#32 : F .f32))) (mulf (broadcast S256x1 (Scalar.ofBits .f32 0x40000000#32 : F .f32)) (jac x0 x1 4).xz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) := by
  unfold kernelRun0_A.sl.r_121
  simp only [r_104, r_111, r_112, r_113, k0_pay160, r_114, r_115, k0_pay163]
  have h := pay174 (jac x0 x1 2)
  try simp only [jac_3, jac_4, jac_5, keep_1, keep_2, keep_3, keep_4, keep_5] at h
  try simp only [keep_1, keep_2, keep_3, keep_4, keep_5]
  exact h

theorem r_122 :
    kernelRun0_A.sl.r_122 c arg2 harg2 arg3 harg3 x0 x1 = (absf (divf (subf (jac x0 x1 3).zz (jac x0 x1 4).xx) (select (cmpf .ogt (absf (jac x0 x1 4).xz) (broadcast S256x1 (Scalar.ofBits .f32 0x00000000#32 : F .f32))) (mulf (broadcast S256x1 (Scalar.ofBits .f32 0x40000000#32 : F .f32)) (jac x0 x1 4).xz) (broadcast S256x1 (Scalar.ofBits .f32 0x3F800000#32 : F .f32))))) := by
  unfold kernelRun0_A.sl.r_122
  simp only [r_104, r_111, r_112, r_113, k0_pay160, r_114, r_115, k0_pay163]
  have h := pay175 (jac x0 x1 2)
  try simp only [jac_3, jac_4, jac_5, keep_1, keep_2, keep_3, keep_4, keep_5] at h
  try simp only [keep_1, keep_2, keep_3, keep_4, keep_5]
  exact h

theorem r_123 :
    kernelRun0_A.sl.r_123 c arg2 harg2 arg3 harg3 x0 x1 = (mulf (divf (subf (jac x0 x1 3).zz (jac x0 x1 4).xx) (select (cmpf .ogt (absf (jac x0 x1 4).xz) (broadcast S256x1 (Scalar.ofBits .f32 0x00000000#32 : F .f32))) (mulf (broadcast S256x1 (Scalar.ofBits .f32 0x40000000#32 : F .f32)) (jac x0 x1 4).xz) (broadcast S256x1 (Scalar.ofBits .f32 0x3F800000#32 : F .f32)))) (divf (subf (jac x0 x1 3).zz (jac x0 x1 4).xx) (select (cmpf .ogt (absf (jac x0 x1 4).xz) (broadcast S256x1 (Scalar.ofBits .f32 0x00000000#32 : F .f32))) (mulf (broadcast S256x1 (Scalar.ofBits .f32 0x40000000#32 : F .f32)) (jac x0 x1 4).xz) (broadcast S256x1 (Scalar.ofBits .f32 0x3F800000#32 : F .f32))))) := by
  unfold kernelRun0_A.sl.r_123
  simp only [r_104, r_111, r_112, r_113, k0_pay160, r_114, r_115, k0_pay163]
  have h := pay176 (jac x0 x1 2)
  try simp only [jac_3, jac_4, jac_5, keep_1, keep_2, keep_3, keep_4, keep_5] at h
  try simp only [keep_1, keep_2, keep_3, keep_4, keep_5]
  exact h

theorem r_124 :
    kernelRun0_A.sl.r_124 c arg2 harg2 arg3 harg3 x0 x1 = (jac x0 x1 5).xx := by
  unfold kernelRun0_A.sl.r_124
  simp only [r_116, r_118, r_120, r_121, r_122, r_123]
  have h := pay180 (jac x0 x1 3)
  try simp only [jac_4, jac_5, jac_6, keep_2, keep_3, keep_4, keep_5, keep_6] at h
  try simp only [keep_2, keep_3, keep_4, keep_5, keep_6]
  exact h

theorem r_125 :
    kernelRun0_A.sl.r_125 c arg2 harg2 arg3 harg3 x0 x1 = (jac x0 x1 5).zz := by
  unfold kernelRun0_A.sl.r_125
  simp only [r_111, r_118, r_120, r_121, r_122, r_123]
  have h := pay181 (jac x0 x1 3)
  try simp only [jac_4, jac_5, jac_6, keep_2, keep_3, keep_4, keep_5, keep_6] at h
  try simp only [keep_2, keep_3, keep_4, keep_5, keep_6]
  exact h

theorem r_126 :
    kernelRun0_A.sl.r_126 c arg2 harg2 arg3 harg3 x0 x1 = (jac x0 x1 5).xy := by
  unfold kernelRun0_A.sl.r_126
  simp only [r_119, k0_pay171, r_120, r_121, r_122, r_123]
  have h := pay182 (jac x0 x1 3)
  try simp only [jac_4, jac_5, jac_6, keep_2, keep_3, keep_4, keep_5, keep_6] at h
  try simp only [keep_2, keep_3, keep_4, keep_5, keep_6]
  exact h

theorem r_127 :
    kernelRun0_A.sl.r_127 c arg2 harg2 arg3 harg3 x0 x1 = (jac x0 x1 5).yz := by
  unfold kernelRun0_A.sl.r_127
  simp only [r_119, k0_pay171, r_120, r_121, r_122, r_123]
  have h := pay183 (jac x0 x1 3)
  try simp only [jac_4, jac_5, jac_6, keep_2, keep_3, keep_4, keep_5, keep_6] at h
  try simp only [keep_2, keep_3, keep_4, keep_5, keep_6]
  exact h

theorem r_128 :
    kernelRun0_A.sl.r_128 c arg2 harg2 arg3 harg3 x0 x1 = (cmpf .ogt (absf (jac x0 x1 5).yz) (broadcast S256x1 (Scalar.ofBits .f32 0x00000000#32 : F .f32))) := by
  unfold kernelRun0_A.sl.r_128
  simp only [r_119, k0_pay171, r_120, r_121, r_122, r_123]
  have h := pay185 (jac x0 x1 3)
  try simp only [jac_4, jac_5, jac_6, keep_2, keep_3, keep_4, keep_5, keep_6] at h
  try simp only [keep_2, keep_3, keep_4, keep_5, keep_6]
  exact h

theorem r_129 :
    kernelRun0_A.sl.r_129 c arg2 harg2 arg3 harg3 x0 x1 = (divf (select (cmpf .oge (divf (subf (jac x0 x1 5).zz (jac x0 x1 4).yy) (select (cmpf .ogt (absf (jac x0 x1 5).yz) (broadcast S256x1 (Scalar.ofBits .f32 0x00000000#32 : F .f32))) (mulf (broadcast S256x1 (Scalar.ofBits .f32 0x40000000#32 : F .f32)) (jac x0 x1 5).yz) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) (addf (absf (divf (subf (jac x0 x1 5).zz (jac x0 x1 4).yy) (select (cmpf .ogt (absf (jac x0 x1 5).yz) (broadcast S256x1 (Scalar.ofBits .f32 0x00000000#32 : F .f32))) (mulf (broadcast S256x1 (Scalar.ofBits .f32 0x40000000#32 : F .f32)) (jac x0 x1 5).yz) (broadcast S256x1 (Scalar.ofBits .f32 0x3F800000#32 : F .f32))))) (sqrt (addf (mulf (divf (subf (jac x0 x1 5).zz (jac x0 x1 4).yy) (select (cmpf .ogt (absf (jac x0 x1 5).yz) (broadcast S256x1 (Scalar.ofBits .f32 0x00000000#32 : F .f32))) (mulf (broadcast S256x1 (Scalar.ofBits .f32 0x40000000#32 : F .f32)) (jac x0 x1 5).yz) (broadcast S256x1 (Scalar.ofBits .f32 0x3F800000#32 : F .f32)))) (divf (subf (jac x0 x1 5).zz (jac x0 x1 4).yy) (select (cmpf .ogt (absf (jac x0 x1 5).yz) (broadcast S256x1 (Scalar.ofBits .f32 0x00000000#32 : F .f32))) (mulf (broadcast S256x1 (Scalar.ofBits .f32 0x40000000#32 : F .f32)) (jac x0 x1 5).yz) (broadcast S256x1 (Scalar.ofBits .f32 0x3F800000#32 : F .f32))))) (broadcast S256x1 (Scalar.ofBits .f32 0x3F800000#32 : F .f32)))))) := by
  unfold kernelRun0_A.sl.r_129
  simp only [r_111, r_117, r_118, r_119, k0_pay171, r_120, r_121, r_122, r_123]
  have h := pay186 (jac x0 x1 3)
  try simp only [jac_4, jac_5, jac_6, keep_2, keep_3, keep_4, keep_5, keep_6] at h
  try simp only [keep_2, keep_3, keep_4, keep_5, keep_6]
  exact h

theorem r_130 :
    kernelRun0_A.sl.r_130 c arg2 harg2 arg3 harg3 x0 x1 = (jac x0 x1 6).yy := by
  unfold kernelRun0_A.sl.r_130
  simp only [r_117, r_127, r_128, r_129, k0_pay187]
  have h := pay191 (jac x0 x1 4)
  try simp only [jac_5, jac_6, jac_7, keep_3, keep_4, keep_5, keep_6, keep_7] at h
  try simp only [keep_3, keep_4, keep_5, keep_6, keep_7]
  exact h

theorem r_131 :
    kernelRun0_A.sl.r_131 c arg2 harg2 arg3 harg3 x0 x1 = (jac x0 x1 6).zz := by
  unfold kernelRun0_A.sl.r_131
  simp only [r_125, r_127, r_128, r_129, k0_pay187]
  have h := pay192 (jac x0 x1 4)
  try simp only [jac_5, jac_6, jac_7, keep_3, keep_4, keep_5, keep_6, keep_7] at h
  try simp only [keep_3, keep_4, keep_5, keep_6, keep_7]
  exact h

theorem r_132 :
    kernelRun0_A.sl.r_132 c arg2 harg2 arg3 harg3 x0 x1 = (jac x0 x1 6).xy := by
  unfold kernelRun0_A.sl.r_132
  simp only [r_126, k0_pay184, r_128, r_129, k0_pay187]
  have h := pay193 (jac x0 x1 4)
  try simp only [jac_5, jac_6, jac_7, keep_3, keep_4, keep_5, keep_6, keep_7] at h
  try simp only [keep_3, keep_4, keep_5, keep_6, keep_7]
  exact h

theorem r_133 :
    kernelRun0_A.sl.r_133 c arg2 harg2 arg3 harg3 x0 x1 = (jac x0 x1 6).xz := by
  unfold kernelRun0_A.sl.r_133
  simp only [r_126, k0_pay184, r_128, r_129, k0_pay187]
  have h := pay194 (jac x0 x1 4)
  try simp only [jac_5, jac_6, jac_7, keep_3, keep_4, keep_5, keep_6, keep_7] at h
  try simp only [keep_3, keep_4, keep_5, keep_6, keep_7]
  exact h

theorem r_134 :
    kernelRun0_A.sl.r_134 c arg2 harg2 arg3 harg3 x0 x1 = (tn (jac x0 x1 6).xx (jac x0 x1 6).yy (jac x0 x1 6).xy) := by
  unfold kernelRun0_A.sl.r_134
  simp only [r_117, r_124, r_126, r_127, k0_pay184, r_128, r_129, k0_pay187]
  have h := pay196 (jac x0 x1 4)
  try simp only [jac_5, jac_6, jac_7, keep_3, keep_4, keep_5, keep_6, keep_7] at h
  try simp only [keep_3, keep_4, keep_5, keep_6, keep_7]
  exact h

theorem r_135 :
    kernelRun0_A.sl.r_135 c arg2 harg2 arg3 harg3 x0 x1 = (sqrt (addf (mulf (tn (jac x0 x1 6).xx (jac x0 x1 6).yy (jac x0 x1 6).xy) (tn (jac x0 x1 6).xx (jac x0 x1 6).yy (jac x0 x1 6).xy)) (broadcast S256x1 (Scalar.ofBits .f32 0x3F800000#32 : F .f32)))) := by
  unfold kernelRun0_A.sl.r_135
  simp only [r_117, r_124, r_126, r_127, k0_pay184, r_128, r_129, k0_pay187]
  have h := pay197 (jac x0 x1 4)
  try simp only [jac_5, jac_6, jac_7, keep_3, keep_4, keep_5, keep_6, keep_7] at h
  try simp only [keep_3, keep_4, keep_5, keep_6, keep_7]
  exact h

theorem r_136 :
    kernelRun0_A.sl.r_136 c arg2 harg2 arg3 harg3 x0 x1 = (jac x0 x1 7).yy := by
  unfold kernelRun0_A.sl.r_136
  simp only [r_130, r_132, r_134, r_129]
  have h := pay202 (jac x0 x1 5)
  try simp only [jac_6, jac_7, jac_8, keep_4, keep_5, keep_6, keep_7, keep_8] at h
  try simp only [keep_4, keep_5, keep_6, keep_7, keep_8]
  exact h

theorem r_137 :
    kernelRun0_A.sl.r_137 c arg2 harg2 arg3 harg3 x0 x1 = (jac x0 x1 7).yz := by
  unfold kernelRun0_A.sl.r_137
  simp only [r_133, k0_pay195, r_134, r_135, k0_pay198]
  have h := pay204 (jac x0 x1 5)
  try simp only [jac_6, jac_7, jac_8, keep_4, keep_5, keep_6, keep_7, keep_8] at h
  try simp only [keep_4, keep_5, keep_6, keep_7, keep_8]
  exact h

theorem r_138 :
    kernelRun0_A.sl.r_138 c arg2 harg2 arg3 harg3 x0 x1 = (cs (jac x0 x1 7).xx (jac x0 x1 7).zz (jac x0 x1 7).xz) := by
  unfold kernelRun0_A.sl.r_138
  simp only [r_124, r_131, r_132, r_133, k0_pay195, r_134, r_135, k0_pay198]
  have h := pay207 (jac x0 x1 5)
  try simp only [jac_6, jac_7, jac_8, keep_4, keep_5, keep_6, keep_7, keep_8] at h
  try simp only [keep_4, keep_5, keep_6, keep_7, keep_8]
  exact h

theorem r_139 :
    kernelRun0_A.sl.r_139 c arg2 harg2 arg3 harg3 x0 x1 = (sn (jac x0 x1 7).xx (jac x0 x1 7).zz (jac x0 x1 7).xz) := by
  unfold kernelRun0_A.sl.r_139
  simp only [r_124, r_131, r_132, r_133, k0_pay195, r_134, r_135, k0_pay198]
  have h := pay208 (jac x0 x1 5)
  try simp only [jac_6, jac_7, jac_8, keep_4, keep_5, keep_6, keep_7, keep_8] at h
  try simp only [keep_4, keep_5, keep_6, keep_7, keep_8]
  exact h

theorem r_140 :
    kernelRun0_A.sl.r_140 c arg2 harg2 arg3 harg3 x0 x1 = (jac x0 x1 8).xx := by
  unfold kernelRun0_A.sl.r_140
  simp only [r_124, r_131, r_132, r_133, k0_pay195, r_134, r_135, k0_pay198]
  have h := pay209 (jac x0 x1 5)
  try simp only [jac_6, jac_7, jac_8, keep_4, keep_5, keep_6, keep_7, keep_8] at h
  try simp only [keep_4, keep_5, keep_6, keep_7, keep_8]
  exact h

theorem r_141 :
    kernelRun0_A.sl.r_141 c arg2 harg2 arg3 harg3 x0 x1 = (jac x0 x1 8).zz := by
  unfold kernelRun0_A.sl.r_141
  simp only [r_124, r_131, r_132, r_133, k0_pay195, r_134, r_135, k0_pay198]
  have h := pay210 (jac x0 x1 5)
  try simp only [jac_6, jac_7, jac_8, keep_4, keep_5, keep_6, keep_7, keep_8] at h
  try simp only [keep_4, keep_5, keep_6, keep_7, keep_8]
  exact h

theorem r_142 :
    kernelRun0_A.sl.r_142 c arg2 harg2 arg3 harg3 x0 x1 = (mulf (cs (jac x0 x1 7).xx (jac x0 x1 7).zz (jac x0 x1 7).xz) (broadcast S256x1 (Scalar.ofBits .f32 0x00000000#32 : F .f32))) := by
  unfold kernelRun0_A.sl.r_142
  simp only [r_124, r_131, r_132, r_133, k0_pay195, r_134, r_135, k0_pay198]
  have h := pay211 (jac x0 x1 5)
  try simp only [jac_6, jac_7, jac_8, keep_4, keep_5, keep_6, keep_7, keep_8] at h
  try simp only [keep_4, keep_5, keep_6, keep_7, keep_8]
  exact h

theorem r_143 :
    kernelRun0_A.sl.r_143 c arg2 harg2 arg3 harg3 x0 x1 = (mulf (sn (jac x0 x1 7).xx (jac x0 x1 7).zz (jac x0 x1 7).xz) (jac x0 x1 7).yz) := by
  unfold kernelRun0_A.sl.r_143
  simp only [r_124, r_131, r_132, r_133, k0_pay195, r_134, r_135, k0_pay198]
  have h := pay212 (jac x0 x1 5)
  try simp only [jac_6, jac_7, jac_8, keep_4, keep_5, keep_6, keep_7, keep_8] at h
  try simp only [keep_4, keep_5, keep_6, keep_7, keep_8]
  exact h

theorem r_144 :
    kernelRun0_A.sl.r_144 c arg2 harg2 arg3 harg3 x0 x1 = (jac x0 x1 9).yy := by
  unfold kernelRun0_A.sl.r_144
  simp only [r_136, r_137, k0_pay205, r_138, r_139, r_141]
  have h := pay219 (jac x0 x1 6)
  try simp only [jac_7, jac_8, jac_9, keep_5, keep_6, keep_7, keep_8, keep_9] at h
  try simp only [keep_5, keep_6, keep_7, keep_8, keep_9]
  exact h

theorem r_145 :
    kernelRun0_A.sl.r_145 c arg2 harg2 arg3 harg3 x0 x1 = (jac x0 x1 9).zz := by
  unfold kernelRun0_A.sl.r_145
  simp only [r_136, r_137, k0_pay205, r_138, r_139, r_141]
  have h := pay220 (jac x0 x1 6)
  try simp only [jac_7, jac_8, jac_9, keep_5, keep_6, keep_7, keep_8, keep_9] at h
  try simp only [keep_5, keep_6, keep_7, keep_8, keep_9]
  exact h

theorem r_146 :
    kernelRun0_A.sl.r_146 c arg2 harg2 arg3 harg3 x0 x1 = (jac x0 x1 9).xy := by
  unfold kernelRun0_A.sl.r_146
  simp only [r_136, r_137, k0_pay205, r_138, r_139, r_141, r_142, r_143]
  have h := pay221 (jac x0 x1 6)
  try simp only [jac_7, jac_8, jac_9, keep_5, keep_6, keep_7, keep_8, keep_9] at h
  try simp only [keep_5, keep_6, keep_7, keep_8, keep_9]
  exact h

theorem r_147 :
    kernelRun0_A.sl.r_147 c arg2 harg2 arg3 harg3 x0 x1 = (jac x0 x1 9).xz := by
  unfold kernelRun0_A.sl.r_147
  simp only [r_136, r_137, k0_pay205, r_138, r_139, r_141, r_142, r_143]
  have h := pay222 (jac x0 x1 6)
  try simp only [jac_7, jac_8, jac_9, keep_5, keep_6, keep_7, keep_8, keep_9] at h
  try simp only [keep_5, keep_6, keep_7, keep_8, keep_9]
  exact h

theorem r_148 :
    kernelRun0_A.sl.r_148 c arg2 harg2 arg3 harg3 x0 x1 = (absf (jac x0 x1 9).xy) := by
  unfold kernelRun0_A.sl.r_148
  simp only [r_136, r_137, k0_pay205, r_138, r_139, r_141, r_142, r_143]
  have h := pay224 (jac x0 x1 6)
  try simp only [jac_7, jac_8, jac_9, keep_5, keep_6, keep_7, keep_8, keep_9] at h
  try simp only [keep_5, keep_6, keep_7, keep_8, keep_9]
  exact h

theorem r_149 :
    kernelRun0_A.sl.r_149 c arg2 harg2 arg3 harg3 x0 x1 = (jac x0 x1 10).xx := by
  unfold kernelRun0_A.sl.r_149
  simp only [r_140, r_144, r_146, r_148, kernelRun0_A.sl.cst_41]
  have h := pay228 (jac x0 x1 8)
  try simp only [jac_9, jac_10, jac_11, keep_7, keep_8, keep_9, keep_10, keep_11] at h
  try simp only [keep_7, keep_8, keep_9, keep_10, keep_11]
  exact h

theorem r_150 :
    kernelRun0_A.sl.r_150 c arg2 harg2 arg3 harg3 x0 x1 = (jac x0 x1 10).yy := by
  unfold kernelRun0_A.sl.r_150
  simp only [r_140, r_144, r_146, r_148, kernelRun0_A.sl.cst_41]
  have h := pay229 (jac x0 x1 8)
  try simp only [jac_9, jac_10, jac_11, keep_7, keep_8, keep_9, keep_10, keep_11] at h
  try simp only [keep_7, keep_8, keep_9, keep_10, keep_11]
  exact h

theorem r_151 :
    kernelRun0_A.sl.r_151 c arg2 harg2 arg3 harg3 x0 x1 = (jac x0 x1 10).xz := by
  unfold kernelRun0_A.sl.r_151
  simp only [r_140, r_144, r_146, r_147, k0_pay223, r_148, kernelRun0_A.sl.cst_41]
  have h := pay230 (jac x0 x1 8)
  try simp only [jac_9, jac_10, jac_11, keep_7, keep_8, keep_9, keep_10, keep_11] at h
  try simp only [keep_7, keep_8, keep_9, keep_10, keep_11]
  exact h

theorem r_152 :
    kernelRun0_A.sl.r_152 c arg2 harg2 arg3 harg3 x0 x1 = (jac x0 x1 10).yz := by
  unfold kernelRun0_A.sl.r_152
  simp only [r_140, r_144, r_146, r_147, k0_pay223, r_148, kernelRun0_A.sl.cst_41, r_145]
  have h := pay231 (jac x0 x1 8)
  try simp only [jac_9, jac_10, jac_11, keep_7, keep_8, keep_9, keep_10, keep_11] at h
  try simp only [keep_7, keep_8, keep_9, keep_10, keep_11]
  exact h

theorem r_153 :
    kernelRun0_A.sl.r_153 c arg2 harg2 arg3 harg3 x0 x1 = (cmpf .ogt (absf (jac x0 x1 10).xz) (broadcast S256x1 (Scalar.ofBits .f32 0x00000000#32 : F .f32))) := by
  unfold kernelRun0_A.sl.r_153
  simp only [r_140, r_144, r_146, r_147, k0_pay223, r_148, kernelRun0_A.sl.cst_41]
  have h := pay233 (jac x0 x1 8)
  try simp only [jac_9, jac_10, jac_11, keep_7, keep_8, keep_9, keep_10, keep_11] at h
  try simp only [keep_7, keep_8, keep_9, keep_10, keep_11]
  exact h

theorem r_154 :
    kernelRun0_A.sl.r_154 c arg2 harg2 arg3 harg3 x0 x1 = (subf (jac x0 x1 9).zz (jac x0 x1 10).xx) := by
  unfold kernelRun0_A.sl.r_154
  simp only [r_140, r_144, r_145, r_146, r_148, kernelRun0_A.sl.cst_41]
  have h := pay234 (jac x0 x1 8)
  try simp only [jac_9, jac_10, jac_11, keep_7, keep_8, keep_9, keep_10, keep_11] at h
  try simp only [keep_7, keep_8, keep_9, keep_10, keep_11]
  exact h

theorem r_155 :
    kernelRun0_A.sl.r_155 c arg2 harg2 arg3 harg3 x0 x1 = (mulf (broadcast S256x1 (Scalar.ofBits .f32 0x40000000#32 : F .f32)) (jac x0 x1 10).xz) := by
  unfold kernelRun0_A.sl.r_155
  simp only [r_140, r_144, r_146, r_147, k0_pay223, r_148, kernelRun0_A.sl.cst_41]
  have h := pay235 (jac x0 x1 8)
  try simp only [jac_9, jac_10, jac_11, keep_7, keep_8, keep_9, keep_10, keep_11] at h
  try simp only [keep_7, keep_8, keep_9, keep_10, keep_11]
  exact h

theorem r_156 :
    kernelRun0_A.sl.r_156 c arg2 harg2 arg3 harg3 x0 x1 = (jac x0 x1 11).xx := by
  unfold kernelRun0_A.sl.r_156
  simp only [r_149, r_151, r_153, r_154, r_155, k0_pay236]
  have h := pay240 (jac x0 x1 9)
  try simp only [jac_10, jac_11, jac_12, keep_8, keep_9, keep_10, keep_11, keep_12] at h
  try simp only [keep_8, keep_9, keep_10, keep_11, keep_12]
  exact h

theorem r_157 :
    kernelRun0_A.sl.r_157 c arg2 harg2 arg3 harg3 x0 x1 = (jac x0 x1 11).zz := by
  unfold kernelRun0_A.sl.r_157
  simp only [r_145, r_151, r_153, r_154, r_155, k0_pay236]
  have h := pay241 (jac x0 x1 9)
  try simp only [jac_10, jac_11, jac_12, keep_8, keep_9, keep_10, keep_11, keep_12] at h
  try simp only [keep_8, keep_9, keep_10, keep_11, keep_12]
  exact h

theorem r_158 :
    kernelRun0_A.sl.r_158 c arg2 harg2 arg3 harg3 x0 x1 = (jac x0 x1 11).xy := by
  unfold kernelRun0_A.sl.r_158
  simp only [r_152, k0_pay232, r_153, r_154, r_155, k0_pay236]
  have h := pay242 (jac x0 x1 9)
  try simp only [jac_10, jac_11, jac_12, keep_8, keep_9, keep_10, keep_11, keep_12] at h
  try simp only [keep_8, keep_9, keep_10, keep_11, keep_12]
  exact h

theorem r_159 :
    kernelRun0_A.sl.r_159 c arg2 harg2 arg3 harg3 x0 x1 = (jac x0 x1 11).yz := by
  unfold kernelRun0_A.sl.r_159
  simp only [r_152, k0_pay232, r_153, r_154, r_155, k0_pay236]
  have h := pay243 (jac x0 x1 9)
  try simp only [jac_10, jac_11, jac_12, keep_8, keep_9, keep_10, keep_11, keep_12] at h
  try simp only [keep_8, keep_9, keep_10, keep_11, keep_12]
  exact h

theorem r_160 :
    kernelRun0_A.sl.r_160 c arg2 harg2 arg3 harg3 x0 x1 = (cmpf .ogt (absf (jac x0 x1 11).yz) (broadcast S256x1 (Scalar.ofBits .f32 0x00000000#32 : F .f32))) := by
  unfold kernelRun0_A.sl.r_160
  simp only [r_152, k0_pay232, r_153, r_154, r_155, k0_pay236]
  have h := pay245 (jac x0 x1 9)
  try simp only [jac_10, jac_11, jac_12, keep_8, keep_9, keep_10, keep_11, keep_12] at h
  try simp only [keep_8, keep_9, keep_10, keep_11, keep_12]
  exact h

theorem r_161 :
    kernelRun0_A.sl.r_161 c arg2 harg2 arg3 harg3 x0 x1 = (divf (subf (jac x0 x1 11).zz (jac x0 x1 10).yy) (select (cmpf .ogt (absf (jac x0 x1 11).yz) (broadcast S256x1 (Scalar.ofBits .f32 0x00000000#32 : F .f32))) (mulf (broadcast S256x1 (Scalar.ofBits .f32 0x40000000#32 : F .f32)) (jac x0 x1 11).yz) (broadcast S256x1 (Scalar.ofBits .f32 0x3F800000#32 : F .f32)))) := by
  unfold kernelRun0_A.sl.r_161
  simp only [r_145, r_150, r_151, r_152, k0_pay232, r_153, r_154, r_155, k0_pay236]
  have h := pay246 (jac x0 x1 9)
  try simp only [jac_10, jac_11, jac_12, keep_8, keep_9, keep_10, keep_11, keep_12] at h
  try simp only [keep_8, keep_9, keep_10, keep_11, keep_12]
  exact h

theorem r_162 :
    kernelRun0_A.sl.r_162 c arg2 harg2 arg3 harg3 x0 x1 = (cmpf .oge (divf (subf (jac x0 x1 11).zz (jac x0 x1 10).yy) (select (cmpf .ogt (absf (jac x0 x1 11).yz) (broadcast S256x1 (Scalar.ofBits .f32 0x00000000#32 : F .f32))) (mulf (broadcast S256x1 (Scalar.ofBits .f32 0x40000000#32 : F .f32)) (jac x0 x1 11).yz) (broadcast S256x1 (Scalar.ofBits .f32 0x3F800000#32 : F .f32)))) (broadcast S256x1 (Scalar.ofBits .f32 0x00000000#32 : F .f32))) := by
  unfold kernelRun0_A.sl.r_162
  simp only [r_145, r_150, r_151, r_152, k0_pay232, r_153, r_154, r_155, k0_pay236]
  have h := pay247 (jac x0 x1 9)
  try simp only [jac_10, jac_11, jac_12, keep_8, keep_9, keep_10, keep_11, keep_12] at h
  try simp only [keep_8, keep_9, keep_10, keep_11, keep_12]
  exact h

theorem r_163 :
    kernelRun0_A.sl.r_163 c arg2 harg2 arg3 harg3 x0 x1 = (jac x0 x1 12).yy := by
  unfold kernelRun0_A.sl.r_163
  simp only [r_150, r_159, r_160, r_161, r_162, kernelRun0_A.sl.cst_313, k0_pay248]
  have h := pay252 (jac x0 x1 10)
  try simp only [jac_11, jac_12, jac_13, keep_9, keep_10, keep_11, keep_12, keep_13] at h
  try simp only [keep_9, keep_10, keep_11, keep_12, keep_13]
  exact h

theorem r_164 :
    kernelRun0_A.sl.r_164 c arg2 harg2 arg3 harg3 x0 x1 = (jac x0 x1 12).zz := by
  unfold kernelRun0_A.sl.r_164
  simp only [r_157, r_159, r_160, r_161, r_162, kernelRun0_A.sl.cst_313, k0_pay248]
  have h := pay253 (jac x0 x1 10)
  try simp only [jac_11, jac_12, jac_13, keep_9, keep_10, keep_11, keep_12, keep_13] at h
  try simp only [keep_9, keep_10, keep_11, keep_12, keep_13]
  exact h

theorem r_165 :
    kernelRun0_A.sl.r_165 c arg2 harg2 arg3 harg3 x0 x1 = (jac x0 x1 12).xy := by
  unfold kernelRun0_A.sl.r_165
  simp only [r_158, k0_pay244, r_160, r_161, r_162, kernelRun0_A.sl.cst_313, k0_pay248]
  have h := pay254 (jac x0 x1 10)
  try simp only [jac_11, jac_12, jac_13, keep_9, keep_10, keep_11, keep_12, keep_13] at h
  try simp only [keep_9, keep_10, keep_11, keep_12, keep_13]
  exact h

theorem r_166 :
    kernelRun0_A.sl.r_166 c arg2 harg2 arg3 harg3 x0 x1 = (jac x0 x1 12).xz := by
  unfold kernelRun0_A.sl.r_166
  simp only [r_158, k0_pay244, r_160, r_161, r_162, kernelRun0_A.sl.cst_313, k0_pay248]
  have h := pay255 (jac x0 x1 10)
  try simp only [jac_11, jac_12, jac_13, keep_9, keep_10, keep_11, keep_12, keep_13] at h
  try simp only [keep_9, keep_10, keep_11, keep_12, keep_13]
  exact h

theorem r_167 :
    kernelRun0_A.sl.r_167 c arg2 harg2 arg3 harg3 x0 x1 = (cmpf .ogt (absf (jac x0 x1 12).xy) (broadcast S256x1 (Scalar.ofBits .f32 0x00000000#32 : F .f32))) := by
  unfold kernelRun0_A.sl.r_167
  simp only [r_158, k0_pay244, r_160, r_161, r_162, kernelRun0_A.sl.cst_313, k0_pay248]
  have h := pay257 (jac x0 x1 10)
  try simp only [jac_11, jac_12, jac_13, keep_9, keep_10, keep_11, keep_12, keep_13] at h
  try simp only [keep_9, keep_10, keep_11, keep_12, keep_13]
  exact h

theorem r_168 :
    kernelRun0_A.sl.r_168 c arg2 harg2 arg3 harg3 x0 x1 = (select (cmpf .oge (divf (subf (jac x0 x1 12).yy (jac x0 x1 11).xx) (select (cmpf .ogt (absf (jac x0 x1 12).xy) (broadcast S256x1 (Scalar.ofBits .f32 0x00000000#32 : F .f32))) (mulf (broadcast S256x1 (Scalar.ofBits .f32 0x40000000#32 : F .f32)) (jac x0 x1 12).xy) (broadcast S256x1 (Scalar.ofBits .f32 0x3F800000#32 : F .f32)))) (broadcast S256x1 (Scalar.ofBits .f32 0x00000000#32 : F .f32))) (broadcast S256x1 (Scalar.ofBits .f32 0x3F800000#32 : F .f32)) (broadcast S256x1 (Scalar.ofBits .f32 0xBF800000#32 : F .f32))) := by
  unfold kernelRun0_A.sl.r_168
  simp only [r_150, r_156, r_158, r_159, k0_pay244, r_160, r_161, r_162, kernelRun0_A.sl.cst_313, k0_pay248]
  have h := pay259 (jac x0 x1 10)
  try simp only [jac_11, jac_12, jac_13, keep_9, keep_10, keep_11, keep_12, keep_13] at h
  try simp only [keep_9, keep_10, keep_11, keep_12, keep_13]
  exact h

theorem r_169 :
    kernelRun0_A.sl.r_169 c arg2 harg2 arg3 harg3 x0 x1 = (absf (divf (subf (jac x0 x1 12).yy (jac x0 x1 11).xx) (select (cmpf .ogt (absf (jac x0 x1 12).xy) (broadcast S256x1 (Scalar.ofBits .f32 0x00000000#32 : F .f32))) (mulf (broadcast S256x1 (Scalar.ofBits .f32 0x40000000#32 : F .f32)) (jac x0 x1 12).xy) (broadcast S256x1 (Scalar.ofBits .f32 0x3F800000#32 : F .f32))))) := by
  unfold kernelRun0_A.sl.r_169
  simp only [r_150, r_156, r_158, r_159, k0_pay244, r_160, r_161, r_162, kernelRun0_A.sl.cst_313, k0_pay248]
  have h := pay260 (jac x0 x1 10)
  try simp only [jac_11, jac_12, jac_13, keep_9, keep_10, keep_11, keep_12, keep_13] at h
  try simp only [keep_9, keep_10, keep_11, keep_12, keep_13]
  exact h

theorem r_170 :
    kernelRun0_A.sl.r_170 c arg2 harg2 arg3 harg3 x0 x1 = (sqrt (addf (mulf (divf (subf (jac x0 x1 12).yy (jac x0 x1 11).xx) (select (cmpf .ogt (absf (jac x0 x1 12).xy) (broadcast S256x1 (Scalar.ofBits .f32 0x00000000#32 : F .f32))) (mulf (broadcast S256x1 (Scalar.ofBits .f32 0x40000000#32 : F .f32)) (jac x0 x1 12).xy) (broadcast S256x1 (Scalar.ofBits .f32 0x3F800000#32 : F .f32)))) (divf (subf (jac x0 x1 12).yy (jac x0 x1 11).xx) (select (cmpf .ogt (absf (jac x0 x1 12).xy) (broadcast S256x1 (Scalar.ofBits .f32 0x00000000#32 : F .f32))) (mulf (broadcast S256x1 (Scalar.ofBits .f32 0x40000000#32 : F .f32)) (jac x0 x1 12).xy) (broadcast S256x1 (Scalar.ofBits .f32 0x3F800000#32 : F .f32))))) (broadcast S256x1 (Scalar.ofBits .f32 0x3F800000#32 : F .f32)))) := by
  unfold kernelRun0_A.sl.r_170
  simp only [r_150, r_156, r_158, r_159, k0_pay244, r_160, r_161, r_162, kernelRun0_A.sl.cst_313, k0_pay248]
  have h := pay261 (jac x0 x1 10)
  try simp only [jac_11, jac_12, jac_13, keep_9, keep_10, keep_11, keep_12, keep_13] at h
  try simp only [keep_9, keep_10, keep_11, keep_12, keep_13]
  exact h

theorem r_171 :
    kernelRun0_A.sl.r_171 c arg2 harg2 arg3 harg3 x0 x1 = (jac x0 x1 13).xx := by
  unfold kernelRun0_A.sl.r_171
  simp only [r_156, r_165, r_167, r_168, r_169, r_170]
  have h := pay265 (jac x0 x1 11)
  try simp only [jac_12, jac_13, jac_14, keep_10, keep_11, keep_12, keep_13, keep_14] at h
  try simp only [keep_10, keep_11, keep_12, keep_13, keep_14]
  exact h

theorem r_172 :
    kernelRun0_A.sl.r_172 c arg2 harg2 arg3 harg3 x0 x1 = (jac x0 x1 13).yy := by
  unfold kernelRun0_A.sl.r_172
  simp only [r_163, r_165, r_167, r_168, r_169, r_170]
  have h := pay266 (jac x0 x1 11)
  try simp only [jac_12, jac_13, jac_14, keep_10, keep_11, keep_12, keep_13, keep_14] at h
  try simp only [keep_10, keep_11, keep_12, keep_13, keep_14]
  exact h

theorem r_173 :
    kernelRun0_A.sl.r_173 c arg2 harg2 arg3 harg3 x0 x1 = (jac x0 x1 13).xz := by
  unfold kernelRun0_A.sl.r_173
  simp only [r_166, k0_pay256, r_167, r_168, r_169, r_170]
  have h := pay267 (jac x0 x1 11)
  try simp only [jac_12, jac_13, jac_14, keep_10, keep_11, keep_12, keep_13, keep_14] at h
  try simp only [keep_10, keep_11, keep_12, keep_13, keep_14]
  exact h

theorem r_174 :
    kernelRun0_A.sl.r_174 c arg2 harg2 arg3 harg3 x0 x1 = (jac x0 x1 13).yz := by
  unfold kernelRun0_A.sl.r_174
  simp only [r_166, k0_pay256, r_167, r_168, r_169, r_170]
  have h := pay268 (jac x0 x1 11)
  try simp only [jac_12, jac_13, jac_14, keep_10, keep_11, keep_12, keep_13, keep_14] at h
  try simp only [keep_10, keep_11, keep_12, keep_13, keep_14]
  exact h

theorem r_175 :
    kernelRun0_A.sl.r_175 c arg2 harg2 arg3 harg3 x0 x1 = (tn (jac x0 x1 13).xx (jac x0 x1 13).zz (jac x0 x1 13).xz) := by
  unfold kernelRun0_A.sl.r_175
  simp only [r_156, r_164, r_165, r_166, k0_pay256, r_167, r_168, r_169, r_170]
  have h := pay270 (jac x0 x1 11)
  try simp only [jac_12, jac_13, jac_14, keep_10, keep_11, keep_12, keep_13, keep_14] at h
  try simp only [keep_10, keep_11, keep_12, keep_13, keep_14]
  exact h

theorem r_176 :
    kernelRun0_A.sl.r_176 c arg2 harg2 arg3 harg3 x0 x1 = (mulf (tn (jac x0 x1 13).xx (jac x0 x1 13).zz (jac x0 x1 13).xz) (tn (jac x0 x1 13).xx (jac x0 x1 13).zz (jac x0 x1 13).xz)) := by
  unfold kernelRun0_A.sl.r_176
  simp only [r_156, r_164, r_165, r_166, k0_pay256, r_167, r_168, r_169, r_170]
  have h := pay271 (jac x0 x1 11)
  try simp only [jac_12, jac_13, jac_14, keep_10, keep_11, keep_12, keep_13, keep_14] at h
  try simp only [keep_10, keep_11, keep_12, keep_13, keep_14]
  exact h

theorem r_177 :
    kernelRun0_A.sl.r_177 c arg2 harg2 arg3 harg3 x0 x1 = (absf (jac x0 x1 15).zz) := by
  unfold kernelRun0_A.sl.r_177
  simp only [r_164, r_172, r_173, r_174, k0_pay269, r_175, r_176, k0_pay272]
  have h := pay278 (jac x0 x1 12)
  try simp only [jac_13, jac_14, jac_15, keep_11, keep_12, keep_13, keep_14, keep_15] at h
  try simp only [keep_11, keep_12, keep_13, keep_14, keep_15]
  exact h

theorem r_178 :
    kernelRun0_A.sl.r_178 c arg2 harg2 arg3 harg3 x0 x1 = (minimumf (absf (jac x0 x1 14).xx) (absf (jac x0 x1 15).yy)) := by
  unfold kernelRun0_A.sl.r_178
  simp only [r_164, r_171, r_172, r_173, r_174, k0_pay269, r_175, r_176, k0_pay272]
  have h := pay280 (jac x0 x1 12)
  try simp only [jac_13, jac_14, jac_15, keep_11, keep_12, keep_13, keep_14, keep_15] at h
  try simp only [keep_11, keep_12, keep_13, keep_14, keep_15]
  exact h

theorem r_179 :
    kernelRun0_A.sl.r_179 c arg2 harg2 arg3 harg3 x0 x1 = (addf (maximumf (maximumf (absf (jac x0 x1 14).xx) (absf (jac x0 x1 15).yy)) (absf (jac x0 x1 15).zz)) (broadcast S256x1 (Scalar.ofBits .f32 0x322BCC77#32 : F .f32))) := by
  unfold kernelRun0_A.sl.r_179
  simp only [r_164, r_171, r_172, r_173, r_174, k0_pay269, r_175, r_176, k0_pay272]
  have h := pay281 (jac x0 x1 12)
  try simp only [jac_13, jac_14, jac_15, keep_11, keep_12, keep_13, keep_14, keep_15] at h
  try simp only [keep_11, keep_12, keep_13, keep_14, keep_15]
  exact h

theorem r_180 :
    kernelRun0_A.sl.r_180 c arg2 harg2 arg3 harg3 x0 x1 = (maximumf (minimumf (absf (jac x0 x1 14).xx) (absf (jac x0 x1 15).yy)) (minimumf (maximumf (absf (jac x0 x1 14).xx) (absf (jac x0 x1 15).yy)) (absf (jac x0 x1 15).zz))) := by
  unfold kernelRun0_A.sl.r_180
  simp only [r_164, r_171, r_172, r_173, r_174, k0_pay269, r_175, r_176, k0_pay272]
  have h := pay282 (jac x0 x1 12)
  try simp only [jac_13, jac_14, jac_15, keep_11, keep_12, keep_13, keep_14, keep_15] at h
  try simp only [keep_11, keep_12, keep_13, keep_14, keep_15]
  exact h

end

end Cert.KernelIdeal.Score

end
-- ==== Proof.Orders.lean ====
/-
  A stable sort of positions by a key, read: the position it puts at rank `i` comes strictly before the one at rank `j > i`, in
  the order of the keys and then of the positions (`before_sortedFrom`); and that determines it (`eq_sortedFrom`).
-/
module

public import Idealize.ShloMosaic.Lib.SortFacts
public import Mathlib.Data.Prod.Lex
public import Mathlib.Order.Fin.Basic
public import Mathlib.Data.Fintype.EquivFin

@[expose] public section

namespace Cert.Orders

open Idealize.ShloMosaic

variable {n : Nat} {α : Type} [LinearOrder α]

/-- `a` comes before `b`: a lesser key, or the same key at a lower position. -/
def Before (f : Fin n → α) (a b : Fin n) : Prop := f a < f b ∨ (f a = f b ∧ a < b)

theorem before_trans {f : Fin n → α} {a b c : Fin n} (h : Before f a b) (h' : Before f b c) : Before f a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem before_irrefl {f : Fin n → α} (a : Fin n) : ¬Before f a a := by
  rintro (h | ⟨-, h⟩)
  · exact lt_irrefl _ h
  · exact lt_irrefl _ h

theorem before_total {f : Fin n → α} {a b : Fin n} (h : a ≠ b) : Before f a b ∨ Before f b a := by
  rcases lt_trichotomy (f a) (f b) with k | k | k
  · exact Or.inl (Or.inl k)
  · rcases lt_or_gt_of_ne h with q | q
    · exact Or.inl (Or.inr ⟨k, q⟩)
    · exact Or.inr (Or.inr ⟨k.symm, q⟩)
  · exact Or.inr (Or.inl k)

theorem pairwise_insertBefore (f : Fin n → α) (a : Fin n) (l : List (Fin n)) (ha : ∀ b ∈ l, a < b) (hl : l.Pairwise (Before f)) :
    (insertBefore (fun k k' => decide (f k < f k')) a l).Pairwise (Before f) := by
  induction l with
  | nil => exact List.pairwise_singleton _ _
  | cons b l ih =>
    have hab := ha b List.mem_cons_self
    have ih' := ih (fun c hc => ha c (List.mem_cons_of_mem _ hc)) (List.pairwise_cons.mp hl).2
    unfold insertBefore
    by_cases h : f b < f a
    · rw [if_pos (by simpa using h)]
      refine List.pairwise_cons.mpr ⟨fun c hc => ?_, ih'⟩
      rcases List.mem_cons.mp ((perm_insertBefore _ a l).mem_iff.mp hc) with rfl | hc
      · exact Or.inl h
      · exact (List.pairwise_cons.mp hl).1 c hc
    · rw [if_neg (by simpa using h)]
      have hB : Before f a b := by
        rcases lt_or_eq_of_le (not_lt.mp h) with k | k
        · exact Or.inl k
        · exact Or.inr ⟨k, hab⟩
      refine List.pairwise_cons.mpr ⟨fun c hc => ?_, hl⟩
      rcases List.mem_cons.mp hc with rfl | hc
      · exact hB
      · exact before_trans hB ((List.pairwise_cons.mp hl).1 c hc)

theorem pairwise_stableSort (f : Fin n → α) (l : List (Fin n)) (hl : l.Pairwise (· < ·)) :
    (stableSort (fun k k' => decide (f k < f k')) l).Pairwise (Before f) := by
  induction l with
  | nil => exact List.Pairwise.nil
  | cons a l ih =>
    unfold stableSort
    refine pairwise_insertBefore f a _ (fun b hb => ?_) (ih (List.pairwise_cons.mp hl).2)
    exact (List.pairwise_cons.mp hl).1 b ((perm_stableSort _ l).mem_iff.mp hb)

/-- The stable sort's positions are in order. -/
theorem before_sortedFrom (f : Fin n → α) {i j : Fin n} (h : i < j) :
    Before f (sortedFrom (fun k k' => decide (f k < f k')) i) (sortedFrom (fun k k' => decide (f k < f k')) j) :=
  List.pairwise_iff_get.mp (pairwise_stableSort f _ (List.pairwise_lt_finRange n)) _ _ h

/-- Two arrangements in order, one of them of all positions, agree at every rank where what the other has placed is
    everything before its next: here, two arrangements of all positions in order are one. -/
theorem eq_of_before (f : Fin n → α) (σ τ : Fin n → Fin n) (hσ : ∀ i j, i < j → Before f (σ i) (σ j))
    (hτ : ∀ i j, i < j → Before f (τ i) (τ j)) : σ = τ := by
  have inj : ∀ ρ : Fin n → Fin n, (∀ i j, i < j → Before f (ρ i) (ρ j)) → Function.Injective ρ := by
    intro ρ h i j e
    rcases lt_trichotomy i j with k | k | k
    · exact absurd (e ▸ h i j k) (before_irrefl _)
    · exact k
    · exact absurd (e ▸ h j i k) (before_irrefl _)
  have sur : ∀ ρ : Fin n → Fin n, (∀ i j, i < j → Before f (ρ i) (ρ j)) → Function.Surjective ρ :=
    fun ρ h => Finite.injective_iff_surjective.mp (inj ρ h)
  funext i
  induction i using WellFoundedLT.induction with
  | ind i ih =>
    by_contra hne
    -- the one that comes first of the two is placed elsewhere by the other: not before rank `i`, not after it
    have key : ∀ ρ π : Fin n → Fin n, (∀ i j, i < j → Before f (ρ i) (ρ j)) → (∀ i j, i < j → Before f (π i) (π j)) →
        (∀ j, j < i → ρ j = π j) → Before f (ρ i) (π i) → False := by
      intro ρ π hρ hπ e hb
      obtain ⟨j, hj⟩ := sur π hπ (ρ i)
      rcases lt_trichotomy j i with k | k | k
      · exact absurd (inj ρ hρ ((e j k).trans hj)) (ne_of_lt k)
      · subst k; rw [hj] at hb; exact before_irrefl _ hb
      · have := hπ i j k; rw [hj] at this; exact before_irrefl _ (before_trans hb this)
    rcases before_total (f := f) hne with h | h
    · exact key σ τ hσ hτ ih h
    · exact key τ σ hτ hσ (fun j hj => (ih j hj).symm) h

end Cert.Orders
-- ==== Proof.Pick.lean ====
/-
  Taking the least of a row again and again, what is taken made great: the `t`-th taken is the one at rank `t` of the row's stable
  sort.
-/
module

public import proofs.«01_k».proof.Proof.Orders
public import Idealize.ShloMosaic.Lib.ValueIdx
public import Idealize.ShloMosaic.Lib.SortNet.Extract

@[expose] public section

namespace Cert.Pick

open Idealize.ShloMosaic Cert.Orders

variable {n : Nat} {α : Type} [LinearOrder α]

/-- The positions in the order of the row. -/
def rank (f : Fin n → α) : Fin n → Fin n := sortedFrom (fun k k' => decide (f k < f k'))

theorem rank_inj (f : Fin n → α) : Function.Injective (rank f) := by
  intro i j e
  have h : ∀ {a b : Fin n}, a < b → Before f (rank f a) (rank f b) := fun q => before_sortedFrom f q
  rcases lt_trichotomy i j with k | k | k
  · have b := h k
    rw [e] at b
    exact absurd b (before_irrefl _)
  · exact k
  · have b := h k
    rw [e] at b
    exact absurd b (before_irrefl _)

theorem rank_surj (f : Fin n → α) : Function.Surjective (rank f) := Finite.injective_iff_surjective.mp (rank_inj f)

/-- The row after the first `t` are taken. -/
def left (f : Fin n → α) (B : α) (t : Nat) (j : Fin n) : α := if ∃ s : Fin n, s.val < t ∧ rank f s = j then B else f j

theorem left_zero (f : Fin n → α) (B : α) (j : Fin n) : left f B 0 j = f j := by
  unfold left; rw [if_neg]; rintro ⟨s, h, -⟩; exact absurd h (Nat.not_lt_zero _)

theorem left_succ (f : Fin n → α) (B : α) (t : Fin n) (j : Fin n) :
    left f B (t.val + 1) j = if j = rank f t then B else left f B t.val j := by
  unfold left
  by_cases h : j = rank f t
  · rw [if_pos h, if_pos ⟨t, Nat.lt_succ_self _, h.symm⟩]
  · rw [if_neg h]
    refine if_congr ⟨?_, ?_⟩ rfl rfl
    · rintro ⟨s, hs, e⟩
      rcases Nat.lt_succ_iff_lt_or_eq.mp hs with q | q
      · exact ⟨s, q, e⟩
      · obtain rfl : s = t := Fin.ext q
        exact absurd e.symm h
    · rintro ⟨s, hs, e⟩; exact ⟨s, Nat.lt_succ_of_lt hs, e⟩

theorem left_at (f : Fin n → α) (B : α) (t : Fin n) : left f B t.val (rank f t) = f (rank f t) := by
  unfold left; rw [if_neg]
  rintro ⟨s, h, e⟩
  obtain rfl := rank_inj f e
  exact lt_irrefl _ h

theorem left_cases (f : Fin n → α) (B : α) (t : Fin n) (j : Fin n) (hB : ∀ j, f j < B) :
    left f B t.val j = B ∨ (left f B t.val j = f j ∧ (j = rank f t ∨ Before f (rank f t) j)) := by
  obtain ⟨s, rfl⟩ := rank_surj f j
  unfold left
  by_cases h : s < t
  · exact Or.inl (if_pos ⟨s, h, rfl⟩)
  · right
    rw [if_neg]
    · refine ⟨rfl, ?_⟩
      rcases eq_or_lt_of_le (not_lt.mp h) with q | q
      · exact Or.inl (q ▸ rfl)
      · exact Or.inr (before_sortedFrom f q)
    · rintro ⟨u, hu, e⟩
      obtain rfl := rank_inj f e
      exact h hu

theorem left_least (f : Fin n → α) (B : α) (hB : ∀ j, f j < B) (t : Fin n) (j : Fin n) :
    left f B t.val (rank f t) ≤ left f B t.val j := by
  rw [left_at]
  rcases left_cases f B t j hB with h | ⟨h, rfl | q | ⟨q, -⟩⟩
  · rw [h]; exact (hB _).le
  · rw [left_at]
  · rw [h]; exact q.le
  · rw [h]; exact q.le

theorem left_first (f : Fin n → α) (B : α) (hB : ∀ j, f j < B) (t : Fin n) (j : Fin n)
    (e : left f B t.val j = left f B t.val (rank f t)) : rank f t ≤ j := by
  rw [left_at] at e
  rcases left_cases f B t j hB with h | ⟨h, rfl | q | ⟨-, q⟩⟩
  · exact absurd (h.symm.trans e) (ne_of_gt (hB _))
  · exact le_refl _
  · exact absurd (e.symm.trans h) (ne_of_lt q)
  · exact q.le

/-! ## Folds -/

theorem fold_min_eq (f : Fin n → EReal) (a : Fin n) (h : ∀ j, f a ≤ f j) : (Finset.univ : Finset (Fin n)).fold min ⊤ f = f a :=
  le_antisymm ((Finset.fold_min_le _).mpr (Or.inr ⟨a, Finset.mem_univ _, le_refl _⟩))
    ((Finset.le_fold_min _).mpr ⟨le_top, fun j _ => h j⟩)

theorem toInt_word (k : Nat) (h : k < 2 ^ 31) : (BitVec.ofNat 32 k).toInt = k := by
  rw [BitVec.toInt_eq_toNat_of_lt (by rw [BitVec.toNat_ofNat]; omega), BitVec.toNat_ofNat, Nat.mod_eq_of_lt (by omega)]

instance : Std.Commutative (IntOp.minsi (w := 32)) := ⟨fun a b => BitVec.eq_of_toInt_eq (by
  rw [SortNet.toInt_minsi, SortNet.toInt_minsi, min_comm])⟩

instance : Std.Associative (IntOp.minsi (w := 32)) := ⟨fun a b c => BitVec.eq_of_toInt_eq (by
  simp only [SortNet.toInt_minsi, min_assoc])⟩

theorem fold_minsi_eq (g : Fin n → BitVec 32) (k : Fin n → Nat) (hk : ∀ j, k j < 2 ^ 31) (hg : ∀ j, g j = BitVec.ofNat 32 (k j)) (a : Fin n)
    (h : ∀ j, k a ≤ k j) : (Finset.univ : Finset (Fin n)).fold IntOp.minsi 2147483647#32 g = BitVec.ofNat 32 (k a) := by
  refine BitVec.eq_of_toInt_eq ?_
  rw [← Finset.fold_hom (op' := (min : Int → Int → Int)) (m := BitVec.toInt) (fun x y => SortNet.toInt_minsi x y)]
  have e : ∀ j, (g j).toInt = (k j : Int) := fun j => by rw [hg, toInt_word _ (hk j)]
  rw [toInt_word _ (hk a)]
  refine le_antisymm ((Finset.fold_min_le _).mpr (Or.inr ⟨a, Finset.mem_univ _, (e a).le⟩)) ((Finset.le_fold_min _).mpr ⟨?_, fun j _ => ?_⟩)
  · rw [show (2147483647#32 : BitVec 32).toInt = 2147483647 by decide]
    have := hk a
    omega
  · rw [e]; exact_mod_cast h j

end Cert.Pick
-- ==== Proof.ScoreSelect.lean ====
/-
  The selection at the ideal instance: after `n` steps a row's distances are the row less the first `n` of its order (made great),
  and the lane `s < n` of a gathered coordinate is that of the point at rank `s`.
-/
module

public import proofs.«01_k».proof.Proof.ScoreRun
public import proofs.«01_k».proof.Proof.Pick
public import Idealize.ShloMosaic.Lib.ValueIdx
public import Idealize.ShloMosaic.Lib.Pipeline.Value
public import Idealize.ShloMosaic.PureOps.Ideal.Laws
public import Idealize.ShloMosaic.Lib.Pointwise.Reshape

@[expose] public section

set_option maxRecDepth 4096

noncomputable section

namespace Cert.KernelIdeal.Score

open Idealize.ShloMosaic hiding ix1 ix2 ix3
open Idealize.ShloMosaic.TcCoe Cert.KernelIdeal Cert.KernelIdeal.Gen Idealize.ShloMosaic.ValueIdx Cert.Pick

/-! ## Rows and columns -/

section
variable {α : Type}

theorem column (v : S256.Idx → α) (h) (i : Fin 256) (k : Fin 1) : shapeCast S256x1 v h (ix2 i k) = v (ix1 i) :=
  shapeCast_apply _ _ _ _ (by
    rw [rowMajor_val2 _ 1 rfl, rowMajor_val1]
    have := k.isLt
    show i.val = i.val * 1 + k.val
    omega)

theorem spreadCol (v : S256x1.Idx → α) (h) (i : Fin 256) (j : Fin 4096) : broadcastTo S256x4096 v h (ix2 i j) = v (ix2 i 0) :=
  broadcastTo_apply _ _ _ _ (fun a => by match a with | ⟨0, _⟩ => rfl | ⟨1, _⟩ => rfl)

theorem spreadCol16 (v : S256x1.Idx → α) (h) (i : Fin 256) (j : Fin 16) : broadcastTo S256x16 v h (ix2 i j) = v (ix2 i 0) :=
  broadcastTo_apply _ _ _ _ (fun a => by match a with | ⟨0, _⟩ => rfl | ⟨1, _⟩ => rfl)

theorem spreadRow (v : S1x4096.Idx → α) (h) (i : Fin 256) (j : Fin 4096) : broadcastTo S256x4096 v h (ix2 i j) = v (ix2 0 j) :=
  broadcastTo_apply _ _ _ _ (fun a => by match a with | ⟨0, _⟩ => rfl | ⟨1, _⟩ => rfl)

theorem same {s : Shape} (v : s.Idx → α) (h) : shapeCast s v h = v := funext fun j => shapeCast_apply _ _ _ j rfl

theorem lift_eq (h : S256x4096.Reduces [1] S256) (i : Fin 256) (k : Fin 4096) : h.lift (ix1 i) k = ix2 i k :=
  funext fun a => match a with | ⟨0, _⟩ => rfl | ⟨1, _⟩ => rfl

theorem lift_eq16 (h : S256x16.Reduces [1] S256) (i : Fin 256) (k : Fin 16) : h.lift (ix1 i) k = ix2 i k :=
  funext fun a => match a with | ⟨0, _⟩ => rfl | ⟨1, _⟩ => rfl
end

instance : Std.Commutative (FloatOps.minimumf (F := Ideal) (φ := .f32)) := ⟨fun a b => min_comm (α := EReal) a b⟩
instance : Std.Associative (FloatOps.minimumf (F := Ideal) (φ := .f32)) := ⟨fun a b c => min_assoc (α := EReal) a b c⟩

theorem top_bits : (FloatOps.ofBits .f32 0x7F800000#32 : Ideal .f32) = (⊤ : EReal) := by
  show Ideal.ofBits .f32 0x7F800000#32 = ⊤
  simp [Ideal.ofBits, Ideal.ieee]

/-- A row's minimum. -/
theorem rowMin (M : FVec Ideal S256x4096 .f32) (h hφ hacc) (i : Fin 256) :
    multiReduction .minimumf [1] S256 M 0x7F800000#32 h hφ hacc (ix1 i) = (Finset.univ : Finset (Fin 4096)).fold min ⊤ (fun j => M (ix2 i j)) := by
  rw [multiReduction_minimumf_eq_fold, top_bits, Shape.Reduces.fold_filter_drop_single]
  refine Finset.fold_congr (fun k _ => ?_)
  exact congrArg M (lift_eq h i k)

/-- A row's least word. -/
theorem rowMinI (v : IVec S256x4096 32) (h hacc) (i : Fin 256) :
    multiReductionI .minsi [1] S256 v 2147483647#32 h hacc (ix1 i) = (Finset.univ : Finset (Fin 4096)).fold IntOp.minsi 2147483647#32 (fun j => v (ix2 i j)) := by
  rw [multiReductionI_eq_fold, Shape.Reduces.fold_filter_drop_single]
  refine Finset.fold_congr (fun k _ => ?_)
  exact congrArg v (lift_eq h i k)

/-- A row's sum. -/
theorem rowSum (v : FVec Ideal S256x4096 .f32) (h hφ hacc) (i : Fin 256) :
    multiReduction .add [1] S256 v 0x00000000#32 h hφ hacc (ix1 i) = ∑ j : Fin 4096, (v (ix2 i j) : EReal) := by
  rw [Ideal.multiReduction_add_single]
  exact Finset.sum_congr rfl fun k _ => congrArg v (lift_eq h i k)

theorem rowSum16 (v : FVec Ideal S256x16 .f32) (h hφ hacc) (i : Fin 256) :
    multiReduction .add [1] S256 v 0x00000000#32 h hφ hacc (ix1 i) = ∑ j : Fin 16, (v (ix2 i j) : EReal) := by
  rw [Ideal.multiReduction_add_single]
  exact Finset.sum_congr rfl fun k _ => congrArg v (lift_eq16 h i k)

theorem lane (i : Fin 256) (j : Fin 4096) : iota .tc S256x4096 32 [1] iota_S256x4096_d1_w32 (ix2 i j) = BitVec.ofNat 32 j.val :=
  iota_single_apply _ _ _ _ _ _

theorem lane16 (i : Fin 256) (j : Fin 16) : iota .tc S256x16 32 [1] iota_S256x16_d1_w32 (ix2 i j) = BitVec.ofNat 32 j.val :=
  iota_single_apply _ _ _ _ _ _

theorem ofNat_inj {a b : Nat} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-! ## One step -/

/-- Every row's minimum, along the row. -/
def rowLeast (M : FVec Ideal S256x4096 .f32) : FVec Ideal S256x4096 .f32 :=
  broadcastTo S256x4096 (shapeCast S256x1 (multiReduction .minimumf [1] S256 M 0x7F800000#32 reduces_S256x4096_S256 (.inl rfl) rfl) shapeCasts_S256_S256x1)
    broadcasts_S256x1_S256x4096

/-- The lanes of a row that have its minimum, the others past the end. -/
def lanes (M : FVec Ideal S256x4096 .f32) : IVec S256x4096 32 :=
  select (cmpf .oeq M (rowLeast M)) (iota .tc S256x4096 32 [1] iota_S256x4096_d1_w32) (broadcast S256x4096 4096#32)

theorem sel_eq {α : Type} (e m : EReal) (v w : α) : Scalar.select (Ideal.cmp .oeq e m) v w = if e = m then v else w := by
  show (if BitVec.ofBool (decide (e = m)) = 1#1 then v else w) = _
  by_cases h : e = m
  · rw [if_pos h, decide_eq_true h]; rfl
  · rw [if_neg h, decide_eq_false h]; rfl

theorem cmpi_eq (a b : Nat) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ofNat_inj ha hb]

/-- A row's mark is at its first least. -/
theorem firstMin_apply (M : FVec Ideal S256x4096 .f32) (i : Fin 256) (a : Fin 4096) (hle : ∀ j, M (ix2 i a) ≤ M (ix2 i j))
    (hfirst : ∀ j, M (ix2 i j) = M (ix2 i a) → a ≤ j) (j : Fin 4096) : firstMin M (ix2 i j) = BitVec.ofBool (decide (j = a)) := by
  have hmin : ∀ k : Fin 4096, rowLeast M (ix2 i k) = M (ix2 i a) := fun k => by
    refine (spreadCol _ _ i k).trans ((column _ _ i 0).trans ((rowMin _ _ _ _ i).trans ?_))
    exact fold_min_eq (fun j => M (ix2 i j)) a hle
  have hw : (Finset.univ : Finset (Fin 4096)).fold IntOp.minsi 2147483647#32 (fun k => lanes M (ix2 i k)) = BitVec.ofNat 32 a.val := by
    refine (fold_minsi_eq _ (fun k => if M (ix2 i k) = M (ix2 i a) then k.val else 4096) (fun k => ?_) (fun k => ?_) a (fun k => ?_)).trans ?_
    · beta_reduce
      split
      · have := k.isLt; omega
      · omega
    · show Scalar.select (Ideal.cmp .oeq (M (ix2 i k)) (rowLeast M (ix2 i k))) (iota .tc S256x4096 32 [1] iota_S256x4096_d1_w32 (ix2 i k)) 4096#32 = _
      rw [lane, hmin, sel_eq]
      exact (apply_ite (BitVec.ofNat 32) _ _ _).symm
    · beta_reduce
      rw [if_pos rfl]
      split
      · exact hfirst k ‹_›
      · have := a.isLt; omega
    · rw [if_pos rfl]
  unfold firstMin
  show IntOp.cmpi .eq (iota .tc S256x4096 32 [1] iota_S256x4096_d1_w32 (ix2 i j)) (broadcastTo S256x4096 (shapeCast S256x1 (multiReductionI .minsi [1] S256 (lanes M) _ _ _) _) _ (ix2 i j)) = _
  rw [lane]
  refine (congrArg (IntOp.cmpi .eq (BitVec.ofNat 32 j.val)) ((spreadCol _ _ i j).trans ((column _ _ i 0).trans ((rowMinI (lanes M) _ _ i).trans hw)))).trans ?_
  rw [cmpi_eq _ _ (by have := j.isLt; omega) (by have := a.isLt; omega)]
  exact congrArg BitVec.ofBool (decide_eq_decide.mpr Fin.ext_iff.symm)

theorem zero_bits : (Scalar.ofBits .f32 0x00000000#32 : Ideal .f32) = (0 : EReal) := Ideal.ofBits_zero_f32

/-- The great value. -/
def great : EReal := (Scalar.ofBits .f32 0x7149F2CA#32 : Ideal .f32)

theorem pick_apply (v : FVec Ideal S1x4096 .f32) (oh : IVec S256x4096 1) (i : Fin 256) (a : Fin 4096)
    (hoh : ∀ j, oh (ix2 i j) = BitVec.ofBool (decide (j = a))) (k : Fin 1) : pick v oh (ix2 i k) = v (ix2 0 a) := by
  refine (column _ _ i k).trans ((rowSum _ _ _ _ i).trans ?_)
  refine (Finset.sum_eq_single a (fun j _ hj => ?_) (fun h => absurd (Finset.mem_univ _) h)).trans ?_
  · show (if oh (ix2 i j) = 1#1 then _ else (Scalar.ofBits .f32 0x00000000#32 : Ideal .f32)) = _
    rw [hoh, decide_eq_false hj]
    exact zero_bits
  · show (if oh (ix2 i a) = 1#1 then broadcastTo S256x4096 _ _ (ix2 i a) else _) = _
    rw [hoh, decide_eq_true rfl, spreadRow, same]
    rfl

theorem put_apply (t : Nat) (ht : t < 16) (w : FVec Ideal S256x1 .f32) (old : FVec Ideal S256x16 .f32) (i : Fin 256) (s : Fin 16) :
    put t w old (ix2 i s) = if s.val = t then w (ix2 i 0) else old (ix2 i s) := by
  unfold put
  show Scalar.select (IntOp.cmpi .eq (iota .tc S256x16 32 [1] iota_S256x16_d1_w32 (ix2 i s)) (BitVec.ofNat 32 t)) (broadcastTo S256x16 _ _ (ix2 i s)) _ = _
  rw [lane16, spreadCol16, same, cmpi_eq _ _ (by have := s.isLt; omega) (by omega)]
  by_cases h : s.val = t
  · rw [if_pos h, decide_eq_true h]; rfl
  · rw [if_neg h, decide_eq_false h]; rfl

theorem mark_apply (oh : IVec S256x4096 1) (M : FVec Ideal S256x4096 .f32) (i : Fin 256) (a : Fin 4096)
    (hoh : ∀ j, oh (ix2 i j) = BitVec.ofBool (decide (j = a))) (j : Fin 4096) : mark oh M (ix2 i j) = if j = a then great else M (ix2 i j) := by
  unfold mark
  show (if oh (ix2 i j) = 1#1 then _ else _) = _
  rw [hoh]
  by_cases h : j = a
  · rw [if_pos h, decide_eq_true h]; rfl
  · rw [if_neg h, decide_eq_false h]; rfl

/-! ## All steps -/

/-- The rank as a lane. -/
def up (n : Nat) (h : n < 4096 := by omega) : Fin 4096 := ⟨n, h⟩

variable (x0 : Vec Ideal S1x256x3 .f32) (x1 : Vec Ideal S1x3x4096 .f32)

/-- A row's distances. -/
def dist (i : Fin 256) (j : Fin 4096) : EReal := (sel x0 x1 0).mat (ix2 i j)

theorem sel_mat (i : Fin 256) (hB : ∀ j, dist x0 x1 i j < great) (n : Nat) (hn : n ≤ 16) (j : Fin 4096) :
    (sel x0 x1 n).mat (ix2 i j) = left (dist x0 x1 i) great n j := by
  induction n generalizing j with
  | zero => rw [left_zero]; rfl
  | succ n ih =>
    have ih := ih (by omega)
    have hl := left_least (dist x0 x1 i) great hB (up n)
    have hf := left_first (dist x0 x1 i) great hB (up n)
    rw [show sel x0 x1 (n + 1) = step n (k0_pay4 x1) (k0_pay5 x1) (k0_pay6 x1) (sel x0 x1 n) from rfl, step_mat,
      mark_apply _ _ i (rank (dist x0 x1 i) (up n)) (firstMin_apply _ i _ (fun k => by rw [ih, ih]; exact hl k) (fun k h => by rw [ih, ih] at h; exact hf k h)), ih]
    exact (left_succ _ _ (up n) j).symm

theorem sel_mark (i : Fin 256) (hB : ∀ j, dist x0 x1 i j < great) (n : Nat) (hn : n ≤ 16) (j : Fin 4096) :
    firstMin (sel x0 x1 n).mat (ix2 i j) = BitVec.ofBool (decide (j = rank (dist x0 x1 i) (up n))) :=
  have ih := sel_mat x0 x1 i hB n hn
  have hl := left_least (dist x0 x1 i) great hB (up n)
  have hf := left_first (dist x0 x1 i) great hB (up n)
  firstMin_apply _ i _ (fun k => by rw [ih, ih]; exact hl k) (fun k h => by rw [ih, ih] at h; exact hf k h) j

theorem sel_x (i : Fin 256) (hB : ∀ j, dist x0 x1 i j < great) (n : Nat) (hn : n ≤ 16) (s : Fin 16) (hs : s.val < n) :
    (sel x0 x1 n).x (ix2 i s) = k0_pay4 x1 (ix2 0 (rank (dist x0 x1 i) (up s.val))) := by
  induction n with
  | zero => omega
  | succ n ih =>
    rw [show sel x0 x1 (n + 1) = step n (k0_pay4 x1) (k0_pay5 x1) (k0_pay6 x1) (sel x0 x1 n) from rfl, step_x, put_apply _ (by omega)]
    by_cases h : s.val = n
    · rw [if_pos h, pick_apply _ _ i _ (sel_mark x0 x1 i hB n (by omega))]
      subst h
      rfl
    · rw [if_neg h]; exact ih (by omega) (by omega)

theorem sel_y (i : Fin 256) (hB : ∀ j, dist x0 x1 i j < great) (n : Nat) (hn : n ≤ 16) (s : Fin 16) (hs : s.val < n) :
    (sel x0 x1 n).y (ix2 i s) = k0_pay5 x1 (ix2 0 (rank (dist x0 x1 i) (up s.val))) := by
  induction n with
  | zero => omega
  | succ n ih =>
    rw [show sel x0 x1 (n + 1) = step n (k0_pay4 x1) (k0_pay5 x1) (k0_pay6 x1) (sel x0 x1 n) from rfl, step_y, put_apply _ (by omega)]
    by_cases h : s.val = n
    · rw [if_pos h, pick_apply _ _ i _ (sel_mark x0 x1 i hB n (by omega))]
      subst h
      rfl
    · rw [if_neg h]; exact ih (by omega) (by omega)

theorem sel_z (i : Fin 256) (hB : ∀ j, dist x0 x1 i j < great) (n : Nat) (hn : n ≤ 16) (s : Fin 16) (hs : s.val < n) :
    (sel x0 x1 n).z (ix2 i s) = k0_pay6 x1 (ix2 0 (rank (dist x0 x1 i) (up s.val))) := by
  induction n with
  | zero => omega
  | succ n ih =>
    rw [show sel x0 x1 (n + 1) = step n (k0_pay4 x1) (k0_pay5 x1) (k0_pay6 x1) (sel x0 x1 n) from rfl, step_z, put_apply _ (by omega)]
    by_cases h : s.val = n
    · rw [if_pos h, pick_apply _ _ i _ (sel_mark x0 x1 i hB n (by omega))]
      subst h
      rfl
    · rw [if_neg h]; exact ih (by omega) (by omega)

/-- The seventeenth least. -/
theorem least_apply (i : Fin 256) (hB : ∀ j, dist x0 x1 i j < great) (k : Fin 1) :
    least (sel x0 x1 16).mat (ix2 i k) = dist x0 x1 i (rank (dist x0 x1 i) (up 16)) := by
  have ih := sel_mat x0 x1 i hB 16 (le_refl _)
  have hl := left_least (dist x0 x1 i) great hB (up 16)
  refine (column _ _ i k).trans ((rowMin _ _ _ _ i).trans ?_)
  refine (fold_min_eq _ (rank (dist x0 x1 i) (up 16)) (fun j => ?_)).trans ?_
  · rw [ih, ih]; exact hl j
  · rw [ih]; exact left_at _ _ (up 16)

end Cert.KernelIdeal.Score

end
-- ==== Proof.Turn.lean ====
/-
  A plane rotation of a symmetric matrix, over the reals: with the tangent `tan p q r` that makes the entry `r` zero, its cosine
  and its sine, the textbook's two-sided products are the short updates.
-/
module

public import Mathlib.Analysis.SpecialFunctions.Pow.NNReal
public import Mathlib.Tactic.LinearCombination
public import Mathlib.Tactic.FieldSimp
public import Mathlib.Tactic.Linarith
public import Mathlib.Tactic.Positivity

@[expose] public section

noncomputable section

namespace Cert.Turn

/-- Half the cotangent of twice the angle. -/
def half (p q r : ℝ) : ℝ := (q - p) / (2 * r)

/-- The tangent of the angle. -/
def tan (p q r : ℝ) : ℝ := if r = 0 then 0 else (if 0 ≤ half p q r then 1 else -1) / (|half p q r| + √(half p q r * half p q r + 1))

/-- Its cosine. -/
def cos (p q r : ℝ) : ℝ := 1 / √(tan p q r * tan p q r + 1)

/-- Its sine. -/
def sin (p q r : ℝ) : ℝ := tan p q r * cos p q r

theorem root_pos (t : ℝ) : 0 < √(t * t + 1) := Real.sqrt_pos.mpr (by nlinarith [mul_self_nonneg t])

theorem root_sq (t : ℝ) : √(t * t + 1) * √(t * t + 1) = t * t + 1 := Real.mul_self_sqrt (by nlinarith [mul_self_nonneg t])

theorem abs_lt_root (t : ℝ) : |t| < √(t * t + 1) := by
  rw [Real.lt_sqrt (abs_nonneg _), sq_abs]; nlinarith

/-- The tangent as the textbook has it. -/
theorem tan_pos (p q r : ℝ) (hr : r ≠ 0) (h : 0 ≤ half p q r) : tan p q r = 1 / (half p q r + √(half p q r * half p q r + 1)) := by
  unfold tan; rw [if_neg hr, if_pos h, abs_of_nonneg h]

theorem tan_neg (p q r : ℝ) (hr : r ≠ 0) (h : ¬0 ≤ half p q r) : tan p q r = -1 / (√(half p q r * half p q r + 1) - half p q r) := by
  unfold tan; rw [if_neg hr, if_neg h, abs_of_neg (not_le.mp h), neg_add_eq_sub]

theorem alg (h s u : ℝ) (hs : s * s = h * h + 1) (hu : u * (h + s) = 1) : 1 - u * u = 2 * h * u := by
  linear_combination (2 * h * u - 1 - u * (h + s)) * hu + u * u * hs

/-- The tangent's equation. -/
theorem tan_eq (p q r : ℝ) : (1 - tan p q r * tan p q r) * r = tan p q r * (q - p) := by
  by_cases hr : r = 0
  · unfold tan; rw [if_pos hr, hr]; ring
  have hq : q - p = 2 * r * half p q r := by unfold half; field_simp
  have key : 1 - tan p q r * tan p q r = 2 * half p q r * tan p q r := by
    have hs := root_sq (half p q r)
    have hp := root_pos (half p q r)
    by_cases h : 0 ≤ half p q r
    · rw [tan_pos p q r hr h]
      exact alg _ _ _ hs (one_div_mul_cancel (ne_of_gt (add_pos_of_nonneg_of_pos h hp)))
    · rw [tan_neg p q r hr h]
      refine alg _ (-√(half p q r * half p q r + 1)) _ (by rw [neg_mul_neg]; exact hs) ?_
      have hd : √(half p q r * half p q r + 1) - half p q r ≠ 0 := by
        have := not_le.mp h
        exact ne_of_gt (by linarith)
      rw [← sub_eq_add_neg, ← neg_sub (√(half p q r * half p q r + 1)), div_mul_eq_mul_div, div_eq_one_iff_eq hd]
      ring
  rw [key, hq]; ring

theorem cos_sq (p q r : ℝ) : cos p q r * cos p q r * (1 + tan p q r * tan p q r) = 1 := by
  have hc : cos p q r * √(tan p q r * tan p q r + 1) = 1 := one_div_mul_cancel (ne_of_gt (root_pos _))
  have hs := root_sq (tan p q r)
  linear_combination (cos p q r * √(tan p q r * tan p q r + 1) + 1) * hc - cos p q r * cos p q r * hs

theorem lo_eq (p q r : ℝ) : cos p q r * cos p q r * p - 2 * (cos p q r * sin p q r * r) + sin p q r * sin p q r * q = p - tan p q r * r := by
  have h1 := tan_eq p q r
  have h2 := cos_sq p q r
  unfold sin
  linear_combination (p - tan p q r * r) * h2 - cos p q r * cos p q r * tan p q r * h1

theorem hi_eq (p q r : ℝ) : sin p q r * sin p q r * p + 2 * (cos p q r * sin p q r * r) + cos p q r * cos p q r * q = q + tan p q r * r := by
  have h1 := tan_eq p q r
  have h2 := cos_sq p q r
  unfold sin
  linear_combination (q + tan p q r * r) * h2 + cos p q r * cos p q r * tan p q r * h1

theorem off_eq (p q r : ℝ) : (cos p q r * cos p q r - sin p q r * sin p q r) * r + cos p q r * sin p q r * (p - q) = 0 := by
  have h1 := tan_eq p q r
  unfold sin
  linear_combination cos p q r * cos p q r * h1

/-- A symmetric matrix. -/
structure Sym where
  xx : ℝ
  yy : ℝ
  zz : ℝ
  xy : ℝ
  xz : ℝ
  yz : ℝ

def turnA (m : Sym) : Sym := ⟨m.xx - tan m.xx m.yy m.xy * m.xy, m.yy + tan m.xx m.yy m.xy * m.xy, m.zz, 0,
  cos m.xx m.yy m.xy * m.xz - sin m.xx m.yy m.xy * m.yz, sin m.xx m.yy m.xy * m.xz + cos m.xx m.yy m.xy * m.yz⟩
def turnB (m : Sym) : Sym := ⟨m.xx - tan m.xx m.zz m.xz * m.xz, m.yy, m.zz + tan m.xx m.zz m.xz * m.xz,
  cos m.xx m.zz m.xz * m.xy - sin m.xx m.zz m.xz * m.yz, 0, sin m.xx m.zz m.xz * m.xy + cos m.xx m.zz m.xz * m.yz⟩
def turnC (m : Sym) : Sym := ⟨m.xx, m.yy - tan m.yy m.zz m.yz * m.yz, m.zz + tan m.yy m.zz m.yz * m.yz,
  cos m.yy m.zz m.yz * m.xy - sin m.yy m.zz m.yz * m.xz, sin m.yy m.zz m.yz * m.xy + cos m.yy m.zz m.yz * m.xz, 0⟩

/-- The rotation of number `n`. -/
def turn (n : Nat) (m : Sym) : Sym := if n % 3 = 0 then turnA m else if n % 3 = 1 then turnB m else turnC m

/-- The matrix after `n` rotations. -/
def turned (m : Sym) : Nat → Sym
  | 0 => m
  | n + 1 => turn n (turned m n)

/-- The mean of sixteen numbers, their covariance, and the covariances of three coordinates. -/
def avg (v : Fin 16 → ℝ) : ℝ := (∑ s, v s) / 16
def covar (v w : Fin 16 → ℝ) : ℝ := avg fun s => (v s - avg v) * (w s - avg w)
def covars (x y z : Fin 16 → ℝ) : Sym := ⟨covar x x, covar y y, covar z z, covar x y, covar x z, covar y z⟩

end Cert.Turn

end
-- ==== Proof.Angles.lean ====
/-
  The two programs' scalar formulas of a plane rotation, at real entries: both have the tangent, the cosine and the sine of
  `Cert.Turn`.
-/
module

public import proofs.«01_k».proof.Proof.Turn
public import Idealize.ShloMosaic.PureOps.Ideal.Laws

@[expose] public section

noncomputable section

namespace Cert.Angles

open Idealize.ShloMosaic hiding tan cos sin
open Cert.Turn

theorem bits_zero : Ideal.ofBits .f32 0x00000000#32 = ((0 : ℝ) : EReal) := Ideal.ofBits_zero_f32
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_negone : Ideal.ofBits .f32 0xBF800000#32 = ((-1 : ℝ) : EReal) := by
  simp [Ideal.ofBits, Ideal.ieee, -EReal.coe_mul, -EReal.coe_neg]; norm_num
theorem bits_sixteenth : Ideal.ofBits .f32 0x3D800000#32 = ((1 / 16 : ℝ) : EReal) := by
  simp [Ideal.ofBits, Ideal.ieee, -EReal.coe_mul]; norm_num
theorem bits_sixteen : Ideal.ofBits .f32 0x41800000#32 = ((16 : ℝ) : EReal) := by
  simp [Ideal.ofBits, Ideal.ieee, -EReal.coe_mul]; norm_num

theorem div_real (a b : ℝ) (h : b ≠ 0) : Ideal.div (a : EReal) (b : EReal) = ((a / b : ℝ) : EReal) := by
  rw [Ideal.div_coe h, ← EReal.coe_mul, mul_one_div]

theorem sqrt_real (a : ℝ) (h : 0 ≤ a) : Ideal.sqrt (a : EReal) = ((√a : ℝ) : EReal) := by
  rw [Ideal.sqrt_coe, if_neg (not_lt.mpr h)]

theorem abs_real (a : ℝ) : max (a : EReal) (-(a : EReal)) = ((|a| : ℝ) : EReal) := by
  rw [← EReal.coe_neg, ← EReal.coe_strictMono.monotone.map_max]; rfl

theorem pick_ogt {α : Type} (a b : ℝ) (v w : α) : Scalar.select (Ideal.cmp .ogt (a : EReal) (b : EReal)) v w = if b < a then v else w := by
  show (if BitVec.ofBool (decide ((b : EReal) < a)) = 1#1 then v else w) = _
  by_cases h : b < a
  · rw [if_pos h, decide_eq_true (EReal.coe_lt_coe_iff.mpr h)]; rfl
  · rw [if_neg h, decide_eq_false (fun k => h (EReal.coe_lt_coe_iff.mp k))]; rfl

theorem pick_oge {α : Type} (a b : ℝ) (v w : α) : Scalar.select (Ideal.cmp .oge (a : EReal) (b : EReal)) v w = if b ≤ a then v else w := by
  show (if BitVec.ofBool (decide ((b : EReal) ≤ a)) = 1#1 then v else w) = _
  by_cases h : b ≤ a
  · rw [if_pos h, decide_eq_true (EReal.coe_le_coe_iff.mpr h)]; rfl
  · rw [if_neg h, decide_eq_false (fun k => h (EReal.coe_le_coe_iff.mp k))]; rfl

theorem pick_une {α : Type} (a b : ℝ) (v w : α) : Scalar.select (Ideal.cmp .une (a : EReal) (b : EReal)) v w = if a = b then w else v := by
  show (if BitVec.ofBool (decide ((a : EReal) ≠ b)) = 1#1 then v else w) = _
  by_cases h : a = b
  · rw [if_pos h, decide_eq_false (not_not.mpr (congrArg _ h))]; rfl
  · rw [if_neg h, decide_eq_true (p := (a : EReal) ≠ b) (fun k => h (EReal.coe_eq_coe_iff.mp k))]; rfl

theorem coe_if (c : Prop) [Decidable c] (a b : ℝ) : (if c then (a : EReal) else (b : EReal)) = ((if c then a else b : ℝ) : EReal) := by
  split <;> rfl

theorem coe_sums {n : Nat} (f : Fin n → ℝ) : ∑ s, (f s : EReal) = ((∑ s, f s : ℝ) : EReal) := by
  classical
  induction (Finset.univ : Finset (Fin n)) using Finset.induction with
  | empty => rfl
  | insert a t h ih => rw [Finset.sum_insert h, Finset.sum_insert h, ih, EReal.coe_add]

/-! ## The kernel's -/

def half' (p q r : EReal) : EReal :=
  Ideal.div (q - p) (Scalar.select (Ideal.cmp .ogt (max r (-r)) (Ideal.ofBits .f32 0x00000000#32)) (Ideal.ofBits .f32 0x40000000#32 * r) (Ideal.ofBits .f32 0x3F800000#32))

def tan' (p q r : EReal) : EReal :=
  Scalar.select (Ideal.cmp .ogt (max r (-r)) (Ideal.ofBits .f32 0x00000000#32))
    (Ideal.div (Scalar.select (Ideal.cmp .oge (half' p q r) (Ideal.ofBits .f32 0x00000000#32)) (Ideal.ofBits .f32 0x3F800000#32) (Ideal.ofBits .f32 0xBF800000#32))
      (max (half' p q r) (-half' p q r) + Ideal.sqrt (half' p q r * half' p q r + Ideal.ofBits .f32 0x3F800000#32)))
    (Ideal.ofBits .f32 0x00000000#32)

def cos' (t : EReal) : EReal := Ideal.div (Ideal.ofBits .f32 0x3F800000#32) (Ideal.sqrt (t * t + Ideal.ofBits .f32 0x3F800000#32))

theorem tan'_real (p q r : ℝ) : tan' p q r = ((tan p q r : ℝ) : EReal) := by
  unfold tan'
  rw [abs_real, bits_zero, pick_ogt]
  by_cases hr : r = 0
  · rw [if_neg (by rw [hr, abs_zero]; exact lt_irrefl _)]
    unfold tan
    rw [if_pos hr]
  · rw [if_pos (abs_pos.mpr hr)]
    have hh : half' p q r = ((half p q r : ℝ) : EReal) := by
      unfold half'
      rw [abs_real, bits_zero, pick_ogt, if_pos (abs_pos.mpr hr), bits_two, ← EReal.coe_mul, ← EReal.coe_sub, div_real _ _ (mul_ne_zero two_ne_zero hr)]
      rfl
    rw [hh, pick_oge, bits_one, bits_negone, coe_if, abs_real, ← EReal.coe_mul, ← EReal.coe_add,
      sqrt_real _ (by nlinarith [mul_self_nonneg (half p q r)]), ← EReal.coe_add,
      div_real _ _ (ne_of_gt (add_pos_of_nonneg_of_pos (abs_nonneg _) (root_pos _)))]
    unfold tan
    rw [if_neg hr]

theorem cos'_real (t : ℝ) : cos' t = ((1 / √(t * t + 1) : ℝ) : EReal) := by
  unfold cos'
  rw [bits_one, ← EReal.coe_mul, ← EReal.coe_add, sqrt_real _ (by nlinarith [mul_self_nonneg t]), div_real _ _ (ne_of_gt (root_pos _))]

/-! ## The reference's -/

def half2 (p q r : EReal) : EReal := Ideal.div (q - p) (Ideal.ofBits .f32 0x40000000#32 * r)

def tan2 (h : EReal) : EReal :=
  Scalar.select (Ideal.cmp .oge h (Ideal.ofBits .f32 0x00000000#32))
    (Ideal.div (Ideal.ofBits .f32 0x3F800000#32) (h + Ideal.sqrt (Ideal.ofBits .f32 0x3F800000#32 + h * h)))
    (Ideal.div (Ideal.ofBits .f32 0xBF800000#32) (Ideal.sqrt (Ideal.ofBits .f32 0x3F800000#32 + h * h) - h))

def cos2 (t : EReal) : EReal := Ideal.div (Ideal.ofBits .f32 0x3F800000#32) (Ideal.sqrt (Ideal.ofBits .f32 0x3F800000#32 + t * t))

def turnCos (p q r : EReal) : EReal :=
  Scalar.select (Ideal.cmp .une r (Ideal.ofBits .f32 0x00000000#32)) (cos2 (tan2 (half2 p q r))) (Ideal.ofBits .f32 0x3F800000#32)

def turnSin (p q r : EReal) : EReal :=
  Scalar.select (Ideal.cmp .une r (Ideal.ofBits .f32 0x00000000#32)) (tan2 (half2 p q r) * cos2 (tan2 (half2 p q r))) (Ideal.ofBits .f32 0x00000000#32)

theorem tan2_real (p q r : ℝ) (hr : r ≠ 0) : tan2 (half2 p q r) = ((tan p q r : ℝ) : EReal) := by
  have hh : half2 p q r = ((half p q r : ℝ) : EReal) := by
    unfold half2
    rw [bits_two, ← EReal.coe_mul, ← EReal.coe_sub, div_real _ _ (mul_ne_zero two_ne_zero hr)]
    rfl
  unfold tan2
  rw [hh, bits_zero, bits_one, bits_negone, pick_oge, ← EReal.coe_mul, ← EReal.coe_add, add_comm 1 (half p q r * half p q r),
    sqrt_real _ (by nlinarith [mul_self_nonneg (half p q r)]), ← EReal.coe_add, ← EReal.coe_sub]
  by_cases h : 0 ≤ half p q r
  · rw [if_pos h, tan_pos p q r hr h, div_real _ _ (ne_of_gt (add_pos_of_nonneg_of_pos h (root_pos _)))]
  · have := not_le.mp h
    have hp := root_pos (half p q r)
    rw [if_neg h, tan_neg p q r hr h, div_real _ _ (ne_of_gt (by linarith))]

theorem cos2_real (t : ℝ) : cos2 t = ((1 / √(t * t + 1) : ℝ) : EReal) := by
  unfold cos2
  rw [bits_one, ← EReal.coe_mul, ← EReal.coe_add, add_comm 1 (t * t), sqrt_real _ (by nlinarith [mul_self_nonneg t]), div_real _ _ (ne_of_gt (root_pos _))]

theorem turnCos_real (p q r : ℝ) : turnCos p q r = ((cos p q r : ℝ) : EReal) := by
  unfold turnCos
  rw [bits_zero, pick_une]
  by_cases hr : r = 0
  · rw [if_pos hr, bits_one]
    unfold cos tan
    rw [if_pos hr, mul_zero, zero_add, Real.sqrt_one, div_one]
  · rw [if_neg hr, tan2_real p q r hr, cos2_real]
    rfl

theorem turnSin_real (p q r : ℝ) : turnSin p q r = ((sin p q r : ℝ) : EReal) := by
  unfold turnSin
  rw [bits_zero, pick_une]
  by_cases hr : r = 0
  · rw [if_pos hr]
    unfold sin tan
    rw [if_pos hr, zero_mul]
  · rw [if_neg hr, tan2_real p q r hr, cos2_real, ← EReal.coe_mul]
    rfl

/-- The textbook's products. -/
def low2 (c s p q r : EReal) : EReal := c * c * p - Ideal.ofBits .f32 0x40000000#32 * (c * s * r) + s * s * q
def high2 (c s p q r : EReal) : EReal := s * s * p + Ideal.ofBits .f32 0x40000000#32 * (c * s * r) + c * c * q
def off2 (c s p q r : EReal) : EReal := (c * c - s * s) * r + c * s * (p - q)

theorem low2_real (p q r : ℝ) : low2 (cos p q r : ℝ) (sin p q r : ℝ) p q r = ((p - tan p q r * r : ℝ) : EReal) := by
  rw [← lo_eq]; unfold low2; rw [bits_two]; push_cast; rfl

theorem high2_real (p q r : ℝ) : high2 (cos p q r : ℝ) (sin p q r : ℝ) p q r = ((q + tan p q r * r : ℝ) : EReal) := by
  rw [← hi_eq]; unfold high2; rw [bits_two]; push_cast; rfl

theorem off2_real (p q r : ℝ) : off2 (cos p q r : ℝ) (sin p q r : ℝ) p q r = ((0 : ℝ) : EReal) := by
  rw [← off_eq p q r]; unfold off2; push_cast; rfl

end Cert.Angles

end
-- ==== Proof.ScoreTurn.lean ====
/-
  The kernel's covariance and its rotations at the ideal instance: at a row whose gathered coordinates are real they are
  `Cert.Turn.turned` of those coordinates' covariances.
-/
module

public import proofs.«01_k».proof.Proof.ScoreSelect
public import proofs.«01_k».proof.Proof.Angles

@[expose] public section

set_option maxRecDepth 4096

noncomputable section

namespace Cert.KernelIdeal.Score

open Idealize.ShloMosaic hiding ix1 ix2 ix3
open Idealize.ShloMosaic.TcCoe Cert.KernelIdeal Cert.KernelIdeal.Gen Idealize.ShloMosaic.ValueIdx Cert.Angles

/-! ## Covariances -/

theorem mean_real (v : FVec Ideal S256x16 .f32) (i : Fin 256) (k : Fin 1) (f : Fin 16 → ℝ) (h : ∀ s, v (ix2 i s) = ((f s : ℝ) : EReal)) :
    mean v (ix2 i k) = ((Turn.avg f : ℝ) : EReal) := by
  have e : shapeCast S256x1 (multiReduction .add [1] S256 v 0x00000000#32 reduces_S256x16_S256 (.inl rfl) rfl) shapeCasts_S256_S256x1 (ix2 i k) = ((∑ s, f s : ℝ) : EReal) := by
    refine (column _ _ i k).trans ((rowSum16 _ _ _ _ i).trans ?_)
    rw [← coe_sums]
    exact Finset.sum_congr rfl fun s _ => h s
  unfold mean
  show (shapeCast S256x1 (multiReduction .add [1] S256 v 0x00000000#32 reduces_S256x16_S256 (.inl rfl) rfl) shapeCasts_S256_S256x1 (ix2 i k) : EReal)
    * Ideal.ofBits .f32 0x3D800000#32 = _
  refine (congrArg₂ (fun a b : EReal => a * b) e bits_sixteenth).trans ?_
  beta_reduce
  rw [← EReal.coe_mul, mul_one_div]
  rfl

theorem cent_real (v : FVec Ideal S256x16 .f32) (i : Fin 256) (f : Fin 16 → ℝ) (h : ∀ s, v (ix2 i s) = ((f s : ℝ) : EReal)) (s : Fin 16) :
    cent v (ix2 i s) = ((f s - Turn.avg f : ℝ) : EReal) := by
  unfold cent
  show (v (ix2 i s) : EReal) - broadcastTo S256x16 (mean v) broadcasts_S256x1_S256x16 (ix2 i s) = _
  rw [spreadCol16, mean_real v i 0 f h, h, EReal.coe_sub]

theorem cov_real (v w : FVec Ideal S256x16 .f32) (i : Fin 256) (k : Fin 1) (f g : Fin 16 → ℝ) (hf : ∀ s, v (ix2 i s) = ((f s : ℝ) : EReal))
    (hg : ∀ s, w (ix2 i s) = ((g s : ℝ) : EReal)) : cov v w (ix2 i k) = ((Turn.covar f g : ℝ) : EReal) := by
  unfold cov
  refine mean_real _ i k (fun s => (f s - Turn.avg f) * (g s - Turn.avg g)) (fun s => ?_)
  show (cent v (ix2 i s) : EReal) * cent w (ix2 i s) = _
  rw [cent_real v i f hf, cent_real w i g hg, EReal.coe_mul]

/-! ## Rotations -/

section
variable (p q r u v : FVec Ideal S256x1 .f32) (j : S256x1.Idx) (P Q R U V : ℝ) (hp : p j = (P : EReal)) (hq : q j = (Q : EReal)) (hr : r j = (R : EReal))
  (hu : u j = (U : EReal)) (hv : v j = (V : EReal))
include hp hq hr

theorem tn_real : tn p q r j = ((Turn.tan P Q R : ℝ) : EReal) := by
  have e : tn p q r j = tan' (p j) (q j) (r j) := by unfold tn tan' half'; rfl
  rw [e, hp, hq, hr, tan'_real]

theorem cs_real : cs p q r j = ((Turn.cos P Q R : ℝ) : EReal) := by
  have e : cs p q r j = cos' (tn p q r j) := by unfold cs cos'; rfl
  rw [e, tn_real p q r j P Q R hp hq hr, cos'_real]
  rfl

theorem sn_real : sn p q r j = ((Turn.sin P Q R : ℝ) : EReal) := by
  have e : sn p q r j = (tn p q r j : EReal) * cs p q r j := by unfold sn; rfl
  rw [e, tn_real p q r j P Q R hp hq hr, cs_real p q r j P Q R hp hq hr, ← EReal.coe_mul]
  rfl

theorem lo_real : lo p q r j = ((P - Turn.tan P Q R * R : ℝ) : EReal) := by
  have e : lo p q r j = (p j : EReal) - tn p q r j * r j := by unfold lo; rfl
  rw [e, tn_real p q r j P Q R hp hq hr, hp, hr, ← EReal.coe_mul, ← EReal.coe_sub]

theorem hi_real : hi p q r j = ((Q + Turn.tan P Q R * R : ℝ) : EReal) := by
  have e : hi p q r j = (q j : EReal) + tn p q r j * r j := by unfold hi; rfl
  rw [e, tn_real p q r j P Q R hp hq hr, hq, hr, ← EReal.coe_mul, ← EReal.coe_add]

include hu hv

theorem ta_real : ta p q r u v j = ((Turn.cos P Q R * U - Turn.sin P Q R * V : ℝ) : EReal) := by
  have e : ta p q r u v j = (cs p q r j : EReal) * u j - sn p q r j * v j := by unfold ta; rfl
  rw [e, cs_real p q r j P Q R hp hq hr, sn_real p q r j P Q R hp hq hr, hu, hv, ← EReal.coe_mul, ← EReal.coe_mul, ← EReal.coe_sub]

theorem tb_real : tb p q r u v j = ((Turn.sin P Q R * U + Turn.cos P Q R * V : ℝ) : EReal) := by
  have e : tb p q r u v j = (sn p q r j : EReal) * u j + cs p q r j * v j := by unfold tb; rfl
  rw [e, cs_real p q r j P Q R hp hq hr, sn_real p q r j P Q R hp hq hr, hu, hv, ← EReal.coe_mul, ← EReal.coe_mul, ← EReal.coe_add]

end

theorem nil_real (j : S256x1.Idx) : (nil : FVec Ideal S256x1 .f32) j = ((0 : ℝ) : EReal) := zero_bits

/-- A row's matrix is real. -/
structure IsReal (q : Jac Ideal) (j : S256x1.Idx) (m : Turn.Sym) : Prop where
  xx : q.xx j = (m.xx : EReal)
  yy : q.yy j = (m.yy : EReal)
  zz : q.zz j = (m.zz : EReal)
  xy : q.xy j = (m.xy : EReal)
  xz : q.xz j = (m.xz : EReal)
  yz : q.yz j = (m.yz : EReal)

theorem rotA_real (q : Jac Ideal) (j : S256x1.Idx) (m : Turn.Sym) (h : IsReal q j m) : IsReal (rotA q) j (Turn.turnA m) where
  xx := by rw [rotA_xx]; exact lo_real _ _ _ j _ _ _ h.xx h.yy h.xy
  yy := by rw [rotA_yy]; exact hi_real _ _ _ j _ _ _ h.xx h.yy h.xy
  zz := by rw [rotA_zz]; exact h.zz
  xy := by rw [rotA_xy]; exact nil_real j
  xz := by rw [rotA_xz]; exact ta_real _ _ _ _ _ j _ _ _ _ _ h.xx h.yy h.xy h.xz h.yz
  yz := by rw [rotA_yz]; exact tb_real _ _ _ _ _ j _ _ _ _ _ h.xx h.yy h.xy h.xz h.yz

theorem rotB_real (q : Jac Ideal) (j : S256x1.Idx) (m : Turn.Sym) (h : IsReal q j m) : IsReal (rotB q) j (Turn.turnB m) where
  xx := by rw [rotB_xx]; exact lo_real _ _ _ j _ _ _ h.xx h.zz h.xz
  yy := by rw [rotB_yy]; exact h.yy
  zz := by rw [rotB_zz]; exact hi_real _ _ _ j _ _ _ h.xx h.zz h.xz
  xy := by rw [rotB_xy]; exact ta_real _ _ _ _ _ j _ _ _ _ _ h.xx h.zz h.xz h.xy h.yz
  xz := by rw [rotB_xz]; exact nil_real j
  yz := by rw [rotB_yz]; exact tb_real _ _ _ _ _ j _ _ _ _ _ h.xx h.zz h.xz h.xy h.yz

theorem rotC_real (q : Jac Ideal) (j : S256x1.Idx) (m : Turn.Sym) (h : IsReal q j m) : IsReal (rotC q) j (Turn.turnC m) where
  xx := by rw [rotC_xx]; exact h.xx
  yy := by rw [rotC_yy]; exact lo_real _ _ _ j _ _ _ h.yy h.zz h.yz
  zz := by rw [rotC_zz]; exact hi_real _ _ _ j _ _ _ h.yy h.zz h.yz
  xy := by rw [rotC_xy]; exact ta_real _ _ _ _ _ j _ _ _ _ _ h.yy h.zz h.yz h.xy h.xz
  xz := by rw [rotC_xz]; exact tb_real _ _ _ _ _ j _ _ _ _ _ h.yy h.zz h.yz h.xy h.xz
  yz := by rw [rotC_yz]; exact nil_real j

theorem rot_real (n : Nat) (q : Jac Ideal) (j : S256x1.Idx) (m : Turn.Sym) (h : IsReal q j m) : IsReal (rot n q) j (Turn.turn n m) := by
  unfold rot Turn.turn
  split
  · exact rotA_real q j m h
  · split
    · exact rotB_real q j m h
    · exact rotC_real q j m h

/-- The kernel's matrix after `n` rotations. -/
theorem jac_real (x0 : Vec Ideal S1x256x3 .f32) (x1 : Vec Ideal S1x3x4096 .f32) (i : Fin 256) (k : Fin 1) (f g h : Fin 16 → ℝ)
    (hx : ∀ s, (sel x0 x1 16).x (ix2 i s) = ((f s : ℝ) : EReal)) (hy : ∀ s, (sel x0 x1 16).y (ix2 i s) = ((g s : ℝ) : EReal))
    (hz : ∀ s, (sel x0 x1 16).z (ix2 i s) = ((h s : ℝ) : EReal)) (n : Nat) :
    IsReal (jac x0 x1 n) (ix2 i k) (Turn.turned (Turn.covars f g h) n) := by
  induction n with
  | zero =>
    rw [← jac_zero]
    exact ⟨by rw [jac0_xx]; exact cov_real _ _ i k _ _ hx hx, by rw [jac0_yy]; exact cov_real _ _ i k _ _ hy hy,
      by rw [jac0_zz]; exact cov_real _ _ i k _ _ hz hz, by rw [jac0_xy]; exact cov_real _ _ i k _ _ hx hy,
      by rw [jac0_xz]; exact cov_real _ _ i k _ _ hx hz, by rw [jac0_yz]; exact cov_real _ _ i k _ _ hy hz⟩
  | succ n ih => exact rot_real n _ _ _ ih

end Cert.KernelIdeal.Score

end
-- ==== Proof.ScoreOut.lean ====
/-
  What the scoring kernel's run leaves: in its first output the least distance left after sixteen selections (`out_radius`), in
  its second the complexity of the magnitudes of the diagonal the rotations leave (`out_complexity`).
-/
module

public import proofs.«01_k».proof.Proof.ScoreRun
public import Idealize.ShloMosaic.Lib.ValueIdx

@[expose] public section

set_option maxRecDepth 4096

noncomputable section

namespace Cert.KernelIdeal.Score

open Idealize.ShloMosaic Idealize.ShloMosaic.TcCoe Cert.KernelIdeal Cert.KernelIdeal.Gen
open Idealize.ShloMosaic.ValueIdx (ix2 ix3)

variable {F : FTy → Type} [FloatOps F]

/-- The complexity of three magnitudes, weighted. -/
def complexity (e f g : FVec F S256x1 .f32) (w0 w1 w2 : F .f32) : FVec F S256x1 .f32 :=
  k0_pay283 g (minimumf e f) (addf (maximumf (maximumf e f) g) (broadcast S256x1 (Scalar.ofBits .f32 0x322BCC77#32 : F .f32)))
    (maximumf (minimumf e f) (minimumf (maximumf e f) g)) (Scalar.ofBits .f32 0x322BCC77#32) w0 w1 w2

theorem out_radius (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .smem S1x8 .f32) (harg4 : arg4.IsWhole) (arg5 : Memref sig .tc .vmem S1x256x1 .f32) (harg5 : arg5.IsWhole) (arg6 : Memref sig .tc .vmem S1x256x1 .f32) (harg6 : arg6.IsWhole)
    (x0 : Vec F S1x256x3 .f32) (x1 : Vec F S1x3x4096 .f32) (x2 : Vec F S1x8 .f32) :
    out0_A_3 c i arg2 harg2 arg3 harg3 arg4 harg4 arg5 harg5 arg6 harg6 x0 x1 x2 = k0_pay1 (least (sel x0 x1 16).mat) := by
  unfold out0_A_3
  rw [View.read_writes_eq_canon _ _ _ (cover0_A_3 c i arg2 harg2 arg3 harg3 arg4 harg4 arg5 harg5 arg6 harg6 x0 x1 x2)]
  unfold kernelRun0_A
  dsimp only
  rw [View.canon_unit_zero hz3]
  simp only [r_92]
  rfl

theorem r_181 (c : Dev nD) (arg4 : Memref sig .tc .smem S1x8 .f32) (harg4 : arg4.IsWhole) (x2 : Vec F S1x8 .f32) :
    kernelRun0_A.sl.r_181 c arg4 harg4 x2 = x2 (ix2 0 0) := by
  unfold kernelRun0_A.sl.r_181
  simp only [View.readAt_eq_ld, harg4.read_unread]
  refine congrArg x2 (funext fun a => Fin.ext ?_)
  match a with
  | ⟨0, _⟩ => rfl
  | ⟨1, _⟩ => rfl

theorem r_182 (c : Dev nD) (arg4 : Memref sig .tc .smem S1x8 .f32) (harg4 : arg4.IsWhole) (x2 : Vec F S1x8 .f32) :
    kernelRun0_A.sl.r_182 c arg4 harg4 x2 = x2 (ix2 0 1) := by
  unfold kernelRun0_A.sl.r_182
  simp only [View.readAt_eq_ld, harg4.read_unread]
  refine congrArg x2 (funext fun a => Fin.ext ?_)
  match a with
  | ⟨0, _⟩ => rfl
  | ⟨1, _⟩ => rfl

theorem r_183 (c : Dev nD) (arg4 : Memref sig .tc .smem S1x8 .f32) (harg4 : arg4.IsWhole) (x2 : Vec F S1x8 .f32) :
    kernelRun0_A.sl.r_183 c arg4 harg4 x2 = x2 (ix2 0 2) := by
  unfold kernelRun0_A.sl.r_183
  simp only [View.readAt_eq_ld, harg4.read_unread]
  refine congrArg x2 (funext fun a => Fin.ext ?_)
  match a with
  | ⟨0, _⟩ => rfl
  | ⟨1, _⟩ => rfl

theorem out_complexity (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .smem S1x8 .f32) (harg4 : arg4.IsWhole) (arg5 : Memref sig .tc .vmem S1x256x1 .f32) (harg5 : arg5.IsWhole) (arg6 : Memref sig .tc .vmem S1x256x1 .f32) (harg6 : arg6.IsWhole)
    (x0 : Vec F S1x256x3 .f32) (x1 : Vec F S1x3x4096 .f32) (x2 : Vec F S1x8 .f32) :
    out0_A_4 c i arg2 harg2 arg3 harg3 arg4 harg4 arg5 harg5 arg6 harg6 x0 x1 x2 =
      k0_pay2 (complexity (absf (jac x0 x1 15).xx) (absf (jac x0 x1 15).yy) (absf (jac x0 x1 15).zz) (x2 (ix2 0 0)) (x2 (ix2 0 1)) (x2 (ix2 0 2))) := by
  unfold out0_A_4
  rw [View.read_writes_eq_canon _ _ _ (cover0_A_4 c i arg2 harg2 arg3 harg3 arg4 harg4 arg5 harg5 arg6 harg6 x0 x1 x2)]
  unfold kernelRun0_A
  dsimp only
  rw [View.canon_unit_zero hz3]
  simp only [kernelRun0_A.sl.r_184, r_177, r_178, r_179, r_180, r_181, r_182, r_183, kernelRun0_A.sl.cst_349, keep_15]
  rfl

end Cert.KernelIdeal.Score

end
-- ==== Proof.Points.lean ====
/-
  The squared distances of real points, the order they put the points in, the coordinates of a point's sixteen nearest, and the
  sort of three numbers.
-/
module

public import proofs.«01_k».proof.Proof.Angles
public import proofs.«01_k».proof.Proof.Pick

@[expose] public section

noncomputable section

namespace Cert.Points

open Idealize.ShloMosaic hiding tan cos sin
open Cert.Pick Cert.Orders

def sq (p : Fin 3 → ℝ) : ℝ := p 0 * p 0 + p 1 * p 1 + p 2 * p 2

/-- The squared distance, not below zero. -/
def far (p q : Fin 3 → ℝ) : ℝ := max (sq p + sq q - 2 * (p 0 * q 0 + p 1 * q 1 + p 2 * q 2)) 0

theorem far_nonneg (p q : Fin 3 → ℝ) : 0 ≤ far p q := le_max_right _ _

/-- The points in the order of their distance from `p`. -/
def order (p : Fin 3 → ℝ) (P : Fin 4096 → Fin 3 → ℝ) : Fin 4096 → Fin 4096 := rank fun j => ((far p (P j) : ℝ) : EReal)

/-- The same by the distances' roots. -/
theorem order_root (p : Fin 3 → ℝ) (P : Fin 4096 → Fin 3 → ℝ) : rank (fun j => ((√(far p (P j)) : ℝ) : EReal)) = order p P := by
  unfold order rank
  congr 1
  funext a b
  refine decide_eq_decide.mpr ?_
  rw [EReal.coe_lt_coe_iff, EReal.coe_lt_coe_iff, Real.sqrt_lt_sqrt_iff (far_nonneg _ _)]

/-- A coordinate of the sixteen nearest. -/
def near (p : Fin 3 → ℝ) (P : Fin 4096 → Fin 3 → ℝ) (a : Fin 3) (s : Fin 16) : ℝ := P (order p P ⟨s.val, by omega⟩) a

/-- A bound of the distances from one of the coordinates. -/
theorem far_le (p q : Fin 3 → ℝ) (B : ℝ) (hp : ∀ a, |p a| ≤ B) (hq : ∀ a, |q a| ≤ B) : far p q ≤ 12 * (B * B) := by
  have hB : 0 ≤ B := (abs_nonneg _).trans (hp 0)
  have key : ∀ a, (p a - q a) * (p a - q a) ≤ 4 * (B * B) := fun a => by
    have h1 := abs_le.mp (hp a)
    have h2 := abs_le.mp (hq a)
    nlinarith [mul_nonneg (show 0 ≤ 2 * B - (p a - q a) by linarith) (show 0 ≤ 2 * B + (p a - q a) by linarith)]
  refine max_le ?_ (by positivity)
  unfold sq
  nlinarith [key 0, key 1, key 2]

/-! ## Three numbers sorted -/

theorem three (f : Fin 3 → EReal) : f (rank f 0) = min (min (f 0) (f 1)) (f 2) ∧ f (rank f 1) = max (min (f 0) (f 1)) (min (max (f 0) (f 1)) (f 2)) ∧
    f (rank f 2) = max (max (f 0) (f 1)) (f 2) := by
  have le : ∀ {a b : Fin 3}, a < b → f (rank f a) ≤ f (rank f b) := fun {a b} h => by
    have := before_sortedFrom f h
    rcases this with h | ⟨h, -⟩
    · exact h.le
    · exact h.le
  have h01 := le (show (0 : Fin 3) < 1 by decide)
  have h12 := le (show (1 : Fin 3) < 2 by decide)
  have i01 : rank f 0 ≠ rank f 1 := fun h => absurd (rank_inj f h) (by decide)
  have i02 : rank f 0 ≠ rank f 2 := fun h => absurd (rank_inj f h) (by decide)
  have i12 : rank f 1 ≠ rank f 2 := fun h => absurd (rank_inj f h) (by decide)
  generalize rank f 0 = a at *
  generalize rank f 1 = b at *
  generalize rank f 2 = c at *
  have h02 := h01.trans h12
  fin_cases a <;> fin_cases b <;> first | exact absurd rfl i01 | skip
  all_goals fin_cases c <;> first | exact absurd rfl i02 | exact absurd rfl i12 | skip
  all_goals
    simp only [Fin.zero_eta, Fin.mk_one, Fin.reduceFinMk] at h01 h12 h02 ⊢
    refine ⟨?_, ?_, ?_⟩ <;> simp [h01, h12, h02]

/-- The complexity of three magnitudes, weighted. -/
def weigh (e f g w0 w1 w2 : EReal) : EReal :=
  w0 * Ideal.div (max (min e f) (min (max e f) g) + Ideal.ofBits .f32 0x322BCC77#32 - (min (min e f) g + Ideal.ofBits .f32 0x322BCC77#32))
      (max (max e f) g + Ideal.ofBits .f32 0x322BCC77#32)
    + w1 * Ideal.div (max (max e f) g + Ideal.ofBits .f32 0x322BCC77#32 - (max (min e f) (min (max e f) g) + Ideal.ofBits .f32 0x322BCC77#32))
      (max (max e f) g + Ideal.ofBits .f32 0x322BCC77#32)
    + w2 * Ideal.div (min (min e f) g + Ideal.ofBits .f32 0x322BCC77#32) (max (max e f) g + Ideal.ofBits .f32 0x322BCC77#32)

/-- The reading of the complexity off a point's matrix. -/
def score (p : Fin 3 → ℝ) (P : Fin 4096 → Fin 3 → ℝ) (w : Fin 3 → EReal) : EReal :=
  weigh ((|(Turn.turned (Turn.covars (near p P 0) (near p P 1) (near p P 2)) 15).xx| : ℝ) : EReal)
    ((|(Turn.turned (Turn.covars (near p P 0) (near p P 1) (near p P 2)) 15).yy| : ℝ) : EReal)
    ((|(Turn.turned (Turn.covars (near p P 0) (near p P 1) (near p P 2)) 15).zz| : ℝ) : EReal) (w 0) (w 1) (w 2)

/-- The seventeenth least squared distance. -/
def radius (p : Fin 3 → ℝ) (P : Fin 4096 → Fin 3 → ℝ) : EReal := ((far p (P (order p P (16 : Fin 4096))) : ℝ) : EReal)

end Cert.Points

end
-- ==== Proof.ScoreValue.lean ====
/-
  What the scoring call leaves at real points of moderate size: every point's seventeenth least squared distance and the
  complexity of the matrix its sixteen nearest give.
-/
module

public import proofs.«01_k».proof.Proof.ScoreTurn
public import proofs.«01_k».proof.Proof.ScoreOut
public import proofs.«01_k».proof.Proof.Points
public import proofs.«01_k».proof.Proof.Blocks
public import Idealize.ShloMosaic.Lib.Pointwise.Reshape

@[expose] public section

set_option maxRecDepth 4096

noncomputable section

namespace Cert.KernelIdeal.Score

open Idealize.ShloMosaic hiding ix1 ix2 ix3 tan cos sin
open Idealize.ShloMosaic.TcCoe Idealize.SL.Sem Cert.KernelIdeal Cert.KernelIdeal.Gen Idealize.ShloMosaic.ValueIdx Cert.Angles Cert.Points Cert.Pick

/-! ## Coordinates -/

section
variable {α : Type}

theorem plane (x : S1x3x4096.Idx → α) (h) (a : Fin 3) (j : Fin 4096) : shapeCast S3x4096 x h (ix2 a j) = x (ix3 (0 : Fin 1) a j) :=
  shapeCast_apply _ _ _ _ (by
    rw [rowMajor_val2 _ 4096 rfl, rowMajor_val3 _ 12288 4096 rfl rfl]
    show 0 * 12288 + a.val * 4096 + j.val = a.val * 4096 + j.val
    omega)

theorem rows (x : S1x256x3.Idx → α) (h) (i : Fin 256) (a : Fin 3) : shapeCast S256x3 x h (ix2 i a) = x (ix3 (0 : Fin 1) i a) :=
  shapeCast_apply _ _ _ _ (by
    rw [rowMajor_val2 _ 3 rfl, rowMajor_val3 _ 768 3 rfl rfl]
    show 0 * 768 + i.val * 3 + a.val = i.val * 3 + a.val
    omega)

theorem rowOf (x : S1x256x3.Idx → α) (o : Fin 2 → Nat) (h) (h') (a : Fin 3) (ho : o = ![0, a.val]) (i : Fin 256) :
    extractStridedSlice S256x1 o (shapeCast S256x3 x h') h (ix2 i (0 : Fin 1)) = x (ix3 (0 : Fin 1) i a) := by
  subst ho
  rw [extractStridedSlice_apply _ _ _ _ (ix2 i a) (fun d => by
    match d with
    | ⟨0, _⟩ => exact (Nat.zero_add _).symm
    | ⟨1, _⟩ => rfl), rows]

theorem planeOf (x : S1x3x4096.Idx → α) (o : Fin 2 → Nat) (h) (h') (a : Fin 3) (ho : o = ![a.val, 0]) (j : Fin 4096) :
    extractStridedSlice S1x4096 o (shapeCast S3x4096 x h') h (ix2 (0 : Fin 1) j) = x (ix3 (0 : Fin 1) a j) := by
  subst ho
  rw [extractStridedSlice_apply _ _ _ _ (ix2 a j) (fun d => by
    match d with
    | ⟨0, _⟩ => rfl
    | ⟨1, _⟩ => exact (Nat.zero_add _).symm), plane]

theorem column1 (v : S256x1.Idx → α) (h) (i : Fin 256) : shapeCast S1x256x1 v h (ix3 (0 : Fin 1) i (0 : Fin 1)) = v (ix2 i (0 : Fin 1)) :=
  shapeCast_apply _ _ _ _ (by
    rw [rowMajor_val2 _ 1 rfl, rowMajor_val3 _ 256 1 rfl rfl]
    show i.val * 1 + 0 = 0 * 256 + i.val * 1 + 0
    omega)
end

theorem pay4_apply (x1 : Vec Ideal S1x3x4096 .f32) (j : Fin 4096) : k0_pay4 x1 (ix2 (0 : Fin 1) j) = x1 (ix3 (0 : Fin 1) 0 j) :=
  planeOf x1 ![0, 0] slices_S3x4096_o0_0_S1x4096 shapeCasts_S1x3x4096_S3x4096 0 rfl j
theorem pay5_apply (x1 : Vec Ideal S1x3x4096 .f32) (j : Fin 4096) : k0_pay5 x1 (ix2 (0 : Fin 1) j) = x1 (ix3 (0 : Fin 1) 1 j) :=
  planeOf x1 ![1, 0] slices_S3x4096_o1_0_S1x4096 shapeCasts_S1x3x4096_S3x4096 1 rfl j
theorem pay6_apply (x1 : Vec Ideal S1x3x4096 .f32) (j : Fin 4096) : k0_pay6 x1 (ix2 (0 : Fin 1) j) = x1 (ix3 (0 : Fin 1) 2 j) :=
  planeOf x1 ![2, 0] slices_S3x4096_o2_0_S1x4096 shapeCasts_S1x3x4096_S3x4096 2 rfl j

theorem pay1_apply (v : FVec Ideal S256x1 .f32) (i : Fin 256) : k0_pay1 v (ix3 (0 : Fin 1) i (0 : Fin 1)) = v (ix2 i (0 : Fin 1)) := by
  unfold k0_pay1
  exact column1 v _ i

theorem pay2_apply (v : FVec Ideal S256x1 .f32) (i : Fin 256) : k0_pay2 v (ix3 (0 : Fin 1) i (0 : Fin 1)) = v (ix2 i (0 : Fin 1)) := by
  unfold k0_pay2
  exact column1 v _ i

/-! ## Distances -/

section
variable (x0 : Vec Ideal S1x256x3 .f32) (x1 : Vec Ideal S1x3x4096 .f32) (i : Fin 256) (p : Fin 3 → ℝ) (P : Fin 4096 → Fin 3 → ℝ)
  (h0 : ∀ a, x0 (ix3 (0 : Fin 1) i a) = ((p a : ℝ) : EReal)) (h1 : ∀ a j, x1 (ix3 (0 : Fin 1) a j) = ((P j a : ℝ) : EReal))
include h0 h1

theorem dist_real (j : Fin 4096) : dist x0 x1 i j = ((far p (P j) : ℝ) : EReal) := by
  have e : k0_pay7 x0 x1 (ix2 i j) = ((Points.sq p + Points.sq (P j) - 2 * (p 0 * P j 0 + p 1 * P j 1 + p 2 * P j 2) : ℝ) : EReal) := by
    unfold k0_pay7
    simp only [ValueIdx.addf_apply, ValueIdx.mulf_apply, ValueIdx.subf_apply, ValueIdx.truncf_apply, ValueIdx.extf_apply, spreadCol, spreadRow, pay4_apply, pay5_apply, pay6_apply]
    rw [show extractStridedSlice S256x1 ![0, 0] (shapeCast S256x3 x0 shapeCasts_S1x256x3_S256x3) slices_S256x3_o0_0_S256x1 (ix2 i 0) = ((p 0 : ℝ) : EReal) from
        (rowOf x0 ![0, 0] _ _ 0 rfl i).trans (h0 0),
      show extractStridedSlice S256x1 ![0, 1] (shapeCast S256x3 x0 shapeCasts_S1x256x3_S256x3) slices_S256x3_o0_1_S256x1 (ix2 i 0) = ((p 1 : ℝ) : EReal) from
        (rowOf x0 ![0, 1] _ _ 1 rfl i).trans (h0 1),
      show extractStridedSlice S256x1 ![0, 2] (shapeCast S256x3 x0 shapeCasts_S1x256x3_S256x3) slices_S256x3_o0_2_S256x1 (ix2 i 0) = ((p 2 : ℝ) : EReal) from
        (rowOf x0 ![0, 2] _ _ 2 rfl i).trans (h0 2), h1, h1, h1]
    show ((p 0 : EReal) * p 0 + p 1 * p 1 + p 2 * p 2 + ((P j 0 : EReal) * P j 0 + P j 1 * P j 1 + P j 2 * P j 2)
      - Ideal.ofBits .f32 0x40000000#32 * ((p 0 : EReal) * P j 0 + p 1 * P j 1 + p 2 * P j 2)) = _
    rw [bits_two]
    unfold Points.sq
    push_cast
    rfl
  show max (k0_pay7 x0 x1 (ix2 i j)) (Ideal.ofBits .f32 0x00000000#32) = _
  rw [e, bits_zero, ← EReal.coe_strictMono.monotone.map_max]
  rfl

/-! ## A row of the outputs -/

variable (hB : ∀ j, ((far p (P j) : ℝ) : EReal) < great)
include hB

theorem bounded (j : Fin 4096) : dist x0 x1 i j < great := by rw [dist_real x0 x1 i p P h0 h1]; exact hB j

theorem rank_dist : rank (dist x0 x1 i) = order p P := congrArg rank (funext fun j => dist_real x0 x1 i p P h0 h1 j)

theorem radius_row : k0_pay1 (least (sel x0 x1 16).mat) (ix3 (0 : Fin 1) i (0 : Fin 1)) = radius p P := by
  refine (pay1_apply _ i).trans ?_
  rw [least_apply x0 x1 i (bounded x0 x1 i p P h0 h1 hB), rank_dist x0 x1 i p P h0 h1 hB, dist_real x0 x1 i p P h0 h1]
  rfl

theorem score_row (w : Fin 3 → EReal) :
    k0_pay2 (complexity (absf (jac x0 x1 15).xx) (absf (jac x0 x1 15).yy) (absf (jac x0 x1 15).zz) (w 0) (w 1) (w 2)) (ix3 (0 : Fin 1) i (0 : Fin 1)) = score p P w := by
  have hd := bounded x0 x1 i p P h0 h1 hB
  have hr := rank_dist x0 x1 i p P h0 h1 hB
  have hj := jac_real x0 x1 i 0 (near p P 0) (near p P 1) (near p P 2)
    (fun s => by rw [sel_x x0 x1 i hd 16 (le_refl _) s s.isLt, pay4_apply, hr, h1]; rfl)
    (fun s => by rw [sel_y x0 x1 i hd 16 (le_refl _) s s.isLt, pay5_apply, hr, h1]; rfl)
    (fun s => by rw [sel_z x0 x1 i hd 16 (le_refl _) s s.isLt, pay6_apply, hr, h1]; rfl) 15
  refine (pay2_apply _ i).trans ?_
  have e : ∀ E F G : FVec Ideal S256x1 .f32, complexity E F G (w 0) (w 1) (w 2) (ix2 i (0 : Fin 1)) = weigh (E (ix2 i 0)) (F (ix2 i 0)) (G (ix2 i 0)) (w 0) (w 1) (w 2) :=
    fun E F G => by unfold complexity k0_pay283; rfl
  rw [e]
  have a : ∀ (v : FVec Ideal S256x1 .f32) (r : ℝ), v (ix2 i (0 : Fin 1)) = (r : EReal) → absf v (ix2 i (0 : Fin 1)) = ((|r| : ℝ) : EReal) := fun v r h => by
    show max (v (ix2 i (0 : Fin 1))) (-(v (ix2 i (0 : Fin 1)))) = _
    rw [h, abs_real]
  rw [a _ _ hj.xx, a _ _ hj.yy, a _ _ hj.zz]
  rfl

end

/-! ## The blocks -/

variable (m : (ℓ : Loc nD τ sig) → Buf (Elt Ideal) ℓ) (ρ : Dev nD → PrngReg)

/-- The grid point of a batch and a block of rows. -/
def pt (b : Fin 2) (q : Fin 16) : Fin cfg0.N := ⟨b.val * 16 + q.val, by rw [show cfg0.N = 32 from N_0]; omega⟩

/-- A row of a block, as one of all. -/
def row (q : Fin 16) (r : Fin 256) : Fin 4096 := ⟨q.val * 256 + r.val, by omega⟩

theorem at0 : ∀ (b : Fin 2) (q : Fin 16), win0_0.index (pt b q) = ![b.val, q.val, 0] := by decide +kernel
theorem at1 : ∀ (b : Fin 2) (q : Fin 16), win0_1.index (pt b q) = ![b.val, 0, 0] := by decide +kernel
theorem at3 : ∀ (b : Fin 2) (q : Fin 16), win0_3.index (pt b q) = ![b.val, q.val, 0] := by decide +kernel
theorem at4 : ∀ (b : Fin 2) (q : Fin 16), win0_4.index (pt b q) = ![b.val, q.val, 0] := by decide +kernel

theorem V_own (c : Dev nD) : V1 m ρ c main_arg0 = m ((c : Thread nD τ).loc main_arg0) := by
  show StableHlo.after hostOps0 (W0 m ρ c) (Proc.devRef .tc main_arg0) = _
  unfold hostOps0
  after_results <;> rfl

theorem V_all (c : Dev nD) : V1 m ρ c main_v0 = transpose S2x3x4096 [0, 2, 1] (m ((c : Thread nD τ).loc main_arg0)) transposes_S2x4096x3_S2x3x4096_0_2_1 := by
  show StableHlo.after hostOps0 (W0 m ρ c) (Proc.devRef .tc main_v0) = _
  unfold hostOps0
  after_results <;> rfl

theorem V_par (c : Dev nD) : V1 m ρ c main_v3 = shapeCast S1x8 (concatenate S8 0 [⟨S3, (m ((c : Thread nD τ).loc main_arg4) : FVec Ideal S3 .f32)⟩, ⟨S5, (broadcastInDim S5 ![] bcast_S_S5 (constant S_ .f32 0x00000000#32) : FVec Ideal S5 .f32)⟩] concatenates_S3_S5_S8_d0) shapeCasts_S8_S1x8 := by
  show StableHlo.after hostOps0 (W0 m ρ c) (Proc.devRef .tc main_v3) = _
  unfold hostOps0
  after_results <;> rfl

theorem blk_own (c : Dev nD) (b : Fin 2) (q : Fin 16) (r : Fin 256) (a : Fin 3) :
    (iblk0 (V1 m ρ) c 0 (pt b q) : Vec Ideal S1x256x3 .f32) (ix3 (0 : Fin 1) r a) = m ((c : Thread nD τ).loc main_arg0) (ix3 b (row q r) a) := by
  rw [← V_own m ρ c]
  show V1 m ρ c main_arg0 _ = _
  refine congrArg (V1 m ρ c main_arg0) (funext fun d => Fin.ext ?_)
  have h := at0 b q
  match d with
  | ⟨0, _⟩ => show win0_0.index (pt b q) 0 * 1 + 1 * 0 = b.val; rw [h]; show b.val * 1 + 1 * 0 = b.val; omega
  | ⟨1, _⟩ => show win0_0.index (pt b q) 1 * 256 + 1 * r.val = q.val * 256 + r.val; rw [h]; show q.val * 256 + 1 * r.val = _; omega
  | ⟨2, _⟩ => show win0_0.index (pt b q) 2 * 3 + 1 * a.val = a.val; rw [h]; show 0 * 3 + 1 * a.val = _; omega

theorem blk_all (c : Dev nD) (b : Fin 2) (q : Fin 16) (a : Fin 3) (i : Fin 4096) :
    (iblk0 (V1 m ρ) c 1 (pt b q) : Vec Ideal S1x3x4096 .f32) (ix3 (0 : Fin 1) a i) = m ((c : Thread nD τ).loc main_arg0) (ix3 b i a) := by
  have e : (iblk0 (V1 m ρ) c 1 (pt b q) : Vec Ideal S1x3x4096 .f32) (ix3 (0 : Fin 1) a i) = V1 m ρ c main_v0 (ix3 b a i) := by
    show V1 m ρ c main_v0 _ = _
    refine congrArg (V1 m ρ c main_v0) (funext fun d => Fin.ext ?_)
    have h := at1 b q
    match d with
    | ⟨0, _⟩ => show win0_1.index (pt b q) 0 * 1 + 1 * 0 = b.val; rw [h]; show b.val * 1 + 1 * 0 = b.val; omega
    | ⟨1, _⟩ => show win0_1.index (pt b q) 1 * 3 + 1 * a.val = a.val; rw [h]; show 0 * 3 + 1 * a.val = _; omega
    | ⟨2, _⟩ => show win0_1.index (pt b q) 2 * 4096 + 1 * i.val = i.val; rw [h]; show 0 * 4096 + 1 * i.val = _; omega
  rw [e, V_all]
  exact transpose_apply _ _ _ _ (ix3 b i a) (fun d => by
    match d with
    | ⟨0, _⟩ => rfl
    | ⟨1, _⟩ => rfl
    | ⟨2, _⟩ => rfl)

theorem blk_par (c : Dev nD) (t : Fin cfg0.N) (k : Fin 8) (a : Fin 3) (hk : k.val = a.val) :
    (iblk0 (V1 m ρ) c 2 t : Vec Ideal S1x8 .f32) (ix2 (0 : Fin 1) k) = m ((c : Thread nD τ).loc main_arg4) (ix1 a) := by
  have e : (iblk0 (V1 m ρ) c 2 t : Vec Ideal S1x8 .f32) (ix2 (0 : Fin 1) k) = V1 m ρ c main_v3 (ix2 (0 : Fin 1) k) := by
    show V1 m ρ c main_v3 _ = _
    refine congrArg (V1 m ρ c main_v3) (funext fun d => Fin.ext ?_)
    match d with
    | ⟨0, _⟩ => rfl
    | ⟨1, _⟩ => show 0 * 8 + 1 * k.val = k.val; omega
  rw [e, V_par, shapeCast_apply _ _ _ (ix1 k) (by
    rw [rowMajor_val2 _ 8 rfl, rowMajor_val1]
    show k.val = 0 * 8 + k.val
    omega)]
  exact concatenate_pair_apply_left (t := S8) (s₁ := S3) (s₂ := S5) 0 (m ((c : Thread nD τ).loc main_arg4) : FVec Ideal S3 .f32)
    (broadcastInDim S5 ![] bcast_S_S5 (constant S_ .f32 0x00000000#32) : FVec Ideal S5 .f32) concatenates_S3_S5_S8_d0 (ix1 k) rfl (ix1 a) (fun d => by
    match d with
    | ⟨0, _⟩ => exact hk.symm)

/-! ## The outputs -/

section
variable (c : Dev nD) (P : Fin 2 → Fin 4096 → Fin 3 → ℝ) (hP : ∀ b i a, m ((c : Thread nD τ).loc main_arg0) (ix3 b i a) = ((P b i a : ℝ) : EReal))
  (hB : ∀ b i j, ((far (P b i) (P b j) : ℝ) : EReal) < great)
include hP hB

theorem final_radius (b : Fin 2) (q : Fin 16) (r : Fin 256) :
    (dat0 (V1 m ρ) c).arrAt 3 cfg0.N (ix3 b (row q r) (0 : Fin 1)) = radius (P b (row q r)) (P b) := by
  have h := congrFun ((Blocks.blocks0_3 (V1 m ρ) c (pt b q)).trans (Blocks.flushed0_3 (V1 m ρ) c (pt b q))) (ix3 (0 : Fin 1) r (0 : Fin 1))
  refine Eq.trans ?_ (h.trans ?_)
  · show _ = (dat0 (V1 m ρ) c).arrAt 3 cfg0.N _
    refine congrArg ((dat0 (V1 m ρ) c).arrAt 3 cfg0.N) (funext fun d => Fin.ext ?_)
    have h := at3 b q
    match d with
    | ⟨0, _⟩ => show b.val = win0_3.index (pt b q) 0 * 1 + 1 * 0; rw [h]; show b.val = b.val * 1 + 1 * 0; omega
    | ⟨1, _⟩ => show q.val * 256 + r.val = win0_3.index (pt b q) 1 * 256 + 1 * r.val; rw [h]; show _ = q.val * 256 + 1 * r.val; omega
    | ⟨2, _⟩ => show 0 = win0_3.index (pt b q) 2 * 1 + 1 * 0; rw [h]; rfl
  · rw [out_radius]
    exact radius_row _ _ r _ _ (fun a => (blk_own m ρ c b q r a).trans (hP _ _ _)) (fun a j => (blk_all m ρ c b q a j).trans (hP _ _ _)) (hB b _)

theorem final_score (b : Fin 2) (q : Fin 16) (r : Fin 256) :
    (dat0 (V1 m ρ) c).arrAt 4 cfg0.N (ix3 b (row q r) (0 : Fin 1)) = score (P b (row q r)) (P b) (fun a => m ((c : Thread nD τ).loc main_arg4) (ix1 a)) := by
  have h := congrFun ((Blocks.blocks0_4 (V1 m ρ) c (pt b q)).trans (Blocks.flushed0_4 (V1 m ρ) c (pt b q))) (ix3 (0 : Fin 1) r (0 : Fin 1))
  refine Eq.trans ?_ (h.trans ?_)
  · show _ = (dat0 (V1 m ρ) c).arrAt 4 cfg0.N _
    refine congrArg ((dat0 (V1 m ρ) c).arrAt 4 cfg0.N) (funext fun d => Fin.ext ?_)
    have h := at4 b q
    match d with
    | ⟨0, _⟩ => show b.val = win0_4.index (pt b q) 0 * 1 + 1 * 0; rw [h]; show b.val = b.val * 1 + 1 * 0; omega
    | ⟨1, _⟩ => show q.val * 256 + r.val = win0_4.index (pt b q) 1 * 256 + 1 * r.val; rw [h]; show _ = q.val * 256 + 1 * r.val; omega
    | ⟨2, _⟩ => show 0 = win0_4.index (pt b q) 2 * 1 + 1 * 0; rw [h]; rfl
  · rw [out_complexity, blk_par m ρ c _ 0 0 rfl, blk_par m ρ c _ 1 1 rfl, blk_par m ρ c _ 2 2 rfl]
    exact score_row _ _ r _ _ (fun a => (blk_own m ρ c b q r a).trans (hP _ _ _)) (fun a j => (blk_all m ρ c b q a j).trans (hP _ _ _)) (hB b _)
      (fun a => m ((c : Thread nD τ).loc main_arg4) (ix1 a))

end

end Cert.KernelIdeal.Score

end
-- ==== Proof.RefTurn.lean ====
/-
  The reference's covariance and its fifteen rotations at the ideal instance: at a row whose covariances are real they are
  `Cert.Turn.turned` of them.
-/
module

public import proofs.«01_k».proof.Proof.Angles
public import proofs.«01_k».proof.Proof.Gen.ReferenceIdeal.Run

@[expose] public section

set_option maxRecDepth 4096

noncomputable section

namespace Cert.ReferenceIdeal.Score

open Idealize.ShloMosaic Idealize.ShloMosaic.TcCoe Cert.ReferenceIdeal Cert.ReferenceIdeal.Gen Cert.ReferenceIdeal.Value Cert.Angles Idealize.ShloMosaic.StableHlo

/-- One number at every row. -/
def all (b : BitVec 32) : FVec Ideal S2x4096 .f32 := broadcastInDim S2x4096 ![] bcast_S_S2x4096 (constant S_ .f32 b)

def refHalf (p q r : FVec Ideal S2x4096 .f32) : FVec Ideal S2x4096 .f32 := Host.divf (subf q p) (mulf (all 0x40000000#32) r)
def refRoot (t : FVec Ideal S2x4096 .f32) : FVec Ideal S2x4096 .f32 := Host.sqrt (addf (all 0x3F800000#32) (mulf t t))
def refTan (t : FVec Ideal S2x4096 .f32) : FVec Ideal S2x4096 .f32 :=
  select (cmpf .oge t (all 0x00000000#32)) (Host.divf (all 0x3F800000#32) (addf t (refRoot t))) (Host.divf (all 0xBF800000#32) (subf (refRoot t) t))
def refCos (t : FVec Ideal S2x4096 .f32) : FVec Ideal S2x4096 .f32 := Host.divf (all 0x3F800000#32) (refRoot t)
def refC (p q r : FVec Ideal S2x4096 .f32) : FVec Ideal S2x4096 .f32 :=
  select (cmpf .une r (all 0x00000000#32)) (refCos (refTan (refHalf p q r))) (all 0x3F800000#32)
def refS (p q r : FVec Ideal S2x4096 .f32) : FVec Ideal S2x4096 .f32 :=
  select (cmpf .une r (all 0x00000000#32)) (mulf (refTan (refHalf p q r)) (refCos (refTan (refHalf p q r)))) (all 0x00000000#32)
def refLow (c s p q r : FVec Ideal S2x4096 .f32) : FVec Ideal S2x4096 .f32 :=
  addf (subf (mulf (mulf c c) p) (mulf (all 0x40000000#32) (mulf (mulf c s) r))) (mulf (mulf s s) q)
def refHigh (c s p q r : FVec Ideal S2x4096 .f32) : FVec Ideal S2x4096 .f32 :=
  addf (addf (mulf (mulf s s) p) (mulf (all 0x40000000#32) (mulf (mulf c s) r))) (mulf (mulf c c) q)
def refOff (c s p q r : FVec Ideal S2x4096 .f32) : FVec Ideal S2x4096 .f32 :=
  addf (mulf (subf (mulf c c) (mulf s s)) r) (mulf (mulf c s) (subf p q))
def refU (c s u v : FVec Ideal S2x4096 .f32) : FVec Ideal S2x4096 .f32 := subf (mulf c u) (mulf s v)
def refV (c s u v : FVec Ideal S2x4096 .f32) : FVec Ideal S2x4096 .f32 := addf (mulf s u) (mulf c v)

section
variable (p q r u v c s : FVec Ideal S2x4096 .f32) (j : S2x4096.Idx) (P Q R U V : ℝ) (hp : p j = (P : EReal)) (hq : q j = (Q : EReal)) (hr : r j = (R : EReal))

include hp hq hr in
theorem refC_real : refC p q r j = ((Turn.cos P Q R : ℝ) : EReal) := by
  have e : refC p q r j = turnCos (p j) (q j) (r j) := by unfold refC turnCos; rfl
  rw [e, hp, hq, hr, turnCos_real]

include hp hq hr in
theorem refS_real : refS p q r j = ((Turn.sin P Q R : ℝ) : EReal) := by
  have e : refS p q r j = turnSin (p j) (q j) (r j) := by unfold refS turnSin; rfl
  rw [e, hp, hq, hr, turnSin_real]

variable (hc : c = refC p q r) (hs : s = refS p q r)
include hp hq hr hc hs

theorem refLow_real : refLow c s p q r j = ((P - Turn.tan P Q R * R : ℝ) : EReal) := by
  have e : refLow c s p q r j = low2 (c j) (s j) (p j) (q j) (r j) := by unfold refLow low2; rfl
  rw [e, hc, hs, refC_real p q r j P Q R hp hq hr, refS_real p q r j P Q R hp hq hr, hp, hq, hr, low2_real]

theorem refHigh_real : refHigh c s p q r j = ((Q + Turn.tan P Q R * R : ℝ) : EReal) := by
  have e : refHigh c s p q r j = high2 (c j) (s j) (p j) (q j) (r j) := by unfold refHigh high2; rfl
  rw [e, hc, hs, refC_real p q r j P Q R hp hq hr, refS_real p q r j P Q R hp hq hr, hp, hq, hr, high2_real]

theorem refOff_real : refOff c s p q r j = ((0 : ℝ) : EReal) := by
  have e : refOff c s p q r j = off2 (c j) (s j) (p j) (q j) (r j) := by unfold refOff off2; rfl
  rw [e, hc, hs, refC_real p q r j P Q R hp hq hr, refS_real p q r j P Q R hp hq hr, hp, hq, hr, off2_real]

variable (hu : u j = (U : EReal)) (hv : v j = (V : EReal))
include hu hv

theorem refU_real : refU c s u v j = ((Turn.cos P Q R * U - Turn.sin P Q R * V : ℝ) : EReal) := by
  have e : refU c s u v j = (c j : EReal) * u j - s j * v j := by unfold refU; rfl
  rw [e, hc, hs, refC_real p q r j P Q R hp hq hr, refS_real p q r j P Q R hp hq hr, hu, hv, ← EReal.coe_mul, ← EReal.coe_mul, ← EReal.coe_sub]

theorem refV_real : refV c s u v j = ((Turn.sin P Q R * U + Turn.cos P Q R * V : ℝ) : EReal) := by
  have e : refV c s u v j = (s j : EReal) * u j + c j * v j := by unfold refV; rfl
  rw [e, hc, hs, refC_real p q r j P Q R hp hq hr, refS_real p q r j P Q R hp hq hr, hu, hv, ← EReal.coe_mul, ← EReal.coe_mul, ← EReal.coe_add]

end

/-- Six entries of a row are a real matrix's. -/
structure Are (xx yy zz xy xz yz : FVec Ideal S2x4096 .f32) (j : S2x4096.Idx) (m : Turn.Sym) : Prop where
  xx : xx j = (m.xx : EReal)
  yy : yy j = (m.yy : EReal)
  zz : zz j = (m.zz : EReal)
  xy : xy j = (m.xy : EReal)
  xz : xz j = (m.xz : EReal)
  yz : yz j = (m.yz : EReal)

section
variable (xx yy zz xy xz yz c s : FVec Ideal S2x4096 .f32) (j : S2x4096.Idx) (m : Turn.Sym)

theorem turnA (hc : c = refC xx yy xy) (hs : s = refS xx yy xy) (h : Are xx yy zz xy xz yz j m) :
    Are (refLow c s xx yy xy) (refHigh c s xx yy xy) zz (refOff c s xx yy xy) (refU c s xz yz) (refV c s xz yz) j (Turn.turnA m) :=
  ⟨refLow_real _ _ _ _ _ j _ _ _ h.xx h.yy h.xy hc hs, refHigh_real _ _ _ _ _ j _ _ _ h.xx h.yy h.xy hc hs, h.zz,
    refOff_real _ _ _ _ _ j _ _ _ h.xx h.yy h.xy hc hs, refU_real _ _ _ _ _ _ _ j _ _ _ _ _ h.xx h.yy h.xy hc hs h.xz h.yz,
    refV_real _ _ _ _ _ _ _ j _ _ _ _ _ h.xx h.yy h.xy hc hs h.xz h.yz⟩

theorem turnB (hc : c = refC xx zz xz) (hs : s = refS xx zz xz) (h : Are xx yy zz xy xz yz j m) :
    Are (refLow c s xx zz xz) yy (refHigh c s xx zz xz) (refU c s xy yz) (refOff c s xx zz xz) (refV c s xy yz) j (Turn.turnB m) :=
  ⟨refLow_real _ _ _ _ _ j _ _ _ h.xx h.zz h.xz hc hs, h.yy, refHigh_real _ _ _ _ _ j _ _ _ h.xx h.zz h.xz hc hs,
    refU_real _ _ _ _ _ _ _ j _ _ _ _ _ h.xx h.zz h.xz hc hs h.xy h.yz, refOff_real _ _ _ _ _ j _ _ _ h.xx h.zz h.xz hc hs,
    refV_real _ _ _ _ _ _ _ j _ _ _ _ _ h.xx h.zz h.xz hc hs h.xy h.yz⟩

theorem turnC (hc : c = refC yy zz yz) (hs : s = refS yy zz yz) (h : Are xx yy zz xy xz yz j m) :
    Are xx (refLow c s yy zz yz) (refHigh c s yy zz yz) (refU c s xy xz) (refV c s xy xz) (refOff c s yy zz yz) j (Turn.turnC m) :=
  ⟨h.xx, refLow_real _ _ _ _ _ j _ _ _ h.yy h.zz h.yz hc hs, refHigh_real _ _ _ _ _ j _ _ _ h.yy h.zz h.yz hc hs,
    refU_real _ _ _ _ _ _ _ j _ _ _ _ _ h.yy h.zz h.yz hc hs h.xy h.xz, refV_real _ _ _ _ _ _ _ j _ _ _ _ _ h.yy h.zz h.yz hc hs h.xy h.xz,
    refOff_real _ _ _ _ _ j _ _ _ h.yy h.zz h.yz hc hs⟩
end

variable (V0 : Valuation τ sig (Elt Ideal)) (j : S2x4096.Idx) (m : Turn.Sym)

theorem turned_1 (h : Are (res_main_v56 V0) (res_main_v60 V0) (res_main_v64 V0) (res_main_v68 V0) (res_main_v72 V0) (res_main_v76 V0) j (Turn.turned m 0)) :
    Are (res_main_v114 V0) (res_main_v124 V0) (res_main_v64 V0) (res_main_v132 V0) (res_main_v135 V0) (res_main_v138 V0) j (Turn.turned m 1) :=
  turnA (res_main_v56 V0) (res_main_v60 V0) (res_main_v64 V0) (res_main_v68 V0) (res_main_v72 V0) (res_main_v76 V0) (res_main_v102 V0) (res_main_v104 V0) j _ rfl rfl h

theorem turned_2 (h : Are (res_main_v114 V0) (res_main_v124 V0) (res_main_v64 V0) (res_main_v132 V0) (res_main_v135 V0) (res_main_v138 V0) j (Turn.turned m 1)) :
    Are (res_main_v176 V0) (res_main_v124 V0) (res_main_v186 V0) (res_main_v197 V0) (res_main_v194 V0) (res_main_v200 V0) j (Turn.turned m 2) :=
  turnB (res_main_v114 V0) (res_main_v124 V0) (res_main_v64 V0) (res_main_v132 V0) (res_main_v135 V0) (res_main_v138 V0) (res_main_v164 V0) (res_main_v166 V0) j _ rfl rfl h

theorem turned_3 (h : Are (res_main_v176 V0) (res_main_v124 V0) (res_main_v186 V0) (res_main_v197 V0) (res_main_v194 V0) (res_main_v200 V0) j (Turn.turned m 2)) :
    Are (res_main_v176 V0) (res_main_v238 V0) (res_main_v248 V0) (res_main_v259 V0) (res_main_v262 V0) (res_main_v256 V0) j (Turn.turned m 3) :=
  turnC (res_main_v176 V0) (res_main_v124 V0) (res_main_v186 V0) (res_main_v197 V0) (res_main_v194 V0) (res_main_v200 V0) (res_main_v226 V0) (res_main_v228 V0) j _ rfl rfl h

theorem turned_4 (h : Are (res_main_v176 V0) (res_main_v238 V0) (res_main_v248 V0) (res_main_v259 V0) (res_main_v262 V0) (res_main_v256 V0) j (Turn.turned m 3)) :
    Are (res_main_v300 V0) (res_main_v310 V0) (res_main_v248 V0) (res_main_v318 V0) (res_main_v321 V0) (res_main_v324 V0) j (Turn.turned m 4) :=
  turnA (res_main_v176 V0) (res_main_v238 V0) (res_main_v248 V0) (res_main_v259 V0) (res_main_v262 V0) (res_main_v256 V0) (res_main_v288 V0) (res_main_v290 V0) j _ rfl rfl h

theorem turned_5 (h : Are (res_main_v300 V0) (res_main_v310 V0) (res_main_v248 V0) (res_main_v318 V0) (res_main_v321 V0) (res_main_v324 V0) j (Turn.turned m 4)) :
    Are (res_main_v362 V0) (res_main_v310 V0) (res_main_v372 V0) (res_main_v383 V0) (res_main_v380 V0) (res_main_v386 V0) j (Turn.turned m 5) :=
  turnB (res_main_v300 V0) (res_main_v310 V0) (res_main_v248 V0) (res_main_v318 V0) (res_main_v321 V0) (res_main_v324 V0) (res_main_v350 V0) (res_main_v352 V0) j _ rfl rfl h

theorem turned_6 (h : Are (res_main_v362 V0) (res_main_v310 V0) (res_main_v372 V0) (res_main_v383 V0) (res_main_v380 V0) (res_main_v386 V0) j (Turn.turned m 5)) :
    Are (res_main_v362 V0) (res_main_v424 V0) (res_main_v434 V0) (res_main_v445 V0) (res_main_v448 V0) (res_main_v442 V0) j (Turn.turned m 6) :=
  turnC (res_main_v362 V0) (res_main_v310 V0) (res_main_v372 V0) (res_main_v383 V0) (res_main_v380 V0) (res_main_v386 V0) (res_main_v412 V0) (res_main_v414 V0) j _ rfl rfl h

theorem turned_7 (h : Are (res_main_v362 V0) (res_main_v424 V0) (res_main_v434 V0) (res_main_v445 V0) (res_main_v448 V0) (res_main_v442 V0) j (Turn.turned m 6)) :
    Are (res_main_v486 V0) (res_main_v496 V0) (res_main_v434 V0) (res_main_v504 V0) (res_main_v507 V0) (res_main_v510 V0) j (Turn.turned m 7) :=
  turnA (res_main_v362 V0) (res_main_v424 V0) (res_main_v434 V0) (res_main_v445 V0) (res_main_v448 V0) (res_main_v442 V0) (res_main_v474 V0) (res_main_v476 V0) j _ rfl rfl h

theorem turned_8 (h : Are (res_main_v486 V0) (res_main_v496 V0) (res_main_v434 V0) (res_main_v504 V0) (res_main_v507 V0) (res_main_v510 V0) j (Turn.turned m 7)) :
    Are (res_main_v548 V0) (res_main_v496 V0) (res_main_v558 V0) (res_main_v569 V0) (res_main_v566 V0) (res_main_v572 V0) j (Turn.turned m 8) :=
  turnB (res_main_v486 V0) (res_main_v496 V0) (res_main_v434 V0) (res_main_v504 V0) (res_main_v507 V0) (res_main_v510 V0) (res_main_v536 V0) (res_main_v538 V0) j _ rfl rfl h

theorem turned_9 (h : Are (res_main_v548 V0) (res_main_v496 V0) (res_main_v558 V0) (res_main_v569 V0) (res_main_v566 V0) (res_main_v572 V0) j (Turn.turned m 8)) :
    Are (res_main_v548 V0) (res_main_v610 V0) (res_main_v620 V0) (res_main_v631 V0) (res_main_v634 V0) (res_main_v628 V0) j (Turn.turned m 9) :=
  turnC (res_main_v548 V0) (res_main_v496 V0) (res_main_v558 V0) (res_main_v569 V0) (res_main_v566 V0) (res_main_v572 V0) (res_main_v598 V0) (res_main_v600 V0) j _ rfl rfl h

theorem turned_10 (h : Are (res_main_v548 V0) (res_main_v610 V0) (res_main_v620 V0) (res_main_v631 V0) (res_main_v634 V0) (res_main_v628 V0) j (Turn.turned m 9)) :
    Are (res_main_v672 V0) (res_main_v682 V0) (res_main_v620 V0) (res_main_v690 V0) (res_main_v693 V0) (res_main_v696 V0) j (Turn.turned m 10) :=
  turnA (res_main_v548 V0) (res_main_v610 V0) (res_main_v620 V0) (res_main_v631 V0) (res_main_v634 V0) (res_main_v628 V0) (res_main_v660 V0) (res_main_v662 V0) j _ rfl rfl h

theorem turned_11 (h : Are (res_main_v672 V0) (res_main_v682 V0) (res_main_v620 V0) (res_main_v690 V0) (res_main_v693 V0) (res_main_v696 V0) j (Turn.turned m 10)) :
    Are (res_main_v734 V0) (res_main_v682 V0) (res_main_v744 V0) (res_main_v755 V0) (res_main_v752 V0) (res_main_v758 V0) j (Turn.turned m 11) :=
  turnB (res_main_v672 V0) (res_main_v682 V0) (res_main_v620 V0) (res_main_v690 V0) (res_main_v693 V0) (res_main_v696 V0) (res_main_v722 V0) (res_main_v724 V0) j _ rfl rfl h

theorem turned_12 (h : Are (res_main_v734 V0) (res_main_v682 V0) (res_main_v744 V0) (res_main_v755 V0) (res_main_v752 V0) (res_main_v758 V0) j (Turn.turned m 11)) :
    Are (res_main_v734 V0) (res_main_v796 V0) (res_main_v806 V0) (res_main_v817 V0) (res_main_v820 V0) (res_main_v814 V0) j (Turn.turned m 12) :=
  turnC (res_main_v734 V0) (res_main_v682 V0) (res_main_v744 V0) (res_main_v755 V0) (res_main_v752 V0) (res_main_v758 V0) (res_main_v784 V0) (res_main_v786 V0) j _ rfl rfl h

theorem turned_13 (h : Are (res_main_v734 V0) (res_main_v796 V0) (res_main_v806 V0) (res_main_v817 V0) (res_main_v820 V0) (res_main_v814 V0) j (Turn.turned m 12)) :
    Are (res_main_v858 V0) (res_main_v868 V0) (res_main_v806 V0) (res_main_v876 V0) (res_main_v879 V0) (res_main_v882 V0) j (Turn.turned m 13) :=
  turnA (res_main_v734 V0) (res_main_v796 V0) (res_main_v806 V0) (res_main_v817 V0) (res_main_v820 V0) (res_main_v814 V0) (res_main_v846 V0) (res_main_v848 V0) j _ rfl rfl h

theorem turned_14 (h : Are (res_main_v858 V0) (res_main_v868 V0) (res_main_v806 V0) (res_main_v876 V0) (res_main_v879 V0) (res_main_v882 V0) j (Turn.turned m 13)) :
    Are (refLow (res_main_v908 V0) (res_main_v910 V0) (res_main_v858 V0) (res_main_v806 V0) (res_main_v879 V0)) (res_main_v868 V0) (res_main_v930 V0) (res_main_v941 V0) (res_main_v938 V0) (res_main_v944 V0) j (Turn.turned m 14) :=
  turnB (res_main_v858 V0) (res_main_v868 V0) (res_main_v806 V0) (res_main_v876 V0) (res_main_v879 V0) (res_main_v882 V0) (res_main_v908 V0) (res_main_v910 V0) j _ rfl rfl h

theorem turned_15 (h : Are (refLow (res_main_v908 V0) (res_main_v910 V0) (res_main_v858 V0) (res_main_v806 V0) (res_main_v879 V0)) (res_main_v868 V0) (res_main_v930 V0) (res_main_v941 V0) (res_main_v938 V0) (res_main_v944 V0) j (Turn.turned m 14)) :
    Are (refLow (res_main_v908 V0) (res_main_v910 V0) (res_main_v858 V0) (res_main_v806 V0) (res_main_v879 V0)) (refLow (res_main_v970 V0) (res_main_v972 V0) (res_main_v868 V0) (res_main_v930 V0) (res_main_v944 V0)) (refHigh (res_main_v970 V0) (res_main_v972 V0) (res_main_v868 V0) (res_main_v930 V0) (res_main_v944 V0)) (refU (res_main_v970 V0) (res_main_v972 V0) (res_main_v941 V0) (res_main_v938 V0)) (refV (res_main_v970 V0) (res_main_v972 V0) (res_main_v941 V0) (res_main_v938 V0)) (refOff (res_main_v970 V0) (res_main_v972 V0) (res_main_v868 V0) (res_main_v930 V0) (res_main_v944 V0)) j (Turn.turned m 15) :=
  turnC (refLow (res_main_v908 V0) (res_main_v910 V0) (res_main_v858 V0) (res_main_v806 V0) (res_main_v879 V0)) (res_main_v868 V0) (res_main_v930 V0) (res_main_v941 V0) (res_main_v938 V0) (res_main_v944 V0) (res_main_v970 V0) (res_main_v972 V0) j _ rfl rfl h

/-- The reference's last matrix. -/
theorem turned_all (h : Are (res_main_v56 V0) (res_main_v60 V0) (res_main_v64 V0) (res_main_v68 V0) (res_main_v72 V0) (res_main_v76 V0) j m) :
    Are (refLow (res_main_v908 V0) (res_main_v910 V0) (res_main_v858 V0) (res_main_v806 V0) (res_main_v879 V0)) (refLow (res_main_v970 V0) (res_main_v972 V0) (res_main_v868 V0) (res_main_v930 V0) (res_main_v944 V0)) (refHigh (res_main_v970 V0) (res_main_v972 V0) (res_main_v868 V0) (res_main_v930 V0) (res_main_v944 V0)) (refU (res_main_v970 V0) (res_main_v972 V0) (res_main_v941 V0) (res_main_v938 V0)) (refV (res_main_v970 V0) (res_main_v972 V0) (res_main_v941 V0) (res_main_v938 V0)) (refOff (res_main_v970 V0) (res_main_v972 V0) (res_main_v868 V0) (res_main_v930 V0) (res_main_v944 V0)) j (Turn.turned m 15) :=
  (turned_15 V0 j m (turned_14 V0 j m (turned_13 V0 j m (turned_12 V0 j m (turned_11 V0 j m (turned_10 V0 j m (turned_9 V0 j m (turned_8 V0 j m (turned_7 V0 j m (turned_6 V0 j m (turned_5 V0 j m (turned_4 V0 j m (turned_3 V0 j m (turned_2 V0 j m (turned_1 V0 j m h)))))))))))))))

end Cert.ReferenceIdeal.Score

end
-- ==== Proof.RefPoints.lean ====
/-
  The reference's text before its rotations, at the ideal instance and at real points: the squared distances, the order of the
  points, the sixteen nearest and their covariances; and its sort of a row.
-/
module

public import proofs.«01_k».proof.Proof.RefTurn
public import proofs.«01_k».proof.Proof.Points
public import Idealize.ShloMosaic.Lib.ValueIdx
public import Idealize.ShloMosaic.Lib.IdealHost
public import Idealize.ShloMosaic.Lib.MatmulPlain
public import Idealize.ShloMosaic.Lib.Pipeline.Value
public import Idealize.ShloMosaic.Lib.Pointwise.Reshape

@[expose] public section

set_option maxRecDepth 4096

noncomputable section

namespace Cert.ReferenceIdeal.Score

open Idealize.ShloMosaic hiding ix1 ix2 ix3 ix4 tan cos sin
open Idealize.ShloMosaic.TcCoe Cert.ReferenceIdeal Cert.ReferenceIdeal.Gen Cert.ReferenceIdeal.Value Cert.Angles Idealize.ShloMosaic.StableHlo
open Idealize.ShloMosaic.ValueIdx Cert.Points

variable (V0 : Valuation τ sig (Elt Ideal)) (P : Fin 2 → Fin 4096 → Fin 3 → ℝ)

/-- The points. -/
abbrev pts : FVec Ideal S2x4096x3 .f32 := V0 (Proc.devRef .tc main_arg0)

/-! ## Sums of a row -/

theorem sum3 (x : FVec Ideal S2x4096x3 .f32) (f : Fin 3 → ℝ) (b : Fin 2) (i : Fin 4096) (h : ∀ a, x (ix3 b i a) = ((f a : ℝ) : EReal)) :
    Host.reduceAdd x (constant S_ .f32 0x00000000#32) reducesTo_S2x4096x3_S2x4096_d2 h_S_ (ix2 b i) = ((f 0 + f 1 + f 2 : ℝ) : EReal) := by
  refine (Ideal.hostReduceAdd_single reducesTo_S2x4096x3_S2x4096_d2 (by decide) x _ _).trans ?_
  refine (congrArg₂ (fun u v : EReal => u + v) bits_zero ((Finset.sum_congr rfl fun k _ => ?_).trans (coe_sums f))).trans ?_
  · refine Eq.trans (congrArg x (funext fun a => ?_)) (h k)
    match a with
    | ⟨0, _⟩ => rfl
    | ⟨1, _⟩ => rfl
    | ⟨2, _⟩ => rfl
  · beta_reduce
    rw [← EReal.coe_add, zero_add, Fin.sum_univ_three]

theorem sum16 (x : FVec Ideal S2x4096x16 .f32) (f : Fin 16 → ℝ) (b : Fin 2) (i : Fin 4096) (h : ∀ a, x (ix3 b i a) = ((f a : ℝ) : EReal)) :
    Host.reduceAdd x (constant S_ .f32 0x00000000#32) reducesTo_S2x4096x16_S2x4096_d2 h_S_ (ix2 b i) = ((∑ a, f a : ℝ) : EReal) := by
  refine (Ideal.hostReduceAdd_single reducesTo_S2x4096x16_S2x4096_d2 (by decide) x _ _).trans ?_
  refine (congrArg₂ (fun u v : EReal => u + v) bits_zero ((Finset.sum_congr rfl fun k _ => ?_).trans (coe_sums f))).trans ?_
  · refine Eq.trans (congrArg x (funext fun a => ?_)) (h k)
    match a with
    | ⟨0, _⟩ => rfl
    | ⟨1, _⟩ => rfl
    | ⟨2, _⟩ => rfl
  · beta_reduce
    rw [← EReal.coe_add, zero_add]

/-! ## Distances -/

theorem root_apply {s : Shape} (x : FVec Ideal s .f32) (j : s.Idx) : Host.sqrt x j = Ideal.sqrt (x j) := rfl

theorem dot_apply (x : FVec Ideal S2x4096x3 .f32) (f g : Fin 3 → ℝ) (b : Fin 2) (i j : Fin 4096) (hf : ∀ a, x (ix3 b i a) = ((f a : ℝ) : EReal))
    (hg : ∀ a, x (ix3 b j a) = ((g a : ℝ) : EReal)) :
    Host.dotGeneral dot_S2x4096x3_S2x4096x3_S2x4096x4096_2_2_1_1_0_0 none x x (ix3 b i j) = ((f 0 * g 0 + f 1 * g 1 + f 2 * g 2 : ℝ) : EReal) := by
  simp only [Host.dotGeneral]
  have hr : dot_S2x4096x3_S2x4096x3_S2x4096x4096_2_2_1_1_0_0.contr.rank = 1 := rfl
  have hs : dot_S2x4096x3_S2x4096x3_S2x4096x4096_2_2_1_1_0_0.contr.size ⟨0, by rw [hr]; omega⟩ = 3 := rfl
  rw [Ideal.dotGeneral_apply, ← Equiv.sum_comp (contrEquiv1 dot_S2x4096x3_S2x4096x3_S2x4096x4096_2_2_1_1_0_0 3 hr hs).symm]
  have e : ∀ k : Fin 3, x (dot_S2x4096x3_S2x4096x3_S2x4096x4096_2_2_1_1_0_0.lhsIdx (ix3 b i j) ((contrEquiv1 _ 3 hr hs).symm k))
      * x (dot_S2x4096x3_S2x4096x3_S2x4096x4096_2_2_1_1_0_0.rhsIdx (ix3 b i j) ((contrEquiv1 _ 3 hr hs).symm k)) = ((f k * g k : ℝ) : EReal) := fun k => by
    have hk := contrEquiv1_symm_val dot_S2x4096x3_S2x4096x3_S2x4096x4096_2_2_1_1_0_0 3 hr hs k
    have el : dot_S2x4096x3_S2x4096x3_S2x4096x4096_2_2_1_1_0_0.lhsIdx (ix3 b i j) ((contrEquiv1 _ 3 hr hs).symm k) = ix3 b i k := by
      funext a; apply Fin.ext
      match a with
      | ⟨0, _⟩ => rfl
      | ⟨1, _⟩ => rfl
      | ⟨2, _⟩ => exact hk
    have er : dot_S2x4096x3_S2x4096x3_S2x4096x4096_2_2_1_1_0_0.rhsIdx (ix3 b i j) ((contrEquiv1 _ 3 hr hs).symm k) = ix3 b j k := by
      funext a; apply Fin.ext
      match a with
      | ⟨0, _⟩ => rfl
      | ⟨1, _⟩ => rfl
      | ⟨2, _⟩ => exact hk
    rw [el, er, hf, hg, EReal.coe_mul]
  refine (Finset.sum_congr rfl fun k _ => e k).trans ?_
  rw [coe_sums, Fin.sum_univ_three]

section
variable (hP : ∀ b i a, pts V0 (ix3 b i a) = ((P b i a : ℝ) : EReal))
include hP

theorem v1_apply (b : Fin 2) (i : Fin 4096) : res_main_v1 V0 (ix2 b i) = ((sq (P b i) : ℝ) : EReal) := by
  refine sum3 (mulf (pts V0) (pts V0)) (fun a => P b i a * P b i a) b i (fun a => ?_)
  show (pts V0 (ix3 b i a) : EReal) * pts V0 (ix3 b i a) = _
  rw [hP, EReal.coe_mul]

theorem v13_apply (b : Fin 2) (i j : Fin 4096) : res_main_v13 V0 (ix3 b i j) = ((√(far (P b i) (P b j)) : ℝ) : EReal) := by
  have e1 : broadcastInDim S2x4096x4096 ![0, 1, 2] bcast_S2x4096x1_S2x4096x4096_0_1_2 (broadcastInDim S2x4096x1 ![0, 1] bcast_S2x4096_S2x4096x1_0_1 (res_main_v1 V0))
      (ix3 b i j) = res_main_v1 V0 (ix2 b i) :=
    (broadcastInDim_apply _ _ _ _ (ix3 b i (0 : Fin 1)) (fun a => by match a with | ⟨0, _⟩ => rfl | ⟨1, _⟩ => rfl | ⟨2, _⟩ => rfl)).trans
      (broadcastInDim_apply _ _ _ _ (ix2 b i) (fun a => by match a with | ⟨0, _⟩ => rfl | ⟨1, _⟩ => rfl))
  have e2 : broadcastInDim S2x4096x4096 ![0, 1, 2] bcast_S2x1x4096_S2x4096x4096_0_1_2 (broadcastInDim S2x1x4096 ![0, 2] bcast_S2x4096_S2x1x4096_0_2 (res_main_v1 V0))
      (ix3 b i j) = res_main_v1 V0 (ix2 b j) :=
    (broadcastInDim_apply _ _ _ _ (ix3 b (0 : Fin 1) j) (fun a => by match a with | ⟨0, _⟩ => rfl | ⟨1, _⟩ => rfl | ⟨2, _⟩ => rfl)).trans
      (broadcastInDim_apply _ _ _ _ (ix2 b j) (fun a => by match a with | ⟨0, _⟩ => rfl | ⟨1, _⟩ => rfl))
  have e3 := dot_apply (pts V0) (P b i) (P b j) b i j (hP b i) (hP b j)
  rw [v1_apply V0 P hP] at e1 e2
  unfold res_main_v13
  refine (root_apply _ _).trans ?_
  refine Eq.trans (congrArg Ideal.sqrt ?_) (sqrt_real _ (far_nonneg _ _))
  show max ((broadcastInDim S2x4096x4096 ![0, 1, 2] bcast_S2x4096x1_S2x4096x4096_0_1_2 (broadcastInDim S2x4096x1 ![0, 1] bcast_S2x4096_S2x4096x1_0_1 (res_main_v1 V0)) (ix3 b i j) : EReal)
    + broadcastInDim S2x4096x4096 ![0, 1, 2] bcast_S2x1x4096_S2x4096x4096_0_1_2 (broadcastInDim S2x1x4096 ![0, 2] bcast_S2x4096_S2x1x4096_0_2 (res_main_v1 V0)) (ix3 b i j)
    - Ideal.ofBits .f32 0x40000000#32 * Host.dotGeneral dot_S2x4096x3_S2x4096x3_S2x4096x4096_2_2_1_1_0_0 none (pts V0) (pts V0) (ix3 b i j)) (Ideal.ofBits .f32 0x00000000#32) = _
  rw [e1, e2, e3, bits_two, bits_zero, ← EReal.coe_add, ← EReal.coe_mul, ← EReal.coe_sub, ← EReal.coe_strictMono.monotone.map_max]
  rfl

end

/-! ## Sorts -/

theorem before_eq (l r : EReal) : comparator_f32_d2 (F := Ideal) l r = BitVec.ofBool (decide (l < r)) := by
  have h : ∀ x : EReal, Scalar.select (FloatOps.cmpf (F := Ideal) (φ := .f32) .une x x) (FloatOps.ofBits .f32 0x7FC00000#32 : Ideal .f32)
      (Scalar.select (FloatOps.cmpf (F := Ideal) (φ := .f32) .oeq x (FloatOps.ofBits .f32 0x00000000#32)) (FloatOps.ofBits .f32 0x00000000#32) x) = x := fun x => by
    have h1 : FloatOps.cmpf (F := Ideal) (φ := .f32) .une x x = 0#1 := by
      show BitVec.ofBool (decide (x ≠ x)) = 0#1
      rw [decide_eq_false (not_not.mpr rfl)]; rfl
    rw [h1]
    show (if FloatOps.cmpf (F := Ideal) (φ := .f32) .oeq x (FloatOps.ofBits .f32 0x00000000#32) = 1#1 then (FloatOps.ofBits .f32 0x00000000#32 : Ideal .f32) else x) = x
    split
    · rename_i k
      have k : BitVec.ofBool (decide (x = Ideal.ofBits .f32 0x00000000#32)) = 1#1 := k
      by_cases e : x = Ideal.ofBits .f32 0x00000000#32
      · exact e.symm
      · rw [decide_eq_false e] at k; exact absurd k (by decide)
    · rfl
  unfold comparator_f32_d2
  dsimp only
  rw [h l, h r]
  rfl

theorem before2_eq (l r : EReal × BitVec 32) : comparator_f32_i32_d2 (F := Ideal) l r = BitVec.ofBool (decide (l.1 < r.1)) := before_eq l.1 r.1

theorem ofBool_beq (p : Bool) : (BitVec.ofBool p == 1#1) = p := by cases p <;> rfl

theorem sort_apply (x : FVec Ideal S2x4096x4096 .f32) (b : Fin 2) (i k : Fin 4096) :
    Host.sort S2x4096x4096 2 (comparator_f32_d2 (F := Ideal)) x (ix3 b i k) = x (ix3 b i (Pick.rank (fun j => (x (ix3 b i j) : EReal)) k)) := by
  have hal : ∀ q : Fin 4096, Shape.Idx.along (s := S2x4096x4096) (ix3 b i k) (⟨2, Nat.lt.base 2⟩ : Fin 3) q = ix3 b i q := fun q => by
    funext a
    match a with
    | ⟨0, _⟩ => rfl
    | ⟨1, _⟩ => rfl
    | ⟨2, _⟩ => rfl
  unfold Host.sort
  rw [dif_pos (show 2 < S2x4096x4096.rank by decide)]
  refine (congrArg x (hal _)).trans ?_
  unfold Pick.rank
  refine congrArg (fun R => x (ix3 b i (sortedFrom (n := 4096) R k))) ?_
  funext p q
  refine (congrArg₂ (fun u v => comparator_f32_d2 (F := Ideal) (x u) (x v) == 1#1) (hal p) (hal q)).trans ?_
  beta_reduce
  rw [before_eq, ofBool_beq]

theorem sort3_apply (x : FVec Ideal S2x4096x3 .f32) (b : Fin 2) (i : Fin 4096) (k : Fin 3) :
    Host.sort S2x4096x3 2 (comparator_f32_d2 (F := Ideal)) x (ix3 b i k) = x (ix3 b i (Pick.rank (fun j => (x (ix3 b i j) : EReal)) k)) := by
  have hal : ∀ q : Fin 3, Shape.Idx.along (s := S2x4096x3) (ix3 b i k) (⟨2, Nat.lt.base 2⟩ : Fin 3) q = ix3 b i q := fun q => by
    funext a
    match a with
    | ⟨0, _⟩ => rfl
    | ⟨1, _⟩ => rfl
    | ⟨2, _⟩ => rfl
  unfold Host.sort
  rw [dif_pos (show 2 < S2x4096x3.rank by decide)]
  refine (congrArg x (hal _)).trans ?_
  unfold Pick.rank
  refine congrArg (fun R => x (ix3 b i (sortedFrom (n := 3) R k))) ?_
  funext p q
  refine (congrArg₂ (fun u v => comparator_f32_d2 (F := Ideal) (x u) (x v) == 1#1) (hal p) (hal q)).trans ?_
  beta_reduce
  rw [before_eq, ofBool_beq]

theorem sort2_apply (x : FVec Ideal S2x4096x4096 .f32) (y : IVec S2x4096x4096 32) (b : Fin 2) (i k : Fin 4096) :
    (Host.sort2 S2x4096x4096 2 (comparator_f32_i32_d2 (F := Ideal)) x y).2 (ix3 b i k) = y (ix3 b i (Pick.rank (fun j => (x (ix3 b i j) : EReal)) k)) := by
  have hal : ∀ q : Fin 4096, Shape.Idx.along (s := S2x4096x4096) (ix3 b i k) (⟨2, Nat.lt.base 2⟩ : Fin 3) q = ix3 b i q := fun q => by
    funext a
    match a with
    | ⟨0, _⟩ => rfl
    | ⟨1, _⟩ => rfl
    | ⟨2, _⟩ => rfl
  unfold Host.sort2
  rw [dif_pos (show 2 < S2x4096x4096.rank by decide)]
  refine (congrArg y (hal _)).trans ?_
  unfold Pick.rank
  refine congrArg (fun R => y (ix3 b i (sortedFrom (n := 4096) R k))) ?_
  funext p q
  refine (congrArg₂ (fun u v => comparator_f32_i32_d2 (F := Ideal) (x u, y u) (x v, y v) == 1#1) (hal p) (hal q)).trans ?_
  beta_reduce
  rw [before2_eq, ofBool_beq]

/-! ## The sixteen nearest -/

/-- The gather of rows. -/
abbrev rowsAt : GatherDims S2x4096x3 S2x4096x16x1 S2x4096x16x3 := gather_S2x4096x3_S2x4096x16x1_S2x4096x16x3_3_1_0_0_1_3_113

theorem gather_apply {α : Type} (x : S2x4096x3.Idx → α) (idx : IVec S2x4096x16x1 32) (b : Fin 2) (i : Fin 4096) (r : Fin 16) (a : Fin 3) (n : Fin 4096)
    (hn : idx (ix4 b i r (0 : Fin 1)) = BitVec.ofNat 32 n.val) : Host.gather rowsAt x idx (ix4 b i r a) = x (ix3 b n a) := by
  unfold Host.gather
  refine congrArg x (funext fun d => Fin.ext ?_)
  show rowsAt.start (ix4 b i r a) idx d + rowsAt.batchCoord (ix4 b i r a) d + rowsAt.offCoord (ix4 b i r a) d = _
  have hd : d = (0 : Fin 3) ∨ d = (1 : Fin 3) ∨ d = (2 : Fin 3) := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ rowsAt.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ rowsAt.startIndexMap from List.mem_singleton.mpr rfl)]
    have hsi : rowsAt.siIdx (ix4 b i r a)
        ⟨List.idxOf (1 : Fin 3) [(1 : Fin 3)], List.idxOf_lt_length_iff.2 (List.mem_singleton.mpr rfl)⟩ = ix4 b i r (0 : Fin 1) := by
      funext e; refine Fin.ext ?_
      match e with
      | ⟨0, _⟩ => rfl
      | ⟨1, _⟩ => rfl
      | ⟨2, _⟩ => rfl
      | ⟨3, _⟩ => rfl
    refine (congrArg (fun v : BitVec 32 => min v.toInt.toNat 4095) ((congrArg idx hsi).trans hn)).trans ?_
    have hl := n.isLt
    show min (BitVec.ofNat 32 n.val).toInt.toNat 4095 = n.val
    rw [Pick.toInt_word _ (by omega)]
    omega
  · rw [GatherDims.batchCoord_eq_zero _ _ _ (fun h => absurd (List.mem_singleton.mp h) (by decide))]
    unfold GatherDims.start
    rw [dif_neg (show (2 : Fin 3) ∉ rowsAt.startIndexMap from fun h => absurd (List.mem_singleton.mp h) (by decide))]
    simp only [Nat.zero_add, Nat.add_zero]
    unfold GatherDims.offCoord
    rw [dif_pos (show (2 : Fin 3) ∈ rowsAt.sKept by decide)]
    rfl

theorem wrapped (v w : BitVec 32) (n : Fin 4096) (h : v = BitVec.ofNat 32 n.val) : Scalar.select (IntOp.cmpi .slt v 0#32) w v = BitVec.ofNat 32 n.val := by
  subst h
  have : IntOp.cmpi .slt (BitVec.ofNat 32 n.val) 0#32 = 0#1 := by
    show BitVec.ofBool ((BitVec.ofNat 32 n.val).slt 0#32) = _
    have hn := n.isLt
    rw [BitVec.slt_eq_decide, Pick.toInt_word _ (by omega), decide_eq_false (by simp)]
    rfl
  rw [this]
  rfl

section
variable (hP : ∀ b i a, pts V0 (ix3 b i a) = ((P b i a : ℝ) : EReal))
include hP

theorem v15_apply (b : Fin 2) (i : Fin 4096) (s : Fin 16) :
    res_main_v15 V0 (ix3 b i s) = BitVec.ofNat 32 (order (P b i) (P b) ⟨s.val, by omega⟩).val := by
  unfold res_main_v15
  rw [extractStridedSlice_apply _ _ _ _ (ix3 b i (⟨s.val, by omega⟩ : Fin 4096)) (fun a => by
    match a with
    | ⟨0, _⟩ => exact (Nat.zero_add _).symm
    | ⟨1, _⟩ => exact (Nat.zero_add _).symm
    | ⟨2, _⟩ => exact (Nat.zero_add _).symm), sort2_apply]
  have e : (fun j => (res_main_v13 V0 (ix3 b i j) : EReal)) = fun j => ((√(far (P b i) (P b j)) : ℝ) : EReal) := by
    funext j
    exact v13_apply V0 P hP b i j
  rw [e, order_root]
  rfl

theorem v22_apply (b : Fin 2) (i : Fin 4096) (s : Fin 16) (a : Fin 3) :
    res_main_v22 V0 (ix4 b i s a) = ((near (P b i) (P b) a s : ℝ) : EReal) := by
  unfold res_main_v22
  refine (gather_apply _ _ b i s a (order (P b i) (P b) ⟨s.val, by omega⟩) ?_).trans (hP _ _ _)
  refine (broadcastInDim_apply _ _ _ _ (ix3 b i s) (fun a => by
    match a with
    | ⟨0, _⟩ => rfl
    | ⟨1, _⟩ => rfl
    | ⟨2, _⟩ => rfl)).trans ?_
  exact wrapped _ _ _ (v15_apply V0 P hP b i s)

end

/-! ## The covariances -/

/-- A coordinate of the gathered points, less its mean. -/
def centred (v : FVec Ideal S2x4096x16 .f32) : FVec Ideal S2x4096x16 .f32 :=
  subf v (broadcastInDim S2x4096x16 ![0, 1, 2] bcast_S2x4096x1_S2x4096x16_0_1_2 (Host.divf (broadcastInDim S2x4096x1 ![0, 1] bcast_S2x4096_S2x4096x1_0_1
    (Host.reduceAdd v (constant S_ .f32 0x00000000#32) reducesTo_S2x4096x16_S2x4096_d2 h_S_)) (broadcastInDim S2x4096x1 ![] bcast_S_S2x4096x1 (constant S_ .f32 0x41800000#32))))

theorem centred_real (v : FVec Ideal S2x4096x16 .f32) (f : Fin 16 → ℝ) (b : Fin 2) (i : Fin 4096) (h : ∀ s, v (ix3 b i s) = ((f s : ℝ) : EReal)) (s : Fin 16) :
    centred v (ix3 b i s) = ((f s - Turn.avg f : ℝ) : EReal) := by
  have e : broadcastInDim S2x4096x16 ![0, 1, 2] bcast_S2x4096x1_S2x4096x16_0_1_2 (Host.divf (broadcastInDim S2x4096x1 ![0, 1] bcast_S2x4096_S2x4096x1_0_1
    (Host.reduceAdd v (constant S_ .f32 0x00000000#32) reducesTo_S2x4096x16_S2x4096_d2 h_S_)) (broadcastInDim S2x4096x1 ![] bcast_S_S2x4096x1 (constant S_ .f32 0x41800000#32)))
      (ix3 b i s) = ((Turn.avg f : ℝ) : EReal) := by
    refine (broadcastInDim_apply _ _ _ _ (ix3 b i (0 : Fin 1)) (fun a => by match a with | ⟨0, _⟩ => rfl | ⟨1, _⟩ => rfl | ⟨2, _⟩ => rfl)).trans ?_
    refine (congrArg₂ Ideal.div ((broadcastInDim_apply _ _ _ _ (ix2 b i) (fun a => by match a with | ⟨0, _⟩ => rfl | ⟨1, _⟩ => rfl)).trans (sum16 v f b i h)) bits_sixteen).trans ?_
    rw [div_real _ _ (by norm_num)]
    rfl
  unfold centred
  refine (congrArg₂ (fun u v : EReal => u - v) (h s) e).trans ?_
  beta_reduce
  rw [EReal.coe_sub]

theorem covar_real (v w : FVec Ideal S2x4096x16 .f32) (f g : Fin 16 → ℝ) (b : Fin 2) (i : Fin 4096) (hf : ∀ s, v (ix3 b i s) = ((f s : ℝ) : EReal))
    (hg : ∀ s, w (ix3 b i s) = ((g s : ℝ) : EReal)) :
    Host.divf (Host.reduceAdd (mulf (centred v) (centred w)) (constant S_ .f32 0x00000000#32) reducesTo_S2x4096x16_S2x4096_d2 h_S_)
      (broadcastInDim S2x4096 ![] bcast_S_S2x4096 (constant S_ .f32 0x41800000#32)) (ix2 b i) = ((Turn.covar f g : ℝ) : EReal) := by
  have e := sum16 (mulf (centred v) (centred w)) (fun s => (f s - Turn.avg f) * (g s - Turn.avg g)) b i (fun s => by
    show (centred v (ix3 b i s) : EReal) * centred w (ix3 b i s) = _
    rw [centred_real v f b i hf, centred_real w g b i hg, EReal.coe_mul])
  refine (congrArg₂ Ideal.div e bits_sixteen).trans ?_
  rw [div_real _ _ (by norm_num)]
  rfl

/-- A coordinate of the gathered points. -/
theorem lane_apply (v : FVec Ideal S2x4096x16x3 .f32) (o : Fin 4 → Nat) (h) (h') (a : Fin 3) (ho : o = ![0, 0, 0, a.val]) (b : Fin 2) (i : Fin 4096) (s : Fin 16) :
    shapeCast S2x4096x16 (extractStridedSlice S2x4096x16x1 o v h) h' (ix3 b i s) = v (ix4 b i s a) := by
  subst ho
  rw [shapeCast_apply _ _ _ (ix4 b i s (0 : Fin 1)) (by
    rw [rowMajor_val4 _ 65536 16 1 rfl rfl rfl, rowMajor_val3 _ 65536 16 rfl rfl]
    show b.val * 65536 + i.val * 16 + s.val * 1 + 0 = b.val * 65536 + i.val * 16 + s.val
    omega)]
  exact extractStridedSlice_apply _ _ _ _ (ix4 b i s a) (fun d => by
    match d with
    | ⟨0, _⟩ => exact (Nat.zero_add _).symm
    | ⟨1, _⟩ => exact (Nat.zero_add _).symm
    | ⟨2, _⟩ => exact (Nat.zero_add _).symm
    | ⟨3, _⟩ => rfl)

section
variable (hP : ∀ b i a, pts V0 (ix3 b i a) = ((P b i a : ℝ) : EReal))
include hP

/-- The reference's matrix before its rotations. -/
theorem covars_real (b : Fin 2) (i : Fin 4096) :
    Are (res_main_v56 V0) (res_main_v60 V0) (res_main_v64 V0) (res_main_v68 V0) (res_main_v72 V0) (res_main_v76 V0) (ix2 b i)
      (Turn.covars (near (P b i) (P b) 0) (near (P b i) (P b) 1) (near (P b i) (P b) 2)) := by
  have hx := fun s => (lane_apply (res_main_v22 V0) ![0, 0, 0, 0] slices_S2x4096x16x3_S2x4096x16x1_0_0_0_0 shapeCasts_S2x4096x16x1_S2x4096x16 0 rfl b i s).trans (v22_apply V0 P hP b i s 0)
  have hy := fun s => (lane_apply (res_main_v22 V0) ![0, 0, 0, 1] slices_S2x4096x16x3_S2x4096x16x1_0_0_0_1 shapeCasts_S2x4096x16x1_S2x4096x16 1 rfl b i s).trans (v22_apply V0 P hP b i s 1)
  have hz := fun s => (lane_apply (res_main_v22 V0) ![0, 0, 0, 2] slices_S2x4096x16x3_S2x4096x16x1_0_0_0_2 shapeCasts_S2x4096x16x1_S2x4096x16 2 rfl b i s).trans (v22_apply V0 P hP b i s 2)
  exact ⟨covar_real _ _ _ _ b i hx hx, covar_real _ _ _ _ b i hy hy, covar_real _ _ _ _ b i hz hz, covar_real _ _ _ _ b i hx hy,
    covar_real _ _ _ _ b i hx hz, covar_real _ _ _ _ b i hy hz⟩

/-- The root of the reference's seventeenth least squared distance. -/
theorem radius_apply (b : Fin 2) (i : Fin 4096) :
    res_main_v1044 V0 (ix2 b i) = ((√(far (P b i) (P b (order (P b i) (P b) (16 : Fin 4096)))) : ℝ) : EReal) := by
  show shapeCast S2x4096 (extractStridedSlice S2x4096x1 ![0, 0, 16] (Host.sort S2x4096x4096 2 (comparator_f32_d2 (F := Ideal)) (res_main_v13 V0))
    slices_S2x4096x4096_S2x4096x1_0_0_16) shapeCasts_S2x4096x1_S2x4096 (ix2 b i) = _
  rw [shapeCast_apply _ _ _ (ix3 b i (0 : Fin 1)) (by
    rw [rowMajor_val2 _ 4096 rfl, rowMajor_val3 _ 4096 1 rfl rfl]
    show b.val * 4096 + i.val * 1 + 0 = b.val * 4096 + i.val
    omega), extractStridedSlice_apply _ _ _ _ (ix3 b i (16 : Fin 4096)) (fun a => by
    match a with
    | ⟨0, _⟩ => exact (Nat.zero_add _).symm
    | ⟨1, _⟩ => exact (Nat.zero_add _).symm
    | ⟨2, _⟩ => rfl), sort_apply, v13_apply V0 P hP]
  have e : (fun j => (res_main_v13 V0 (ix3 b i j) : EReal)) = fun j => ((√(far (P b i) (P b j)) : ℝ) : EReal) := funext fun j => v13_apply V0 P hP b i j
  rw [e, order_root]

end

end Cert.ReferenceIdeal.Score

end
-- ==== Proof.RefScore.lean ====
/-
  What the reference leaves at real points: the complexity of the matrix its rotations give.
-/
module

public import proofs.«01_k».proof.Proof.RefPoints

@[expose] public section

set_option maxRecDepth 8192

noncomputable section

namespace Cert.ReferenceIdeal.Score

open Idealize.ShloMosaic hiding ix1 ix2 ix3 ix4 tan cos sin
open Idealize.ShloMosaic.TcCoe Cert.ReferenceIdeal Cert.ReferenceIdeal.Gen Cert.ReferenceIdeal.Value Cert.Angles Idealize.ShloMosaic.StableHlo
open Idealize.ShloMosaic.ValueIdx Cert.Points

variable (V0 : Valuation τ sig (Elt Ideal)) (P : Fin 2 → Fin 4096 → Fin 3 → ℝ)

/-- Three values a point, side by side. -/
def beside (x y z : FVec Ideal S2x4096 .f32) : FVec Ideal S2x4096x3 .f32 :=
  concatenate S2x4096x3 2 [⟨S2x4096x1, broadcastInDim S2x4096x1 ![0, 1] bcast_S2x4096_S2x4096x1_0_1 (Host.absf x)⟩,
    ⟨S2x4096x1, broadcastInDim S2x4096x1 ![0, 1] bcast_S2x4096_S2x4096x1_0_1 (Host.absf y)⟩,
    ⟨S2x4096x1, broadcastInDim S2x4096x1 ![0, 1] bcast_S2x4096_S2x4096x1_0_1 (Host.absf z)⟩] concatenates_S2x4096x1_S2x4096x1_S2x4096x1_S2x4096x3_d2

theorem beside_apply (x y z : FVec Ideal S2x4096 .f32) (b : Fin 2) (i : Fin 4096) (k : Fin 3) (r : ℝ)
    (h : (![x, y, z] k) (ix2 b i) = (r : EReal)) : beside x y z (ix3 b i k) = ((|r| : ℝ) : EReal) := by
  refine (concatenate_ofFn_unit_apply (t := S2x4096x3) (s₁ := S2x4096x1) 2
    (fun n : Fin 3 => broadcastInDim S2x4096x1 ![0, 1] bcast_S2x4096_S2x4096x1_0_1 (Host.absf (![x, y, z] n)))
    concatenates_S2x4096x1_S2x4096x1_S2x4096x1_S2x4096x3_d2 rfl rfl (ix3 b i k) k rfl (ix3 b i (0 : Fin 1)) (fun d hd => by
      match d with
      | ⟨0, _⟩ => rfl
      | ⟨1, _⟩ => rfl
      | ⟨2, _⟩ => exact absurd rfl hd)).trans ?_
  refine (broadcastInDim_apply _ _ _ _ (ix2 b i) (fun a => by match a with | ⟨0, _⟩ => rfl | ⟨1, _⟩ => rfl)).trans ?_
  show max ((![x, y, z] k) (ix2 b i)) (-((![x, y, z] k) (ix2 b i))) = _
  rw [h, abs_real]

/-- The three sorted. -/
theorem sorted_apply (x : FVec Ideal S2x4096x3 .f32) (o : Fin 3 → Nat) (h) (h') (k : Fin 3) (ho : o = ![0, 0, k.val]) (b : Fin 2) (i : Fin 4096) :
    shapeCast S2x4096 (extractStridedSlice S2x4096x1 o (addf (Host.sort S2x4096x3 2 (comparator_f32_d2 (F := Ideal)) x)
      (broadcastInDim S2x4096x3 ![] bcast_S_S2x4096x3 (constant S_ .f32 0x322BCC77#32))) h) h' (ix2 b i)
      = x (ix3 b i (Pick.rank (fun j => (x (ix3 b i j) : EReal)) k)) + Ideal.ofBits .f32 0x322BCC77#32 := by
  subst ho
  rw [shapeCast_apply _ _ _ (ix3 b i (0 : Fin 1)) (by
    rw [rowMajor_val2 _ 4096 rfl, rowMajor_val3 _ 4096 1 rfl rfl]
    show b.val * 4096 + i.val * 1 + 0 = b.val * 4096 + i.val
    omega), extractStridedSlice_apply _ _ _ _ (ix3 b i k) (fun d => by
    match d with
    | ⟨0, _⟩ => exact (Nat.zero_add _).symm
    | ⟨1, _⟩ => exact (Nat.zero_add _).symm
    | ⟨2, _⟩ => rfl)]
  exact congrArg (fun u : EReal => u + Ideal.ofBits .f32 0x322BCC77#32) (sort3_apply x b i k)

/-- A weight, at every point. -/
theorem weight_apply (w : FVec Ideal S3 .f32) (o : Fin 1 → Nat) (h) (h') (k : Fin 3) (ho : o = ![k.val]) (j : S2x4096.Idx) :
    broadcastInDim S2x4096 ![] bcast_S_S2x4096 (shapeCast S_ (extractStridedSlice S1 o w h) h') j = w (ix1 k) := by
  subst ho
  rw [broadcastInDim_scalar_apply, shapeCast_apply _ _ _ (ix1 (0 : Fin 1)) (by rfl)]
  exact extractStridedSlice_apply _ _ _ _ (ix1 k) (fun d => by
    match d with
    | ⟨0, _⟩ => rfl)

/-- The magnitudes of a point's diagonal. -/
def mags (p : Fin 3 → ℝ) (Q : Fin 4096 → Fin 3 → ℝ) : Fin 3 → EReal :=
  ![((|(Turn.turned (Turn.covars (near p Q 0) (near p Q 1) (near p Q 2)) 15).xx| : ℝ) : EReal),
    ((|(Turn.turned (Turn.covars (near p Q 0) (near p Q 1) (near p Q 2)) 15).yy| : ℝ) : EReal),
    ((|(Turn.turned (Turn.covars (near p Q 0) (near p Q 1) (near p Q 2)) 15).zz| : ℝ) : EReal)]

theorem sorted_lane (x : FVec Ideal S2x4096x3 .f32) (L : Fin 3 → EReal) (b : Fin 2) (i : Fin 4096) (hl : ∀ k, x (ix3 b i k) = L k) (o : Fin 3 → Nat) (h) (h')
    (k : Fin 3) (ho : o = ![0, 0, k.val]) (e : EReal) (he : L (Pick.rank L k) = e) :
    shapeCast S2x4096 (extractStridedSlice S2x4096x1 o (addf (Host.sort S2x4096x3 2 (comparator_f32_d2 (F := Ideal)) x)
      (broadcastInDim S2x4096x3 ![] bcast_S_S2x4096x3 (constant S_ .f32 0x322BCC77#32))) h) h' (ix2 b i) = e + Ideal.ofBits .f32 0x322BCC77#32 := by
  rw [sorted_apply x o h h' k ho b i, hl, show (fun j => (x (ix3 b i j) : EReal)) = L from funext hl, he]

/-- The weighted sum of three sorted magnitudes, each a little raised. -/
theorem weighed (w : FVec Ideal S3 .f32) (l1 l2 l3 : FVec Ideal S2x4096 .f32) (b : Fin 2) (i : Fin 4096) (e f g : EReal)
    (h1 : l1 (ix2 b i) = max (max e f) g + Ideal.ofBits .f32 0x322BCC77#32) (h2 : l2 (ix2 b i) = max (min e f) (min (max e f) g) + Ideal.ofBits .f32 0x322BCC77#32)
    (h3 : l3 (ix2 b i) = min (min e f) g + Ideal.ofBits .f32 0x322BCC77#32) :
    (addf (addf (mulf (broadcastInDim S2x4096 ![] bcast_S_S2x4096 (shapeCast S_ (extractStridedSlice S1 ![0] w slices_S3_S1_0) shapeCasts_S1_S_)) (Host.divf (subf l2 l3) l1))
      (mulf (broadcastInDim S2x4096 ![] bcast_S_S2x4096 (shapeCast S_ (extractStridedSlice S1 ![1] w slices_S3_S1_1) shapeCasts_S1_S_)) (Host.divf (subf l1 l2) l1)))
      (mulf (broadcastInDim S2x4096 ![] bcast_S_S2x4096 (shapeCast S_ (extractStridedSlice S1 ![2] w slices_S3_S1_2) shapeCasts_S1_S_)) (Host.divf l3 l1)))
      (ix2 b i) = weigh e f g (w (ix1 0)) (w (ix1 1)) (w (ix1 2)) := by
  have w0 := weight_apply w ![0] slices_S3_S1_0 shapeCasts_S1_S_ 0 rfl (ix2 b i)
  have w1 := weight_apply w ![1] slices_S3_S1_1 shapeCasts_S1_S_ 1 rfl (ix2 b i)
  have w2 := weight_apply w ![2] slices_S3_S1_2 shapeCasts_S1_S_ 2 rfl (ix2 b i)
  unfold weigh
  refine congrArg₂ (fun u v : EReal => u + v) (congrArg₂ (fun u v : EReal => u + v) ?_ ?_) ?_
  · exact congrArg₂ (fun u v : EReal => u * v) w0 (congrArg₂ Ideal.div (congrArg₂ (fun u v : EReal => u - v) h2 h3) h1)
  · exact congrArg₂ (fun u v : EReal => u * v) w1 (congrArg₂ Ideal.div (congrArg₂ (fun u v : EReal => u - v) h1 h2) h1)
  · exact congrArg₂ (fun u v : EReal => u * v) w2 (congrArg₂ Ideal.div h3 h1)

/-- The reference's sorted magnitudes. -/
theorem v1016_eq : res_main_v1016 V0 = addf (Host.sort S2x4096x3 2 (comparator_f32_d2 (F := Ideal))
    (beside (refLow (res_main_v908 V0) (res_main_v910 V0) (res_main_v858 V0) (res_main_v806 V0) (res_main_v879 V0))
      (refLow (res_main_v970 V0) (res_main_v972 V0) (res_main_v868 V0) (res_main_v930 V0) (res_main_v944 V0))
      (refHigh (res_main_v970 V0) (res_main_v972 V0) (res_main_v868 V0) (res_main_v930 V0) (res_main_v944 V0))))
      (broadcastInDim S2x4096x3 ![] bcast_S_S2x4096x3 (constant S_ .f32 0x322BCC77#32)) := rfl

section
variable (hP : ∀ b i a, pts V0 (ix3 b i a) = ((P b i a : ℝ) : EReal))
include hP

theorem score_apply (w : Fin 3 → EReal) (hw : ∀ k, (V0 (Proc.devRef .tc main_arg4) : FVec Ideal S3 .f32) (ix1 k) = w k) (b : Fin 2) (i : Fin 4096) :
    (addf (addf (mulf (broadcastInDim S2x4096 ![] bcast_S_S2x4096 (shapeCast _ (extractStridedSlice S1 ![0] (V0 (Proc.devRef .tc main_arg4)) slices_S3_S1_0) shapeCasts_S1_S_)) (Host.divf (subf (res_main_v1020 V0) (res_main_v1022 V0)) (res_main_v1018 V0))) (mulf (broadcastInDim S2x4096 ![] bcast_S_S2x4096 (shapeCast _ (extractStridedSlice S1 ![1] (V0 (Proc.devRef .tc main_arg4)) slices_S3_S1_1) shapeCasts_S1_S_)) (Host.divf (subf (res_main_v1018 V0) (res_main_v1020 V0)) (res_main_v1018 V0)))) (mulf (broadcastInDim S2x4096 ![] bcast_S_S2x4096 (shapeCast _ (extractStridedSlice S1 ![2] (V0 (Proc.devRef .tc main_arg4)) slices_S3_S1_2) shapeCasts_S1_S_)) (Host.divf (res_main_v1022 V0) (res_main_v1018 V0))))
      (ix2 b i) = score (P b i) (P b) w := by
  have ht := turned_all V0 _ _ (covars_real V0 P hP b i)
  have hl : ∀ k : Fin 3, beside (refLow (res_main_v908 V0) (res_main_v910 V0) (res_main_v858 V0) (res_main_v806 V0) (res_main_v879 V0))
      (refLow (res_main_v970 V0) (res_main_v972 V0) (res_main_v868 V0) (res_main_v930 V0) (res_main_v944 V0))
      (refHigh (res_main_v970 V0) (res_main_v972 V0) (res_main_v868 V0) (res_main_v930 V0) (res_main_v944 V0)) (ix3 b i k)
      = mags (P b i) (P b) k := fun k => by
    match k with
    | ⟨0, _⟩ => exact beside_apply _ _ _ b i 0 _ ht.xx
    | ⟨1, _⟩ => exact beside_apply _ _ _ b i 1 _ ht.yy
    | ⟨2, _⟩ => exact beside_apply _ _ _ b i 2 _ ht.zz
  obtain ⟨m0, m1, m2⟩ := three (mags (P b i) (P b))
  have e1 := sorted_lane _ _ b i hl ![0, 0, 2] slices_S2x4096x3_S2x4096x1_0_0_2 shapeCasts_S2x4096x1_S2x4096 2 rfl _ m2
  have e2 := sorted_lane _ _ b i hl ![0, 0, 1] slices_S2x4096x3_S2x4096x1_0_0_1 shapeCasts_S2x4096x1_S2x4096 1 rfl _ m1
  have e3 := sorted_lane _ _ b i hl ![0, 0, 0] slices_S2x4096x3_S2x4096x1_0_0_0 shapeCasts_S2x4096x1_S2x4096 0 rfl _ m0
  rw [← v1016_eq] at e1 e2 e3
  have r := weighed (V0 (Proc.devRef .tc main_arg4)) (res_main_v1018 V0) (res_main_v1020 V0) (res_main_v1022 V0) b i _ _ _ e1 e2 e3
  rw [hw, hw, hw] at r
  exact r

end

end Cert.ReferenceIdeal.Score

end
-- ==== Proof.SortChain.lean ====
/-
  The sampling kernel's sort, stage by stage: the values its text names are the pairs (keys, positions) after each of the 78
  compare-exchange stages of a bitonic sort on 4096 positions. `stage l s` is one of them (partners at distance `2 ^ s` inside
  blocks of `2 ^ l`); every theorem below says that one value of the kernel's text is such a pair's component, or a part of
  the next stage of it.
-/
module

public import proofs.«01_k».proof.Proof.Gen.KernelIdeal.Skeleton

@[expose] public section

noncomputable section

namespace Cert.KernelIdeal.Sort

open Idealize.ShloMosaic Idealize.ShloMosaic.TcCoe Cert.KernelIdeal Cert.KernelIdeal.Gen

variable {F : FTy → Type} [FloatOps F]

/-- The positions whose bit `s` is clear. -/
def lowM (s : Nat) : IVec S1x4096 1 :=
  cmpi .eq (andi (iota .tc S1x4096 32 [1] iota_S1x4096_d1_w32) (broadcast S1x4096 (BitVec.ofNat 32 (2 ^ s)))) (broadcast S1x4096 0#32)

/-- The positions that take the greater of a pair. -/
def upM (l s : Nat) : IVec S1x4096 1 := xori (xori (lowM s) (lowM l)) (constantI S1x4096 1 1#1)

/-- Every position's partner's entry, at distance `2 ^ s`: two rotations and a select between them. -/
def exch {α : Type} : Nat → (S1x4096.Idx → α) → (S1x4096.Idx → α)
  | 0, X => select (lowM 0)
      (concatenate S1x4096 1 [⟨S1x4095, extractStridedSlice S1x4095 ![0, 1] X slices_S1x4096_o0_1_S1x4095⟩,
        ⟨S1x1, extractStridedSlice S1x1 ![0, 0] X slices_S1x4096_o0_0_S1x1⟩] concatenates_S1x4095_S1x1_S1x4096_d1)
      (concatenate S1x4096 1 [⟨S1x1, extractStridedSlice S1x1 ![0, 4095] X slices_S1x4096_o0_4095_S1x1⟩,
        ⟨S1x4095, extractStridedSlice S1x4095 ![0, 0] X slices_S1x4096_o0_0_S1x4095⟩] concatenates_S1x1_S1x4095_S1x4096_d1)
  | 1, X => select (lowM 1)
      (concatenate S1x4096 1 [⟨S1x4094, extractStridedSlice S1x4094 ![0, 2] X slices_S1x4096_o0_2_S1x4094⟩,
        ⟨S1x2, extractStridedSlice S1x2 ![0, 0] X slices_S1x4096_o0_0_S1x2⟩] concatenates_S1x4094_S1x2_S1x4096_d1)
      (concatenate S1x4096 1 [⟨S1x2, extractStridedSlice S1x2 ![0, 4094] X slices_S1x4096_o0_4094_S1x2⟩,
        ⟨S1x4094, extractStridedSlice S1x4094 ![0, 0] X slices_S1x4096_o0_0_S1x4094⟩] concatenates_S1x2_S1x4094_S1x4096_d1)
  | 2, X => select (lowM 2)
      (concatenate S1x4096 1 [⟨S1x4092, extractStridedSlice S1x4092 ![0, 4] X slices_S1x4096_o0_4_S1x4092⟩,
        ⟨S1x4, extractStridedSlice S1x4 ![0, 0] X slices_S1x4096_o0_0_S1x4⟩] concatenates_S1x4092_S1x4_S1x4096_d1)
      (concatenate S1x4096 1 [⟨S1x4, extractStridedSlice S1x4 ![0, 4092] X slices_S1x4096_o0_4092_S1x4⟩,
        ⟨S1x4092, extractStridedSlice S1x4092 ![0, 0] X slices_S1x4096_o0_0_S1x4092⟩] concatenates_S1x4_S1x4092_S1x4096_d1)
  | 3, X => select (lowM 3)
      (concatenate S1x4096 1 [⟨S1x4088, extractStridedSlice S1x4088 ![0, 8] X slices_S1x4096_o0_8_S1x4088⟩,
        ⟨S1x8, extractStridedSlice S1x8 ![0, 0] X slices_S1x4096_o0_0_S1x8⟩] concatenates_S1x4088_S1x8_S1x4096_d1)
      (concatenate S1x4096 1 [⟨S1x8, extractStridedSlice S1x8 ![0, 4088] X slices_S1x4096_o0_4088_S1x8⟩,
        ⟨S1x4088, extractStridedSlice S1x4088 ![0, 0] X slices_S1x4096_o0_0_S1x4088⟩] concatenates_S1x8_S1x4088_S1x4096_d1)
  | 4, X => select (lowM 4)
      (concatenate S1x4096 1 [⟨S1x4080, extractStridedSlice S1x4080 ![0, 16] X slices_S1x4096_o0_16_S1x4080⟩,
        ⟨S1x16, extractStridedSlice S1x16 ![0, 0] X slices_S1x4096_o0_0_S1x16⟩] concatenates_S1x4080_S1x16_S1x4096_d1)
      (concatenate S1x4096 1 [⟨S1x16, extractStridedSlice S1x16 ![0, 4080] X slices_S1x4096_o0_4080_S1x16⟩,
        ⟨S1x4080, extractStridedSlice S1x4080 ![0, 0] X slices_S1x4096_o0_0_S1x4080⟩] concatenates_S1x16_S1x4080_S1x4096_d1)
  | 5, X => select (lowM 5)
      (concatenate S1x4096 1 [⟨S1x4064, extractStridedSlice S1x4064 ![0, 32] X slices_S1x4096_o0_32_S1x4064⟩,
        ⟨S1x32, extractStridedSlice S1x32 ![0, 0] X slices_S1x4096_o0_0_S1x32⟩] concatenates_S1x4064_S1x32_S1x4096_d1)
      (concatenate S1x4096 1 [⟨S1x32, extractStridedSlice S1x32 ![0, 4064] X slices_S1x4096_o0_4064_S1x32⟩,
        ⟨S1x4064, extractStridedSlice S1x4064 ![0, 0] X slices_S1x4096_o0_0_S1x4064⟩] concatenates_S1x32_S1x4064_S1x4096_d1)
  | 6, X => select (lowM 6)
      (concatenate S1x4096 1 [⟨S1x4032, extractStridedSlice S1x4032 ![0, 64] X slices_S1x4096_o0_64_S1x4032⟩,
        ⟨S1x64, extractStridedSlice S1x64 ![0, 0] X slices_S1x4096_o0_0_S1x64⟩] concatenates_S1x4032_S1x64_S1x4096_d1)
      (concatenate S1x4096 1 [⟨S1x64, extractStridedSlice S1x64 ![0, 4032] X slices_S1x4096_o0_4032_S1x64⟩,
        ⟨S1x4032, extractStridedSlice S1x4032 ![0, 0] X slices_S1x4096_o0_0_S1x4032⟩] concatenates_S1x64_S1x4032_S1x4096_d1)
  | 7, X => select (lowM 7)
      (concatenate S1x4096 1 [⟨S1x3968, extractStridedSlice S1x3968 ![0, 128] X slices_S1x4096_o0_128_S1x3968⟩,
        ⟨S1x128, extractStridedSlice S1x128 ![0, 0] X slices_S1x4096_o0_0_S1x128⟩] concatenates_S1x3968_S1x128_S1x4096_d1)
      (concatenate S1x4096 1 [⟨S1x128, extractStridedSlice S1x128 ![0, 3968] X slices_S1x4096_o0_3968_S1x128⟩,
        ⟨S1x3968, extractStridedSlice S1x3968 ![0, 0] X slices_S1x4096_o0_0_S1x3968⟩] concatenates_S1x128_S1x3968_S1x4096_d1)
  | 8, X => select (lowM 8)
      (concatenate S1x4096 1 [⟨S1x3840, extractStridedSlice S1x3840 ![0, 256] X slices_S1x4096_o0_256_S1x3840⟩,
        ⟨S1x256, extractStridedSlice S1x256 ![0, 0] X slices_S1x4096_o0_0_S1x256⟩] concatenates_S1x3840_S1x256_S1x4096_d1)
      (concatenate S1x4096 1 [⟨S1x256, extractStridedSlice S1x256 ![0, 3840] X slices_S1x4096_o0_3840_S1x256⟩,
        ⟨S1x3840, extractStridedSlice S1x3840 ![0, 0] X slices_S1x4096_o0_0_S1x3840⟩] concatenates_S1x256_S1x3840_S1x4096_d1)
  | 9, X => select (lowM 9)
      (concatenate S1x4096 1 [⟨S1x3584, extractStridedSlice S1x3584 ![0, 512] X slices_S1x4096_o0_512_S1x3584⟩,
        ⟨S1x512, extractStridedSlice S1x512 ![0, 0] X slices_S1x4096_o0_0_S1x512⟩] concatenates_S1x3584_S1x512_S1x4096_d1)
      (concatenate S1x4096 1 [⟨S1x512, extractStridedSlice S1x512 ![0, 3584] X slices_S1x4096_o0_3584_S1x512⟩,
        ⟨S1x3584, extractStridedSlice S1x3584 ![0, 0] X slices_S1x4096_o0_0_S1x3584⟩] concatenates_S1x512_S1x3584_S1x4096_d1)
  | 10, X => select (lowM 10)
      (concatenate S1x4096 1 [⟨S1x3072, extractStridedSlice S1x3072 ![0, 1024] X slices_S1x4096_o0_1024_S1x3072⟩,
        ⟨S1x1024, extractStridedSlice S1x1024 ![0, 0] X slices_S1x4096_o0_0_S1x1024⟩] concatenates_S1x3072_S1x1024_S1x4096_d1)
      (concatenate S1x4096 1 [⟨S1x1024, extractStridedSlice S1x1024 ![0, 3072] X slices_S1x4096_o0_3072_S1x1024⟩,
        ⟨S1x3072, extractStridedSlice S1x3072 ![0, 0] X slices_S1x4096_o0_0_S1x3072⟩] concatenates_S1x1024_S1x3072_S1x4096_d1)
  | 11, X => select (lowM 11)
      (concatenate S1x4096 1 [⟨S1x2048, extractStridedSlice S1x2048 ![0, 2048] X slices_S1x4096_o0_2048_S1x2048⟩,
        ⟨S1x2048, extractStridedSlice S1x2048 ![0, 0] X slices_S1x4096_o0_0_S1x2048⟩] concatenates_S1x2048_S1x2048_S1x4096_d1)
      (concatenate S1x4096 1 [⟨S1x2048, extractStridedSlice S1x2048 ![0, 2048] X slices_S1x4096_o0_2048_S1x2048⟩,
        ⟨S1x2048, extractStridedSlice S1x2048 ![0, 0] X slices_S1x4096_o0_0_S1x2048⟩] concatenates_S1x2048_S1x2048_S1x4096_d1)
  | _, X => X

/-- Where a stage takes the partner's entry. -/
def takeM (l s : Nat) (p : FVec F S1x4096 .f32 × IVec S1x4096 32) : IVec S1x4096 1 :=
  xori (xori (upM l s) (ori (cmpf .ogt (exch s p.1) p.1) (andi (cmpf .oeq (exch s p.1) p.1) (cmpi .slt (exch s p.2) p.2))))
    (constantI S1x4096 1 1#1)

/-- One compare-exchange stage on keys and positions. -/
def stage (l s : Nat) (p : FVec F S1x4096 .f32 × IVec S1x4096 32) : FVec F S1x4096 .f32 × IVec S1x4096 32 :=
  (select (takeM l s p) (exch s p.1) p.1, select (takeM l s p) (exch s p.2) p.2)

/-- The keys of the block, as a row. -/
def row (x : Vec F S1x1x4096 .f32) : Vec F S1x4096 .f32 := shapeCast S1x4096 x reshapes_S1x1x4096_S1x4096.1

/-- Before the first stage: the keys, and every position at itself. -/
def start (x : Vec F S1x1x4096 .f32) : FVec F S1x4096 .f32 × IVec S1x4096 32 :=
  (k1_pay2 (row x), iota .tc S1x4096 32 [1] iota_S1x4096_d1_w32)

theorem pay7 (x : Vec F S1x1x4096 .f32) : k1_pay7 (row x) = (stage 1 0 (start x)).1 := rfl

theorem pay8 (x : Vec F S1x1x4096 .f32) : k1_pay8 (row x) = (stage 1 0 (start x)).2 := rfl

theorem pay9 : k1_pay9 = (lowM 1) := rfl

theorem pay10 : k1_pay10 = (xori (lowM 1) (lowM 2)) := rfl

section
variable (p : FVec F S1x4096 .f32 × IVec S1x4096 32)

theorem pay14 :
    k1_pay14 p.1 p.2 (lowM 1) (xori (lowM 1) (lowM 2)) (constantI S1x4096 1 1#1) =
      (stage 2 1 p).1 := rfl

theorem pay15 :
    k1_pay15 p.1 p.2 (lowM 1) (xori (lowM 1) (lowM 2)) (constantI S1x4096 1 1#1) =
      (stage 2 1 p).2 := rfl

theorem pay17 :
    k1_pay17 (iota .tc S1x4096 32 [1] iota_S1x4096_d1_w32) p.1 p.2 (lowM 1) (xori (lowM 1) (lowM 2)) (constantI S1x4096 1 1#1) =
      (exch 0 (stage 2 1 p).1) := rfl

theorem pay18 :
    k1_pay18 (iota .tc S1x4096 32 [1] iota_S1x4096_d1_w32) p.1 p.2 (lowM 1) (xori (lowM 1) (lowM 2)) (constantI S1x4096 1 1#1) =
      (exch 0 (stage 2 1 p).2) := rfl

theorem pay19 :
    k1_pay19 (iota .tc S1x4096 32 [1] iota_S1x4096_d1_w32) p.1 p.2 (lowM 1) (xori (lowM 1) (lowM 2)) (constantI S1x4096 1 1#1) =
      (xori (upM 2 0) (ori (cmpf .ogt (exch 0 (stage 2 1 p).1) (stage 2 1 p).1) (andi (cmpf .oeq (exch 0 (stage 2 1 p).1) (stage 2 1 p).1) (cmpi .slt (exch 0 (stage 2 1 p).2) (stage 2 1 p).2)))) := rfl

theorem pay27 :
    k1_pay27 (iota .tc S1x4096 32 [1] iota_S1x4096_d1_w32) p.1 p.2 (exch 0 p.1) (exch 0 p.2) (xori (upM 2 0) (ori (cmpf .ogt (exch 0 p.1) p.1) (andi (cmpf .oeq (exch 0 p.1) p.1) (cmpi .slt (exch 0 p.2) p.2)))) =
      (stage 3 2 (stage 2 0 p)).1 := rfl

theorem pay28 :
    k1_pay28 (iota .tc S1x4096 32 [1] iota_S1x4096_d1_w32) p.1 p.2 (exch 0 p.1) (exch 0 p.2) (xori (upM 2 0) (ori (cmpf .ogt (exch 0 p.1) p.1) (andi (cmpf .oeq (exch 0 p.1) p.1) (cmpi .slt (exch 0 p.2) p.2)))) =
      (stage 3 2 (stage 2 0 p)).2 := rfl

theorem pay29 :
    k1_pay29 (iota .tc S1x4096 32 [1] iota_S1x4096_d1_w32) =
      (lowM 1) := rfl

theorem pay30 :
    k1_pay30 (iota .tc S1x4096 32 [1] iota_S1x4096_d1_w32) =
      (upM 3 1) := rfl

theorem pay31 :
    k1_pay31 (iota .tc S1x4096 32 [1] iota_S1x4096_d1_w32) p.1 p.2 (exch 0 p.1) (exch 0 p.2) (xori (upM 2 0) (ori (cmpf .ogt (exch 0 p.1) p.1) (andi (cmpf .oeq (exch 0 p.1) p.1) (cmpi .slt (exch 0 p.2) p.2)))) =
      (extractStridedSlice S1x4094 ![0, 2] (stage 3 2 (stage 2 0 p)).1 slices_S1x4096_o0_2_S1x4094) := rfl

theorem pay32 :
    k1_pay32 (iota .tc S1x4096 32 [1] iota_S1x4096_d1_w32) p.1 p.2 (exch 0 p.1) (exch 0 p.2) (xori (upM 2 0) (ori (cmpf .ogt (exch 0 p.1) p.1) (andi (cmpf .oeq (exch 0 p.1) p.1) (cmpi .slt (exch 0 p.2) p.2)))) =
      (extractStridedSlice S1x2 ![0, 0] (stage 3 2 (stage 2 0 p)).1 slices_S1x4096_o0_0_S1x2) := rfl

theorem pay37 :
    k1_pay37 p.1 p.2 (lowM 1) (upM 3 1) (extractStridedSlice S1x4094 ![0, 2] p.1 slices_S1x4096_o0_2_S1x4094) (extractStridedSlice S1x2 ![0, 0] p.1 slices_S1x4096_o0_0_S1x2) =
      (stage 3 1 p).2 := rfl

theorem pay40 :
    k1_pay40 (iota .tc S1x4096 32 [1] iota_S1x4096_d1_w32) p.1 p.2 (lowM 1) (upM 3 1) (extractStridedSlice S1x4094 ![0, 2] p.1 slices_S1x4096_o0_2_S1x4094) (extractStridedSlice S1x2 ![0, 0] p.1 slices_S1x4096_o0_0_S1x2) =
      (exch 0 (stage 3 1 p).2) := rfl

theorem pay41 :
    k1_pay41 (iota .tc S1x4096 32 [1] iota_S1x4096_d1_w32) p.1 p.2 (lowM 1) (upM 3 1) (extractStridedSlice S1x4094 ![0, 2] p.1 slices_S1x4096_o0_2_S1x4094) (extractStridedSlice S1x2 ![0, 0] p.1 slices_S1x4096_o0_0_S1x2) =
      (takeM 3 0 (stage 3 1 p)) := rfl

theorem pay42 :
    k1_pay42 (iota .tc S1x4096 32 [1] iota_S1x4096_d1_w32) p.1 p.2 (lowM 1) (upM 3 1) (extractStridedSlice S1x4094 ![0, 2] p.1 slices_S1x4096_o0_2_S1x4094) (extractStridedSlice S1x2 ![0, 0] p.1 slices_S1x4096_o0_0_S1x2) =
      (stage 3 0 (stage 3 1 p)).1 := rfl

theorem pay48 :
    k1_pay48 (iota .tc S1x4096 32 [1] iota_S1x4096_d1_w32) p.2 (exch 0 p.2) (takeM 3 0 p) (stage 3 0 p).1 =
      (stage 4 3 (stage 3 0 p)).1 := rfl

theorem pay49 :
    k1_pay49 (iota .tc S1x4096 32 [1] iota_S1x4096_d1_w32) p.2 (exch 0 p.2) (takeM 3 0 p) (stage 3 0 p).1 =
      (stage 4 3 (stage 3 0 p)).2 := rfl

theorem pay50 :
    k1_pay50 (iota .tc S1x4096 32 [1] iota_S1x4096_d1_w32) =
      (lowM 2) := rfl

theorem pay51 :
    k1_pay51 (iota .tc S1x4096 32 [1] iota_S1x4096_d1_w32) =
      (upM 4 2) := rfl

theorem pay52 :
    k1_pay52 (iota .tc S1x4096 32 [1] iota_S1x4096_d1_w32) p.2 (exch 0 p.2) (takeM 3 0 p) (stage 3 0 p).1 =
      (concatenate S1x4096 1 [⟨S1x4092, (extractStridedSlice S1x4092 ![0, 4] (stage 4 3 (stage 3 0 p)).1 slices_S1x4096_o0_4_S1x4092)⟩, ⟨S1x4, (extractStridedSlice S1x4 ![0, 0] (stage 4 3 (stage 3 0 p)).1 slices_S1x4096_o0_0_S1x4)⟩] concatenates_S1x4092_S1x4_S1x4096_d1) := rfl

theorem pay53 :
    k1_pay53 (iota .tc S1x4096 32 [1] iota_S1x4096_d1_w32) p.2 (exch 0 p.2) (takeM 3 0 p) (stage 3 0 p).1 =
      (extractStridedSlice S1x4 ![0, 4092] (stage 4 3 (stage 3 0 p)).1 slices_S1x4096_o0_4092_S1x4) := rfl

theorem pay54 :
    k1_pay54 (iota .tc S1x4096 32 [1] iota_S1x4096_d1_w32) p.2 (exch 0 p.2) (takeM 3 0 p) (stage 3 0 p).1 =
      (extractStridedSlice S1x4092 ![0, 0] (stage 4 3 (stage 3 0 p)).1 slices_S1x4096_o0_0_S1x4092) := rfl

theorem pay64 :
    k1_pay64 (iota .tc S1x4096 32 [1] iota_S1x4096_d1_w32) p.1 p.2 (lowM 2) (upM 4 2) (concatenate S1x4096 1 [⟨S1x4092, (extractStridedSlice S1x4092 ![0, 4] p.1 slices_S1x4096_o0_4_S1x4092)⟩, ⟨S1x4, (extractStridedSlice S1x4 ![0, 0] p.1 slices_S1x4096_o0_0_S1x4)⟩] concatenates_S1x4092_S1x4_S1x4096_d1) (extractStridedSlice S1x4 ![0, 4092] p.1 slices_S1x4096_o0_4092_S1x4) (extractStridedSlice S1x4092 ![0, 0] p.1 slices_S1x4096_o0_0_S1x4092) =
      (stage 4 1 (stage 4 2 p)).1 := rfl

theorem pay65 :
    k1_pay65 (iota .tc S1x4096 32 [1] iota_S1x4096_d1_w32) p.1 p.2 (lowM 2) (upM 4 2) (concatenate S1x4096 1 [⟨S1x4092, (extractStridedSlice S1x4092 ![0, 4] p.1 slices_S1x4096_o0_4_S1x4092)⟩, ⟨S1x4, (extractStridedSlice S1x4 ![0, 0] p.1 slices_S1x4096_o0_0_S1x4)⟩] concatenates_S1x4092_S1x4_S1x4096_d1) (extractStridedSlice S1x4 ![0, 4092] p.1 slices_S1x4096_o0_4092_S1x4) (extractStridedSlice S1x4092 ![0, 0] p.1 slices_S1x4096_o0_0_S1x4092) =
      (stage 4 1 (stage 4 2 p)).2 := rfl

theorem pay66 :
    k1_pay66 =
      (broadcast S1x4096 1#32) := rfl

theorem pay71 :
    k1_pay71 (iota .tc S1x4096 32 [1] iota_S1x4096_d1_w32) p.1 p.2 (broadcast S1x4096 1#32) =
      (stage 4 0 p).1 := rfl

theorem pay72 :
    k1_pay72 (iota .tc S1x4096 32 [1] iota_S1x4096_d1_w32) p.1 p.2 (broadcast S1x4096 1#32) =
      (stage 4 0 p).2 := rfl

theorem pay73 :
    k1_pay73 (iota .tc S1x4096 32 [1] iota_S1x4096_d1_w32) =
      (lowM 4) := rfl

theorem pay74 :
    k1_pay74 (iota .tc S1x4096 32 [1] iota_S1x4096_d1_w32) =
      (upM 5 4) := rfl

theorem pay75 :
    k1_pay75 (iota .tc S1x4096 32 [1] iota_S1x4096_d1_w32) p.1 p.2 (broadcast S1x4096 1#32) =
      (exch 4 (stage 4 0 p).1) := rfl

theorem pay76 :
    k1_pay76 (iota .tc S1x4096 32 [1] iota_S1x4096_d1_w32) p.1 p.2 (broadcast S1x4096 1#32) =
      (extractStridedSlice S1x4080 ![0, 16] (stage 4 0 p).2 slices_S1x4096_o0_16_S1x4080) := rfl

theorem pay85 :
    k1_pay85 (iota .tc S1x4096 32 [1] iota_S1x4096_d1_w32) p.1 p.2 (lowM 4) (upM 5 4) (exch 4 p.1) (extractStridedSlice S1x4080 ![0, 16] p.2 slices_S1x4096_o0_16_S1x4080) =
      (stage 5 3 (stage 5 4 p)).1 := rfl

theorem pay86 :
    k1_pay86 (iota .tc S1x4096 32 [1] iota_S1x4096_d1_w32) p.1 p.2 (lowM 4) (upM 5 4) (exch 4 p.1) (extractStridedSlice S1x4080 ![0, 16] p.2 slices_S1x4096_o0_16_S1x4080) =
      (stage 5 3 (stage 5 4 p)).2 := rfl

theorem pay87 :
    k1_pay87 (iota .tc S1x4096 32 [1] iota_S1x4096_d1_w32) =
      (andi (iota .tc S1x4096 32 [1] iota_S1x4096_d1_w32) (broadcast S1x4096 4#32)) := rfl

theorem pay88 :
    k1_pay88 =
      (broadcast S1x4096 0#32) := rfl

theorem pay93 :
    k1_pay93 (iota .tc S1x4096 32 [1] iota_S1x4096_d1_w32) p.1 p.2 (andi (iota .tc S1x4096 32 [1] iota_S1x4096_d1_w32) (broadcast S1x4096 4#32)) (broadcast S1x4096 0#32) =
      (stage 5 2 p).1 := rfl

theorem pay94 :
    k1_pay94 (iota .tc S1x4096 32 [1] iota_S1x4096_d1_w32) p.1 p.2 (andi (iota .tc S1x4096 32 [1] iota_S1x4096_d1_w32) (broadcast S1x4096 4#32)) (broadcast S1x4096 0#32) =
      (stage 5 2 p).2 := rfl

theorem pay95 :
    k1_pay95 (iota .tc S1x4096 32 [1] iota_S1x4096_d1_w32) =
      (lowM 1) := rfl

theorem pay96 :
    k1_pay96 (iota .tc S1x4096 32 [1] iota_S1x4096_d1_w32) =
      (upM 5 1) := rfl

theorem pay97 :
    k1_pay97 (iota .tc S1x4096 32 [1] iota_S1x4096_d1_w32) p.1 p.2 (andi (iota .tc S1x4096 32 [1] iota_S1x4096_d1_w32) (broadcast S1x4096 4#32)) (broadcast S1x4096 0#32) =
      (exch 1 (stage 5 2 p).1) := rfl

theorem pay98 :
    k1_pay98 (iota .tc S1x4096 32 [1] iota_S1x4096_d1_w32) p.1 p.2 (andi (iota .tc S1x4096 32 [1] iota_S1x4096_d1_w32) (broadcast S1x4096 4#32)) (broadcast S1x4096 0#32) =
      (concatenate S1x4096 1 [⟨S1x4094, (extractStridedSlice S1x4094 ![0, 2] (stage 5 2 p).2 slices_S1x4096_o0_2_S1x4094)⟩, ⟨S1x2, (extractStridedSlice S1x2 ![0, 0] (stage 5 2 p).2 slices_S1x4096_o0_0_S1x2)⟩] concatenates_S1x4094_S1x2_S1x4096_d1) := rfl

theorem pay99 :
    k1_pay99 (iota .tc S1x4096 32 [1] iota_S1x4096_d1_w32) p.1 p.2 (andi (iota .tc S1x4096 32 [1] iota_S1x4096_d1_w32) (broadcast S1x4096 4#32)) (broadcast S1x4096 0#32) =
      (extractStridedSlice S1x2 ![0, 4094] (stage 5 2 p).2 slices_S1x4096_o0_4094_S1x2) := rfl

theorem pay108 :
    k1_pay108 (iota .tc S1x4096 32 [1] iota_S1x4096_d1_w32) p.1 p.2 (lowM 1) (upM 5 1) (exch 1 p.1) (concatenate S1x4096 1 [⟨S1x4094, (extractStridedSlice S1x4094 ![0, 2] p.2 slices_S1x4096_o0_2_S1x4094)⟩, ⟨S1x2, (extractStridedSlice S1x2 ![0, 0] p.2 slices_S1x4096_o0_0_S1x2)⟩] concatenates_S1x4094_S1x2_S1x4096_d1) (extractStridedSlice S1x2 ![0, 4094] p.2 slices_S1x4096_o0_4094_S1x2) =
      (stage 5 0 (stage 5 1 p)).1 := rfl

theorem pay109 :
    k1_pay109 (iota .tc S1x4096 32 [1] iota_S1x4096_d1_w32) p.1 p.2 (lowM 1) (upM 5 1) (exch 1 p.1) (concatenate S1x4096 1 [⟨S1x4094, (extractStridedSlice S1x4094 ![0, 2] p.2 slices_S1x4096_o0_2_S1x4094)⟩, ⟨S1x2, (extractStridedSlice S1x2 ![0, 0] p.2 slices_S1x4096_o0_0_S1x2)⟩] concatenates_S1x4094_S1x2_S1x4096_d1) (extractStridedSlice S1x2 ![0, 4094] p.2 slices_S1x4096_o0_4094_S1x2) =
      (stage 5 0 (stage 5 1 p)).2 := rfl

theorem pay110 :
    k1_pay110 (iota .tc S1x4096 32 [1] iota_S1x4096_d1_w32) =
      (lowM 5) := rfl

theorem pay111 :
    k1_pay111 =
      (broadcast S1x4096 64#32) := rfl

theorem pay115 :
    k1_pay115 (iota .tc S1x4096 32 [1] iota_S1x4096_d1_w32) p.1 p.2 (lowM 5) (broadcast S1x4096 64#32) =
      (stage 6 5 p).1 := rfl

theorem pay116 :
    k1_pay116 (iota .tc S1x4096 32 [1] iota_S1x4096_d1_w32) p.1 p.2 (lowM 5) (broadcast S1x4096 64#32) =
      (stage 6 5 p).2 := rfl

theorem pay118 :
    k1_pay118 (iota .tc S1x4096 32 [1] iota_S1x4096_d1_w32) =
      (upM 6 4) := rfl

theorem pay119 :
    k1_pay119 (iota .tc S1x4096 32 [1] iota_S1x4096_d1_w32) p.1 p.2 (lowM 5) (broadcast S1x4096 64#32) =
      (exch 4 (stage 6 5 p).1) := rfl

theorem pay120 :
    k1_pay120 (iota .tc S1x4096 32 [1] iota_S1x4096_d1_w32) p.1 p.2 (lowM 5) (broadcast S1x4096 64#32) =
      (exch 4 (stage 6 5 p).2) := rfl

theorem pay128 :
    k1_pay128 (iota .tc S1x4096 32 [1] iota_S1x4096_d1_w32) p.1 p.2 (upM 6 4) (exch 4 p.1) (exch 4 p.2) =
      (stage 6 3 (stage 6 4 p)).1 := rfl

theorem pay129 :
    k1_pay129 (iota .tc S1x4096 32 [1] iota_S1x4096_d1_w32) p.1 p.2 (upM 6 4) (exch 4 p.1) (exch 4 p.2) =
      (stage 6 3 (stage 6 4 p)).2 := rfl

theorem pay130 :
    k1_pay130 (iota .tc S1x4096 32 [1] iota_S1x4096_d1_w32) =
      (lowM 2) := rfl

theorem pay131 :
    k1_pay131 (iota .tc S1x4096 32 [1] iota_S1x4096_d1_w32) =
      (andi (iota .tc S1x4096 32 [1] iota_S1x4096_d1_w32) (broadcast S1x4096 64#32)) := rfl

theorem pay132 :
    k1_pay132 =
      (broadcast S1x4096 0#32) := rfl

theorem pay136 :
    k1_pay136 p.1 p.2 (lowM 2) (andi (iota .tc S1x4096 32 [1] iota_S1x4096_d1_w32) (broadcast S1x4096 64#32)) (broadcast S1x4096 0#32) =
      (stage 6 2 p).1 := rfl

theorem pay137 :
    k1_pay137 p.1 p.2 (lowM 2) (andi (iota .tc S1x4096 32 [1] iota_S1x4096_d1_w32) (broadcast S1x4096 64#32)) (broadcast S1x4096 0#32) =
      (stage 6 2 p).2 := rfl

theorem pay139 :
    k1_pay139 (iota .tc S1x4096 32 [1] iota_S1x4096_d1_w32) =
      (upM 6 1) := rfl

theorem pay140 :
    k1_pay140 (iota .tc S1x4096 32 [1] iota_S1x4096_d1_w32) p.1 p.2 (lowM 2) (andi (iota .tc S1x4096 32 [1] iota_S1x4096_d1_w32) (broadcast S1x4096 64#32)) (broadcast S1x4096 0#32) =
      (exch 1 (stage 6 2 p).1) := rfl

theorem pay141 :
    k1_pay141 (iota .tc S1x4096 32 [1] iota_S1x4096_d1_w32) p.1 p.2 (lowM 2) (andi (iota .tc S1x4096 32 [1] iota_S1x4096_d1_w32) (broadcast S1x4096 64#32)) (broadcast S1x4096 0#32) =
      (exch 1 (stage 6 2 p).2) := rfl

theorem pay142 :
    k1_pay142 (iota .tc S1x4096 32 [1] iota_S1x4096_d1_w32) p.1 p.2 (lowM 2) (andi (iota .tc S1x4096 32 [1] iota_S1x4096_d1_w32) (broadcast S1x4096 64#32)) (broadcast S1x4096 0#32) =
      (cmpf .ogt (exch 1 (stage 6 2 p).1) (stage 6 2 p).1) := rfl

theorem pay143 :
    k1_pay143 (iota .tc S1x4096 32 [1] iota_S1x4096_d1_w32) p.1 p.2 (lowM 2) (andi (iota .tc S1x4096 32 [1] iota_S1x4096_d1_w32) (broadcast S1x4096 64#32)) (broadcast S1x4096 0#32) =
      (cmpf .oeq (exch 1 (stage 6 2 p).1) (stage 6 2 p).1) := rfl

theorem pay144 :
    k1_pay144 (iota .tc S1x4096 32 [1] iota_S1x4096_d1_w32) p.1 p.2 (lowM 2) (andi (iota .tc S1x4096 32 [1] iota_S1x4096_d1_w32) (broadcast S1x4096 64#32)) (broadcast S1x4096 0#32) =
      (cmpi .slt (exch 1 (stage 6 2 p).2) (stage 6 2 p).2) := rfl

theorem pay152 :
    k1_pay152 (iota .tc S1x4096 32 [1] iota_S1x4096_d1_w32) p.1 p.2 (upM 6 1) (exch 1 p.1) (exch 1 p.2) (cmpf .ogt (exch 1 p.1) p.1) (cmpf .oeq (exch 1 p.1) p.1) (cmpi .slt (exch 1 p.2) p.2) =
      (stage 6 0 (stage 6 1 p)).1 := rfl

theorem pay153 :
    k1_pay153 (iota .tc S1x4096 32 [1] iota_S1x4096_d1_w32) p.1 p.2 (upM 6 1) (exch 1 p.1) (exch 1 p.2) (cmpf .ogt (exch 1 p.1) p.1) (cmpf .oeq (exch 1 p.1) p.1) (cmpi .slt (exch 1 p.2) p.2) =
      (stage 6 0 (stage 6 1 p)).2 := rfl

theorem pay154 :
    k1_pay154 (iota .tc S1x4096 32 [1] iota_S1x4096_d1_w32) =
      (lowM 6) := rfl

theorem pay155 :
    k1_pay155 (iota .tc S1x4096 32 [1] iota_S1x4096_d1_w32) =
      (xori (lowM 6) (lowM 7)) := rfl

theorem pay159 :
    k1_pay159 p.1 p.2 (lowM 6) (xori (lowM 6) (lowM 7)) (constantI S1x4096 1 1#1) =
      (stage 7 6 p).1 := rfl

theorem pay160 :
    k1_pay160 p.1 p.2 (lowM 6) (xori (lowM 6) (lowM 7)) (constantI S1x4096 1 1#1) =
      (stage 7 6 p).2 := rfl

theorem pay162 :
    k1_pay162 (iota .tc S1x4096 32 [1] iota_S1x4096_d1_w32) p.1 p.2 (lowM 6) (xori (lowM 6) (lowM 7)) (constantI S1x4096 1 1#1) =
      (exch 5 (stage 7 6 p).1) := rfl

theorem pay163 :
    k1_pay163 (iota .tc S1x4096 32 [1] iota_S1x4096_d1_w32) p.1 p.2 (lowM 6) (xori (lowM 6) (lowM 7)) (constantI S1x4096 1 1#1) =
      (exch 5 (stage 7 6 p).2) := rfl

theorem pay164 :
    k1_pay164 (iota .tc S1x4096 32 [1] iota_S1x4096_d1_w32) p.1 p.2 (lowM 6) (xori (lowM 6) (lowM 7)) (constantI S1x4096 1 1#1) =
      (xori (upM 7 5) (ori (cmpf .ogt (exch 5 (stage 7 6 p).1) (stage 7 6 p).1) (andi (cmpf .oeq (exch 5 (stage 7 6 p).1) (stage 7 6 p).1) (cmpi .slt (exch 5 (stage 7 6 p).2) (stage 7 6 p).2)))) := rfl

theorem pay172 :
    k1_pay172 (iota .tc S1x4096 32 [1] iota_S1x4096_d1_w32) p.1 p.2 (exch 5 p.1) (exch 5 p.2) (xori (upM 7 5) (ori (cmpf .ogt (exch 5 p.1) p.1) (andi (cmpf .oeq (exch 5 p.1) p.1) (cmpi .slt (exch 5 p.2) p.2)))) =
      (stage 7 4 (stage 7 5 p)).1 := rfl

theorem pay173 :
    k1_pay173 (iota .tc S1x4096 32 [1] iota_S1x4096_d1_w32) p.1 p.2 (exch 5 p.1) (exch 5 p.2) (xori (upM 7 5) (ori (cmpf .ogt (exch 5 p.1) p.1) (andi (cmpf .oeq (exch 5 p.1) p.1) (cmpi .slt (exch 5 p.2) p.2)))) =
      (stage 7 4 (stage 7 5 p)).2 := rfl

theorem pay174 :
    k1_pay174 (iota .tc S1x4096 32 [1] iota_S1x4096_d1_w32) =
      (lowM 3) := rfl

theorem pay175 :
    k1_pay175 (iota .tc S1x4096 32 [1] iota_S1x4096_d1_w32) =
      (upM 7 3) := rfl

theorem pay176 :
    k1_pay176 (iota .tc S1x4096 32 [1] iota_S1x4096_d1_w32) p.1 p.2 (exch 5 p.1) (exch 5 p.2) (xori (upM 7 5) (ori (cmpf .ogt (exch 5 p.1) p.1) (andi (cmpf .oeq (exch 5 p.1) p.1) (cmpi .slt (exch 5 p.2) p.2)))) =
      (extractStridedSlice S1x4088 ![0, 8] (stage 7 4 (stage 7 5 p)).1 slices_S1x4096_o0_8_S1x4088) := rfl

theorem pay177 :
    k1_pay177 (iota .tc S1x4096 32 [1] iota_S1x4096_d1_w32) p.1 p.2 (exch 5 p.1) (exch 5 p.2) (xori (upM 7 5) (ori (cmpf .ogt (exch 5 p.1) p.1) (andi (cmpf .oeq (exch 5 p.1) p.1) (cmpi .slt (exch 5 p.2) p.2)))) =
      (extractStridedSlice S1x8 ![0, 0] (stage 7 4 (stage 7 5 p)).1 slices_S1x4096_o0_0_S1x8) := rfl

theorem pay182 :
    k1_pay182 p.1 p.2 (lowM 3) (upM 7 3) (extractStridedSlice S1x4088 ![0, 8] p.1 slices_S1x4096_o0_8_S1x4088) (extractStridedSlice S1x8 ![0, 0] p.1 slices_S1x4096_o0_0_S1x8) =
      (stage 7 3 p).2 := rfl

theorem pay185 :
    k1_pay185 (iota .tc S1x4096 32 [1] iota_S1x4096_d1_w32) p.1 p.2 (lowM 3) (upM 7 3) (extractStridedSlice S1x4088 ![0, 8] p.1 slices_S1x4096_o0_8_S1x4088) (extractStridedSlice S1x8 ![0, 0] p.1 slices_S1x4096_o0_0_S1x8) =
      (exch 2 (stage 7 3 p).2) := rfl

theorem pay186 :
    k1_pay186 (iota .tc S1x4096 32 [1] iota_S1x4096_d1_w32) p.1 p.2 (lowM 3) (upM 7 3) (extractStridedSlice S1x4088 ![0, 8] p.1 slices_S1x4096_o0_8_S1x4088) (extractStridedSlice S1x8 ![0, 0] p.1 slices_S1x4096_o0_0_S1x8) =
      (takeM 7 2 (stage 7 3 p)) := rfl

theorem pay187 :
    k1_pay187 (iota .tc S1x4096 32 [1] iota_S1x4096_d1_w32) p.1 p.2 (lowM 3) (upM 7 3) (extractStridedSlice S1x4088 ![0, 8] p.1 slices_S1x4096_o0_8_S1x4088) (extractStridedSlice S1x8 ![0, 0] p.1 slices_S1x4096_o0_0_S1x8) =
      (stage 7 2 (stage 7 3 p)).1 := rfl

theorem pay193 :
    k1_pay193 (iota .tc S1x4096 32 [1] iota_S1x4096_d1_w32) p.2 (exch 2 p.2) (takeM 7 2 p) (stage 7 2 p).1 =
      (stage 7 1 (stage 7 2 p)).1 := rfl

theorem pay194 :
    k1_pay194 (iota .tc S1x4096 32 [1] iota_S1x4096_d1_w32) p.2 (exch 2 p.2) (takeM 7 2 p) (stage 7 2 p).1 =
      (stage 7 1 (stage 7 2 p)).2 := rfl

theorem pay195 :
    k1_pay195 (iota .tc S1x4096 32 [1] iota_S1x4096_d1_w32) =
      (lowM 0) := rfl

theorem pay196 :
    k1_pay196 (iota .tc S1x4096 32 [1] iota_S1x4096_d1_w32) =
      (upM 7 0) := rfl

theorem pay197 :
    k1_pay197 (iota .tc S1x4096 32 [1] iota_S1x4096_d1_w32) p.2 (exch 2 p.2) (takeM 7 2 p) (stage 7 2 p).1 =
      (concatenate S1x4096 1 [⟨S1x4095, (extractStridedSlice S1x4095 ![0, 1] (stage 7 1 (stage 7 2 p)).1 slices_S1x4096_o0_1_S1x4095)⟩, ⟨S1x1, (extractStridedSlice S1x1 ![0, 0] (stage 7 1 (stage 7 2 p)).1 slices_S1x4096_o0_0_S1x1)⟩] concatenates_S1x4095_S1x1_S1x4096_d1) := rfl

theorem pay198 :
    k1_pay198 (iota .tc S1x4096 32 [1] iota_S1x4096_d1_w32) p.2 (exch 2 p.2) (takeM 7 2 p) (stage 7 2 p).1 =
      (extractStridedSlice S1x1 ![0, 4095] (stage 7 1 (stage 7 2 p)).1 slices_S1x4096_o0_4095_S1x1) := rfl

theorem pay199 :
    k1_pay199 (iota .tc S1x4096 32 [1] iota_S1x4096_d1_w32) p.2 (exch 2 p.2) (takeM 7 2 p) (stage 7 2 p).1 =
      (extractStridedSlice S1x4095 ![0, 0] (stage 7 1 (stage 7 2 p)).1 slices_S1x4096_o0_0_S1x4095) := rfl

theorem pay209 :
    k1_pay209 (iota .tc S1x4096 32 [1] iota_S1x4096_d1_w32) p.1 p.2 (lowM 0) (upM 7 0) (concatenate S1x4096 1 [⟨S1x4095, (extractStridedSlice S1x4095 ![0, 1] p.1 slices_S1x4096_o0_1_S1x4095)⟩, ⟨S1x1, (extractStridedSlice S1x1 ![0, 0] p.1 slices_S1x4096_o0_0_S1x1)⟩] concatenates_S1x4095_S1x1_S1x4096_d1) (extractStridedSlice S1x1 ![0, 4095] p.1 slices_S1x4096_o0_4095_S1x1) (extractStridedSlice S1x4095 ![0, 0] p.1 slices_S1x4096_o0_0_S1x4095) =
      (stage 8 7 (stage 7 0 p)).1 := rfl

theorem pay210 :
    k1_pay210 (iota .tc S1x4096 32 [1] iota_S1x4096_d1_w32) p.1 p.2 (lowM 0) (upM 7 0) (concatenate S1x4096 1 [⟨S1x4095, (extractStridedSlice S1x4095 ![0, 1] p.1 slices_S1x4096_o0_1_S1x4095)⟩, ⟨S1x1, (extractStridedSlice S1x1 ![0, 0] p.1 slices_S1x4096_o0_0_S1x1)⟩] concatenates_S1x4095_S1x1_S1x4096_d1) (extractStridedSlice S1x1 ![0, 4095] p.1 slices_S1x4096_o0_4095_S1x1) (extractStridedSlice S1x4095 ![0, 0] p.1 slices_S1x4096_o0_0_S1x4095) =
      (stage 8 7 (stage 7 0 p)).2 := rfl

theorem pay211 :
    k1_pay211 =
      (broadcast S1x4096 64#32) := rfl

theorem pay216 :
    k1_pay216 (iota .tc S1x4096 32 [1] iota_S1x4096_d1_w32) p.1 p.2 (broadcast S1x4096 64#32) =
      (stage 8 6 p).1 := rfl

theorem pay217 :
    k1_pay217 (iota .tc S1x4096 32 [1] iota_S1x4096_d1_w32) p.1 p.2 (broadcast S1x4096 64#32) =
      (stage 8 6 p).2 := rfl

theorem pay218 :
    k1_pay218 (iota .tc S1x4096 32 [1] iota_S1x4096_d1_w32) =
      (lowM 5) := rfl

theorem pay219 :
    k1_pay219 (iota .tc S1x4096 32 [1] iota_S1x4096_d1_w32) =
      (upM 8 5) := rfl

theorem pay220 :
    k1_pay220 (iota .tc S1x4096 32 [1] iota_S1x4096_d1_w32) p.1 p.2 (broadcast S1x4096 64#32) =
      (exch 5 (stage 8 6 p).1) := rfl

theorem pay221 :
    k1_pay221 (iota .tc S1x4096 32 [1] iota_S1x4096_d1_w32) p.1 p.2 (broadcast S1x4096 64#32) =
      (extractStridedSlice S1x4064 ![0, 32] (stage 8 6 p).2 slices_S1x4096_o0_32_S1x4064) := rfl

theorem pay230 :
    k1_pay230 (iota .tc S1x4096 32 [1] iota_S1x4096_d1_w32) p.1 p.2 (lowM 5) (upM 8 5) (exch 5 p.1) (extractStridedSlice S1x4064 ![0, 32] p.2 slices_S1x4096_o0_32_S1x4064) =
      (stage 8 4 (stage 8 5 p)).1 := rfl

theorem pay231 :
    k1_pay231 (iota .tc S1x4096 32 [1] iota_S1x4096_d1_w32) p.1 p.2 (lowM 5) (upM 8 5) (exch 5 p.1) (extractStridedSlice S1x4064 ![0, 32] p.2 slices_S1x4096_o0_32_S1x4064) =
      (stage 8 4 (stage 8 5 p)).2 := rfl

theorem pay232 :
    k1_pay232 (iota .tc S1x4096 32 [1] iota_S1x4096_d1_w32) =
      (andi (iota .tc S1x4096 32 [1] iota_S1x4096_d1_w32) (broadcast S1x4096 8#32)) := rfl

theorem pay233 :
    k1_pay233 =
      (broadcast S1x4096 0#32) := rfl

theorem pay238 :
    k1_pay238 (iota .tc S1x4096 32 [1] iota_S1x4096_d1_w32) p.1 p.2 (andi (iota .tc S1x4096 32 [1] iota_S1x4096_d1_w32) (broadcast S1x4096 8#32)) (broadcast S1x4096 0#32) =
      (stage 8 3 p).1 := rfl

theorem pay239 :
    k1_pay239 (iota .tc S1x4096 32 [1] iota_S1x4096_d1_w32) p.1 p.2 (andi (iota .tc S1x4096 32 [1] iota_S1x4096_d1_w32) (broadcast S1x4096 8#32)) (broadcast S1x4096 0#32) =
      (stage 8 3 p).2 := rfl

theorem pay240 :
    k1_pay240 (iota .tc S1x4096 32 [1] iota_S1x4096_d1_w32) =
      (lowM 2) := rfl

theorem pay241 :
    k1_pay241 (iota .tc S1x4096 32 [1] iota_S1x4096_d1_w32) =
      (upM 8 2) := rfl

theorem pay242 :
    k1_pay242 (iota .tc S1x4096 32 [1] iota_S1x4096_d1_w32) p.1 p.2 (andi (iota .tc S1x4096 32 [1] iota_S1x4096_d1_w32) (broadcast S1x4096 8#32)) (broadcast S1x4096 0#32) =
      (exch 2 (stage 8 3 p).1) := rfl

theorem pay243 :
    k1_pay243 (iota .tc S1x4096 32 [1] iota_S1x4096_d1_w32) p.1 p.2 (andi (iota .tc S1x4096 32 [1] iota_S1x4096_d1_w32) (broadcast S1x4096 8#32)) (broadcast S1x4096 0#32) =
      (concatenate S1x4096 1 [⟨S1x4092, (extractStridedSlice S1x4092 ![0, 4] (stage 8 3 p).2 slices_S1x4096_o0_4_S1x4092)⟩, ⟨S1x4, (extractStridedSlice S1x4 ![0, 0] (stage 8 3 p).2 slices_S1x4096_o0_0_S1x4)⟩] concatenates_S1x4092_S1x4_S1x4096_d1) := rfl

theorem pay244 :
    k1_pay244 (iota .tc S1x4096 32 [1] iota_S1x4096_d1_w32) p.1 p.2 (andi (iota .tc S1x4096 32 [1] iota_S1x4096_d1_w32) (broadcast S1x4096 8#32)) (broadcast S1x4096 0#32) =
      (extractStridedSlice S1x4 ![0, 4092] (stage 8 3 p).2 slices_S1x4096_o0_4092_S1x4) := rfl

theorem pay253 :
    k1_pay253 (iota .tc S1x4096 32 [1] iota_S1x4096_d1_w32) p.1 p.2 (lowM 2) (upM 8 2) (exch 2 p.1) (concatenate S1x4096 1 [⟨S1x4092, (extractStridedSlice S1x4092 ![0, 4] p.2 slices_S1x4096_o0_4_S1x4092)⟩, ⟨S1x4, (extractStridedSlice S1x4 ![0, 0] p.2 slices_S1x4096_o0_0_S1x4)⟩] concatenates_S1x4092_S1x4_S1x4096_d1) (extractStridedSlice S1x4 ![0, 4092] p.2 slices_S1x4096_o0_4092_S1x4) =
      (stage 8 1 (stage 8 2 p)).1 := rfl

theorem pay254 :
    k1_pay254 (iota .tc S1x4096 32 [1] iota_S1x4096_d1_w32) p.1 p.2 (lowM 2) (upM 8 2) (exch 2 p.1) (concatenate S1x4096 1 [⟨S1x4092, (extractStridedSlice S1x4092 ![0, 4] p.2 slices_S1x4096_o0_4_S1x4092)⟩, ⟨S1x4, (extractStridedSlice S1x4 ![0, 0] p.2 slices_S1x4096_o0_0_S1x4)⟩] concatenates_S1x4092_S1x4_S1x4096_d1) (extractStridedSlice S1x4 ![0, 4092] p.2 slices_S1x4096_o0_4092_S1x4) =
      (stage 8 1 (stage 8 2 p)).2 := rfl

theorem pay255 :
    k1_pay255 (iota .tc S1x4096 32 [1] iota_S1x4096_d1_w32) =
      (lowM 0) := rfl

theorem pay256 :
    k1_pay256 =
      (broadcast S1x4096 256#32) := rfl

theorem pay260 :
    k1_pay260 (iota .tc S1x4096 32 [1] iota_S1x4096_d1_w32) p.1 p.2 (lowM 0) (broadcast S1x4096 256#32) =
      (stage 8 0 p).1 := rfl

theorem pay261 :
    k1_pay261 (iota .tc S1x4096 32 [1] iota_S1x4096_d1_w32) p.1 p.2 (lowM 0) (broadcast S1x4096 256#32) =
      (stage 8 0 p).2 := rfl

theorem pay263 :
    k1_pay263 (iota .tc S1x4096 32 [1] iota_S1x4096_d1_w32) =
      (upM 9 8) := rfl

theorem pay264 :
    k1_pay264 (iota .tc S1x4096 32 [1] iota_S1x4096_d1_w32) p.1 p.2 (lowM 0) (broadcast S1x4096 256#32) =
      (exch 8 (stage 8 0 p).1) := rfl

theorem pay265 :
    k1_pay265 (iota .tc S1x4096 32 [1] iota_S1x4096_d1_w32) p.1 p.2 (lowM 0) (broadcast S1x4096 256#32) =
      (exch 8 (stage 8 0 p).2) := rfl

theorem pay273 :
    k1_pay273 (iota .tc S1x4096 32 [1] iota_S1x4096_d1_w32) p.1 p.2 (upM 9 8) (exch 8 p.1) (exch 8 p.2) =
      (stage 9 7 (stage 9 8 p)).1 := rfl

theorem pay274 :
    k1_pay274 (iota .tc S1x4096 32 [1] iota_S1x4096_d1_w32) p.1 p.2 (upM 9 8) (exch 8 p.1) (exch 8 p.2) =
      (stage 9 7 (stage 9 8 p)).2 := rfl

theorem pay275 :
    k1_pay275 (iota .tc S1x4096 32 [1] iota_S1x4096_d1_w32) =
      (lowM 6) := rfl

theorem pay276 :
    k1_pay276 (iota .tc S1x4096 32 [1] iota_S1x4096_d1_w32) =
      (andi (iota .tc S1x4096 32 [1] iota_S1x4096_d1_w32) (broadcast S1x4096 512#32)) := rfl

theorem pay277 :
    k1_pay277 =
      (broadcast S1x4096 0#32) := rfl

theorem pay281 :
    k1_pay281 p.1 p.2 (lowM 6) (andi (iota .tc S1x4096 32 [1] iota_S1x4096_d1_w32) (broadcast S1x4096 512#32)) (broadcast S1x4096 0#32) =
      (stage 9 6 p).1 := rfl

theorem pay282 :
    k1_pay282 p.1 p.2 (lowM 6) (andi (iota .tc S1x4096 32 [1] iota_S1x4096_d1_w32) (broadcast S1x4096 512#32)) (broadcast S1x4096 0#32) =
      (stage 9 6 p).2 := rfl

theorem pay284 :
    k1_pay284 (iota .tc S1x4096 32 [1] iota_S1x4096_d1_w32) =
      (upM 9 5) := rfl

theorem pay285 :
    k1_pay285 (iota .tc S1x4096 32 [1] iota_S1x4096_d1_w32) p.1 p.2 (lowM 6) (andi (iota .tc S1x4096 32 [1] iota_S1x4096_d1_w32) (broadcast S1x4096 512#32)) (broadcast S1x4096 0#32) =
      (exch 5 (stage 9 6 p).1) := rfl

theorem pay286 :
    k1_pay286 (iota .tc S1x4096 32 [1] iota_S1x4096_d1_w32) p.1 p.2 (lowM 6) (andi (iota .tc S1x4096 32 [1] iota_S1x4096_d1_w32) (broadcast S1x4096 512#32)) (broadcast S1x4096 0#32) =
      (exch 5 (stage 9 6 p).2) := rfl

theorem pay287 :
    k1_pay287 (iota .tc S1x4096 32 [1] iota_S1x4096_d1_w32) p.1 p.2 (lowM 6) (andi (iota .tc S1x4096 32 [1] iota_S1x4096_d1_w32) (broadcast S1x4096 512#32)) (broadcast S1x4096 0#32) =
      (cmpf .ogt (exch 5 (stage 9 6 p).1) (stage 9 6 p).1) := rfl

theorem pay288 :
    k1_pay288 (iota .tc S1x4096 32 [1] iota_S1x4096_d1_w32) p.1 p.2 (lowM 6) (andi (iota .tc S1x4096 32 [1] iota_S1x4096_d1_w32) (broadcast S1x4096 512#32)) (broadcast S1x4096 0#32) =
      (cmpf .oeq (exch 5 (stage 9 6 p).1) (stage 9 6 p).1) := rfl

theorem pay289 :
    k1_pay289 (iota .tc S1x4096 32 [1] iota_S1x4096_d1_w32) p.1 p.2 (lowM 6) (andi (iota .tc S1x4096 32 [1] iota_S1x4096_d1_w32) (broadcast S1x4096 512#32)) (broadcast S1x4096 0#32) =
      (cmpi .slt (exch 5 (stage 9 6 p).2) (stage 9 6 p).2) := rfl

theorem pay297 :
    k1_pay297 (iota .tc S1x4096 32 [1] iota_S1x4096_d1_w32) p.1 p.2 (upM 9 5) (exch 5 p.1) (exch 5 p.2) (cmpf .ogt (exch 5 p.1) p.1) (cmpf .oeq (exch 5 p.1) p.1) (cmpi .slt (exch 5 p.2) p.2) =
      (stage 9 4 (stage 9 5 p)).1 := rfl

theorem pay298 :
    k1_pay298 (iota .tc S1x4096 32 [1] iota_S1x4096_d1_w32) p.1 p.2 (upM 9 5) (exch 5 p.1) (exch 5 p.2) (cmpf .ogt (exch 5 p.1) p.1) (cmpf .oeq (exch 5 p.1) p.1) (cmpi .slt (exch 5 p.2) p.2) =
      (stage 9 4 (stage 9 5 p)).2 := rfl

theorem pay299 :
    k1_pay299 (iota .tc S1x4096 32 [1] iota_S1x4096_d1_w32) =
      (lowM 3) := rfl

theorem pay300 :
    k1_pay300 (iota .tc S1x4096 32 [1] iota_S1x4096_d1_w32) =
      (xori (lowM 3) (lowM 9)) := rfl

theorem pay304 :
    k1_pay304 p.1 p.2 (lowM 3) (xori (lowM 3) (lowM 9)) (constantI S1x4096 1 1#1) =
      (stage 9 3 p).1 := rfl

theorem pay305 :
    k1_pay305 p.1 p.2 (lowM 3) (xori (lowM 3) (lowM 9)) (constantI S1x4096 1 1#1) =
      (stage 9 3 p).2 := rfl

theorem pay307 :
    k1_pay307 (iota .tc S1x4096 32 [1] iota_S1x4096_d1_w32) p.1 p.2 (lowM 3) (xori (lowM 3) (lowM 9)) (constantI S1x4096 1 1#1) =
      (exch 2 (stage 9 3 p).1) := rfl

theorem pay308 :
    k1_pay308 (iota .tc S1x4096 32 [1] iota_S1x4096_d1_w32) p.1 p.2 (lowM 3) (xori (lowM 3) (lowM 9)) (constantI S1x4096 1 1#1) =
      (exch 2 (stage 9 3 p).2) := rfl

theorem pay309 :
    k1_pay309 (iota .tc S1x4096 32 [1] iota_S1x4096_d1_w32) p.1 p.2 (lowM 3) (xori (lowM 3) (lowM 9)) (constantI S1x4096 1 1#1) =
      (xori (upM 9 2) (ori (cmpf .ogt (exch 2 (stage 9 3 p).1) (stage 9 3 p).1) (andi (cmpf .oeq (exch 2 (stage 9 3 p).1) (stage 9 3 p).1) (cmpi .slt (exch 2 (stage 9 3 p).2) (stage 9 3 p).2)))) := rfl

theorem pay317 :
    k1_pay317 (iota .tc S1x4096 32 [1] iota_S1x4096_d1_w32) p.1 p.2 (exch 2 p.1) (exch 2 p.2) (xori (upM 9 2) (ori (cmpf .ogt (exch 2 p.1) p.1) (andi (cmpf .oeq (exch 2 p.1) p.1) (cmpi .slt (exch 2 p.2) p.2)))) =
      (stage 9 1 (stage 9 2 p)).1 := rfl

theorem pay318 :
    k1_pay318 (iota .tc S1x4096 32 [1] iota_S1x4096_d1_w32) p.1 p.2 (exch 2 p.1) (exch 2 p.2) (xori (upM 9 2) (ori (cmpf .ogt (exch 2 p.1) p.1) (andi (cmpf .oeq (exch 2 p.1) p.1) (cmpi .slt (exch 2 p.2) p.2)))) =
      (stage 9 1 (stage 9 2 p)).2 := rfl

theorem pay319 :
    k1_pay319 (iota .tc S1x4096 32 [1] iota_S1x4096_d1_w32) =
      (lowM 0) := rfl

theorem pay320 :
    k1_pay320 (iota .tc S1x4096 32 [1] iota_S1x4096_d1_w32) =
      (upM 9 0) := rfl

theorem pay321 :
    k1_pay321 (iota .tc S1x4096 32 [1] iota_S1x4096_d1_w32) p.1 p.2 (exch 2 p.1) (exch 2 p.2) (xori (upM 9 2) (ori (cmpf .ogt (exch 2 p.1) p.1) (andi (cmpf .oeq (exch 2 p.1) p.1) (cmpi .slt (exch 2 p.2) p.2)))) =
      (extractStridedSlice S1x4095 ![0, 1] (stage 9 1 (stage 9 2 p)).1 slices_S1x4096_o0_1_S1x4095) := rfl

theorem pay322 :
    k1_pay322 (iota .tc S1x4096 32 [1] iota_S1x4096_d1_w32) p.1 p.2 (exch 2 p.1) (exch 2 p.2) (xori (upM 9 2) (ori (cmpf .ogt (exch 2 p.1) p.1) (andi (cmpf .oeq (exch 2 p.1) p.1) (cmpi .slt (exch 2 p.2) p.2)))) =
      (extractStridedSlice S1x1 ![0, 0] (stage 9 1 (stage 9 2 p)).1 slices_S1x4096_o0_0_S1x1) := rfl

theorem pay327 :
    k1_pay327 p.1 p.2 (lowM 0) (upM 9 0) (extractStridedSlice S1x4095 ![0, 1] p.1 slices_S1x4096_o0_1_S1x4095) (extractStridedSlice S1x1 ![0, 0] p.1 slices_S1x4096_o0_0_S1x1) =
      (stage 9 0 p).2 := rfl

theorem pay330 :
    k1_pay330 (iota .tc S1x4096 32 [1] iota_S1x4096_d1_w32) p.1 p.2 (lowM 0) (upM 9 0) (extractStridedSlice S1x4095 ![0, 1] p.1 slices_S1x4096_o0_1_S1x4095) (extractStridedSlice S1x1 ![0, 0] p.1 slices_S1x4096_o0_0_S1x1) =
      (exch 9 (stage 9 0 p).2) := rfl

theorem pay331 :
    k1_pay331 (iota .tc S1x4096 32 [1] iota_S1x4096_d1_w32) p.1 p.2 (lowM 0) (upM 9 0) (extractStridedSlice S1x4095 ![0, 1] p.1 slices_S1x4096_o0_1_S1x4095) (extractStridedSlice S1x1 ![0, 0] p.1 slices_S1x4096_o0_0_S1x1) =
      (takeM 10 9 (stage 9 0 p)) := rfl

theorem pay332 :
    k1_pay332 (iota .tc S1x4096 32 [1] iota_S1x4096_d1_w32) p.1 p.2 (lowM 0) (upM 9 0) (extractStridedSlice S1x4095 ![0, 1] p.1 slices_S1x4096_o0_1_S1x4095) (extractStridedSlice S1x1 ![0, 0] p.1 slices_S1x4096_o0_0_S1x1) =
      (stage 10 9 (stage 9 0 p)).1 := rfl

theorem pay338 :
    k1_pay338 (iota .tc S1x4096 32 [1] iota_S1x4096_d1_w32) p.2 (exch 9 p.2) (takeM 10 9 p) (stage 10 9 p).1 =
      (stage 10 8 (stage 10 9 p)).1 := rfl

theorem pay339 :
    k1_pay339 (iota .tc S1x4096 32 [1] iota_S1x4096_d1_w32) p.2 (exch 9 p.2) (takeM 10 9 p) (stage 10 9 p).1 =
      (stage 10 8 (stage 10 9 p)).2 := rfl

theorem pay340 :
    k1_pay340 (iota .tc S1x4096 32 [1] iota_S1x4096_d1_w32) =
      (lowM 7) := rfl

theorem pay341 :
    k1_pay341 (iota .tc S1x4096 32 [1] iota_S1x4096_d1_w32) =
      (upM 10 7) := rfl

theorem pay342 :
    k1_pay342 (iota .tc S1x4096 32 [1] iota_S1x4096_d1_w32) p.2 (exch 9 p.2) (takeM 10 9 p) (stage 10 9 p).1 =
      (concatenate S1x4096 1 [⟨S1x3968, (extractStridedSlice S1x3968 ![0, 128] (stage 10 8 (stage 10 9 p)).1 slices_S1x4096_o0_128_S1x3968)⟩, ⟨S1x128, (extractStridedSlice S1x128 ![0, 0] (stage 10 8 (stage 10 9 p)).1 slices_S1x4096_o0_0_S1x128)⟩] concatenates_S1x3968_S1x128_S1x4096_d1) := rfl

theorem pay343 :
    k1_pay343 (iota .tc S1x4096 32 [1] iota_S1x4096_d1_w32) p.2 (exch 9 p.2) (takeM 10 9 p) (stage 10 9 p).1 =
      (extractStridedSlice S1x128 ![0, 3968] (stage 10 8 (stage 10 9 p)).1 slices_S1x4096_o0_3968_S1x128) := rfl

theorem pay344 :
    k1_pay344 (iota .tc S1x4096 32 [1] iota_S1x4096_d1_w32) p.2 (exch 9 p.2) (takeM 10 9 p) (stage 10 9 p).1 =
      (extractStridedSlice S1x3968 ![0, 0] (stage 10 8 (stage 10 9 p)).1 slices_S1x4096_o0_0_S1x3968) := rfl

theorem pay354 :
    k1_pay354 (iota .tc S1x4096 32 [1] iota_S1x4096_d1_w32) p.1 p.2 (lowM 7) (upM 10 7) (concatenate S1x4096 1 [⟨S1x3968, (extractStridedSlice S1x3968 ![0, 128] p.1 slices_S1x4096_o0_128_S1x3968)⟩, ⟨S1x128, (extractStridedSlice S1x128 ![0, 0] p.1 slices_S1x4096_o0_0_S1x128)⟩] concatenates_S1x3968_S1x128_S1x4096_d1) (extractStridedSlice S1x128 ![0, 3968] p.1 slices_S1x4096_o0_3968_S1x128) (extractStridedSlice S1x3968 ![0, 0] p.1 slices_S1x4096_o0_0_S1x3968) =
      (stage 10 6 (stage 10 7 p)).1 := rfl

theorem pay355 :
    k1_pay355 (iota .tc S1x4096 32 [1] iota_S1x4096_d1_w32) p.1 p.2 (lowM 7) (upM 10 7) (concatenate S1x4096 1 [⟨S1x3968, (extractStridedSlice S1x3968 ![0, 128] p.1 slices_S1x4096_o0_128_S1x3968)⟩, ⟨S1x128, (extractStridedSlice S1x128 ![0, 0] p.1 slices_S1x4096_o0_0_S1x128)⟩] concatenates_S1x3968_S1x128_S1x4096_d1) (extractStridedSlice S1x128 ![0, 3968] p.1 slices_S1x4096_o0_3968_S1x128) (extractStridedSlice S1x3968 ![0, 0] p.1 slices_S1x4096_o0_0_S1x3968) =
      (stage 10 6 (stage 10 7 p)).2 := rfl

theorem pay356 :
    k1_pay356 =
      (broadcast S1x4096 32#32) := rfl

theorem pay361 :
    k1_pay361 (iota .tc S1x4096 32 [1] iota_S1x4096_d1_w32) p.1 p.2 (broadcast S1x4096 32#32) =
      (stage 10 5 p).1 := rfl

theorem pay362 :
    k1_pay362 (iota .tc S1x4096 32 [1] iota_S1x4096_d1_w32) p.1 p.2 (broadcast S1x4096 32#32) =
      (stage 10 5 p).2 := rfl

theorem pay363 :
    k1_pay363 (iota .tc S1x4096 32 [1] iota_S1x4096_d1_w32) =
      (lowM 4) := rfl

theorem pay364 :
    k1_pay364 (iota .tc S1x4096 32 [1] iota_S1x4096_d1_w32) =
      (upM 10 4) := rfl

theorem pay365 :
    k1_pay365 (iota .tc S1x4096 32 [1] iota_S1x4096_d1_w32) p.1 p.2 (broadcast S1x4096 32#32) =
      (exch 4 (stage 10 5 p).1) := rfl

theorem pay366 :
    k1_pay366 (iota .tc S1x4096 32 [1] iota_S1x4096_d1_w32) p.1 p.2 (broadcast S1x4096 32#32) =
      (extractStridedSlice S1x4080 ![0, 16] (stage 10 5 p).2 slices_S1x4096_o0_16_S1x4080) := rfl

theorem pay375 :
    k1_pay375 (iota .tc S1x4096 32 [1] iota_S1x4096_d1_w32) p.1 p.2 (lowM 4) (upM 10 4) (exch 4 p.1) (extractStridedSlice S1x4080 ![0, 16] p.2 slices_S1x4096_o0_16_S1x4080) =
      (stage 10 3 (stage 10 4 p)).1 := rfl

theorem pay376 :
    k1_pay376 (iota .tc S1x4096 32 [1] iota_S1x4096_d1_w32) p.1 p.2 (lowM 4) (upM 10 4) (exch 4 p.1) (extractStridedSlice S1x4080 ![0, 16] p.2 slices_S1x4096_o0_16_S1x4080) =
      (stage 10 3 (stage 10 4 p)).2 := rfl

theorem pay377 :
    k1_pay377 (iota .tc S1x4096 32 [1] iota_S1x4096_d1_w32) =
      (andi (iota .tc S1x4096 32 [1] iota_S1x4096_d1_w32) (broadcast S1x4096 4#32)) := rfl

theorem pay378 :
    k1_pay378 =
      (broadcast S1x4096 0#32) := rfl

theorem pay383 :
    k1_pay383 (iota .tc S1x4096 32 [1] iota_S1x4096_d1_w32) p.1 p.2 (andi (iota .tc S1x4096 32 [1] iota_S1x4096_d1_w32) (broadcast S1x4096 4#32)) (broadcast S1x4096 0#32) =
      (stage 10 2 p).1 := rfl

theorem pay384 :
    k1_pay384 (iota .tc S1x4096 32 [1] iota_S1x4096_d1_w32) p.1 p.2 (andi (iota .tc S1x4096 32 [1] iota_S1x4096_d1_w32) (broadcast S1x4096 4#32)) (broadcast S1x4096 0#32) =
      (stage 10 2 p).2 := rfl

theorem pay385 :
    k1_pay385 (iota .tc S1x4096 32 [1] iota_S1x4096_d1_w32) =
      (lowM 1) := rfl

theorem pay386 :
    k1_pay386 (iota .tc S1x4096 32 [1] iota_S1x4096_d1_w32) =
      (upM 10 1) := rfl

theorem pay387 :
    k1_pay387 (iota .tc S1x4096 32 [1] iota_S1x4096_d1_w32) p.1 p.2 (andi (iota .tc S1x4096 32 [1] iota_S1x4096_d1_w32) (broadcast S1x4096 4#32)) (broadcast S1x4096 0#32) =
      (exch 1 (stage 10 2 p).1) := rfl

theorem pay388 :
    k1_pay388 (iota .tc S1x4096 32 [1] iota_S1x4096_d1_w32) p.1 p.2 (andi (iota .tc S1x4096 32 [1] iota_S1x4096_d1_w32) (broadcast S1x4096 4#32)) (broadcast S1x4096 0#32) =
      (concatenate S1x4096 1 [⟨S1x4094, (extractStridedSlice S1x4094 ![0, 2] (stage 10 2 p).2 slices_S1x4096_o0_2_S1x4094)⟩, ⟨S1x2, (extractStridedSlice S1x2 ![0, 0] (stage 10 2 p).2 slices_S1x4096_o0_0_S1x2)⟩] concatenates_S1x4094_S1x2_S1x4096_d1) := rfl

theorem pay389 :
    k1_pay389 (iota .tc S1x4096 32 [1] iota_S1x4096_d1_w32) p.1 p.2 (andi (iota .tc S1x4096 32 [1] iota_S1x4096_d1_w32) (broadcast S1x4096 4#32)) (broadcast S1x4096 0#32) =
      (extractStridedSlice S1x2 ![0, 4094] (stage 10 2 p).2 slices_S1x4096_o0_4094_S1x2) := rfl

theorem pay398 :
    k1_pay398 (iota .tc S1x4096 32 [1] iota_S1x4096_d1_w32) p.1 p.2 (lowM 1) (upM 10 1) (exch 1 p.1) (concatenate S1x4096 1 [⟨S1x4094, (extractStridedSlice S1x4094 ![0, 2] p.2 slices_S1x4096_o0_2_S1x4094)⟩, ⟨S1x2, (extractStridedSlice S1x2 ![0, 0] p.2 slices_S1x4096_o0_0_S1x2)⟩] concatenates_S1x4094_S1x2_S1x4096_d1) (extractStridedSlice S1x2 ![0, 4094] p.2 slices_S1x4096_o0_4094_S1x2) =
      (stage 10 0 (stage 10 1 p)).1 := rfl

theorem pay399 :
    k1_pay399 (iota .tc S1x4096 32 [1] iota_S1x4096_d1_w32) p.1 p.2 (lowM 1) (upM 10 1) (exch 1 p.1) (concatenate S1x4096 1 [⟨S1x4094, (extractStridedSlice S1x4094 ![0, 2] p.2 slices_S1x4096_o0_2_S1x4094)⟩, ⟨S1x2, (extractStridedSlice S1x2 ![0, 0] p.2 slices_S1x4096_o0_0_S1x2)⟩] concatenates_S1x4094_S1x2_S1x4096_d1) (extractStridedSlice S1x2 ![0, 4094] p.2 slices_S1x4096_o0_4094_S1x2) =
      (stage 10 0 (stage 10 1 p)).2 := rfl

theorem pay400 :
    k1_pay400 (iota .tc S1x4096 32 [1] iota_S1x4096_d1_w32) =
      (lowM 10) := rfl

theorem pay401 :
    k1_pay401 =
      (broadcast S1x4096 2048#32) := rfl

theorem pay405 :
    k1_pay405 (iota .tc S1x4096 32 [1] iota_S1x4096_d1_w32) p.1 p.2 (lowM 10) (broadcast S1x4096 2048#32) =
      (stage 11 10 p).1 := rfl

theorem pay406 :
    k1_pay406 (iota .tc S1x4096 32 [1] iota_S1x4096_d1_w32) p.1 p.2 (lowM 10) (broadcast S1x4096 2048#32) =
      (stage 11 10 p).2 := rfl

theorem pay408 :
    k1_pay408 (iota .tc S1x4096 32 [1] iota_S1x4096_d1_w32) =
      (upM 11 9) := rfl

theorem pay409 :
    k1_pay409 (iota .tc S1x4096 32 [1] iota_S1x4096_d1_w32) p.1 p.2 (lowM 10) (broadcast S1x4096 2048#32) =
      (exch 9 (stage 11 10 p).1) := rfl

theorem pay410 :
    k1_pay410 (iota .tc S1x4096 32 [1] iota_S1x4096_d1_w32) p.1 p.2 (lowM 10) (broadcast S1x4096 2048#32) =
      (exch 9 (stage 11 10 p).2) := rfl

theorem pay418 :
    k1_pay418 (iota .tc S1x4096 32 [1] iota_S1x4096_d1_w32) p.1 p.2 (upM 11 9) (exch 9 p.1) (exch 9 p.2) =
      (stage 11 8 (stage 11 9 p)).1 := rfl

theorem pay419 :
    k1_pay419 (iota .tc S1x4096 32 [1] iota_S1x4096_d1_w32) p.1 p.2 (upM 11 9) (exch 9 p.1) (exch 9 p.2) =
      (stage 11 8 (stage 11 9 p)).2 := rfl

theorem pay420 :
    k1_pay420 (iota .tc S1x4096 32 [1] iota_S1x4096_d1_w32) =
      (lowM 7) := rfl

theorem pay421 :
    k1_pay421 (iota .tc S1x4096 32 [1] iota_S1x4096_d1_w32) =
      (andi (iota .tc S1x4096 32 [1] iota_S1x4096_d1_w32) (broadcast S1x4096 2048#32)) := rfl

theorem pay422 :
    k1_pay422 =
      (broadcast S1x4096 0#32) := rfl

theorem pay426 :
    k1_pay426 p.1 p.2 (lowM 7) (andi (iota .tc S1x4096 32 [1] iota_S1x4096_d1_w32) (broadcast S1x4096 2048#32)) (broadcast S1x4096 0#32) =
      (stage 11 7 p).1 := rfl

theorem pay427 :
    k1_pay427 p.1 p.2 (lowM 7) (andi (iota .tc S1x4096 32 [1] iota_S1x4096_d1_w32) (broadcast S1x4096 2048#32)) (broadcast S1x4096 0#32) =
      (stage 11 7 p).2 := rfl

theorem pay429 :
    k1_pay429 (iota .tc S1x4096 32 [1] iota_S1x4096_d1_w32) =
      (upM 11 6) := rfl

theorem pay430 :
    k1_pay430 (iota .tc S1x4096 32 [1] iota_S1x4096_d1_w32) p.1 p.2 (lowM 7) (andi (iota .tc S1x4096 32 [1] iota_S1x4096_d1_w32) (broadcast S1x4096 2048#32)) (broadcast S1x4096 0#32) =
      (exch 6 (stage 11 7 p).1) := rfl

theorem pay431 :
    k1_pay431 (iota .tc S1x4096 32 [1] iota_S1x4096_d1_w32) p.1 p.2 (lowM 7) (andi (iota .tc S1x4096 32 [1] iota_S1x4096_d1_w32) (broadcast S1x4096 2048#32)) (broadcast S1x4096 0#32) =
      (exch 6 (stage 11 7 p).2) := rfl

theorem pay432 :
    k1_pay432 (iota .tc S1x4096 32 [1] iota_S1x4096_d1_w32) p.1 p.2 (lowM 7) (andi (iota .tc S1x4096 32 [1] iota_S1x4096_d1_w32) (broadcast S1x4096 2048#32)) (broadcast S1x4096 0#32) =
      (cmpf .ogt (exch 6 (stage 11 7 p).1) (stage 11 7 p).1) := rfl

theorem pay433 :
    k1_pay433 (iota .tc S1x4096 32 [1] iota_S1x4096_d1_w32) p.1 p.2 (lowM 7) (andi (iota .tc S1x4096 32 [1] iota_S1x4096_d1_w32) (broadcast S1x4096 2048#32)) (broadcast S1x4096 0#32) =
      (cmpf .oeq (exch 6 (stage 11 7 p).1) (stage 11 7 p).1) := rfl

theorem pay434 :
    k1_pay434 (iota .tc S1x4096 32 [1] iota_S1x4096_d1_w32) p.1 p.2 (lowM 7) (andi (iota .tc S1x4096 32 [1] iota_S1x4096_d1_w32) (broadcast S1x4096 2048#32)) (broadcast S1x4096 0#32) =
      (cmpi .slt (exch 6 (stage 11 7 p).2) (stage 11 7 p).2) := rfl

theorem pay442 :
    k1_pay442 (iota .tc S1x4096 32 [1] iota_S1x4096_d1_w32) p.1 p.2 (upM 11 6) (exch 6 p.1) (exch 6 p.2) (cmpf .ogt (exch 6 p.1) p.1) (cmpf .oeq (exch 6 p.1) p.1) (cmpi .slt (exch 6 p.2) p.2) =
      (stage 11 5 (stage 11 6 p)).1 := rfl

theorem pay443 :
    k1_pay443 (iota .tc S1x4096 32 [1] iota_S1x4096_d1_w32) p.1 p.2 (upM 11 6) (exch 6 p.1) (exch 6 p.2) (cmpf .ogt (exch 6 p.1) p.1) (cmpf .oeq (exch 6 p.1) p.1) (cmpi .slt (exch 6 p.2) p.2) =
      (stage 11 5 (stage 11 6 p)).2 := rfl

theorem pay444 :
    k1_pay444 (iota .tc S1x4096 32 [1] iota_S1x4096_d1_w32) =
      (lowM 4) := rfl

theorem pay445 :
    k1_pay445 (iota .tc S1x4096 32 [1] iota_S1x4096_d1_w32) =
      (xori (lowM 4) (lowM 11)) := rfl

theorem pay449 :
    k1_pay449 p.1 p.2 (lowM 4) (xori (lowM 4) (lowM 11)) (constantI S1x4096 1 1#1) =
      (stage 11 4 p).1 := rfl

theorem pay450 :
    k1_pay450 p.1 p.2 (lowM 4) (xori (lowM 4) (lowM 11)) (constantI S1x4096 1 1#1) =
      (stage 11 4 p).2 := rfl

theorem pay452 :
    k1_pay452 (iota .tc S1x4096 32 [1] iota_S1x4096_d1_w32) p.1 p.2 (lowM 4) (xori (lowM 4) (lowM 11)) (constantI S1x4096 1 1#1) =
      (exch 3 (stage 11 4 p).1) := rfl

theorem pay453 :
    k1_pay453 (iota .tc S1x4096 32 [1] iota_S1x4096_d1_w32) p.1 p.2 (lowM 4) (xori (lowM 4) (lowM 11)) (constantI S1x4096 1 1#1) =
      (exch 3 (stage 11 4 p).2) := rfl

theorem pay454 :
    k1_pay454 (iota .tc S1x4096 32 [1] iota_S1x4096_d1_w32) p.1 p.2 (lowM 4) (xori (lowM 4) (lowM 11)) (constantI S1x4096 1 1#1) =
      (xori (upM 11 3) (ori (cmpf .ogt (exch 3 (stage 11 4 p).1) (stage 11 4 p).1) (andi (cmpf .oeq (exch 3 (stage 11 4 p).1) (stage 11 4 p).1) (cmpi .slt (exch 3 (stage 11 4 p).2) (stage 11 4 p).2)))) := rfl

theorem pay462 :
    k1_pay462 (iota .tc S1x4096 32 [1] iota_S1x4096_d1_w32) p.1 p.2 (exch 3 p.1) (exch 3 p.2) (xori (upM 11 3) (ori (cmpf .ogt (exch 3 p.1) p.1) (andi (cmpf .oeq (exch 3 p.1) p.1) (cmpi .slt (exch 3 p.2) p.2)))) =
      (stage 11 2 (stage 11 3 p)).1 := rfl

theorem pay463 :
    k1_pay463 (iota .tc S1x4096 32 [1] iota_S1x4096_d1_w32) p.1 p.2 (exch 3 p.1) (exch 3 p.2) (xori (upM 11 3) (ori (cmpf .ogt (exch 3 p.1) p.1) (andi (cmpf .oeq (exch 3 p.1) p.1) (cmpi .slt (exch 3 p.2) p.2)))) =
      (stage 11 2 (stage 11 3 p)).2 := rfl

theorem pay464 :
    k1_pay464 (iota .tc S1x4096 32 [1] iota_S1x4096_d1_w32) =
      (lowM 1) := rfl

theorem pay465 :
    k1_pay465 (iota .tc S1x4096 32 [1] iota_S1x4096_d1_w32) =
      (upM 11 1) := rfl

theorem pay466 :
    k1_pay466 (iota .tc S1x4096 32 [1] iota_S1x4096_d1_w32) p.1 p.2 (exch 3 p.1) (exch 3 p.2) (xori (upM 11 3) (ori (cmpf .ogt (exch 3 p.1) p.1) (andi (cmpf .oeq (exch 3 p.1) p.1) (cmpi .slt (exch 3 p.2) p.2)))) =
      (extractStridedSlice S1x4094 ![0, 2] (stage 11 2 (stage 11 3 p)).1 slices_S1x4096_o0_2_S1x4094) := rfl

theorem pay467 :
    k1_pay467 (iota .tc S1x4096 32 [1] iota_S1x4096_d1_w32) p.1 p.2 (exch 3 p.1) (exch 3 p.2) (xori (upM 11 3) (ori (cmpf .ogt (exch 3 p.1) p.1) (andi (cmpf .oeq (exch 3 p.1) p.1) (cmpi .slt (exch 3 p.2) p.2)))) =
      (extractStridedSlice S1x2 ![0, 0] (stage 11 2 (stage 11 3 p)).1 slices_S1x4096_o0_0_S1x2) := rfl

theorem pay472 :
    k1_pay472 p.1 p.2 (lowM 1) (upM 11 1) (extractStridedSlice S1x4094 ![0, 2] p.1 slices_S1x4096_o0_2_S1x4094) (extractStridedSlice S1x2 ![0, 0] p.1 slices_S1x4096_o0_0_S1x2) =
      (stage 11 1 p).2 := rfl

theorem pay475 :
    k1_pay475 (iota .tc S1x4096 32 [1] iota_S1x4096_d1_w32) p.1 p.2 (lowM 1) (upM 11 1) (extractStridedSlice S1x4094 ![0, 2] p.1 slices_S1x4096_o0_2_S1x4094) (extractStridedSlice S1x2 ![0, 0] p.1 slices_S1x4096_o0_0_S1x2) =
      (exch 0 (stage 11 1 p).2) := rfl

theorem pay476 :
    k1_pay476 (iota .tc S1x4096 32 [1] iota_S1x4096_d1_w32) p.1 p.2 (lowM 1) (upM 11 1) (extractStridedSlice S1x4094 ![0, 2] p.1 slices_S1x4096_o0_2_S1x4094) (extractStridedSlice S1x2 ![0, 0] p.1 slices_S1x4096_o0_0_S1x2) =
      (takeM 11 0 (stage 11 1 p)) := rfl

theorem pay477 :
    k1_pay477 (iota .tc S1x4096 32 [1] iota_S1x4096_d1_w32) p.1 p.2 (lowM 1) (upM 11 1) (extractStridedSlice S1x4094 ![0, 2] p.1 slices_S1x4096_o0_2_S1x4094) (extractStridedSlice S1x2 ![0, 0] p.1 slices_S1x4096_o0_0_S1x2) =
      (stage 11 0 (stage 11 1 p)).1 := rfl

theorem pay483 :
    k1_pay483 (iota .tc S1x4096 32 [1] iota_S1x4096_d1_w32) p.2 (exch 0 p.2) (takeM 11 0 p) (stage 11 0 p).1 =
      (stage 12 11 (stage 11 0 p)).1 := rfl

theorem pay484 :
    k1_pay484 (iota .tc S1x4096 32 [1] iota_S1x4096_d1_w32) p.2 (exch 0 p.2) (takeM 11 0 p) (stage 11 0 p).1 =
      (stage 12 11 (stage 11 0 p)).2 := rfl

theorem pay485 :
    k1_pay485 (iota .tc S1x4096 32 [1] iota_S1x4096_d1_w32) =
      (lowM 10) := rfl

theorem pay486 :
    k1_pay486 (iota .tc S1x4096 32 [1] iota_S1x4096_d1_w32) =
      (upM 12 10) := rfl

theorem pay487 :
    k1_pay487 (iota .tc S1x4096 32 [1] iota_S1x4096_d1_w32) p.2 (exch 0 p.2) (takeM 11 0 p) (stage 11 0 p).1 =
      (concatenate S1x4096 1 [⟨S1x3072, (extractStridedSlice S1x3072 ![0, 1024] (stage 12 11 (stage 11 0 p)).1 slices_S1x4096_o0_1024_S1x3072)⟩, ⟨S1x1024, (extractStridedSlice S1x1024 ![0, 0] (stage 12 11 (stage 11 0 p)).1 slices_S1x4096_o0_0_S1x1024)⟩] concatenates_S1x3072_S1x1024_S1x4096_d1) := rfl

theorem pay488 :
    k1_pay488 (iota .tc S1x4096 32 [1] iota_S1x4096_d1_w32) p.2 (exch 0 p.2) (takeM 11 0 p) (stage 11 0 p).1 =
      (extractStridedSlice S1x1024 ![0, 3072] (stage 12 11 (stage 11 0 p)).1 slices_S1x4096_o0_3072_S1x1024) := rfl

theorem pay489 :
    k1_pay489 (iota .tc S1x4096 32 [1] iota_S1x4096_d1_w32) p.2 (exch 0 p.2) (takeM 11 0 p) (stage 11 0 p).1 =
      (extractStridedSlice S1x3072 ![0, 0] (stage 12 11 (stage 11 0 p)).1 slices_S1x4096_o0_0_S1x3072) := rfl

theorem pay499 :
    k1_pay499 (iota .tc S1x4096 32 [1] iota_S1x4096_d1_w32) p.1 p.2 (lowM 10) (upM 12 10) (concatenate S1x4096 1 [⟨S1x3072, (extractStridedSlice S1x3072 ![0, 1024] p.1 slices_S1x4096_o0_1024_S1x3072)⟩, ⟨S1x1024, (extractStridedSlice S1x1024 ![0, 0] p.1 slices_S1x4096_o0_0_S1x1024)⟩] concatenates_S1x3072_S1x1024_S1x4096_d1) (extractStridedSlice S1x1024 ![0, 3072] p.1 slices_S1x4096_o0_3072_S1x1024) (extractStridedSlice S1x3072 ![0, 0] p.1 slices_S1x4096_o0_0_S1x3072) =
      (stage 12 9 (stage 12 10 p)).1 := rfl

theorem pay500 :
    k1_pay500 (iota .tc S1x4096 32 [1] iota_S1x4096_d1_w32) p.1 p.2 (lowM 10) (upM 12 10) (concatenate S1x4096 1 [⟨S1x3072, (extractStridedSlice S1x3072 ![0, 1024] p.1 slices_S1x4096_o0_1024_S1x3072)⟩, ⟨S1x1024, (extractStridedSlice S1x1024 ![0, 0] p.1 slices_S1x4096_o0_0_S1x1024)⟩] concatenates_S1x3072_S1x1024_S1x4096_d1) (extractStridedSlice S1x1024 ![0, 3072] p.1 slices_S1x4096_o0_3072_S1x1024) (extractStridedSlice S1x3072 ![0, 0] p.1 slices_S1x4096_o0_0_S1x3072) =
      (stage 12 9 (stage 12 10 p)).2 := rfl

theorem pay501 :
    k1_pay501 =
      (broadcast S1x4096 256#32) := rfl

theorem pay506 :
    k1_pay506 (iota .tc S1x4096 32 [1] iota_S1x4096_d1_w32) p.1 p.2 (broadcast S1x4096 256#32) =
      (stage 12 8 p).1 := rfl

theorem pay507 :
    k1_pay507 (iota .tc S1x4096 32 [1] iota_S1x4096_d1_w32) p.1 p.2 (broadcast S1x4096 256#32) =
      (stage 12 8 p).2 := rfl

theorem pay508 :
    k1_pay508 (iota .tc S1x4096 32 [1] iota_S1x4096_d1_w32) =
      (lowM 7) := rfl

theorem pay509 :
    k1_pay509 (iota .tc S1x4096 32 [1] iota_S1x4096_d1_w32) =
      (upM 12 7) := rfl

theorem pay510 :
    k1_pay510 (iota .tc S1x4096 32 [1] iota_S1x4096_d1_w32) p.1 p.2 (broadcast S1x4096 256#32) =
      (exch 7 (stage 12 8 p).1) := rfl

theorem pay511 :
    k1_pay511 (iota .tc S1x4096 32 [1] iota_S1x4096_d1_w32) p.1 p.2 (broadcast S1x4096 256#32) =
      (extractStridedSlice S1x3968 ![0, 128] (stage 12 8 p).2 slices_S1x4096_o0_128_S1x3968) := rfl

theorem pay520 :
    k1_pay520 (iota .tc S1x4096 32 [1] iota_S1x4096_d1_w32) p.1 p.2 (lowM 7) (upM 12 7) (exch 7 p.1) (extractStridedSlice S1x3968 ![0, 128] p.2 slices_S1x4096_o0_128_S1x3968) =
      (stage 12 6 (stage 12 7 p)).1 := rfl

theorem pay521 :
    k1_pay521 (iota .tc S1x4096 32 [1] iota_S1x4096_d1_w32) p.1 p.2 (lowM 7) (upM 12 7) (exch 7 p.1) (extractStridedSlice S1x3968 ![0, 128] p.2 slices_S1x4096_o0_128_S1x3968) =
      (stage 12 6 (stage 12 7 p)).2 := rfl

theorem pay522 :
    k1_pay522 (iota .tc S1x4096 32 [1] iota_S1x4096_d1_w32) =
      (andi (iota .tc S1x4096 32 [1] iota_S1x4096_d1_w32) (broadcast S1x4096 32#32)) := rfl

theorem pay523 :
    k1_pay523 =
      (broadcast S1x4096 0#32) := rfl

theorem pay528 :
    k1_pay528 (iota .tc S1x4096 32 [1] iota_S1x4096_d1_w32) p.1 p.2 (andi (iota .tc S1x4096 32 [1] iota_S1x4096_d1_w32) (broadcast S1x4096 32#32)) (broadcast S1x4096 0#32) =
      (stage 12 5 p).1 := rfl

theorem pay529 :
    k1_pay529 (iota .tc S1x4096 32 [1] iota_S1x4096_d1_w32) p.1 p.2 (andi (iota .tc S1x4096 32 [1] iota_S1x4096_d1_w32) (broadcast S1x4096 32#32)) (broadcast S1x4096 0#32) =
      (stage 12 5 p).2 := rfl

theorem pay530 :
    k1_pay530 (iota .tc S1x4096 32 [1] iota_S1x4096_d1_w32) =
      (lowM 4) := rfl

theorem pay531 :
    k1_pay531 (iota .tc S1x4096 32 [1] iota_S1x4096_d1_w32) =
      (upM 12 4) := rfl

theorem pay532 :
    k1_pay532 (iota .tc S1x4096 32 [1] iota_S1x4096_d1_w32) p.1 p.2 (andi (iota .tc S1x4096 32 [1] iota_S1x4096_d1_w32) (broadcast S1x4096 32#32)) (broadcast S1x4096 0#32) =
      (exch 4 (stage 12 5 p).1) := rfl

theorem pay533 :
    k1_pay533 (iota .tc S1x4096 32 [1] iota_S1x4096_d1_w32) p.1 p.2 (andi (iota .tc S1x4096 32 [1] iota_S1x4096_d1_w32) (broadcast S1x4096 32#32)) (broadcast S1x4096 0#32) =
      (concatenate S1x4096 1 [⟨S1x4080, (extractStridedSlice S1x4080 ![0, 16] (stage 12 5 p).2 slices_S1x4096_o0_16_S1x4080)⟩, ⟨S1x16, (extractStridedSlice S1x16 ![0, 0] (stage 12 5 p).2 slices_S1x4096_o0_0_S1x16)⟩] concatenates_S1x4080_S1x16_S1x4096_d1) := rfl

theorem pay534 :
    k1_pay534 (iota .tc S1x4096 32 [1] iota_S1x4096_d1_w32) p.1 p.2 (andi (iota .tc S1x4096 32 [1] iota_S1x4096_d1_w32) (broadcast S1x4096 32#32)) (broadcast S1x4096 0#32) =
      (extractStridedSlice S1x16 ![0, 4080] (stage 12 5 p).2 slices_S1x4096_o0_4080_S1x16) := rfl

theorem pay543 :
    k1_pay543 (iota .tc S1x4096 32 [1] iota_S1x4096_d1_w32) p.1 p.2 (lowM 4) (upM 12 4) (exch 4 p.1) (concatenate S1x4096 1 [⟨S1x4080, (extractStridedSlice S1x4080 ![0, 16] p.2 slices_S1x4096_o0_16_S1x4080)⟩, ⟨S1x16, (extractStridedSlice S1x16 ![0, 0] p.2 slices_S1x4096_o0_0_S1x16)⟩] concatenates_S1x4080_S1x16_S1x4096_d1) (extractStridedSlice S1x16 ![0, 4080] p.2 slices_S1x4096_o0_4080_S1x16) =
      (stage 12 3 (stage 12 4 p)).1 := rfl

theorem pay544 :
    k1_pay544 (iota .tc S1x4096 32 [1] iota_S1x4096_d1_w32) p.1 p.2 (lowM 4) (upM 12 4) (exch 4 p.1) (concatenate S1x4096 1 [⟨S1x4080, (extractStridedSlice S1x4080 ![0, 16] p.2 slices_S1x4096_o0_16_S1x4080)⟩, ⟨S1x16, (extractStridedSlice S1x16 ![0, 0] p.2 slices_S1x4096_o0_0_S1x16)⟩] concatenates_S1x4080_S1x16_S1x4096_d1) (extractStridedSlice S1x16 ![0, 4080] p.2 slices_S1x4096_o0_4080_S1x16) =
      (stage 12 3 (stage 12 4 p)).2 := rfl

theorem pay545 :
    k1_pay545 (iota .tc S1x4096 32 [1] iota_S1x4096_d1_w32) =
      (lowM 2) := rfl

theorem pay546 :
    k1_pay546 =
      (broadcast S1x4096 4096#32) := rfl

theorem pay550 :
    k1_pay550 (iota .tc S1x4096 32 [1] iota_S1x4096_d1_w32) p.1 p.2 (lowM 2) (broadcast S1x4096 4096#32) =
      (stage 12 2 p).1 := rfl

theorem pay551 :
    k1_pay551 (iota .tc S1x4096 32 [1] iota_S1x4096_d1_w32) p.1 p.2 (lowM 2) (broadcast S1x4096 4096#32) =
      (stage 12 2 p).2 := rfl

theorem pay553 :
    k1_pay553 (iota .tc S1x4096 32 [1] iota_S1x4096_d1_w32) =
      (upM 12 1) := rfl

theorem pay554 :
    k1_pay554 (iota .tc S1x4096 32 [1] iota_S1x4096_d1_w32) p.1 p.2 (lowM 2) (broadcast S1x4096 4096#32) =
      (exch 1 (stage 12 2 p).1) := rfl

theorem pay555 :
    k1_pay555 (iota .tc S1x4096 32 [1] iota_S1x4096_d1_w32) p.1 p.2 (lowM 2) (broadcast S1x4096 4096#32) =
      (exch 1 (stage 12 2 p).2) := rfl

theorem pay556 :
    k1_pay556 (iota .tc S1x4096 32 [1] iota_S1x4096_d1_w32) p.1 p.2 (upM 12 1) (exch 1 p.1) (exch 1 p.2) =
      extractStridedSlice S1x1024 ![0, 0] (stage 12 0 (stage 12 1 p)).2 slices_S1x4096_o0_0_S1x1024 := rfl

end

end Cert.KernelIdeal.Sort

end
-- ==== Proof.SortRun.lean ====
/-
  The sampling kernel's run, read: the named values of its run are the parts of `st n x`, the keys `x` and the positions after
  `n` compare-exchange stages; so the run leaves the first 1024 sorted positions in its first output (`out_idx`), and in its
  second the dot of the points with the one-hot matrix of those positions (`out_pts`).
-/
module

public import proofs.«01_k».proof.Proof.SortChain
public import proofs.«01_k».proof.Proof.Blocks
public import Idealize.ShloMosaic.Lib.Tactic

@[expose] public section

set_option maxRecDepth 16384

noncomputable section

namespace Cert.KernelIdeal.Sort

open Idealize.ShloMosaic Idealize.ShloMosaic.TcCoe Cert.KernelIdeal Cert.KernelIdeal.Gen

variable {F : FTy → Type} [FloatOps F]

/-- The stages, first to last: level and distance exponent. -/
def stages : List (Nat × Nat) := (List.range 12).flatMap fun l => (List.range (l + 1)).reverse.map fun s => (l + 1, s)

/-- The pairs after `n` stages. -/
def st : Nat → Vec F S1x1x4096 .f32 → FVec F S1x4096 .f32 × IVec S1x4096 32
  | 0, x => start x
  | n + 1, x => stage (stages.getD n (0, 0)).1 (stages.getD n (0, 0)).2 (st n x)

theorem hz3 : (![0, 0, 0] : Fin 3 → Nat) = fun _ => 0 := funext fun a => by fin_cases a <;> rfl

theorem hz2 : (![0, 0] : Fin 2 → Nat) = fun _ => 0 := funext fun a => by fin_cases a <;> rfl

variable (arg1 : Memref sig .tc .vmem S1x1x4096 .f32) (harg1 : arg1.IsWhole) (c : Dev nD) (x : Vec F S1x1x4096 .f32)

/-- What the load through the reshaped block reads. -/
theorem loaded : kernelRun1_A.sl.v1 c arg1 harg1 x = row x := by
  unfold kernelRun1_A.sl.v1
  rw [View.readAt_eq_ld, View.ld_unit_zero (S := S1x4096) hz2]
  exact congrArg (fun v : Vec F S1x1x4096 .f32 => row v) (harg1.read_unread x)

theorem r_0 : kernelRun1_A.sl.r c arg1 harg1 x = (st 1 x).1 := by
  unfold kernelRun1_A.sl.r
  rw [loaded]
  exact pay7 x

theorem r_1 : kernelRun1_A.sl.r_1 c arg1 harg1 x = (st 1 x).2 := by
  unfold kernelRun1_A.sl.r_1
  rw [loaded]
  exact pay8 x

theorem r_2 : kernelRun1_A.sl.r_2 c arg1 harg1 x = (st 2 x).1 := by
  unfold kernelRun1_A.sl.r_2
  simp only [kernelRun1_A.sl.v3, r_0, r_1, pay10, pay9]
  exact pay14 (st 1 x)

theorem r_3 : kernelRun1_A.sl.r_3 c arg1 harg1 x = (st 2 x).2 := by
  unfold kernelRun1_A.sl.r_3
  simp only [kernelRun1_A.sl.v3, r_0, r_1, pay10, pay9]
  exact pay15 (st 1 x)

theorem r_4 : kernelRun1_A.sl.r_4 c arg1 harg1 x = (exch 0 (st 2 x).1) := by
  unfold kernelRun1_A.sl.r_4
  simp only [kernelRun1_A.sl.v3, r_0, r_1, pay10, pay9]
  exact pay17 (st 1 x)

theorem r_5 : kernelRun1_A.sl.r_5 c arg1 harg1 x = (exch 0 (st 2 x).2) := by
  unfold kernelRun1_A.sl.r_5
  simp only [kernelRun1_A.sl.v3, r_0, r_1, pay10, pay9]
  exact pay18 (st 1 x)

theorem r_6 : kernelRun1_A.sl.r_6 c arg1 harg1 x = (xori (upM 2 0) (ori (cmpf .ogt (exch 0 (st 2 x).1) (st 2 x).1) (andi (cmpf .oeq (exch 0 (st 2 x).1) (st 2 x).1) (cmpi .slt (exch 0 (st 2 x).2) (st 2 x).2)))) := by
  unfold kernelRun1_A.sl.r_6
  simp only [kernelRun1_A.sl.v3, r_0, r_1, pay10, pay9]
  exact pay19 (st 1 x)

theorem r_7 : kernelRun1_A.sl.r_7 c arg1 harg1 x = (st 4 x).1 := by
  unfold kernelRun1_A.sl.r_7
  simp only [kernelRun1_A.sl.v3, r_2, r_3, r_4, r_5, r_6]
  exact pay27 (st 2 x)

theorem r_8 : kernelRun1_A.sl.r_8 c arg1 harg1 x = (st 4 x).2 := by
  unfold kernelRun1_A.sl.r_8
  simp only [kernelRun1_A.sl.v3, r_2, r_3, r_4, r_5, r_6]
  exact pay28 (st 2 x)

theorem r_9 : kernelRun1_A.sl.r_9 c arg1 harg1 x = (extractStridedSlice S1x4094 ![0, 2] (st 4 x).1 slices_S1x4096_o0_2_S1x4094) := by
  unfold kernelRun1_A.sl.r_9
  simp only [kernelRun1_A.sl.v3, r_2, r_3, r_4, r_5, r_6]
  exact pay31 (st 2 x)

theorem r_10 : kernelRun1_A.sl.r_10 c arg1 harg1 x = (extractStridedSlice S1x2 ![0, 0] (st 4 x).1 slices_S1x4096_o0_0_S1x2) := by
  unfold kernelRun1_A.sl.r_10
  simp only [kernelRun1_A.sl.v3, r_2, r_3, r_4, r_5, r_6]
  exact pay32 (st 2 x)

theorem r_11 : kernelRun1_A.sl.r_11 c arg1 harg1 x = (st 5 x).2 := by
  unfold kernelRun1_A.sl.r_11
  simp only [kernelRun1_A.sl.v3, r_7, r_8, r_9, r_10, pay29, pay30]
  exact pay37 (st 4 x)

theorem r_12 : kernelRun1_A.sl.r_12 c arg1 harg1 x = (exch 0 (st 5 x).2) := by
  unfold kernelRun1_A.sl.r_12
  simp only [kernelRun1_A.sl.v3, r_7, r_8, r_9, r_10, pay29, pay30]
  exact pay40 (st 4 x)

theorem r_13 : kernelRun1_A.sl.r_13 c arg1 harg1 x = (takeM 3 0 (st 5 x)) := by
  unfold kernelRun1_A.sl.r_13
  simp only [kernelRun1_A.sl.v3, r_7, r_8, r_9, r_10, pay29, pay30]
  exact pay41 (st 4 x)

theorem r_14 : kernelRun1_A.sl.r_14 c arg1 harg1 x = (st 6 x).1 := by
  unfold kernelRun1_A.sl.r_14
  simp only [kernelRun1_A.sl.v3, r_7, r_8, r_9, r_10, pay29, pay30]
  exact pay42 (st 4 x)

theorem r_15 : kernelRun1_A.sl.r_15 c arg1 harg1 x = (st 7 x).1 := by
  unfold kernelRun1_A.sl.r_15
  simp only [kernelRun1_A.sl.v3, r_11, r_12, r_13, r_14]
  exact pay48 (st 5 x)

theorem r_16 : kernelRun1_A.sl.r_16 c arg1 harg1 x = (st 7 x).2 := by
  unfold kernelRun1_A.sl.r_16
  simp only [kernelRun1_A.sl.v3, r_11, r_12, r_13, r_14]
  exact pay49 (st 5 x)

theorem r_17 : kernelRun1_A.sl.r_17 c arg1 harg1 x = (concatenate S1x4096 1 [⟨S1x4092, (extractStridedSlice S1x4092 ![0, 4] (st 7 x).1 slices_S1x4096_o0_4_S1x4092)⟩, ⟨S1x4, (extractStridedSlice S1x4 ![0, 0] (st 7 x).1 slices_S1x4096_o0_0_S1x4)⟩] concatenates_S1x4092_S1x4_S1x4096_d1) := by
  unfold kernelRun1_A.sl.r_17
  simp only [kernelRun1_A.sl.v3, r_11, r_12, r_13, r_14]
  exact pay52 (st 5 x)

theorem r_18 : kernelRun1_A.sl.r_18 c arg1 harg1 x = (extractStridedSlice S1x4 ![0, 4092] (st 7 x).1 slices_S1x4096_o0_4092_S1x4) := by
  unfold kernelRun1_A.sl.r_18
  simp only [kernelRun1_A.sl.v3, r_11, r_12, r_13, r_14]
  exact pay53 (st 5 x)

theorem r_19 : kernelRun1_A.sl.r_19 c arg1 harg1 x = (extractStridedSlice S1x4092 ![0, 0] (st 7 x).1 slices_S1x4096_o0_0_S1x4092) := by
  unfold kernelRun1_A.sl.r_19
  simp only [kernelRun1_A.sl.v3, r_11, r_12, r_13, r_14]
  exact pay54 (st 5 x)

theorem r_20 : kernelRun1_A.sl.r_20 c arg1 harg1 x = (st 9 x).1 := by
  unfold kernelRun1_A.sl.r_20
  simp only [kernelRun1_A.sl.v3, r_15, r_16, r_17, r_18, r_19, pay50, pay51]
  exact pay64 (st 7 x)

theorem r_21 : kernelRun1_A.sl.r_21 c arg1 harg1 x = (st 9 x).2 := by
  unfold kernelRun1_A.sl.r_21
  simp only [kernelRun1_A.sl.v3, r_15, r_16, r_17, r_18, r_19, pay50, pay51]
  exact pay65 (st 7 x)

theorem r_22 : kernelRun1_A.sl.r_22 c arg1 harg1 x = (st 10 x).1 := by
  unfold kernelRun1_A.sl.r_22
  simp only [kernelRun1_A.sl.v3, r_20, r_21, pay66]
  exact pay71 (st 9 x)

theorem r_23 : kernelRun1_A.sl.r_23 c arg1 harg1 x = (st 10 x).2 := by
  unfold kernelRun1_A.sl.r_23
  simp only [kernelRun1_A.sl.v3, r_20, r_21, pay66]
  exact pay72 (st 9 x)

theorem r_24 : kernelRun1_A.sl.r_24 c arg1 harg1 x = (exch 4 (st 10 x).1) := by
  unfold kernelRun1_A.sl.r_24
  simp only [kernelRun1_A.sl.v3, r_20, r_21, pay66]
  exact pay75 (st 9 x)

theorem r_25 : kernelRun1_A.sl.r_25 c arg1 harg1 x = (extractStridedSlice S1x4080 ![0, 16] (st 10 x).2 slices_S1x4096_o0_16_S1x4080) := by
  unfold kernelRun1_A.sl.r_25
  simp only [kernelRun1_A.sl.v3, r_20, r_21, pay66]
  exact pay76 (st 9 x)

theorem r_26 : kernelRun1_A.sl.r_26 c arg1 harg1 x = (st 12 x).1 := by
  unfold kernelRun1_A.sl.r_26
  simp only [kernelRun1_A.sl.v3, r_22, r_23, r_24, r_25, pay73, pay74]
  exact pay85 (st 10 x)

theorem r_27 : kernelRun1_A.sl.r_27 c arg1 harg1 x = (st 12 x).2 := by
  unfold kernelRun1_A.sl.r_27
  simp only [kernelRun1_A.sl.v3, r_22, r_23, r_24, r_25, pay73, pay74]
  exact pay86 (st 10 x)

theorem r_28 : kernelRun1_A.sl.r_28 c arg1 harg1 x = (st 13 x).1 := by
  unfold kernelRun1_A.sl.r_28
  simp only [kernelRun1_A.sl.v3, r_26, r_27, pay87, pay88]
  exact pay93 (st 12 x)

theorem r_29 : kernelRun1_A.sl.r_29 c arg1 harg1 x = (st 13 x).2 := by
  unfold kernelRun1_A.sl.r_29
  simp only [kernelRun1_A.sl.v3, r_26, r_27, pay87, pay88]
  exact pay94 (st 12 x)

theorem r_30 : kernelRun1_A.sl.r_30 c arg1 harg1 x = (exch 1 (st 13 x).1) := by
  unfold kernelRun1_A.sl.r_30
  simp only [kernelRun1_A.sl.v3, r_26, r_27, pay87, pay88]
  exact pay97 (st 12 x)

theorem r_31 : kernelRun1_A.sl.r_31 c arg1 harg1 x = (concatenate S1x4096 1 [⟨S1x4094, (extractStridedSlice S1x4094 ![0, 2] (st 13 x).2 slices_S1x4096_o0_2_S1x4094)⟩, ⟨S1x2, (extractStridedSlice S1x2 ![0, 0] (st 13 x).2 slices_S1x4096_o0_0_S1x2)⟩] concatenates_S1x4094_S1x2_S1x4096_d1) := by
  unfold kernelRun1_A.sl.r_31
  simp only [kernelRun1_A.sl.v3, r_26, r_27, pay87, pay88]
  exact pay98 (st 12 x)

theorem r_32 : kernelRun1_A.sl.r_32 c arg1 harg1 x = (extractStridedSlice S1x2 ![0, 4094] (st 13 x).2 slices_S1x4096_o0_4094_S1x2) := by
  unfold kernelRun1_A.sl.r_32
  simp only [kernelRun1_A.sl.v3, r_26, r_27, pay87, pay88]
  exact pay99 (st 12 x)

theorem r_33 : kernelRun1_A.sl.r_33 c arg1 harg1 x = (st 15 x).1 := by
  unfold kernelRun1_A.sl.r_33
  simp only [kernelRun1_A.sl.v3, r_28, r_29, r_30, r_31, r_32, pay95, pay96]
  exact pay108 (st 13 x)

theorem r_34 : kernelRun1_A.sl.r_34 c arg1 harg1 x = (st 15 x).2 := by
  unfold kernelRun1_A.sl.r_34
  simp only [kernelRun1_A.sl.v3, r_28, r_29, r_30, r_31, r_32, pay95, pay96]
  exact pay109 (st 13 x)

theorem r_35 : kernelRun1_A.sl.r_35 c arg1 harg1 x = (st 16 x).1 := by
  unfold kernelRun1_A.sl.r_35
  simp only [kernelRun1_A.sl.v3, r_33, r_34, pay110, pay111]
  exact pay115 (st 15 x)

theorem r_36 : kernelRun1_A.sl.r_36 c arg1 harg1 x = (st 16 x).2 := by
  unfold kernelRun1_A.sl.r_36
  simp only [kernelRun1_A.sl.v3, r_33, r_34, pay110, pay111]
  exact pay116 (st 15 x)

theorem r_37 : kernelRun1_A.sl.r_37 c arg1 harg1 x = (exch 4 (st 16 x).1) := by
  unfold kernelRun1_A.sl.r_37
  simp only [kernelRun1_A.sl.v3, r_33, r_34, pay110, pay111]
  exact pay119 (st 15 x)

theorem r_38 : kernelRun1_A.sl.r_38 c arg1 harg1 x = (exch 4 (st 16 x).2) := by
  unfold kernelRun1_A.sl.r_38
  simp only [kernelRun1_A.sl.v3, r_33, r_34, pay110, pay111]
  exact pay120 (st 15 x)

theorem r_39 : kernelRun1_A.sl.r_39 c arg1 harg1 x = (st 18 x).1 := by
  unfold kernelRun1_A.sl.r_39
  simp only [kernelRun1_A.sl.v3, r_35, r_36, r_37, r_38, pay118]
  exact pay128 (st 16 x)

theorem r_40 : kernelRun1_A.sl.r_40 c arg1 harg1 x = (st 18 x).2 := by
  unfold kernelRun1_A.sl.r_40
  simp only [kernelRun1_A.sl.v3, r_35, r_36, r_37, r_38, pay118]
  exact pay129 (st 16 x)

theorem r_41 : kernelRun1_A.sl.r_41 c arg1 harg1 x = (st 19 x).1 := by
  unfold kernelRun1_A.sl.r_41
  simp only [kernelRun1_A.sl.v3, r_39, r_40, pay130, pay131, pay132]
  exact pay136 (st 18 x)

theorem r_42 : kernelRun1_A.sl.r_42 c arg1 harg1 x = (st 19 x).2 := by
  unfold kernelRun1_A.sl.r_42
  simp only [kernelRun1_A.sl.v3, r_39, r_40, pay130, pay131, pay132]
  exact pay137 (st 18 x)

theorem r_43 : kernelRun1_A.sl.r_43 c arg1 harg1 x = (exch 1 (st 19 x).1) := by
  unfold kernelRun1_A.sl.r_43
  simp only [kernelRun1_A.sl.v3, r_39, r_40, pay130, pay131, pay132]
  exact pay140 (st 18 x)

theorem r_44 : kernelRun1_A.sl.r_44 c arg1 harg1 x = (exch 1 (st 19 x).2) := by
  unfold kernelRun1_A.sl.r_44
  simp only [kernelRun1_A.sl.v3, r_39, r_40, pay130, pay131, pay132]
  exact pay141 (st 18 x)

theorem r_45 : kernelRun1_A.sl.r_45 c arg1 harg1 x = (cmpf .ogt (exch 1 (st 19 x).1) (st 19 x).1) := by
  unfold kernelRun1_A.sl.r_45
  simp only [kernelRun1_A.sl.v3, r_39, r_40, pay130, pay131, pay132]
  exact pay142 (st 18 x)

theorem r_46 : kernelRun1_A.sl.r_46 c arg1 harg1 x = (cmpf .oeq (exch 1 (st 19 x).1) (st 19 x).1) := by
  unfold kernelRun1_A.sl.r_46
  simp only [kernelRun1_A.sl.v3, r_39, r_40, pay130, pay131, pay132]
  exact pay143 (st 18 x)

theorem r_47 : kernelRun1_A.sl.r_47 c arg1 harg1 x = (cmpi .slt (exch 1 (st 19 x).2) (st 19 x).2) := by
  unfold kernelRun1_A.sl.r_47
  simp only [kernelRun1_A.sl.v3, r_39, r_40, pay130, pay131, pay132]
  exact pay144 (st 18 x)

theorem r_48 : kernelRun1_A.sl.r_48 c arg1 harg1 x = (st 21 x).1 := by
  unfold kernelRun1_A.sl.r_48
  simp only [kernelRun1_A.sl.v3, r_41, r_42, r_43, r_44, r_45, r_46, r_47, pay139]
  exact pay152 (st 19 x)

theorem r_49 : kernelRun1_A.sl.r_49 c arg1 harg1 x = (st 21 x).2 := by
  unfold kernelRun1_A.sl.r_49
  simp only [kernelRun1_A.sl.v3, r_41, r_42, r_43, r_44, r_45, r_46, r_47, pay139]
  exact pay153 (st 19 x)

theorem r_50 : kernelRun1_A.sl.r_50 c arg1 harg1 x = (st 22 x).1 := by
  unfold kernelRun1_A.sl.r_50
  simp only [kernelRun1_A.sl.v3, r_48, r_49, pay154, pay155]
  exact pay159 (st 21 x)

theorem r_51 : kernelRun1_A.sl.r_51 c arg1 harg1 x = (st 22 x).2 := by
  unfold kernelRun1_A.sl.r_51
  simp only [kernelRun1_A.sl.v3, r_48, r_49, pay154, pay155]
  exact pay160 (st 21 x)

theorem r_52 : kernelRun1_A.sl.r_52 c arg1 harg1 x = (exch 5 (st 22 x).1) := by
  unfold kernelRun1_A.sl.r_52
  simp only [kernelRun1_A.sl.v3, r_48, r_49, pay154, pay155]
  exact pay162 (st 21 x)

theorem r_53 : kernelRun1_A.sl.r_53 c arg1 harg1 x = (exch 5 (st 22 x).2) := by
  unfold kernelRun1_A.sl.r_53
  simp only [kernelRun1_A.sl.v3, r_48, r_49, pay154, pay155]
  exact pay163 (st 21 x)

theorem r_54 : kernelRun1_A.sl.r_54 c arg1 harg1 x = (xori (upM 7 5) (ori (cmpf .ogt (exch 5 (st 22 x).1) (st 22 x).1) (andi (cmpf .oeq (exch 5 (st 22 x).1) (st 22 x).1) (cmpi .slt (exch 5 (st 22 x).2) (st 22 x).2)))) := by
  unfold kernelRun1_A.sl.r_54
  simp only [kernelRun1_A.sl.v3, r_48, r_49, pay154, pay155]
  exact pay164 (st 21 x)

theorem r_55 : kernelRun1_A.sl.r_55 c arg1 harg1 x = (st 24 x).1 := by
  unfold kernelRun1_A.sl.r_55
  simp only [kernelRun1_A.sl.v3, r_50, r_51, r_52, r_53, r_54]
  exact pay172 (st 22 x)

theorem r_56 : kernelRun1_A.sl.r_56 c arg1 harg1 x = (st 24 x).2 := by
  unfold kernelRun1_A.sl.r_56
  simp only [kernelRun1_A.sl.v3, r_50, r_51, r_52, r_53, r_54]
  exact pay173 (st 22 x)

theorem r_57 : kernelRun1_A.sl.r_57 c arg1 harg1 x = (extractStridedSlice S1x4088 ![0, 8] (st 24 x).1 slices_S1x4096_o0_8_S1x4088) := by
  unfold kernelRun1_A.sl.r_57
  simp only [kernelRun1_A.sl.v3, r_50, r_51, r_52, r_53, r_54]
  exact pay176 (st 22 x)

theorem r_58 : kernelRun1_A.sl.r_58 c arg1 harg1 x = (extractStridedSlice S1x8 ![0, 0] (st 24 x).1 slices_S1x4096_o0_0_S1x8) := by
  unfold kernelRun1_A.sl.r_58
  simp only [kernelRun1_A.sl.v3, r_50, r_51, r_52, r_53, r_54]
  exact pay177 (st 22 x)

theorem r_59 : kernelRun1_A.sl.r_59 c arg1 harg1 x = (st 25 x).2 := by
  unfold kernelRun1_A.sl.r_59
  simp only [kernelRun1_A.sl.v3, r_55, r_56, r_57, r_58, pay174, pay175]
  exact pay182 (st 24 x)

theorem r_60 : kernelRun1_A.sl.r_60 c arg1 harg1 x = (exch 2 (st 25 x).2) := by
  unfold kernelRun1_A.sl.r_60
  simp only [kernelRun1_A.sl.v3, r_55, r_56, r_57, r_58, pay174, pay175]
  exact pay185 (st 24 x)

theorem r_61 : kernelRun1_A.sl.r_61 c arg1 harg1 x = (takeM 7 2 (st 25 x)) := by
  unfold kernelRun1_A.sl.r_61
  simp only [kernelRun1_A.sl.v3, r_55, r_56, r_57, r_58, pay174, pay175]
  exact pay186 (st 24 x)

theorem r_62 : kernelRun1_A.sl.r_62 c arg1 harg1 x = (st 26 x).1 := by
  unfold kernelRun1_A.sl.r_62
  simp only [kernelRun1_A.sl.v3, r_55, r_56, r_57, r_58, pay174, pay175]
  exact pay187 (st 24 x)

theorem r_63 : kernelRun1_A.sl.r_63 c arg1 harg1 x = (st 27 x).1 := by
  unfold kernelRun1_A.sl.r_63
  simp only [kernelRun1_A.sl.v3, r_59, r_60, r_61, r_62]
  exact pay193 (st 25 x)

theorem r_64 : kernelRun1_A.sl.r_64 c arg1 harg1 x = (st 27 x).2 := by
  unfold kernelRun1_A.sl.r_64
  simp only [kernelRun1_A.sl.v3, r_59, r_60, r_61, r_62]
  exact pay194 (st 25 x)

theorem r_65 : kernelRun1_A.sl.r_65 c arg1 harg1 x = (concatenate S1x4096 1 [⟨S1x4095, (extractStridedSlice S1x4095 ![0, 1] (st 27 x).1 slices_S1x4096_o0_1_S1x4095)⟩, ⟨S1x1, (extractStridedSlice S1x1 ![0, 0] (st 27 x).1 slices_S1x4096_o0_0_S1x1)⟩] concatenates_S1x4095_S1x1_S1x4096_d1) := by
  unfold kernelRun1_A.sl.r_65
  simp only [kernelRun1_A.sl.v3, r_59, r_60, r_61, r_62]
  exact pay197 (st 25 x)

theorem r_66 : kernelRun1_A.sl.r_66 c arg1 harg1 x = (extractStridedSlice S1x1 ![0, 4095] (st 27 x).1 slices_S1x4096_o0_4095_S1x1) := by
  unfold kernelRun1_A.sl.r_66
  simp only [kernelRun1_A.sl.v3, r_59, r_60, r_61, r_62]
  exact pay198 (st 25 x)

theorem r_67 : kernelRun1_A.sl.r_67 c arg1 harg1 x = (extractStridedSlice S1x4095 ![0, 0] (st 27 x).1 slices_S1x4096_o0_0_S1x4095) := by
  unfold kernelRun1_A.sl.r_67
  simp only [kernelRun1_A.sl.v3, r_59, r_60, r_61, r_62]
  exact pay199 (st 25 x)

theorem r_68 : kernelRun1_A.sl.r_68 c arg1 harg1 x = (st 29 x).1 := by
  unfold kernelRun1_A.sl.r_68
  simp only [kernelRun1_A.sl.v3, r_63, r_64, r_65, r_66, r_67, pay195, pay196]
  exact pay209 (st 27 x)

theorem r_69 : kernelRun1_A.sl.r_69 c arg1 harg1 x = (st 29 x).2 := by
  unfold kernelRun1_A.sl.r_69
  simp only [kernelRun1_A.sl.v3, r_63, r_64, r_65, r_66, r_67, pay195, pay196]
  exact pay210 (st 27 x)

theorem r_70 : kernelRun1_A.sl.r_70 c arg1 harg1 x = (st 30 x).1 := by
  unfold kernelRun1_A.sl.r_70
  simp only [kernelRun1_A.sl.v3, r_68, r_69, pay211]
  exact pay216 (st 29 x)

theorem r_71 : kernelRun1_A.sl.r_71 c arg1 harg1 x = (st 30 x).2 := by
  unfold kernelRun1_A.sl.r_71
  simp only [kernelRun1_A.sl.v3, r_68, r_69, pay211]
  exact pay217 (st 29 x)

theorem r_72 : kernelRun1_A.sl.r_72 c arg1 harg1 x = (exch 5 (st 30 x).1) := by
  unfold kernelRun1_A.sl.r_72
  simp only [kernelRun1_A.sl.v3, r_68, r_69, pay211]
  exact pay220 (st 29 x)

theorem r_73 : kernelRun1_A.sl.r_73 c arg1 harg1 x = (extractStridedSlice S1x4064 ![0, 32] (st 30 x).2 slices_S1x4096_o0_32_S1x4064) := by
  unfold kernelRun1_A.sl.r_73
  simp only [kernelRun1_A.sl.v3, r_68, r_69, pay211]
  exact pay221 (st 29 x)

theorem r_74 : kernelRun1_A.sl.r_74 c arg1 harg1 x = (st 32 x).1 := by
  unfold kernelRun1_A.sl.r_74
  simp only [kernelRun1_A.sl.v3, r_70, r_71, r_72, r_73, pay218, pay219]
  exact pay230 (st 30 x)

theorem r_75 : kernelRun1_A.sl.r_75 c arg1 harg1 x = (st 32 x).2 := by
  unfold kernelRun1_A.sl.r_75
  simp only [kernelRun1_A.sl.v3, r_70, r_71, r_72, r_73, pay218, pay219]
  exact pay231 (st 30 x)

theorem r_76 : kernelRun1_A.sl.r_76 c arg1 harg1 x = (st 33 x).1 := by
  unfold kernelRun1_A.sl.r_76
  simp only [kernelRun1_A.sl.v3, r_74, r_75, pay232, pay233]
  exact pay238 (st 32 x)

theorem r_77 : kernelRun1_A.sl.r_77 c arg1 harg1 x = (st 33 x).2 := by
  unfold kernelRun1_A.sl.r_77
  simp only [kernelRun1_A.sl.v3, r_74, r_75, pay232, pay233]
  exact pay239 (st 32 x)

theorem r_78 : kernelRun1_A.sl.r_78 c arg1 harg1 x = (exch 2 (st 33 x).1) := by
  unfold kernelRun1_A.sl.r_78
  simp only [kernelRun1_A.sl.v3, r_74, r_75, pay232, pay233]
  exact pay242 (st 32 x)

theorem r_79 : kernelRun1_A.sl.r_79 c arg1 harg1 x = (concatenate S1x4096 1 [⟨S1x4092, (extractStridedSlice S1x4092 ![0, 4] (st 33 x).2 slices_S1x4096_o0_4_S1x4092)⟩, ⟨S1x4, (extractStridedSlice S1x4 ![0, 0] (st 33 x).2 slices_S1x4096_o0_0_S1x4)⟩] concatenates_S1x4092_S1x4_S1x4096_d1) := by
  unfold kernelRun1_A.sl.r_79
  simp only [kernelRun1_A.sl.v3, r_74, r_75, pay232, pay233]
  exact pay243 (st 32 x)

theorem r_80 : kernelRun1_A.sl.r_80 c arg1 harg1 x = (extractStridedSlice S1x4 ![0, 4092] (st 33 x).2 slices_S1x4096_o0_4092_S1x4) := by
  unfold kernelRun1_A.sl.r_80
  simp only [kernelRun1_A.sl.v3, r_74, r_75, pay232, pay233]
  exact pay244 (st 32 x)

theorem r_81 : kernelRun1_A.sl.r_81 c arg1 harg1 x = (st 35 x).1 := by
  unfold kernelRun1_A.sl.r_81
  simp only [kernelRun1_A.sl.v3, r_76, r_77, r_78, r_79, r_80, pay240, pay241]
  exact pay253 (st 33 x)

theorem r_82 : kernelRun1_A.sl.r_82 c arg1 harg1 x = (st 35 x).2 := by
  unfold kernelRun1_A.sl.r_82
  simp only [kernelRun1_A.sl.v3, r_76, r_77, r_78, r_79, r_80, pay240, pay241]
  exact pay254 (st 33 x)

theorem r_83 : kernelRun1_A.sl.r_83 c arg1 harg1 x = (st 36 x).1 := by
  unfold kernelRun1_A.sl.r_83
  simp only [kernelRun1_A.sl.v3, r_81, r_82, pay255, pay256]
  exact pay260 (st 35 x)

theorem r_84 : kernelRun1_A.sl.r_84 c arg1 harg1 x = (st 36 x).2 := by
  unfold kernelRun1_A.sl.r_84
  simp only [kernelRun1_A.sl.v3, r_81, r_82, pay255, pay256]
  exact pay261 (st 35 x)

theorem r_85 : kernelRun1_A.sl.r_85 c arg1 harg1 x = (exch 8 (st 36 x).1) := by
  unfold kernelRun1_A.sl.r_85
  simp only [kernelRun1_A.sl.v3, r_81, r_82, pay255, pay256]
  exact pay264 (st 35 x)

theorem r_86 : kernelRun1_A.sl.r_86 c arg1 harg1 x = (exch 8 (st 36 x).2) := by
  unfold kernelRun1_A.sl.r_86
  simp only [kernelRun1_A.sl.v3, r_81, r_82, pay255, pay256]
  exact pay265 (st 35 x)

theorem r_87 : kernelRun1_A.sl.r_87 c arg1 harg1 x = (st 38 x).1 := by
  unfold kernelRun1_A.sl.r_87
  simp only [kernelRun1_A.sl.v3, r_83, r_84, r_85, r_86, pay263]
  exact pay273 (st 36 x)

theorem r_88 : kernelRun1_A.sl.r_88 c arg1 harg1 x = (st 38 x).2 := by
  unfold kernelRun1_A.sl.r_88
  simp only [kernelRun1_A.sl.v3, r_83, r_84, r_85, r_86, pay263]
  exact pay274 (st 36 x)

theorem r_89 : kernelRun1_A.sl.r_89 c arg1 harg1 x = (st 39 x).1 := by
  unfold kernelRun1_A.sl.r_89
  simp only [kernelRun1_A.sl.v3, r_87, r_88, pay275, pay276, pay277]
  exact pay281 (st 38 x)

theorem r_90 : kernelRun1_A.sl.r_90 c arg1 harg1 x = (st 39 x).2 := by
  unfold kernelRun1_A.sl.r_90
  simp only [kernelRun1_A.sl.v3, r_87, r_88, pay275, pay276, pay277]
  exact pay282 (st 38 x)

theorem r_91 : kernelRun1_A.sl.r_91 c arg1 harg1 x = (exch 5 (st 39 x).1) := by
  unfold kernelRun1_A.sl.r_91
  simp only [kernelRun1_A.sl.v3, r_87, r_88, pay275, pay276, pay277]
  exact pay285 (st 38 x)

theorem r_92 : kernelRun1_A.sl.r_92 c arg1 harg1 x = (exch 5 (st 39 x).2) := by
  unfold kernelRun1_A.sl.r_92
  simp only [kernelRun1_A.sl.v3, r_87, r_88, pay275, pay276, pay277]
  exact pay286 (st 38 x)

theorem r_93 : kernelRun1_A.sl.r_93 c arg1 harg1 x = (cmpf .ogt (exch 5 (st 39 x).1) (st 39 x).1) := by
  unfold kernelRun1_A.sl.r_93
  simp only [kernelRun1_A.sl.v3, r_87, r_88, pay275, pay276, pay277]
  exact pay287 (st 38 x)

theorem r_94 : kernelRun1_A.sl.r_94 c arg1 harg1 x = (cmpf .oeq (exch 5 (st 39 x).1) (st 39 x).1) := by
  unfold kernelRun1_A.sl.r_94
  simp only [kernelRun1_A.sl.v3, r_87, r_88, pay275, pay276, pay277]
  exact pay288 (st 38 x)

theorem r_95 : kernelRun1_A.sl.r_95 c arg1 harg1 x = (cmpi .slt (exch 5 (st 39 x).2) (st 39 x).2) := by
  unfold kernelRun1_A.sl.r_95
  simp only [kernelRun1_A.sl.v3, r_87, r_88, pay275, pay276, pay277]
  exact pay289 (st 38 x)

theorem r_96 : kernelRun1_A.sl.r_96 c arg1 harg1 x = (st 41 x).1 := by
  unfold kernelRun1_A.sl.r_96
  simp only [kernelRun1_A.sl.v3, r_89, r_90, r_91, r_92, r_93, r_94, r_95, pay284]
  exact pay297 (st 39 x)

theorem r_97 : kernelRun1_A.sl.r_97 c arg1 harg1 x = (st 41 x).2 := by
  unfold kernelRun1_A.sl.r_97
  simp only [kernelRun1_A.sl.v3, r_89, r_90, r_91, r_92, r_93, r_94, r_95, pay284]
  exact pay298 (st 39 x)

theorem r_98 : kernelRun1_A.sl.r_98 c arg1 harg1 x = (st 42 x).1 := by
  unfold kernelRun1_A.sl.r_98
  simp only [kernelRun1_A.sl.v3, r_96, r_97, pay299, pay300]
  exact pay304 (st 41 x)

theorem r_99 : kernelRun1_A.sl.r_99 c arg1 harg1 x = (st 42 x).2 := by
  unfold kernelRun1_A.sl.r_99
  simp only [kernelRun1_A.sl.v3, r_96, r_97, pay299, pay300]
  exact pay305 (st 41 x)

theorem r_100 : kernelRun1_A.sl.r_100 c arg1 harg1 x = (exch 2 (st 42 x).1) := by
  unfold kernelRun1_A.sl.r_100
  simp only [kernelRun1_A.sl.v3, r_96, r_97, pay299, pay300]
  exact pay307 (st 41 x)

theorem r_101 : kernelRun1_A.sl.r_101 c arg1 harg1 x = (exch 2 (st 42 x).2) := by
  unfold kernelRun1_A.sl.r_101
  simp only [kernelRun1_A.sl.v3, r_96, r_97, pay299, pay300]
  exact pay308 (st 41 x)

theorem r_102 : kernelRun1_A.sl.r_102 c arg1 harg1 x = (xori (upM 9 2) (ori (cmpf .ogt (exch 2 (st 42 x).1) (st 42 x).1) (andi (cmpf .oeq (exch 2 (st 42 x).1) (st 42 x).1) (cmpi .slt (exch 2 (st 42 x).2) (st 42 x).2)))) := by
  unfold kernelRun1_A.sl.r_102
  simp only [kernelRun1_A.sl.v3, r_96, r_97, pay299, pay300]
  exact pay309 (st 41 x)

theorem r_103 : kernelRun1_A.sl.r_103 c arg1 harg1 x = (st 44 x).1 := by
  unfold kernelRun1_A.sl.r_103
  simp only [kernelRun1_A.sl.v3, r_98, r_99, r_100, r_101, r_102]
  exact pay317 (st 42 x)

theorem r_104 : kernelRun1_A.sl.r_104 c arg1 harg1 x = (st 44 x).2 := by
  unfold kernelRun1_A.sl.r_104
  simp only [kernelRun1_A.sl.v3, r_98, r_99, r_100, r_101, r_102]
  exact pay318 (st 42 x)

theorem r_105 : kernelRun1_A.sl.r_105 c arg1 harg1 x = (extractStridedSlice S1x4095 ![0, 1] (st 44 x).1 slices_S1x4096_o0_1_S1x4095) := by
  unfold kernelRun1_A.sl.r_105
  simp only [kernelRun1_A.sl.v3, r_98, r_99, r_100, r_101, r_102]
  exact pay321 (st 42 x)

theorem r_106 : kernelRun1_A.sl.r_106 c arg1 harg1 x = (extractStridedSlice S1x1 ![0, 0] (st 44 x).1 slices_S1x4096_o0_0_S1x1) := by
  unfold kernelRun1_A.sl.r_106
  simp only [kernelRun1_A.sl.v3, r_98, r_99, r_100, r_101, r_102]
  exact pay322 (st 42 x)

theorem r_107 : kernelRun1_A.sl.r_107 c arg1 harg1 x = (st 45 x).2 := by
  unfold kernelRun1_A.sl.r_107
  simp only [kernelRun1_A.sl.v3, r_103, r_104, r_105, r_106, pay319, pay320]
  exact pay327 (st 44 x)

theorem r_108 : kernelRun1_A.sl.r_108 c arg1 harg1 x = (exch 9 (st 45 x).2) := by
  unfold kernelRun1_A.sl.r_108
  simp only [kernelRun1_A.sl.v3, r_103, r_104, r_105, r_106, pay319, pay320]
  exact pay330 (st 44 x)

theorem r_109 : kernelRun1_A.sl.r_109 c arg1 harg1 x = (takeM 10 9 (st 45 x)) := by
  unfold kernelRun1_A.sl.r_109
  simp only [kernelRun1_A.sl.v3, r_103, r_104, r_105, r_106, pay319, pay320]
  exact pay331 (st 44 x)

theorem r_110 : kernelRun1_A.sl.r_110 c arg1 harg1 x = (st 46 x).1 := by
  unfold kernelRun1_A.sl.r_110
  simp only [kernelRun1_A.sl.v3, r_103, r_104, r_105, r_106, pay319, pay320]
  exact pay332 (st 44 x)

theorem r_111 : kernelRun1_A.sl.r_111 c arg1 harg1 x = (st 47 x).1 := by
  unfold kernelRun1_A.sl.r_111
  simp only [kernelRun1_A.sl.v3, r_107, r_108, r_109, r_110]
  exact pay338 (st 45 x)

theorem r_112 : kernelRun1_A.sl.r_112 c arg1 harg1 x = (st 47 x).2 := by
  unfold kernelRun1_A.sl.r_112
  simp only [kernelRun1_A.sl.v3, r_107, r_108, r_109, r_110]
  exact pay339 (st 45 x)

theorem r_113 : kernelRun1_A.sl.r_113 c arg1 harg1 x = (concatenate S1x4096 1 [⟨S1x3968, (extractStridedSlice S1x3968 ![0, 128] (st 47 x).1 slices_S1x4096_o0_128_S1x3968)⟩, ⟨S1x128, (extractStridedSlice S1x128 ![0, 0] (st 47 x).1 slices_S1x4096_o0_0_S1x128)⟩] concatenates_S1x3968_S1x128_S1x4096_d1) := by
  unfold kernelRun1_A.sl.r_113
  simp only [kernelRun1_A.sl.v3, r_107, r_108, r_109, r_110]
  exact pay342 (st 45 x)

theorem r_114 : kernelRun1_A.sl.r_114 c arg1 harg1 x = (extractStridedSlice S1x128 ![0, 3968] (st 47 x).1 slices_S1x4096_o0_3968_S1x128) := by
  unfold kernelRun1_A.sl.r_114
  simp only [kernelRun1_A.sl.v3, r_107, r_108, r_109, r_110]
  exact pay343 (st 45 x)

theorem r_115 : kernelRun1_A.sl.r_115 c arg1 harg1 x = (extractStridedSlice S1x3968 ![0, 0] (st 47 x).1 slices_S1x4096_o0_0_S1x3968) := by
  unfold kernelRun1_A.sl.r_115
  simp only [kernelRun1_A.sl.v3, r_107, r_108, r_109, r_110]
  exact pay344 (st 45 x)

theorem r_116 : kernelRun1_A.sl.r_116 c arg1 harg1 x = (st 49 x).1 := by
  unfold kernelRun1_A.sl.r_116
  simp only [kernelRun1_A.sl.v3, r_111, r_112, r_113, r_114, r_115, pay340, pay341]
  exact pay354 (st 47 x)

theorem r_117 : kernelRun1_A.sl.r_117 c arg1 harg1 x = (st 49 x).2 := by
  unfold kernelRun1_A.sl.r_117
  simp only [kernelRun1_A.sl.v3, r_111, r_112, r_113, r_114, r_115, pay340, pay341]
  exact pay355 (st 47 x)

theorem r_118 : kernelRun1_A.sl.r_118 c arg1 harg1 x = (st 50 x).1 := by
  unfold kernelRun1_A.sl.r_118
  simp only [kernelRun1_A.sl.v3, r_116, r_117, pay356]
  exact pay361 (st 49 x)

theorem r_119 : kernelRun1_A.sl.r_119 c arg1 harg1 x = (st 50 x).2 := by
  unfold kernelRun1_A.sl.r_119
  simp only [kernelRun1_A.sl.v3, r_116, r_117, pay356]
  exact pay362 (st 49 x)

theorem r_120 : kernelRun1_A.sl.r_120 c arg1 harg1 x = (exch 4 (st 50 x).1) := by
  unfold kernelRun1_A.sl.r_120
  simp only [kernelRun1_A.sl.v3, r_116, r_117, pay356]
  exact pay365 (st 49 x)

theorem r_121 : kernelRun1_A.sl.r_121 c arg1 harg1 x = (extractStridedSlice S1x4080 ![0, 16] (st 50 x).2 slices_S1x4096_o0_16_S1x4080) := by
  unfold kernelRun1_A.sl.r_121
  simp only [kernelRun1_A.sl.v3, r_116, r_117, pay356]
  exact pay366 (st 49 x)

theorem r_122 : kernelRun1_A.sl.r_122 c arg1 harg1 x = (st 52 x).1 := by
  unfold kernelRun1_A.sl.r_122
  simp only [kernelRun1_A.sl.v3, r_118, r_119, r_120, r_121, pay363, pay364]
  exact pay375 (st 50 x)

theorem r_123 : kernelRun1_A.sl.r_123 c arg1 harg1 x = (st 52 x).2 := by
  unfold kernelRun1_A.sl.r_123
  simp only [kernelRun1_A.sl.v3, r_118, r_119, r_120, r_121, pay363, pay364]
  exact pay376 (st 50 x)

theorem r_124 : kernelRun1_A.sl.r_124 c arg1 harg1 x = (st 53 x).1 := by
  unfold kernelRun1_A.sl.r_124
  simp only [kernelRun1_A.sl.v3, r_122, r_123, pay377, pay378]
  exact pay383 (st 52 x)

theorem r_125 : kernelRun1_A.sl.r_125 c arg1 harg1 x = (st 53 x).2 := by
  unfold kernelRun1_A.sl.r_125
  simp only [kernelRun1_A.sl.v3, r_122, r_123, pay377, pay378]
  exact pay384 (st 52 x)

theorem r_126 : kernelRun1_A.sl.r_126 c arg1 harg1 x = (exch 1 (st 53 x).1) := by
  unfold kernelRun1_A.sl.r_126
  simp only [kernelRun1_A.sl.v3, r_122, r_123, pay377, pay378]
  exact pay387 (st 52 x)

theorem r_127 : kernelRun1_A.sl.r_127 c arg1 harg1 x = (concatenate S1x4096 1 [⟨S1x4094, (extractStridedSlice S1x4094 ![0, 2] (st 53 x).2 slices_S1x4096_o0_2_S1x4094)⟩, ⟨S1x2, (extractStridedSlice S1x2 ![0, 0] (st 53 x).2 slices_S1x4096_o0_0_S1x2)⟩] concatenates_S1x4094_S1x2_S1x4096_d1) := by
  unfold kernelRun1_A.sl.r_127
  simp only [kernelRun1_A.sl.v3, r_122, r_123, pay377, pay378]
  exact pay388 (st 52 x)

theorem r_128 : kernelRun1_A.sl.r_128 c arg1 harg1 x = (extractStridedSlice S1x2 ![0, 4094] (st 53 x).2 slices_S1x4096_o0_4094_S1x2) := by
  unfold kernelRun1_A.sl.r_128
  simp only [kernelRun1_A.sl.v3, r_122, r_123, pay377, pay378]
  exact pay389 (st 52 x)

theorem r_129 : kernelRun1_A.sl.r_129 c arg1 harg1 x = (st 55 x).1 := by
  unfold kernelRun1_A.sl.r_129
  simp only [kernelRun1_A.sl.v3, r_124, r_125, r_126, r_127, r_128, pay385, pay386]
  exact pay398 (st 53 x)

theorem r_130 : kernelRun1_A.sl.r_130 c arg1 harg1 x = (st 55 x).2 := by
  unfold kernelRun1_A.sl.r_130
  simp only [kernelRun1_A.sl.v3, r_124, r_125, r_126, r_127, r_128, pay385, pay386]
  exact pay399 (st 53 x)

theorem r_131 : kernelRun1_A.sl.r_131 c arg1 harg1 x = (st 56 x).1 := by
  unfold kernelRun1_A.sl.r_131
  simp only [kernelRun1_A.sl.v3, r_129, r_130, pay400, pay401]
  exact pay405 (st 55 x)

theorem r_132 : kernelRun1_A.sl.r_132 c arg1 harg1 x = (st 56 x).2 := by
  unfold kernelRun1_A.sl.r_132
  simp only [kernelRun1_A.sl.v3, r_129, r_130, pay400, pay401]
  exact pay406 (st 55 x)

theorem r_133 : kernelRun1_A.sl.r_133 c arg1 harg1 x = (exch 9 (st 56 x).1) := by
  unfold kernelRun1_A.sl.r_133
  simp only [kernelRun1_A.sl.v3, r_129, r_130, pay400, pay401]
  exact pay409 (st 55 x)

theorem r_134 : kernelRun1_A.sl.r_134 c arg1 harg1 x = (exch 9 (st 56 x).2) := by
  unfold kernelRun1_A.sl.r_134
  simp only [kernelRun1_A.sl.v3, r_129, r_130, pay400, pay401]
  exact pay410 (st 55 x)

theorem r_135 : kernelRun1_A.sl.r_135 c arg1 harg1 x = (st 58 x).1 := by
  unfold kernelRun1_A.sl.r_135
  simp only [kernelRun1_A.sl.v3, r_131, r_132, r_133, r_134, pay408]
  exact pay418 (st 56 x)

theorem r_136 : kernelRun1_A.sl.r_136 c arg1 harg1 x = (st 58 x).2 := by
  unfold kernelRun1_A.sl.r_136
  simp only [kernelRun1_A.sl.v3, r_131, r_132, r_133, r_134, pay408]
  exact pay419 (st 56 x)

theorem r_137 : kernelRun1_A.sl.r_137 c arg1 harg1 x = (st 59 x).1 := by
  unfold kernelRun1_A.sl.r_137
  simp only [kernelRun1_A.sl.v3, r_135, r_136, pay420, pay421, pay422]
  exact pay426 (st 58 x)

theorem r_138 : kernelRun1_A.sl.r_138 c arg1 harg1 x = (st 59 x).2 := by
  unfold kernelRun1_A.sl.r_138
  simp only [kernelRun1_A.sl.v3, r_135, r_136, pay420, pay421, pay422]
  exact pay427 (st 58 x)

theorem r_139 : kernelRun1_A.sl.r_139 c arg1 harg1 x = (exch 6 (st 59 x).1) := by
  unfold kernelRun1_A.sl.r_139
  simp only [kernelRun1_A.sl.v3, r_135, r_136, pay420, pay421, pay422]
  exact pay430 (st 58 x)

theorem r_140 : kernelRun1_A.sl.r_140 c arg1 harg1 x = (exch 6 (st 59 x).2) := by
  unfold kernelRun1_A.sl.r_140
  simp only [kernelRun1_A.sl.v3, r_135, r_136, pay420, pay421, pay422]
  exact pay431 (st 58 x)

theorem r_141 : kernelRun1_A.sl.r_141 c arg1 harg1 x = (cmpf .ogt (exch 6 (st 59 x).1) (st 59 x).1) := by
  unfold kernelRun1_A.sl.r_141
  simp only [kernelRun1_A.sl.v3, r_135, r_136, pay420, pay421, pay422]
  exact pay432 (st 58 x)

theorem r_142 : kernelRun1_A.sl.r_142 c arg1 harg1 x = (cmpf .oeq (exch 6 (st 59 x).1) (st 59 x).1) := by
  unfold kernelRun1_A.sl.r_142
  simp only [kernelRun1_A.sl.v3, r_135, r_136, pay420, pay421, pay422]
  exact pay433 (st 58 x)

theorem r_143 : kernelRun1_A.sl.r_143 c arg1 harg1 x = (cmpi .slt (exch 6 (st 59 x).2) (st 59 x).2) := by
  unfold kernelRun1_A.sl.r_143
  simp only [kernelRun1_A.sl.v3, r_135, r_136, pay420, pay421, pay422]
  exact pay434 (st 58 x)

theorem r_144 : kernelRun1_A.sl.r_144 c arg1 harg1 x = (st 61 x).1 := by
  unfold kernelRun1_A.sl.r_144
  simp only [kernelRun1_A.sl.v3, r_137, r_138, r_139, r_140, r_141, r_142, r_143, pay429]
  exact pay442 (st 59 x)

theorem r_145 : kernelRun1_A.sl.r_145 c arg1 harg1 x = (st 61 x).2 := by
  unfold kernelRun1_A.sl.r_145
  simp only [kernelRun1_A.sl.v3, r_137, r_138, r_139, r_140, r_141, r_142, r_143, pay429]
  exact pay443 (st 59 x)

theorem r_146 : kernelRun1_A.sl.r_146 c arg1 harg1 x = (st 62 x).1 := by
  unfold kernelRun1_A.sl.r_146
  simp only [kernelRun1_A.sl.v3, r_144, r_145, pay444, pay445]
  exact pay449 (st 61 x)

theorem r_147 : kernelRun1_A.sl.r_147 c arg1 harg1 x = (st 62 x).2 := by
  unfold kernelRun1_A.sl.r_147
  simp only [kernelRun1_A.sl.v3, r_144, r_145, pay444, pay445]
  exact pay450 (st 61 x)

theorem r_148 : kernelRun1_A.sl.r_148 c arg1 harg1 x = (exch 3 (st 62 x).1) := by
  unfold kernelRun1_A.sl.r_148
  simp only [kernelRun1_A.sl.v3, r_144, r_145, pay444, pay445]
  exact pay452 (st 61 x)

theorem r_149 : kernelRun1_A.sl.r_149 c arg1 harg1 x = (exch 3 (st 62 x).2) := by
  unfold kernelRun1_A.sl.r_149
  simp only [kernelRun1_A.sl.v3, r_144, r_145, pay444, pay445]
  exact pay453 (st 61 x)

theorem r_150 : kernelRun1_A.sl.r_150 c arg1 harg1 x = (xori (upM 11 3) (ori (cmpf .ogt (exch 3 (st 62 x).1) (st 62 x).1) (andi (cmpf .oeq (exch 3 (st 62 x).1) (st 62 x).1) (cmpi .slt (exch 3 (st 62 x).2) (st 62 x).2)))) := by
  unfold kernelRun1_A.sl.r_150
  simp only [kernelRun1_A.sl.v3, r_144, r_145, pay444, pay445]
  exact pay454 (st 61 x)

theorem r_151 : kernelRun1_A.sl.r_151 c arg1 harg1 x = (st 64 x).1 := by
  unfold kernelRun1_A.sl.r_151
  simp only [kernelRun1_A.sl.v3, r_146, r_147, r_148, r_149, r_150]
  exact pay462 (st 62 x)

theorem r_152 : kernelRun1_A.sl.r_152 c arg1 harg1 x = (st 64 x).2 := by
  unfold kernelRun1_A.sl.r_152
  simp only [kernelRun1_A.sl.v3, r_146, r_147, r_148, r_149, r_150]
  exact pay463 (st 62 x)

theorem r_153 : kernelRun1_A.sl.r_153 c arg1 harg1 x = (extractStridedSlice S1x4094 ![0, 2] (st 64 x).1 slices_S1x4096_o0_2_S1x4094) := by
  unfold kernelRun1_A.sl.r_153
  simp only [kernelRun1_A.sl.v3, r_146, r_147, r_148, r_149, r_150]
  exact pay466 (st 62 x)

theorem r_154 : kernelRun1_A.sl.r_154 c arg1 harg1 x = (extractStridedSlice S1x2 ![0, 0] (st 64 x).1 slices_S1x4096_o0_0_S1x2) := by
  unfold kernelRun1_A.sl.r_154
  simp only [kernelRun1_A.sl.v3, r_146, r_147, r_148, r_149, r_150]
  exact pay467 (st 62 x)

theorem r_155 : kernelRun1_A.sl.r_155 c arg1 harg1 x = (st 65 x).2 := by
  unfold kernelRun1_A.sl.r_155
  simp only [kernelRun1_A.sl.v3, r_151, r_152, r_153, r_154, pay464, pay465]
  exact pay472 (st 64 x)

theorem r_156 : kernelRun1_A.sl.r_156 c arg1 harg1 x = (exch 0 (st 65 x).2) := by
  unfold kernelRun1_A.sl.r_156
  simp only [kernelRun1_A.sl.v3, r_151, r_152, r_153, r_154, pay464, pay465]
  exact pay475 (st 64 x)

theorem r_157 : kernelRun1_A.sl.r_157 c arg1 harg1 x = (takeM 11 0 (st 65 x)) := by
  unfold kernelRun1_A.sl.r_157
  simp only [kernelRun1_A.sl.v3, r_151, r_152, r_153, r_154, pay464, pay465]
  exact pay476 (st 64 x)

theorem r_158 : kernelRun1_A.sl.r_158 c arg1 harg1 x = (st 66 x).1 := by
  unfold kernelRun1_A.sl.r_158
  simp only [kernelRun1_A.sl.v3, r_151, r_152, r_153, r_154, pay464, pay465]
  exact pay477 (st 64 x)

theorem r_159 : kernelRun1_A.sl.r_159 c arg1 harg1 x = (st 67 x).1 := by
  unfold kernelRun1_A.sl.r_159
  simp only [kernelRun1_A.sl.v3, r_155, r_156, r_157, r_158]
  exact pay483 (st 65 x)

theorem r_160 : kernelRun1_A.sl.r_160 c arg1 harg1 x = (st 67 x).2 := by
  unfold kernelRun1_A.sl.r_160
  simp only [kernelRun1_A.sl.v3, r_155, r_156, r_157, r_158]
  exact pay484 (st 65 x)

theorem r_161 : kernelRun1_A.sl.r_161 c arg1 harg1 x = (concatenate S1x4096 1 [⟨S1x3072, (extractStridedSlice S1x3072 ![0, 1024] (st 67 x).1 slices_S1x4096_o0_1024_S1x3072)⟩, ⟨S1x1024, (extractStridedSlice S1x1024 ![0, 0] (st 67 x).1 slices_S1x4096_o0_0_S1x1024)⟩] concatenates_S1x3072_S1x1024_S1x4096_d1) := by
  unfold kernelRun1_A.sl.r_161
  simp only [kernelRun1_A.sl.v3, r_155, r_156, r_157, r_158]
  exact pay487 (st 65 x)

theorem r_162 : kernelRun1_A.sl.r_162 c arg1 harg1 x = (extractStridedSlice S1x1024 ![0, 3072] (st 67 x).1 slices_S1x4096_o0_3072_S1x1024) := by
  unfold kernelRun1_A.sl.r_162
  simp only [kernelRun1_A.sl.v3, r_155, r_156, r_157, r_158]
  exact pay488 (st 65 x)

theorem r_163 : kernelRun1_A.sl.r_163 c arg1 harg1 x = (extractStridedSlice S1x3072 ![0, 0] (st 67 x).1 slices_S1x4096_o0_0_S1x3072) := by
  unfold kernelRun1_A.sl.r_163
  simp only [kernelRun1_A.sl.v3, r_155, r_156, r_157, r_158]
  exact pay489 (st 65 x)

theorem r_164 : kernelRun1_A.sl.r_164 c arg1 harg1 x = (st 69 x).1 := by
  unfold kernelRun1_A.sl.r_164
  simp only [kernelRun1_A.sl.v3, r_159, r_160, r_161, r_162, r_163, pay485, pay486]
  exact pay499 (st 67 x)

theorem r_165 : kernelRun1_A.sl.r_165 c arg1 harg1 x = (st 69 x).2 := by
  unfold kernelRun1_A.sl.r_165
  simp only [kernelRun1_A.sl.v3, r_159, r_160, r_161, r_162, r_163, pay485, pay486]
  exact pay500 (st 67 x)

theorem r_166 : kernelRun1_A.sl.r_166 c arg1 harg1 x = (st 70 x).1 := by
  unfold kernelRun1_A.sl.r_166
  simp only [kernelRun1_A.sl.v3, r_164, r_165, pay501]
  exact pay506 (st 69 x)

theorem r_167 : kernelRun1_A.sl.r_167 c arg1 harg1 x = (st 70 x).2 := by
  unfold kernelRun1_A.sl.r_167
  simp only [kernelRun1_A.sl.v3, r_164, r_165, pay501]
  exact pay507 (st 69 x)

theorem r_168 : kernelRun1_A.sl.r_168 c arg1 harg1 x = (exch 7 (st 70 x).1) := by
  unfold kernelRun1_A.sl.r_168
  simp only [kernelRun1_A.sl.v3, r_164, r_165, pay501]
  exact pay510 (st 69 x)

theorem r_169 : kernelRun1_A.sl.r_169 c arg1 harg1 x = (extractStridedSlice S1x3968 ![0, 128] (st 70 x).2 slices_S1x4096_o0_128_S1x3968) := by
  unfold kernelRun1_A.sl.r_169
  simp only [kernelRun1_A.sl.v3, r_164, r_165, pay501]
  exact pay511 (st 69 x)

theorem r_170 : kernelRun1_A.sl.r_170 c arg1 harg1 x = (st 72 x).1 := by
  unfold kernelRun1_A.sl.r_170
  simp only [kernelRun1_A.sl.v3, r_166, r_167, r_168, r_169, pay508, pay509]
  exact pay520 (st 70 x)

theorem r_171 : kernelRun1_A.sl.r_171 c arg1 harg1 x = (st 72 x).2 := by
  unfold kernelRun1_A.sl.r_171
  simp only [kernelRun1_A.sl.v3, r_166, r_167, r_168, r_169, pay508, pay509]
  exact pay521 (st 70 x)

theorem r_172 : kernelRun1_A.sl.r_172 c arg1 harg1 x = (st 73 x).1 := by
  unfold kernelRun1_A.sl.r_172
  simp only [kernelRun1_A.sl.v3, r_170, r_171, pay522, pay523]
  exact pay528 (st 72 x)

theorem r_173 : kernelRun1_A.sl.r_173 c arg1 harg1 x = (st 73 x).2 := by
  unfold kernelRun1_A.sl.r_173
  simp only [kernelRun1_A.sl.v3, r_170, r_171, pay522, pay523]
  exact pay529 (st 72 x)

theorem r_174 : kernelRun1_A.sl.r_174 c arg1 harg1 x = (exch 4 (st 73 x).1) := by
  unfold kernelRun1_A.sl.r_174
  simp only [kernelRun1_A.sl.v3, r_170, r_171, pay522, pay523]
  exact pay532 (st 72 x)

theorem r_175 : kernelRun1_A.sl.r_175 c arg1 harg1 x = (concatenate S1x4096 1 [⟨S1x4080, (extractStridedSlice S1x4080 ![0, 16] (st 73 x).2 slices_S1x4096_o0_16_S1x4080)⟩, ⟨S1x16, (extractStridedSlice S1x16 ![0, 0] (st 73 x).2 slices_S1x4096_o0_0_S1x16)⟩] concatenates_S1x4080_S1x16_S1x4096_d1) := by
  unfold kernelRun1_A.sl.r_175
  simp only [kernelRun1_A.sl.v3, r_170, r_171, pay522, pay523]
  exact pay533 (st 72 x)

theorem r_176 : kernelRun1_A.sl.r_176 c arg1 harg1 x = (extractStridedSlice S1x16 ![0, 4080] (st 73 x).2 slices_S1x4096_o0_4080_S1x16) := by
  unfold kernelRun1_A.sl.r_176
  simp only [kernelRun1_A.sl.v3, r_170, r_171, pay522, pay523]
  exact pay534 (st 72 x)

theorem r_177 : kernelRun1_A.sl.r_177 c arg1 harg1 x = (st 75 x).1 := by
  unfold kernelRun1_A.sl.r_177
  simp only [kernelRun1_A.sl.v3, r_172, r_173, r_174, r_175, r_176, pay530, pay531]
  exact pay543 (st 73 x)

theorem r_178 : kernelRun1_A.sl.r_178 c arg1 harg1 x = (st 75 x).2 := by
  unfold kernelRun1_A.sl.r_178
  simp only [kernelRun1_A.sl.v3, r_172, r_173, r_174, r_175, r_176, pay530, pay531]
  exact pay544 (st 73 x)

theorem r_179 : kernelRun1_A.sl.r_179 c arg1 harg1 x = (st 76 x).1 := by
  unfold kernelRun1_A.sl.r_179
  simp only [kernelRun1_A.sl.v3, r_177, r_178, pay545, pay546]
  exact pay550 (st 75 x)

theorem r_180 : kernelRun1_A.sl.r_180 c arg1 harg1 x = (st 76 x).2 := by
  unfold kernelRun1_A.sl.r_180
  simp only [kernelRun1_A.sl.v3, r_177, r_178, pay545, pay546]
  exact pay551 (st 75 x)

theorem r_181 : kernelRun1_A.sl.r_181 c arg1 harg1 x = (exch 1 (st 76 x).1) := by
  unfold kernelRun1_A.sl.r_181
  simp only [kernelRun1_A.sl.v3, r_177, r_178, pay545, pay546]
  exact pay554 (st 75 x)

theorem r_182 : kernelRun1_A.sl.r_182 c arg1 harg1 x = (exch 1 (st 76 x).2) := by
  unfold kernelRun1_A.sl.r_182
  simp only [kernelRun1_A.sl.v3, r_177, r_178, pay545, pay546]
  exact pay555 (st 75 x)

/-- The positions the run leaves: the first 1024 after the last stage. -/
theorem out_idx (c : Dev nD) (i : grid1.Coords) (arg1 : Memref sig .tc .vmem S1x1x4096 .f32) (harg1 : arg1.IsWhole) (arg2 : Memref sig .tc .vmem S1x3x4096 .f32) (harg2 : arg2.IsWhole) (arg3 : Memref sig .tc .vmem S1x1x1024 .i32) (harg3 : arg3.IsWhole) (arg4 : Memref sig .tc .vmem S1x3x1024 .f32) (harg4 : arg4.IsWhole)
    (x0 : Vec F S1x1x4096 .f32) (x1 : Vec F S1x3x4096 .f32) :
    out1_A_2 c i arg1 harg1 arg2 harg2 arg3 harg3 arg4 harg4 x0 x1 =
      shapeCast S1x1x1024 (extractStridedSlice S1x1024 ![0, 0] (st 78 x0).2 slices_S1x4096_o0_0_S1x1024) shapeCasts_S1x1024_S1x1x1024 := by
  unfold out1_A_2
  rw [View.read_writes_eq_canon _ _ _ (cover1_A_2 c i arg1 harg1 arg2 harg2 arg3 harg3 arg4 harg4 x0 x1)]
  unfold kernelRun1_A
  dsimp only
  rw [View.canon_unit_zero hz3]
  simp only [kernelRun1_A.sl.v3, r_179, r_180, r_181, r_182, pay553, k1_pay557]
  rw [show (st 78 x0).2 = (stage 12 0 (stage 12 1 (st 76 x0))).2 from rfl, ← pay556]
  rfl

/-- The points the run leaves: the dot with the one-hot matrix of those positions. -/
theorem out_pts (c : Dev nD) (i : grid1.Coords) (arg1 : Memref sig .tc .vmem S1x1x4096 .f32) (harg1 : arg1.IsWhole) (arg2 : Memref sig .tc .vmem S1x3x4096 .f32) (harg2 : arg2.IsWhole) (arg3 : Memref sig .tc .vmem S1x1x1024 .i32) (harg3 : arg3.IsWhole) (arg4 : Memref sig .tc .vmem S1x3x1024 .f32) (harg4 : arg4.IsWhole)
    (x0 : Vec F S1x1x4096 .f32) (x1 : Vec F S1x3x4096 .f32) :
    out1_A_3 c i arg1 harg1 arg2 harg2 arg3 harg3 arg4 harg4 x0 x1 =
      k1_pay1 (k1_pay559 (extui 32 (cmpi .eq (iota .tc S4096x1024 32 [0] iota_S4096x1024_d0_w32) (broadcastTo S4096x1024
        (extractStridedSlice S1x1024 ![0, 0] (st 78 x0).2 slices_S1x4096_o0_0_S1x1024) broadcasts_S1x1024_S4096x1024)) natLt_1_32) x1) := by
  unfold out1_A_3
  rw [View.read_writes_eq_canon _ _ _ (cover1_A_3 c i arg1 harg1 arg2 harg2 arg3 harg3 arg4 harg4 x0 x1)]
  unfold kernelRun1_A
  dsimp only
  rw [View.canon_unit_zero hz3]
  simp only [kernelRun1_A.sl.r_184, kernelRun1_A.sl.r_183, View.readAt_eq_ld, harg2.read_unread, View.ld_unit_zero (S := S1x3x4096) hz3,
    kernelRun1_A.sl.v3, r_179, r_180, r_181, r_182, pay553, k1_pay558]
  rw [show (st 78 x0).2 = (stage 12 0 (stage 12 1 (st 76 x0))).2 from rfl, ← pay556]
  rfl

end Cert.KernelIdeal.Sort

end
-- ==== Proof.SortNetwork.lean ====
/-
  Each of the sampling kernel's compare-exchange stages on keys and positions is a stage of the library's bitonic network on
  the entries (key, position), a greater key before a lesser and a lower position before a higher; so the last stage leaves
  the positions in that order.
-/
module

public import proofs.«01_k».proof.Proof.SortRun
public import proofs.«01_k».proof.Proof.Orders
public import Idealize.ShloMosaic.Lib.SortNet.Sorts
public import Idealize.ShloMosaic.Lib.ValueIdx
public import Idealize.ShloMosaic.Lib.Pipeline.Value

@[expose] public section

noncomputable section

namespace Cert.KernelIdeal.Sort

open Idealize.ShloMosaic Idealize.ShloMosaic.TcCoe Idealize.ShloMosaic.ValueIdx Cert.KernelIdeal Cert.KernelIdeal.Gen

/-! ## The two rotations -/

section Rotations
variable {α : Type}

theorem rol_apply {m j : Nat} (hmj : m + j = 4096) (X : S1x4096.Idx → α) (h1 : S1x4096.Slices ![0, j] ⟨2, ![1, m]⟩)
    (h2 : S1x4096.Slices ![0, 0] ⟨2, ![1, j]⟩) (hc : Shape.Concatenates [⟨2, ![1, m]⟩, ⟨2, ![1, j]⟩] S1x4096 1) (i : Fin 4096)
    (hi : i.val + j < 4096) :
    concatenate S1x4096 1 [⟨⟨2, ![1, m]⟩, extractStridedSlice ⟨2, ![1, m]⟩ ![0, j] X h1⟩,
      ⟨⟨2, ![1, j]⟩, extractStridedSlice ⟨2, ![1, j]⟩ ![0, 0] X h2⟩] hc (ix2 (0 : Fin 1) i) = X (ix2 (0 : Fin 1) ⟨i.val + j, hi⟩) := by
  refine (concatenate_pair_apply_left (t := S1x4096) (s₁ := ⟨2, ![1, m]⟩) (s₂ := ⟨2, ![1, j]⟩) 1 _ _ hc _ rfl
    (ix2 (0 : Fin 1) (⟨i.val, by omega⟩ : Fin m)) (fun b => ?_)).trans ?_
  · match b with
    | ⟨0, _⟩ => rfl
    | ⟨1, _⟩ => rfl
  · refine extractStridedSlice_apply _ _ _ _ _ fun a => ?_
    match a with
    | ⟨0, _⟩ => rfl
    | ⟨1, _⟩ => exact Nat.add_comm _ _

theorem ror_apply {m j : Nat} (hmj : m + j = 4096) (X : S1x4096.Idx → α) (h1 : S1x4096.Slices ![0, m] ⟨2, ![1, j]⟩)
    (h2 : S1x4096.Slices ![0, 0] ⟨2, ![1, m]⟩) (hc : Shape.Concatenates [⟨2, ![1, j]⟩, ⟨2, ![1, m]⟩] S1x4096 1) (i : Fin 4096)
    (hi : j ≤ i.val) :
    concatenate S1x4096 1 [⟨⟨2, ![1, j]⟩, extractStridedSlice ⟨2, ![1, j]⟩ ![0, m] X h1⟩,
      ⟨⟨2, ![1, m]⟩, extractStridedSlice ⟨2, ![1, m]⟩ ![0, 0] X h2⟩] hc (ix2 (0 : Fin 1) i) =
      X (ix2 (0 : Fin 1) ⟨i.val - j, by omega⟩) := by
  refine (concatenate_pair_apply_right (t := S1x4096) (s₁ := ⟨2, ![1, j]⟩) (s₂ := ⟨2, ![1, m]⟩) 1 _ _ hc _ rfl rfl
    (ix2 (0 : Fin 1) (⟨i.val - j, by have := i.isLt; omega⟩ : Fin m)) (fun b hb => ?_) ?_).trans ?_
  · match b with
    | ⟨0, _⟩ => rfl
    | ⟨1, _⟩ => exact absurd rfl hb
  · show i.val - j + j = i.val
    omega
  · refine extractStridedSlice_apply _ _ _ _ _ fun a => ?_
    match a with
    | ⟨0, _⟩ => rfl
    | ⟨1, _⟩ => exact (Nat.zero_add _).symm

end Rotations

/-! ## The masks -/

theorem select_ofBool {α : Type} (b : Bool) (x y : α) : Scalar.select (BitVec.ofBool b) x y = if b then x else y := by
  cases b <;> rfl

theorem ofNat_beq_zero {n : Nat} (h : n < 2 ^ 32) : (BitVec.ofNat 32 n == 0#32) = decide (n = 0) := by
  have : (BitVec.ofNat 32 n = 0#32) ↔ n = 0 := by
    rw [← BitVec.toNat_inj, BitVec.toNat_ofNat, Nat.mod_eq_of_lt h]; simp
  by_cases k : n = 0
  · subst k; rfl
  · rw [decide_eq_false k]; simpa using fun e => k (this.mp e)

theorem lowM_apply (s : Nat) (i : Fin 4096) : lowM s (ix2 (0 : Fin 1) i) = BitVec.ofBool (decide (i.val &&& 2 ^ s = 0)) := by
  show BitVec.ofBool (iota .tc S1x4096 32 [1] iota_S1x4096_d1_w32 (ix2 (0 : Fin 1) i) &&& BitVec.ofNat 32 (2 ^ s) == 0#32) = _
  rw [iota_single_apply]
  show BitVec.ofBool (BitVec.ofNat 32 i.val &&& BitVec.ofNat 32 (2 ^ s) == 0#32) = _
  rw [← BitVec.ofNat_and, ofNat_beq_zero]
  exact lt_of_le_of_lt Nat.and_le_left (by have := i.isLt; omega)

theorem upM_apply (l s : Nat) (i : Fin 4096) : upM l s (ix2 (0 : Fin 1) i) =
    BitVec.ofBool (decide (i.val &&& 2 ^ s = 0) == decide (i.val &&& 2 ^ l = 0)) := by
  show (lowM s (ix2 (0 : Fin 1) i) ^^^ lowM l (ix2 (0 : Fin 1) i)) ^^^ 1#1 = _
  rw [lowM_apply, lowM_apply]
  generalize decide (i.val &&& 2 ^ s = 0) = a
  generalize decide (i.val &&& 2 ^ l = 0) = b
  cases a <;> cases b <;> decide

/-- The partner of a position. -/
abbrev mate (s : Nat) (i : Fin 4096) : Fin 4096 := SortNet.partner 12 s i

theorem exch_apply {α : Type} {s : Nat} (hs : s < 12) (X : S1x4096.Idx → α) (i : Fin 4096) :
    exch s X (ix2 (0 : Fin 1) i) = X (ix2 (0 : Fin 1) (mate s i)) := by
  have hlow : i.val &&& 2 ^ s = 0 → i.val + 2 ^ s = (mate s i).val := fun h =>
    ((SortNet.partner_val_of_clear hs i h)).symm
  have hup : ¬(i.val &&& 2 ^ s = 0) → 2 ^ s ≤ i.val ∧ (mate s i).val = i.val - 2 ^ s := fun h =>
    SortNet.partner_val_of_set hs i h
  have hl : (mate s i).val < 4096 := (mate s i).isLt
  by_cases h : i.val &&& 2 ^ s = 0
  · have e := hlow h
    have ei : mate s i = ⟨i.val + 2 ^ s, by omega⟩ := Fin.ext e.symm
    rw [ei]
    interval_cases s <;>
      (refine (select_apply (lowM _) _ _ _).trans ?_
       rw [lowM_apply, decide_eq_true h, select_ofBool, if_pos rfl]
       exact rol_apply (by norm_num) X _ _ _ i _)
  · obtain ⟨e1, e2⟩ := hup h
    have ei : mate s i = ⟨i.val - 2 ^ s, by have := i.isLt; omega⟩ := Fin.ext e2
    rw [ei]
    interval_cases s <;>
      (refine (select_apply (lowM _) _ _ _).trans ?_
       rw [lowM_apply, decide_eq_false h, select_ofBool, if_neg (by decide)]
       exact ror_apply (by norm_num) X _ _ _ i e1)

/-! ## A stage is a stage of the network on entries -/

/-- A key and a position, a greater key the greater, and under equal keys the lower position. -/
abbrev Ent := Lex (EReal × (Fin 4096)ᵒᵈ)

/-- Keys and positions hold the entries `v`. -/
def Holds (p : FVec Ideal S1x4096 .f32 × IVec S1x4096 32) (v : Fin 4096 → Ent) : Prop :=
  ∀ i : Fin 4096, p.1 (ix2 (0 : Fin 1) i) = (ofLex (v i)).1 ∧
    p.2 (ix2 (0 : Fin 1) i) = BitVec.ofNat 32 (OrderDual.ofDual (ofLex (v i)).2).val

/-- The direction of the pair of position `i`: its greater entry is to be at `i`. -/
def keep (l s : Nat) (i : Fin (2 ^ 12)) : Bool := decide (i.val &&& 2 ^ s = 0) == decide (i.val &&& 2 ^ l = 0)

theorem slt_ofNat (a b : Fin 4096) : (BitVec.ofNat 32 a.val).slt (BitVec.ofNat 32 b.val) = decide (a < b) := by
  have ha := a.isLt
  have hb := b.isLt
  rw [BitVec.slt_eq_decide]
  have e : ∀ c : Nat, c < 4096 → (BitVec.ofNat 32 c).toInt = c := by
    intro c hc
    rw [BitVec.toInt_eq_toNat_of_lt (by rw [BitVec.toNat_ofNat]; omega), BitVec.toNat_ofNat, Nat.mod_eq_of_lt (by omega)]
  rw [e _ ha, e _ hb]
  exact decide_eq_decide.mpr (by rw [Fin.lt_def]; omega)

theorem takeM_apply {l s : Nat} (hs : s < 12) {p : FVec Ideal S1x4096 .f32 × IVec S1x4096 32} {v : Fin 4096 → Ent} (h : Holds p v)
    (i : Fin 4096) : takeM l s p (ix2 (0 : Fin 1) i) = BitVec.ofBool (keep l s i == decide (v i < v (mate s i))) := by
  show (upM l s (ix2 (0 : Fin 1) i) ^^^ (Ideal.cmp .ogt (exch s p.1 (ix2 (0 : Fin 1) i)) (p.1 (ix2 (0 : Fin 1) i)) |||
    (Ideal.cmp .oeq (exch s p.1 (ix2 (0 : Fin 1) i)) (p.1 (ix2 (0 : Fin 1) i)) &&&
      BitVec.ofBool ((exch s p.2 (ix2 (0 : Fin 1) i)).slt (p.2 (ix2 (0 : Fin 1) i)))))) ^^^ 1#1 = _
  rw [exch_apply hs, exch_apply hs, upM_apply, (h i).1, (h i).2, (h (mate s i)).1, (h (mate s i)).2, slt_ofNat]
  show (BitVec.ofBool (keep l s i) ^^^ (BitVec.ofBool (decide ((ofLex (v i)).1 < (ofLex (v (mate s i))).1)) |||
    (BitVec.ofBool (decide ((ofLex (v (mate s i))).1 = (ofLex (v i)).1)) &&& _))) ^^^ 1#1 = _
  have e : decide (v i < v (mate s i)) = (decide ((ofLex (v i)).1 < (ofLex (v (mate s i))).1) ||
      (decide ((ofLex (v (mate s i))).1 = (ofLex (v i)).1) &&
        decide (OrderDual.ofDual (ofLex (v (mate s i))).2 < OrderDual.ofDual (ofLex (v i)).2))) := by
    rw [← Bool.decide_and, ← Bool.decide_or]
    refine decide_eq_decide.mpr ?_
    rw [Prod.Lex.lt_iff]
    exact or_congr Iff.rfl (and_congr eq_comm Iff.rfl)
  rw [e]
  generalize keep l s i = a
  generalize decide ((ofLex (v i)).1 < (ofLex (v (mate s i))).1) = b
  generalize decide ((ofLex (v (mate s i))).1 = (ofLex (v i)).1) = c
  generalize decide (OrderDual.ofDual (ofLex (v (mate s i))).2 < OrderDual.ofDual (ofLex (v i)).2) = d
  cases a <;> cases b <;> cases c <;> cases d <;> decide

theorem keep_mate {l s : Nat} (hs : s < l) (hl : l ≤ 12) (j : Fin (2 ^ 12)) : keep l s (SortNet.partner 12 s j) = !keep l s j := by
  unfold keep
  have hv := SortNet.partner_val (p := 12) (lt_of_lt_of_le hs hl) j
  have e1 : decide ((SortNet.partner 12 s j).val &&& 2 ^ s = 0) = !decide (j.val &&& 2 ^ s = 0) := by
    simp only [SortNet.and_two_pow_eq_zero_iff_testBit, hv, Nat.testBit_xor, Nat.testBit_two_pow_self]
    cases j.val.testBit s <;> rfl
  have e2 : decide ((SortNet.partner 12 s j).val &&& 2 ^ l = 0) = decide (j.val &&& 2 ^ l = 0) := by
    simp only [SortNet.and_two_pow_eq_zero_iff_testBit, hv, Nat.testBit_xor, Nat.testBit_two_pow_of_ne (show l ≠ s by omega), Nat.testBit_two_pow_of_ne (show s ≠ l by omega)]
    cases j.val.testBit l <;> rfl
  rw [e1, e2]
  cases decide (j.val &&& 2 ^ s = 0) <;> cases decide (j.val &&& 2 ^ l = 0) <;> rfl

theorem holds_stage {l s : Nat} (hs : s < l) (hl : l ≤ 12) {p : FVec Ideal S1x4096 .f32 × IVec S1x4096 32} {v : Fin 4096 → Ent}
    (h : Holds p v) (hv : Function.Injective v) :
    Holds (stage l s p) (SortNet.Network.apply (SortNet.stage 12 s (fun i => decide (i.val &&& 2 ^ l = 0) == true)) v) := by
  have hs' : s < 12 := lt_of_lt_of_le hs hl
  have hw : SortNet.stage 12 s (fun i => decide (i.val &&& 2 ^ l = 0) == true) = SortNet.stage 12 s (keep l s) := by
    refine SortNet.stage_congr fun i hi => ?_
    unfold keep
    rw [decide_eq_true hi]
    cases decide (i.val &&& 2 ^ l = 0) <;> rfl
  rw [hw]
  intro i
  have hne : mate s i ≠ i := by
    intro e
    have h1 := keep_mate hs hl i
    rw [show SortNet.partner 12 s i = i from e] at h1
    cases hk : keep l s i <;> rw [hk] at h1 <;> exact absurd h1 (by decide)
  have hvne : v (mate s i) ≠ v i := fun e => hne (hv e)
  have ht := takeM_apply (l := l) hs' h i
  have hr : SortNet.Network.apply (SortNet.stage 12 s (keep l s)) v i =
      if keep l s i == decide (v i < v (mate s i)) then v (mate s i) else v i := by
    rw [SortNet.apply_stage_select hs' (keep l s) (keep_mate hs hl) v i]
    rcases lt_or_gt_of_ne hvne with k | k
    · have k1 : decide (v (SortNet.partner 12 s i) < v i) = true := decide_eq_true k
      have k2 : decide (v i < v (mate s i)) = false := decide_eq_false (not_lt_of_gt k)
      rw [k1, k2]
      cases keep l s i <;> rfl
    · have k1 : decide (v (SortNet.partner 12 s i) < v i) = false := decide_eq_false (not_lt_of_gt k)
      have k2 : decide (v i < v (mate s i)) = true := decide_eq_true k
      rw [k1, k2]
      cases keep l s i <;> rfl
  rw [hr]
  constructor
  · show Scalar.select (takeM l s p (ix2 (0 : Fin 1) i)) (exch s p.1 (ix2 (0 : Fin 1) i)) (p.1 (ix2 (0 : Fin 1) i)) = _
    rw [ht, select_ofBool, exch_apply hs', (h i).1, (h (mate s i)).1]
    split <;> rfl
  · show Scalar.select (takeM l s p (ix2 (0 : Fin 1) i)) (exch s p.2 (ix2 (0 : Fin 1) i)) (p.2 (ix2 (0 : Fin 1) i)) = _
    rw [ht, select_ofBool, exch_apply hs', (h i).2, (h (mate s i)).2]
    split <;> rfl

/-! ## All stages -/

/-- The entries at the start. -/
def ent (k : Fin 4096 → EReal) (i : Fin 4096) : Ent := toLex (k i, OrderDual.toDual i)

theorem ent_injective (k : Fin 4096 → EReal) : Function.Injective (ent k) := fun i j e => by
  have : (ofLex (ent k i)).2 = (ofLex (ent k j)).2 := by rw [e]
  exact OrderDual.toDual.injective this

/-- One stage of the network, by its level and exponent. -/
abbrev net (c : Nat × Nat) : SortNet.Network (2 ^ 12) := SortNet.stage 12 c.2 fun i => decide (i.val &&& 2 ^ c.1 = 0) == true

theorem holds_st (x : Vec Ideal S1x1x4096 .f32) (k : Fin 4096 → EReal) (hx : ∀ i, x (ix3 (0 : Fin 1) (0 : Fin 1) i) = k i) :
    ∀ n, n ≤ 78 → Holds (st n x) (SortNet.Network.apply ((stages.take n).flatMap net) (ent k))
  | 0, _ => by
    intro i
    refine ⟨?_, ?_⟩
    · show k1_pay2 (row x) (ix2 (0 : Fin 1) i) = k i
      rw [← hx]
      unfold k1_pay2 row
      rw [shapeCast_self]
      exact shapeCast_dropUnit_apply _ x _ (ix2 (0 : Fin 1) i) |>.trans (congrArg x (by funext a; fin_cases a <;> rfl))
    · exact iota_single_apply (κ := .tc) (h := iota_S1x4096_d1_w32) ..
  | n + 1, h => by
    have ih := holds_st x k hx n (by omega)
    have hlen : stages.length = 78 := by decide +kernel
    have hn : n < stages.length := by omega
    have hleg : ∀ c ∈ stages, c.2 < c.1 ∧ c.1 ≤ 12 := by decide +kernel
    have hget : stages.getD n (0, 0) = stages[n] := by simp [List.getD, hn]
    obtain ⟨h1, h2⟩ := hleg _ (List.getElem_mem hn)
    have hinj : Function.Injective (SortNet.Network.apply ((stages.take n).flatMap net) (ent k)) := by
      obtain ⟨σ, e⟩ := SortNet.Network.exists_perm ((stages.take n).flatMap net) (ent k)
      rw [e]
      exact (ent_injective k).comp σ.injective
    have := holds_stage h1 h2 ih hinj
    rw [List.take_succ_eq_append_getElem hn, List.flatMap_append, SortNet.Network.apply_append]
    show Holds (stage (stages.getD n (0, 0)).1 (stages.getD n (0, 0)).2 (st n x)) _
    rw [hget]
    rw [List.flatMap_cons, List.flatMap_nil, List.append_nil]
    exact this

theorem stages_net : (stages.take 78).flatMap net = SortNet.sortNet 12 true := by
  have : stages.take 78 = stages := by decide +kernel
  rw [this]
  unfold stages SortNet.sortNet
  rw [List.flatMap_assoc]
  simp only [List.flatMap_map]

/-- The positions after the last stage: in the order of the keys, greatest first, equal keys in the order of the positions. -/
theorem sorted_positions (x : Vec Ideal S1x1x4096 .f32) (k : Fin 4096 → EReal) (hx : ∀ i, x (ix3 (0 : Fin 1) (0 : Fin 1) i) = k i)
    (i : Fin 4096) : (st 78 x).2 (ix2 (0 : Fin 1) i) =
      BitVec.ofNat 32 (sortedFrom (fun a b => decide (OrderDual.toDual (k a) < OrderDual.toDual (k b))) i).val := by
  have h := holds_st x k hx 78 (le_refl _)
  rw [stages_net] at h
  have hanti := SortNet.sortNet_apply_antitone 12 (ent k)
  obtain ⟨σ, e⟩ := SortNet.Network.exists_perm (SortNet.sortNet 12 true) (ent k)
  rw [e] at h hanti
  have hσ : (σ : Fin 4096 → Fin 4096) = sortedFrom (fun a b => decide (OrderDual.toDual (k a) < OrderDual.toDual (k b))) := by
    refine Cert.Orders.eq_of_before (fun a => OrderDual.toDual (k a)) _ _ (fun a b hab => ?_) (fun a b hab => Cert.Orders.before_sortedFrom _ hab)
    have hlt : ent k (σ b) < ent k (σ a) :=
      lt_of_le_of_ne (hanti (le_of_lt hab)) fun q => ne_of_gt hab (σ.injective (ent_injective k q))
    rcases (Prod.Lex.lt_iff).mp hlt with q | ⟨q, r⟩
    · exact Or.inl q
    · exact Or.inr ⟨congrArg OrderDual.toDual q.symm, r⟩
  rw [(h i).2, ← hσ]
  rfl

end Cert.KernelIdeal.Sort

end
-- ==== Proof.SampleValue.lean ====
/-
  What the sampling call leaves: over the extended reals its indices are the positions of the greatest keys in descending
  order, equal keys in the order of their positions, and its points the points at those positions; and what the reference's
  selection and its lookup of rows are at given keys.
-/
module

public import proofs.«01_k».proof.Defs
public import proofs.«01_k».proof.Proof.SortNetwork
public import proofs.«01_k».proof.Proof.Blocks
public import proofs.«01_k».proof.Proof.Gen.ReferenceIdeal.Run
public import Idealize.ShloMosaic.Lib.MatmulPlain
public import Idealize.ShloMosaic.Lib.Pointwise.Reshape
public import Idealize.ShloMosaic.Lib.Quiescent

@[expose] public section

noncomputable section

open Idealize.ShloMosaic hiding ix1 ix2 ix3
open Idealize.ShloMosaic.TcCoe Idealize.SL.Sem Idealize.ShloMosaic.ValueIdx

namespace Cert.KernelIdeal.Sort

open Cert.KernelIdeal Cert.KernelIdeal.Gen

/-- The order in which a row of keys is taken. -/
def pos (k : Fin 4096 → EReal) : Fin 4096 → Fin 4096 :=
  sortedFrom (fun a b => decide (OrderDual.toDual (k a) < OrderDual.toDual (k b)))

/-- A rank below 1024, as one of all. -/
abbrev up (r : Fin 1024) : Fin 4096 := ⟨r.val, by omega⟩

/-! ## What a grid point writes -/

theorem row_cast {α : Type} (v : S1x1024.Idx → α) (h) (r : Fin 1024) :
    shapeCast S1x1x1024 v h (ix3 (0 : Fin 1) (0 : Fin 1) r) = v (ix2 (0 : Fin 1) r) :=
  (shapeCast_addUnit_apply (n := 2) ![1, 1024] v h (ix3 (0 : Fin 1) (0 : Fin 1) r)).trans (congrArg v (Shape.idx_ext₂ rfl rfl))

theorem rows_cast {α : Type} (v : S3x1024.Idx → α) (h) (a : Fin 3) (r : Fin 1024) :
    shapeCast S1x3x1024 v h (ix3 (0 : Fin 1) a r) = v (ix2 a r) :=
  (shapeCast_addUnit_apply (n := 2) ![3, 1024] v h (ix3 (0 : Fin 1) a r)).trans (congrArg v (Shape.idx_ext₂ rfl rfl))

theorem slice_st (x : Vec Ideal S1x1x4096 .f32) (k : Fin 4096 → EReal) (hx : ∀ i, x (ix3 (0 : Fin 1) (0 : Fin 1) i) = k i) (r : Fin 1024) :
    extractStridedSlice S1x1024 ![0, 0] (st 78 x).2 slices_S1x4096_o0_0_S1x1024 (ix2 (0 : Fin 1) r) = BitVec.ofNat 32 (pos k (up r)).val := by
  rw [extractStridedSlice_apply _ _ _ _ (ix2 (0 : Fin 1) (up r)) (fun a => by
    match a with
    | ⟨0, _⟩ => rfl
    | ⟨1, _⟩ => exact (Nat.zero_add _).symm)]
  exact sorted_positions x k hx (up r)

theorem idx_apply (x : Vec Ideal S1x1x4096 .f32) (k : Fin 4096 → EReal) (hx : ∀ i, x (ix3 (0 : Fin 1) (0 : Fin 1) i) = k i) (r : Fin 1024) :
    shapeCast S1x1x1024 (extractStridedSlice S1x1024 ![0, 0] (st 78 x).2 slices_S1x4096_o0_0_S1x1024) shapeCasts_S1x1024_S1x1x1024
      (ix3 (0 : Fin 1) (0 : Fin 1) r) = BitVec.ofNat 32 (pos k (up r)).val := by
  rw [row_cast]
  exact slice_st x k hx r

theorem onehot_apply (a : Fin 4096) (n : Nat) (hn : n < 2 ^ 32) :
    FloatOps.sitofp (F := Ideal) .f32 (BitVec.setWidth 32 (BitVec.ofBool (BitVec.ofNat 32 a.val == BitVec.ofNat 32 n))) =
      if a.val = n then (1 : EReal) else 0 := by
  have e : (BitVec.ofNat 32 a.val == BitVec.ofNat 32 n) = decide (a.val = n) := by
    have ha := a.isLt
    have : BitVec.ofNat 32 a.val = BitVec.ofNat 32 n ↔ a.val = n := by
      rw [← BitVec.toNat_inj, BitVec.toNat_ofNat, BitVec.toNat_ofNat, Nat.mod_eq_of_lt hn, Nat.mod_eq_of_lt (by omega)]
    by_cases h : a.val = n
    · rw [decide_eq_true h]; exact beq_iff_eq.mpr (this.mpr h)
    · rw [decide_eq_false h]; exact beq_eq_false_iff_ne.mpr fun q => h (this.mp q)
  rw [e]
  by_cases h : a.val = n
  · rw [decide_eq_true h, if_pos h]
    show (((BitVec.setWidth 32 (BitVec.ofBool true)).toInt : ℝ) : EReal) = 1
    rw [show (BitVec.setWidth 32 (BitVec.ofBool true)).toInt = 1 by decide]; norm_cast
  · rw [decide_eq_false h, if_neg h]
    show (((BitVec.setWidth 32 (BitVec.ofBool false)).toInt : ℝ) : EReal) = 0
    rw [show (BitVec.setWidth 32 (BitVec.ofBool false)).toInt = 0 by decide]; norm_cast

theorem pts_apply (x : Vec Ideal S1x1x4096 .f32) (k : Fin 4096 → EReal) (hx : ∀ i, x (ix3 (0 : Fin 1) (0 : Fin 1) i) = k i)
    (p : Vec Ideal S1x3x4096 .f32) (a : Fin 3) (r : Fin 1024) :
    k1_pay1 (k1_pay559 (extui 32 (cmpi .eq (iota .tc S4096x1024 32 [0] iota_S4096x1024_d0_w32)
      (broadcastTo S4096x1024 (extractStridedSlice S1x1024 ![0, 0] (st 78 x).2 slices_S1x4096_o0_0_S1x1024) broadcasts_S1x1024_S4096x1024))
      natLt_1_32) p) (ix3 (0 : Fin 1) a r) = p (ix3 (0 : Fin 1) a (pos k (up r))) := by
  unfold k1_pay1 k1_pay559
  dsimp only
  rw [rows_cast]
  refine (Ideal.matmul_plain_apply (M := 3) (K := 4096) (N := 1024) _ _ _ _ a r).trans ?_
  have hc : constant (F := Ideal) S3x1024 .f32 0x00000000#32 (ix2 a r) = (0 : EReal) := by
    show Ideal.ofBits .f32 0x00000000#32 = 0
    simp [Ideal.ofBits, Ideal.ieee]
  rw [hc, zero_add]
  have hoh : ∀ q : Fin 4096, sitofp (F := Ideal) .f32 (extui 32 (cmpi .eq (iota .tc S4096x1024 32 [0] iota_S4096x1024_d0_w32)
      (broadcastTo S4096x1024 (extractStridedSlice S1x1024 ![0, 0] (st 78 x).2 slices_S1x4096_o0_0_S1x1024) broadcasts_S1x1024_S4096x1024))
      natLt_1_32) (ix2 q r) = if q = pos k (up r) then (1 : EReal) else 0 := by
    intro q
    show FloatOps.sitofp (F := Ideal) .f32 (BitVec.setWidth 32 (BitVec.ofBool (iota .tc S4096x1024 32 [0] iota_S4096x1024_d0_w32 (ix2 q r) ==
      broadcastTo S4096x1024 (extractStridedSlice S1x1024 ![0, 0] (st 78 x).2 slices_S1x4096_o0_0_S1x1024) broadcasts_S1x1024_S4096x1024 (ix2 q r)))) = _
    rw [iota_single_apply, broadcastTo_apply _ _ _ (ix2 (0 : Fin 1) r) (fun a => by
      match a with
      | ⟨0, _⟩ => rfl
      | ⟨1, _⟩ => rfl), slice_st x k hx r]
    refine (onehot_apply q _ (by have := (pos k (up r)).isLt; omega)).trans ?_
    simp only [Fin.ext_iff]
  have hp : ∀ q : Fin 4096, shapeCast S3x4096 p shapeCasts_S1x3x4096_S3x4096 (ix2 a q) = p (ix3 (0 : Fin 1) a q) := fun q =>
    (shapeCast_dropUnit_apply (n := 2) ![3, 4096] p _ (ix2 a q)).trans (congrArg p (by
      funext b
      match b with
      | ⟨0, _⟩ => rfl
      | ⟨1, _⟩ => rfl
      | ⟨2, _⟩ => rfl))
  rw [Finset.sum_eq_single (pos k (up r))]
  · rw [hoh, if_pos rfl, mul_one, hp]
  · intro q _ hq
    rw [hoh, if_neg hq, mul_zero]
  · exact fun h => absurd (Finset.mem_univ _) h

/-! ## The blocks -/

/-- The keys of batch `c`. -/
def keyRow (x : Vec Ideal S2x4096 .f32) (b : Fin 2) : Fin 4096 → EReal := fun i => x (ix2 b i)

/-- The grid point of a batch. -/
def pt (b : Fin 2) : Fin cfg1.N := ⟨b.val, by rw [show cfg1.N = 2 from N_1]; exact b.isLt⟩

variable (V : (c : Dev nD) → (b : Ref sig .tc) → Buf (Elt Ideal) ((c : Thread nD τ).loc b))

theorem blk_keys (c : Dev nD) (x : FVec Ideal S2x4096 .f32) (hk : V c main_v45 = shapeCast S2x1x4096 x shapeCasts_S2x4096_S2x1x4096) (b : Fin 2) (i : Fin 4096) :
    (iblk1 V c 0 (pt b) : Vec Ideal S1x1x4096 .f32) (ix3 (0 : Fin 1) (0 : Fin 1) i) = keyRow x b i := by
  have h : (iblk1 V c 0 (pt b) : Vec Ideal S1x1x4096 .f32) (ix3 (0 : Fin 1) (0 : Fin 1) i) = V c main_v45 (ix3 b (0 : Fin 1) i) := by
    show V c main_v45 _ = _
    refine congrArg (V c main_v45) (funext fun a => Fin.ext ?_)
    match a with
    | ⟨0, _⟩ => fin_cases b <;> rfl
    | ⟨1, _⟩ => rfl
    | ⟨2, _⟩ => show 0 * 4096 + 1 * i.val = i.val; omega
  rw [h, hk]
  exact shapeCast_apply _ _ _ (ix2 b i) (by
    rw [rowMajor_val2 _ 4096 rfl, rowMajor_val3 _ 4096 4096 rfl rfl]
    show b.val * 4096 + i.val = b.val * 4096 + 0 * 4096 + i.val
    omega)

theorem blk_pts (c : Dev nD) (p : FVec Ideal S2x4096x3 .f32) (hp : V c main_v0 = transpose S2x3x4096 [0, 2, 1] p transposes_S2x4096x3_S2x3x4096_0_2_1) (b : Fin 2) (a : Fin 3) (i : Fin 4096) :
    (iblk1 V c 1 (pt b) : Vec Ideal S1x3x4096 .f32) (ix3 (0 : Fin 1) a i) = p (ix3 b i a) := by
  have h : (iblk1 V c 1 (pt b) : Vec Ideal S1x3x4096 .f32) (ix3 (0 : Fin 1) a i) = V c main_v0 (ix3 b a i) := by
    show V c main_v0 _ = _
    refine congrArg (V c main_v0) (funext fun d => Fin.ext ?_)
    match d with
    | ⟨0, _⟩ => fin_cases b <;> rfl
    | ⟨1, _⟩ => show 0 * 3 + 1 * a.val = a.val; omega
    | ⟨2, _⟩ => show 0 * 4096 + 1 * i.val = i.val; omega
  rw [h, hp]
  exact transpose_apply _ _ _ _ (ix3 b i a) (fun d => by
    match d with
    | ⟨0, _⟩ => rfl
    | ⟨1, _⟩ => rfl
    | ⟨2, _⟩ => rfl)

theorem final_idx (c : Dev nD) (x : FVec Ideal S2x4096 .f32) (hk : V c main_v45 = shapeCast S2x1x4096 x shapeCasts_S2x4096_S2x1x4096) (b : Fin 2) (r : Fin 1024) :
    (dat1 V c).arrAt 2 cfg1.N (ix3 b (0 : Fin 1) r) = BitVec.ofNat 32 (pos (keyRow x b) (up r)).val := by
  have h := congrFun ((Blocks.blocks1_2 V c (pt b)).trans (Blocks.flushed1_2 V c (pt b))) (ix3 (0 : Fin 1) (0 : Fin 1) r)
  refine Eq.trans ?_ (h.trans ?_)
  · show _ = (dat1 V c).arrAt 2 cfg1.N _
    refine congrArg ((dat1 V c).arrAt 2 cfg1.N) (funext fun a => Fin.ext ?_)
    match a with
    | ⟨0, _⟩ => fin_cases b <;> rfl
    | ⟨1, _⟩ => rfl
    | ⟨2, _⟩ => show r.val = 0 * 1024 + 1 * r.val; omega
  · rw [out_idx]
    exact idx_apply _ _ (blk_keys V c x hk b) r

theorem final_pts (c : Dev nD) (x : FVec Ideal S2x4096 .f32) (hk : V c main_v45 = shapeCast S2x1x4096 x shapeCasts_S2x4096_S2x1x4096)
    (p : FVec Ideal S2x4096x3 .f32) (hp : V c main_v0 = transpose S2x3x4096 [0, 2, 1] p transposes_S2x4096x3_S2x3x4096_0_2_1) (b : Fin 2) (a : Fin 3) (r : Fin 1024) :
    (dat1 V c).arrAt 3 cfg1.N (ix3 b a r) =
      p (ix3 b (pos (keyRow x b) (up r)) a) := by
  have h := congrFun ((Blocks.blocks1_3 V c (pt b)).trans (Blocks.flushed1_3 V c (pt b))) (ix3 (0 : Fin 1) a r)
  refine Eq.trans ?_ (h.trans ?_)
  · show _ = (dat1 V c).arrAt 3 cfg1.N _
    refine congrArg ((dat1 V c).arrAt 3 cfg1.N) (funext fun d => Fin.ext ?_)
    match d with
    | ⟨0, _⟩ => fin_cases b <;> rfl
    | ⟨1, _⟩ => show a.val = 0 * 3 + 1 * a.val; omega
    | ⟨2, _⟩ => show r.val = 0 * 1024 + 1 * r.val; omega
  · rw [out_pts]
    exact (pts_apply _ _ (blk_keys V c x hk b) _ a r).trans (blk_pts V c p hp b a _)

end Cert.KernelIdeal.Sort

/-! ## The reference -/

namespace Cert.ReferenceIdeal.Sampled

open Cert.ReferenceIdeal Cert.ReferenceIdeal.Gen
open Cert.KernelIdeal.Sort (pos keyRow up)

theorem sort2_snd_apply {α β : Type} (cmp : α × β → α × β → BitVec 1) (x : S2x4096.Idx → α) (y : S2x4096.Idx → β) (b : Fin 2) (i : Fin 4096) :
    (Host.sort2 S2x4096 1 cmp x y).2 (ix2 b i) =
      y (ix2 b (sortedFrom (n := 4096) (fun p q => cmp (x (ix2 b p), y (ix2 b p)) (x (ix2 b q), y (ix2 b q)) == 1#1) i)) := by
  have hal : ∀ q : Fin 4096, Shape.Idx.along (s := S2x4096) (ix2 b i) (⟨1, Nat.lt.base 1⟩ : Fin 2) q = ix2 b q := fun q => by
    funext a
    match a with
    | ⟨0, _⟩ => rfl
    | ⟨1, _⟩ => rfl
  unfold Host.sort2
  rw [dif_pos (show 1 < S2x4096.rank by decide)]
  refine (congrArg y (hal _)).trans ?_
  refine congrArg (fun R => y (ix2 b (sortedFrom (n := 4096) R i))) ?_
  funext p q
  exact congrArg₂ (fun u v => cmp (x u, y u) (x v, y v) == 1#1) (hal p) (hal q)

theorem topK_apply (x : FVec Ideal S2x4096 .f32) (h : S2x4096.Slices (fun _ => 0) S2x1024) (b : Fin 2) (r : Fin 1024) :
    (Host.topK S2x1024 1 (FloatOps.cmpfTotal .gt) x h).2 (ix2 b r) = BitVec.ofNat 32 (pos (keyRow x b) (up r)).val := by
  unfold Host.topK
  dsimp only
  rw [extractStridedSlice_apply _ _ _ _ (ix2 b (up r)) (fun a => by
    match a with
    | ⟨0, _⟩ => exact (Nat.zero_add _).symm
    | ⟨1, _⟩ => exact (Nat.zero_add _).symm), sort2_snd_apply, dif_pos (by decide)]
  refine congrArg (fun q : Fin 4096 => BitVec.ofNat 32 q.val) ?_
  unfold pos
  refine congrArg (fun R => sortedFrom (n := 4096) R (up r)) ?_
  funext p q
  show (BitVec.ofBool (decide (x (ix2 b q) < x (ix2 b p))) == 1#1) = decide (x (ix2 b q) < x (ix2 b p))
  cases decide (x (ix2 b q) < x (ix2 b p)) <;> rfl

/-- The gather of rows. -/
abbrev rowsAt : GatherDims S2x4096x3 S2x1024x1 S2x1024x3 := gather_S2x4096x3_S2x1024x1_S2x1024x3_2_1_0_0_1_2_113

/-- The reference's gather of rows: at an index row that holds positions, the points at those positions. -/
theorem gather_apply {α : Type} (x : S2x4096x3.Idx → α) (idx : IVec S2x1024x1 32) (b : Fin 2) (r : Fin 1024) (a : Fin 3) (n : Fin 4096)
    (hn : idx (ix3 b r (0 : Fin 1)) = BitVec.ofNat 32 n.val) :
    Host.gather gather_S2x4096x3_S2x1024x1_S2x1024x3_2_1_0_0_1_2_113 x idx (ix3 b r a) = x (ix3 b n a) := by
  unfold Host.gather
  refine congrArg x (funext fun d => Fin.ext ?_)
  show rowsAt.start (ix3 b r a) idx d + rowsAt.batchCoord (ix3 b r a) d + rowsAt.offCoord (ix3 b r a) d = _
  have hd : d = (0 : Fin 3) ∨ d = (1 : Fin 3) ∨ d = (2 : Fin 3) := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ rowsAt.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ rowsAt.startIndexMap from List.mem_singleton.mpr rfl)]
    have hsi : rowsAt.siIdx (ix3 b r a)
        ⟨List.idxOf (1 : Fin 3) [(1 : Fin 3)], List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    refine (congrArg (fun v : BitVec 32 => min v.toInt.toNat 4095) ((congrArg idx hsi).trans hn)).trans ?_
    have hl := n.isLt
    show min (BitVec.ofNat 32 n.val).toInt.toNat 4095 = n.val
    rw [BitVec.toInt_eq_toNat_of_lt (by rw [BitVec.toNat_ofNat]; omega), BitVec.toNat_ofNat, Nat.mod_eq_of_lt (by omega)]
    omega
  · rw [GatherDims.batchCoord_eq_zero _ _ _ (fun h => absurd (List.mem_singleton.mp h) (by decide))]
    unfold GatherDims.start
    rw [dif_neg (show (2 : Fin 3) ∉ rowsAt.startIndexMap from fun h => absurd (List.mem_singleton.mp h) (by decide))]
    simp only [Nat.zero_add, Nat.add_zero]
    unfold GatherDims.offCoord
    rw [dif_pos (show (2 : Fin 3) ∈ rowsAt.sKept by decide)]
    rfl

end Cert.ReferenceIdeal.Sampled

end
-- ==== Proof.Noise.lean ====
/-
  The noise the kernel adds to its keys, read off its host code: the word of the stream, folded into the seed by the cipher, is
  the key, as two numbers; the cipher of the positions at that key gives the random bits; and these are made Gumbel noise. The
  cipher is kept as five groups of four rounds, each a function of the pair of words before it.
-/
module

public import proofs.«01_k».proof.Proof.Gen.KernelIdeal.Frame
public import Idealize.ShloMosaic.Lib.Tactic
public import Idealize.ShloMosaic.Lib.Pointwise.Index

@[expose] public section

set_option maxRecDepth 8192

noncomputable section

namespace Cert.KernelIdeal.Noise

open Idealize.ShloMosaic Idealize.ShloMosaic.TcCoe Cert.KernelIdeal Cert.KernelIdeal.Gen

/-! ## The cipher -/

/-- A pair of words at each index. -/
abbrev Words (s : Shape) := IVec s 32 × IVec s 32

section
variable {s : Shape} (u : BitVec 32 → IVec s 32)

/-- One round: the sum, and the second word turned left by `a` and combined with it. -/
def mix (a b : BitVec 32) (x : Words s) : Words s :=
  (addi x.1 x.2, xori (addi x.1 x.2) (ori (Host.shli x.2 (u a)) (Host.shrui x.2 (u b))))

/-- Four rounds, and the addition of two words of the key and of the group's number. -/
def four (a b c d a' b' c' d' n : BitVec 32) (k l : IVec s 32) (x : Words s) : Words s :=
  (addi (mix u d d' (mix u c c' (mix u b b' (mix u a a' x)))).1 k,
    addi (addi (mix u d d' (mix u c c' (mix u b b' (mix u a a' x)))).2 l) (u n))

/-- The first, third and fifth group. -/
def odd := four u 13#32 15#32 26#32 6#32 19#32 17#32 6#32 26#32

/-- The second and fourth group. -/
def even := four u 17#32 29#32 16#32 24#32 15#32 3#32 16#32 8#32

end

/-- A word at every index of a row of one, and of the points. -/
abbrev u1 (a : BitVec 32) : IVec S1 32 := broadcastInDim S1 ![] bcast_S_S1 (constantI S_ 32 a)
abbrev u2 (a : BitVec 32) : IVec S2x4096 32 := broadcastInDim S2x4096 ![] bcast_S_S2x4096 (constantI S_ 32 a)

/-- A word of the key likewise. -/
abbrev b1 (a : IVec S_ 32) : IVec S1 32 := broadcastInDim S1 ![] bcast_S_S1 a
abbrev b2 (a : IVec S_ 32) : IVec S2x4096 32 := broadcastInDim S2x4096 ![] bcast_S_S2x4096 a

/-- The cipher of the pair `x` at the key `k0`, `k1` with its third word `k2`. -/
def cipher {s : Shape} (u : BitVec 32 → IVec s 32) (b : IVec S_ 32 → IVec s 32) (k0 k1 k2 : IVec S_ 32) (x : Words s) : Words s :=
  odd u 5#32 (b k2) (b k0) (even u 4#32 (b k1) (b k2) (odd u 3#32 (b k0) (b k1) (even u 2#32 (b k2) (b k0) (odd u 1#32 (b k1) (b k2) x))))

theorem after_cut {F : FTy → Type} [FloatOps F] (l : List (HloOp τ sig (Elt F))) (n : Nat) (V : Valuation τ sig (Elt F)) :
    StableHlo.after l V = StableHlo.after (l.drop n) (StableHlo.after (l.take n) V) := by
  induction n generalizing l V with
  | zero => rfl
  | succ n ih =>
    cases l with
    | nil => rfl
    | cons op l => exact ih l _

variable {F : FTy → Type} [FloatOps F]

theorem after_next (l : List (HloOp τ sig (Elt F))) (a n : Nat) (V : Valuation τ sig (Elt F)) :
    StableHlo.after (l.drop a) V = StableHlo.after (l.drop (a + n)) (StableHlo.after ((l.drop a).take n) V) := by
  rw [after_cut (l.drop a) n V, List.drop_drop]

/-- The contents before group `n` of a list whose groups, of 43 operations, follow its first `a` operations. -/
def groups (l : List (HloOp τ sig (Elt F))) (a : Nat) (W : Valuation τ sig (Elt F)) : Nat → Valuation τ sig (Elt F)
  | 0 => StableHlo.after (l.take a) W
  | n + 1 => StableHlo.after ((l.drop (a + 43 * n)).take 43) (groups l a W n)

theorem groups_eq (l : List (HloOp τ sig (Elt F))) (a : Nat) (W : Valuation τ sig (Elt F)) (n b : Nat) (h : a + 43 * n = b) :
    groups l a W (n + 1) = StableHlo.after ((l.drop b).take 43) (groups l a W n) := by
  subst h
  rfl

theorem after_groups (l : List (HloOp τ sig (Elt F))) (a : Nat) (W : Valuation τ sig (Elt F)) (n : Nat) :
    StableHlo.after l W = StableHlo.after (l.drop (a + 43 * n)) (groups l a W n) := by
  induction n with
  | zero => exact after_cut l a W
  | succ n ih => exact ih.trans (after_next l (a + 43 * n) 43 _)

/-! ## The folding of the word into the seed, in numbers -/

theorem mix_word (a b p q p' q' : BitVec 32) (h : p + q = p') (h' : p' ^^^ (IntOp.shli .host q a ||| IntOp.shrui .host q b) = q') :
    mix u1 a b (fun _ => p, fun _ => q) = (fun _ => p', fun _ => q') := by
  subst h h'
  rfl

theorem four_word (a b c d a' b' c' d' n k l p q p1 q1 p2 q2 p3 q3 p4 q4 p5 q5 : BitVec 32)
    (h1 : mix u1 a a' (fun _ => p, fun _ => q) = (fun _ => p1, fun _ => q1)) (h2 : mix u1 b b' (fun _ => p1, fun _ => q1) = (fun _ => p2, fun _ => q2))
    (h3 : mix u1 c c' (fun _ => p2, fun _ => q2) = (fun _ => p3, fun _ => q3)) (h4 : mix u1 d d' (fun _ => p3, fun _ => q3) = (fun _ => p4, fun _ => q4))
    (hp : p4 + k = p5) (hq : q4 + l + n = q5) :
    four u1 a b c d a' b' c' d' n (b1 fun _ => k) (b1 fun _ => l) (fun _ => p, fun _ => q) = (fun _ => p5, fun _ => q5) := by
  unfold four
  rw [h1, h2, h3, h4]
  subst hp hq
  rfl

theorem word0 : odd u1 1#32 (b1 fun _ => 42#32) (b1 fun _ => 466689008#32) (fun _ => 0#32, fun _ => 43#32) = (fun _ => 2464957439#32, fun _ => 1128113438#32) :=
  four_word _ _ _ _ _ _ _ _ _ 42#32 466689008#32 0#32 43#32 43#32 352299#32 352342#32 2953896020#32 2954248362#32 3805676331#32 2464957397#32 661424429#32 2464957439#32 1128113438#32
    (mix_word _ _ _ _ _ _ (by decide +kernel) (by decide +kernel)) (mix_word _ _ _ _ _ _ (by decide +kernel) (by decide +kernel)) (mix_word _ _ _ _ _ _ (by decide +kernel) (by decide +kernel)) (mix_word _ _ _ _ _ _ (by decide +kernel) (by decide +kernel)) (by decide +kernel) (by decide +kernel)

theorem word1 : even u1 2#32 (b1 fun _ => 466689008#32) (b1 fun _ => 0#32) (fun _ => 2464957439#32, fun _ => 1128113438#32) = (fun _ => 375477809#32, fun _ => 3044452527#32) :=
  four_word _ _ _ _ _ _ _ _ _ 466689008#32 0#32 2464957439#32 1128113438#32 3593070877#32 2618650470#32 1916754051#32 2713580911#32 335367666#32 3868388431#32 4203756097#32 3044452525#32 375477809#32 3044452527#32
    (mix_word _ _ _ _ _ _ (by decide +kernel) (by decide +kernel)) (mix_word _ _ _ _ _ _ (by decide +kernel) (by decide +kernel)) (mix_word _ _ _ _ _ _ (by decide +kernel) (by decide +kernel)) (mix_word _ _ _ _ _ _ (by decide +kernel) (by decide +kernel)) (by decide +kernel) (by decide +kernel)

theorem word2 : odd u1 3#32 (b1 fun _ => 0#32) (b1 fun _ => 42#32) (fun _ => 375477809#32, fun _ => 3044452527#32) = (fun _ => 3225750233#32, fun _ => 2067521037#32) :=
  four_word _ _ _ _ _ _ _ _ _ 0#32 42#32 375477809#32 3044452527#32 3419930336#32 516032590#32 3935962926#32 4005365839#32 3646361469#32 3874356060#32 3225750233#32 2067520992#32 3225750233#32 2067521037#32
    (mix_word _ _ _ _ _ _ (by decide +kernel) (by decide +kernel)) (mix_word _ _ _ _ _ _ (by decide +kernel) (by decide +kernel)) (mix_word _ _ _ _ _ _ (by decide +kernel) (by decide +kernel)) (mix_word _ _ _ _ _ _ (by decide +kernel) (by decide +kernel)) (by decide +kernel) (by decide +kernel)

theorem word3 : even u1 4#32 (b1 fun _ => 42#32) (b1 fun _ => 466689008#32) (fun _ => 3225750233#32, fun _ => 2067521037#32) = (fun _ => 2863270970#32, fun _ => 2049623715#32) :=
  four_word _ _ _ _ _ _ _ _ _ 42#32 466689008#32 3225750233#32 2067521037#32 998303974#32 2275024529#32 3273328503#32 4092085413#32 3070446620#32 4087791604#32 2863270928#32 1582934703#32 2863270970#32 2049623715#32
    (mix_word _ _ _ _ _ _ (by decide +kernel) (by decide +kernel)) (mix_word _ _ _ _ _ _ (by decide +kernel) (by decide +kernel)) (mix_word _ _ _ _ _ _ (by decide +kernel) (by decide +kernel)) (mix_word _ _ _ _ _ _ (by decide +kernel) (by decide +kernel)) (by decide +kernel) (by decide +kernel)

theorem word4 : odd u1 5#32 (b1 fun _ => 466689008#32) (b1 fun _ => 0#32) (fun _ => 2863270970#32, fun _ => 2049623715#32) = (fun _ => 64467757#32, fun _ => 2916123636#32) :=
  four_word _ _ _ _ _ _ _ _ _ 466689008#32 0#32 2863270970#32 2049623715#32 617927389#32 2080423320#32 2698350709#32 4263095925#32 2666479338#32 1226266707#32 3892746045#32 2916123631#32 64467757#32 2916123636#32
    (mix_word _ _ _ _ _ _ (by decide +kernel) (by decide +kernel)) (mix_word _ _ _ _ _ _ (by decide +kernel) (by decide +kernel)) (mix_word _ _ _ _ _ _ (by decide +kernel) (by decide +kernel)) (mix_word _ _ _ _ _ _ (by decide +kernel) (by decide +kernel)) (by decide +kernel) (by decide +kernel)

theorem word : cipher u1 b1 (fun _ => 0#32) (fun _ => 42#32) (fun _ => 466689008#32) (fun _ => 0#32, fun _ => 43#32) =
    (fun _ => 64467757#32, fun _ => 2916123636#32) := by
  unfold cipher
  rw [word0, word1, word2, word3, word4]

/-! ## The rounds of the folding -/

section
variable (W : Valuation τ sig (Elt F))

theorem f0_1 : StableHlo.after ((hostOps1_1.drop 20).take 43) W (Proc.devRef .tc main_call0_call0_v35) =
    (odd u1 1#32 (b1 (W (Proc.devRef .tc main_call0_v8))) (b1 (W (Proc.devRef .tc main_call0_call0_v1))) (W (Proc.devRef .tc main_call0_call0_v3), W (Proc.devRef .tc main_call0_call0_v5))).1 := by
  unfold hostOps1_1
  simp only [List.drop_succ_cons, List.drop_zero, List.take_succ_cons, List.take_zero]
  after_results <;> rfl

theorem f0_2 : StableHlo.after ((hostOps1_1.drop 20).take 43) W (Proc.devRef .tc main_call0_call0_v39) =
    (odd u1 1#32 (b1 (W (Proc.devRef .tc main_call0_v8))) (b1 (W (Proc.devRef .tc main_call0_call0_v1))) (W (Proc.devRef .tc main_call0_call0_v3), W (Proc.devRef .tc main_call0_call0_v5))).2 := by
  unfold hostOps1_1
  simp only [List.drop_succ_cons, List.drop_zero, List.take_succ_cons, List.take_zero]
  after_results <;> rfl

theorem f0_main_call0_v6 : StableHlo.after ((hostOps1_1.drop 20).take 43) W (Proc.devRef .tc main_call0_v6) = W (Proc.devRef .tc main_call0_v6) := by
  unfold hostOps1_1
  simp only [List.drop_succ_cons, List.drop_zero, List.take_succ_cons, List.take_zero]
  after_results

theorem f0_main_call0_v8 : StableHlo.after ((hostOps1_1.drop 20).take 43) W (Proc.devRef .tc main_call0_v8) = W (Proc.devRef .tc main_call0_v8) := by
  unfold hostOps1_1
  simp only [List.drop_succ_cons, List.drop_zero, List.take_succ_cons, List.take_zero]
  after_results

theorem f0_main_call0_call0_v1 : StableHlo.after ((hostOps1_1.drop 20).take 43) W (Proc.devRef .tc main_call0_call0_v1) = W (Proc.devRef .tc main_call0_call0_v1) := by
  unfold hostOps1_1
  simp only [List.drop_succ_cons, List.drop_zero, List.take_succ_cons, List.take_zero]
  after_results

theorem f1_1 : StableHlo.after ((hostOps1_1.drop 63).take 43) W (Proc.devRef .tc main_call0_call0_v69) =
    (even u1 2#32 (b1 (W (Proc.devRef .tc main_call0_call0_v1))) (b1 (W (Proc.devRef .tc main_call0_v6))) (W (Proc.devRef .tc main_call0_call0_v35), W (Proc.devRef .tc main_call0_call0_v39))).1 := by
  unfold hostOps1_1
  simp only [List.drop_succ_cons, List.drop_zero, List.take_succ_cons, List.take_zero]
  after_results <;> rfl

theorem f1_2 : StableHlo.after ((hostOps1_1.drop 63).take 43) W (Proc.devRef .tc main_call0_call0_v73) =
    (even u1 2#32 (b1 (W (Proc.devRef .tc main_call0_call0_v1))) (b1 (W (Proc.devRef .tc main_call0_v6))) (W (Proc.devRef .tc main_call0_call0_v35), W (Proc.devRef .tc main_call0_call0_v39))).2 := by
  unfold hostOps1_1
  simp only [List.drop_succ_cons, List.drop_zero, List.take_succ_cons, List.take_zero]
  after_results <;> rfl

theorem f1_main_call0_v6 : StableHlo.after ((hostOps1_1.drop 63).take 43) W (Proc.devRef .tc main_call0_v6) = W (Proc.devRef .tc main_call0_v6) := by
  unfold hostOps1_1
  simp only [List.drop_succ_cons, List.drop_zero, List.take_succ_cons, List.take_zero]
  after_results

theorem f1_main_call0_v8 : StableHlo.after ((hostOps1_1.drop 63).take 43) W (Proc.devRef .tc main_call0_v8) = W (Proc.devRef .tc main_call0_v8) := by
  unfold hostOps1_1
  simp only [List.drop_succ_cons, List.drop_zero, List.take_succ_cons, List.take_zero]
  after_results

theorem f1_main_call0_call0_v1 : StableHlo.after ((hostOps1_1.drop 63).take 43) W (Proc.devRef .tc main_call0_call0_v1) = W (Proc.devRef .tc main_call0_call0_v1) := by
  unfold hostOps1_1
  simp only [List.drop_succ_cons, List.drop_zero, List.take_succ_cons, List.take_zero]
  after_results

theorem f2_1 : StableHlo.after ((hostOps1_1.drop 106).take 43) W (Proc.devRef .tc main_call0_call0_v103) =
    (odd u1 3#32 (b1 (W (Proc.devRef .tc main_call0_v6))) (b1 (W (Proc.devRef .tc main_call0_v8))) (W (Proc.devRef .tc main_call0_call0_v69), W (Proc.devRef .tc main_call0_call0_v73))).1 := by
  unfold hostOps1_1
  simp only [List.drop_succ_cons, List.drop_zero, List.take_succ_cons, List.take_zero]
  after_results <;> rfl

theorem f2_2 : StableHlo.after ((hostOps1_1.drop 106).take 43) W (Proc.devRef .tc main_call0_call0_v107) =
    (odd u1 3#32 (b1 (W (Proc.devRef .tc main_call0_v6))) (b1 (W (Proc.devRef .tc main_call0_v8))) (W (Proc.devRef .tc main_call0_call0_v69), W (Proc.devRef .tc main_call0_call0_v73))).2 := by
  unfold hostOps1_1
  simp only [List.drop_succ_cons, List.drop_zero, List.take_succ_cons, List.take_zero]
  after_results <;> rfl

theorem f2_main_call0_v6 : StableHlo.after ((hostOps1_1.drop 106).take 43) W (Proc.devRef .tc main_call0_v6) = W (Proc.devRef .tc main_call0_v6) := by
  unfold hostOps1_1
  simp only [List.drop_succ_cons, List.drop_zero, List.take_succ_cons, List.take_zero]
  after_results

theorem f2_main_call0_v8 : StableHlo.after ((hostOps1_1.drop 106).take 43) W (Proc.devRef .tc main_call0_v8) = W (Proc.devRef .tc main_call0_v8) := by
  unfold hostOps1_1
  simp only [List.drop_succ_cons, List.drop_zero, List.take_succ_cons, List.take_zero]
  after_results

theorem f2_main_call0_call0_v1 : StableHlo.after ((hostOps1_1.drop 106).take 43) W (Proc.devRef .tc main_call0_call0_v1) = W (Proc.devRef .tc main_call0_call0_v1) := by
  unfold hostOps1_1
  simp only [List.drop_succ_cons, List.drop_zero, List.take_succ_cons, List.take_zero]
  after_results

theorem f3_1 : StableHlo.after ((hostOps1_1.drop 149).take 43) W (Proc.devRef .tc main_call0_call0_v137) =
    (even u1 4#32 (b1 (W (Proc.devRef .tc main_call0_v8))) (b1 (W (Proc.devRef .tc main_call0_call0_v1))) (W (Proc.devRef .tc main_call0_call0_v103), W (Proc.devRef .tc main_call0_call0_v107))).1 := by
  unfold hostOps1_1
  simp only [List.drop_succ_cons, List.drop_zero, List.take_succ_cons, List.take_zero]
  after_results <;> rfl

theorem f3_2 : StableHlo.after ((hostOps1_1.drop 149).take 43) W (Proc.devRef .tc main_call0_call0_v141) =
    (even u1 4#32 (b1 (W (Proc.devRef .tc main_call0_v8))) (b1 (W (Proc.devRef .tc main_call0_call0_v1))) (W (Proc.devRef .tc main_call0_call0_v103), W (Proc.devRef .tc main_call0_call0_v107))).2 := by
  unfold hostOps1_1
  simp only [List.drop_succ_cons, List.drop_zero, List.take_succ_cons, List.take_zero]
  after_results <;> rfl

theorem f3_main_call0_v6 : StableHlo.after ((hostOps1_1.drop 149).take 43) W (Proc.devRef .tc main_call0_v6) = W (Proc.devRef .tc main_call0_v6) := by
  unfold hostOps1_1
  simp only [List.drop_succ_cons, List.drop_zero, List.take_succ_cons, List.take_zero]
  after_results

theorem f3_main_call0_v8 : StableHlo.after ((hostOps1_1.drop 149).take 43) W (Proc.devRef .tc main_call0_v8) = W (Proc.devRef .tc main_call0_v8) := by
  unfold hostOps1_1
  simp only [List.drop_succ_cons, List.drop_zero, List.take_succ_cons, List.take_zero]
  after_results

theorem f3_main_call0_call0_v1 : StableHlo.after ((hostOps1_1.drop 149).take 43) W (Proc.devRef .tc main_call0_call0_v1) = W (Proc.devRef .tc main_call0_call0_v1) := by
  unfold hostOps1_1
  simp only [List.drop_succ_cons, List.drop_zero, List.take_succ_cons, List.take_zero]
  after_results

theorem f4_1 : StableHlo.after ((hostOps1_1.drop 192).take 43) W (Proc.devRef .tc main_call0_v11_0) =
    (odd u1 5#32 (b1 (W (Proc.devRef .tc main_call0_call0_v1))) (b1 (W (Proc.devRef .tc main_call0_v6))) (W (Proc.devRef .tc main_call0_call0_v137), W (Proc.devRef .tc main_call0_call0_v141))).1 := by
  unfold hostOps1_1
  simp only [List.drop_succ_cons, List.drop_zero, List.take_succ_cons, List.take_zero]
  after_results <;> rfl

theorem f4_2 : StableHlo.after ((hostOps1_1.drop 192).take 43) W (Proc.devRef .tc main_call0_v11_1) =
    (odd u1 5#32 (b1 (W (Proc.devRef .tc main_call0_call0_v1))) (b1 (W (Proc.devRef .tc main_call0_v6))) (W (Proc.devRef .tc main_call0_call0_v137), W (Proc.devRef .tc main_call0_call0_v141))).2 := by
  unfold hostOps1_1
  simp only [List.drop_succ_cons, List.drop_zero, List.take_succ_cons, List.take_zero]
  after_results <;> rfl

theorem f4_main_call0_v6 : StableHlo.after ((hostOps1_1.drop 192).take 43) W (Proc.devRef .tc main_call0_v6) = W (Proc.devRef .tc main_call0_v6) := by
  unfold hostOps1_1
  simp only [List.drop_succ_cons, List.drop_zero, List.take_succ_cons, List.take_zero]
  after_results

theorem f4_main_call0_v8 : StableHlo.after ((hostOps1_1.drop 192).take 43) W (Proc.devRef .tc main_call0_v8) = W (Proc.devRef .tc main_call0_v8) := by
  unfold hostOps1_1
  simp only [List.drop_succ_cons, List.drop_zero, List.take_succ_cons, List.take_zero]
  after_results

theorem f4_main_call0_call0_v1 : StableHlo.after ((hostOps1_1.drop 192).take 43) W (Proc.devRef .tc main_call0_call0_v1) = W (Proc.devRef .tc main_call0_call0_v1) := by
  unfold hostOps1_1
  simp only [List.drop_succ_cons, List.drop_zero, List.take_succ_cons, List.take_zero]
  after_results

/-- The contents before group `n` of `hostOps1_1`. -/
def fAt (W : Valuation τ sig (Elt F)) (n : Nat) : Valuation τ sig (Elt F) := groups hostOps1_1 20 W n

theorem f_after : StableHlo.after hostOps1_1 W = StableHlo.after (hostOps1_1.drop 235) (fAt W 5) :=
  after_groups hostOps1_1 20 W 5

theorem fAt_0 : fAt W 1 = StableHlo.after ((hostOps1_1.drop 20).take 43) (fAt W 0) :=
  groups_eq hostOps1_1 20 W 0 20 rfl

theorem fAt_1 : fAt W 2 = StableHlo.after ((hostOps1_1.drop 63).take 43) (fAt W 1) :=
  groups_eq hostOps1_1 20 W 1 63 rfl

theorem fAt_2 : fAt W 3 = StableHlo.after ((hostOps1_1.drop 106).take 43) (fAt W 2) :=
  groups_eq hostOps1_1 20 W 2 106 rfl

theorem fAt_3 : fAt W 4 = StableHlo.after ((hostOps1_1.drop 149).take 43) (fAt W 3) :=
  groups_eq hostOps1_1 20 W 3 149 rfl

theorem fAt_4 : fAt W 5 = StableHlo.after ((hostOps1_1.drop 192).take 43) (fAt W 4) :=
  groups_eq hostOps1_1 20 W 4 192 rfl

theorem fk0_0 : fAt W 0 (Proc.devRef .tc main_call0_v6) = fAt W 0 (Proc.devRef .tc main_call0_v6) := rfl

theorem fk0_1 : fAt W 0 (Proc.devRef .tc main_call0_v8) = fAt W 0 (Proc.devRef .tc main_call0_v8) := rfl

theorem fk0_2 : fAt W 0 (Proc.devRef .tc main_call0_call0_v1) = fAt W 0 (Proc.devRef .tc main_call0_call0_v1) := rfl

theorem f0 : ((fAt W 1 (Proc.devRef .tc main_call0_call0_v35), fAt W 1 (Proc.devRef .tc main_call0_call0_v39)) : Words S1) =
    odd u1 1#32 (b1 (fAt W 0 (Proc.devRef .tc main_call0_v8))) (b1 (fAt W 0 (Proc.devRef .tc main_call0_call0_v1))) ((fAt W 0 (Proc.devRef .tc main_call0_call0_v3), fAt W 0 (Proc.devRef .tc main_call0_call0_v5)) : Words S1) := by
  rw [fAt_0, f0_1, f0_2, fk0_1, fk0_2]

theorem fk1_0 : fAt W 1 (Proc.devRef .tc main_call0_v6) = fAt W 0 (Proc.devRef .tc main_call0_v6) := by
  rw [fAt_0, f0_main_call0_v6, fk0_0]

theorem fk1_1 : fAt W 1 (Proc.devRef .tc main_call0_v8) = fAt W 0 (Proc.devRef .tc main_call0_v8) := by
  rw [fAt_0, f0_main_call0_v8, fk0_1]

theorem fk1_2 : fAt W 1 (Proc.devRef .tc main_call0_call0_v1) = fAt W 0 (Proc.devRef .tc main_call0_call0_v1) := by
  rw [fAt_0, f0_main_call0_call0_v1, fk0_2]

theorem f1 : ((fAt W 2 (Proc.devRef .tc main_call0_call0_v69), fAt W 2 (Proc.devRef .tc main_call0_call0_v73)) : Words S1) =
    even u1 2#32 (b1 (fAt W 0 (Proc.devRef .tc main_call0_call0_v1))) (b1 (fAt W 0 (Proc.devRef .tc main_call0_v6))) ((fAt W 1 (Proc.devRef .tc main_call0_call0_v35), fAt W 1 (Proc.devRef .tc main_call0_call0_v39)) : Words S1) := by
  rw [fAt_1, f1_1, f1_2, fk1_2, fk1_0]

theorem fk2_0 : fAt W 2 (Proc.devRef .tc main_call0_v6) = fAt W 0 (Proc.devRef .tc main_call0_v6) := by
  rw [fAt_1, f1_main_call0_v6, fk1_0]

theorem fk2_1 : fAt W 2 (Proc.devRef .tc main_call0_v8) = fAt W 0 (Proc.devRef .tc main_call0_v8) := by
  rw [fAt_1, f1_main_call0_v8, fk1_1]

theorem fk2_2 : fAt W 2 (Proc.devRef .tc main_call0_call0_v1) = fAt W 0 (Proc.devRef .tc main_call0_call0_v1) := by
  rw [fAt_1, f1_main_call0_call0_v1, fk1_2]

theorem f2 : ((fAt W 3 (Proc.devRef .tc main_call0_call0_v103), fAt W 3 (Proc.devRef .tc main_call0_call0_v107)) : Words S1) =
    odd u1 3#32 (b1 (fAt W 0 (Proc.devRef .tc main_call0_v6))) (b1 (fAt W 0 (Proc.devRef .tc main_call0_v8))) ((fAt W 2 (Proc.devRef .tc main_call0_call0_v69), fAt W 2 (Proc.devRef .tc main_call0_call0_v73)) : Words S1) := by
  rw [fAt_2, f2_1, f2_2, fk2_0, fk2_1]

theorem fk3_0 : fAt W 3 (Proc.devRef .tc main_call0_v6) = fAt W 0 (Proc.devRef .tc main_call0_v6) := by
  rw [fAt_2, f2_main_call0_v6, fk2_0]

theorem fk3_1 : fAt W 3 (Proc.devRef .tc main_call0_v8) = fAt W 0 (Proc.devRef .tc main_call0_v8) := by
  rw [fAt_2, f2_main_call0_v8, fk2_1]

theorem fk3_2 : fAt W 3 (Proc.devRef .tc main_call0_call0_v1) = fAt W 0 (Proc.devRef .tc main_call0_call0_v1) := by
  rw [fAt_2, f2_main_call0_call0_v1, fk2_2]

theorem f3 : ((fAt W 4 (Proc.devRef .tc main_call0_call0_v137), fAt W 4 (Proc.devRef .tc main_call0_call0_v141)) : Words S1) =
    even u1 4#32 (b1 (fAt W 0 (Proc.devRef .tc main_call0_v8))) (b1 (fAt W 0 (Proc.devRef .tc main_call0_call0_v1))) ((fAt W 3 (Proc.devRef .tc main_call0_call0_v103), fAt W 3 (Proc.devRef .tc main_call0_call0_v107)) : Words S1) := by
  rw [fAt_3, f3_1, f3_2, fk3_1, fk3_2]

theorem fk4_0 : fAt W 4 (Proc.devRef .tc main_call0_v6) = fAt W 0 (Proc.devRef .tc main_call0_v6) := by
  rw [fAt_3, f3_main_call0_v6, fk3_0]

theorem fk4_1 : fAt W 4 (Proc.devRef .tc main_call0_v8) = fAt W 0 (Proc.devRef .tc main_call0_v8) := by
  rw [fAt_3, f3_main_call0_v8, fk3_1]

theorem fk4_2 : fAt W 4 (Proc.devRef .tc main_call0_call0_v1) = fAt W 0 (Proc.devRef .tc main_call0_call0_v1) := by
  rw [fAt_3, f3_main_call0_call0_v1, fk3_2]

theorem f4 : ((fAt W 5 (Proc.devRef .tc main_call0_v11_0), fAt W 5 (Proc.devRef .tc main_call0_v11_1)) : Words S1) =
    odd u1 5#32 (b1 (fAt W 0 (Proc.devRef .tc main_call0_call0_v1))) (b1 (fAt W 0 (Proc.devRef .tc main_call0_v6))) ((fAt W 4 (Proc.devRef .tc main_call0_call0_v137), fAt W 4 (Proc.devRef .tc main_call0_call0_v141)) : Words S1) := by
  rw [fAt_4, f4_1, f4_2, fk4_2, fk4_0]

theorem f_cipher : ((fAt W 5 (Proc.devRef .tc main_call0_v11_0), fAt W 5 (Proc.devRef .tc main_call0_v11_1)) : Words S1) =
    cipher u1 b1 (fAt W 0 (Proc.devRef .tc main_call0_v6)) (fAt W 0 (Proc.devRef .tc main_call0_v8)) (fAt W 0 (Proc.devRef .tc main_call0_call0_v1)) ((fAt W 0 (Proc.devRef .tc main_call0_call0_v3), fAt W 0 (Proc.devRef .tc main_call0_call0_v5)) : Words S1) := by
  unfold cipher
  rw [f4, f3, f2, f1, f0]

/-! ## The rounds of the random bits -/

theorem g0_1 : StableHlo.after ((hostOps1_2.drop 30).take 43) W (Proc.devRef .tc main_call1_call0_call0_v35) =
    (odd u2 1#32 (b2 (W (Proc.devRef .tc main_call1_call0_v6))) (b2 (W (Proc.devRef .tc main_call1_call0_call0_v1))) (W (Proc.devRef .tc main_call1_call0_call0_v3), W (Proc.devRef .tc main_call1_call0_call0_v5))).1 := by
  unfold hostOps1_2
  simp only [List.drop_succ_cons, List.drop_zero, List.take_succ_cons, List.take_zero]
  after_results <;> rfl

theorem g0_2 : StableHlo.after ((hostOps1_2.drop 30).take 43) W (Proc.devRef .tc main_call1_call0_call0_v39) =
    (odd u2 1#32 (b2 (W (Proc.devRef .tc main_call1_call0_v6))) (b2 (W (Proc.devRef .tc main_call1_call0_call0_v1))) (W (Proc.devRef .tc main_call1_call0_call0_v3), W (Proc.devRef .tc main_call1_call0_call0_v5))).2 := by
  unfold hostOps1_2
  simp only [List.drop_succ_cons, List.drop_zero, List.take_succ_cons, List.take_zero]
  after_results <;> rfl

theorem g0_main_call1_call0_v4 : StableHlo.after ((hostOps1_2.drop 30).take 43) W (Proc.devRef .tc main_call1_call0_v4) = W (Proc.devRef .tc main_call1_call0_v4) := by
  unfold hostOps1_2
  simp only [List.drop_succ_cons, List.drop_zero, List.take_succ_cons, List.take_zero]
  after_results

theorem g0_main_call1_call0_v6 : StableHlo.after ((hostOps1_2.drop 30).take 43) W (Proc.devRef .tc main_call1_call0_v6) = W (Proc.devRef .tc main_call1_call0_v6) := by
  unfold hostOps1_2
  simp only [List.drop_succ_cons, List.drop_zero, List.take_succ_cons, List.take_zero]
  after_results

theorem g0_main_call1_call0_call0_v1 : StableHlo.after ((hostOps1_2.drop 30).take 43) W (Proc.devRef .tc main_call1_call0_call0_v1) = W (Proc.devRef .tc main_call1_call0_call0_v1) := by
  unfold hostOps1_2
  simp only [List.drop_succ_cons, List.drop_zero, List.take_succ_cons, List.take_zero]
  after_results

theorem g0_main_call1_call0_v1 : StableHlo.after ((hostOps1_2.drop 30).take 43) W (Proc.devRef .tc main_call1_call0_v1) = W (Proc.devRef .tc main_call1_call0_v1) := by
  unfold hostOps1_2
  simp only [List.drop_succ_cons, List.drop_zero, List.take_succ_cons, List.take_zero]
  after_results

theorem g0_main_call1_call0_v2 : StableHlo.after ((hostOps1_2.drop 30).take 43) W (Proc.devRef .tc main_call1_call0_v2) = W (Proc.devRef .tc main_call1_call0_v2) := by
  unfold hostOps1_2
  simp only [List.drop_succ_cons, List.drop_zero, List.take_succ_cons, List.take_zero]
  after_results

theorem g1_1 : StableHlo.after ((hostOps1_2.drop 73).take 43) W (Proc.devRef .tc main_call1_call0_call0_v69) =
    (even u2 2#32 (b2 (W (Proc.devRef .tc main_call1_call0_call0_v1))) (b2 (W (Proc.devRef .tc main_call1_call0_v4))) (W (Proc.devRef .tc main_call1_call0_call0_v35), W (Proc.devRef .tc main_call1_call0_call0_v39))).1 := by
  unfold hostOps1_2
  simp only [List.drop_succ_cons, List.drop_zero, List.take_succ_cons, List.take_zero]
  after_results <;> rfl

theorem g1_2 : StableHlo.after ((hostOps1_2.drop 73).take 43) W (Proc.devRef .tc main_call1_call0_call0_v73) =
    (even u2 2#32 (b2 (W (Proc.devRef .tc main_call1_call0_call0_v1))) (b2 (W (Proc.devRef .tc main_call1_call0_v4))) (W (Proc.devRef .tc main_call1_call0_call0_v35), W (Proc.devRef .tc main_call1_call0_call0_v39))).2 := by
  unfold hostOps1_2
  simp only [List.drop_succ_cons, List.drop_zero, List.take_succ_cons, List.take_zero]
  after_results <;> rfl

theorem g1_main_call1_call0_v4 : StableHlo.after ((hostOps1_2.drop 73).take 43) W (Proc.devRef .tc main_call1_call0_v4) = W (Proc.devRef .tc main_call1_call0_v4) := by
  unfold hostOps1_2
  simp only [List.drop_succ_cons, List.drop_zero, List.take_succ_cons, List.take_zero]
  after_results

theorem g1_main_call1_call0_v6 : StableHlo.after ((hostOps1_2.drop 73).take 43) W (Proc.devRef .tc main_call1_call0_v6) = W (Proc.devRef .tc main_call1_call0_v6) := by
  unfold hostOps1_2
  simp only [List.drop_succ_cons, List.drop_zero, List.take_succ_cons, List.take_zero]
  after_results

theorem g1_main_call1_call0_call0_v1 : StableHlo.after ((hostOps1_2.drop 73).take 43) W (Proc.devRef .tc main_call1_call0_call0_v1) = W (Proc.devRef .tc main_call1_call0_call0_v1) := by
  unfold hostOps1_2
  simp only [List.drop_succ_cons, List.drop_zero, List.take_succ_cons, List.take_zero]
  after_results

theorem g1_main_call1_call0_v1 : StableHlo.after ((hostOps1_2.drop 73).take 43) W (Proc.devRef .tc main_call1_call0_v1) = W (Proc.devRef .tc main_call1_call0_v1) := by
  unfold hostOps1_2
  simp only [List.drop_succ_cons, List.drop_zero, List.take_succ_cons, List.take_zero]
  after_results

theorem g1_main_call1_call0_v2 : StableHlo.after ((hostOps1_2.drop 73).take 43) W (Proc.devRef .tc main_call1_call0_v2) = W (Proc.devRef .tc main_call1_call0_v2) := by
  unfold hostOps1_2
  simp only [List.drop_succ_cons, List.drop_zero, List.take_succ_cons, List.take_zero]
  after_results

theorem g2_1 : StableHlo.after ((hostOps1_2.drop 116).take 43) W (Proc.devRef .tc main_call1_call0_call0_v103) =
    (odd u2 3#32 (b2 (W (Proc.devRef .tc main_call1_call0_v4))) (b2 (W (Proc.devRef .tc main_call1_call0_v6))) (W (Proc.devRef .tc main_call1_call0_call0_v69), W (Proc.devRef .tc main_call1_call0_call0_v73))).1 := by
  unfold hostOps1_2
  simp only [List.drop_succ_cons, List.drop_zero, List.take_succ_cons, List.take_zero]
  after_results <;> rfl

theorem g2_2 : StableHlo.after ((hostOps1_2.drop 116).take 43) W (Proc.devRef .tc main_call1_call0_call0_v107) =
    (odd u2 3#32 (b2 (W (Proc.devRef .tc main_call1_call0_v4))) (b2 (W (Proc.devRef .tc main_call1_call0_v6))) (W (Proc.devRef .tc main_call1_call0_call0_v69), W (Proc.devRef .tc main_call1_call0_call0_v73))).2 := by
  unfold hostOps1_2
  simp only [List.drop_succ_cons, List.drop_zero, List.take_succ_cons, List.take_zero]
  after_results <;> rfl

theorem g2_main_call1_call0_v4 : StableHlo.after ((hostOps1_2.drop 116).take 43) W (Proc.devRef .tc main_call1_call0_v4) = W (Proc.devRef .tc main_call1_call0_v4) := by
  unfold hostOps1_2
  simp only [List.drop_succ_cons, List.drop_zero, List.take_succ_cons, List.take_zero]
  after_results

theorem g2_main_call1_call0_v6 : StableHlo.after ((hostOps1_2.drop 116).take 43) W (Proc.devRef .tc main_call1_call0_v6) = W (Proc.devRef .tc main_call1_call0_v6) := by
  unfold hostOps1_2
  simp only [List.drop_succ_cons, List.drop_zero, List.take_succ_cons, List.take_zero]
  after_results

theorem g2_main_call1_call0_call0_v1 : StableHlo.after ((hostOps1_2.drop 116).take 43) W (Proc.devRef .tc main_call1_call0_call0_v1) = W (Proc.devRef .tc main_call1_call0_call0_v1) := by
  unfold hostOps1_2
  simp only [List.drop_succ_cons, List.drop_zero, List.take_succ_cons, List.take_zero]
  after_results

theorem g2_main_call1_call0_v1 : StableHlo.after ((hostOps1_2.drop 116).take 43) W (Proc.devRef .tc main_call1_call0_v1) = W (Proc.devRef .tc main_call1_call0_v1) := by
  unfold hostOps1_2
  simp only [List.drop_succ_cons, List.drop_zero, List.take_succ_cons, List.take_zero]
  after_results

theorem g2_main_call1_call0_v2 : StableHlo.after ((hostOps1_2.drop 116).take 43) W (Proc.devRef .tc main_call1_call0_v2) = W (Proc.devRef .tc main_call1_call0_v2) := by
  unfold hostOps1_2
  simp only [List.drop_succ_cons, List.drop_zero, List.take_succ_cons, List.take_zero]
  after_results

theorem g3_1 : StableHlo.after ((hostOps1_2.drop 159).take 43) W (Proc.devRef .tc main_call1_call0_call0_v137) =
    (even u2 4#32 (b2 (W (Proc.devRef .tc main_call1_call0_v6))) (b2 (W (Proc.devRef .tc main_call1_call0_call0_v1))) (W (Proc.devRef .tc main_call1_call0_call0_v103), W (Proc.devRef .tc main_call1_call0_call0_v107))).1 := by
  unfold hostOps1_2
  simp only [List.drop_succ_cons, List.drop_zero, List.take_succ_cons, List.take_zero]
  after_results <;> rfl

theorem g3_2 : StableHlo.after ((hostOps1_2.drop 159).take 43) W (Proc.devRef .tc main_call1_call0_call0_v141) =
    (even u2 4#32 (b2 (W (Proc.devRef .tc main_call1_call0_v6))) (b2 (W (Proc.devRef .tc main_call1_call0_call0_v1))) (W (Proc.devRef .tc main_call1_call0_call0_v103), W (Proc.devRef .tc main_call1_call0_call0_v107))).2 := by
  unfold hostOps1_2
  simp only [List.drop_succ_cons, List.drop_zero, List.take_succ_cons, List.take_zero]
  after_results <;> rfl

theorem g3_main_call1_call0_v4 : StableHlo.after ((hostOps1_2.drop 159).take 43) W (Proc.devRef .tc main_call1_call0_v4) = W (Proc.devRef .tc main_call1_call0_v4) := by
  unfold hostOps1_2
  simp only [List.drop_succ_cons, List.drop_zero, List.take_succ_cons, List.take_zero]
  after_results

theorem g3_main_call1_call0_v6 : StableHlo.after ((hostOps1_2.drop 159).take 43) W (Proc.devRef .tc main_call1_call0_v6) = W (Proc.devRef .tc main_call1_call0_v6) := by
  unfold hostOps1_2
  simp only [List.drop_succ_cons, List.drop_zero, List.take_succ_cons, List.take_zero]
  after_results

theorem g3_main_call1_call0_call0_v1 : StableHlo.after ((hostOps1_2.drop 159).take 43) W (Proc.devRef .tc main_call1_call0_call0_v1) = W (Proc.devRef .tc main_call1_call0_call0_v1) := by
  unfold hostOps1_2
  simp only [List.drop_succ_cons, List.drop_zero, List.take_succ_cons, List.take_zero]
  after_results

theorem g3_main_call1_call0_v1 : StableHlo.after ((hostOps1_2.drop 159).take 43) W (Proc.devRef .tc main_call1_call0_v1) = W (Proc.devRef .tc main_call1_call0_v1) := by
  unfold hostOps1_2
  simp only [List.drop_succ_cons, List.drop_zero, List.take_succ_cons, List.take_zero]
  after_results

theorem g3_main_call1_call0_v2 : StableHlo.after ((hostOps1_2.drop 159).take 43) W (Proc.devRef .tc main_call1_call0_v2) = W (Proc.devRef .tc main_call1_call0_v2) := by
  unfold hostOps1_2
  simp only [List.drop_succ_cons, List.drop_zero, List.take_succ_cons, List.take_zero]
  after_results

theorem g4_1 : StableHlo.after ((hostOps1_2.drop 202).take 43) W (Proc.devRef .tc main_call1_call0_v18_0) =
    (odd u2 5#32 (b2 (W (Proc.devRef .tc main_call1_call0_call0_v1))) (b2 (W (Proc.devRef .tc main_call1_call0_v4))) (W (Proc.devRef .tc main_call1_call0_call0_v137), W (Proc.devRef .tc main_call1_call0_call0_v141))).1 := by
  unfold hostOps1_2
  simp only [List.drop_succ_cons, List.drop_zero, List.take_succ_cons, List.take_zero]
  after_results <;> rfl

theorem g4_2 : StableHlo.after ((hostOps1_2.drop 202).take 43) W (Proc.devRef .tc main_call1_call0_v18_1) =
    (odd u2 5#32 (b2 (W (Proc.devRef .tc main_call1_call0_call0_v1))) (b2 (W (Proc.devRef .tc main_call1_call0_v4))) (W (Proc.devRef .tc main_call1_call0_call0_v137), W (Proc.devRef .tc main_call1_call0_call0_v141))).2 := by
  unfold hostOps1_2
  simp only [List.drop_succ_cons, List.drop_zero, List.take_succ_cons, List.take_zero]
  after_results <;> rfl

theorem g4_main_call1_call0_v4 : StableHlo.after ((hostOps1_2.drop 202).take 43) W (Proc.devRef .tc main_call1_call0_v4) = W (Proc.devRef .tc main_call1_call0_v4) := by
  unfold hostOps1_2
  simp only [List.drop_succ_cons, List.drop_zero, List.take_succ_cons, List.take_zero]
  after_results

theorem g4_main_call1_call0_v6 : StableHlo.after ((hostOps1_2.drop 202).take 43) W (Proc.devRef .tc main_call1_call0_v6) = W (Proc.devRef .tc main_call1_call0_v6) := by
  unfold hostOps1_2
  simp only [List.drop_succ_cons, List.drop_zero, List.take_succ_cons, List.take_zero]
  after_results

theorem g4_main_call1_call0_call0_v1 : StableHlo.after ((hostOps1_2.drop 202).take 43) W (Proc.devRef .tc main_call1_call0_call0_v1) = W (Proc.devRef .tc main_call1_call0_call0_v1) := by
  unfold hostOps1_2
  simp only [List.drop_succ_cons, List.drop_zero, List.take_succ_cons, List.take_zero]
  after_results

theorem g4_main_call1_call0_v1 : StableHlo.after ((hostOps1_2.drop 202).take 43) W (Proc.devRef .tc main_call1_call0_v1) = W (Proc.devRef .tc main_call1_call0_v1) := by
  unfold hostOps1_2
  simp only [List.drop_succ_cons, List.drop_zero, List.take_succ_cons, List.take_zero]
  after_results

theorem g4_main_call1_call0_v2 : StableHlo.after ((hostOps1_2.drop 202).take 43) W (Proc.devRef .tc main_call1_call0_v2) = W (Proc.devRef .tc main_call1_call0_v2) := by
  unfold hostOps1_2
  simp only [List.drop_succ_cons, List.drop_zero, List.take_succ_cons, List.take_zero]
  after_results

/-- The contents before group `n` of `hostOps1_2`. -/
def gAt (W : Valuation τ sig (Elt F)) (n : Nat) : Valuation τ sig (Elt F) := groups hostOps1_2 30 W n

theorem g_after : StableHlo.after hostOps1_2 W = StableHlo.after (hostOps1_2.drop 245) (gAt W 5) :=
  after_groups hostOps1_2 30 W 5

theorem gAt_0 : gAt W 1 = StableHlo.after ((hostOps1_2.drop 30).take 43) (gAt W 0) :=
  groups_eq hostOps1_2 30 W 0 30 rfl

theorem gAt_1 : gAt W 2 = StableHlo.after ((hostOps1_2.drop 73).take 43) (gAt W 1) :=
  groups_eq hostOps1_2 30 W 1 73 rfl

theorem gAt_2 : gAt W 3 = StableHlo.after ((hostOps1_2.drop 116).take 43) (gAt W 2) :=
  groups_eq hostOps1_2 30 W 2 116 rfl

theorem gAt_3 : gAt W 4 = StableHlo.after ((hostOps1_2.drop 159).take 43) (gAt W 3) :=
  groups_eq hostOps1_2 30 W 3 159 rfl

theorem gAt_4 : gAt W 5 = StableHlo.after ((hostOps1_2.drop 202).take 43) (gAt W 4) :=
  groups_eq hostOps1_2 30 W 4 202 rfl

theorem gk0_0 : gAt W 0 (Proc.devRef .tc main_call1_call0_v4) = gAt W 0 (Proc.devRef .tc main_call1_call0_v4) := rfl

theorem gk0_1 : gAt W 0 (Proc.devRef .tc main_call1_call0_v6) = gAt W 0 (Proc.devRef .tc main_call1_call0_v6) := rfl

theorem gk0_2 : gAt W 0 (Proc.devRef .tc main_call1_call0_call0_v1) = gAt W 0 (Proc.devRef .tc main_call1_call0_call0_v1) := rfl

theorem gk0_3 : gAt W 0 (Proc.devRef .tc main_call1_call0_v1) = gAt W 0 (Proc.devRef .tc main_call1_call0_v1) := rfl

theorem gk0_4 : gAt W 0 (Proc.devRef .tc main_call1_call0_v2) = gAt W 0 (Proc.devRef .tc main_call1_call0_v2) := rfl

theorem g0 : ((gAt W 1 (Proc.devRef .tc main_call1_call0_call0_v35), gAt W 1 (Proc.devRef .tc main_call1_call0_call0_v39)) : Words S2x4096) =
    odd u2 1#32 (b2 (gAt W 0 (Proc.devRef .tc main_call1_call0_v6))) (b2 (gAt W 0 (Proc.devRef .tc main_call1_call0_call0_v1))) ((gAt W 0 (Proc.devRef .tc main_call1_call0_call0_v3), gAt W 0 (Proc.devRef .tc main_call1_call0_call0_v5)) : Words S2x4096) := by
  rw [gAt_0, g0_1, g0_2, gk0_1, gk0_2]

theorem gk1_0 : gAt W 1 (Proc.devRef .tc main_call1_call0_v4) = gAt W 0 (Proc.devRef .tc main_call1_call0_v4) := by
  rw [gAt_0, g0_main_call1_call0_v4, gk0_0]

theorem gk1_1 : gAt W 1 (Proc.devRef .tc main_call1_call0_v6) = gAt W 0 (Proc.devRef .tc main_call1_call0_v6) := by
  rw [gAt_0, g0_main_call1_call0_v6, gk0_1]

theorem gk1_2 : gAt W 1 (Proc.devRef .tc main_call1_call0_call0_v1) = gAt W 0 (Proc.devRef .tc main_call1_call0_call0_v1) := by
  rw [gAt_0, g0_main_call1_call0_call0_v1, gk0_2]

theorem gk1_3 : gAt W 1 (Proc.devRef .tc main_call1_call0_v1) = gAt W 0 (Proc.devRef .tc main_call1_call0_v1) := by
  rw [gAt_0, g0_main_call1_call0_v1, gk0_3]

theorem gk1_4 : gAt W 1 (Proc.devRef .tc main_call1_call0_v2) = gAt W 0 (Proc.devRef .tc main_call1_call0_v2) := by
  rw [gAt_0, g0_main_call1_call0_v2, gk0_4]

theorem g1 : ((gAt W 2 (Proc.devRef .tc main_call1_call0_call0_v69), gAt W 2 (Proc.devRef .tc main_call1_call0_call0_v73)) : Words S2x4096) =
    even u2 2#32 (b2 (gAt W 0 (Proc.devRef .tc main_call1_call0_call0_v1))) (b2 (gAt W 0 (Proc.devRef .tc main_call1_call0_v4))) ((gAt W 1 (Proc.devRef .tc main_call1_call0_call0_v35), gAt W 1 (Proc.devRef .tc main_call1_call0_call0_v39)) : Words S2x4096) := by
  rw [gAt_1, g1_1, g1_2, gk1_2, gk1_0]

theorem gk2_0 : gAt W 2 (Proc.devRef .tc main_call1_call0_v4) = gAt W 0 (Proc.devRef .tc main_call1_call0_v4) := by
  rw [gAt_1, g1_main_call1_call0_v4, gk1_0]

theorem gk2_1 : gAt W 2 (Proc.devRef .tc main_call1_call0_v6) = gAt W 0 (Proc.devRef .tc main_call1_call0_v6) := by
  rw [gAt_1, g1_main_call1_call0_v6, gk1_1]

theorem gk2_2 : gAt W 2 (Proc.devRef .tc main_call1_call0_call0_v1) = gAt W 0 (Proc.devRef .tc main_call1_call0_call0_v1) := by
  rw [gAt_1, g1_main_call1_call0_call0_v1, gk1_2]

theorem gk2_3 : gAt W 2 (Proc.devRef .tc main_call1_call0_v1) = gAt W 0 (Proc.devRef .tc main_call1_call0_v1) := by
  rw [gAt_1, g1_main_call1_call0_v1, gk1_3]

theorem gk2_4 : gAt W 2 (Proc.devRef .tc main_call1_call0_v2) = gAt W 0 (Proc.devRef .tc main_call1_call0_v2) := by
  rw [gAt_1, g1_main_call1_call0_v2, gk1_4]

theorem g2 : ((gAt W 3 (Proc.devRef .tc main_call1_call0_call0_v103), gAt W 3 (Proc.devRef .tc main_call1_call0_call0_v107)) : Words S2x4096) =
    odd u2 3#32 (b2 (gAt W 0 (Proc.devRef .tc main_call1_call0_v4))) (b2 (gAt W 0 (Proc.devRef .tc main_call1_call0_v6))) ((gAt W 2 (Proc.devRef .tc main_call1_call0_call0_v69), gAt W 2 (Proc.devRef .tc main_call1_call0_call0_v73)) : Words S2x4096) := by
  rw [gAt_2, g2_1, g2_2, gk2_0, gk2_1]

theorem gk3_0 : gAt W 3 (Proc.devRef .tc main_call1_call0_v4) = gAt W 0 (Proc.devRef .tc main_call1_call0_v4) := by
  rw [gAt_2, g2_main_call1_call0_v4, gk2_0]

theorem gk3_1 : gAt W 3 (Proc.devRef .tc main_call1_call0_v6) = gAt W 0 (Proc.devRef .tc main_call1_call0_v6) := by
  rw [gAt_2, g2_main_call1_call0_v6, gk2_1]

theorem gk3_2 : gAt W 3 (Proc.devRef .tc main_call1_call0_call0_v1) = gAt W 0 (Proc.devRef .tc main_call1_call0_call0_v1) := by
  rw [gAt_2, g2_main_call1_call0_call0_v1, gk2_2]

theorem gk3_3 : gAt W 3 (Proc.devRef .tc main_call1_call0_v1) = gAt W 0 (Proc.devRef .tc main_call1_call0_v1) := by
  rw [gAt_2, g2_main_call1_call0_v1, gk2_3]

theorem gk3_4 : gAt W 3 (Proc.devRef .tc main_call1_call0_v2) = gAt W 0 (Proc.devRef .tc main_call1_call0_v2) := by
  rw [gAt_2, g2_main_call1_call0_v2, gk2_4]

theorem g3 : ((gAt W 4 (Proc.devRef .tc main_call1_call0_call0_v137), gAt W 4 (Proc.devRef .tc main_call1_call0_call0_v141)) : Words S2x4096) =
    even u2 4#32 (b2 (gAt W 0 (Proc.devRef .tc main_call1_call0_v6))) (b2 (gAt W 0 (Proc.devRef .tc main_call1_call0_call0_v1))) ((gAt W 3 (Proc.devRef .tc main_call1_call0_call0_v103), gAt W 3 (Proc.devRef .tc main_call1_call0_call0_v107)) : Words S2x4096) := by
  rw [gAt_3, g3_1, g3_2, gk3_1, gk3_2]

theorem gk4_0 : gAt W 4 (Proc.devRef .tc main_call1_call0_v4) = gAt W 0 (Proc.devRef .tc main_call1_call0_v4) := by
  rw [gAt_3, g3_main_call1_call0_v4, gk3_0]

theorem gk4_1 : gAt W 4 (Proc.devRef .tc main_call1_call0_v6) = gAt W 0 (Proc.devRef .tc main_call1_call0_v6) := by
  rw [gAt_3, g3_main_call1_call0_v6, gk3_1]

theorem gk4_2 : gAt W 4 (Proc.devRef .tc main_call1_call0_call0_v1) = gAt W 0 (Proc.devRef .tc main_call1_call0_call0_v1) := by
  rw [gAt_3, g3_main_call1_call0_call0_v1, gk3_2]

theorem gk4_3 : gAt W 4 (Proc.devRef .tc main_call1_call0_v1) = gAt W 0 (Proc.devRef .tc main_call1_call0_v1) := by
  rw [gAt_3, g3_main_call1_call0_v1, gk3_3]

theorem gk4_4 : gAt W 4 (Proc.devRef .tc main_call1_call0_v2) = gAt W 0 (Proc.devRef .tc main_call1_call0_v2) := by
  rw [gAt_3, g3_main_call1_call0_v2, gk3_4]

theorem g4 : ((gAt W 5 (Proc.devRef .tc main_call1_call0_v18_0), gAt W 5 (Proc.devRef .tc main_call1_call0_v18_1)) : Words S2x4096) =
    odd u2 5#32 (b2 (gAt W 0 (Proc.devRef .tc main_call1_call0_call0_v1))) (b2 (gAt W 0 (Proc.devRef .tc main_call1_call0_v4))) ((gAt W 4 (Proc.devRef .tc main_call1_call0_call0_v137), gAt W 4 (Proc.devRef .tc main_call1_call0_call0_v141)) : Words S2x4096) := by
  rw [gAt_4, g4_1, g4_2, gk4_2, gk4_0]

theorem g_cipher : ((gAt W 5 (Proc.devRef .tc main_call1_call0_v18_0), gAt W 5 (Proc.devRef .tc main_call1_call0_v18_1)) : Words S2x4096) =
    cipher u2 b2 (gAt W 0 (Proc.devRef .tc main_call1_call0_v4)) (gAt W 0 (Proc.devRef .tc main_call1_call0_v6)) (gAt W 0 (Proc.devRef .tc main_call1_call0_call0_v1)) ((gAt W 0 (Proc.devRef .tc main_call1_call0_call0_v3), gAt W 0 (Proc.devRef .tc main_call1_call0_call0_v5)) : Words S2x4096) := by
  unfold cipher
  rw [g4, g3, g2, g1, g0]

theorem g_main_call1_call0_v1 : gAt W 5 (Proc.devRef .tc main_call1_call0_v1) = gAt W 0 (Proc.devRef .tc main_call1_call0_v1) := by
  rw [gAt_4, g4_main_call1_call0_v1, gk4_3]

theorem g_main_call1_call0_v2 : gAt W 5 (Proc.devRef .tc main_call1_call0_v2) = gAt W 0 (Proc.devRef .tc main_call1_call0_v2) := by
  rw [gAt_4, g4_main_call1_call0_v2, gk4_4]

end

/-! ## The key -/

theorem ext_S1 {α : Type} (f g : S1.Idx → α) (h : f (Idealize.ShloMosaic.ix1 (0 : Fin 1)) = g (Idealize.ShloMosaic.ix1 (0 : Fin 1))) : f = g := by
  funext i
  have : i = Idealize.ShloMosaic.ix1 (0 : Fin 1) := by
    funext a
    match a with
    | ⟨0, _⟩ => exact Subsingleton.elim (α := Fin 1) _ _
  rw [this]
  exact h

theorem ext_S_ {α : Type} (f g : S_.Idx → α) (h : f (fun a => Fin.elim0 a) = g (fun a => Fin.elim0 a)) : f = g := by
  funext i
  have : i = fun a => Fin.elim0 a := funext fun a => Fin.elim0 a
  rw [this]
  exact h

/-- Two words side by side. -/
abbrev both (p q : IVec S1 32) : IVec S2 32 := concatenate S2 0 [⟨S1, p⟩, ⟨S1, q⟩] concatenates_S1_S1_S2_d0

theorem both_0 (p q : BitVec 32) : shapeCast S_ (extractStridedSlice S1 ![0] (both (fun _ => p) (fun _ => q)) slices_S2_S1_0) shapeCasts_S1_S_ = fun _ => p :=
  ext_S_ _ _ rfl

theorem both_1 (p q : BitVec 32) : shapeCast S_ (extractStridedSlice S1 ![1] (both (fun _ => p) (fun _ => q)) slices_S2_S1_1) shapeCasts_S1_S_ = fun _ => q :=
  ext_S_ _ _ rfl

theorem slice_0 (p q : BitVec 32) : extractStridedSlice S1 ![0] (both (fun _ => p) (fun _ => q)) slices_S2_S1_0 = fun _ => p :=
  ext_S1 _ _ rfl

theorem slice_1 (p q : BitVec 32) : extractStridedSlice S1 ![1] (both (fun _ => p) (fun _ => q)) slices_S2_S1_1 = fun _ => q :=
  ext_S1 _ _ rfl

theorem after_seed (W : Valuation τ sig (Elt F)) : StableHlo.after hostOps1 W (Proc.devRef .tc main_v38) =
    both (b1 (Host.shrui (constantI S_ 32 42#32) (constantI S_ 32 32#32))) (b1 (andi (constantI S_ 32 42#32) (constantI S_ 32 4294967295#32))) := by
  unfold hostOps1
  after_results <;> rfl

theorem after_word (W : Valuation τ sig (Elt F)) : StableHlo.after hostOps1 W (Proc.devRef .tc main_c_8) = constantI S_ 32 1#32 := by
  unfold hostOps1
  after_results <;> rfl

theorem seed_eq : both (b1 (Host.shrui (constantI S_ 32 42#32) (constantI S_ 32 32#32))) (b1 (andi (constantI S_ 32 42#32) (constantI S_ 32 4294967295#32))) =
    both (fun _ => 0#32) (fun _ => 42#32) :=
  congrArg₂ both (funext fun _ => (by decide +kernel : IntOp.shrui .host 42#32 32#32 = 0#32)) (funext fun _ => (by decide +kernel : 42#32 &&& 4294967295#32 = 42#32))

theorem stream_eq : both (b1 (Host.shrui (constantI S_ 32 1#32) (constantI S_ 32 32#32))) (b1 (andi (constantI S_ 32 1#32) (constantI S_ 32 4294967295#32))) =
    both (fun _ => 0#32) (fun _ => 1#32) :=
  congrArg₂ both (funext fun _ => (by decide +kernel : IntOp.shrui .host 1#32 32#32 = 0#32)) (funext fun _ => (by decide +kernel : 1#32 &&& 4294967295#32 = 1#32))

section
variable (W : Valuation τ sig (Elt F))

theorem f_k0' : fAt W 0 (Proc.devRef .tc main_call0_v6) =
    shapeCast S_ (extractStridedSlice S1 ![0] (W (Proc.devRef .tc main_v38)) slices_S2_S1_0) shapeCasts_S1_S_ := by
  unfold fAt groups hostOps1_1
  simp only [List.take_succ_cons, List.take_zero]
  after_results <;> rfl

theorem f_k1' : fAt W 0 (Proc.devRef .tc main_call0_v8) =
    shapeCast S_ (extractStridedSlice S1 ![1] (W (Proc.devRef .tc main_v38)) slices_S2_S1_1) shapeCasts_S1_S_ := by
  unfold fAt groups hostOps1_1
  simp only [List.take_succ_cons, List.take_zero]
  after_results <;> rfl

theorem f_k2' : fAt W 0 (Proc.devRef .tc main_call0_call0_v1) =
    xori (xori (shapeCast S_ (extractStridedSlice S1 ![0] (W (Proc.devRef .tc main_v38)) slices_S2_S1_0) shapeCasts_S1_S_)
      (shapeCast S_ (extractStridedSlice S1 ![1] (W (Proc.devRef .tc main_v38)) slices_S2_S1_1) shapeCasts_S1_S_)) (constantI S_ 32 466688986#32) := by
  unfold fAt groups hostOps1_1
  simp only [List.take_succ_cons, List.take_zero]
  after_results <;> rfl

theorem f_x0' : fAt W 0 (Proc.devRef .tc main_call0_call0_v3) =
    addi (extractStridedSlice S1 ![0] (both (b1 (Host.shrui (W (Proc.devRef .tc main_c_8)) (constantI S_ 32 32#32)))
      (b1 (andi (W (Proc.devRef .tc main_c_8)) (constantI S_ 32 4294967295#32)))) slices_S2_S1_0)
      (b1 (shapeCast S_ (extractStridedSlice S1 ![0] (W (Proc.devRef .tc main_v38)) slices_S2_S1_0) shapeCasts_S1_S_)) := by
  unfold fAt groups hostOps1_1
  simp only [List.take_succ_cons, List.take_zero]
  after_results <;> rfl

theorem f_x1' : fAt W 0 (Proc.devRef .tc main_call0_call0_v5) =
    addi (extractStridedSlice S1 ![1] (both (b1 (Host.shrui (W (Proc.devRef .tc main_c_8)) (constantI S_ 32 32#32)))
      (b1 (andi (W (Proc.devRef .tc main_c_8)) (constantI S_ 32 4294967295#32)))) slices_S2_S1_1)
      (b1 (shapeCast S_ (extractStridedSlice S1 ![1] (W (Proc.devRef .tc main_v38)) slices_S2_S1_1) shapeCasts_S1_S_)) := by
  unfold fAt groups hostOps1_1
  simp only [List.take_succ_cons, List.take_zero]
  after_results <;> rfl

theorem f_end (W : Valuation τ sig (Elt F)) : StableHlo.after (hostOps1_1.drop 235) W (Proc.devRef .tc main_v39) =
    both (W (Proc.devRef .tc main_call0_v11_0)) (W (Proc.devRef .tc main_call0_v11_1)) := by
  unfold hostOps1_1
  simp only [List.drop_succ_cons, List.drop_zero]
  after_results <;> rfl

/-- The key, as two numbers. -/
theorem folded (hs : W (Proc.devRef .tc main_v38) = both (fun _ => 0#32) (fun _ => 42#32)) (hw : W (Proc.devRef .tc main_c_8) = constantI S_ 32 1#32) :
    StableHlo.after hostOps1_1 W (Proc.devRef .tc main_v39) = both (fun _ => 64467757#32) (fun _ => 2916123636#32) := by
  have e0 : fAt W 0 (Proc.devRef .tc main_call0_v6) = fun _ => 0#32 := by rw [f_k0', hs, both_0]; rfl
  have e1 : fAt W 0 (Proc.devRef .tc main_call0_v8) = fun _ => 42#32 := by rw [f_k1', hs, both_1]; rfl
  have e2 : fAt W 0 (Proc.devRef .tc main_call0_call0_v1) = fun _ => 466689008#32 := by
    rw [f_k2', hs, both_0, both_1]
    exact funext fun _ => (by decide +kernel : 0#32 ^^^ 42#32 ^^^ 466688986#32 = 466689008#32)
  have e3 : fAt W 0 (Proc.devRef .tc main_call0_call0_v3) = fun _ => 0#32 := by
    rw [f_x0', hs, hw, both_0, stream_eq, slice_0]
    exact funext fun _ => (by decide +kernel : 0#32 + 0#32 = 0#32)
  have e4 : fAt W 0 (Proc.devRef .tc main_call0_call0_v5) = fun _ => 43#32 := by
    rw [f_x1', hs, hw, both_1, stream_eq, slice_1]
    exact funext fun _ => (by decide +kernel : 1#32 + 42#32 = 43#32)
  have h := f_cipher W
  rw [e0, e1, e2, e3, e4] at h
  have h := h.trans word
  rw [f_after, f_end]
  exact congrArg₂ both (Prod.ext_iff.mp h).1 (Prod.ext_iff.mp h).2

end

/-! ## The noise -/

/-- The pair of words the random bits are the cipher of: nothing and the position, each with a word of the key added. -/
def start : Words S2x4096 :=
  (addi (u2 0#32) (u2 64467757#32), addi (addi (muli (iotaInDim S2x4096 32 0) (u2 4096#32)) (iotaInDim S2x4096 32 1)) (u2 2916123636#32))

/-- Gumbel noise of a pair of random words. -/
def gumbel (x : Words S2x4096) : FVec F S2x4096 .f32 :=
  Host.negf (Host.log (Host.negf (Host.log (maximumf (broadcastInDim S2x4096 ![] bcast_S_S2x4096 (constant S_ .f32 0x00800000#32))
    (addf (mulf (subf (bitcastToFloat (F := F) .f32 (ori (Host.shrui (xori x.1 x.2) (u2 9#32)) (u2 1065353216#32)))
      (broadcastInDim S2x4096 ![] bcast_S_S2x4096 (constant S_ .f32 0x3F800000#32)))
      (broadcastInDim S2x4096 ![] bcast_S_S2x4096 (subf (constant S_ .f32 0x3F800000#32) (constant S_ .f32 0x00800000#32))))
      (broadcastInDim S2x4096 ![] bcast_S_S2x4096 (constant S_ .f32 0x00800000#32)))))))

/-- The noise of every point. -/
def noise : FVec F S2x4096 .f32 := gumbel (cipher u2 b2 (fun _ => 64467757#32) (fun _ => 2916123636#32) (fun _ => 3050711811#32) start)

/-- A point's position among all, in 64 bits. -/
abbrev place : IVec S2x4096 64 :=
  addi (muli (broadcastInDim S2x4096 ![] bcast_S_S2x4096 (constantI S_ 64 4096#64)) (iotaInDim S2x4096 64 0))
    (muli (broadcastInDim S2x4096 ![] bcast_S_S2x4096 (constantI S_ 64 1#64)) (iotaInDim S2x4096 64 1))

theorem place_apply (j : S2x4096.Idx) : place j = BitVec.ofNat 64 ((j 0).val * 4096 + (j 1).val) := by
  show 4096#64 * BitVec.ofNat 64 (j 0).val + 1#64 * BitVec.ofNat 64 (j 1).val = _
  have h0 : (j 0).val < 2 := (j 0).isLt
  have h1 : (j 1).val < 4096 := (j 1).isLt
  apply BitVec.eq_of_toNat_eq
  simp only [BitVec.toNat_add, BitVec.toNat_mul, BitVec.toNat_ofNat]
  omega

theorem high : trunci 32 (Host.shrui place (broadcastInDim S2x4096 ![] bcast_S_S2x4096 (constantI S_ 64 32#64))) natLt_32_64 = u2 0#32 := by
  funext j
  show BitVec.setWidth 32 (IntOp.shrui .host (place j) 32#64) = 0#32
  rw [place_apply]
  have h0 : (j 0).val < 2 := (j 0).isLt
  have h1 : (j 1).val < 4096 := (j 1).isLt
  unfold IntOp.shrui
  rw [if_pos (by decide)]
  apply BitVec.eq_of_toNat_eq
  rw [BitVec.toNat_setWidth, BitVec.ushiftRight_eq', BitVec.toNat_ushiftRight, BitVec.toNat_ofNat, Nat.shiftRight_eq_div_pow]
  show _ / 2 ^ 32 % 2 ^ 32 = 0
  omega

theorem low : trunci 32 place natLt_32_64 = addi (muli (iotaInDim S2x4096 32 0) (u2 4096#32)) (iotaInDim S2x4096 32 1) := by
  funext j
  show BitVec.setWidth 32 (place j) = BitVec.ofNat 32 (j 0).val * 4096#32 + BitVec.ofNat 32 (j 1).val
  rw [place_apply]
  have h0 : (j 0).val < 2 := (j 0).isLt
  have h1 : (j 1).val < 4096 := (j 1).isLt
  apply BitVec.eq_of_toNat_eq
  simp only [BitVec.toNat_setWidth, BitVec.toNat_add, BitVec.toNat_mul, BitVec.toNat_ofNat]
  omega

section
variable (W : Valuation τ sig (Elt F))

theorem g_k0' : gAt W 0 (Proc.devRef .tc main_call1_call0_v4) =
    shapeCast S_ (extractStridedSlice S1 ![0] (W (Proc.devRef .tc main_v39)) slices_S2_S1_0) shapeCasts_S1_S_ := by
  unfold gAt groups hostOps1_2
  simp only [List.take_succ_cons, List.take_zero]
  after_results <;> rfl

theorem g_k1' : gAt W 0 (Proc.devRef .tc main_call1_call0_v6) =
    shapeCast S_ (extractStridedSlice S1 ![1] (W (Proc.devRef .tc main_v39)) slices_S2_S1_1) shapeCasts_S1_S_ := by
  unfold gAt groups hostOps1_2
  simp only [List.take_succ_cons, List.take_zero]
  after_results <;> rfl

theorem g_k2' : gAt W 0 (Proc.devRef .tc main_call1_call0_call0_v1) =
    xori (xori (shapeCast S_ (extractStridedSlice S1 ![0] (W (Proc.devRef .tc main_v39)) slices_S2_S1_0) shapeCasts_S1_S_)
      (shapeCast S_ (extractStridedSlice S1 ![1] (W (Proc.devRef .tc main_v39)) slices_S2_S1_1) shapeCasts_S1_S_)) (constantI S_ 32 466688986#32) := by
  unfold gAt groups hostOps1_2
  simp only [List.take_succ_cons, List.take_zero]
  after_results <;> rfl

theorem g_x0' : gAt W 0 (Proc.devRef .tc main_call1_call0_call0_v3) =
    addi (trunci 32 (Host.shrui place (broadcastInDim S2x4096 ![] bcast_S_S2x4096 (constantI S_ 64 32#64))) natLt_32_64)
      (b2 (shapeCast S_ (extractStridedSlice S1 ![0] (W (Proc.devRef .tc main_v39)) slices_S2_S1_0) shapeCasts_S1_S_)) := by
  unfold gAt groups hostOps1_2
  simp only [List.take_succ_cons, List.take_zero]
  after_results <;> rfl

theorem g_x1' : gAt W 0 (Proc.devRef .tc main_call1_call0_call0_v5) =
    addi (trunci 32 place natLt_32_64)
      (b2 (shapeCast S_ (extractStridedSlice S1 ![1] (W (Proc.devRef .tc main_v39)) slices_S2_S1_1) shapeCasts_S1_S_)) := by
  unfold gAt groups hostOps1_2
  simp only [List.take_succ_cons, List.take_zero]
  after_results <;> rfl

theorem g_least : gAt W 0 (Proc.devRef .tc main_call1_call0_v1) = broadcastInDim S1x1 ![] bcast_S_S1x1 (constant S_ .f32 0x00800000#32) := by
  unfold gAt groups hostOps1_2
  simp only [List.take_succ_cons, List.take_zero]
  after_results <;> rfl

theorem g_one : gAt W 0 (Proc.devRef .tc main_call1_call0_v2) = broadcastInDim S1x1 ![] bcast_S_S1x1 (constant S_ .f32 0x3F800000#32) := by
  unfold gAt groups hostOps1_2
  simp only [List.take_succ_cons, List.take_zero]
  after_results <;> rfl

theorem g_end (hl : W (Proc.devRef .tc main_call1_call0_v1) = broadcastInDim S1x1 ![] bcast_S_S1x1 (constant S_ .f32 0x00800000#32))
    (ho : W (Proc.devRef .tc main_call1_call0_v2) = broadcastInDim S1x1 ![] bcast_S_S1x1 (constant S_ .f32 0x3F800000#32)) :
    StableHlo.after (hostOps1_2.drop 245) W (Proc.devRef .tc main_v40) =
      gumbel (F := F) (W (Proc.devRef .tc main_call1_call0_v18_0), W (Proc.devRef .tc main_call1_call0_v18_1)) := by
  unfold hostOps1_2
  simp only [List.drop_succ_cons, List.drop_zero]
  after_results
  first
    | (rw [hl, ho]; rfl)
    | (simp only [hl, ho]; rfl)

/-- What the generation leaves at that key. -/
theorem generated (hk : W (Proc.devRef .tc main_v39) = both (fun _ => 64467757#32) (fun _ => 2916123636#32)) :
    StableHlo.after hostOps1_2 W (Proc.devRef .tc main_v40) = noise (F := F) := by
  have e0 : gAt W 0 (Proc.devRef .tc main_call1_call0_v4) = fun _ => 64467757#32 := by rw [g_k0', hk, both_0]; rfl
  have e1 : gAt W 0 (Proc.devRef .tc main_call1_call0_v6) = fun _ => 2916123636#32 := by rw [g_k1', hk, both_1]; rfl
  have e2 : gAt W 0 (Proc.devRef .tc main_call1_call0_call0_v1) = fun _ => 3050711811#32 := by
    rw [g_k2', hk, both_0, both_1]
    exact funext fun _ => (by decide +kernel : 64467757#32 ^^^ 2916123636#32 ^^^ 466688986#32 = 3050711811#32)
  have e3 : gAt W 0 (Proc.devRef .tc main_call1_call0_call0_v3) = start.1 := by
    rw [g_x0', hk, both_0, high]
    rfl
  have e4 : gAt W 0 (Proc.devRef .tc main_call1_call0_call0_v5) = start.2 := by
    rw [g_x1', hk, both_1, low]
    rfl
  have h := g_cipher W
  rw [e0, e1, e2, e3, e4] at h
  rw [g_after, g_end _ ((g_main_call1_call0_v1 W).trans (g_least W)) ((g_main_call1_call0_v2 W).trans (g_one W))]
  exact congrArg gumbel h

end

end Cert.KernelIdeal.Noise

end
-- ==== Proof.WholeClaim.lean ====
/-
  The value claim: over the extended reals, at points whose coordinates are at most 1e14 in magnitude, the points the kernel
  samples and their indices are the reference's.
-/
module

public import proofs.«01_k».proof.Defs
public import proofs.«01_k».proof.Proof.ScoreValue
public import proofs.«01_k».proof.Proof.RefScore
public import proofs.«01_k».proof.Proof.SampleValue
public import proofs.«01_k».proof.Proof.Noise
public import Idealize.ShloMosaic.Lib.ReduceAll
public import Idealize.ShloMosaic.Lib.Quiescent

@[expose] public section

set_option maxRecDepth 4096

noncomputable section

/-! ## The kernel's host code -/

namespace Cert.KernelIdeal.Whole

open Idealize.ShloMosaic hiding ix1 ix2 ix3 ix4 tan cos sin
open Idealize.ShloMosaic.TcCoe Idealize.SL.Sem Cert.KernelIdeal Cert.KernelIdeal.Gen Idealize.ShloMosaic.ValueIdx Cert.Angles Cert.Points
open Idealize.ShloMosaic.StableHlo

section
variable {F : FTy → Type} [FloatOps F]

/-- The probabilities: at radii `r` and complexities `cx`. -/
def prob (r cx : FVec F S2x4096 .f32) (α β γ : FVec F S_ .f32) : FVec F S2x4096 .f32 :=
  Host.divf (broadcastInDim S2x4096 ![] bcast_S_S2x4096 (constant S_ .f32 0x3F800000#32)) (addf (broadcastInDim S2x4096 ![] bcast_S_S2x4096 (constant S_ .f32 0x3F800000#32)) (Host.exp (Host.negf (addf (addf (mulf (broadcastInDim S2x4096 ![] bcast_S_S2x4096 α) (Host.log (addf (Host.divf (broadcastInDim S2x4096 ![] bcast_S_S2x4096 (constant S_ .f32 0x41800000#32)) (mulf (broadcastInDim S2x4096 ![] bcast_S_S2x4096 (constant S_ .f32 0x40860A92#32)) (addf (mulf (mulf r r) r) (broadcastInDim S2x4096 ![] bcast_S_S2x4096 (constant S_ .f32 0x322BCC77#32))))) (broadcastInDim S2x4096 ![] bcast_S_S2x4096 (constant S_ .f32 0x322BCC77#32))))) (mulf (broadcastInDim S2x4096 ![] bcast_S_S2x4096 β) cx)) (broadcastInDim S2x4096 ![] bcast_S_S2x4096 γ)))))

/-- The keys of the selection: the logarithm of the probability, perturbed. -/
def keys (r cx noise : FVec F S2x4096 .f32) (α β γ : FVec F S_ .f32) : FVec F S2x4096 .f32 :=
  addf (Host.log (addf (prob r cx α β γ) (broadcastInDim S2x4096 ![] bcast_S_S2x4096 (constant S_ .f32 0x2B8CBCCC#32)))) noise

theorem after_prob (W : Valuation τ sig (Elt F)) : StableHlo.after hostOps1 W (Proc.devRef .tc main_v31) =
    prob (Host.sqrt (shapeCast S2x4096 (W (Proc.devRef .tc main_v4_0)) shapeCasts_S2x4096x1_S2x4096))
      (shapeCast S2x4096 (W (Proc.devRef .tc main_v4_1)) shapeCasts_S2x4096x1_S2x4096) (W (Proc.devRef .tc main_arg1))
      (W (Proc.devRef .tc main_arg2)) (W (Proc.devRef .tc main_arg3)) := by
  unfold hostOps1
  after_results <;> rfl

theorem after_perturbed (W : Valuation τ sig (Elt F)) : StableHlo.after hostOps1_3 W (Proc.devRef .tc main_v45) =
    shapeCast S2x1x4096 (addf (Host.log (addf (W (Proc.devRef .tc main_v31)) (broadcastInDim S2x4096 ![] bcast_S_S2x4096 (constant S_ .f32 0x2B8CBCCC#32)))) (W (Proc.devRef .tc main_v40))) shapeCasts_S2x4096_S2x1x4096 := by
  unfold hostOps1_3
  after_results <;> rfl

theorem after_points (W : Valuation τ sig (Elt F)) : StableHlo.after hostOps2 W (Proc.devRef .tc main_v48) =
    transpose S2x1024x3 [0, 2, 1] (W (Proc.devRef .tc main_v46_1)) transposes_S2x3x1024_S2x1024x3_0_2_1 := by
  unfold hostOps2
  after_results <;> rfl

theorem after_indices (W : Valuation τ sig (Elt F)) : StableHlo.after hostOps2 W (Proc.devRef .tc main_v47) =
    shapeCast S2x1024 (W (Proc.devRef .tc main_v46_0)) shapeCasts_S2x1x1024_S2x1024 := by
  unfold hostOps2
  after_results <;> rfl

end

variable (m : (ℓ : Loc nD τ sig) → Buf (Elt Ideal) ℓ) (ρ : Dev nD → PrngReg) (c : Dev nD)

/-- The kernel's radii. -/
def radii : FVec Ideal S2x4096 .f32 := Host.sqrt (shapeCast S2x4096 ((dat0 (V1 m ρ) c).arrAt 3 cfg0.N) shapeCasts_S2x4096x1_S2x4096)

/-- The kernel's complexities. -/
def scores : FVec Ideal S2x4096 .f32 := shapeCast S2x4096 ((dat0 (V1 m ρ) c).arrAt 4 cfg0.N) shapeCasts_S2x4096x1_S2x4096

/-- The kernel's keys. -/
def allKeys : FVec Ideal S2x4096 .f32 :=
  keys (radii m ρ c) (scores m ρ c) Noise.noise (m ((c : Thread nD τ).loc main_arg1)) (m ((c : Thread nD τ).loc main_arg2))
    (m ((c : Thread nD τ).loc main_arg3))

/-- The noise the second call's keys are perturbed by. -/
theorem W5_noise : W5 m ρ c (Proc.devRef .tc main_v40) = Noise.noise (F := Ideal) :=
  Noise.generated (W4 m ρ c) (Noise.folded (W3 m ρ c) ((Noise.after_seed (W2 m ρ c)).trans Noise.seed_eq) (Noise.after_word (W2 m ρ c)))

theorem W5_prob : W5 m ρ c (Proc.devRef .tc main_v31) = prob (radii m ρ c) (scores m ρ c) (m ((c : Thread nD τ).loc main_arg1))
    (m ((c : Thread nD τ).loc main_arg2)) (m ((c : Thread nD τ).loc main_arg3)) := by
  refine (W5_of m ρ c main_v31 (by decide +kernel)).trans ((W4_of m ρ c main_v31 (by decide +kernel)).trans ((after_prob (W2 m ρ c)).trans ?_))
  have e3 : W2 m ρ c (Proc.devRef .tc main_v4_0) = (dat0 (V1 m ρ) c).arrAt 3 cfg0.N := W2_arr m ρ c 3
  have e4 : W2 m ρ c (Proc.devRef .tc main_v4_1) = (dat0 (V1 m ρ) c).arrAt 4 cfg0.N := W2_arr m ρ c 4
  rw [e3, e4, W2_args m ρ c main_arg1 (by decide), W2_args m ρ c main_arg2 (by decide), W2_args m ρ c main_arg3 (by decide)]
  rfl

theorem V6_keys : V6 m ρ c main_v45 = shapeCast S2x1x4096 (allKeys m ρ c) shapeCasts_S2x4096_S2x1x4096 := by
  refine (after_perturbed (W5 m ρ c)).trans ?_
  rw [W5_prob, W5_noise]
  rfl

theorem V6_pts : V6 m ρ c main_v0 = transpose S2x3x4096 [0, 2, 1] (m ((c : Thread nD τ).loc main_arg0)) transposes_S2x4096x3_S2x3x4096_0_2_1 :=
  (W6_of m ρ c main_v0 (by decide)).trans <| (W5_of m ρ c main_v0 (by decide +kernel)).trans <| (W4_of m ρ c main_v0 (by decide +kernel)).trans <|
    (W3_of m ρ c main_v0 (by decide)).trans ((W2_of m ρ c main_v0 (by decide)).trans (Score.V_all m ρ c))

theorem points_apply (b : Fin 2) (r : Fin 1024) (a : Fin 3) : W8 m ρ c (Proc.devRef .tc main_v48) (ix3 b r a) =
    m ((c : Thread nD τ).loc main_arg0) (ix3 b (Sort.pos (Sort.keyRow (allKeys m ρ c) b) (Sort.up r)) a) := by
  refine (congrFun (after_points (W7 m ρ c)) (ix3 b r a)).trans ?_
  refine (transpose_apply _ _ _ _ (ix3 b a r) (fun d => by
    match d with
    | ⟨0, _⟩ => rfl
    | ⟨1, _⟩ => rfl
    | ⟨2, _⟩ => rfl)).trans ?_
  exact (congrFun (W7_arr m ρ c 3) (ix3 b a r)).trans (Sort.final_pts (V6 m ρ) c _ (V6_keys m ρ c) _ (V6_pts m ρ c) b a r)

theorem indices_apply (b : Fin 2) (r : Fin 1024) : W8 m ρ c (Proc.devRef .tc main_v47) (ix2 b r) =
    BitVec.ofNat 32 (Sort.pos (Sort.keyRow (allKeys m ρ c) b) (Sort.up r)).val := by
  refine (congrFun (after_indices (W7 m ρ c)) (ix2 b r)).trans ?_
  refine (shapeCast_apply _ _ _ (ix3 b (0 : Fin 1) r) (by
    rw [rowMajor_val2 _ 1024 rfl, rowMajor_val3 _ 1024 1024 rfl rfl]
    show b.val * 1024 + 0 * 1024 + r.val = b.val * 1024 + r.val
    omega)).trans ?_
  exact (congrFun (W7_arr m ρ c 2) (ix3 b (0 : Fin 1) r)).trans (Sort.final_idx (V6 m ρ) c _ (V6_keys m ρ c) b r)

theorem flat (x : S2x4096x1.Idx → EReal) (b : Fin 2) (i : Fin 4096) : shapeCast S2x4096 x shapeCasts_S2x4096x1_S2x4096 (ix2 b i) = x (ix3 b i (0 : Fin 1)) :=
  shapeCast_apply _ _ _ _ (by
    rw [rowMajor_val2 _ 4096 rfl, rowMajor_val3 _ 4096 1 rfl rfl]
    show b.val * 4096 + i.val * 1 + 0 = b.val * 4096 + i.val
    omega)

theorem row_of (i : Fin 4096) : ∃ (q : Fin 16) (r : Fin 256), i = Score.row q r :=
  ⟨⟨i.val / 256, by omega⟩, ⟨i.val % 256, by omega⟩, Fin.ext (by show i.val = i.val / 256 * 256 + i.val % 256; omega)⟩

section
variable (P : Fin 2 → Fin 4096 → Fin 3 → ℝ) (hP : ∀ b i a, m ((c : Thread nD τ).loc main_arg0) (ix3 b i a) = ((P b i a : ℝ) : EReal))
  (hB : ∀ b i j, ((far (P b i) (P b j) : ℝ) : EReal) < Score.great)
include hP hB

theorem radii_apply (b : Fin 2) (i : Fin 4096) :
    radii m ρ c (ix2 b i) = ((√(far (P b i) (P b (order (P b i) (P b) (16 : Fin 4096)))) : ℝ) : EReal) := by
  obtain ⟨q, r, rfl⟩ := row_of i
  exact (congrArg Ideal.sqrt ((flat _ b _).trans (Score.final_radius m ρ c P hP hB b q r))).trans (sqrt_real _ (far_nonneg _ _))

theorem scores_apply (b : Fin 2) (i : Fin 4096) :
    scores m ρ c (ix2 b i) = score (P b i) (P b) (fun a => m ((c : Thread nD τ).loc main_arg4) (ix1 a)) := by
  obtain ⟨q, r, rfl⟩ := row_of i
  exact (flat _ b _).trans (Score.final_score m ρ c P hP hB b q r)

end

end Cert.KernelIdeal.Whole

/-! ## The reference's keys -/

namespace Cert.ReferenceIdeal.Whole

open Idealize.ShloMosaic hiding ix1 ix2 ix3 ix4 tan cos sin
open Idealize.ShloMosaic.TcCoe Cert.ReferenceIdeal Cert.ReferenceIdeal.Gen Cert.ReferenceIdeal.Value Idealize.ShloMosaic.StableHlo
open Idealize.ShloMosaic.ValueIdx

variable (V0 : Valuation τ sig (Elt Ideal))

/-- The reference's complexities. -/
def scores : FVec Ideal S2x4096 .f32 :=
  addf (addf (mulf (broadcastInDim S2x4096 ![] bcast_S_S2x4096 (shapeCast _ (extractStridedSlice S1 ![0] (V0 (Proc.devRef .tc main_arg4)) slices_S3_S1_0) shapeCasts_S1_S_)) (Host.divf (subf (res_main_v1020 V0) (res_main_v1022 V0)) (res_main_v1018 V0))) (mulf (broadcastInDim S2x4096 ![] bcast_S_S2x4096 (shapeCast _ (extractStridedSlice S1 ![1] (V0 (Proc.devRef .tc main_arg4)) slices_S3_S1_1) shapeCasts_S1_S_)) (Host.divf (subf (res_main_v1018 V0) (res_main_v1020 V0)) (res_main_v1018 V0)))) (mulf (broadcastInDim S2x4096 ![] bcast_S_S2x4096 (shapeCast _ (extractStridedSlice S1 ![2] (V0 (Proc.devRef .tc main_arg4)) slices_S3_S1_2) shapeCasts_S1_S_)) (Host.divf (res_main_v1022 V0) (res_main_v1018 V0)))

/-! The reference's rounds are the cipher's, group by group. -/

section
open Cert.KernelIdeal.Noise

theorem group_0 : odd u2 1#32 (b2 fun _ => 2916123636#32) (b2 fun _ => 3050711811#32) start =
    (addi (res_main_v1100 V0) (u2 2916123636#32), res_main_v1112 V0) := rfl

theorem group_1 : even u2 2#32 (b2 fun _ => 3050711811#32) (b2 fun _ => 64467757#32) (addi (res_main_v1100 V0) (u2 2916123636#32), res_main_v1112 V0) =
    (addi (res_main_v1134 V0) (u2 3050711811#32), res_main_v1146 V0) := rfl

theorem group_2 : odd u2 3#32 (b2 fun _ => 64467757#32) (b2 fun _ => 2916123636#32) (addi (res_main_v1134 V0) (u2 3050711811#32), res_main_v1146 V0) =
    (addi (res_main_v1168 V0) (u2 64467757#32), res_main_v1180 V0) := rfl

theorem group_3 : even u2 4#32 (b2 fun _ => 2916123636#32) (b2 fun _ => 3050711811#32) (addi (res_main_v1168 V0) (u2 64467757#32), res_main_v1180 V0) =
    (addi (res_main_v1202 V0) (u2 2916123636#32), res_main_v1214 V0) := rfl

theorem noise_eq : noise (F := Ideal) = gumbel (odd u2 5#32 (b2 fun _ => 3050711811#32) (b2 fun _ => 64467757#32) (addi (res_main_v1202 V0) (u2 2916123636#32), res_main_v1214 V0)) := by
  unfold noise cipher
  rw [group_0 V0, group_1 V0, group_2 V0, group_3 V0]

theorem keys_eq : res_main_v1271 V0 = Cert.KernelIdeal.Whole.keys (F := Ideal) (res_main_v1044 V0) (scores V0) noise
    (V0 (Proc.devRef .tc main_arg1)) (V0 (Proc.devRef .tc main_arg2)) (V0 (Proc.devRef .tc main_arg3)) := by
  rw [noise_eq V0]
  rfl

end

theorem wrapped (v w : BitVec 32) (n : Fin 4096) (h : v = BitVec.ofNat 32 n.val) : Scalar.select (IntOp.cmpi .slt v 0#32) w v = BitVec.ofNat 32 n.val := by
  subst h
  have : IntOp.cmpi .slt (BitVec.ofNat 32 n.val) 0#32 = 0#1 := by
    show BitVec.ofBool ((BitVec.ofNat 32 n.val).slt (BitVec.ofNat 32 (0 : Fin 4096).val)) = _
    rw [Cert.KernelIdeal.Sort.slt_ofNat]
    rw [decide_eq_false (by simp)]
    rfl
  rw [this]
  rfl

theorem indices_apply (b : Fin 2) (r : Fin 1024) : res_main_indices V0 (ix2 b r) =
    BitVec.ofNat 32 (Cert.KernelIdeal.Sort.pos (Cert.KernelIdeal.Sort.keyRow (res_main_v1271 V0) b) (Cert.KernelIdeal.Sort.up r)).val :=
  Sampled.topK_apply (res_main_v1271 V0) sliceFits_S2x4096_S2x1024 b r

end Cert.ReferenceIdeal.Whole

namespace Cert.Proof.Whole

open Idealize.ShloMosaic hiding ix1 ix2 ix3 ix4 tan cos sin
open Idealize.ShloMosaic.TcCoe Idealize.SL.Sem Idealize.ShloMosaic.ValueIdx Cert.Angles Cert.Points

/-! ## The precondition -/

theorem bits_limit : Ideal.ofBits .f32 0x56B5E621#32 = ((100000000376832 : ℝ) : EReal) := by
  simp [Ideal.ofBits, Ideal.ieee, -EReal.coe_mul]; norm_num

theorem bits_great : Cert.KernelIdeal.Score.great = ((13234890 * 2 ^ 76 : ℝ) : EReal) := by
  show Ideal.ofBits .f32 0x7149F2CA#32 = _
  simp [Ideal.ofBits, Ideal.ieee, -EReal.coe_mul]

theorem facts_moderate : Cert.Pre_moderate.Facts where
  bcast_S_S2x4096x3 := by decide
  reducesTo_S2x4096x3_S_d0_1_2 := by decide
  h_S_ := by decide

instance : Subsingleton Cert.Pre_moderate.S_.Idx := ⟨fun a b => funext fun d => Fin.elim0 d⟩

theorem moderate_apply [Cert.Pre_moderate.Facts] (x : FVec Ideal Cert.Pre_moderate.S2x4096x3 .f32) (α β γ : FVec Ideal Cert.Pre_moderate.S_ .f32)
    (w : FVec Ideal Cert.Pre_moderate.S3 .f32) (h : Cert.Pre_moderate.fn (F := Ideal) x α β γ w = fun _ => 1#1) (j : Cert.Pre_moderate.S2x4096x3.Idx) :
    max (x j : EReal) (-(x j : EReal)) ≤ ((100000000376832 : ℝ) : EReal) := by
  have e := congrFun h (fun d => Fin.elim0 d)
  unfold Cert.Pre_moderate.fn at e
  dsimp only at e
  have k := Host.reduce_andi_all _ _ _ _ _ e j
  have k : BitVec.ofBool (decide (max (x j : EReal) (-(x j : EReal)) ≤ Ideal.ofBits .f32 0x56B5E621#32)) = 1#1 := k
  rw [bits_limit] at k
  by_contra hn
  rw [decide_eq_false hn] at k
  exact absurd k (by decide)

theorem real_of_le (x : EReal) (B : ℝ) (h : max x (-x) ≤ (B : EReal)) : x = ((x.toReal : ℝ) : EReal) ∧ |x.toReal| ≤ B := by
  have h1 : x ≤ B := (le_max_left _ _).trans h
  have h2 : -x ≤ B := (le_max_right _ _).trans h
  have e : x = ((x.toReal : ℝ) : EReal) := by
    refine (EReal.coe_toReal ?_ ?_).symm
    · rintro rfl; exact absurd h1 (not_le.mpr (EReal.coe_lt_top B))
    · rintro rfl; rw [EReal.neg_bot] at h2; exact absurd h2 (not_le.mpr (EReal.coe_lt_top B))
  refine ⟨e, ?_⟩
  rw [e, abs_real, EReal.coe_le_coe_iff] at h
  simpa using h

theorem far_lt (p q : Fin 3 → ℝ) (hp : ∀ a, |p a| ≤ 100000000376832) (hq : ∀ a, |q a| ≤ 100000000376832) :
    ((far p q : ℝ) : EReal) < Cert.KernelIdeal.Score.great := by
  rw [bits_great, EReal.coe_lt_coe_iff]
  exact (far_le p q _ hp hq).trans_lt (by norm_num)

/-- Moderate points are real, and none of their squared distances reaches the mark. -/
theorem points_real [Cert.Pre_moderate.Facts] (x : FVec Ideal Cert.Pre_moderate.S2x4096x3 .f32) (α β γ : FVec Ideal Cert.Pre_moderate.S_ .f32)
    (w : FVec Ideal Cert.Pre_moderate.S3 .f32) (h : Cert.Pre_moderate.fn (F := Ideal) x α β γ w = fun _ => 1#1) : ∃ P : Fin 2 → Fin 4096 → Fin 3 → ℝ, (∀ b i a, x (ix3 b i a) = ((P b i a : ℝ) : EReal)) ∧
      ∀ b i j, ((far (P b i) (P b j) : ℝ) : EReal) < Cert.KernelIdeal.Score.great := by
  have hr := fun (b : Fin 2) (i : Fin 4096) (a : Fin 3) => real_of_le (x (ix3 b i a)) _ (moderate_apply x α β γ w h (ix3 b i a))
  exact ⟨fun b i a => (x (ix3 b i a) : EReal).toReal, fun b i a => (hr b i a).1, fun b i j => far_lt _ _ (fun a => (hr b i a).2) (fun a => (hr b j a).2)⟩

/-! ## The claim -/

theorem algebraic [hPre : Cert.Pre_moderate.Facts] : Cert.algebraic_KernelIdeal_ReferenceIdeal_pre_moderate := by
  intro m ρ m' ρ' hpre hagree
  refine ⟨fun c => Cert.KernelIdeal.Gen.W8 m ρ c (Proc.devRef .tc Cert.KernelIdeal.main_v48),
    fun c => Cert.KernelIdeal.Gen.W8 m ρ c (Proc.devRef .tc Cert.KernelIdeal.main_v47), Cert.KernelIdeal.Blocks.run m ρ, ?_⟩
  refine (θ_run Cert.ReferenceIdeal.defs _ _).mono (fun _ h c => ?_) (Cert.ReferenceIdeal.Value.run (F := Ideal) m' ρ')
  obtain ⟨h7, h8, h0⟩ := h c
  obtain ⟨P, hP, hB⟩ := points_real _ _ _ _ _ (hpre c)
  obtain ⟨a0, a1, a2, a3, a4⟩ := hagree c
  have hQ : ∀ b i a, Cert.ReferenceIdeal.Score.pts (StableHlo.launchContents m' c) (ix3 b i a) = ((P b i a : ℝ) : EReal) :=
    fun b i a => (congrFun a0 (ix3 b i a)).trans (hP b i a)
  have er : Cert.ReferenceIdeal.Value.res_main_v1044 (StableHlo.launchContents m' c) = Cert.KernelIdeal.Whole.radii m ρ c := by
    funext j
    obtain ⟨b, i, rfl⟩ : ∃ (b : Fin 2) (i : Fin 4096), j = ix2 b i := ⟨j 0, j 1, ValueIdx.eq_ix2 j⟩
    exact (Cert.ReferenceIdeal.Score.radius_apply _ P hQ b i).trans (Cert.KernelIdeal.Whole.radii_apply m ρ c P hP hB b i).symm
  have ec : Cert.ReferenceIdeal.Whole.scores (StableHlo.launchContents m' c) = Cert.KernelIdeal.Whole.scores m ρ c := by
    funext j
    obtain ⟨b, i, rfl⟩ : ∃ (b : Fin 2) (i : Fin 4096), j = ix2 b i := ⟨j 0, j 1, ValueIdx.eq_ix2 j⟩
    exact (Cert.ReferenceIdeal.Score.score_apply _ P hQ _ (fun k => congrFun a4 (ix1 k)) b i).trans (Cert.KernelIdeal.Whole.scores_apply m ρ c P hP hB b i).symm
  have ek : Cert.ReferenceIdeal.Value.res_main_v1271 (StableHlo.launchContents m' c) = Cert.KernelIdeal.Whole.allKeys m ρ c := by
    rw [Cert.ReferenceIdeal.Whole.keys_eq, er, ec]
    unfold Cert.KernelIdeal.Whole.allKeys
    congr 1
  have hi := fun (b : Fin 2) (r : Fin 1024) => Cert.ReferenceIdeal.Whole.indices_apply (StableHlo.launchContents m' c) b r
  rw [ek] at hi
  refine ⟨h7.trans ?_, h8.trans ?_, h0⟩
  · funext j
    obtain ⟨b, r, a, rfl⟩ : ∃ (b : Fin 2) (r : Fin 1024) (a : Fin 3), j = ix3 b r a := ⟨j 0, j 1, j 2, ValueIdx.eq_ix3 j⟩
    refine Eq.trans ?_ (Cert.KernelIdeal.Whole.points_apply m ρ c b r a).symm
    refine (Cert.ReferenceIdeal.Sampled.gather_apply _ _ b r a _ ?_).trans (congrFun a0 _)
    refine (broadcastInDim_apply _ _ _ _ (ix2 b r) (fun a => by
      match a with
      | ⟨0, _⟩ => rfl
      | ⟨1, _⟩ => rfl)).trans ?_
    exact Cert.ReferenceIdeal.Whole.wrapped _ _ _ (hi b r)
  · funext j
    obtain ⟨b, r, rfl⟩ : ∃ (b : Fin 2) (r : Fin 1024), j = ix2 b r := ⟨j 0, j 1, ValueIdx.eq_ix2 j⟩
    exact (hi b r).trans (Cert.KernelIdeal.Whole.indices_apply m ρ c b r).symm

end Cert.Proof.Whole

end
-- ==== Proof.AloneRun.lean ====
/-
  The sampling call on its own, its run read: the named values of its run are, as in the whole program, the parts of `st n x`; so it
  leaves the first 1024 sorted positions in its first output (`out_idx`), and in its second the dot of the points with the
  one-hot matrix of those positions (`out_pts`).
-/
module

public import proofs.«01_k».proof.Proof.SortRun
public import proofs.«01_k».proof.Proof.Gen.Kernel2Ideal.Value
public import Idealize.ShloMosaic.Lib.Tactic

@[expose] public section

set_option maxRecDepth 16384

noncomputable section

namespace Cert.Kernel2Ideal.Sort

open Idealize.ShloMosaic Idealize.ShloMosaic.TcCoe Cert.Kernel2Ideal Cert.Kernel2Ideal.Gen
open Cert.KernelIdeal.Sort hiding loaded out_idx out_pts

variable {F : FTy → Type} [FloatOps F]

theorem q9 : k0_pay9 = (lowM 1) := rfl

theorem q10 : k0_pay10 = (xori (lowM 1) (lowM 2)) := rfl

theorem q29 : k0_pay29 (iota .tc S1x4096 32 [1] iota_S1x4096_d1_w32) = (lowM 1) := rfl

theorem q30 : k0_pay30 (iota .tc S1x4096 32 [1] iota_S1x4096_d1_w32) = (upM 3 1) := rfl

theorem q50 : k0_pay50 (iota .tc S1x4096 32 [1] iota_S1x4096_d1_w32) = (lowM 2) := rfl

theorem q51 : k0_pay51 (iota .tc S1x4096 32 [1] iota_S1x4096_d1_w32) = (upM 4 2) := rfl

theorem q66 : k0_pay66 = (broadcast S1x4096 1#32) := rfl

theorem q73 : k0_pay73 (iota .tc S1x4096 32 [1] iota_S1x4096_d1_w32) = (lowM 4) := rfl

theorem q74 : k0_pay74 (iota .tc S1x4096 32 [1] iota_S1x4096_d1_w32) = (upM 5 4) := rfl

theorem q87 : k0_pay87 (iota .tc S1x4096 32 [1] iota_S1x4096_d1_w32) = (andi (iota .tc S1x4096 32 [1] iota_S1x4096_d1_w32) (broadcast S1x4096 4#32)) := rfl

theorem q88 : k0_pay88 = (broadcast S1x4096 0#32) := rfl

theorem q95 : k0_pay95 (iota .tc S1x4096 32 [1] iota_S1x4096_d1_w32) = (lowM 1) := rfl

theorem q96 : k0_pay96 (iota .tc S1x4096 32 [1] iota_S1x4096_d1_w32) = (upM 5 1) := rfl

theorem q110 : k0_pay110 (iota .tc S1x4096 32 [1] iota_S1x4096_d1_w32) = (lowM 5) := rfl

theorem q111 : k0_pay111 = (broadcast S1x4096 64#32) := rfl

theorem q118 : k0_pay118 (iota .tc S1x4096 32 [1] iota_S1x4096_d1_w32) = (upM 6 4) := rfl

theorem q130 : k0_pay130 (iota .tc S1x4096 32 [1] iota_S1x4096_d1_w32) = (lowM 2) := rfl

theorem q131 : k0_pay131 (iota .tc S1x4096 32 [1] iota_S1x4096_d1_w32) = (andi (iota .tc S1x4096 32 [1] iota_S1x4096_d1_w32) (broadcast S1x4096 64#32)) := rfl

theorem q132 : k0_pay132 = (broadcast S1x4096 0#32) := rfl

theorem q139 : k0_pay139 (iota .tc S1x4096 32 [1] iota_S1x4096_d1_w32) = (upM 6 1) := rfl

theorem q154 : k0_pay154 (iota .tc S1x4096 32 [1] iota_S1x4096_d1_w32) = (lowM 6) := rfl

theorem q155 : k0_pay155 (iota .tc S1x4096 32 [1] iota_S1x4096_d1_w32) = (xori (lowM 6) (lowM 7)) := rfl

theorem q174 : k0_pay174 (iota .tc S1x4096 32 [1] iota_S1x4096_d1_w32) = (lowM 3) := rfl

theorem q175 : k0_pay175 (iota .tc S1x4096 32 [1] iota_S1x4096_d1_w32) = (upM 7 3) := rfl

theorem q195 : k0_pay195 (iota .tc S1x4096 32 [1] iota_S1x4096_d1_w32) = (lowM 0) := rfl

theorem q196 : k0_pay196 (iota .tc S1x4096 32 [1] iota_S1x4096_d1_w32) = (upM 7 0) := rfl

theorem q211 : k0_pay211 = (broadcast S1x4096 64#32) := rfl

theorem q218 : k0_pay218 (iota .tc S1x4096 32 [1] iota_S1x4096_d1_w32) = (lowM 5) := rfl

theorem q219 : k0_pay219 (iota .tc S1x4096 32 [1] iota_S1x4096_d1_w32) = (upM 8 5) := rfl

theorem q232 : k0_pay232 (iota .tc S1x4096 32 [1] iota_S1x4096_d1_w32) = (andi (iota .tc S1x4096 32 [1] iota_S1x4096_d1_w32) (broadcast S1x4096 8#32)) := rfl

theorem q233 : k0_pay233 = (broadcast S1x4096 0#32) := rfl

theorem q240 : k0_pay240 (iota .tc S1x4096 32 [1] iota_S1x4096_d1_w32) = (lowM 2) := rfl

theorem q241 : k0_pay241 (iota .tc S1x4096 32 [1] iota_S1x4096_d1_w32) = (upM 8 2) := rfl

theorem q255 : k0_pay255 (iota .tc S1x4096 32 [1] iota_S1x4096_d1_w32) = (lowM 0) := rfl

theorem q256 : k0_pay256 = (broadcast S1x4096 256#32) := rfl

theorem q263 : k0_pay263 (iota .tc S1x4096 32 [1] iota_S1x4096_d1_w32) = (upM 9 8) := rfl

theorem q275 : k0_pay275 (iota .tc S1x4096 32 [1] iota_S1x4096_d1_w32) = (lowM 6) := rfl

theorem q276 : k0_pay276 (iota .tc S1x4096 32 [1] iota_S1x4096_d1_w32) = (andi (iota .tc S1x4096 32 [1] iota_S1x4096_d1_w32) (broadcast S1x4096 512#32)) := rfl

theorem q277 : k0_pay277 = (broadcast S1x4096 0#32) := rfl

theorem q284 : k0_pay284 (iota .tc S1x4096 32 [1] iota_S1x4096_d1_w32) = (upM 9 5) := rfl

theorem q299 : k0_pay299 (iota .tc S1x4096 32 [1] iota_S1x4096_d1_w32) = (lowM 3) := rfl

theorem q300 : k0_pay300 (iota .tc S1x4096 32 [1] iota_S1x4096_d1_w32) = (xori (lowM 3) (lowM 9)) := rfl

theorem q319 : k0_pay319 (iota .tc S1x4096 32 [1] iota_S1x4096_d1_w32) = (lowM 0) := rfl

theorem q320 : k0_pay320 (iota .tc S1x4096 32 [1] iota_S1x4096_d1_w32) = (upM 9 0) := rfl

theorem q340 : k0_pay340 (iota .tc S1x4096 32 [1] iota_S1x4096_d1_w32) = (lowM 7) := rfl

theorem q341 : k0_pay341 (iota .tc S1x4096 32 [1] iota_S1x4096_d1_w32) = (upM 10 7) := rfl

theorem q356 : k0_pay356 = (broadcast S1x4096 32#32) := rfl

theorem q363 : k0_pay363 (iota .tc S1x4096 32 [1] iota_S1x4096_d1_w32) = (lowM 4) := rfl

theorem q364 : k0_pay364 (iota .tc S1x4096 32 [1] iota_S1x4096_d1_w32) = (upM 10 4) := rfl

theorem q377 : k0_pay377 (iota .tc S1x4096 32 [1] iota_S1x4096_d1_w32) = (andi (iota .tc S1x4096 32 [1] iota_S1x4096_d1_w32) (broadcast S1x4096 4#32)) := rfl

theorem q378 : k0_pay378 = (broadcast S1x4096 0#32) := rfl

theorem q385 : k0_pay385 (iota .tc S1x4096 32 [1] iota_S1x4096_d1_w32) = (lowM 1) := rfl

theorem q386 : k0_pay386 (iota .tc S1x4096 32 [1] iota_S1x4096_d1_w32) = (upM 10 1) := rfl

theorem q400 : k0_pay400 (iota .tc S1x4096 32 [1] iota_S1x4096_d1_w32) = (lowM 10) := rfl

theorem q401 : k0_pay401 = (broadcast S1x4096 2048#32) := rfl

theorem q408 : k0_pay408 (iota .tc S1x4096 32 [1] iota_S1x4096_d1_w32) = (upM 11 9) := rfl

theorem q420 : k0_pay420 (iota .tc S1x4096 32 [1] iota_S1x4096_d1_w32) = (lowM 7) := rfl

theorem q421 : k0_pay421 (iota .tc S1x4096 32 [1] iota_S1x4096_d1_w32) = (andi (iota .tc S1x4096 32 [1] iota_S1x4096_d1_w32) (broadcast S1x4096 2048#32)) := rfl

theorem q422 : k0_pay422 = (broadcast S1x4096 0#32) := rfl

theorem q429 : k0_pay429 (iota .tc S1x4096 32 [1] iota_S1x4096_d1_w32) = (upM 11 6) := rfl

theorem q444 : k0_pay444 (iota .tc S1x4096 32 [1] iota_S1x4096_d1_w32) = (lowM 4) := rfl

theorem q445 : k0_pay445 (iota .tc S1x4096 32 [1] iota_S1x4096_d1_w32) = (xori (lowM 4) (lowM 11)) := rfl

theorem q464 : k0_pay464 (iota .tc S1x4096 32 [1] iota_S1x4096_d1_w32) = (lowM 1) := rfl

theorem q465 : k0_pay465 (iota .tc S1x4096 32 [1] iota_S1x4096_d1_w32) = (upM 11 1) := rfl

theorem q485 : k0_pay485 (iota .tc S1x4096 32 [1] iota_S1x4096_d1_w32) = (lowM 10) := rfl

theorem q486 : k0_pay486 (iota .tc S1x4096 32 [1] iota_S1x4096_d1_w32) = (upM 12 10) := rfl

theorem q501 : k0_pay501 = (broadcast S1x4096 256#32) := rfl

theorem q508 : k0_pay508 (iota .tc S1x4096 32 [1] iota_S1x4096_d1_w32) = (lowM 7) := rfl

theorem q509 : k0_pay509 (iota .tc S1x4096 32 [1] iota_S1x4096_d1_w32) = (upM 12 7) := rfl

theorem q522 : k0_pay522 (iota .tc S1x4096 32 [1] iota_S1x4096_d1_w32) = (andi (iota .tc S1x4096 32 [1] iota_S1x4096_d1_w32) (broadcast S1x4096 32#32)) := rfl

theorem q523 : k0_pay523 = (broadcast S1x4096 0#32) := rfl

theorem q530 : k0_pay530 (iota .tc S1x4096 32 [1] iota_S1x4096_d1_w32) = (lowM 4) := rfl

theorem q531 : k0_pay531 (iota .tc S1x4096 32 [1] iota_S1x4096_d1_w32) = (upM 12 4) := rfl

theorem q545 : k0_pay545 (iota .tc S1x4096 32 [1] iota_S1x4096_d1_w32) = (lowM 2) := rfl

theorem q546 : k0_pay546 = (broadcast S1x4096 4096#32) := rfl

theorem q553 : k0_pay553 (iota .tc S1x4096 32 [1] iota_S1x4096_d1_w32) = (upM 12 1) := rfl

variable (arg1 : Memref sig .tc .vmem S1x1x4096 .f32) (harg1 : arg1.IsWhole) (c : Dev nD) (x : Vec F S1x1x4096 .f32)

/-- What the load through the reshaped block reads. -/
theorem loaded : kernelRun0_A.sl.v1 c arg1 harg1 x = row x := by
  unfold kernelRun0_A.sl.v1
  rw [View.readAt_eq_ld, View.ld_unit_zero (S := S1x4096) hz2]
  exact congrArg (fun v : Vec F S1x1x4096 .f32 => row v) (harg1.read_unread x)

theorem r_0 : kernelRun0_A.sl.r c arg1 harg1 x = (st 1 x).1 := by
  unfold kernelRun0_A.sl.r
  rw [loaded]
  exact pay7 x

theorem r_1 : kernelRun0_A.sl.r_1 c arg1 harg1 x = (st 1 x).2 := by
  unfold kernelRun0_A.sl.r_1
  rw [loaded]
  exact pay8 x

theorem r_2 : kernelRun0_A.sl.r_2 c arg1 harg1 x = (st 2 x).1 := by
  unfold kernelRun0_A.sl.r_2
  simp only [kernelRun0_A.sl.v3, r_0, r_1, q10, q9]
  exact pay14 (st 1 x)

theorem r_3 : kernelRun0_A.sl.r_3 c arg1 harg1 x = (st 2 x).2 := by
  unfold kernelRun0_A.sl.r_3
  simp only [kernelRun0_A.sl.v3, r_0, r_1, q10, q9]
  exact pay15 (st 1 x)

theorem r_4 : kernelRun0_A.sl.r_4 c arg1 harg1 x = (exch 0 (st 2 x).1) := by
  unfold kernelRun0_A.sl.r_4
  simp only [kernelRun0_A.sl.v3, r_0, r_1, q10, q9]
  exact pay17 (st 1 x)

theorem r_5 : kernelRun0_A.sl.r_5 c arg1 harg1 x = (exch 0 (st 2 x).2) := by
  unfold kernelRun0_A.sl.r_5
  simp only [kernelRun0_A.sl.v3, r_0, r_1, q10, q9]
  exact pay18 (st 1 x)

theorem r_6 : kernelRun0_A.sl.r_6 c arg1 harg1 x = (xori (upM 2 0) (ori (cmpf .ogt (exch 0 (st 2 x).1) (st 2 x).1) (andi (cmpf .oeq (exch 0 (st 2 x).1) (st 2 x).1) (cmpi .slt (exch 0 (st 2 x).2) (st 2 x).2)))) := by
  unfold kernelRun0_A.sl.r_6
  simp only [kernelRun0_A.sl.v3, r_0, r_1, q10, q9]
  exact pay19 (st 1 x)

theorem r_7 : kernelRun0_A.sl.r_7 c arg1 harg1 x = (st 4 x).1 := by
  unfold kernelRun0_A.sl.r_7
  simp only [kernelRun0_A.sl.v3, r_2, r_3, r_4, r_5, r_6]
  exact pay27 (st 2 x)

theorem r_8 : kernelRun0_A.sl.r_8 c arg1 harg1 x = (st 4 x).2 := by
  unfold kernelRun0_A.sl.r_8
  simp only [kernelRun0_A.sl.v3, r_2, r_3, r_4, r_5, r_6]
  exact pay28 (st 2 x)

theorem r_9 : kernelRun0_A.sl.r_9 c arg1 harg1 x = (extractStridedSlice S1x4094 ![0, 2] (st 4 x).1 slices_S1x4096_o0_2_S1x4094) := by
  unfold kernelRun0_A.sl.r_9
  simp only [kernelRun0_A.sl.v3, r_2, r_3, r_4, r_5, r_6]
  exact pay31 (st 2 x)

theorem r_10 : kernelRun0_A.sl.r_10 c arg1 harg1 x = (extractStridedSlice S1x2 ![0, 0] (st 4 x).1 slices_S1x4096_o0_0_S1x2) := by
  unfold kernelRun0_A.sl.r_10
  simp only [kernelRun0_A.sl.v3, r_2, r_3, r_4, r_5, r_6]
  exact pay32 (st 2 x)

theorem r_11 : kernelRun0_A.sl.r_11 c arg1 harg1 x = (st 5 x).2 := by
  unfold kernelRun0_A.sl.r_11
  simp only [kernelRun0_A.sl.v3, r_7, r_8, r_9, r_10, q29, q30]
  exact pay37 (st 4 x)

theorem r_12 : kernelRun0_A.sl.r_12 c arg1 harg1 x = (exch 0 (st 5 x).2) := by
  unfold kernelRun0_A.sl.r_12
  simp only [kernelRun0_A.sl.v3, r_7, r_8, r_9, r_10, q29, q30]
  exact pay40 (st 4 x)

theorem r_13 : kernelRun0_A.sl.r_13 c arg1 harg1 x = (takeM 3 0 (st 5 x)) := by
  unfold kernelRun0_A.sl.r_13
  simp only [kernelRun0_A.sl.v3, r_7, r_8, r_9, r_10, q29, q30]
  exact pay41 (st 4 x)

theorem r_14 : kernelRun0_A.sl.r_14 c arg1 harg1 x = (st 6 x).1 := by
  unfold kernelRun0_A.sl.r_14
  simp only [kernelRun0_A.sl.v3, r_7, r_8, r_9, r_10, q29, q30]
  exact pay42 (st 4 x)

theorem r_15 : kernelRun0_A.sl.r_15 c arg1 harg1 x = (st 7 x).1 := by
  unfold kernelRun0_A.sl.r_15
  simp only [kernelRun0_A.sl.v3, r_11, r_12, r_13, r_14]
  exact pay48 (st 5 x)

theorem r_16 : kernelRun0_A.sl.r_16 c arg1 harg1 x = (st 7 x).2 := by
  unfold kernelRun0_A.sl.r_16
  simp only [kernelRun0_A.sl.v3, r_11, r_12, r_13, r_14]
  exact pay49 (st 5 x)

theorem r_17 : kernelRun0_A.sl.r_17 c arg1 harg1 x = (concatenate S1x4096 1 [⟨S1x4092, (extractStridedSlice S1x4092 ![0, 4] (st 7 x).1 slices_S1x4096_o0_4_S1x4092)⟩, ⟨S1x4, (extractStridedSlice S1x4 ![0, 0] (st 7 x).1 slices_S1x4096_o0_0_S1x4)⟩] concatenates_S1x4092_S1x4_S1x4096_d1) := by
  unfold kernelRun0_A.sl.r_17
  simp only [kernelRun0_A.sl.v3, r_11, r_12, r_13, r_14]
  exact pay52 (st 5 x)

theorem r_18 : kernelRun0_A.sl.r_18 c arg1 harg1 x = (extractStridedSlice S1x4 ![0, 4092] (st 7 x).1 slices_S1x4096_o0_4092_S1x4) := by
  unfold kernelRun0_A.sl.r_18
  simp only [kernelRun0_A.sl.v3, r_11, r_12, r_13, r_14]
  exact pay53 (st 5 x)

theorem r_19 : kernelRun0_A.sl.r_19 c arg1 harg1 x = (extractStridedSlice S1x4092 ![0, 0] (st 7 x).1 slices_S1x4096_o0_0_S1x4092) := by
  unfold kernelRun0_A.sl.r_19
  simp only [kernelRun0_A.sl.v3, r_11, r_12, r_13, r_14]
  exact pay54 (st 5 x)

theorem r_20 : kernelRun0_A.sl.r_20 c arg1 harg1 x = (st 9 x).1 := by
  unfold kernelRun0_A.sl.r_20
  simp only [kernelRun0_A.sl.v3, r_15, r_16, r_17, r_18, r_19, q50, q51]
  exact pay64 (st 7 x)

theorem r_21 : kernelRun0_A.sl.r_21 c arg1 harg1 x = (st 9 x).2 := by
  unfold kernelRun0_A.sl.r_21
  simp only [kernelRun0_A.sl.v3, r_15, r_16, r_17, r_18, r_19, q50, q51]
  exact pay65 (st 7 x)

theorem r_22 : kernelRun0_A.sl.r_22 c arg1 harg1 x = (st 10 x).1 := by
  unfold kernelRun0_A.sl.r_22
  simp only [kernelRun0_A.sl.v3, r_20, r_21, q66]
  exact pay71 (st 9 x)

theorem r_23 : kernelRun0_A.sl.r_23 c arg1 harg1 x = (st 10 x).2 := by
  unfold kernelRun0_A.sl.r_23
  simp only [kernelRun0_A.sl.v3, r_20, r_21, q66]
  exact pay72 (st 9 x)

theorem r_24 : kernelRun0_A.sl.r_24 c arg1 harg1 x = (exch 4 (st 10 x).1) := by
  unfold kernelRun0_A.sl.r_24
  simp only [kernelRun0_A.sl.v3, r_20, r_21, q66]
  exact pay75 (st 9 x)

theorem r_25 : kernelRun0_A.sl.r_25 c arg1 harg1 x = (extractStridedSlice S1x4080 ![0, 16] (st 10 x).2 slices_S1x4096_o0_16_S1x4080) := by
  unfold kernelRun0_A.sl.r_25
  simp only [kernelRun0_A.sl.v3, r_20, r_21, q66]
  exact pay76 (st 9 x)

theorem r_26 : kernelRun0_A.sl.r_26 c arg1 harg1 x = (st 12 x).1 := by
  unfold kernelRun0_A.sl.r_26
  simp only [kernelRun0_A.sl.v3, r_22, r_23, r_24, r_25, q73, q74]
  exact pay85 (st 10 x)

theorem r_27 : kernelRun0_A.sl.r_27 c arg1 harg1 x = (st 12 x).2 := by
  unfold kernelRun0_A.sl.r_27
  simp only [kernelRun0_A.sl.v3, r_22, r_23, r_24, r_25, q73, q74]
  exact pay86 (st 10 x)

theorem r_28 : kernelRun0_A.sl.r_28 c arg1 harg1 x = (st 13 x).1 := by
  unfold kernelRun0_A.sl.r_28
  simp only [kernelRun0_A.sl.v3, r_26, r_27, q87, q88]
  exact pay93 (st 12 x)

theorem r_29 : kernelRun0_A.sl.r_29 c arg1 harg1 x = (st 13 x).2 := by
  unfold kernelRun0_A.sl.r_29
  simp only [kernelRun0_A.sl.v3, r_26, r_27, q87, q88]
  exact pay94 (st 12 x)

theorem r_30 : kernelRun0_A.sl.r_30 c arg1 harg1 x = (exch 1 (st 13 x).1) := by
  unfold kernelRun0_A.sl.r_30
  simp only [kernelRun0_A.sl.v3, r_26, r_27, q87, q88]
  exact pay97 (st 12 x)

theorem r_31 : kernelRun0_A.sl.r_31 c arg1 harg1 x = (concatenate S1x4096 1 [⟨S1x4094, (extractStridedSlice S1x4094 ![0, 2] (st 13 x).2 slices_S1x4096_o0_2_S1x4094)⟩, ⟨S1x2, (extractStridedSlice S1x2 ![0, 0] (st 13 x).2 slices_S1x4096_o0_0_S1x2)⟩] concatenates_S1x4094_S1x2_S1x4096_d1) := by
  unfold kernelRun0_A.sl.r_31
  simp only [kernelRun0_A.sl.v3, r_26, r_27, q87, q88]
  exact pay98 (st 12 x)

theorem r_32 : kernelRun0_A.sl.r_32 c arg1 harg1 x = (extractStridedSlice S1x2 ![0, 4094] (st 13 x).2 slices_S1x4096_o0_4094_S1x2) := by
  unfold kernelRun0_A.sl.r_32
  simp only [kernelRun0_A.sl.v3, r_26, r_27, q87, q88]
  exact pay99 (st 12 x)

theorem r_33 : kernelRun0_A.sl.r_33 c arg1 harg1 x = (st 15 x).1 := by
  unfold kernelRun0_A.sl.r_33
  simp only [kernelRun0_A.sl.v3, r_28, r_29, r_30, r_31, r_32, q95, q96]
  exact pay108 (st 13 x)

theorem r_34 : kernelRun0_A.sl.r_34 c arg1 harg1 x = (st 15 x).2 := by
  unfold kernelRun0_A.sl.r_34
  simp only [kernelRun0_A.sl.v3, r_28, r_29, r_30, r_31, r_32, q95, q96]
  exact pay109 (st 13 x)

theorem r_35 : kernelRun0_A.sl.r_35 c arg1 harg1 x = (st 16 x).1 := by
  unfold kernelRun0_A.sl.r_35
  simp only [kernelRun0_A.sl.v3, r_33, r_34, q110, q111]
  exact pay115 (st 15 x)

theorem r_36 : kernelRun0_A.sl.r_36 c arg1 harg1 x = (st 16 x).2 := by
  unfold kernelRun0_A.sl.r_36
  simp only [kernelRun0_A.sl.v3, r_33, r_34, q110, q111]
  exact pay116 (st 15 x)

theorem r_37 : kernelRun0_A.sl.r_37 c arg1 harg1 x = (exch 4 (st 16 x).1) := by
  unfold kernelRun0_A.sl.r_37
  simp only [kernelRun0_A.sl.v3, r_33, r_34, q110, q111]
  exact pay119 (st 15 x)

theorem r_38 : kernelRun0_A.sl.r_38 c arg1 harg1 x = (exch 4 (st 16 x).2) := by
  unfold kernelRun0_A.sl.r_38
  simp only [kernelRun0_A.sl.v3, r_33, r_34, q110, q111]
  exact pay120 (st 15 x)

theorem r_39 : kernelRun0_A.sl.r_39 c arg1 harg1 x = (st 18 x).1 := by
  unfold kernelRun0_A.sl.r_39
  simp only [kernelRun0_A.sl.v3, r_35, r_36, r_37, r_38, q118]
  exact pay128 (st 16 x)

theorem r_40 : kernelRun0_A.sl.r_40 c arg1 harg1 x = (st 18 x).2 := by
  unfold kernelRun0_A.sl.r_40
  simp only [kernelRun0_A.sl.v3, r_35, r_36, r_37, r_38, q118]
  exact pay129 (st 16 x)

theorem r_41 : kernelRun0_A.sl.r_41 c arg1 harg1 x = (st 19 x).1 := by
  unfold kernelRun0_A.sl.r_41
  simp only [kernelRun0_A.sl.v3, r_39, r_40, q130, q131, q132]
  exact pay136 (st 18 x)

theorem r_42 : kernelRun0_A.sl.r_42 c arg1 harg1 x = (st 19 x).2 := by
  unfold kernelRun0_A.sl.r_42
  simp only [kernelRun0_A.sl.v3, r_39, r_40, q130, q131, q132]
  exact pay137 (st 18 x)

theorem r_43 : kernelRun0_A.sl.r_43 c arg1 harg1 x = (exch 1 (st 19 x).1) := by
  unfold kernelRun0_A.sl.r_43
  simp only [kernelRun0_A.sl.v3, r_39, r_40, q130, q131, q132]
  exact pay140 (st 18 x)

theorem r_44 : kernelRun0_A.sl.r_44 c arg1 harg1 x = (exch 1 (st 19 x).2) := by
  unfold kernelRun0_A.sl.r_44
  simp only [kernelRun0_A.sl.v3, r_39, r_40, q130, q131, q132]
  exact pay141 (st 18 x)

theorem r_45 : kernelRun0_A.sl.r_45 c arg1 harg1 x = (cmpf .ogt (exch 1 (st 19 x).1) (st 19 x).1) := by
  unfold kernelRun0_A.sl.r_45
  simp only [kernelRun0_A.sl.v3, r_39, r_40, q130, q131, q132]
  exact pay142 (st 18 x)

theorem r_46 : kernelRun0_A.sl.r_46 c arg1 harg1 x = (cmpf .oeq (exch 1 (st 19 x).1) (st 19 x).1) := by
  unfold kernelRun0_A.sl.r_46
  simp only [kernelRun0_A.sl.v3, r_39, r_40, q130, q131, q132]
  exact pay143 (st 18 x)

theorem r_47 : kernelRun0_A.sl.r_47 c arg1 harg1 x = (cmpi .slt (exch 1 (st 19 x).2) (st 19 x).2) := by
  unfold kernelRun0_A.sl.r_47
  simp only [kernelRun0_A.sl.v3, r_39, r_40, q130, q131, q132]
  exact pay144 (st 18 x)

theorem r_48 : kernelRun0_A.sl.r_48 c arg1 harg1 x = (st 21 x).1 := by
  unfold kernelRun0_A.sl.r_48
  simp only [kernelRun0_A.sl.v3, r_41, r_42, r_43, r_44, r_45, r_46, r_47, q139]
  exact pay152 (st 19 x)

theorem r_49 : kernelRun0_A.sl.r_49 c arg1 harg1 x = (st 21 x).2 := by
  unfold kernelRun0_A.sl.r_49
  simp only [kernelRun0_A.sl.v3, r_41, r_42, r_43, r_44, r_45, r_46, r_47, q139]
  exact pay153 (st 19 x)

theorem r_50 : kernelRun0_A.sl.r_50 c arg1 harg1 x = (st 22 x).1 := by
  unfold kernelRun0_A.sl.r_50
  simp only [kernelRun0_A.sl.v3, r_48, r_49, q154, q155]
  exact pay159 (st 21 x)

theorem r_51 : kernelRun0_A.sl.r_51 c arg1 harg1 x = (st 22 x).2 := by
  unfold kernelRun0_A.sl.r_51
  simp only [kernelRun0_A.sl.v3, r_48, r_49, q154, q155]
  exact pay160 (st 21 x)

theorem r_52 : kernelRun0_A.sl.r_52 c arg1 harg1 x = (exch 5 (st 22 x).1) := by
  unfold kernelRun0_A.sl.r_52
  simp only [kernelRun0_A.sl.v3, r_48, r_49, q154, q155]
  exact pay162 (st 21 x)

theorem r_53 : kernelRun0_A.sl.r_53 c arg1 harg1 x = (exch 5 (st 22 x).2) := by
  unfold kernelRun0_A.sl.r_53
  simp only [kernelRun0_A.sl.v3, r_48, r_49, q154, q155]
  exact pay163 (st 21 x)

theorem r_54 : kernelRun0_A.sl.r_54 c arg1 harg1 x = (xori (upM 7 5) (ori (cmpf .ogt (exch 5 (st 22 x).1) (st 22 x).1) (andi (cmpf .oeq (exch 5 (st 22 x).1) (st 22 x).1) (cmpi .slt (exch 5 (st 22 x).2) (st 22 x).2)))) := by
  unfold kernelRun0_A.sl.r_54
  simp only [kernelRun0_A.sl.v3, r_48, r_49, q154, q155]
  exact pay164 (st 21 x)

theorem r_55 : kernelRun0_A.sl.r_55 c arg1 harg1 x = (st 24 x).1 := by
  unfold kernelRun0_A.sl.r_55
  simp only [kernelRun0_A.sl.v3, r_50, r_51, r_52, r_53, r_54]
  exact pay172 (st 22 x)

theorem r_56 : kernelRun0_A.sl.r_56 c arg1 harg1 x = (st 24 x).2 := by
  unfold kernelRun0_A.sl.r_56
  simp only [kernelRun0_A.sl.v3, r_50, r_51, r_52, r_53, r_54]
  exact pay173 (st 22 x)

theorem r_57 : kernelRun0_A.sl.r_57 c arg1 harg1 x = (extractStridedSlice S1x4088 ![0, 8] (st 24 x).1 slices_S1x4096_o0_8_S1x4088) := by
  unfold kernelRun0_A.sl.r_57
  simp only [kernelRun0_A.sl.v3, r_50, r_51, r_52, r_53, r_54]
  exact pay176 (st 22 x)

theorem r_58 : kernelRun0_A.sl.r_58 c arg1 harg1 x = (extractStridedSlice S1x8 ![0, 0] (st 24 x).1 slices_S1x4096_o0_0_S1x8) := by
  unfold kernelRun0_A.sl.r_58
  simp only [kernelRun0_A.sl.v3, r_50, r_51, r_52, r_53, r_54]
  exact pay177 (st 22 x)

theorem r_59 : kernelRun0_A.sl.r_59 c arg1 harg1 x = (st 25 x).2 := by
  unfold kernelRun0_A.sl.r_59
  simp only [kernelRun0_A.sl.v3, r_55, r_56, r_57, r_58, q174, q175]
  exact pay182 (st 24 x)

theorem r_60 : kernelRun0_A.sl.r_60 c arg1 harg1 x = (exch 2 (st 25 x).2) := by
  unfold kernelRun0_A.sl.r_60
  simp only [kernelRun0_A.sl.v3, r_55, r_56, r_57, r_58, q174, q175]
  exact pay185 (st 24 x)

theorem r_61 : kernelRun0_A.sl.r_61 c arg1 harg1 x = (takeM 7 2 (st 25 x)) := by
  unfold kernelRun0_A.sl.r_61
  simp only [kernelRun0_A.sl.v3, r_55, r_56, r_57, r_58, q174, q175]
  exact pay186 (st 24 x)

theorem r_62 : kernelRun0_A.sl.r_62 c arg1 harg1 x = (st 26 x).1 := by
  unfold kernelRun0_A.sl.r_62
  simp only [kernelRun0_A.sl.v3, r_55, r_56, r_57, r_58, q174, q175]
  exact pay187 (st 24 x)

theorem r_63 : kernelRun0_A.sl.r_63 c arg1 harg1 x = (st 27 x).1 := by
  unfold kernelRun0_A.sl.r_63
  simp only [kernelRun0_A.sl.v3, r_59, r_60, r_61, r_62]
  exact pay193 (st 25 x)

theorem r_64 : kernelRun0_A.sl.r_64 c arg1 harg1 x = (st 27 x).2 := by
  unfold kernelRun0_A.sl.r_64
  simp only [kernelRun0_A.sl.v3, r_59, r_60, r_61, r_62]
  exact pay194 (st 25 x)

theorem r_65 : kernelRun0_A.sl.r_65 c arg1 harg1 x = (concatenate S1x4096 1 [⟨S1x4095, (extractStridedSlice S1x4095 ![0, 1] (st 27 x).1 slices_S1x4096_o0_1_S1x4095)⟩, ⟨S1x1, (extractStridedSlice S1x1 ![0, 0] (st 27 x).1 slices_S1x4096_o0_0_S1x1)⟩] concatenates_S1x4095_S1x1_S1x4096_d1) := by
  unfold kernelRun0_A.sl.r_65
  simp only [kernelRun0_A.sl.v3, r_59, r_60, r_61, r_62]
  exact pay197 (st 25 x)

theorem r_66 : kernelRun0_A.sl.r_66 c arg1 harg1 x = (extractStridedSlice S1x1 ![0, 4095] (st 27 x).1 slices_S1x4096_o0_4095_S1x1) := by
  unfold kernelRun0_A.sl.r_66
  simp only [kernelRun0_A.sl.v3, r_59, r_60, r_61, r_62]
  exact pay198 (st 25 x)

theorem r_67 : kernelRun0_A.sl.r_67 c arg1 harg1 x = (extractStridedSlice S1x4095 ![0, 0] (st 27 x).1 slices_S1x4096_o0_0_S1x4095) := by
  unfold kernelRun0_A.sl.r_67
  simp only [kernelRun0_A.sl.v3, r_59, r_60, r_61, r_62]
  exact pay199 (st 25 x)

theorem r_68 : kernelRun0_A.sl.r_68 c arg1 harg1 x = (st 29 x).1 := by
  unfold kernelRun0_A.sl.r_68
  simp only [kernelRun0_A.sl.v3, r_63, r_64, r_65, r_66, r_67, q195, q196]
  exact pay209 (st 27 x)

theorem r_69 : kernelRun0_A.sl.r_69 c arg1 harg1 x = (st 29 x).2 := by
  unfold kernelRun0_A.sl.r_69
  simp only [kernelRun0_A.sl.v3, r_63, r_64, r_65, r_66, r_67, q195, q196]
  exact pay210 (st 27 x)

theorem r_70 : kernelRun0_A.sl.r_70 c arg1 harg1 x = (st 30 x).1 := by
  unfold kernelRun0_A.sl.r_70
  simp only [kernelRun0_A.sl.v3, r_68, r_69, q211]
  exact pay216 (st 29 x)

theorem r_71 : kernelRun0_A.sl.r_71 c arg1 harg1 x = (st 30 x).2 := by
  unfold kernelRun0_A.sl.r_71
  simp only [kernelRun0_A.sl.v3, r_68, r_69, q211]
  exact pay217 (st 29 x)

theorem r_72 : kernelRun0_A.sl.r_72 c arg1 harg1 x = (exch 5 (st 30 x).1) := by
  unfold kernelRun0_A.sl.r_72
  simp only [kernelRun0_A.sl.v3, r_68, r_69, q211]
  exact pay220 (st 29 x)

theorem r_73 : kernelRun0_A.sl.r_73 c arg1 harg1 x = (extractStridedSlice S1x4064 ![0, 32] (st 30 x).2 slices_S1x4096_o0_32_S1x4064) := by
  unfold kernelRun0_A.sl.r_73
  simp only [kernelRun0_A.sl.v3, r_68, r_69, q211]
  exact pay221 (st 29 x)

theorem r_74 : kernelRun0_A.sl.r_74 c arg1 harg1 x = (st 32 x).1 := by
  unfold kernelRun0_A.sl.r_74
  simp only [kernelRun0_A.sl.v3, r_70, r_71, r_72, r_73, q218, q219]
  exact pay230 (st 30 x)

theorem r_75 : kernelRun0_A.sl.r_75 c arg1 harg1 x = (st 32 x).2 := by
  unfold kernelRun0_A.sl.r_75
  simp only [kernelRun0_A.sl.v3, r_70, r_71, r_72, r_73, q218, q219]
  exact pay231 (st 30 x)

theorem r_76 : kernelRun0_A.sl.r_76 c arg1 harg1 x = (st 33 x).1 := by
  unfold kernelRun0_A.sl.r_76
  simp only [kernelRun0_A.sl.v3, r_74, r_75, q232, q233]
  exact pay238 (st 32 x)

theorem r_77 : kernelRun0_A.sl.r_77 c arg1 harg1 x = (st 33 x).2 := by
  unfold kernelRun0_A.sl.r_77
  simp only [kernelRun0_A.sl.v3, r_74, r_75, q232, q233]
  exact pay239 (st 32 x)

theorem r_78 : kernelRun0_A.sl.r_78 c arg1 harg1 x = (exch 2 (st 33 x).1) := by
  unfold kernelRun0_A.sl.r_78
  simp only [kernelRun0_A.sl.v3, r_74, r_75, q232, q233]
  exact pay242 (st 32 x)

theorem r_79 : kernelRun0_A.sl.r_79 c arg1 harg1 x = (concatenate S1x4096 1 [⟨S1x4092, (extractStridedSlice S1x4092 ![0, 4] (st 33 x).2 slices_S1x4096_o0_4_S1x4092)⟩, ⟨S1x4, (extractStridedSlice S1x4 ![0, 0] (st 33 x).2 slices_S1x4096_o0_0_S1x4)⟩] concatenates_S1x4092_S1x4_S1x4096_d1) := by
  unfold kernelRun0_A.sl.r_79
  simp only [kernelRun0_A.sl.v3, r_74, r_75, q232, q233]
  exact pay243 (st 32 x)

theorem r_80 : kernelRun0_A.sl.r_80 c arg1 harg1 x = (extractStridedSlice S1x4 ![0, 4092] (st 33 x).2 slices_S1x4096_o0_4092_S1x4) := by
  unfold kernelRun0_A.sl.r_80
  simp only [kernelRun0_A.sl.v3, r_74, r_75, q232, q233]
  exact pay244 (st 32 x)

theorem r_81 : kernelRun0_A.sl.r_81 c arg1 harg1 x = (st 35 x).1 := by
  unfold kernelRun0_A.sl.r_81
  simp only [kernelRun0_A.sl.v3, r_76, r_77, r_78, r_79, r_80, q240, q241]
  exact pay253 (st 33 x)

theorem r_82 : kernelRun0_A.sl.r_82 c arg1 harg1 x = (st 35 x).2 := by
  unfold kernelRun0_A.sl.r_82
  simp only [kernelRun0_A.sl.v3, r_76, r_77, r_78, r_79, r_80, q240, q241]
  exact pay254 (st 33 x)

theorem r_83 : kernelRun0_A.sl.r_83 c arg1 harg1 x = (st 36 x).1 := by
  unfold kernelRun0_A.sl.r_83
  simp only [kernelRun0_A.sl.v3, r_81, r_82, q255, q256]
  exact pay260 (st 35 x)

theorem r_84 : kernelRun0_A.sl.r_84 c arg1 harg1 x = (st 36 x).2 := by
  unfold kernelRun0_A.sl.r_84
  simp only [kernelRun0_A.sl.v3, r_81, r_82, q255, q256]
  exact pay261 (st 35 x)

theorem r_85 : kernelRun0_A.sl.r_85 c arg1 harg1 x = (exch 8 (st 36 x).1) := by
  unfold kernelRun0_A.sl.r_85
  simp only [kernelRun0_A.sl.v3, r_81, r_82, q255, q256]
  exact pay264 (st 35 x)

theorem r_86 : kernelRun0_A.sl.r_86 c arg1 harg1 x = (exch 8 (st 36 x).2) := by
  unfold kernelRun0_A.sl.r_86
  simp only [kernelRun0_A.sl.v3, r_81, r_82, q255, q256]
  exact pay265 (st 35 x)

theorem r_87 : kernelRun0_A.sl.r_87 c arg1 harg1 x = (st 38 x).1 := by
  unfold kernelRun0_A.sl.r_87
  simp only [kernelRun0_A.sl.v3, r_83, r_84, r_85, r_86, q263]
  exact pay273 (st 36 x)

theorem r_88 : kernelRun0_A.sl.r_88 c arg1 harg1 x = (st 38 x).2 := by
  unfold kernelRun0_A.sl.r_88
  simp only [kernelRun0_A.sl.v3, r_83, r_84, r_85, r_86, q263]
  exact pay274 (st 36 x)

theorem r_89 : kernelRun0_A.sl.r_89 c arg1 harg1 x = (st 39 x).1 := by
  unfold kernelRun0_A.sl.r_89
  simp only [kernelRun0_A.sl.v3, r_87, r_88, q275, q276, q277]
  exact pay281 (st 38 x)

theorem r_90 : kernelRun0_A.sl.r_90 c arg1 harg1 x = (st 39 x).2 := by
  unfold kernelRun0_A.sl.r_90
  simp only [kernelRun0_A.sl.v3, r_87, r_88, q275, q276, q277]
  exact pay282 (st 38 x)

theorem r_91 : kernelRun0_A.sl.r_91 c arg1 harg1 x = (exch 5 (st 39 x).1) := by
  unfold kernelRun0_A.sl.r_91
  simp only [kernelRun0_A.sl.v3, r_87, r_88, q275, q276, q277]
  exact pay285 (st 38 x)

theorem r_92 : kernelRun0_A.sl.r_92 c arg1 harg1 x = (exch 5 (st 39 x).2) := by
  unfold kernelRun0_A.sl.r_92
  simp only [kernelRun0_A.sl.v3, r_87, r_88, q275, q276, q277]
  exact pay286 (st 38 x)

theorem r_93 : kernelRun0_A.sl.r_93 c arg1 harg1 x = (cmpf .ogt (exch 5 (st 39 x).1) (st 39 x).1) := by
  unfold kernelRun0_A.sl.r_93
  simp only [kernelRun0_A.sl.v3, r_87, r_88, q275, q276, q277]
  exact pay287 (st 38 x)

theorem r_94 : kernelRun0_A.sl.r_94 c arg1 harg1 x = (cmpf .oeq (exch 5 (st 39 x).1) (st 39 x).1) := by
  unfold kernelRun0_A.sl.r_94
  simp only [kernelRun0_A.sl.v3, r_87, r_88, q275, q276, q277]
  exact pay288 (st 38 x)

theorem r_95 : kernelRun0_A.sl.r_95 c arg1 harg1 x = (cmpi .slt (exch 5 (st 39 x).2) (st 39 x).2) := by
  unfold kernelRun0_A.sl.r_95
  simp only [kernelRun0_A.sl.v3, r_87, r_88, q275, q276, q277]
  exact pay289 (st 38 x)

theorem r_96 : kernelRun0_A.sl.r_96 c arg1 harg1 x = (st 41 x).1 := by
  unfold kernelRun0_A.sl.r_96
  simp only [kernelRun0_A.sl.v3, r_89, r_90, r_91, r_92, r_93, r_94, r_95, q284]
  exact pay297 (st 39 x)

theorem r_97 : kernelRun0_A.sl.r_97 c arg1 harg1 x = (st 41 x).2 := by
  unfold kernelRun0_A.sl.r_97
  simp only [kernelRun0_A.sl.v3, r_89, r_90, r_91, r_92, r_93, r_94, r_95, q284]
  exact pay298 (st 39 x)

theorem r_98 : kernelRun0_A.sl.r_98 c arg1 harg1 x = (st 42 x).1 := by
  unfold kernelRun0_A.sl.r_98
  simp only [kernelRun0_A.sl.v3, r_96, r_97, q299, q300]
  exact pay304 (st 41 x)

theorem r_99 : kernelRun0_A.sl.r_99 c arg1 harg1 x = (st 42 x).2 := by
  unfold kernelRun0_A.sl.r_99
  simp only [kernelRun0_A.sl.v3, r_96, r_97, q299, q300]
  exact pay305 (st 41 x)

theorem r_100 : kernelRun0_A.sl.r_100 c arg1 harg1 x = (exch 2 (st 42 x).1) := by
  unfold kernelRun0_A.sl.r_100
  simp only [kernelRun0_A.sl.v3, r_96, r_97, q299, q300]
  exact pay307 (st 41 x)

theorem r_101 : kernelRun0_A.sl.r_101 c arg1 harg1 x = (exch 2 (st 42 x).2) := by
  unfold kernelRun0_A.sl.r_101
  simp only [kernelRun0_A.sl.v3, r_96, r_97, q299, q300]
  exact pay308 (st 41 x)

theorem r_102 : kernelRun0_A.sl.r_102 c arg1 harg1 x = (xori (upM 9 2) (ori (cmpf .ogt (exch 2 (st 42 x).1) (st 42 x).1) (andi (cmpf .oeq (exch 2 (st 42 x).1) (st 42 x).1) (cmpi .slt (exch 2 (st 42 x).2) (st 42 x).2)))) := by
  unfold kernelRun0_A.sl.r_102
  simp only [kernelRun0_A.sl.v3, r_96, r_97, q299, q300]
  exact pay309 (st 41 x)

theorem r_103 : kernelRun0_A.sl.r_103 c arg1 harg1 x = (st 44 x).1 := by
  unfold kernelRun0_A.sl.r_103
  simp only [kernelRun0_A.sl.v3, r_98, r_99, r_100, r_101, r_102]
  exact pay317 (st 42 x)

theorem r_104 : kernelRun0_A.sl.r_104 c arg1 harg1 x = (st 44 x).2 := by
  unfold kernelRun0_A.sl.r_104
  simp only [kernelRun0_A.sl.v3, r_98, r_99, r_100, r_101, r_102]
  exact pay318 (st 42 x)

theorem r_105 : kernelRun0_A.sl.r_105 c arg1 harg1 x = (extractStridedSlice S1x4095 ![0, 1] (st 44 x).1 slices_S1x4096_o0_1_S1x4095) := by
  unfold kernelRun0_A.sl.r_105
  simp only [kernelRun0_A.sl.v3, r_98, r_99, r_100, r_101, r_102]
  exact pay321 (st 42 x)

theorem r_106 : kernelRun0_A.sl.r_106 c arg1 harg1 x = (extractStridedSlice S1x1 ![0, 0] (st 44 x).1 slices_S1x4096_o0_0_S1x1) := by
  unfold kernelRun0_A.sl.r_106
  simp only [kernelRun0_A.sl.v3, r_98, r_99, r_100, r_101, r_102]
  exact pay322 (st 42 x)

theorem r_107 : kernelRun0_A.sl.r_107 c arg1 harg1 x = (st 45 x).2 := by
  unfold kernelRun0_A.sl.r_107
  simp only [kernelRun0_A.sl.v3, r_103, r_104, r_105, r_106, q319, q320]
  exact pay327 (st 44 x)

theorem r_108 : kernelRun0_A.sl.r_108 c arg1 harg1 x = (exch 9 (st 45 x).2) := by
  unfold kernelRun0_A.sl.r_108
  simp only [kernelRun0_A.sl.v3, r_103, r_104, r_105, r_106, q319, q320]
  exact pay330 (st 44 x)

theorem r_109 : kernelRun0_A.sl.r_109 c arg1 harg1 x = (takeM 10 9 (st 45 x)) := by
  unfold kernelRun0_A.sl.r_109
  simp only [kernelRun0_A.sl.v3, r_103, r_104, r_105, r_106, q319, q320]
  exact pay331 (st 44 x)

theorem r_110 : kernelRun0_A.sl.r_110 c arg1 harg1 x = (st 46 x).1 := by
  unfold kernelRun0_A.sl.r_110
  simp only [kernelRun0_A.sl.v3, r_103, r_104, r_105, r_106, q319, q320]
  exact pay332 (st 44 x)

theorem r_111 : kernelRun0_A.sl.r_111 c arg1 harg1 x = (st 47 x).1 := by
  unfold kernelRun0_A.sl.r_111
  simp only [kernelRun0_A.sl.v3, r_107, r_108, r_109, r_110]
  exact pay338 (st 45 x)

theorem r_112 : kernelRun0_A.sl.r_112 c arg1 harg1 x = (st 47 x).2 := by
  unfold kernelRun0_A.sl.r_112
  simp only [kernelRun0_A.sl.v3, r_107, r_108, r_109, r_110]
  exact pay339 (st 45 x)

theorem r_113 : kernelRun0_A.sl.r_113 c arg1 harg1 x = (concatenate S1x4096 1 [⟨S1x3968, (extractStridedSlice S1x3968 ![0, 128] (st 47 x).1 slices_S1x4096_o0_128_S1x3968)⟩, ⟨S1x128, (extractStridedSlice S1x128 ![0, 0] (st 47 x).1 slices_S1x4096_o0_0_S1x128)⟩] concatenates_S1x3968_S1x128_S1x4096_d1) := by
  unfold kernelRun0_A.sl.r_113
  simp only [kernelRun0_A.sl.v3, r_107, r_108, r_109, r_110]
  exact pay342 (st 45 x)

theorem r_114 : kernelRun0_A.sl.r_114 c arg1 harg1 x = (extractStridedSlice S1x128 ![0, 3968] (st 47 x).1 slices_S1x4096_o0_3968_S1x128) := by
  unfold kernelRun0_A.sl.r_114
  simp only [kernelRun0_A.sl.v3, r_107, r_108, r_109, r_110]
  exact pay343 (st 45 x)

theorem r_115 : kernelRun0_A.sl.r_115 c arg1 harg1 x = (extractStridedSlice S1x3968 ![0, 0] (st 47 x).1 slices_S1x4096_o0_0_S1x3968) := by
  unfold kernelRun0_A.sl.r_115
  simp only [kernelRun0_A.sl.v3, r_107, r_108, r_109, r_110]
  exact pay344 (st 45 x)

theorem r_116 : kernelRun0_A.sl.r_116 c arg1 harg1 x = (st 49 x).1 := by
  unfold kernelRun0_A.sl.r_116
  simp only [kernelRun0_A.sl.v3, r_111, r_112, r_113, r_114, r_115, q340, q341]
  exact pay354 (st 47 x)

theorem r_117 : kernelRun0_A.sl.r_117 c arg1 harg1 x = (st 49 x).2 := by
  unfold kernelRun0_A.sl.r_117
  simp only [kernelRun0_A.sl.v3, r_111, r_112, r_113, r_114, r_115, q340, q341]
  exact pay355 (st 47 x)

theorem r_118 : kernelRun0_A.sl.r_118 c arg1 harg1 x = (st 50 x).1 := by
  unfold kernelRun0_A.sl.r_118
  simp only [kernelRun0_A.sl.v3, r_116, r_117, q356]
  exact pay361 (st 49 x)

theorem r_119 : kernelRun0_A.sl.r_119 c arg1 harg1 x = (st 50 x).2 := by
  unfold kernelRun0_A.sl.r_119
  simp only [kernelRun0_A.sl.v3, r_116, r_117, q356]
  exact pay362 (st 49 x)

theorem r_120 : kernelRun0_A.sl.r_120 c arg1 harg1 x = (exch 4 (st 50 x).1) := by
  unfold kernelRun0_A.sl.r_120
  simp only [kernelRun0_A.sl.v3, r_116, r_117, q356]
  exact pay365 (st 49 x)

theorem r_121 : kernelRun0_A.sl.r_121 c arg1 harg1 x = (extractStridedSlice S1x4080 ![0, 16] (st 50 x).2 slices_S1x4096_o0_16_S1x4080) := by
  unfold kernelRun0_A.sl.r_121
  simp only [kernelRun0_A.sl.v3, r_116, r_117, q356]
  exact pay366 (st 49 x)

theorem r_122 : kernelRun0_A.sl.r_122 c arg1 harg1 x = (st 52 x).1 := by
  unfold kernelRun0_A.sl.r_122
  simp only [kernelRun0_A.sl.v3, r_118, r_119, r_120, r_121, q363, q364]
  exact pay375 (st 50 x)

theorem r_123 : kernelRun0_A.sl.r_123 c arg1 harg1 x = (st 52 x).2 := by
  unfold kernelRun0_A.sl.r_123
  simp only [kernelRun0_A.sl.v3, r_118, r_119, r_120, r_121, q363, q364]
  exact pay376 (st 50 x)

theorem r_124 : kernelRun0_A.sl.r_124 c arg1 harg1 x = (st 53 x).1 := by
  unfold kernelRun0_A.sl.r_124
  simp only [kernelRun0_A.sl.v3, r_122, r_123, q377, q378]
  exact pay383 (st 52 x)

theorem r_125 : kernelRun0_A.sl.r_125 c arg1 harg1 x = (st 53 x).2 := by
  unfold kernelRun0_A.sl.r_125
  simp only [kernelRun0_A.sl.v3, r_122, r_123, q377, q378]
  exact pay384 (st 52 x)

theorem r_126 : kernelRun0_A.sl.r_126 c arg1 harg1 x = (exch 1 (st 53 x).1) := by
  unfold kernelRun0_A.sl.r_126
  simp only [kernelRun0_A.sl.v3, r_122, r_123, q377, q378]
  exact pay387 (st 52 x)

theorem r_127 : kernelRun0_A.sl.r_127 c arg1 harg1 x = (concatenate S1x4096 1 [⟨S1x4094, (extractStridedSlice S1x4094 ![0, 2] (st 53 x).2 slices_S1x4096_o0_2_S1x4094)⟩, ⟨S1x2, (extractStridedSlice S1x2 ![0, 0] (st 53 x).2 slices_S1x4096_o0_0_S1x2)⟩] concatenates_S1x4094_S1x2_S1x4096_d1) := by
  unfold kernelRun0_A.sl.r_127
  simp only [kernelRun0_A.sl.v3, r_122, r_123, q377, q378]
  exact pay388 (st 52 x)

theorem r_128 : kernelRun0_A.sl.r_128 c arg1 harg1 x = (extractStridedSlice S1x2 ![0, 4094] (st 53 x).2 slices_S1x4096_o0_4094_S1x2) := by
  unfold kernelRun0_A.sl.r_128
  simp only [kernelRun0_A.sl.v3, r_122, r_123, q377, q378]
  exact pay389 (st 52 x)

theorem r_129 : kernelRun0_A.sl.r_129 c arg1 harg1 x = (st 55 x).1 := by
  unfold kernelRun0_A.sl.r_129
  simp only [kernelRun0_A.sl.v3, r_124, r_125, r_126, r_127, r_128, q385, q386]
  exact pay398 (st 53 x)

theorem r_130 : kernelRun0_A.sl.r_130 c arg1 harg1 x = (st 55 x).2 := by
  unfold kernelRun0_A.sl.r_130
  simp only [kernelRun0_A.sl.v3, r_124, r_125, r_126, r_127, r_128, q385, q386]
  exact pay399 (st 53 x)

theorem r_131 : kernelRun0_A.sl.r_131 c arg1 harg1 x = (st 56 x).1 := by
  unfold kernelRun0_A.sl.r_131
  simp only [kernelRun0_A.sl.v3, r_129, r_130, q400, q401]
  exact pay405 (st 55 x)

theorem r_132 : kernelRun0_A.sl.r_132 c arg1 harg1 x = (st 56 x).2 := by
  unfold kernelRun0_A.sl.r_132
  simp only [kernelRun0_A.sl.v3, r_129, r_130, q400, q401]
  exact pay406 (st 55 x)

theorem r_133 : kernelRun0_A.sl.r_133 c arg1 harg1 x = (exch 9 (st 56 x).1) := by
  unfold kernelRun0_A.sl.r_133
  simp only [kernelRun0_A.sl.v3, r_129, r_130, q400, q401]
  exact pay409 (st 55 x)

theorem r_134 : kernelRun0_A.sl.r_134 c arg1 harg1 x = (exch 9 (st 56 x).2) := by
  unfold kernelRun0_A.sl.r_134
  simp only [kernelRun0_A.sl.v3, r_129, r_130, q400, q401]
  exact pay410 (st 55 x)

theorem r_135 : kernelRun0_A.sl.r_135 c arg1 harg1 x = (st 58 x).1 := by
  unfold kernelRun0_A.sl.r_135
  simp only [kernelRun0_A.sl.v3, r_131, r_132, r_133, r_134, q408]
  exact pay418 (st 56 x)

theorem r_136 : kernelRun0_A.sl.r_136 c arg1 harg1 x = (st 58 x).2 := by
  unfold kernelRun0_A.sl.r_136
  simp only [kernelRun0_A.sl.v3, r_131, r_132, r_133, r_134, q408]
  exact pay419 (st 56 x)

theorem r_137 : kernelRun0_A.sl.r_137 c arg1 harg1 x = (st 59 x).1 := by
  unfold kernelRun0_A.sl.r_137
  simp only [kernelRun0_A.sl.v3, r_135, r_136, q420, q421, q422]
  exact pay426 (st 58 x)

theorem r_138 : kernelRun0_A.sl.r_138 c arg1 harg1 x = (st 59 x).2 := by
  unfold kernelRun0_A.sl.r_138
  simp only [kernelRun0_A.sl.v3, r_135, r_136, q420, q421, q422]
  exact pay427 (st 58 x)

theorem r_139 : kernelRun0_A.sl.r_139 c arg1 harg1 x = (exch 6 (st 59 x).1) := by
  unfold kernelRun0_A.sl.r_139
  simp only [kernelRun0_A.sl.v3, r_135, r_136, q420, q421, q422]
  exact pay430 (st 58 x)

theorem r_140 : kernelRun0_A.sl.r_140 c arg1 harg1 x = (exch 6 (st 59 x).2) := by
  unfold kernelRun0_A.sl.r_140
  simp only [kernelRun0_A.sl.v3, r_135, r_136, q420, q421, q422]
  exact pay431 (st 58 x)

theorem r_141 : kernelRun0_A.sl.r_141 c arg1 harg1 x = (cmpf .ogt (exch 6 (st 59 x).1) (st 59 x).1) := by
  unfold kernelRun0_A.sl.r_141
  simp only [kernelRun0_A.sl.v3, r_135, r_136, q420, q421, q422]
  exact pay432 (st 58 x)

theorem r_142 : kernelRun0_A.sl.r_142 c arg1 harg1 x = (cmpf .oeq (exch 6 (st 59 x).1) (st 59 x).1) := by
  unfold kernelRun0_A.sl.r_142
  simp only [kernelRun0_A.sl.v3, r_135, r_136, q420, q421, q422]
  exact pay433 (st 58 x)

theorem r_143 : kernelRun0_A.sl.r_143 c arg1 harg1 x = (cmpi .slt (exch 6 (st 59 x).2) (st 59 x).2) := by
  unfold kernelRun0_A.sl.r_143
  simp only [kernelRun0_A.sl.v3, r_135, r_136, q420, q421, q422]
  exact pay434 (st 58 x)

theorem r_144 : kernelRun0_A.sl.r_144 c arg1 harg1 x = (st 61 x).1 := by
  unfold kernelRun0_A.sl.r_144
  simp only [kernelRun0_A.sl.v3, r_137, r_138, r_139, r_140, r_141, r_142, r_143, q429]
  exact pay442 (st 59 x)

theorem r_145 : kernelRun0_A.sl.r_145 c arg1 harg1 x = (st 61 x).2 := by
  unfold kernelRun0_A.sl.r_145
  simp only [kernelRun0_A.sl.v3, r_137, r_138, r_139, r_140, r_141, r_142, r_143, q429]
  exact pay443 (st 59 x)

theorem r_146 : kernelRun0_A.sl.r_146 c arg1 harg1 x = (st 62 x).1 := by
  unfold kernelRun0_A.sl.r_146
  simp only [kernelRun0_A.sl.v3, r_144, r_145, q444, q445]
  exact pay449 (st 61 x)

theorem r_147 : kernelRun0_A.sl.r_147 c arg1 harg1 x = (st 62 x).2 := by
  unfold kernelRun0_A.sl.r_147
  simp only [kernelRun0_A.sl.v3, r_144, r_145, q444, q445]
  exact pay450 (st 61 x)

theorem r_148 : kernelRun0_A.sl.r_148 c arg1 harg1 x = (exch 3 (st 62 x).1) := by
  unfold kernelRun0_A.sl.r_148
  simp only [kernelRun0_A.sl.v3, r_144, r_145, q444, q445]
  exact pay452 (st 61 x)

theorem r_149 : kernelRun0_A.sl.r_149 c arg1 harg1 x = (exch 3 (st 62 x).2) := by
  unfold kernelRun0_A.sl.r_149
  simp only [kernelRun0_A.sl.v3, r_144, r_145, q444, q445]
  exact pay453 (st 61 x)

theorem r_150 : kernelRun0_A.sl.r_150 c arg1 harg1 x = (xori (upM 11 3) (ori (cmpf .ogt (exch 3 (st 62 x).1) (st 62 x).1) (andi (cmpf .oeq (exch 3 (st 62 x).1) (st 62 x).1) (cmpi .slt (exch 3 (st 62 x).2) (st 62 x).2)))) := by
  unfold kernelRun0_A.sl.r_150
  simp only [kernelRun0_A.sl.v3, r_144, r_145, q444, q445]
  exact pay454 (st 61 x)

theorem r_151 : kernelRun0_A.sl.r_151 c arg1 harg1 x = (st 64 x).1 := by
  unfold kernelRun0_A.sl.r_151
  simp only [kernelRun0_A.sl.v3, r_146, r_147, r_148, r_149, r_150]
  exact pay462 (st 62 x)

theorem r_152 : kernelRun0_A.sl.r_152 c arg1 harg1 x = (st 64 x).2 := by
  unfold kernelRun0_A.sl.r_152
  simp only [kernelRun0_A.sl.v3, r_146, r_147, r_148, r_149, r_150]
  exact pay463 (st 62 x)

theorem r_153 : kernelRun0_A.sl.r_153 c arg1 harg1 x = (extractStridedSlice S1x4094 ![0, 2] (st 64 x).1 slices_S1x4096_o0_2_S1x4094) := by
  unfold kernelRun0_A.sl.r_153
  simp only [kernelRun0_A.sl.v3, r_146, r_147, r_148, r_149, r_150]
  exact pay466 (st 62 x)

theorem r_154 : kernelRun0_A.sl.r_154 c arg1 harg1 x = (extractStridedSlice S1x2 ![0, 0] (st 64 x).1 slices_S1x4096_o0_0_S1x2) := by
  unfold kernelRun0_A.sl.r_154
  simp only [kernelRun0_A.sl.v3, r_146, r_147, r_148, r_149, r_150]
  exact pay467 (st 62 x)

theorem r_155 : kernelRun0_A.sl.r_155 c arg1 harg1 x = (st 65 x).2 := by
  unfold kernelRun0_A.sl.r_155
  simp only [kernelRun0_A.sl.v3, r_151, r_152, r_153, r_154, q464, q465]
  exact pay472 (st 64 x)

theorem r_156 : kernelRun0_A.sl.r_156 c arg1 harg1 x = (exch 0 (st 65 x).2) := by
  unfold kernelRun0_A.sl.r_156
  simp only [kernelRun0_A.sl.v3, r_151, r_152, r_153, r_154, q464, q465]
  exact pay475 (st 64 x)

theorem r_157 : kernelRun0_A.sl.r_157 c arg1 harg1 x = (takeM 11 0 (st 65 x)) := by
  unfold kernelRun0_A.sl.r_157
  simp only [kernelRun0_A.sl.v3, r_151, r_152, r_153, r_154, q464, q465]
  exact pay476 (st 64 x)

theorem r_158 : kernelRun0_A.sl.r_158 c arg1 harg1 x = (st 66 x).1 := by
  unfold kernelRun0_A.sl.r_158
  simp only [kernelRun0_A.sl.v3, r_151, r_152, r_153, r_154, q464, q465]
  exact pay477 (st 64 x)

theorem r_159 : kernelRun0_A.sl.r_159 c arg1 harg1 x = (st 67 x).1 := by
  unfold kernelRun0_A.sl.r_159
  simp only [kernelRun0_A.sl.v3, r_155, r_156, r_157, r_158]
  exact pay483 (st 65 x)

theorem r_160 : kernelRun0_A.sl.r_160 c arg1 harg1 x = (st 67 x).2 := by
  unfold kernelRun0_A.sl.r_160
  simp only [kernelRun0_A.sl.v3, r_155, r_156, r_157, r_158]
  exact pay484 (st 65 x)

theorem r_161 : kernelRun0_A.sl.r_161 c arg1 harg1 x = (concatenate S1x4096 1 [⟨S1x3072, (extractStridedSlice S1x3072 ![0, 1024] (st 67 x).1 slices_S1x4096_o0_1024_S1x3072)⟩, ⟨S1x1024, (extractStridedSlice S1x1024 ![0, 0] (st 67 x).1 slices_S1x4096_o0_0_S1x1024)⟩] concatenates_S1x3072_S1x1024_S1x4096_d1) := by
  unfold kernelRun0_A.sl.r_161
  simp only [kernelRun0_A.sl.v3, r_155, r_156, r_157, r_158]
  exact pay487 (st 65 x)

theorem r_162 : kernelRun0_A.sl.r_162 c arg1 harg1 x = (extractStridedSlice S1x1024 ![0, 3072] (st 67 x).1 slices_S1x4096_o0_3072_S1x1024) := by
  unfold kernelRun0_A.sl.r_162
  simp only [kernelRun0_A.sl.v3, r_155, r_156, r_157, r_158]
  exact pay488 (st 65 x)

theorem r_163 : kernelRun0_A.sl.r_163 c arg1 harg1 x = (extractStridedSlice S1x3072 ![0, 0] (st 67 x).1 slices_S1x4096_o0_0_S1x3072) := by
  unfold kernelRun0_A.sl.r_163
  simp only [kernelRun0_A.sl.v3, r_155, r_156, r_157, r_158]
  exact pay489 (st 65 x)

theorem r_164 : kernelRun0_A.sl.r_164 c arg1 harg1 x = (st 69 x).1 := by
  unfold kernelRun0_A.sl.r_164
  simp only [kernelRun0_A.sl.v3, r_159, r_160, r_161, r_162, r_163, q485, q486]
  exact pay499 (st 67 x)

theorem r_165 : kernelRun0_A.sl.r_165 c arg1 harg1 x = (st 69 x).2 := by
  unfold kernelRun0_A.sl.r_165
  simp only [kernelRun0_A.sl.v3, r_159, r_160, r_161, r_162, r_163, q485, q486]
  exact pay500 (st 67 x)

theorem r_166 : kernelRun0_A.sl.r_166 c arg1 harg1 x = (st 70 x).1 := by
  unfold kernelRun0_A.sl.r_166
  simp only [kernelRun0_A.sl.v3, r_164, r_165, q501]
  exact pay506 (st 69 x)

theorem r_167 : kernelRun0_A.sl.r_167 c arg1 harg1 x = (st 70 x).2 := by
  unfold kernelRun0_A.sl.r_167
  simp only [kernelRun0_A.sl.v3, r_164, r_165, q501]
  exact pay507 (st 69 x)

theorem r_168 : kernelRun0_A.sl.r_168 c arg1 harg1 x = (exch 7 (st 70 x).1) := by
  unfold kernelRun0_A.sl.r_168
  simp only [kernelRun0_A.sl.v3, r_164, r_165, q501]
  exact pay510 (st 69 x)

theorem r_169 : kernelRun0_A.sl.r_169 c arg1 harg1 x = (extractStridedSlice S1x3968 ![0, 128] (st 70 x).2 slices_S1x4096_o0_128_S1x3968) := by
  unfold kernelRun0_A.sl.r_169
  simp only [kernelRun0_A.sl.v3, r_164, r_165, q501]
  exact pay511 (st 69 x)

theorem r_170 : kernelRun0_A.sl.r_170 c arg1 harg1 x = (st 72 x).1 := by
  unfold kernelRun0_A.sl.r_170
  simp only [kernelRun0_A.sl.v3, r_166, r_167, r_168, r_169, q508, q509]
  exact pay520 (st 70 x)

theorem r_171 : kernelRun0_A.sl.r_171 c arg1 harg1 x = (st 72 x).2 := by
  unfold kernelRun0_A.sl.r_171
  simp only [kernelRun0_A.sl.v3, r_166, r_167, r_168, r_169, q508, q509]
  exact pay521 (st 70 x)

theorem r_172 : kernelRun0_A.sl.r_172 c arg1 harg1 x = (st 73 x).1 := by
  unfold kernelRun0_A.sl.r_172
  simp only [kernelRun0_A.sl.v3, r_170, r_171, q522, q523]
  exact pay528 (st 72 x)

theorem r_173 : kernelRun0_A.sl.r_173 c arg1 harg1 x = (st 73 x).2 := by
  unfold kernelRun0_A.sl.r_173
  simp only [kernelRun0_A.sl.v3, r_170, r_171, q522, q523]
  exact pay529 (st 72 x)

theorem r_174 : kernelRun0_A.sl.r_174 c arg1 harg1 x = (exch 4 (st 73 x).1) := by
  unfold kernelRun0_A.sl.r_174
  simp only [kernelRun0_A.sl.v3, r_170, r_171, q522, q523]
  exact pay532 (st 72 x)

theorem r_175 : kernelRun0_A.sl.r_175 c arg1 harg1 x = (concatenate S1x4096 1 [⟨S1x4080, (extractStridedSlice S1x4080 ![0, 16] (st 73 x).2 slices_S1x4096_o0_16_S1x4080)⟩, ⟨S1x16, (extractStridedSlice S1x16 ![0, 0] (st 73 x).2 slices_S1x4096_o0_0_S1x16)⟩] concatenates_S1x4080_S1x16_S1x4096_d1) := by
  unfold kernelRun0_A.sl.r_175
  simp only [kernelRun0_A.sl.v3, r_170, r_171, q522, q523]
  exact pay533 (st 72 x)

theorem r_176 : kernelRun0_A.sl.r_176 c arg1 harg1 x = (extractStridedSlice S1x16 ![0, 4080] (st 73 x).2 slices_S1x4096_o0_4080_S1x16) := by
  unfold kernelRun0_A.sl.r_176
  simp only [kernelRun0_A.sl.v3, r_170, r_171, q522, q523]
  exact pay534 (st 72 x)

theorem r_177 : kernelRun0_A.sl.r_177 c arg1 harg1 x = (st 75 x).1 := by
  unfold kernelRun0_A.sl.r_177
  simp only [kernelRun0_A.sl.v3, r_172, r_173, r_174, r_175, r_176, q530, q531]
  exact pay543 (st 73 x)

theorem r_178 : kernelRun0_A.sl.r_178 c arg1 harg1 x = (st 75 x).2 := by
  unfold kernelRun0_A.sl.r_178
  simp only [kernelRun0_A.sl.v3, r_172, r_173, r_174, r_175, r_176, q530, q531]
  exact pay544 (st 73 x)

theorem r_179 : kernelRun0_A.sl.r_179 c arg1 harg1 x = (st 76 x).1 := by
  unfold kernelRun0_A.sl.r_179
  simp only [kernelRun0_A.sl.v3, r_177, r_178, q545, q546]
  exact pay550 (st 75 x)

theorem r_180 : kernelRun0_A.sl.r_180 c arg1 harg1 x = (st 76 x).2 := by
  unfold kernelRun0_A.sl.r_180
  simp only [kernelRun0_A.sl.v3, r_177, r_178, q545, q546]
  exact pay551 (st 75 x)

theorem r_181 : kernelRun0_A.sl.r_181 c arg1 harg1 x = (exch 1 (st 76 x).1) := by
  unfold kernelRun0_A.sl.r_181
  simp only [kernelRun0_A.sl.v3, r_177, r_178, q545, q546]
  exact pay554 (st 75 x)

theorem r_182 : kernelRun0_A.sl.r_182 c arg1 harg1 x = (exch 1 (st 76 x).2) := by
  unfold kernelRun0_A.sl.r_182
  simp only [kernelRun0_A.sl.v3, r_177, r_178, q545, q546]
  exact pay555 (st 75 x)

/-- The positions the run leaves: the first 1024 after the last stage. -/
theorem out_idx (c : Dev nD) (i : grid0.Coords) (arg1 : Memref sig .tc .vmem S1x1x4096 .f32) (harg1 : arg1.IsWhole) (arg2 : Memref sig .tc .vmem S1x3x4096 .f32) (harg2 : arg2.IsWhole) (arg3 : Memref sig .tc .vmem S1x1x1024 .i32) (harg3 : arg3.IsWhole) (arg4 : Memref sig .tc .vmem S1x3x1024 .f32) (harg4 : arg4.IsWhole)
    (x0 : Vec F S1x1x4096 .f32) (x1 : Vec F S1x3x4096 .f32) :
    out0_A_2 c i arg1 harg1 arg2 harg2 arg3 harg3 arg4 harg4 x0 x1 =
      shapeCast S1x1x1024 (extractStridedSlice S1x1024 ![0, 0] (st 78 x0).2 slices_S1x4096_o0_0_S1x1024) shapeCasts_S1x1024_S1x1x1024 := by
  unfold out0_A_2
  rw [View.read_writes_eq_canon _ _ _ (cover0_A_2 c i arg1 harg1 arg2 harg2 arg3 harg3 arg4 harg4 x0 x1)]
  unfold kernelRun0_A
  dsimp only
  rw [View.canon_unit_zero hz3]
  simp only [kernelRun0_A.sl.v3, r_179, r_180, r_181, r_182, q553, k0_pay557]
  rw [show (st 78 x0).2 = (stage 12 0 (stage 12 1 (st 76 x0))).2 from rfl, ← pay556]
  rfl

/-- The points the run leaves: the dot with the one-hot matrix of those positions. -/
theorem out_pts (c : Dev nD) (i : grid0.Coords) (arg1 : Memref sig .tc .vmem S1x1x4096 .f32) (harg1 : arg1.IsWhole) (arg2 : Memref sig .tc .vmem S1x3x4096 .f32) (harg2 : arg2.IsWhole) (arg3 : Memref sig .tc .vmem S1x1x1024 .i32) (harg3 : arg3.IsWhole) (arg4 : Memref sig .tc .vmem S1x3x1024 .f32) (harg4 : arg4.IsWhole)
    (x0 : Vec F S1x1x4096 .f32) (x1 : Vec F S1x3x4096 .f32) :
    out0_A_3 c i arg1 harg1 arg2 harg2 arg3 harg3 arg4 harg4 x0 x1 =
      k0_pay1 (k0_pay559 (extui 32 (cmpi .eq (iota .tc S4096x1024 32 [0] iota_S4096x1024_d0_w32) (broadcastTo S4096x1024
        (extractStridedSlice S1x1024 ![0, 0] (st 78 x0).2 slices_S1x4096_o0_0_S1x1024) broadcasts_S1x1024_S4096x1024)) natLt_1_32) x1) := by
  unfold out0_A_3
  rw [View.read_writes_eq_canon _ _ _ (cover0_A_3 c i arg1 harg1 arg2 harg2 arg3 harg3 arg4 harg4 x0 x1)]
  unfold kernelRun0_A
  dsimp only
  rw [View.canon_unit_zero hz3]
  simp only [kernelRun0_A.sl.r_184, kernelRun0_A.sl.r_183, View.readAt_eq_ld, harg2.read_unread, View.ld_unit_zero (S := S1x3x4096) hz3,
    kernelRun0_A.sl.v3, r_179, r_180, r_181, r_182, q553, k0_pay558]
  rw [show (st 78 x0).2 = (stage 12 0 (stage 12 1 (st 76 x0))).2 from rfl, ← pay556]
  rfl

end Cert.Kernel2Ideal.Sort

end
-- ==== Proof.AloneClaim.lean ====
/-
  The value claim of the sampling call on its own: at any keys and any points, over the extended reals, its indices are the positions
  of the greatest keys in descending order, equal keys in the order of their positions, and its points the points at those
  positions; and those are the reference's.
-/
module

public import proofs.«01_k».proof.Defs
public import proofs.«01_k».proof.Proof.SampleValue
public import proofs.«01_k».proof.Proof.AloneRun
public import proofs.«01_k».proof.Proof.Gen.Kernel2Ideal.Value
public import proofs.«01_k».proof.Proof.Gen.Reference2Ideal.Run
public import Idealize.ShloMosaic.Lib.Quiescent

@[expose] public section

noncomputable section

open Idealize.ShloMosaic hiding ix1 ix2 ix3
open Idealize.ShloMosaic.TcCoe Idealize.SL.Sem Idealize.ShloMosaic.ValueIdx

namespace Cert.Kernel2Ideal.Sort

open Cert.Kernel2Ideal Cert.Kernel2Ideal.Gen
open Cert.KernelIdeal.Sort (pos keyRow up idx_apply pts_apply)

variable (m : (ℓ : Loc nD τ sig) → Buf (Elt Ideal) ℓ)

/-- The grid point of a batch. -/
def pt (b : Fin 2) : Fin cfg0.N := ⟨b.val, by rw [show cfg0.N = 2 from N_0]; exact b.isLt⟩

theorem V_keys (c : Dev nD) : V m c main_v1 = shapeCast S2x1x4096 (m ((c : Thread nD τ).loc main_arg0)) shapeCasts_S2x4096_S2x1x4096 := by
  unfold V hostOps0
  after_results <;> rfl

theorem V_pts (c : Dev nD) : V m c main_v0 = transpose S2x3x4096 [0, 2, 1] (m ((c : Thread nD τ).loc main_arg1)) transposes_S2x4096x3_S2x3x4096_0_2_1 := by
  unfold V hostOps0
  after_results <;> rfl

theorem blk_keys (c : Dev nD) (b : Fin 2) (i : Fin 4096) :
    (iblk m c 0 (pt b) : Vec Ideal S1x1x4096 .f32) (ix3 (0 : Fin 1) (0 : Fin 1) i) = keyRow (m ((c : Thread nD τ).loc main_arg0)) b i := by
  have h : (iblk m c 0 (pt b) : Vec Ideal S1x1x4096 .f32) (ix3 (0 : Fin 1) (0 : Fin 1) i) = V m c main_v1 (ix3 b (0 : Fin 1) i) := by
    show V m c main_v1 _ = _
    refine congrArg (V m c main_v1) (funext fun a => Fin.ext ?_)
    match a with
    | ⟨0, _⟩ => fin_cases b <;> rfl
    | ⟨1, _⟩ => rfl
    | ⟨2, _⟩ => show 0 * 4096 + 1 * i.val = i.val; omega
  rw [h, V_keys]
  exact shapeCast_apply _ _ _ (ix2 b i) (by
    rw [rowMajor_val2 _ 4096 rfl, rowMajor_val3 _ 4096 4096 rfl rfl]
    show b.val * 4096 + i.val = b.val * 4096 + 0 * 4096 + i.val
    omega)

theorem blk_pts (c : Dev nD) (b : Fin 2) (a : Fin 3) (i : Fin 4096) :
    (iblk m c 1 (pt b) : Vec Ideal S1x3x4096 .f32) (ix3 (0 : Fin 1) a i) = m ((c : Thread nD τ).loc main_arg1) (ix3 b i a) := by
  have h : (iblk m c 1 (pt b) : Vec Ideal S1x3x4096 .f32) (ix3 (0 : Fin 1) a i) = V m c main_v0 (ix3 b a i) := by
    show V m c main_v0 _ = _
    refine congrArg (V m c main_v0) (funext fun d => Fin.ext ?_)
    match d with
    | ⟨0, _⟩ => fin_cases b <;> rfl
    | ⟨1, _⟩ => show 0 * 3 + 1 * a.val = a.val; omega
    | ⟨2, _⟩ => show 0 * 4096 + 1 * i.val = i.val; omega
  rw [h, V_pts]
  exact transpose_apply _ _ _ _ (ix3 b i a) (fun d => by
    match d with
    | ⟨0, _⟩ => rfl
    | ⟨1, _⟩ => rfl
    | ⟨2, _⟩ => rfl)

theorem final_idx (c : Dev nD) (b : Fin 2) (r : Fin 1024) :
    (dats m 0 c).arrAt 2 cfg0.N (ix3 b (0 : Fin 1) r) = BitVec.ofNat 32 (pos (keyRow (m ((c : Thread nD τ).loc main_arg0)) b) (up r)).val := by
  have h := congrFun ((Value.blocks2 m c (pt b) (flush0_2 _)).trans (Value.flushed2_A m c (pt b))) (ix3 (0 : Fin 1) (0 : Fin 1) r)
  refine Eq.trans ?_ (h.trans ?_)
  · show _ = (dats m 0 c).arrAt 2 cfg0.N _
    refine congrArg ((dats m 0 c).arrAt 2 cfg0.N) (funext fun a => Fin.ext ?_)
    match a with
    | ⟨0, _⟩ => fin_cases b <;> rfl
    | ⟨1, _⟩ => rfl
    | ⟨2, _⟩ => show r.val = 0 * 1024 + 1 * r.val; omega
  · rw [out_idx]
    exact idx_apply _ _ (blk_keys m c b) r

theorem final_pts (c : Dev nD) (b : Fin 2) (a : Fin 3) (r : Fin 1024) :
    (dats m 0 c).arrAt 3 cfg0.N (ix3 b a r) =
      m ((c : Thread nD τ).loc main_arg1) (ix3 b (pos (keyRow (m ((c : Thread nD τ).loc main_arg0)) b) (up r)) a) := by
  have h := congrFun ((Value.blocks3 m c (pt b) (flush0_3 _)).trans (Value.flushed3_A m c (pt b))) (ix3 (0 : Fin 1) a r)
  refine Eq.trans ?_ (h.trans ?_)
  · show _ = (dats m 0 c).arrAt 3 cfg0.N _
    refine congrArg ((dats m 0 c).arrAt 3 cfg0.N) (funext fun d => Fin.ext ?_)
    match d with
    | ⟨0, _⟩ => fin_cases b <;> rfl
    | ⟨1, _⟩ => show a.val = 0 * 3 + 1 * a.val; omega
    | ⟨2, _⟩ => show r.val = 0 * 1024 + 1 * r.val; omega
  · rw [out_pts]
    exact (pts_apply _ _ (blk_keys m c b) _ a r).trans (blk_pts m c b a _)

end Cert.Kernel2Ideal.Sort

namespace Cert.Proof.Sample

theorem algebraic : Cert.algebraic_Kernel2Ideal_Reference2Ideal := by
  intro m ρ m' ρ' _ hagree
  refine ⟨fun c => (Cert.Kernel2Ideal.Gen.dats m 0 c).arrAt 2 Cert.Kernel2Ideal.cfg0.N,
    fun c => (Cert.Kernel2Ideal.Gen.dats m 0 c).arrAt 3 Cert.Kernel2Ideal.cfg0.N, Cert.Kernel2Ideal.Value.run_blocks m ρ, ?_⟩
  refine (θ_run Cert.Reference2Ideal.defs _ _).mono (fun _ h c => ?_) (Cert.Reference2Ideal.Value.run (F := Ideal) m' ρ')
  obtain ⟨h7, h8, h0, h1⟩ := h c
  refine ⟨h7.trans ?_, h8.trans ?_, h0, h1⟩
  · rw [(hagree c).1]
    funext j
    obtain ⟨b, o, r, rfl⟩ : ∃ (b : Fin 2) (o : Fin 1) (r : Fin 1024), j = ix3 b o r := ⟨j 0, j 1, j 2, ValueIdx.eq_ix3 j⟩
    obtain rfl : o = 0 := Subsingleton.elim _ _
    refine Eq.trans ?_ (Cert.Kernel2Ideal.Sort.final_idx m c b r).symm
    refine (broadcastInDim_apply _ _ _ _ (ix2 b r) (fun a => by
      match a with
      | ⟨0, _⟩ => rfl
      | ⟨1, _⟩ => rfl)).trans ?_
    exact Cert.ReferenceIdeal.Sampled.topK_apply _ _ b r
  · rw [(hagree c).1, (hagree c).2]
    funext j
    obtain ⟨b, a, r, rfl⟩ : ∃ (b : Fin 2) (a : Fin 3) (r : Fin 1024), j = ix3 b a r := ⟨j 0, j 1, j 2, ValueIdx.eq_ix3 j⟩
    refine Eq.trans ?_ (Cert.Kernel2Ideal.Sort.final_pts m c b a r).symm
    refine (transpose_apply _ _ _ _ (ix3 b r a) (fun d => by
      match d with
      | ⟨0, _⟩ => rfl
      | ⟨1, _⟩ => rfl
      | ⟨2, _⟩ => rfl)).trans ?_
    refine Cert.ReferenceIdeal.Sampled.gather_apply _ _ b r a _ ?_
    refine (broadcastInDim_apply _ _ _ _ (ix2 b r) (fun a => by
      match a with
      | ⟨0, _⟩ => rfl
      | ⟨1, _⟩ => rfl)).trans ?_
    have ht := Cert.ReferenceIdeal.Sampled.topK_apply (m ((c : Thread Cert.Kernel2Ideal.nD Cert.Kernel2Ideal.τ).loc Cert.Kernel2Ideal.main_arg0))
      Cert.Reference2Ideal.Gen.sliceFits_S2x4096_S2x1024 b r
    have hs : ∀ (v w : BitVec 32) (n : Fin 4096), v = BitVec.ofNat 32 n.val → Scalar.select (IntOp.cmpi .slt v 0#32) w v = BitVec.ofNat 32 n.val := by
      rintro v w n rfl
      have : IntOp.cmpi .slt (BitVec.ofNat 32 n.val) 0#32 = 0#1 := by
        show BitVec.ofBool ((BitVec.ofNat 32 n.val).slt (BitVec.ofNat 32 (0 : Fin 4096).val)) = _
        rw [Cert.KernelIdeal.Sort.slt_ofNat]
        rw [decide_eq_false (by simp)]
        rfl
      rw [this]
      rfl
    exact hs _ _ _ ht

end Cert.Proof.Sample

end
-- ==== Proof.lean ====
/-
  The proof of the claims: each program's frame, that idealizing changed nothing, and the values of the whole and of the
  sampling call on its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Pre_moderate
public import proofs.«01_k».proof.Proof.Gen.ReferenceIdeal.Run
public import proofs.«01_k».proof.Proof.Gen.Reference2Ideal.Run
public import proofs.«01_k».proof.Proof.WholeClaim
public import proofs.«01_k».proof.Proof.AloneClaim
public import Idealize.ShloMosaic.Adequacy
public import Idealize.ShloMosaic.Lib.Quiescent
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_reference_moderate [hPre_moderate : Cert.Pre_moderate.Facts] : Cert.quiescent_ReferenceIdeal_pre_moderate := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Whole.facts_moderate,
  fun m ρ _ => Cert.Kernel.Gen.frame m ρ, fun m ρ _ => Cert.KernelIdeal.Gen.frame m ρ, fun m ρ _ => Cert.KernelIdeal.Gen.frame m ρ, frame_reference,
  frame_reference_moderate (hPre_moderate := Whole.facts_moderate),
  fun m ρ _ => Cert.Kernel2.Gen.frame m ρ, fun m ρ _ => Cert.Kernel2Ideal.Gen.frame m ρ, frame_reference2,
  trivial, Whole.algebraic (hPre := Whole.facts_moderate), trivial, Sample.algebraic⟩

end Cert.Proof

end
